-- ==== Defs.lean ====
def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_finite_ffn [hPre_finite_ffn : Cert.Pre_finite_ffn.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite_ffn.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).1 = (fun _ => 1#1)
    ∧ (Cert.Pre_finite_ffn.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).2.1 = (fun _ => 1#1)
    ∧ (Cert.Pre_finite_ffn.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).2.2 = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_finite_ffn [hPre_finite_ffn : Cert.Pre_finite_ffn.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite_ffn.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).1 = (fun _ => 1#1)
    ∧ (Cert.Pre_finite_ffn.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).2.1 = (fun _ => 1#1)
    ∧ (Cert.Pre_finite_ffn.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_WGate (m : (ℓ : Loc Cert.WGate.nD Cert.WGate.τ Cert.WGate.sig) → Buf (Elt Bits) ℓ) : Prop :=
  True

def Pre_WGateIdeal (m : (ℓ : Loc Cert.WGateIdeal.nD Cert.WGateIdeal.τ Cert.WGateIdeal.sig) → Buf (Elt Ideal) ℓ) : Prop :=
  True

def Pre_WGateRefIdeal (m : (ℓ : Loc Cert.WGateRefIdeal.nD Cert.WGateRefIdeal.τ Cert.WGateRefIdeal.sig) → Buf (Elt Ideal) ℓ) : Prop :=
  True

def Pre_WDown (m : (ℓ : Loc Cert.WDown.nD Cert.WDown.τ Cert.WDown.sig) → Buf (Elt Bits) ℓ) : Prop :=
  True

def Pre_WDownIdeal (m : (ℓ : Loc Cert.WDownIdeal.nD Cert.WDownIdeal.τ Cert.WDownIdeal.sig) → Buf (Elt Ideal) ℓ) : Prop :=
  True

def Pre_WDownRefIdeal (m : (ℓ : Loc Cert.WDownRefIdeal.nD Cert.WDownRefIdeal.τ Cert.WDownRefIdeal.sig) → Buf (Elt Ideal) ℓ) : Prop :=
  True

def Pre_WMerge (m : (ℓ : Loc Cert.WMerge.nD Cert.WMerge.τ Cert.WMerge.sig) → Buf (Elt Bits) ℓ) : Prop :=
  True

def Pre_WMergeIdeal (m : (ℓ : Loc Cert.WMergeIdeal.nD Cert.WMergeIdeal.τ Cert.WMergeIdeal.sig) → Buf (Elt Ideal) ℓ) : Prop :=
  True

def Pre_WMergeRefIdeal (m : (ℓ : Loc Cert.WMergeRefIdeal.nD Cert.WMergeRefIdeal.τ Cert.WMergeRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_XIn (m : (ℓ : Loc Cert.XIn.nD Cert.XIn.τ Cert.XIn.sig) → Buf (Elt Bits) ℓ) : Prop :=
  True

def Pre_XInIdeal (m : (ℓ : Loc Cert.XInIdeal.nD Cert.XInIdeal.τ Cert.XInIdeal.sig) → Buf (Elt Ideal) ℓ) : Prop :=
  True

def Pre_XInRefIdeal (m : (ℓ : Loc Cert.XInRefIdeal.nD Cert.XInRefIdeal.τ Cert.XInRefIdeal.sig) → Buf (Elt Ideal) ℓ) : Prop :=
  True

def Pre_XFfn (m : (ℓ : Loc Cert.XFfn.nD Cert.XFfn.τ Cert.XFfn.sig) → Buf (Elt Bits) ℓ) : Prop :=
  True

def Pre_XFfnIdeal (m : (ℓ : Loc Cert.XFfnIdeal.nD Cert.XFfnIdeal.τ Cert.XFfnIdeal.sig) → Buf (Elt Ideal) ℓ) : Prop :=
  True

def Pre_XFfnRefIdeal (m : (ℓ : Loc Cert.XFfnRefIdeal.nD Cert.XFfnRefIdeal.τ Cert.XFfnRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_ln [hPre_finite_ln : Cert.Pre_finite_ln.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))).1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))).2 = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite_ln [hPre_finite_ln : Cert.Pre_finite_ln.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))).1 = (fun _ => 1#1)
    ∧ (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3))).2 = (fun _ => 1#1)

def Pre_LossLn (m : (ℓ : Loc Cert.LossLn.nD Cert.LossLn.τ Cert.LossLn.sig) → Buf (Elt Bits) ℓ) : Prop :=
  True

def Pre_LossLnIdeal (m : (ℓ : Loc Cert.LossLnIdeal.nD Cert.LossLnIdeal.τ Cert.LossLnIdeal.sig) → Buf (Elt Ideal) ℓ) : Prop :=
  True

def Pre_LossLnIdeal_finite_loss [hPre_finite_loss : Cert.Pre_finite_loss.Facts] (m : (ℓ : Loc Cert.LossLnIdeal.nD Cert.LossLnIdeal.τ Cert.LossLnIdeal.sig) → Buf (Elt Ideal) ℓ) : Prop :=
  ∀ c : Dev Cert.LossLnIdeal.nD,
    (Cert.Pre_finite_loss.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4))).1 = (fun _ => 1#1)
    ∧ (Cert.Pre_finite_loss.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4))).2.1 = (fun _ => 1#1)
    ∧ (Cert.Pre_finite_loss.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4))).2.2 = (fun _ => 1#1)

def Pre_LossLnRefIdeal (m : (ℓ : Loc Cert.LossLnRefIdeal.nD Cert.LossLnRefIdeal.τ Cert.LossLnRefIdeal.sig) → Buf (Elt Ideal) ℓ) : Prop :=
  True

def Pre_LossLnRefIdeal_finite_loss [hPre_finite_loss : Cert.Pre_finite_loss.Facts] (m : (ℓ : Loc Cert.LossLnRefIdeal.nD Cert.LossLnRefIdeal.τ Cert.LossLnRefIdeal.sig) → Buf (Elt Ideal) ℓ) : Prop :=
  ∀ c : Dev Cert.LossLnRefIdeal.nD,
    (Cert.Pre_finite_loss.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4))).1 = (fun _ => 1#1)
    ∧ (Cert.Pre_finite_loss.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4))).2.1 = (fun _ => 1#1)
    ∧ (Cert.Pre_finite_loss.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4))).2.2 = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_QkvPrep (m : (ℓ : Loc Cert.QkvPrep.nD Cert.QkvPrep.τ Cert.QkvPrep.sig) → Buf (Elt Bits) ℓ) : Prop :=
  True

def Pre_QkvPrepIdeal (m : (ℓ : Loc Cert.QkvPrepIdeal.nD Cert.QkvPrepIdeal.τ Cert.QkvPrepIdeal.sig) → Buf (Elt Ideal) ℓ) : Prop :=
  True

def Pre_QkvPrepRefIdeal (m : (ℓ : Loc Cert.QkvPrepRefIdeal.nD Cert.QkvPrepRefIdeal.τ Cert.QkvPrepRefIdeal.sig) → Buf (Elt Ideal) ℓ) : Prop :=
  True

def Pre_InQkv (m : (ℓ : Loc Cert.InQkv.nD Cert.InQkv.τ Cert.InQkv.sig) → Buf (Elt Bits) ℓ) : Prop :=
  True

def Pre_InQkvIdeal (m : (ℓ : Loc Cert.InQkvIdeal.nD Cert.InQkvIdeal.τ Cert.InQkvIdeal.sig) → Buf (Elt Ideal) ℓ) : Prop :=
  True

def Pre_InQkvRefIdeal (m : (ℓ : Loc Cert.InQkvRefIdeal.nD Cert.InQkvRefIdeal.τ Cert.InQkvRefIdeal.sig) → Buf (Elt Ideal) ℓ) : Prop :=
  True

def Pre_InRest (m : (ℓ : Loc Cert.InRest.nD Cert.InRest.τ Cert.InRest.sig) → Buf (Elt Bits) ℓ) : Prop :=
  True

def Pre_InRestIdeal (m : (ℓ : Loc Cert.InRestIdeal.nD Cert.InRestIdeal.τ Cert.InRestIdeal.sig) → Buf (Elt Ideal) ℓ) : Prop :=
  True

def Pre_InRestRefIdeal (m : (ℓ : Loc Cert.InRestRefIdeal.nD Cert.InRestRefIdeal.τ Cert.InRestRefIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenRefIdeal (m : (ℓ : Loc Cert.HiddenRefIdeal.nD Cert.HiddenRefIdeal.τ Cert.HiddenRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_DownLn (m : (ℓ : Loc Cert.DownLn.nD Cert.DownLn.τ Cert.DownLn.sig) → Buf (Elt Bits) ℓ) : Prop :=
  True

def Pre_DownLnIdeal (m : (ℓ : Loc Cert.DownLnIdeal.nD Cert.DownLnIdeal.τ Cert.DownLnIdeal.sig) → Buf (Elt Ideal) ℓ) : Prop :=
  True

def Pre_DownLnRefIdeal (m : (ℓ : Loc Cert.DownLnRefIdeal.nD Cert.DownLnRefIdeal.τ Cert.DownLnRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamSq (m : (ℓ : Loc Cert.AdamSq.nD Cert.AdamSq.τ Cert.AdamSq.sig) → Buf (Elt Bits) ℓ) : Prop :=
  True

def Pre_AdamSqIdeal (m : (ℓ : Loc Cert.AdamSqIdeal.nD Cert.AdamSqIdeal.τ Cert.AdamSqIdeal.sig) → Buf (Elt Ideal) ℓ) : Prop :=
  True

def Pre_AdamSqRefIdeal (m : (ℓ : Loc Cert.AdamSqRefIdeal.nD Cert.AdamSqRefIdeal.τ Cert.AdamSqRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaIdeal_finite_gates [hPre_finite_gates : Cert.Pre_finite_gates.Facts] (m : (ℓ : Loc Cert.DeltaIdeal.nD Cert.DeltaIdeal.τ Cert.DeltaIdeal.sig) → Buf (Elt Ideal) ℓ) : Prop :=
  ∀ c : Dev Cert.DeltaIdeal.nD,
    (Cert.Pre_finite_gates.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2)) (m ((c.tc : Thread Cert.DeltaIdeal.nD Cert.DeltaIdeal.τ).loc Cert.DeltaIdeal.main_arg3)) (m ((c.tc : Thread Cert.DeltaIdeal.nD Cert.DeltaIdeal.τ).loc Cert.DeltaIdeal.main_arg4)) (m ((c.tc : Thread Cert.DeltaIdeal.nD Cert.DeltaIdeal.τ).loc Cert.DeltaIdeal.main_arg5)) (m ((c.tc : Thread Cert.DeltaIdeal.nD Cert.DeltaIdeal.τ).loc Cert.DeltaIdeal.main_arg6)) (m ((c.tc : Thread Cert.DeltaIdeal.nD Cert.DeltaIdeal.τ).loc Cert.DeltaIdeal.main_arg7)) (m ((c.tc : Thread Cert.DeltaIdeal.nD Cert.DeltaIdeal.τ).loc Cert.DeltaIdeal.main_arg8))) = (fun _ => 1#1)

def Pre_DeltaRefIdeal (m : (ℓ : Loc Cert.DeltaRefIdeal.nD Cert.DeltaRefIdeal.τ Cert.DeltaRefIdeal.sig) → Buf (Elt Ideal) ℓ) : Prop :=
  True

def Pre_DeltaRefIdeal_finite_gates [hPre_finite_gates : Cert.Pre_finite_gates.Facts] (m : (ℓ : Loc Cert.DeltaRefIdeal.nD Cert.DeltaRefIdeal.τ Cert.DeltaRefIdeal.sig) → Buf (Elt Ideal) ℓ) : Prop :=
  ∀ c : Dev Cert.DeltaRefIdeal.nD,
    (Cert.Pre_finite_gates.fn (F := Ideal) (m ((c.tc : Thread Cert.DeltaRefIdeal.nD Cert.DeltaRefIdeal.τ).loc Cert.DeltaRefIdeal.main_arg0)) (m ((c.tc : Thread Cert.DeltaRefIdeal.nD Cert.DeltaRefIdeal.τ).loc Cert.DeltaRefIdeal.main_arg1)) (m ((c.tc : Thread Cert.DeltaRefIdeal.nD Cert.DeltaRefIdeal.τ).loc Cert.DeltaRefIdeal.main_arg2)) (m ((c.tc : Thread Cert.DeltaRefIdeal.nD Cert.DeltaRefIdeal.τ).loc Cert.DeltaRefIdeal.main_arg3)) (m ((c.tc : Thread Cert.DeltaRefIdeal.nD Cert.DeltaRefIdeal.τ).loc Cert.DeltaRefIdeal.main_arg4)) (m ((c.tc : Thread Cert.DeltaRefIdeal.nD Cert.DeltaRefIdeal.τ).loc Cert.DeltaRefIdeal.main_arg5)) (m ((c.tc : Thread Cert.DeltaRefIdeal.nD Cert.DeltaRefIdeal.τ).loc Cert.DeltaRefIdeal.main_arg6)) (m ((c.tc : Thread Cert.DeltaRefIdeal.nD Cert.DeltaRefIdeal.τ).loc Cert.DeltaRefIdeal.main_arg7)) (m ((c.tc : Thread Cert.DeltaRefIdeal.nD Cert.DeltaRefIdeal.τ).loc Cert.DeltaRefIdeal.main_arg8))) = (fun _ => 1#1)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluIdeal_pre_finite_ffn [hSwigluIdeal : Cert.SwigluIdeal.Facts] [hPre_finite_ffn : Cert.Pre_finite_ffn.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_finite_ffn m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_SwigluRefIdeal_pre_finite_ffn [hSwigluRefIdeal : Cert.SwigluRefIdeal.Facts] [hPre_finite_ffn : Cert.Pre_finite_ffn.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_finite_ffn m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_WGate [hWGate : Cert.WGate.Facts] : Prop :=
  ∀ (m : (ℓ : Loc Cert.WGate.nD Cert.WGate.τ Cert.WGate.sig) → Buf (Elt Bits) ℓ) (g : Dev Cert.WGate.nD → PrngReg), Pre_WGate m →
    θ_run (Cert.WGate.defs (F := Bits)) (onTc (τ := Cert.WGate.τ) (Cert.WGate.main (F := Bits))) ⟨m, fun _ => 0, g⟩ (fun r => (∀ c : Dev Cert.WGate.nD,
      r.2.mem ((c.tc : Thread Cert.WGate.nD Cert.WGate.τ).loc Cert.WGate.main_arg0) = m ((c.tc : Thread Cert.WGate.nD Cert.WGate.τ).loc Cert.WGate.main_arg0)
      ∧ r.2.mem ((c.tc : Thread Cert.WGate.nD Cert.WGate.τ).loc Cert.WGate.main_arg1) = m ((c.tc : Thread Cert.WGate.nD Cert.WGate.τ).loc Cert.WGate.main_arg1))
      ∧ r.2.sem = fun _ => 0)

def quiescent_WGateIdeal [hWGateIdeal : Cert.WGateIdeal.Facts] : Prop :=
  ∀ (m : (ℓ : Loc Cert.WGateIdeal.nD Cert.WGateIdeal.τ Cert.WGateIdeal.sig) → Buf (Elt Ideal) ℓ) (g : Dev Cert.WGateIdeal.nD → PrngReg), Pre_WGateIdeal m →
    θ_run (Cert.WGateIdeal.defs (F := Ideal)) (onTc (τ := Cert.WGateIdeal.τ) (Cert.WGateIdeal.main (F := Ideal))) ⟨m, fun _ => 0, g⟩ (fun r => (∀ c : Dev Cert.WGateIdeal.nD,
      r.2.mem ((c.tc : Thread Cert.WGateIdeal.nD Cert.WGateIdeal.τ).loc Cert.WGateIdeal.main_arg0) = m ((c.tc : Thread Cert.WGateIdeal.nD Cert.WGateIdeal.τ).loc Cert.WGateIdeal.main_arg0)
      ∧ r.2.mem ((c.tc : Thread Cert.WGateIdeal.nD Cert.WGateIdeal.τ).loc Cert.WGateIdeal.main_arg1) = m ((c.tc : Thread Cert.WGateIdeal.nD Cert.WGateIdeal.τ).loc Cert.WGateIdeal.main_arg1))
      ∧ r.2.sem = fun _ => 0)

def quiescent_WGateRefIdeal [hWGateRefIdeal : Cert.WGateRefIdeal.Facts] : Prop :=
  ∀ (m : (ℓ : Loc Cert.WGateRefIdeal.nD Cert.WGateRefIdeal.τ Cert.WGateRefIdeal.sig) → Buf (Elt Ideal) ℓ) (g : Dev Cert.WGateRefIdeal.nD → PrngReg), Pre_WGateRefIdeal m →
    θ_run (Cert.WGateRefIdeal.defs (F := Ideal)) (onTc (τ := Cert.WGateRefIdeal.τ) (Cert.WGateRefIdeal.main (F := Ideal))) ⟨m, fun _ => 0, g⟩ (fun r => (∀ c : Dev Cert.WGateRefIdeal.nD,
      r.2.mem ((c.tc : Thread Cert.WGateRefIdeal.nD Cert.WGateRefIdeal.τ).loc Cert.WGateRefIdeal.main_arg0) = m ((c.tc : Thread Cert.WGateRefIdeal.nD Cert.WGateRefIdeal.τ).loc Cert.WGateRefIdeal.main_arg0)
      ∧ r.2.mem ((c.tc : Thread Cert.WGateRefIdeal.nD Cert.WGateRefIdeal.τ).loc Cert.WGateRefIdeal.main_arg1) = m ((c.tc : Thread Cert.WGateRefIdeal.nD Cert.WGateRefIdeal.τ).loc Cert.WGateRefIdeal.main_arg1))
      ∧ r.2.sem = fun _ => 0)

def quiescent_WDown [hWDown : Cert.WDown.Facts] : Prop :=
  ∀ (m : (ℓ : Loc Cert.WDown.nD Cert.WDown.τ Cert.WDown.sig) → Buf (Elt Bits) ℓ) (g : Dev Cert.WDown.nD → PrngReg), Pre_WDown m →
    θ_run (Cert.WDown.defs (F := Bits)) (onTc (τ := Cert.WDown.τ) (Cert.WDown.main (F := Bits))) ⟨m, fun _ => 0, g⟩ (fun r => (∀ c : Dev Cert.WDown.nD,
      r.2.mem ((c.tc : Thread Cert.WDown.nD Cert.WDown.τ).loc Cert.WDown.main_arg0) = m ((c.tc : Thread Cert.WDown.nD Cert.WDown.τ).loc Cert.WDown.main_arg0)
      ∧ r.2.mem ((c.tc : Thread Cert.WDown.nD Cert.WDown.τ).loc Cert.WDown.main_arg1) = m ((c.tc : Thread Cert.WDown.nD Cert.WDown.τ).loc Cert.WDown.main_arg1))
      ∧ r.2.sem = fun _ => 0)

def quiescent_WDownIdeal [hWDownIdeal : Cert.WDownIdeal.Facts] : Prop :=
  ∀ (m : (ℓ : Loc Cert.WDownIdeal.nD Cert.WDownIdeal.τ Cert.WDownIdeal.sig) → Buf (Elt Ideal) ℓ) (g : Dev Cert.WDownIdeal.nD → PrngReg), Pre_WDownIdeal m →
    θ_run (Cert.WDownIdeal.defs (F := Ideal)) (onTc (τ := Cert.WDownIdeal.τ) (Cert.WDownIdeal.main (F := Ideal))) ⟨m, fun _ => 0, g⟩ (fun r => (∀ c : Dev Cert.WDownIdeal.nD,
      r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
      ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ r.2.sem = fun _ => 0)

def quiescent_WDownRefIdeal [hWDownRefIdeal : Cert.WDownRefIdeal.Facts] : Prop :=
  ∀ (m : (ℓ : Loc Cert.WDownRefIdeal.nD Cert.WDownRefIdeal.τ Cert.WDownRefIdeal.sig) → Buf (Elt Ideal) ℓ) (g : Dev Cert.WDownRefIdeal.nD → PrngReg), Pre_WDownRefIdeal m →
    θ_run (Cert.WDownRefIdeal.defs (F := Ideal)) (onTc (τ := Cert.WDownRefIdeal.τ) (Cert.WDownRefIdeal.main (F := Ideal))) ⟨m, fun _ => 0, g⟩ (fun r => (∀ c : Dev Cert.WDownRefIdeal.nD,
      r.2.mem ((c.tc : Thread Cert.WDownRefIdeal.nD Cert.WDownRefIdeal.τ).loc Cert.WDownRefIdeal.main_arg0) = m ((c.tc : Thread Cert.WDownRefIdeal.nD Cert.WDownRefIdeal.τ).loc Cert.WDownRefIdeal.main_arg0)
      ∧ r.2.mem ((c.tc : Thread Cert.WDownRefIdeal.nD Cert.WDownRefIdeal.τ).loc Cert.WDownRefIdeal.main_arg1) = m ((c.tc : Thread Cert.WDownRefIdeal.nD Cert.WDownRefIdeal.τ).loc Cert.WDownRefIdeal.main_arg1))
      ∧ r.2.sem = fun _ => 0)

def quiescent_WMerge [hWMerge : Cert.WMerge.Facts] : Prop :=
  ∀ (m : (ℓ : Loc Cert.WMerge.nD Cert.WMerge.τ Cert.WMerge.sig) → Buf (Elt Bits) ℓ) (g : Dev Cert.WMerge.nD → PrngReg), Pre_WMerge m →
    θ_run (Cert.WMerge.defs (F := Bits)) (onTc (τ := Cert.WMerge.τ) (Cert.WMerge.main (F := Bits))) ⟨m, fun _ => 0, g⟩ (fun r => (∀ c : Dev Cert.WMerge.nD,
      r.2.mem ((c.tc : Thread Cert.WMerge.nD Cert.WMerge.τ).loc Cert.WMerge.main_arg0) = m ((c.tc : Thread Cert.WMerge.nD Cert.WMerge.τ).loc Cert.WMerge.main_arg0)
      ∧ r.2.mem ((c.tc : Thread Cert.WMerge.nD Cert.WMerge.τ).loc Cert.WMerge.main_arg1) = m ((c.tc : Thread Cert.WMerge.nD Cert.WMerge.τ).loc Cert.WMerge.main_arg1))
      ∧ r.2.sem = fun _ => 0)

def quiescent_WMergeIdeal [hWMergeIdeal : Cert.WMergeIdeal.Facts] : Prop :=
  ∀ (m : (ℓ : Loc Cert.WMergeIdeal.nD Cert.WMergeIdeal.τ Cert.WMergeIdeal.sig) → Buf (Elt Ideal) ℓ) (g : Dev Cert.WMergeIdeal.nD → PrngReg), Pre_WMergeIdeal m →
    θ_run (Cert.WMergeIdeal.defs (F := Ideal)) (onTc (τ := Cert.WMergeIdeal.τ) (Cert.WMergeIdeal.main (F := Ideal))) ⟨m, fun _ => 0, g⟩ (fun r => (∀ c : Dev Cert.WMergeIdeal.nD,
      r.2.mem ((c.tc : Thread Cert.WMergeIdeal.nD Cert.WMergeIdeal.τ).loc Cert.WMergeIdeal.main_arg0) = m ((c.tc : Thread Cert.WMergeIdeal.nD Cert.WMergeIdeal.τ).loc Cert.WMergeIdeal.main_arg0)
      ∧ r.2.mem ((c.tc : Thread Cert.WMergeIdeal.nD Cert.WMergeIdeal.τ).loc Cert.WMergeIdeal.main_arg1) = m ((c.tc : Thread Cert.WMergeIdeal.nD Cert.WMergeIdeal.τ).loc Cert.WMergeIdeal.main_arg1))
      ∧ r.2.sem = fun _ => 0)

def quiescent_WMergeRefIdeal [hWMergeRefIdeal : Cert.WMergeRefIdeal.Facts] : Prop :=
  ∀ (m : (ℓ : Loc Cert.WMergeRefIdeal.nD Cert.WMergeRefIdeal.τ Cert.WMergeRefIdeal.sig) → Buf (Elt Ideal) ℓ) (g : Dev Cert.WMergeRefIdeal.nD → PrngReg), Pre_WMergeRefIdeal m →
    θ_run (Cert.WMergeRefIdeal.defs (F := Ideal)) (onTc (τ := Cert.WMergeRefIdeal.τ) (Cert.WMergeRefIdeal.main (F := Ideal))) ⟨m, fun _ => 0, g⟩ (fun r => (∀ c : Dev Cert.WMergeRefIdeal.nD,
      r.2.mem ((c.tc : Thread Cert.WMergeRefIdeal.nD Cert.WMergeRefIdeal.τ).loc Cert.WMergeRefIdeal.main_arg0) = m ((c.tc : Thread Cert.WMergeRefIdeal.nD Cert.WMergeRefIdeal.τ).loc Cert.WMergeRefIdeal.main_arg0)
      ∧ r.2.mem ((c.tc : Thread Cert.WMergeRefIdeal.nD Cert.WMergeRefIdeal.τ).loc Cert.WMergeRefIdeal.main_arg1) = m ((c.tc : Thread Cert.WMergeRefIdeal.nD Cert.WMergeRefIdeal.τ).loc Cert.WMergeRefIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_XIn [hXIn : Cert.XIn.Facts] : Prop :=
  ∀ (m : (ℓ : Loc Cert.XIn.nD Cert.XIn.τ Cert.XIn.sig) → Buf (Elt Bits) ℓ) (g : Dev Cert.XIn.nD → PrngReg), Pre_XIn m →
    θ_run (Cert.XIn.defs (F := Bits)) (onTc (τ := Cert.XIn.τ) (Cert.XIn.main (F := Bits))) ⟨m, fun _ => 0, g⟩ (fun r => (∀ c : Dev Cert.XIn.nD,
      r.2.mem ((c.tc : Thread Cert.XIn.nD Cert.XIn.τ).loc Cert.XIn.main_arg0) = m ((c.tc : Thread Cert.XIn.nD Cert.XIn.τ).loc Cert.XIn.main_arg0)
      ∧ r.2.mem ((c.tc : Thread Cert.XIn.nD Cert.XIn.τ).loc Cert.XIn.main_arg1) = m ((c.tc : Thread Cert.XIn.nD Cert.XIn.τ).loc Cert.XIn.main_arg1)
      ∧ r.2.mem ((c.tc : Thread Cert.XIn.nD Cert.XIn.τ).loc Cert.XIn.main_arg2) = m ((c.tc : Thread Cert.XIn.nD Cert.XIn.τ).loc Cert.XIn.main_arg2)
      ∧ r.2.mem ((c.tc : Thread Cert.XIn.nD Cert.XIn.τ).loc Cert.XIn.main_arg3) = m ((c.tc : Thread Cert.XIn.nD Cert.XIn.τ).loc Cert.XIn.main_arg3)
      ∧ r.2.mem ((c.tc : Thread Cert.XIn.nD Cert.XIn.τ).loc Cert.XIn.main_arg4) = m ((c.tc : Thread Cert.XIn.nD Cert.XIn.τ).loc Cert.XIn.main_arg4))
      ∧ r.2.sem = fun _ => 0)

def quiescent_XInIdeal [hXInIdeal : Cert.XInIdeal.Facts] : Prop :=
  ∀ (m : (ℓ : Loc Cert.XInIdeal.nD Cert.XInIdeal.τ Cert.XInIdeal.sig) → Buf (Elt Ideal) ℓ) (g : Dev Cert.XInIdeal.nD → PrngReg), Pre_XInIdeal m →
    θ_run (Cert.XInIdeal.defs (F := Ideal)) (onTc (τ := Cert.XInIdeal.τ) (Cert.XInIdeal.main (F := Ideal))) ⟨m, fun _ => 0, g⟩ (fun r => (∀ c : Dev Cert.XInIdeal.nD,
      r.2.mem ((c.tc : Thread Cert.XInIdeal.nD Cert.XInIdeal.τ).loc Cert.XInIdeal.main_arg0) = m ((c.tc : Thread Cert.XInIdeal.nD Cert.XInIdeal.τ).loc Cert.XInIdeal.main_arg0)
      ∧ r.2.mem ((c.tc : Thread Cert.XInIdeal.nD Cert.XInIdeal.τ).loc Cert.XInIdeal.main_arg1) = m ((c.tc : Thread Cert.XInIdeal.nD Cert.XInIdeal.τ).loc Cert.XInIdeal.main_arg1)
      ∧ r.2.mem ((c.tc : Thread Cert.XInIdeal.nD Cert.XInIdeal.τ).loc Cert.XInIdeal.main_arg2) = m ((c.tc : Thread Cert.XInIdeal.nD Cert.XInIdeal.τ).loc Cert.XInIdeal.main_arg2)
      ∧ r.2.mem ((c.tc : Thread Cert.XInIdeal.nD Cert.XInIdeal.τ).loc Cert.XInIdeal.main_arg3) = m ((c.tc : Thread Cert.XInIdeal.nD Cert.XInIdeal.τ).loc Cert.XInIdeal.main_arg3)
      ∧ r.2.mem ((c.tc : Thread Cert.XInIdeal.nD Cert.XInIdeal.τ).loc Cert.XInIdeal.main_arg4) = m ((c.tc : Thread Cert.XInIdeal.nD Cert.XInIdeal.τ).loc Cert.XInIdeal.main_arg4))
      ∧ r.2.sem = fun _ => 0)

def quiescent_XInRefIdeal [hXInRefIdeal : Cert.XInRefIdeal.Facts] : Prop :=
  ∀ (m : (ℓ : Loc Cert.XInRefIdeal.nD Cert.XInRefIdeal.τ Cert.XInRefIdeal.sig) → Buf (Elt Ideal) ℓ) (g : Dev Cert.XInRefIdeal.nD → PrngReg), Pre_XInRefIdeal m →
    θ_run (Cert.XInRefIdeal.defs (F := Ideal)) (onTc (τ := Cert.XInRefIdeal.τ) (Cert.XInRefIdeal.main (F := Ideal))) ⟨m, fun _ => 0, g⟩ (fun r => (∀ c : Dev Cert.XInRefIdeal.nD,
      r.2.mem ((c.tc : Thread Cert.XInRefIdeal.nD Cert.XInRefIdeal.τ).loc Cert.XInRefIdeal.main_arg0) = m ((c.tc : Thread Cert.XInRefIdeal.nD Cert.XInRefIdeal.τ).loc Cert.XInRefIdeal.main_arg0)
      ∧ r.2.mem ((c.tc : Thread Cert.XInRefIdeal.nD Cert.XInRefIdeal.τ).loc Cert.XInRefIdeal.main_arg1) = m ((c.tc : Thread Cert.XInRefIdeal.nD Cert.XInRefIdeal.τ).loc Cert.XInRefIdeal.main_arg1)
      ∧ r.2.mem ((c.tc : Thread Cert.XInRefIdeal.nD Cert.XInRefIdeal.τ).loc Cert.XInRefIdeal.main_arg2) = m ((c.tc : Thread Cert.XInRefIdeal.nD Cert.XInRefIdeal.τ).loc Cert.XInRefIdeal.main_arg2)
      ∧ r.2.mem ((c.tc : Thread Cert.XInRefIdeal.nD Cert.XInRefIdeal.τ).loc Cert.XInRefIdeal.main_arg3) = m ((c.tc : Thread Cert.XInRefIdeal.nD Cert.XInRefIdeal.τ).loc Cert.XInRefIdeal.main_arg3)
      ∧ r.2.mem ((c.tc : Thread Cert.XInRefIdeal.nD Cert.XInRefIdeal.τ).loc Cert.XInRefIdeal.main_arg4) = m ((c.tc : Thread Cert.XInRefIdeal.nD Cert.XInRefIdeal.τ).loc Cert.XInRefIdeal.main_arg4))
      ∧ r.2.sem = fun _ => 0)

def quiescent_XFfn [hXFfn : Cert.XFfn.Facts] : Prop :=
  ∀ (m : (ℓ : Loc Cert.XFfn.nD Cert.XFfn.τ Cert.XFfn.sig) → Buf (Elt Bits) ℓ) (g : Dev Cert.XFfn.nD → PrngReg), Pre_XFfn m →
    θ_run (Cert.XFfn.defs (F := Bits)) (onTc (τ := Cert.XFfn.τ) (Cert.XFfn.main (F := Bits))) ⟨m, fun _ => 0, g⟩ (fun r => (∀ c : Dev Cert.XFfn.nD,
      r.2.mem ((c.tc : Thread Cert.XFfn.nD Cert.XFfn.τ).loc Cert.XFfn.main_arg0) = m ((c.tc : Thread Cert.XFfn.nD Cert.XFfn.τ).loc Cert.XFfn.main_arg0)
      ∧ r.2.mem ((c.tc : Thread Cert.XFfn.nD Cert.XFfn.τ).loc Cert.XFfn.main_arg1) = m ((c.tc : Thread Cert.XFfn.nD Cert.XFfn.τ).loc Cert.XFfn.main_arg1)
      ∧ r.2.mem ((c.tc : Thread Cert.XFfn.nD Cert.XFfn.τ).loc Cert.XFfn.main_arg2) = m ((c.tc : Thread Cert.XFfn.nD Cert.XFfn.τ).loc Cert.XFfn.main_arg2)
      ∧ r.2.mem ((c.tc : Thread Cert.XFfn.nD Cert.XFfn.τ).loc Cert.XFfn.main_arg3) = m ((c.tc : Thread Cert.XFfn.nD Cert.XFfn.τ).loc Cert.XFfn.main_arg3)
      ∧ r.2.mem ((c.tc : Thread Cert.XFfn.nD Cert.XFfn.τ).loc Cert.XFfn.main_arg4) = m ((c.tc : Thread Cert.XFfn.nD Cert.XFfn.τ).loc Cert.XFfn.main_arg4))
      ∧ r.2.sem = fun _ => 0)

def quiescent_XFfnIdeal [hXFfnIdeal : Cert.XFfnIdeal.Facts] : Prop :=
  ∀ (m : (ℓ : Loc Cert.XFfnIdeal.nD Cert.XFfnIdeal.τ Cert.XFfnIdeal.sig) → Buf (Elt Ideal) ℓ) (g : Dev Cert.XFfnIdeal.nD → PrngReg), Pre_XFfnIdeal m →
    θ_run (Cert.XFfnIdeal.defs (F := Ideal)) (onTc (τ := Cert.XFfnIdeal.τ) (Cert.XFfnIdeal.main (F := Ideal))) ⟨m, fun _ => 0, g⟩ (fun r => (∀ c : Dev Cert.XFfnIdeal.nD,
      r.2.mem ((c.tc : Thread Cert.XFfnIdeal.nD Cert.XFfnIdeal.τ).loc Cert.XFfnIdeal.main_arg0) = m ((c.tc : Thread Cert.XFfnIdeal.nD Cert.XFfnIdeal.τ).loc Cert.XFfnIdeal.main_arg0)
      ∧ r.2.mem ((c.tc : Thread Cert.XFfnIdeal.nD Cert.XFfnIdeal.τ).loc Cert.XFfnIdeal.main_arg1) = m ((c.tc : Thread Cert.XFfnIdeal.nD Cert.XFfnIdeal.τ).loc Cert.XFfnIdeal.main_arg1)
      ∧ r.2.mem ((c.tc : Thread Cert.XFfnIdeal.nD Cert.XFfnIdeal.τ).loc Cert.XFfnIdeal.main_arg2) = m ((c.tc : Thread Cert.XFfnIdeal.nD Cert.XFfnIdeal.τ).loc Cert.XFfnIdeal.main_arg2)
      ∧ r.2.mem ((c.tc : Thread Cert.XFfnIdeal.nD Cert.XFfnIdeal.τ).loc Cert.XFfnIdeal.main_arg3) = m ((c.tc : Thread Cert.XFfnIdeal.nD Cert.XFfnIdeal.τ).loc Cert.XFfnIdeal.main_arg3)
      ∧ r.2.mem ((c.tc : Thread Cert.XFfnIdeal.nD Cert.XFfnIdeal.τ).loc Cert.XFfnIdeal.main_arg4) = m ((c.tc : Thread Cert.XFfnIdeal.nD Cert.XFfnIdeal.τ).loc Cert.XFfnIdeal.main_arg4))
      ∧ r.2.sem = fun _ => 0)

def quiescent_XFfnRefIdeal [hXFfnRefIdeal : Cert.XFfnRefIdeal.Facts] : Prop :=
  ∀ (m : (ℓ : Loc Cert.XFfnRefIdeal.nD Cert.XFfnRefIdeal.τ Cert.XFfnRefIdeal.sig) → Buf (Elt Ideal) ℓ) (g : Dev Cert.XFfnRefIdeal.nD → PrngReg), Pre_XFfnRefIdeal m →
    θ_run (Cert.XFfnRefIdeal.defs (F := Ideal)) (onTc (τ := Cert.XFfnRefIdeal.τ) (Cert.XFfnRefIdeal.main (F := Ideal))) ⟨m, fun _ => 0, g⟩ (fun r => (∀ c : Dev Cert.XFfnRefIdeal.nD,
      r.2.mem ((c.tc : Thread Cert.XFfnRefIdeal.nD Cert.XFfnRefIdeal.τ).loc Cert.XFfnRefIdeal.main_arg0) = m ((c.tc : Thread Cert.XFfnRefIdeal.nD Cert.XFfnRefIdeal.τ).loc Cert.XFfnRefIdeal.main_arg0)
      ∧ r.2.mem ((c.tc : Thread Cert.XFfnRefIdeal.nD Cert.XFfnRefIdeal.τ).loc Cert.XFfnRefIdeal.main_arg1) = m ((c.tc : Thread Cert.XFfnRefIdeal.nD Cert.XFfnRefIdeal.τ).loc Cert.XFfnRefIdeal.main_arg1)
      ∧ r.2.mem ((c.tc : Thread Cert.XFfnRefIdeal.nD Cert.XFfnRefIdeal.τ).loc Cert.XFfnRefIdeal.main_arg2) = m ((c.tc : Thread Cert.XFfnRefIdeal.nD Cert.XFfnRefIdeal.τ).loc Cert.XFfnRefIdeal.main_arg2)
      ∧ r.2.mem ((c.tc : Thread Cert.XFfnRefIdeal.nD Cert.XFfnRefIdeal.τ).loc Cert.XFfnRefIdeal.main_arg3) = m ((c.tc : Thread Cert.XFfnRefIdeal.nD Cert.XFfnRefIdeal.τ).loc Cert.XFfnRefIdeal.main_arg3)
      ∧ r.2.mem ((c.tc : Thread Cert.XFfnRefIdeal.nD Cert.XFfnRefIdeal.τ).loc Cert.XFfnRefIdeal.main_arg4) = m ((c.tc : Thread Cert.XFfnRefIdeal.nD Cert.XFfnRefIdeal.τ).loc Cert.XFfnRefIdeal.main_arg4))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdIdeal_pre_finite_ln [hLnBwdIdeal : Cert.LnBwdIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_ln m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LnBwdRefIdeal_pre_finite_ln [hLnBwdRefIdeal : Cert.LnBwdRefIdeal.Facts] [hPre_finite_ln : Cert.Pre_finite_ln.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite_ln m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_LossLn [hLossLn : Cert.LossLn.Facts] : Prop :=
  ∀ (m : (ℓ : Loc Cert.LossLn.nD Cert.LossLn.τ Cert.LossLn.sig) → Buf (Elt Bits) ℓ) (g : Dev Cert.LossLn.nD → PrngReg), Pre_LossLn m →
    θ_run (Cert.LossLn.defs (F := Bits)) (onTc (τ := Cert.LossLn.τ) (Cert.LossLn.main (F := Bits))) ⟨m, fun _ => 0, g⟩ (fun r => (∀ c : Dev Cert.LossLn.nD,
      r.2.mem ((c.tc : Thread Cert.LossLn.nD Cert.LossLn.τ).loc Cert.LossLn.main_arg0) = m ((c.tc : Thread Cert.LossLn.nD Cert.LossLn.τ).loc Cert.LossLn.main_arg0)
      ∧ r.2.mem ((c.tc : Thread Cert.LossLn.nD Cert.LossLn.τ).loc Cert.LossLn.main_arg1) = m ((c.tc : Thread Cert.LossLn.nD Cert.LossLn.τ).loc Cert.LossLn.main_arg1)
      ∧ r.2.mem ((c.tc : Thread Cert.LossLn.nD Cert.LossLn.τ).loc Cert.LossLn.main_arg2) = m ((c.tc : Thread Cert.LossLn.nD Cert.LossLn.τ).loc Cert.LossLn.main_arg2)
      ∧ r.2.mem ((c.tc : Thread Cert.LossLn.nD Cert.LossLn.τ).loc Cert.LossLn.main_arg3) = m ((c.tc : Thread Cert.LossLn.nD Cert.LossLn.τ).loc Cert.LossLn.main_arg3)
      ∧ r.2.mem ((c.tc : Thread Cert.LossLn.nD Cert.LossLn.τ).loc Cert.LossLn.main_arg4) = m ((c.tc : Thread Cert.LossLn.nD Cert.LossLn.τ).loc Cert.LossLn.main_arg4))
      ∧ r.2.sem = fun _ => 0)

def quiescent_LossLnIdeal [hLossLnIdeal : Cert.LossLnIdeal.Facts] : Prop :=
  ∀ (m : (ℓ : Loc Cert.LossLnIdeal.nD Cert.LossLnIdeal.τ Cert.LossLnIdeal.sig) → Buf (Elt Ideal) ℓ) (g : Dev Cert.LossLnIdeal.nD → PrngReg), Pre_LossLnIdeal m →
    θ_run (Cert.LossLnIdeal.defs (F := Ideal)) (onTc (τ := Cert.LossLnIdeal.τ) (Cert.LossLnIdeal.main (F := Ideal))) ⟨m, fun _ => 0, g⟩ (fun r => (∀ c : Dev Cert.LossLnIdeal.nD,
      r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
      ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
      ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
      ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3)
      ∧ r.2.mem ((c.tc : Thread Cert.LossLnIdeal.nD Cert.LossLnIdeal.τ).loc Cert.LossLnIdeal.main_arg4) = m ((c.tc : Thread Cert.LossLnIdeal.nD Cert.LossLnIdeal.τ).loc Cert.LossLnIdeal.main_arg4))
      ∧ r.2.sem = fun _ => 0)

def quiescent_LossLnIdeal_pre_finite_loss [hLossLnIdeal : Cert.LossLnIdeal.Facts] [hPre_finite_loss : Cert.Pre_finite_loss.Facts] : Prop :=
  ∀ (m : (ℓ : Loc Cert.LossLnIdeal.nD Cert.LossLnIdeal.τ Cert.LossLnIdeal.sig) → Buf (Elt Ideal) ℓ) (g : Dev Cert.LossLnIdeal.nD → PrngReg), Pre_LossLnIdeal_finite_loss m →
    θ_run (Cert.LossLnIdeal.defs (F := Ideal)) (onTc (τ := Cert.LossLnIdeal.τ) (Cert.LossLnIdeal.main (F := Ideal))) ⟨m, fun _ => 0, g⟩ (fun r => (∀ c : Dev Cert.LossLnIdeal.nD,
      r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
      ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
      ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
      ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3)
      ∧ r.2.mem ((c.tc : Thread Cert.LossLnIdeal.nD Cert.LossLnIdeal.τ).loc Cert.LossLnIdeal.main_arg4) = m ((c.tc : Thread Cert.LossLnIdeal.nD Cert.LossLnIdeal.τ).loc Cert.LossLnIdeal.main_arg4))
      ∧ r.2.sem = fun _ => 0)

def quiescent_LossLnRefIdeal [hLossLnRefIdeal : Cert.LossLnRefIdeal.Facts] : Prop :=
  ∀ (m : (ℓ : Loc Cert.LossLnRefIdeal.nD Cert.LossLnRefIdeal.τ Cert.LossLnRefIdeal.sig) → Buf (Elt Ideal) ℓ) (g : Dev Cert.LossLnRefIdeal.nD → PrngReg), Pre_LossLnRefIdeal m →
    θ_run (Cert.LossLnRefIdeal.defs (F := Ideal)) (onTc (τ := Cert.LossLnRefIdeal.τ) (Cert.LossLnRefIdeal.main (F := Ideal))) ⟨m, fun _ => 0, g⟩ (fun r => (∀ c : Dev Cert.LossLnRefIdeal.nD,
      r.2.mem ((c.tc : Thread Cert.LossLnRefIdeal.nD Cert.LossLnRefIdeal.τ).loc Cert.LossLnRefIdeal.main_arg0) = m ((c.tc : Thread Cert.LossLnRefIdeal.nD Cert.LossLnRefIdeal.τ).loc Cert.LossLnRefIdeal.main_arg0)
      ∧ r.2.mem ((c.tc : Thread Cert.LossLnRefIdeal.nD Cert.LossLnRefIdeal.τ).loc Cert.LossLnRefIdeal.main_arg1) = m ((c.tc : Thread Cert.LossLnRefIdeal.nD Cert.LossLnRefIdeal.τ).loc Cert.LossLnRefIdeal.main_arg1)
      ∧ r.2.mem ((c.tc : Thread Cert.LossLnRefIdeal.nD Cert.LossLnRefIdeal.τ).loc Cert.LossLnRefIdeal.main_arg2) = m ((c.tc : Thread Cert.LossLnRefIdeal.nD Cert.LossLnRefIdeal.τ).loc Cert.LossLnRefIdeal.main_arg2)
      ∧ r.2.mem ((c.tc : Thread Cert.LossLnRefIdeal.nD Cert.LossLnRefIdeal.τ).loc Cert.LossLnRefIdeal.main_arg3) = m ((c.tc : Thread Cert.LossLnRefIdeal.nD Cert.LossLnRefIdeal.τ).loc Cert.LossLnRefIdeal.main_arg3)
      ∧ r.2.mem ((c.tc : Thread Cert.LossLnRefIdeal.nD Cert.LossLnRefIdeal.τ).loc Cert.LossLnRefIdeal.main_arg4) = m ((c.tc : Thread Cert.LossLnRefIdeal.nD Cert.LossLnRefIdeal.τ).loc Cert.LossLnRefIdeal.main_arg4))
      ∧ r.2.sem = fun _ => 0)

def quiescent_LossLnRefIdeal_pre_finite_loss [hLossLnRefIdeal : Cert.LossLnRefIdeal.Facts] [hPre_finite_loss : Cert.Pre_finite_loss.Facts] : Prop :=
  ∀ (m : (ℓ : Loc Cert.LossLnRefIdeal.nD Cert.LossLnRefIdeal.τ Cert.LossLnRefIdeal.sig) → Buf (Elt Ideal) ℓ) (g : Dev Cert.LossLnRefIdeal.nD → PrngReg), Pre_LossLnRefIdeal_finite_loss m →
    θ_run (Cert.LossLnRefIdeal.defs (F := Ideal)) (onTc (τ := Cert.LossLnRefIdeal.τ) (Cert.LossLnRefIdeal.main (F := Ideal))) ⟨m, fun _ => 0, g⟩ (fun r => (∀ c : Dev Cert.LossLnRefIdeal.nD,
      r.2.mem ((c.tc : Thread Cert.LossLnRefIdeal.nD Cert.LossLnRefIdeal.τ).loc Cert.LossLnRefIdeal.main_arg0) = m ((c.tc : Thread Cert.LossLnRefIdeal.nD Cert.LossLnRefIdeal.τ).loc Cert.LossLnRefIdeal.main_arg0)
      ∧ r.2.mem ((c.tc : Thread Cert.LossLnRefIdeal.nD Cert.LossLnRefIdeal.τ).loc Cert.LossLnRefIdeal.main_arg1) = m ((c.tc : Thread Cert.LossLnRefIdeal.nD Cert.LossLnRefIdeal.τ).loc Cert.LossLnRefIdeal.main_arg1)
      ∧ r.2.mem ((c.tc : Thread Cert.LossLnRefIdeal.nD Cert.LossLnRefIdeal.τ).loc Cert.LossLnRefIdeal.main_arg2) = m ((c.tc : Thread Cert.LossLnRefIdeal.nD Cert.LossLnRefIdeal.τ).loc Cert.LossLnRefIdeal.main_arg2)
      ∧ r.2.mem ((c.tc : Thread Cert.LossLnRefIdeal.nD Cert.LossLnRefIdeal.τ).loc Cert.LossLnRefIdeal.main_arg3) = m ((c.tc : Thread Cert.LossLnRefIdeal.nD Cert.LossLnRefIdeal.τ).loc Cert.LossLnRefIdeal.main_arg3)
      ∧ r.2.mem ((c.tc : Thread Cert.LossLnRefIdeal.nD Cert.LossLnRefIdeal.τ).loc Cert.LossLnRefIdeal.main_arg4) = m ((c.tc : Thread Cert.LossLnRefIdeal.nD Cert.LossLnRefIdeal.τ).loc Cert.LossLnRefIdeal.main_arg4))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_QkvPrep [hQkvPrep : Cert.QkvPrep.Facts] : Prop :=
  ∀ (m : (ℓ : Loc Cert.QkvPrep.nD Cert.QkvPrep.τ Cert.QkvPrep.sig) → Buf (Elt Bits) ℓ) (g : Dev Cert.QkvPrep.nD → PrngReg), Pre_QkvPrep m →
    θ_run (Cert.QkvPrep.defs (F := Bits)) (onTc (τ := Cert.QkvPrep.τ) (Cert.QkvPrep.main (F := Bits))) ⟨m, fun _ => 0, g⟩ (fun r => (∀ c : Dev Cert.QkvPrep.nD,
      r.2.mem ((c.tc : Thread Cert.QkvPrep.nD Cert.QkvPrep.τ).loc Cert.QkvPrep.main_arg0) = m ((c.tc : Thread Cert.QkvPrep.nD Cert.QkvPrep.τ).loc Cert.QkvPrep.main_arg0)
      ∧ r.2.mem ((c.tc : Thread Cert.QkvPrep.nD Cert.QkvPrep.τ).loc Cert.QkvPrep.main_arg1) = m ((c.tc : Thread Cert.QkvPrep.nD Cert.QkvPrep.τ).loc Cert.QkvPrep.main_arg1)
      ∧ r.2.mem ((c.tc : Thread Cert.QkvPrep.nD Cert.QkvPrep.τ).loc Cert.QkvPrep.main_arg2) = m ((c.tc : Thread Cert.QkvPrep.nD Cert.QkvPrep.τ).loc Cert.QkvPrep.main_arg2)
      ∧ r.2.mem ((c.tc : Thread Cert.QkvPrep.nD Cert.QkvPrep.τ).loc Cert.QkvPrep.main_arg3) = m ((c.tc : Thread Cert.QkvPrep.nD Cert.QkvPrep.τ).loc Cert.QkvPrep.main_arg3)
      ∧ r.2.mem ((c.tc : Thread Cert.QkvPrep.nD Cert.QkvPrep.τ).loc Cert.QkvPrep.main_arg4) = m ((c.tc : Thread Cert.QkvPrep.nD Cert.QkvPrep.τ).loc Cert.QkvPrep.main_arg4)
      ∧ r.2.mem ((c.tc : Thread Cert.QkvPrep.nD Cert.QkvPrep.τ).loc Cert.QkvPrep.main_arg5) = m ((c.tc : Thread Cert.QkvPrep.nD Cert.QkvPrep.τ).loc Cert.QkvPrep.main_arg5))
      ∧ r.2.sem = fun _ => 0)

def quiescent_QkvPrepIdeal [hQkvPrepIdeal : Cert.QkvPrepIdeal.Facts] : Prop :=
  ∀ (m : (ℓ : Loc Cert.QkvPrepIdeal.nD Cert.QkvPrepIdeal.τ Cert.QkvPrepIdeal.sig) → Buf (Elt Ideal) ℓ) (g : Dev Cert.QkvPrepIdeal.nD → PrngReg), Pre_QkvPrepIdeal m →
    θ_run (Cert.QkvPrepIdeal.defs (F := Ideal)) (onTc (τ := Cert.QkvPrepIdeal.τ) (Cert.QkvPrepIdeal.main (F := Ideal))) ⟨m, fun _ => 0, g⟩ (fun r => (∀ c : Dev Cert.QkvPrepIdeal.nD,
      r.2.mem ((c.tc : Thread Cert.QkvPrepIdeal.nD Cert.QkvPrepIdeal.τ).loc Cert.QkvPrepIdeal.main_arg0) = m ((c.tc : Thread Cert.QkvPrepIdeal.nD Cert.QkvPrepIdeal.τ).loc Cert.QkvPrepIdeal.main_arg0)
      ∧ r.2.mem ((c.tc : Thread Cert.QkvPrepIdeal.nD Cert.QkvPrepIdeal.τ).loc Cert.QkvPrepIdeal.main_arg1) = m ((c.tc : Thread Cert.QkvPrepIdeal.nD Cert.QkvPrepIdeal.τ).loc Cert.QkvPrepIdeal.main_arg1)
      ∧ r.2.mem ((c.tc : Thread Cert.QkvPrepIdeal.nD Cert.QkvPrepIdeal.τ).loc Cert.QkvPrepIdeal.main_arg2) = m ((c.tc : Thread Cert.QkvPrepIdeal.nD Cert.QkvPrepIdeal.τ).loc Cert.QkvPrepIdeal.main_arg2)
      ∧ r.2.mem ((c.tc : Thread Cert.QkvPrepIdeal.nD Cert.QkvPrepIdeal.τ).loc Cert.QkvPrepIdeal.main_arg3) = m ((c.tc : Thread Cert.QkvPrepIdeal.nD Cert.QkvPrepIdeal.τ).loc Cert.QkvPrepIdeal.main_arg3)
      ∧ r.2.mem ((c.tc : Thread Cert.QkvPrepIdeal.nD Cert.QkvPrepIdeal.τ).loc Cert.QkvPrepIdeal.main_arg4) = m ((c.tc : Thread Cert.QkvPrepIdeal.nD Cert.QkvPrepIdeal.τ).loc Cert.QkvPrepIdeal.main_arg4)
      ∧ r.2.mem ((c.tc : Thread Cert.QkvPrepIdeal.nD Cert.QkvPrepIdeal.τ).loc Cert.QkvPrepIdeal.main_arg5) = m ((c.tc : Thread Cert.QkvPrepIdeal.nD Cert.QkvPrepIdeal.τ).loc Cert.QkvPrepIdeal.main_arg5))
      ∧ r.2.sem = fun _ => 0)

def quiescent_QkvPrepRefIdeal [hQkvPrepRefIdeal : Cert.QkvPrepRefIdeal.Facts] : Prop :=
  ∀ (m : (ℓ : Loc Cert.QkvPrepRefIdeal.nD Cert.QkvPrepRefIdeal.τ Cert.QkvPrepRefIdeal.sig) → Buf (Elt Ideal) ℓ) (g : Dev Cert.QkvPrepRefIdeal.nD → PrngReg), Pre_QkvPrepRefIdeal m →
    θ_run (Cert.QkvPrepRefIdeal.defs (F := Ideal)) (onTc (τ := Cert.QkvPrepRefIdeal.τ) (Cert.QkvPrepRefIdeal.main (F := Ideal))) ⟨m, fun _ => 0, g⟩ (fun r => (∀ c : Dev Cert.QkvPrepRefIdeal.nD,
      r.2.mem ((c.tc : Thread Cert.QkvPrepRefIdeal.nD Cert.QkvPrepRefIdeal.τ).loc Cert.QkvPrepRefIdeal.main_arg0) = m ((c.tc : Thread Cert.QkvPrepRefIdeal.nD Cert.QkvPrepRefIdeal.τ).loc Cert.QkvPrepRefIdeal.main_arg0)
      ∧ r.2.mem ((c.tc : Thread Cert.QkvPrepRefIdeal.nD Cert.QkvPrepRefIdeal.τ).loc Cert.QkvPrepRefIdeal.main_arg1) = m ((c.tc : Thread Cert.QkvPrepRefIdeal.nD Cert.QkvPrepRefIdeal.τ).loc Cert.QkvPrepRefIdeal.main_arg1)
      ∧ r.2.mem ((c.tc : Thread Cert.QkvPrepRefIdeal.nD Cert.QkvPrepRefIdeal.τ).loc Cert.QkvPrepRefIdeal.main_arg2) = m ((c.tc : Thread Cert.QkvPrepRefIdeal.nD Cert.QkvPrepRefIdeal.τ).loc Cert.QkvPrepRefIdeal.main_arg2)
      ∧ r.2.mem ((c.tc : Thread Cert.QkvPrepRefIdeal.nD Cert.QkvPrepRefIdeal.τ).loc Cert.QkvPrepRefIdeal.main_arg3) = m ((c.tc : Thread Cert.QkvPrepRefIdeal.nD Cert.QkvPrepRefIdeal.τ).loc Cert.QkvPrepRefIdeal.main_arg3)
      ∧ r.2.mem ((c.tc : Thread Cert.QkvPrepRefIdeal.nD Cert.QkvPrepRefIdeal.τ).loc Cert.QkvPrepRefIdeal.main_arg4) = m ((c.tc : Thread Cert.QkvPrepRefIdeal.nD Cert.QkvPrepRefIdeal.τ).loc Cert.QkvPrepRefIdeal.main_arg4)
      ∧ r.2.mem ((c.tc : Thread Cert.QkvPrepRefIdeal.nD Cert.QkvPrepRefIdeal.τ).loc Cert.QkvPrepRefIdeal.main_arg5) = m ((c.tc : Thread Cert.QkvPrepRefIdeal.nD Cert.QkvPrepRefIdeal.τ).loc Cert.QkvPrepRefIdeal.main_arg5))
      ∧ r.2.sem = fun _ => 0)

def quiescent_InQkv [hInQkv : Cert.InQkv.Facts] : Prop :=
  ∀ (m : (ℓ : Loc Cert.InQkv.nD Cert.InQkv.τ Cert.InQkv.sig) → Buf (Elt Bits) ℓ) (g : Dev Cert.InQkv.nD → PrngReg), Pre_InQkv m →
    θ_run (Cert.InQkv.defs (F := Bits)) (onTc (τ := Cert.InQkv.τ) (Cert.InQkv.main (F := Bits))) ⟨m, fun _ => 0, g⟩ (fun r => (∀ c : Dev Cert.InQkv.nD,
      r.2.mem ((c.tc : Thread Cert.InQkv.nD Cert.InQkv.τ).loc Cert.InQkv.main_arg0) = m ((c.tc : Thread Cert.InQkv.nD Cert.InQkv.τ).loc Cert.InQkv.main_arg0)
      ∧ r.2.mem ((c.tc : Thread Cert.InQkv.nD Cert.InQkv.τ).loc Cert.InQkv.main_arg1) = m ((c.tc : Thread Cert.InQkv.nD Cert.InQkv.τ).loc Cert.InQkv.main_arg1))
      ∧ r.2.sem = fun _ => 0)

def quiescent_InQkvIdeal [hInQkvIdeal : Cert.InQkvIdeal.Facts] : Prop :=
  ∀ (m : (ℓ : Loc Cert.InQkvIdeal.nD Cert.InQkvIdeal.τ Cert.InQkvIdeal.sig) → Buf (Elt Ideal) ℓ) (g : Dev Cert.InQkvIdeal.nD → PrngReg), Pre_InQkvIdeal m →
    θ_run (Cert.InQkvIdeal.defs (F := Ideal)) (onTc (τ := Cert.InQkvIdeal.τ) (Cert.InQkvIdeal.main (F := Ideal))) ⟨m, fun _ => 0, g⟩ (fun r => (∀ c : Dev Cert.InQkvIdeal.nD,
      r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
      ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ r.2.sem = fun _ => 0)

def quiescent_InQkvRefIdeal [hInQkvRefIdeal : Cert.InQkvRefIdeal.Facts] : Prop :=
  ∀ (m : (ℓ : Loc Cert.InQkvRefIdeal.nD Cert.InQkvRefIdeal.τ Cert.InQkvRefIdeal.sig) → Buf (Elt Ideal) ℓ) (g : Dev Cert.InQkvRefIdeal.nD → PrngReg), Pre_InQkvRefIdeal m →
    θ_run (Cert.InQkvRefIdeal.defs (F := Ideal)) (onTc (τ := Cert.InQkvRefIdeal.τ) (Cert.InQkvRefIdeal.main (F := Ideal))) ⟨m, fun _ => 0, g⟩ (fun r => (∀ c : Dev Cert.InQkvRefIdeal.nD,
      r.2.mem ((c.tc : Thread Cert.InQkvRefIdeal.nD Cert.InQkvRefIdeal.τ).loc Cert.InQkvRefIdeal.main_arg0) = m ((c.tc : Thread Cert.InQkvRefIdeal.nD Cert.InQkvRefIdeal.τ).loc Cert.InQkvRefIdeal.main_arg0)
      ∧ r.2.mem ((c.tc : Thread Cert.InQkvRefIdeal.nD Cert.InQkvRefIdeal.τ).loc Cert.InQkvRefIdeal.main_arg1) = m ((c.tc : Thread Cert.InQkvRefIdeal.nD Cert.InQkvRefIdeal.τ).loc Cert.InQkvRefIdeal.main_arg1))
      ∧ r.2.sem = fun _ => 0)

def quiescent_InRest [hInRest : Cert.InRest.Facts] : Prop :=
  ∀ (m : (ℓ : Loc Cert.InRest.nD Cert.InRest.τ Cert.InRest.sig) → Buf (Elt Bits) ℓ) (g : Dev Cert.InRest.nD → PrngReg), Pre_InRest m →
    θ_run (Cert.InRest.defs (F := Bits)) (onTc (τ := Cert.InRest.τ) (Cert.InRest.main (F := Bits))) ⟨m, fun _ => 0, g⟩ (fun r => (∀ c : Dev Cert.InRest.nD,
      r.2.mem ((c.tc : Thread Cert.InRest.nD Cert.InRest.τ).loc Cert.InRest.main_arg0) = m ((c.tc : Thread Cert.InRest.nD Cert.InRest.τ).loc Cert.InRest.main_arg0)
      ∧ r.2.mem ((c.tc : Thread Cert.InRest.nD Cert.InRest.τ).loc Cert.InRest.main_arg1) = m ((c.tc : Thread Cert.InRest.nD Cert.InRest.τ).loc Cert.InRest.main_arg1))
      ∧ r.2.sem = fun _ => 0)

def quiescent_InRestIdeal [hInRestIdeal : Cert.InRestIdeal.Facts] : Prop :=
  ∀ (m : (ℓ : Loc Cert.InRestIdeal.nD Cert.InRestIdeal.τ Cert.InRestIdeal.sig) → Buf (Elt Ideal) ℓ) (g : Dev Cert.InRestIdeal.nD → PrngReg), Pre_InRestIdeal m →
    θ_run (Cert.InRestIdeal.defs (F := Ideal)) (onTc (τ := Cert.InRestIdeal.τ) (Cert.InRestIdeal.main (F := Ideal))) ⟨m, fun _ => 0, g⟩ (fun r => (∀ c : Dev Cert.InRestIdeal.nD,
      r.2.mem ((c.tc : Thread Cert.InRestIdeal.nD Cert.InRestIdeal.τ).loc Cert.InRestIdeal.main_arg0) = m ((c.tc : Thread Cert.InRestIdeal.nD Cert.InRestIdeal.τ).loc Cert.InRestIdeal.main_arg0)
      ∧ r.2.mem ((c.tc : Thread Cert.InRestIdeal.nD Cert.InRestIdeal.τ).loc Cert.InRestIdeal.main_arg1) = m ((c.tc : Thread Cert.InRestIdeal.nD Cert.InRestIdeal.τ).loc Cert.InRestIdeal.main_arg1))
      ∧ r.2.sem = fun _ => 0)

def quiescent_InRestRefIdeal [hInRestRefIdeal : Cert.InRestRefIdeal.Facts] : Prop :=
  ∀ (m : (ℓ : Loc Cert.InRestRefIdeal.nD Cert.InRestRefIdeal.τ Cert.InRestRefIdeal.sig) → Buf (Elt Ideal) ℓ) (g : Dev Cert.InRestRefIdeal.nD → PrngReg), Pre_InRestRefIdeal m →
    θ_run (Cert.InRestRefIdeal.defs (F := Ideal)) (onTc (τ := Cert.InRestRefIdeal.τ) (Cert.InRestRefIdeal.main (F := Ideal))) ⟨m, fun _ => 0, g⟩ (fun r => (∀ c : Dev Cert.InRestRefIdeal.nD,
      r.2.mem ((c.tc : Thread Cert.InRestRefIdeal.nD Cert.InRestRefIdeal.τ).loc Cert.InRestRefIdeal.main_arg0) = m ((c.tc : Thread Cert.InRestRefIdeal.nD Cert.InRestRefIdeal.τ).loc Cert.InRestRefIdeal.main_arg0)
      ∧ r.2.mem ((c.tc : Thread Cert.InRestRefIdeal.nD Cert.InRestRefIdeal.τ).loc Cert.InRestRefIdeal.main_arg1) = m ((c.tc : Thread Cert.InRestRefIdeal.nD Cert.InRestRefIdeal.τ).loc Cert.InRestRefIdeal.main_arg1))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4))
      ∧ r.2.sem = fun _ => 0)

def quiescent_DownLn [hDownLn : Cert.DownLn.Facts] : Prop :=
  ∀ (m : (ℓ : Loc Cert.DownLn.nD Cert.DownLn.τ Cert.DownLn.sig) → Buf (Elt Bits) ℓ) (g : Dev Cert.DownLn.nD → PrngReg), Pre_DownLn m →
    θ_run (Cert.DownLn.defs (F := Bits)) (onTc (τ := Cert.DownLn.τ) (Cert.DownLn.main (F := Bits))) ⟨m, fun _ => 0, g⟩ (fun r => (∀ c : Dev Cert.DownLn.nD,
      r.2.mem ((c.tc : Thread Cert.DownLn.nD Cert.DownLn.τ).loc Cert.DownLn.main_arg0) = m ((c.tc : Thread Cert.DownLn.nD Cert.DownLn.τ).loc Cert.DownLn.main_arg0)
      ∧ r.2.mem ((c.tc : Thread Cert.DownLn.nD Cert.DownLn.τ).loc Cert.DownLn.main_arg1) = m ((c.tc : Thread Cert.DownLn.nD Cert.DownLn.τ).loc Cert.DownLn.main_arg1)
      ∧ r.2.mem ((c.tc : Thread Cert.DownLn.nD Cert.DownLn.τ).loc Cert.DownLn.main_arg2) = m ((c.tc : Thread Cert.DownLn.nD Cert.DownLn.τ).loc Cert.DownLn.main_arg2)
      ∧ r.2.mem ((c.tc : Thread Cert.DownLn.nD Cert.DownLn.τ).loc Cert.DownLn.main_arg3) = m ((c.tc : Thread Cert.DownLn.nD Cert.DownLn.τ).loc Cert.DownLn.main_arg3)
      ∧ r.2.mem ((c.tc : Thread Cert.DownLn.nD Cert.DownLn.τ).loc Cert.DownLn.main_arg4) = m ((c.tc : Thread Cert.DownLn.nD Cert.DownLn.τ).loc Cert.DownLn.main_arg4))
      ∧ r.2.sem = fun _ => 0)

def quiescent_DownLnIdeal [hDownLnIdeal : Cert.DownLnIdeal.Facts] : Prop :=
  ∀ (m : (ℓ : Loc Cert.DownLnIdeal.nD Cert.DownLnIdeal.τ Cert.DownLnIdeal.sig) → Buf (Elt Ideal) ℓ) (g : Dev Cert.DownLnIdeal.nD → PrngReg), Pre_DownLnIdeal m →
    θ_run (Cert.DownLnIdeal.defs (F := Ideal)) (onTc (τ := Cert.DownLnIdeal.τ) (Cert.DownLnIdeal.main (F := Ideal))) ⟨m, fun _ => 0, g⟩ (fun r => (∀ c : Dev Cert.DownLnIdeal.nD,
      r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
      ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
      ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
      ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
      ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ r.2.sem = fun _ => 0)

def quiescent_DownLnRefIdeal [hDownLnRefIdeal : Cert.DownLnRefIdeal.Facts] : Prop :=
  ∀ (m : (ℓ : Loc Cert.DownLnRefIdeal.nD Cert.DownLnRefIdeal.τ Cert.DownLnRefIdeal.sig) → Buf (Elt Ideal) ℓ) (g : Dev Cert.DownLnRefIdeal.nD → PrngReg), Pre_DownLnRefIdeal m →
    θ_run (Cert.DownLnRefIdeal.defs (F := Ideal)) (onTc (τ := Cert.DownLnRefIdeal.τ) (Cert.DownLnRefIdeal.main (F := Ideal))) ⟨m, fun _ => 0, g⟩ (fun r => (∀ c : Dev Cert.DownLnRefIdeal.nD,
      r.2.mem ((c.tc : Thread Cert.DownLnRefIdeal.nD Cert.DownLnRefIdeal.τ).loc Cert.DownLnRefIdeal.main_arg0) = m ((c.tc : Thread Cert.DownLnRefIdeal.nD Cert.DownLnRefIdeal.τ).loc Cert.DownLnRefIdeal.main_arg0)
      ∧ r.2.mem ((c.tc : Thread Cert.DownLnRefIdeal.nD Cert.DownLnRefIdeal.τ).loc Cert.DownLnRefIdeal.main_arg1) = m ((c.tc : Thread Cert.DownLnRefIdeal.nD Cert.DownLnRefIdeal.τ).loc Cert.DownLnRefIdeal.main_arg1)
      ∧ r.2.mem ((c.tc : Thread Cert.DownLnRefIdeal.nD Cert.DownLnRefIdeal.τ).loc Cert.DownLnRefIdeal.main_arg2) = m ((c.tc : Thread Cert.DownLnRefIdeal.nD Cert.DownLnRefIdeal.τ).loc Cert.DownLnRefIdeal.main_arg2)
      ∧ r.2.mem ((c.tc : Thread Cert.DownLnRefIdeal.nD Cert.DownLnRefIdeal.τ).loc Cert.DownLnRefIdeal.main_arg3) = m ((c.tc : Thread Cert.DownLnRefIdeal.nD Cert.DownLnRefIdeal.τ).loc Cert.DownLnRefIdeal.main_arg3)
      ∧ r.2.mem ((c.tc : Thread Cert.DownLnRefIdeal.nD Cert.DownLnRefIdeal.τ).loc Cert.DownLnRefIdeal.main_arg4) = m ((c.tc : Thread Cert.DownLnRefIdeal.nD Cert.DownLnRefIdeal.τ).loc Cert.DownLnRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3)
      ∧ r.2.mem ((c.tc : Thread Cert.AdamFfn.nD Cert.AdamFfn.τ).loc Cert.AdamFfn.main_arg4) = m ((c.tc : Thread Cert.AdamFfn.nD Cert.AdamFfn.τ).loc Cert.AdamFfn.main_arg4))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
      ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3)
      ∧ r.2.mem ((c.tc : Thread Cert.AdamFfnRefIdeal.nD Cert.AdamFfnRefIdeal.τ).loc Cert.AdamFfnRefIdeal.main_arg4) = m ((c.tc : Thread Cert.AdamFfnRefIdeal.nD Cert.AdamFfnRefIdeal.τ).loc Cert.AdamFfnRefIdeal.main_arg4))
      ∧ r.2.sem = fun _ => 0)

def quiescent_AdamSq [hAdamSq : Cert.AdamSq.Facts] : Prop :=
  ∀ (m : (ℓ : Loc Cert.AdamSq.nD Cert.AdamSq.τ Cert.AdamSq.sig) → Buf (Elt Bits) ℓ) (g : Dev Cert.AdamSq.nD → PrngReg), Pre_AdamSq m →
    θ_run (Cert.AdamSq.defs (F := Bits)) (onTc (τ := Cert.AdamSq.τ) (Cert.AdamSq.main (F := Bits))) ⟨m, fun _ => 0, g⟩ (fun r => (∀ c : Dev Cert.AdamSq.nD,
      r.2.mem ((c.tc : Thread Cert.AdamSq.nD Cert.AdamSq.τ).loc Cert.AdamSq.main_arg0) = m ((c.tc : Thread Cert.AdamSq.nD Cert.AdamSq.τ).loc Cert.AdamSq.main_arg0)
      ∧ r.2.mem ((c.tc : Thread Cert.AdamSq.nD Cert.AdamSq.τ).loc Cert.AdamSq.main_arg1) = m ((c.tc : Thread Cert.AdamSq.nD Cert.AdamSq.τ).loc Cert.AdamSq.main_arg1)
      ∧ r.2.mem ((c.tc : Thread Cert.AdamSq.nD Cert.AdamSq.τ).loc Cert.AdamSq.main_arg2) = m ((c.tc : Thread Cert.AdamSq.nD Cert.AdamSq.τ).loc Cert.AdamSq.main_arg2)
      ∧ r.2.mem ((c.tc : Thread Cert.AdamSq.nD Cert.AdamSq.τ).loc Cert.AdamSq.main_arg3) = m ((c.tc : Thread Cert.AdamSq.nD Cert.AdamSq.τ).loc Cert.AdamSq.main_arg3)
      ∧ r.2.mem ((c.tc : Thread Cert.AdamSq.nD Cert.AdamSq.τ).loc Cert.AdamSq.main_arg4) = m ((c.tc : Thread Cert.AdamSq.nD Cert.AdamSq.τ).loc Cert.AdamSq.main_arg4))
      ∧ r.2.sem = fun _ => 0)

def quiescent_AdamSqIdeal [hAdamSqIdeal : Cert.AdamSqIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg), Pre_AdamSqIdeal m →
    θ_run (Cert.AdamSqIdeal.defs (F := Ideal)) (onTc (τ := Cert.AdamSqIdeal.τ) (Cert.AdamSqIdeal.main (F := Ideal))) ⟨m, fun _ => 0, g⟩ (fun r => (∀ c : Dev Cert.AdamSqIdeal.nD,
      r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
      ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
      ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
      ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3)
      ∧ r.2.mem ((c.tc : Thread Cert.AdamSqIdeal.nD Cert.AdamSqIdeal.τ).loc Cert.AdamSqIdeal.main_arg4) = m ((c.tc : Thread Cert.AdamSqIdeal.nD Cert.AdamSqIdeal.τ).loc Cert.AdamSqIdeal.main_arg4))
      ∧ r.2.sem = fun _ => 0)

def quiescent_AdamSqRefIdeal [hAdamSqRefIdeal : Cert.AdamSqRefIdeal.Facts] : Prop :=
  ∀ (m : (ℓ : Loc Cert.AdamSqRefIdeal.nD Cert.AdamSqRefIdeal.τ Cert.AdamSqRefIdeal.sig) → Buf (Elt Ideal) ℓ) (g : Dev Cert.AdamSqRefIdeal.nD → PrngReg), Pre_AdamSqRefIdeal m →
    θ_run (Cert.AdamSqRefIdeal.defs (F := Ideal)) (onTc (τ := Cert.AdamSqRefIdeal.τ) (Cert.AdamSqRefIdeal.main (F := Ideal))) ⟨m, fun _ => 0, g⟩ (fun r => (∀ c : Dev Cert.AdamSqRefIdeal.nD,
      r.2.mem ((c.tc : Thread Cert.AdamSqRefIdeal.nD Cert.AdamSqRefIdeal.τ).loc Cert.AdamSqRefIdeal.main_arg0) = m ((c.tc : Thread Cert.AdamSqRefIdeal.nD Cert.AdamSqRefIdeal.τ).loc Cert.AdamSqRefIdeal.main_arg0)
      ∧ r.2.mem ((c.tc : Thread Cert.AdamSqRefIdeal.nD Cert.AdamSqRefIdeal.τ).loc Cert.AdamSqRefIdeal.main_arg1) = m ((c.tc : Thread Cert.AdamSqRefIdeal.nD Cert.AdamSqRefIdeal.τ).loc Cert.AdamSqRefIdeal.main_arg1)
      ∧ r.2.mem ((c.tc : Thread Cert.AdamSqRefIdeal.nD Cert.AdamSqRefIdeal.τ).loc Cert.AdamSqRefIdeal.main_arg2) = m ((c.tc : Thread Cert.AdamSqRefIdeal.nD Cert.AdamSqRefIdeal.τ).loc Cert.AdamSqRefIdeal.main_arg2)
      ∧ r.2.mem ((c.tc : Thread Cert.AdamSqRefIdeal.nD Cert.AdamSqRefIdeal.τ).loc Cert.AdamSqRefIdeal.main_arg3) = m ((c.tc : Thread Cert.AdamSqRefIdeal.nD Cert.AdamSqRefIdeal.τ).loc Cert.AdamSqRefIdeal.main_arg3)
      ∧ r.2.mem ((c.tc : Thread Cert.AdamSqRefIdeal.nD Cert.AdamSqRefIdeal.τ).loc Cert.AdamSqRefIdeal.main_arg4) = m ((c.tc : Thread Cert.AdamSqRefIdeal.nD Cert.AdamSqRefIdeal.τ).loc Cert.AdamSqRefIdeal.main_arg4))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3)
      ∧ r.2.mem ((c.tc : Thread Cert.AdamConv.nD Cert.AdamConv.τ).loc Cert.AdamConv.main_arg4) = m ((c.tc : Thread Cert.AdamConv.nD Cert.AdamConv.τ).loc Cert.AdamConv.main_arg4))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
      ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3)
      ∧ r.2.mem ((c.tc : Thread Cert.AdamConvRefIdeal.nD Cert.AdamConvRefIdeal.τ).loc Cert.AdamConvRefIdeal.main_arg4) = m ((c.tc : Thread Cert.AdamConvRefIdeal.nD Cert.AdamConvRefIdeal.τ).loc Cert.AdamConvRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2)
      ∧ r.2.mem ((c.tc : Thread Cert.Delta.nD Cert.Delta.τ).loc Cert.Delta.main_arg3) = m ((c.tc : Thread Cert.Delta.nD Cert.Delta.τ).loc Cert.Delta.main_arg3)
      ∧ r.2.mem ((c.tc : Thread Cert.Delta.nD Cert.Delta.τ).loc Cert.Delta.main_arg4) = m ((c.tc : Thread Cert.Delta.nD Cert.Delta.τ).loc Cert.Delta.main_arg4)
      ∧ r.2.mem ((c.tc : Thread Cert.Delta.nD Cert.Delta.τ).loc Cert.Delta.main_arg5) = m ((c.tc : Thread Cert.Delta.nD Cert.Delta.τ).loc Cert.Delta.main_arg5)
      ∧ r.2.mem ((c.tc : Thread Cert.Delta.nD Cert.Delta.τ).loc Cert.Delta.main_arg6) = m ((c.tc : Thread Cert.Delta.nD Cert.Delta.τ).loc Cert.Delta.main_arg6)
      ∧ r.2.mem ((c.tc : Thread Cert.Delta.nD Cert.Delta.τ).loc Cert.Delta.main_arg7) = m ((c.tc : Thread Cert.Delta.nD Cert.Delta.τ).loc Cert.Delta.main_arg7)
      ∧ r.2.mem ((c.tc : Thread Cert.Delta.nD Cert.Delta.τ).loc Cert.Delta.main_arg8) = m ((c.tc : Thread Cert.Delta.nD Cert.Delta.τ).loc Cert.Delta.main_arg8))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
      ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4)
      ∧ r.2.mem ((c.tc : Thread Cert.DeltaIdeal.nD Cert.DeltaIdeal.τ).loc Cert.DeltaIdeal.main_arg5) = m ((c.tc : Thread Cert.DeltaIdeal.nD Cert.DeltaIdeal.τ).loc Cert.DeltaIdeal.main_arg5)
      ∧ r.2.mem ((c.tc : Thread Cert.DeltaIdeal.nD Cert.DeltaIdeal.τ).loc Cert.DeltaIdeal.main_arg6) = m ((c.tc : Thread Cert.DeltaIdeal.nD Cert.DeltaIdeal.τ).loc Cert.DeltaIdeal.main_arg6)
      ∧ r.2.mem ((c.tc : Thread Cert.DeltaIdeal.nD Cert.DeltaIdeal.τ).loc Cert.DeltaIdeal.main_arg7) = m ((c.tc : Thread Cert.DeltaIdeal.nD Cert.DeltaIdeal.τ).loc Cert.DeltaIdeal.main_arg7)
      ∧ r.2.mem ((c.tc : Thread Cert.DeltaIdeal.nD Cert.DeltaIdeal.τ).loc Cert.DeltaIdeal.main_arg8) = m ((c.tc : Thread Cert.DeltaIdeal.nD Cert.DeltaIdeal.τ).loc Cert.DeltaIdeal.main_arg8))
      ∧ r.2.sem = fun _ => 0)

def quiescent_DeltaIdeal_pre_finite_gates [hDeltaIdeal : Cert.DeltaIdeal.Facts] [hPre_finite_gates : Cert.Pre_finite_gates.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal_finite_gates m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
      ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4)
      ∧ r.2.mem ((c.tc : Thread Cert.DeltaIdeal.nD Cert.DeltaIdeal.τ).loc Cert.DeltaIdeal.main_arg5) = m ((c.tc : Thread Cert.DeltaIdeal.nD Cert.DeltaIdeal.τ).loc Cert.DeltaIdeal.main_arg5)
      ∧ r.2.mem ((c.tc : Thread Cert.DeltaIdeal.nD Cert.DeltaIdeal.τ).loc Cert.DeltaIdeal.main_arg6) = m ((c.tc : Thread Cert.DeltaIdeal.nD Cert.DeltaIdeal.τ).loc Cert.DeltaIdeal.main_arg6)
      ∧ r.2.mem ((c.tc : Thread Cert.DeltaIdeal.nD Cert.DeltaIdeal.τ).loc Cert.DeltaIdeal.main_arg7) = m ((c.tc : Thread Cert.DeltaIdeal.nD Cert.DeltaIdeal.τ).loc Cert.DeltaIdeal.main_arg7)
      ∧ r.2.mem ((c.tc : Thread Cert.DeltaIdeal.nD Cert.DeltaIdeal.τ).loc Cert.DeltaIdeal.main_arg8) = m ((c.tc : Thread Cert.DeltaIdeal.nD Cert.DeltaIdeal.τ).loc Cert.DeltaIdeal.main_arg8))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3)
      ∧ r.2.mem ((c.tc : Thread Cert.DeltaRefIdeal.nD Cert.DeltaRefIdeal.τ).loc Cert.DeltaRefIdeal.main_arg4) = m ((c.tc : Thread Cert.DeltaRefIdeal.nD Cert.DeltaRefIdeal.τ).loc Cert.DeltaRefIdeal.main_arg4)
      ∧ r.2.mem ((c.tc : Thread Cert.DeltaRefIdeal.nD Cert.DeltaRefIdeal.τ).loc Cert.DeltaRefIdeal.main_arg5) = m ((c.tc : Thread Cert.DeltaRefIdeal.nD Cert.DeltaRefIdeal.τ).loc Cert.DeltaRefIdeal.main_arg5)
      ∧ r.2.mem ((c.tc : Thread Cert.DeltaRefIdeal.nD Cert.DeltaRefIdeal.τ).loc Cert.DeltaRefIdeal.main_arg6) = m ((c.tc : Thread Cert.DeltaRefIdeal.nD Cert.DeltaRefIdeal.τ).loc Cert.DeltaRefIdeal.main_arg6)
      ∧ r.2.mem ((c.tc : Thread Cert.DeltaRefIdeal.nD Cert.DeltaRefIdeal.τ).loc Cert.DeltaRefIdeal.main_arg7) = m ((c.tc : Thread Cert.DeltaRefIdeal.nD Cert.DeltaRefIdeal.τ).loc Cert.DeltaRefIdeal.main_arg7)
      ∧ r.2.mem ((c.tc : Thread Cert.DeltaRefIdeal.nD Cert.DeltaRefIdeal.τ).loc Cert.DeltaRefIdeal.main_arg8) = m ((c.tc : Thread Cert.DeltaRefIdeal.nD Cert.DeltaRefIdeal.τ).loc Cert.DeltaRefIdeal.main_arg8))
      ∧ r.2.sem = fun _ => 0)

def quiescent_DeltaRefIdeal_pre_finite_gates [hDeltaRefIdeal : Cert.DeltaRefIdeal.Facts] [hPre_finite_gates : Cert.Pre_finite_gates.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal_finite_gates m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3)
      ∧ r.2.mem ((c.tc : Thread Cert.DeltaRefIdeal.nD Cert.DeltaRefIdeal.τ).loc Cert.DeltaRefIdeal.main_arg4) = m ((c.tc : Thread Cert.DeltaRefIdeal.nD Cert.DeltaRefIdeal.τ).loc Cert.DeltaRefIdeal.main_arg4)
      ∧ r.2.mem ((c.tc : Thread Cert.DeltaRefIdeal.nD Cert.DeltaRefIdeal.τ).loc Cert.DeltaRefIdeal.main_arg5) = m ((c.tc : Thread Cert.DeltaRefIdeal.nD Cert.DeltaRefIdeal.τ).loc Cert.DeltaRefIdeal.main_arg5)
      ∧ r.2.mem ((c.tc : Thread Cert.DeltaRefIdeal.nD Cert.DeltaRefIdeal.τ).loc Cert.DeltaRefIdeal.main_arg6) = m ((c.tc : Thread Cert.DeltaRefIdeal.nD Cert.DeltaRefIdeal.τ).loc Cert.DeltaRefIdeal.main_arg6)
      ∧ r.2.mem ((c.tc : Thread Cert.DeltaRefIdeal.nD Cert.DeltaRefIdeal.τ).loc Cert.DeltaRefIdeal.main_arg7) = m ((c.tc : Thread Cert.DeltaRefIdeal.nD Cert.DeltaRefIdeal.τ).loc Cert.DeltaRefIdeal.main_arg7)
      ∧ r.2.mem ((c.tc : Thread Cert.DeltaRefIdeal.nD Cert.DeltaRefIdeal.τ).loc Cert.DeltaRefIdeal.main_arg8) = m ((c.tc : Thread Cert.DeltaRefIdeal.nD Cert.DeltaRefIdeal.τ).loc Cert.DeltaRefIdeal.main_arg8))
      ∧ r.2.sem = fun _ => 0)

def preserves_Swiglu_SwigluIdeal : Prop :=
  True

def algebraic_SwigluIdeal_SwigluRefIdeal_pre_finite_ffn [hSwigluIdeal : Cert.SwigluIdeal.Facts] [hSwigluRefIdeal : Cert.SwigluRefIdeal.Facts] [hPre_finite_ffn : Cert.Pre_finite_ffn.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_finite_ffn m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)) →
    ∃ (v0 : (c : Dev Cert.SwigluIdeal.nD) → Buf (Elt Ideal) ((c.tc : Thread Cert.SwigluIdeal.nD Cert.SwigluIdeal.τ).loc Cert.SwigluIdeal.main_v0_0)) (v1 : (c : Dev Cert.SwigluIdeal.nD) → Buf (Elt Ideal) ((c.tc : Thread Cert.SwigluIdeal.nD Cert.SwigluIdeal.τ).loc Cert.SwigluIdeal.main_v0_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0_0) = v0 c
          ∧ r.2.mem ((c.tc : Thread Cert.SwigluIdeal.nD Cert.SwigluIdeal.τ).loc Cert.SwigluIdeal.main_v0_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v10) = v0 c
          ∧ r.2.mem ((c.tc : Thread Cert.SwigluRefIdeal.nD Cert.SwigluRefIdeal.τ).loc Cert.SwigluRefIdeal.main_v11) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3))

def preserves_Merge_MergeIdeal : Prop :=
  True

def algebraic_MergeIdeal_MergeRefIdeal_on_gate_columns [hMergeIdeal : Cert.MergeIdeal.Facts] [hMergeRefIdeal : Cert.MergeRefIdeal.Facts] [hOn_gate_columns : Cert.On_gate_columns.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          (∀ i : (⟨2, ![8192, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))).1 i = 1#1 → r.2.mem ((c.tc : Thread Cert.MergeIdeal.nD Cert.MergeIdeal.τ).loc Cert.MergeIdeal.main_v0_0) i = v0 c i)
          ∧ (∀ i : (⟨2, ![8192, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))).2.1 i = 1#1 → r.2.mem ((c.tc : Thread Cert.MergeIdeal.nD Cert.MergeIdeal.τ).loc Cert.MergeIdeal.main_v0_1) i = v1 c i)
          ∧ (∀ i : (⟨2, ![8192, 8192]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))).2.2 i = 1#1 → r.2.mem ((c.tc : Thread Cert.MergeIdeal.nD Cert.MergeIdeal.τ).loc Cert.MergeIdeal.main_v0_2) i = v2 c i)
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          (∀ i : (⟨2, ![8192, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))).1 i = 1#1 → r.2.mem ((c.tc : Thread Cert.MergeRefIdeal.nD Cert.MergeRefIdeal.τ).loc Cert.MergeRefIdeal.main_v37) i = v0 c i)
          ∧ (∀ i : (⟨2, ![8192, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))).2.1 i = 1#1 → r.2.mem ((c.tc : Thread Cert.MergeRefIdeal.nD Cert.MergeRefIdeal.τ).loc Cert.MergeRefIdeal.main_v38) i = v1 c i)
          ∧ (∀ i : (⟨2, ![8192, 8192]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))).2.2 i = 1#1 → r.2.mem ((c.tc : Thread Cert.MergeRefIdeal.nD Cert.MergeRefIdeal.τ).loc Cert.MergeRefIdeal.main_v41) i = v2 c i)
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v6) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_WGate_WGateIdeal : Prop :=
  True

def algebraic_WGateIdeal_WGateRefIdeal [hWGateIdeal : Cert.WGateIdeal.Facts] [hWGateRefIdeal : Cert.WGateRefIdeal.Facts] : Prop :=
  ∀ (m : (ℓ : Loc Cert.WGateIdeal.nD Cert.WGateIdeal.τ Cert.WGateIdeal.sig) → Buf (Elt Ideal) ℓ) (g : Dev Cert.WGateIdeal.nD → PrngReg)
    (m' : (ℓ : Loc Cert.WGateRefIdeal.nD Cert.WGateRefIdeal.τ Cert.WGateRefIdeal.sig) → Buf (Elt Ideal) ℓ) (g' : Dev Cert.WGateRefIdeal.nD → PrngReg), Pre_WGateIdeal m →
    (∀ c : Dev Cert.WGateIdeal.nD,
      m' ((c.tc : Thread Cert.WGateRefIdeal.nD Cert.WGateRefIdeal.τ).loc Cert.WGateRefIdeal.main_arg0) = m ((c.tc : Thread Cert.WGateIdeal.nD Cert.WGateIdeal.τ).loc Cert.WGateIdeal.main_arg0)
      ∧ m' ((c.tc : Thread Cert.WGateRefIdeal.nD Cert.WGateRefIdeal.τ).loc Cert.WGateRefIdeal.main_arg1) = m ((c.tc : Thread Cert.WGateIdeal.nD Cert.WGateIdeal.τ).loc Cert.WGateIdeal.main_arg1)) →
    ∃ (v0 : (c : Dev Cert.WGateIdeal.nD) → Buf (Elt Ideal) ((c.tc : Thread Cert.WGateIdeal.nD Cert.WGateIdeal.τ).loc Cert.WGateIdeal.main_v0)),
      θ_run (Cert.WGateIdeal.defs (F := Ideal)) (onTc (τ := Cert.WGateIdeal.τ) (Cert.WGateIdeal.main (F := Ideal))) ⟨m, fun _ => 0, g⟩ (fun r => ∀ c : Dev Cert.WGateIdeal.nD,
          r.2.mem ((c.tc : Thread Cert.WGateIdeal.nD Cert.WGateIdeal.τ).loc Cert.WGateIdeal.main_v0) = v0 c
          ∧ r.2.mem ((c.tc : Thread Cert.WGateIdeal.nD Cert.WGateIdeal.τ).loc Cert.WGateIdeal.main_arg0) = m ((c.tc : Thread Cert.WGateIdeal.nD Cert.WGateIdeal.τ).loc Cert.WGateIdeal.main_arg0)
          ∧ r.2.mem ((c.tc : Thread Cert.WGateIdeal.nD Cert.WGateIdeal.τ).loc Cert.WGateIdeal.main_arg1) = m ((c.tc : Thread Cert.WGateIdeal.nD Cert.WGateIdeal.τ).loc Cert.WGateIdeal.main_arg1))
      ∧ θ_run (Cert.WGateRefIdeal.defs (F := Ideal)) (onTc (τ := Cert.WGateRefIdeal.τ) (Cert.WGateRefIdeal.main (F := Ideal))) ⟨m', fun _ => 0, g'⟩ (fun r => ∀ c : Dev Cert.WGateRefIdeal.nD,
          r.2.mem ((c.tc : Thread Cert.WGateRefIdeal.nD Cert.WGateRefIdeal.τ).loc Cert.WGateRefIdeal.main_v8) = v0 c
          ∧ r.2.mem ((c.tc : Thread Cert.WGateRefIdeal.nD Cert.WGateRefIdeal.τ).loc Cert.WGateRefIdeal.main_arg0) = m' ((c.tc : Thread Cert.WGateRefIdeal.nD Cert.WGateRefIdeal.τ).loc Cert.WGateRefIdeal.main_arg0)
          ∧ r.2.mem ((c.tc : Thread Cert.WGateRefIdeal.nD Cert.WGateRefIdeal.τ).loc Cert.WGateRefIdeal.main_arg1) = m' ((c.tc : Thread Cert.WGateRefIdeal.nD Cert.WGateRefIdeal.τ).loc Cert.WGateRefIdeal.main_arg1))

def preserves_WDown_WDownIdeal : Prop :=
  True

def algebraic_WDownIdeal_WDownRefIdeal [hWDownIdeal : Cert.WDownIdeal.Facts] [hWDownRefIdeal : Cert.WDownRefIdeal.Facts] : Prop :=
  ∀ (m : (ℓ : Loc Cert.WDownIdeal.nD Cert.WDownIdeal.τ Cert.WDownIdeal.sig) → Buf (Elt Ideal) ℓ) (g : Dev Cert.WDownIdeal.nD → PrngReg)
    (m' : (ℓ : Loc Cert.WDownRefIdeal.nD Cert.WDownRefIdeal.τ Cert.WDownRefIdeal.sig) → Buf (Elt Ideal) ℓ) (g' : Dev Cert.WDownRefIdeal.nD → PrngReg), Pre_WDownIdeal m →
    (∀ c : Dev Cert.WDownIdeal.nD,
      m' ((c.tc : Thread Cert.WDownRefIdeal.nD Cert.WDownRefIdeal.τ).loc Cert.WDownRefIdeal.main_arg0) = m ((c.tc : Thread Cert.WDownIdeal.nD Cert.WDownIdeal.τ).loc Cert.WDownIdeal.main_arg0)
      ∧ m' ((c.tc : Thread Cert.WDownRefIdeal.nD Cert.WDownRefIdeal.τ).loc Cert.WDownRefIdeal.main_arg1) = m ((c.tc : Thread Cert.WDownIdeal.nD Cert.WDownIdeal.τ).loc Cert.WDownIdeal.main_arg1)) →
    ∃ (v0 : (c : Dev Cert.WDownIdeal.nD) → Buf (Elt Ideal) ((c.tc : Thread Cert.WDownIdeal.nD Cert.WDownIdeal.τ).loc Cert.WDownIdeal.main_v0)),
      θ_run (Cert.WDownIdeal.defs (F := Ideal)) (onTc (τ := Cert.WDownIdeal.τ) (Cert.WDownIdeal.main (F := Ideal))) ⟨m, fun _ => 0, g⟩ (fun r => ∀ c : Dev Cert.WDownIdeal.nD,
          r.2.mem ((c.tc : Thread Cert.WDownIdeal.nD Cert.WDownIdeal.τ).loc Cert.WDownIdeal.main_v0) = v0 c
          ∧ r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
          ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ θ_run (Cert.WDownRefIdeal.defs (F := Ideal)) (onTc (τ := Cert.WDownRefIdeal.τ) (Cert.WDownRefIdeal.main (F := Ideal))) ⟨m', fun _ => 0, g'⟩ (fun r => ∀ c : Dev Cert.WDownRefIdeal.nD,
          r.2.mem ((c.tc : Thread Cert.WDownRefIdeal.nD Cert.WDownRefIdeal.τ).loc Cert.WDownRefIdeal.main_v5) = v0 c
          ∧ r.2.mem ((c.tc : Thread Cert.WDownRefIdeal.nD Cert.WDownRefIdeal.τ).loc Cert.WDownRefIdeal.main_arg0) = m' ((c.tc : Thread Cert.WDownRefIdeal.nD Cert.WDownRefIdeal.τ).loc Cert.WDownRefIdeal.main_arg0)
          ∧ r.2.mem ((c.tc : Thread Cert.WDownRefIdeal.nD Cert.WDownRefIdeal.τ).loc Cert.WDownRefIdeal.main_arg1) = m' ((c.tc : Thread Cert.WDownRefIdeal.nD Cert.WDownRefIdeal.τ).loc Cert.WDownRefIdeal.main_arg1))

def preserves_WMerge_WMergeIdeal : Prop :=
  True

def algebraic_WMergeIdeal_WMergeRefIdeal [hWMergeIdeal : Cert.WMergeIdeal.Facts] [hWMergeRefIdeal : Cert.WMergeRefIdeal.Facts] : Prop :=
  ∀ (m : (ℓ : Loc Cert.WMergeIdeal.nD Cert.WMergeIdeal.τ Cert.WMergeIdeal.sig) → Buf (Elt Ideal) ℓ) (g : Dev Cert.WMergeIdeal.nD → PrngReg)
    (m' : (ℓ : Loc Cert.WMergeRefIdeal.nD Cert.WMergeRefIdeal.τ Cert.WMergeRefIdeal.sig) → Buf (Elt Ideal) ℓ) (g' : Dev Cert.WMergeRefIdeal.nD → PrngReg), Pre_WMergeIdeal m →
    (∀ c : Dev Cert.WMergeIdeal.nD,
      m' ((c.tc : Thread Cert.WMergeRefIdeal.nD Cert.WMergeRefIdeal.τ).loc Cert.WMergeRefIdeal.main_arg0) = m ((c.tc : Thread Cert.WMergeIdeal.nD Cert.WMergeIdeal.τ).loc Cert.WMergeIdeal.main_arg0)
      ∧ m' ((c.tc : Thread Cert.WMergeRefIdeal.nD Cert.WMergeRefIdeal.τ).loc Cert.WMergeRefIdeal.main_arg1) = m ((c.tc : Thread Cert.WMergeIdeal.nD Cert.WMergeIdeal.τ).loc Cert.WMergeIdeal.main_arg1)) →
    ∃ (v0 : (c : Dev Cert.WMergeIdeal.nD) → Buf (Elt Ideal) ((c.tc : Thread Cert.WMergeIdeal.nD Cert.WMergeIdeal.τ).loc Cert.WMergeIdeal.main_v0)),
      θ_run (Cert.WMergeIdeal.defs (F := Ideal)) (onTc (τ := Cert.WMergeIdeal.τ) (Cert.WMergeIdeal.main (F := Ideal))) ⟨m, fun _ => 0, g⟩ (fun r => ∀ c : Dev Cert.WMergeIdeal.nD,
          r.2.mem ((c.tc : Thread Cert.WMergeIdeal.nD Cert.WMergeIdeal.τ).loc Cert.WMergeIdeal.main_v0) = v0 c
          ∧ r.2.mem ((c.tc : Thread Cert.WMergeIdeal.nD Cert.WMergeIdeal.τ).loc Cert.WMergeIdeal.main_arg0) = m ((c.tc : Thread Cert.WMergeIdeal.nD Cert.WMergeIdeal.τ).loc Cert.WMergeIdeal.main_arg0)
          ∧ r.2.mem ((c.tc : Thread Cert.WMergeIdeal.nD Cert.WMergeIdeal.τ).loc Cert.WMergeIdeal.main_arg1) = m ((c.tc : Thread Cert.WMergeIdeal.nD Cert.WMergeIdeal.τ).loc Cert.WMergeIdeal.main_arg1))
      ∧ θ_run (Cert.WMergeRefIdeal.defs (F := Ideal)) (onTc (τ := Cert.WMergeRefIdeal.τ) (Cert.WMergeRefIdeal.main (F := Ideal))) ⟨m', fun _ => 0, g'⟩ (fun r => ∀ c : Dev Cert.WMergeRefIdeal.nD,
          r.2.mem ((c.tc : Thread Cert.WMergeRefIdeal.nD Cert.WMergeRefIdeal.τ).loc Cert.WMergeRefIdeal.main_v6) = v0 c
          ∧ r.2.mem ((c.tc : Thread Cert.WMergeRefIdeal.nD Cert.WMergeRefIdeal.τ).loc Cert.WMergeRefIdeal.main_arg0) = m' ((c.tc : Thread Cert.WMergeRefIdeal.nD Cert.WMergeRefIdeal.τ).loc Cert.WMergeRefIdeal.main_arg0)
          ∧ r.2.mem ((c.tc : Thread Cert.WMergeRefIdeal.nD Cert.WMergeRefIdeal.τ).loc Cert.WMergeRefIdeal.main_arg1) = m' ((c.tc : Thread Cert.WMergeRefIdeal.nD Cert.WMergeRefIdeal.τ).loc Cert.WMergeRefIdeal.main_arg1))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v5) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_XIn_XInIdeal : Prop :=
  True

def algebraic_XInIdeal_XInRefIdeal [hXInIdeal : Cert.XInIdeal.Facts] [hXInRefIdeal : Cert.XInRefIdeal.Facts] : Prop :=
  ∀ (m : (ℓ : Loc Cert.XInIdeal.nD Cert.XInIdeal.τ Cert.XInIdeal.sig) → Buf (Elt Ideal) ℓ) (g : Dev Cert.XInIdeal.nD → PrngReg)
    (m' : (ℓ : Loc Cert.XInRefIdeal.nD Cert.XInRefIdeal.τ Cert.XInRefIdeal.sig) → Buf (Elt Ideal) ℓ) (g' : Dev Cert.XInRefIdeal.nD → PrngReg), Pre_XInIdeal m →
    (∀ c : Dev Cert.XInIdeal.nD,
      m' ((c.tc : Thread Cert.XInRefIdeal.nD Cert.XInRefIdeal.τ).loc Cert.XInRefIdeal.main_arg0) = m ((c.tc : Thread Cert.XInIdeal.nD Cert.XInIdeal.τ).loc Cert.XInIdeal.main_arg0)
      ∧ m' ((c.tc : Thread Cert.XInRefIdeal.nD Cert.XInRefIdeal.τ).loc Cert.XInRefIdeal.main_arg1) = m ((c.tc : Thread Cert.XInIdeal.nD Cert.XInIdeal.τ).loc Cert.XInIdeal.main_arg1)
      ∧ m' ((c.tc : Thread Cert.XInRefIdeal.nD Cert.XInRefIdeal.τ).loc Cert.XInRefIdeal.main_arg2) = m ((c.tc : Thread Cert.XInIdeal.nD Cert.XInIdeal.τ).loc Cert.XInIdeal.main_arg2)
      ∧ m' ((c.tc : Thread Cert.XInRefIdeal.nD Cert.XInRefIdeal.τ).loc Cert.XInRefIdeal.main_arg3) = m ((c.tc : Thread Cert.XInIdeal.nD Cert.XInIdeal.τ).loc Cert.XInIdeal.main_arg3)
      ∧ m' ((c.tc : Thread Cert.XInRefIdeal.nD Cert.XInRefIdeal.τ).loc Cert.XInRefIdeal.main_arg4) = m ((c.tc : Thread Cert.XInIdeal.nD Cert.XInIdeal.τ).loc Cert.XInIdeal.main_arg4)) →
    ∃ (v0 : (c : Dev Cert.XInIdeal.nD) → Buf (Elt Ideal) ((c.tc : Thread Cert.XInIdeal.nD Cert.XInIdeal.τ).loc Cert.XInIdeal.main_v0)),
      θ_run (Cert.XInIdeal.defs (F := Ideal)) (onTc (τ := Cert.XInIdeal.τ) (Cert.XInIdeal.main (F := Ideal))) ⟨m, fun _ => 0, g⟩ (fun r => ∀ c : Dev Cert.XInIdeal.nD,
          r.2.mem ((c.tc : Thread Cert.XInIdeal.nD Cert.XInIdeal.τ).loc Cert.XInIdeal.main_v0) = v0 c
          ∧ r.2.mem ((c.tc : Thread Cert.XInIdeal.nD Cert.XInIdeal.τ).loc Cert.XInIdeal.main_arg0) = m ((c.tc : Thread Cert.XInIdeal.nD Cert.XInIdeal.τ).loc Cert.XInIdeal.main_arg0)
          ∧ r.2.mem ((c.tc : Thread Cert.XInIdeal.nD Cert.XInIdeal.τ).loc Cert.XInIdeal.main_arg1) = m ((c.tc : Thread Cert.XInIdeal.nD Cert.XInIdeal.τ).loc Cert.XInIdeal.main_arg1)
          ∧ r.2.mem ((c.tc : Thread Cert.XInIdeal.nD Cert.XInIdeal.τ).loc Cert.XInIdeal.main_arg2) = m ((c.tc : Thread Cert.XInIdeal.nD Cert.XInIdeal.τ).loc Cert.XInIdeal.main_arg2)
          ∧ r.2.mem ((c.tc : Thread Cert.XInIdeal.nD Cert.XInIdeal.τ).loc Cert.XInIdeal.main_arg3) = m ((c.tc : Thread Cert.XInIdeal.nD Cert.XInIdeal.τ).loc Cert.XInIdeal.main_arg3)
          ∧ r.2.mem ((c.tc : Thread Cert.XInIdeal.nD Cert.XInIdeal.τ).loc Cert.XInIdeal.main_arg4) = m ((c.tc : Thread Cert.XInIdeal.nD Cert.XInIdeal.τ).loc Cert.XInIdeal.main_arg4))
      ∧ θ_run (Cert.XInRefIdeal.defs (F := Ideal)) (onTc (τ := Cert.XInRefIdeal.τ) (Cert.XInRefIdeal.main (F := Ideal))) ⟨m', fun _ => 0, g'⟩ (fun r => ∀ c : Dev Cert.XInRefIdeal.nD,
          r.2.mem ((c.tc : Thread Cert.XInRefIdeal.nD Cert.XInRefIdeal.τ).loc Cert.XInRefIdeal.main_v14) = v0 c
          ∧ r.2.mem ((c.tc : Thread Cert.XInRefIdeal.nD Cert.XInRefIdeal.τ).loc Cert.XInRefIdeal.main_arg0) = m' ((c.tc : Thread Cert.XInRefIdeal.nD Cert.XInRefIdeal.τ).loc Cert.XInRefIdeal.main_arg0)
          ∧ r.2.mem ((c.tc : Thread Cert.XInRefIdeal.nD Cert.XInRefIdeal.τ).loc Cert.XInRefIdeal.main_arg1) = m' ((c.tc : Thread Cert.XInRefIdeal.nD Cert.XInRefIdeal.τ).loc Cert.XInRefIdeal.main_arg1)
          ∧ r.2.mem ((c.tc : Thread Cert.XInRefIdeal.nD Cert.XInRefIdeal.τ).loc Cert.XInRefIdeal.main_arg2) = m' ((c.tc : Thread Cert.XInRefIdeal.nD Cert.XInRefIdeal.τ).loc Cert.XInRefIdeal.main_arg2)
          ∧ r.2.mem ((c.tc : Thread Cert.XInRefIdeal.nD Cert.XInRefIdeal.τ).loc Cert.XInRefIdeal.main_arg3) = m' ((c.tc : Thread Cert.XInRefIdeal.nD Cert.XInRefIdeal.τ).loc Cert.XInRefIdeal.main_arg3)
          ∧ r.2.mem ((c.tc : Thread Cert.XInRefIdeal.nD Cert.XInRefIdeal.τ).loc Cert.XInRefIdeal.main_arg4) = m' ((c.tc : Thread Cert.XInRefIdeal.nD Cert.XInRefIdeal.τ).loc Cert.XInRefIdeal.main_arg4))

def preserves_XFfn_XFfnIdeal : Prop :=
  True

def algebraic_XFfnIdeal_XFfnRefIdeal [hXFfnIdeal : Cert.XFfnIdeal.Facts] [hXFfnRefIdeal : Cert.XFfnRefIdeal.Facts] : Prop :=
  ∀ (m : (ℓ : Loc Cert.XFfnIdeal.nD Cert.XFfnIdeal.τ Cert.XFfnIdeal.sig) → Buf (Elt Ideal) ℓ) (g : Dev Cert.XFfnIdeal.nD → PrngReg)
    (m' : (ℓ : Loc Cert.XFfnRefIdeal.nD Cert.XFfnRefIdeal.τ Cert.XFfnRefIdeal.sig) → Buf (Elt Ideal) ℓ) (g' : Dev Cert.XFfnRefIdeal.nD → PrngReg), Pre_XFfnIdeal m →
    (∀ c : Dev Cert.XFfnIdeal.nD,
      m' ((c.tc : Thread Cert.XFfnRefIdeal.nD Cert.XFfnRefIdeal.τ).loc Cert.XFfnRefIdeal.main_arg0) = m ((c.tc : Thread Cert.XFfnIdeal.nD Cert.XFfnIdeal.τ).loc Cert.XFfnIdeal.main_arg0)
      ∧ m' ((c.tc : Thread Cert.XFfnRefIdeal.nD Cert.XFfnRefIdeal.τ).loc Cert.XFfnRefIdeal.main_arg1) = m ((c.tc : Thread Cert.XFfnIdeal.nD Cert.XFfnIdeal.τ).loc Cert.XFfnIdeal.main_arg1)
      ∧ m' ((c.tc : Thread Cert.XFfnRefIdeal.nD Cert.XFfnRefIdeal.τ).loc Cert.XFfnRefIdeal.main_arg2) = m ((c.tc : Thread Cert.XFfnIdeal.nD Cert.XFfnIdeal.τ).loc Cert.XFfnIdeal.main_arg2)
      ∧ m' ((c.tc : Thread Cert.XFfnRefIdeal.nD Cert.XFfnRefIdeal.τ).loc Cert.XFfnRefIdeal.main_arg3) = m ((c.tc : Thread Cert.XFfnIdeal.nD Cert.XFfnIdeal.τ).loc Cert.XFfnIdeal.main_arg3)
      ∧ m' ((c.tc : Thread Cert.XFfnRefIdeal.nD Cert.XFfnRefIdeal.τ).loc Cert.XFfnRefIdeal.main_arg4) = m ((c.tc : Thread Cert.XFfnIdeal.nD Cert.XFfnIdeal.τ).loc Cert.XFfnIdeal.main_arg4)) →
    ∃ (v0 : (c : Dev Cert.XFfnIdeal.nD) → Buf (Elt Ideal) ((c.tc : Thread Cert.XFfnIdeal.nD Cert.XFfnIdeal.τ).loc Cert.XFfnIdeal.main_v0)),
      θ_run (Cert.XFfnIdeal.defs (F := Ideal)) (onTc (τ := Cert.XFfnIdeal.τ) (Cert.XFfnIdeal.main (F := Ideal))) ⟨m, fun _ => 0, g⟩ (fun r => ∀ c : Dev Cert.XFfnIdeal.nD,
          r.2.mem ((c.tc : Thread Cert.XFfnIdeal.nD Cert.XFfnIdeal.τ).loc Cert.XFfnIdeal.main_v0) = v0 c
          ∧ r.2.mem ((c.tc : Thread Cert.XFfnIdeal.nD Cert.XFfnIdeal.τ).loc Cert.XFfnIdeal.main_arg0) = m ((c.tc : Thread Cert.XFfnIdeal.nD Cert.XFfnIdeal.τ).loc Cert.XFfnIdeal.main_arg0)
          ∧ r.2.mem ((c.tc : Thread Cert.XFfnIdeal.nD Cert.XFfnIdeal.τ).loc Cert.XFfnIdeal.main_arg1) = m ((c.tc : Thread Cert.XFfnIdeal.nD Cert.XFfnIdeal.τ).loc Cert.XFfnIdeal.main_arg1)
          ∧ r.2.mem ((c.tc : Thread Cert.XFfnIdeal.nD Cert.XFfnIdeal.τ).loc Cert.XFfnIdeal.main_arg2) = m ((c.tc : Thread Cert.XFfnIdeal.nD Cert.XFfnIdeal.τ).loc Cert.XFfnIdeal.main_arg2)
          ∧ r.2.mem ((c.tc : Thread Cert.XFfnIdeal.nD Cert.XFfnIdeal.τ).loc Cert.XFfnIdeal.main_arg3) = m ((c.tc : Thread Cert.XFfnIdeal.nD Cert.XFfnIdeal.τ).loc Cert.XFfnIdeal.main_arg3)
          ∧ r.2.mem ((c.tc : Thread Cert.XFfnIdeal.nD Cert.XFfnIdeal.τ).loc Cert.XFfnIdeal.main_arg4) = m ((c.tc : Thread Cert.XFfnIdeal.nD Cert.XFfnIdeal.τ).loc Cert.XFfnIdeal.main_arg4))
      ∧ θ_run (Cert.XFfnRefIdeal.defs (F := Ideal)) (onTc (τ := Cert.XFfnRefIdeal.τ) (Cert.XFfnRefIdeal.main (F := Ideal))) ⟨m', fun _ => 0, g'⟩ (fun r => ∀ c : Dev Cert.XFfnRefIdeal.nD,
          r.2.mem ((c.tc : Thread Cert.XFfnRefIdeal.nD Cert.XFfnRefIdeal.τ).loc Cert.XFfnRefIdeal.main_v16) = v0 c
          ∧ r.2.mem ((c.tc : Thread Cert.XFfnRefIdeal.nD Cert.XFfnRefIdeal.τ).loc Cert.XFfnRefIdeal.main_arg0) = m' ((c.tc : Thread Cert.XFfnRefIdeal.nD Cert.XFfnRefIdeal.τ).loc Cert.XFfnRefIdeal.main_arg0)
          ∧ r.2.mem ((c.tc : Thread Cert.XFfnRefIdeal.nD Cert.XFfnRefIdeal.τ).loc Cert.XFfnRefIdeal.main_arg1) = m' ((c.tc : Thread Cert.XFfnRefIdeal.nD Cert.XFfnRefIdeal.τ).loc Cert.XFfnRefIdeal.main_arg1)
          ∧ r.2.mem ((c.tc : Thread Cert.XFfnRefIdeal.nD Cert.XFfnRefIdeal.τ).loc Cert.XFfnRefIdeal.main_arg2) = m' ((c.tc : Thread Cert.XFfnRefIdeal.nD Cert.XFfnRefIdeal.τ).loc Cert.XFfnRefIdeal.main_arg2)
          ∧ r.2.mem ((c.tc : Thread Cert.XFfnRefIdeal.nD Cert.XFfnRefIdeal.τ).loc Cert.XFfnRefIdeal.main_arg3) = m' ((c.tc : Thread Cert.XFfnRefIdeal.nD Cert.XFfnRefIdeal.τ).loc Cert.XFfnRefIdeal.main_arg3)
          ∧ r.2.mem ((c.tc : Thread Cert.XFfnRefIdeal.nD Cert.XFfnRefIdeal.τ).loc Cert.XFfnRefIdeal.main_arg4) = m' ((c.tc : Thread Cert.XFfnRefIdeal.nD Cert.XFfnRefIdeal.τ).loc Cert.XFfnRefIdeal.main_arg4))

def preserves_LnBwd_LnBwdIdeal : Prop :=
  True

def algebraic_LnBwdIdeal_LnBwdRefIdeal_pre_finite_ln [hLnBwdIdeal : Cert.LnBwdIdeal.Facts] [hLnBwdRefIdeal : Cert.LnBwdRefIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite_ln m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v0_1)) (v2 : (c : Dev Cert.LnBwdIdeal.nD) → Buf (Elt Ideal) ((c.tc : Thread Cert.LnBwdIdeal.nD Cert.LnBwdIdeal.τ).loc Cert.LnBwdIdeal.main_v0_2)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v0_1) = v1 c
          ∧ r.2.mem ((c.tc : Thread Cert.LnBwdIdeal.nD Cert.LnBwdIdeal.τ).loc Cert.LnBwdIdeal.main_v0_2) = v2 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v64) = v0 c
          ∧ r.2.mem ((c.tc : Thread Cert.LnBwdRefIdeal.nD Cert.LnBwdRefIdeal.τ).loc Cert.LnBwdRefIdeal.main_v66) = v1 c
          ∧ r.2.mem ((c.tc : Thread Cert.LnBwdRefIdeal.nD Cert.LnBwdRefIdeal.τ).loc Cert.LnBwdRefIdeal.main_v68) = v2 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3))

def preserves_LossLn_LossLnIdeal : Prop :=
  True

def algebraic_LossLnIdeal_LossLnRefIdeal_pre_finite_loss [hLossLnIdeal : Cert.LossLnIdeal.Facts] [hLossLnRefIdeal : Cert.LossLnRefIdeal.Facts] [hPre_finite_loss : Cert.Pre_finite_loss.Facts] : Prop :=
  ∀ (m : (ℓ : Loc Cert.LossLnIdeal.nD Cert.LossLnIdeal.τ Cert.LossLnIdeal.sig) → Buf (Elt Ideal) ℓ) (g : Dev Cert.LossLnIdeal.nD → PrngReg)
    (m' : (ℓ : Loc Cert.LossLnRefIdeal.nD Cert.LossLnRefIdeal.τ Cert.LossLnRefIdeal.sig) → Buf (Elt Ideal) ℓ) (g' : Dev Cert.LossLnRefIdeal.nD → PrngReg), Pre_LossLnIdeal_finite_loss m →
    (∀ c : Dev Cert.LossLnIdeal.nD,
      m' ((c.tc : Thread Cert.LossLnRefIdeal.nD Cert.LossLnRefIdeal.τ).loc Cert.LossLnRefIdeal.main_arg0) = m ((c.tc : Thread Cert.LossLnIdeal.nD Cert.LossLnIdeal.τ).loc Cert.LossLnIdeal.main_arg0)
      ∧ m' ((c.tc : Thread Cert.LossLnRefIdeal.nD Cert.LossLnRefIdeal.τ).loc Cert.LossLnRefIdeal.main_arg1) = m ((c.tc : Thread Cert.LossLnIdeal.nD Cert.LossLnIdeal.τ).loc Cert.LossLnIdeal.main_arg1)
      ∧ m' ((c.tc : Thread Cert.LossLnRefIdeal.nD Cert.LossLnRefIdeal.τ).loc Cert.LossLnRefIdeal.main_arg2) = m ((c.tc : Thread Cert.LossLnIdeal.nD Cert.LossLnIdeal.τ).loc Cert.LossLnIdeal.main_arg2)
      ∧ m' ((c.tc : Thread Cert.LossLnRefIdeal.nD Cert.LossLnRefIdeal.τ).loc Cert.LossLnRefIdeal.main_arg3) = m ((c.tc : Thread Cert.LossLnIdeal.nD Cert.LossLnIdeal.τ).loc Cert.LossLnIdeal.main_arg3)
      ∧ m' ((c.tc : Thread Cert.LossLnRefIdeal.nD Cert.LossLnRefIdeal.τ).loc Cert.LossLnRefIdeal.main_arg4) = m ((c.tc : Thread Cert.LossLnIdeal.nD Cert.LossLnIdeal.τ).loc Cert.LossLnIdeal.main_arg4)) →
    ∃ (v0 : (c : Dev Cert.LossLnIdeal.nD) → Buf (Elt Ideal) ((c.tc : Thread Cert.LossLnIdeal.nD Cert.LossLnIdeal.τ).loc Cert.LossLnIdeal.main_v0_0)) (v1 : (c : Dev Cert.LossLnIdeal.nD) → Buf (Elt Ideal) ((c.tc : Thread Cert.LossLnIdeal.nD Cert.LossLnIdeal.τ).loc Cert.LossLnIdeal.main_v0_1)) (v2 : (c : Dev Cert.LossLnIdeal.nD) → Buf (Elt Ideal) ((c.tc : Thread Cert.LossLnIdeal.nD Cert.LossLnIdeal.τ).loc Cert.LossLnIdeal.main_v0_2)) (v3 : (c : Dev Cert.LossLnIdeal.nD) → Buf (Elt Ideal) ((c.tc : Thread Cert.LossLnIdeal.nD Cert.LossLnIdeal.τ).loc Cert.LossLnIdeal.main_v0_3)),
      θ_run (Cert.LossLnIdeal.defs (F := Ideal)) (onTc (τ := Cert.LossLnIdeal.τ) (Cert.LossLnIdeal.main (F := Ideal))) ⟨m, fun _ => 0, g⟩ (fun r => ∀ c : Dev Cert.LossLnIdeal.nD,
          r.2.mem ((c.tc : Thread Cert.LossLnIdeal.nD Cert.LossLnIdeal.τ).loc Cert.LossLnIdeal.main_v0_0) = v0 c
          ∧ r.2.mem ((c.tc : Thread Cert.LossLnIdeal.nD Cert.LossLnIdeal.τ).loc Cert.LossLnIdeal.main_v0_1) = v1 c
          ∧ r.2.mem ((c.tc : Thread Cert.LossLnIdeal.nD Cert.LossLnIdeal.τ).loc Cert.LossLnIdeal.main_v0_2) = v2 c
          ∧ r.2.mem ((c.tc : Thread Cert.LossLnIdeal.nD Cert.LossLnIdeal.τ).loc Cert.LossLnIdeal.main_v0_3) = v3 c
          ∧ r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
          ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
          ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
          ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3)
          ∧ r.2.mem ((c.tc : Thread Cert.LossLnIdeal.nD Cert.LossLnIdeal.τ).loc Cert.LossLnIdeal.main_arg4) = m ((c.tc : Thread Cert.LossLnIdeal.nD Cert.LossLnIdeal.τ).loc Cert.LossLnIdeal.main_arg4))
      ∧ θ_run (Cert.LossLnRefIdeal.defs (F := Ideal)) (onTc (τ := Cert.LossLnRefIdeal.τ) (Cert.LossLnRefIdeal.main (F := Ideal))) ⟨m', fun _ => 0, g'⟩ (fun r => ∀ c : Dev Cert.LossLnRefIdeal.nD,
          r.2.mem ((c.tc : Thread Cert.LossLnRefIdeal.nD Cert.LossLnRefIdeal.τ).loc Cert.LossLnRefIdeal.main_v79) = v0 c
          ∧ r.2.mem ((c.tc : Thread Cert.LossLnRefIdeal.nD Cert.LossLnRefIdeal.τ).loc Cert.LossLnRefIdeal.main_v81) = v1 c
          ∧ r.2.mem ((c.tc : Thread Cert.LossLnRefIdeal.nD Cert.LossLnRefIdeal.τ).loc Cert.LossLnRefIdeal.main_v83) = v2 c
          ∧ r.2.mem ((c.tc : Thread Cert.LossLnRefIdeal.nD Cert.LossLnRefIdeal.τ).loc Cert.LossLnRefIdeal.main_v84) = v3 c
          ∧ r.2.mem ((c.tc : Thread Cert.LossLnRefIdeal.nD Cert.LossLnRefIdeal.τ).loc Cert.LossLnRefIdeal.main_arg0) = m' ((c.tc : Thread Cert.LossLnRefIdeal.nD Cert.LossLnRefIdeal.τ).loc Cert.LossLnRefIdeal.main_arg0)
          ∧ r.2.mem ((c.tc : Thread Cert.LossLnRefIdeal.nD Cert.LossLnRefIdeal.τ).loc Cert.LossLnRefIdeal.main_arg1) = m' ((c.tc : Thread Cert.LossLnRefIdeal.nD Cert.LossLnRefIdeal.τ).loc Cert.LossLnRefIdeal.main_arg1)
          ∧ r.2.mem ((c.tc : Thread Cert.LossLnRefIdeal.nD Cert.LossLnRefIdeal.τ).loc Cert.LossLnRefIdeal.main_arg2) = m' ((c.tc : Thread Cert.LossLnRefIdeal.nD Cert.LossLnRefIdeal.τ).loc Cert.LossLnRefIdeal.main_arg2)
          ∧ r.2.mem ((c.tc : Thread Cert.LossLnRefIdeal.nD Cert.LossLnRefIdeal.τ).loc Cert.LossLnRefIdeal.main_arg3) = m' ((c.tc : Thread Cert.LossLnRefIdeal.nD Cert.LossLnRefIdeal.τ).loc Cert.LossLnRefIdeal.main_arg3)
          ∧ r.2.mem ((c.tc : Thread Cert.LossLnRefIdeal.nD Cert.LossLnRefIdeal.τ).loc Cert.LossLnRefIdeal.main_arg4) = m' ((c.tc : Thread Cert.LossLnRefIdeal.nD Cert.LossLnRefIdeal.τ).loc Cert.LossLnRefIdeal.main_arg4))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v0)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0) = v0 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v53) = v0 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_QkvPrep_QkvPrepIdeal : Prop :=
  True

def algebraic_QkvPrepIdeal_QkvPrepRefIdeal [hQkvPrepIdeal : Cert.QkvPrepIdeal.Facts] [hQkvPrepRefIdeal : Cert.QkvPrepRefIdeal.Facts] : Prop :=
  ∀ (m : (ℓ : Loc Cert.QkvPrepIdeal.nD Cert.QkvPrepIdeal.τ Cert.QkvPrepIdeal.sig) → Buf (Elt Ideal) ℓ) (g : Dev Cert.QkvPrepIdeal.nD → PrngReg)
    (m' : (ℓ : Loc Cert.QkvPrepRefIdeal.nD Cert.QkvPrepRefIdeal.τ Cert.QkvPrepRefIdeal.sig) → Buf (Elt Ideal) ℓ) (g' : Dev Cert.QkvPrepRefIdeal.nD → PrngReg), Pre_QkvPrepIdeal m →
    (∀ c : Dev Cert.QkvPrepIdeal.nD,
      m' ((c.tc : Thread Cert.QkvPrepRefIdeal.nD Cert.QkvPrepRefIdeal.τ).loc Cert.QkvPrepRefIdeal.main_arg0) = m ((c.tc : Thread Cert.QkvPrepIdeal.nD Cert.QkvPrepIdeal.τ).loc Cert.QkvPrepIdeal.main_arg0)
      ∧ m' ((c.tc : Thread Cert.QkvPrepRefIdeal.nD Cert.QkvPrepRefIdeal.τ).loc Cert.QkvPrepRefIdeal.main_arg1) = m ((c.tc : Thread Cert.QkvPrepIdeal.nD Cert.QkvPrepIdeal.τ).loc Cert.QkvPrepIdeal.main_arg1)
      ∧ m' ((c.tc : Thread Cert.QkvPrepRefIdeal.nD Cert.QkvPrepRefIdeal.τ).loc Cert.QkvPrepRefIdeal.main_arg2) = m ((c.tc : Thread Cert.QkvPrepIdeal.nD Cert.QkvPrepIdeal.τ).loc Cert.QkvPrepIdeal.main_arg2)
      ∧ m' ((c.tc : Thread Cert.QkvPrepRefIdeal.nD Cert.QkvPrepRefIdeal.τ).loc Cert.QkvPrepRefIdeal.main_arg3) = m ((c.tc : Thread Cert.QkvPrepIdeal.nD Cert.QkvPrepIdeal.τ).loc Cert.QkvPrepIdeal.main_arg3)
      ∧ m' ((c.tc : Thread Cert.QkvPrepRefIdeal.nD Cert.QkvPrepRefIdeal.τ).loc Cert.QkvPrepRefIdeal.main_arg4) = m ((c.tc : Thread Cert.QkvPrepIdeal.nD Cert.QkvPrepIdeal.τ).loc Cert.QkvPrepIdeal.main_arg4)
      ∧ m' ((c.tc : Thread Cert.QkvPrepRefIdeal.nD Cert.QkvPrepRefIdeal.τ).loc Cert.QkvPrepRefIdeal.main_arg5) = m ((c.tc : Thread Cert.QkvPrepIdeal.nD Cert.QkvPrepIdeal.τ).loc Cert.QkvPrepIdeal.main_arg5)) →
    ∃ (v0 : (c : Dev Cert.QkvPrepIdeal.nD) → Buf (Elt Ideal) ((c.tc : Thread Cert.QkvPrepIdeal.nD Cert.QkvPrepIdeal.τ).loc Cert.QkvPrepIdeal.main_v0_0)) (v1 : (c : Dev Cert.QkvPrepIdeal.nD) → Buf (Elt Ideal) ((c.tc : Thread Cert.QkvPrepIdeal.nD Cert.QkvPrepIdeal.τ).loc Cert.QkvPrepIdeal.main_v0_1)) (v2 : (c : Dev Cert.QkvPrepIdeal.nD) → Buf (Elt Ideal) ((c.tc : Thread Cert.QkvPrepIdeal.nD Cert.QkvPrepIdeal.τ).loc Cert.QkvPrepIdeal.main_v0_2)) (v3 : (c : Dev Cert.QkvPrepIdeal.nD) → Buf (Elt Ideal) ((c.tc : Thread Cert.QkvPrepIdeal.nD Cert.QkvPrepIdeal.τ).loc Cert.QkvPrepIdeal.main_v0_3)) (v4 : (c : Dev Cert.QkvPrepIdeal.nD) → Buf (Elt Ideal) ((c.tc : Thread Cert.QkvPrepIdeal.nD Cert.QkvPrepIdeal.τ).loc Cert.QkvPrepIdeal.main_v0_4)) (v5 : (c : Dev Cert.QkvPrepIdeal.nD) → Buf (Elt Ideal) ((c.tc : Thread Cert.QkvPrepIdeal.nD Cert.QkvPrepIdeal.τ).loc Cert.QkvPrepIdeal.main_v0_5)),
      θ_run (Cert.QkvPrepIdeal.defs (F := Ideal)) (onTc (τ := Cert.QkvPrepIdeal.τ) (Cert.QkvPrepIdeal.main (F := Ideal))) ⟨m, fun _ => 0, g⟩ (fun r => ∀ c : Dev Cert.QkvPrepIdeal.nD,
          r.2.mem ((c.tc : Thread Cert.QkvPrepIdeal.nD Cert.QkvPrepIdeal.τ).loc Cert.QkvPrepIdeal.main_v0_0) = v0 c
          ∧ r.2.mem ((c.tc : Thread Cert.QkvPrepIdeal.nD Cert.QkvPrepIdeal.τ).loc Cert.QkvPrepIdeal.main_v0_1) = v1 c
          ∧ r.2.mem ((c.tc : Thread Cert.QkvPrepIdeal.nD Cert.QkvPrepIdeal.τ).loc Cert.QkvPrepIdeal.main_v0_2) = v2 c
          ∧ r.2.mem ((c.tc : Thread Cert.QkvPrepIdeal.nD Cert.QkvPrepIdeal.τ).loc Cert.QkvPrepIdeal.main_v0_3) = v3 c
          ∧ r.2.mem ((c.tc : Thread Cert.QkvPrepIdeal.nD Cert.QkvPrepIdeal.τ).loc Cert.QkvPrepIdeal.main_v0_4) = v4 c
          ∧ r.2.mem ((c.tc : Thread Cert.QkvPrepIdeal.nD Cert.QkvPrepIdeal.τ).loc Cert.QkvPrepIdeal.main_v0_5) = v5 c
          ∧ r.2.mem ((c.tc : Thread Cert.QkvPrepIdeal.nD Cert.QkvPrepIdeal.τ).loc Cert.QkvPrepIdeal.main_arg0) = m ((c.tc : Thread Cert.QkvPrepIdeal.nD Cert.QkvPrepIdeal.τ).loc Cert.QkvPrepIdeal.main_arg0)
          ∧ r.2.mem ((c.tc : Thread Cert.QkvPrepIdeal.nD Cert.QkvPrepIdeal.τ).loc Cert.QkvPrepIdeal.main_arg1) = m ((c.tc : Thread Cert.QkvPrepIdeal.nD Cert.QkvPrepIdeal.τ).loc Cert.QkvPrepIdeal.main_arg1)
          ∧ r.2.mem ((c.tc : Thread Cert.QkvPrepIdeal.nD Cert.QkvPrepIdeal.τ).loc Cert.QkvPrepIdeal.main_arg2) = m ((c.tc : Thread Cert.QkvPrepIdeal.nD Cert.QkvPrepIdeal.τ).loc Cert.QkvPrepIdeal.main_arg2)
          ∧ r.2.mem ((c.tc : Thread Cert.QkvPrepIdeal.nD Cert.QkvPrepIdeal.τ).loc Cert.QkvPrepIdeal.main_arg3) = m ((c.tc : Thread Cert.QkvPrepIdeal.nD Cert.QkvPrepIdeal.τ).loc Cert.QkvPrepIdeal.main_arg3)
          ∧ r.2.mem ((c.tc : Thread Cert.QkvPrepIdeal.nD Cert.QkvPrepIdeal.τ).loc Cert.QkvPrepIdeal.main_arg4) = m ((c.tc : Thread Cert.QkvPrepIdeal.nD Cert.QkvPrepIdeal.τ).loc Cert.QkvPrepIdeal.main_arg4)
          ∧ r.2.mem ((c.tc : Thread Cert.QkvPrepIdeal.nD Cert.QkvPrepIdeal.τ).loc Cert.QkvPrepIdeal.main_arg5) = m ((c.tc : Thread Cert.QkvPrepIdeal.nD Cert.QkvPrepIdeal.τ).loc Cert.QkvPrepIdeal.main_arg5))
      ∧ θ_run (Cert.QkvPrepRefIdeal.defs (F := Ideal)) (onTc (τ := Cert.QkvPrepRefIdeal.τ) (Cert.QkvPrepRefIdeal.main (F := Ideal))) ⟨m', fun _ => 0, g'⟩ (fun r => ∀ c : Dev Cert.QkvPrepRefIdeal.nD,
          r.2.mem ((c.tc : Thread Cert.QkvPrepRefIdeal.nD Cert.QkvPrepRefIdeal.τ).loc Cert.QkvPrepRefIdeal.main_v42) = v0 c
          ∧ r.2.mem ((c.tc : Thread Cert.QkvPrepRefIdeal.nD Cert.QkvPrepRefIdeal.τ).loc Cert.QkvPrepRefIdeal.main_v53) = v1 c
          ∧ r.2.mem ((c.tc : Thread Cert.QkvPrepRefIdeal.nD Cert.QkvPrepRefIdeal.τ).loc Cert.QkvPrepRefIdeal.main_v80) = v2 c
          ∧ r.2.mem ((c.tc : Thread Cert.QkvPrepRefIdeal.nD Cert.QkvPrepRefIdeal.τ).loc Cert.QkvPrepRefIdeal.main_v79) = v3 c
          ∧ r.2.mem ((c.tc : Thread Cert.QkvPrepRefIdeal.nD Cert.QkvPrepRefIdeal.τ).loc Cert.QkvPrepRefIdeal.main_v30) = v4 c
          ∧ r.2.mem ((c.tc : Thread Cert.QkvPrepRefIdeal.nD Cert.QkvPrepRefIdeal.τ).loc Cert.QkvPrepRefIdeal.main_v56) = v5 c
          ∧ r.2.mem ((c.tc : Thread Cert.QkvPrepRefIdeal.nD Cert.QkvPrepRefIdeal.τ).loc Cert.QkvPrepRefIdeal.main_arg0) = m' ((c.tc : Thread Cert.QkvPrepRefIdeal.nD Cert.QkvPrepRefIdeal.τ).loc Cert.QkvPrepRefIdeal.main_arg0)
          ∧ r.2.mem ((c.tc : Thread Cert.QkvPrepRefIdeal.nD Cert.QkvPrepRefIdeal.τ).loc Cert.QkvPrepRefIdeal.main_arg1) = m' ((c.tc : Thread Cert.QkvPrepRefIdeal.nD Cert.QkvPrepRefIdeal.τ).loc Cert.QkvPrepRefIdeal.main_arg1)
          ∧ r.2.mem ((c.tc : Thread Cert.QkvPrepRefIdeal.nD Cert.QkvPrepRefIdeal.τ).loc Cert.QkvPrepRefIdeal.main_arg2) = m' ((c.tc : Thread Cert.QkvPrepRefIdeal.nD Cert.QkvPrepRefIdeal.τ).loc Cert.QkvPrepRefIdeal.main_arg2)
          ∧ r.2.mem ((c.tc : Thread Cert.QkvPrepRefIdeal.nD Cert.QkvPrepRefIdeal.τ).loc Cert.QkvPrepRefIdeal.main_arg3) = m' ((c.tc : Thread Cert.QkvPrepRefIdeal.nD Cert.QkvPrepRefIdeal.τ).loc Cert.QkvPrepRefIdeal.main_arg3)
          ∧ r.2.mem ((c.tc : Thread Cert.QkvPrepRefIdeal.nD Cert.QkvPrepRefIdeal.τ).loc Cert.QkvPrepRefIdeal.main_arg4) = m' ((c.tc : Thread Cert.QkvPrepRefIdeal.nD Cert.QkvPrepRefIdeal.τ).loc Cert.QkvPrepRefIdeal.main_arg4)
          ∧ r.2.mem ((c.tc : Thread Cert.QkvPrepRefIdeal.nD Cert.QkvPrepRefIdeal.τ).loc Cert.QkvPrepRefIdeal.main_arg5) = m' ((c.tc : Thread Cert.QkvPrepRefIdeal.nD Cert.QkvPrepRefIdeal.τ).loc Cert.QkvPrepRefIdeal.main_arg5))

def preserves_InQkv_InQkvIdeal : Prop :=
  True

def algebraic_InQkvIdeal_InQkvRefIdeal [hInQkvIdeal : Cert.InQkvIdeal.Facts] [hInQkvRefIdeal : Cert.InQkvRefIdeal.Facts] : Prop :=
  ∀ (m : (ℓ : Loc Cert.InQkvIdeal.nD Cert.InQkvIdeal.τ Cert.InQkvIdeal.sig) → Buf (Elt Ideal) ℓ) (g : Dev Cert.InQkvIdeal.nD → PrngReg)
    (m' : (ℓ : Loc Cert.InQkvRefIdeal.nD Cert.InQkvRefIdeal.τ Cert.InQkvRefIdeal.sig) → Buf (Elt Ideal) ℓ) (g' : Dev Cert.InQkvRefIdeal.nD → PrngReg), Pre_InQkvIdeal m →
    (∀ c : Dev Cert.InQkvIdeal.nD,
      m' ((c.tc : Thread Cert.InQkvRefIdeal.nD Cert.InQkvRefIdeal.τ).loc Cert.InQkvRefIdeal.main_arg0) = m ((c.tc : Thread Cert.InQkvIdeal.nD Cert.InQkvIdeal.τ).loc Cert.InQkvIdeal.main_arg0)
      ∧ m' ((c.tc : Thread Cert.InQkvRefIdeal.nD Cert.InQkvRefIdeal.τ).loc Cert.InQkvRefIdeal.main_arg1) = m ((c.tc : Thread Cert.InQkvIdeal.nD Cert.InQkvIdeal.τ).loc Cert.InQkvIdeal.main_arg1)) →
    ∃ (v0 : (c : Dev Cert.InQkvIdeal.nD) → Buf (Elt Ideal) ((c.tc : Thread Cert.InQkvIdeal.nD Cert.InQkvIdeal.τ).loc Cert.InQkvIdeal.main_v0)),
      θ_run (Cert.InQkvIdeal.defs (F := Ideal)) (onTc (τ := Cert.InQkvIdeal.τ) (Cert.InQkvIdeal.main (F := Ideal))) ⟨m, fun _ => 0, g⟩ (fun r => ∀ c : Dev Cert.InQkvIdeal.nD,
          r.2.mem ((c.tc : Thread Cert.InQkvIdeal.nD Cert.InQkvIdeal.τ).loc Cert.InQkvIdeal.main_v0) = v0 c
          ∧ r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
          ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ θ_run (Cert.InQkvRefIdeal.defs (F := Ideal)) (onTc (τ := Cert.InQkvRefIdeal.τ) (Cert.InQkvRefIdeal.main (F := Ideal))) ⟨m', fun _ => 0, g'⟩ (fun r => ∀ c : Dev Cert.InQkvRefIdeal.nD,
          r.2.mem ((c.tc : Thread Cert.InQkvRefIdeal.nD Cert.InQkvRefIdeal.τ).loc Cert.InQkvRefIdeal.main_v3) = v0 c
          ∧ r.2.mem ((c.tc : Thread Cert.InQkvRefIdeal.nD Cert.InQkvRefIdeal.τ).loc Cert.InQkvRefIdeal.main_arg0) = m' ((c.tc : Thread Cert.InQkvRefIdeal.nD Cert.InQkvRefIdeal.τ).loc Cert.InQkvRefIdeal.main_arg0)
          ∧ r.2.mem ((c.tc : Thread Cert.InQkvRefIdeal.nD Cert.InQkvRefIdeal.τ).loc Cert.InQkvRefIdeal.main_arg1) = m' ((c.tc : Thread Cert.InQkvRefIdeal.nD Cert.InQkvRefIdeal.τ).loc Cert.InQkvRefIdeal.main_arg1))

def preserves_InRest_InRestIdeal : Prop :=
  True

def algebraic_InRestIdeal_InRestRefIdeal [hInRestIdeal : Cert.InRestIdeal.Facts] [hInRestRefIdeal : Cert.InRestRefIdeal.Facts] : Prop :=
  ∀ (m : (ℓ : Loc Cert.InRestIdeal.nD Cert.InRestIdeal.τ Cert.InRestIdeal.sig) → Buf (Elt Ideal) ℓ) (g : Dev Cert.InRestIdeal.nD → PrngReg)
    (m' : (ℓ : Loc Cert.InRestRefIdeal.nD Cert.InRestRefIdeal.τ Cert.InRestRefIdeal.sig) → Buf (Elt Ideal) ℓ) (g' : Dev Cert.InRestRefIdeal.nD → PrngReg), Pre_InRestIdeal m →
    (∀ c : Dev Cert.InRestIdeal.nD,
      m' ((c.tc : Thread Cert.InRestRefIdeal.nD Cert.InRestRefIdeal.τ).loc Cert.InRestRefIdeal.main_arg0) = m ((c.tc : Thread Cert.InRestIdeal.nD Cert.InRestIdeal.τ).loc Cert.InRestIdeal.main_arg0)
      ∧ m' ((c.tc : Thread Cert.InRestRefIdeal.nD Cert.InRestRefIdeal.τ).loc Cert.InRestRefIdeal.main_arg1) = m ((c.tc : Thread Cert.InRestIdeal.nD Cert.InRestIdeal.τ).loc Cert.InRestIdeal.main_arg1)) →
    ∃ (v0 : (c : Dev Cert.InRestIdeal.nD) → Buf (Elt Ideal) ((c.tc : Thread Cert.InRestIdeal.nD Cert.InRestIdeal.τ).loc Cert.InRestIdeal.main_v0)),
      θ_run (Cert.InRestIdeal.defs (F := Ideal)) (onTc (τ := Cert.InRestIdeal.τ) (Cert.InRestIdeal.main (F := Ideal))) ⟨m, fun _ => 0, g⟩ (fun r => ∀ c : Dev Cert.InRestIdeal.nD,
          r.2.mem ((c.tc : Thread Cert.InRestIdeal.nD Cert.InRestIdeal.τ).loc Cert.InRestIdeal.main_v0) = v0 c
          ∧ r.2.mem ((c.tc : Thread Cert.InRestIdeal.nD Cert.InRestIdeal.τ).loc Cert.InRestIdeal.main_arg0) = m ((c.tc : Thread Cert.InRestIdeal.nD Cert.InRestIdeal.τ).loc Cert.InRestIdeal.main_arg0)
          ∧ r.2.mem ((c.tc : Thread Cert.InRestIdeal.nD Cert.InRestIdeal.τ).loc Cert.InRestIdeal.main_arg1) = m ((c.tc : Thread Cert.InRestIdeal.nD Cert.InRestIdeal.τ).loc Cert.InRestIdeal.main_arg1))
      ∧ θ_run (Cert.InRestRefIdeal.defs (F := Ideal)) (onTc (τ := Cert.InRestRefIdeal.τ) (Cert.InRestRefIdeal.main (F := Ideal))) ⟨m', fun _ => 0, g'⟩ (fun r => ∀ c : Dev Cert.InRestRefIdeal.nD,
          r.2.mem ((c.tc : Thread Cert.InRestRefIdeal.nD Cert.InRestRefIdeal.τ).loc Cert.InRestRefIdeal.main_v4) = v0 c
          ∧ r.2.mem ((c.tc : Thread Cert.InRestRefIdeal.nD Cert.InRestRefIdeal.τ).loc Cert.InRestRefIdeal.main_arg0) = m' ((c.tc : Thread Cert.InRestRefIdeal.nD Cert.InRestRefIdeal.τ).loc Cert.InRestRefIdeal.main_arg0)
          ∧ r.2.mem ((c.tc : Thread Cert.InRestRefIdeal.nD Cert.InRestRefIdeal.τ).loc Cert.InRestRefIdeal.main_arg1) = m' ((c.tc : Thread Cert.InRestRefIdeal.nD Cert.InRestRefIdeal.τ).loc Cert.InRestRefIdeal.main_arg1))

def preserves_Hidden_HiddenIdeal : Prop :=
  True

def algebraic_HiddenIdeal_HiddenRefIdeal [hHiddenIdeal : Cert.HiddenIdeal.Facts] [hHiddenRefIdeal : Cert.HiddenRefIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)
      ∧ m' ((c.tc : Thread Cert.HiddenRefIdeal.nD Cert.HiddenRefIdeal.τ).loc Cert.HiddenRefIdeal.main_arg2) = m ((c.tc : Thread Cert.HiddenIdeal.nD Cert.HiddenIdeal.τ).loc Cert.HiddenIdeal.main_arg2)) →
    ∃ (v0 : (c : Dev Cert.HiddenIdeal.nD) → Buf (Elt Ideal) ((c.tc : Thread Cert.HiddenIdeal.nD Cert.HiddenIdeal.τ).loc Cert.HiddenIdeal.main_v0_0)) (v1 : (c : Dev Cert.HiddenIdeal.nD) → Buf (Elt Ideal) ((c.tc : Thread Cert.HiddenIdeal.nD Cert.HiddenIdeal.τ).loc Cert.HiddenIdeal.main_v0_1)) (v2 : (c : Dev Cert.HiddenIdeal.nD) → Buf (Elt Ideal) ((c.tc : Thread Cert.HiddenIdeal.nD Cert.HiddenIdeal.τ).loc Cert.HiddenIdeal.main_v0_2)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v0_0) = v0 c
          ∧ r.2.mem ((c.tc : Thread Cert.HiddenIdeal.nD Cert.HiddenIdeal.τ).loc Cert.HiddenIdeal.main_v0_1) = v1 c
          ∧ r.2.mem ((c.tc : Thread Cert.HiddenIdeal.nD Cert.HiddenIdeal.τ).loc Cert.HiddenIdeal.main_v0_2) = v2 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v4) = v0 c
          ∧ r.2.mem ((c.tc : Thread Cert.HiddenRefIdeal.nD Cert.HiddenRefIdeal.τ).loc Cert.HiddenRefIdeal.main_v9) = v1 c
          ∧ r.2.mem ((c.tc : Thread Cert.HiddenRefIdeal.nD Cert.HiddenRefIdeal.τ).loc Cert.HiddenRefIdeal.main_v14) = v2 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1)
          ∧ r.2.mem ((c.tc : Thread Cert.HiddenRefIdeal.nD Cert.HiddenRefIdeal.τ).loc Cert.HiddenRefIdeal.main_arg2) = m' ((c.tc : Thread Cert.HiddenRefIdeal.nD Cert.HiddenRefIdeal.τ).loc Cert.HiddenRefIdeal.main_arg2))

def preserves_OutLn_OutLnIdeal : Prop :=
  True

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)) →
    ∃ (v0 : (c : Dev Cert.OutLnIdeal.nD) → Buf (Elt Ideal) ((c.tc : Thread Cert.OutLnIdeal.nD Cert.OutLnIdeal.τ).loc Cert.OutLnIdeal.main_v0_0)) (v1 : (c : Dev Cert.OutLnIdeal.nD) → Buf (Elt Ideal) ((c.tc : Thread Cert.OutLnIdeal.nD Cert.OutLnIdeal.τ).loc Cert.OutLnIdeal.main_v0_1)) (v2 : (c : Dev Cert.OutLnIdeal.nD) → Buf (Elt Ideal) ((c.tc : Thread Cert.OutLnIdeal.nD Cert.OutLnIdeal.τ).loc Cert.OutLnIdeal.main_v0_2)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v0_0) = v0 c
          ∧ r.2.mem ((c.tc : Thread Cert.OutLnIdeal.nD Cert.OutLnIdeal.τ).loc Cert.OutLnIdeal.main_v0_1) = v1 c
          ∧ r.2.mem ((c.tc : Thread Cert.OutLnIdeal.nD Cert.OutLnIdeal.τ).loc Cert.OutLnIdeal.main_v0_2) = v2 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v5) = v0 c
          ∧ r.2.mem ((c.tc : Thread Cert.OutLnRefIdeal.nD Cert.OutLnRefIdeal.τ).loc Cert.OutLnRefIdeal.main_v31) = v1 c
          ∧ r.2.mem ((c.tc : Thread Cert.OutLnRefIdeal.nD Cert.OutLnRefIdeal.τ).loc Cert.OutLnRefIdeal.main_v32) = v2 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4))

def preserves_DownLn_DownLnIdeal : Prop :=
  True

def algebraic_DownLnIdeal_DownLnRefIdeal [hDownLnIdeal : Cert.DownLnIdeal.Facts] [hDownLnRefIdeal : Cert.DownLnRefIdeal.Facts] : Prop :=
  ∀ (m : (ℓ : Loc Cert.DownLnIdeal.nD Cert.DownLnIdeal.τ Cert.DownLnIdeal.sig) → Buf (Elt Ideal) ℓ) (g : Dev Cert.DownLnIdeal.nD → PrngReg)
    (m' : (ℓ : Loc Cert.DownLnRefIdeal.nD Cert.DownLnRefIdeal.τ Cert.DownLnRefIdeal.sig) → Buf (Elt Ideal) ℓ) (g' : Dev Cert.DownLnRefIdeal.nD → PrngReg), Pre_DownLnIdeal m →
    (∀ c : Dev Cert.DownLnIdeal.nD,
      m' ((c.tc : Thread Cert.DownLnRefIdeal.nD Cert.DownLnRefIdeal.τ).loc Cert.DownLnRefIdeal.main_arg0) = m ((c.tc : Thread Cert.DownLnIdeal.nD Cert.DownLnIdeal.τ).loc Cert.DownLnIdeal.main_arg0)
      ∧ m' ((c.tc : Thread Cert.DownLnRefIdeal.nD Cert.DownLnRefIdeal.τ).loc Cert.DownLnRefIdeal.main_arg1) = m ((c.tc : Thread Cert.DownLnIdeal.nD Cert.DownLnIdeal.τ).loc Cert.DownLnIdeal.main_arg1)
      ∧ m' ((c.tc : Thread Cert.DownLnRefIdeal.nD Cert.DownLnRefIdeal.τ).loc Cert.DownLnRefIdeal.main_arg2) = m ((c.tc : Thread Cert.DownLnIdeal.nD Cert.DownLnIdeal.τ).loc Cert.DownLnIdeal.main_arg2)
      ∧ m' ((c.tc : Thread Cert.DownLnRefIdeal.nD Cert.DownLnRefIdeal.τ).loc Cert.DownLnRefIdeal.main_arg3) = m ((c.tc : Thread Cert.DownLnIdeal.nD Cert.DownLnIdeal.τ).loc Cert.DownLnIdeal.main_arg3)
      ∧ m' ((c.tc : Thread Cert.DownLnRefIdeal.nD Cert.DownLnRefIdeal.τ).loc Cert.DownLnRefIdeal.main_arg4) = m ((c.tc : Thread Cert.DownLnIdeal.nD Cert.DownLnIdeal.τ).loc Cert.DownLnIdeal.main_arg4)) →
    ∃ (v0 : (c : Dev Cert.DownLnIdeal.nD) → Buf (Elt Ideal) ((c.tc : Thread Cert.DownLnIdeal.nD Cert.DownLnIdeal.τ).loc Cert.DownLnIdeal.main_v0_0)) (v1 : (c : Dev Cert.DownLnIdeal.nD) → Buf (Elt Ideal) ((c.tc : Thread Cert.DownLnIdeal.nD Cert.DownLnIdeal.τ).loc Cert.DownLnIdeal.main_v0_1)) (v2 : (c : Dev Cert.DownLnIdeal.nD) → Buf (Elt Ideal) ((c.tc : Thread Cert.DownLnIdeal.nD Cert.DownLnIdeal.τ).loc Cert.DownLnIdeal.main_v0_2)),
      θ_run (Cert.DownLnIdeal.defs (F := Ideal)) (onTc (τ := Cert.DownLnIdeal.τ) (Cert.DownLnIdeal.main (F := Ideal))) ⟨m, fun _ => 0, g⟩ (fun r => ∀ c : Dev Cert.DownLnIdeal.nD,
          r.2.mem ((c.tc : Thread Cert.DownLnIdeal.nD Cert.DownLnIdeal.τ).loc Cert.DownLnIdeal.main_v0_0) = v0 c
          ∧ r.2.mem ((c.tc : Thread Cert.DownLnIdeal.nD Cert.DownLnIdeal.τ).loc Cert.DownLnIdeal.main_v0_1) = v1 c
          ∧ r.2.mem ((c.tc : Thread Cert.DownLnIdeal.nD Cert.DownLnIdeal.τ).loc Cert.DownLnIdeal.main_v0_2) = v2 c
          ∧ r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
          ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
          ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
          ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
          ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ θ_run (Cert.DownLnRefIdeal.defs (F := Ideal)) (onTc (τ := Cert.DownLnRefIdeal.τ) (Cert.DownLnRefIdeal.main (F := Ideal))) ⟨m', fun _ => 0, g'⟩ (fun r => ∀ c : Dev Cert.DownLnRefIdeal.nD,
          r.2.mem ((c.tc : Thread Cert.DownLnRefIdeal.nD Cert.DownLnRefIdeal.τ).loc Cert.DownLnRefIdeal.main_v5) = v0 c
          ∧ r.2.mem ((c.tc : Thread Cert.DownLnRefIdeal.nD Cert.DownLnRefIdeal.τ).loc Cert.DownLnRefIdeal.main_v31) = v1 c
          ∧ r.2.mem ((c.tc : Thread Cert.DownLnRefIdeal.nD Cert.DownLnRefIdeal.τ).loc Cert.DownLnRefIdeal.main_v32) = v2 c
          ∧ r.2.mem ((c.tc : Thread Cert.DownLnRefIdeal.nD Cert.DownLnRefIdeal.τ).loc Cert.DownLnRefIdeal.main_arg0) = m' ((c.tc : Thread Cert.DownLnRefIdeal.nD Cert.DownLnRefIdeal.τ).loc Cert.DownLnRefIdeal.main_arg0)
          ∧ r.2.mem ((c.tc : Thread Cert.DownLnRefIdeal.nD Cert.DownLnRefIdeal.τ).loc Cert.DownLnRefIdeal.main_arg1) = m' ((c.tc : Thread Cert.DownLnRefIdeal.nD Cert.DownLnRefIdeal.τ).loc Cert.DownLnRefIdeal.main_arg1)
          ∧ r.2.mem ((c.tc : Thread Cert.DownLnRefIdeal.nD Cert.DownLnRefIdeal.τ).loc Cert.DownLnRefIdeal.main_arg2) = m' ((c.tc : Thread Cert.DownLnRefIdeal.nD Cert.DownLnRefIdeal.τ).loc Cert.DownLnRefIdeal.main_arg2)
          ∧ r.2.mem ((c.tc : Thread Cert.DownLnRefIdeal.nD Cert.DownLnRefIdeal.τ).loc Cert.DownLnRefIdeal.main_arg3) = m' ((c.tc : Thread Cert.DownLnRefIdeal.nD Cert.DownLnRefIdeal.τ).loc Cert.DownLnRefIdeal.main_arg3)
          ∧ r.2.mem ((c.tc : Thread Cert.DownLnRefIdeal.nD Cert.DownLnRefIdeal.τ).loc Cert.DownLnRefIdeal.main_arg4) = m' ((c.tc : Thread Cert.DownLnRefIdeal.nD Cert.DownLnRefIdeal.τ).loc Cert.DownLnRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v8) = v0 c
          ∧ r.2.mem ((c.tc : Thread Cert.AdamInRefIdeal.nD Cert.AdamInRefIdeal.τ).loc Cert.AdamInRefIdeal.main_v32) = v1 c
          ∧ r.2.mem ((c.tc : Thread Cert.AdamInRefIdeal.nD Cert.AdamInRefIdeal.τ).loc Cert.AdamInRefIdeal.main_v13) = v2 c
          ∧ r.2.mem ((c.tc : Thread Cert.AdamInRefIdeal.nD Cert.AdamInRefIdeal.τ).loc Cert.AdamInRefIdeal.main_v19) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)
      ∧ m' ((c.tc : Thread Cert.AdamFfnRefIdeal.nD Cert.AdamFfnRefIdeal.τ).loc Cert.AdamFfnRefIdeal.main_arg4) = m ((c.tc : Thread Cert.AdamFfnIdeal.nD Cert.AdamFfnIdeal.τ).loc Cert.AdamFfnIdeal.main_arg4)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
          ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v8) = v0 c
          ∧ r.2.mem ((c.tc : Thread Cert.AdamFfnRefIdeal.nD Cert.AdamFfnRefIdeal.τ).loc Cert.AdamFfnRefIdeal.main_v32) = v1 c
          ∧ r.2.mem ((c.tc : Thread Cert.AdamFfnRefIdeal.nD Cert.AdamFfnRefIdeal.τ).loc Cert.AdamFfnRefIdeal.main_v13) = v2 c
          ∧ r.2.mem ((c.tc : Thread Cert.AdamFfnRefIdeal.nD Cert.AdamFfnRefIdeal.τ).loc Cert.AdamFfnRefIdeal.main_v19) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3)
          ∧ r.2.mem ((c.tc : Thread Cert.AdamFfnRefIdeal.nD Cert.AdamFfnRefIdeal.τ).loc Cert.AdamFfnRefIdeal.main_arg4) = m' ((c.tc : Thread Cert.AdamFfnRefIdeal.nD Cert.AdamFfnRefIdeal.τ).loc Cert.AdamFfnRefIdeal.main_arg4))

def preserves_AdamSq_AdamSqIdeal : Prop :=
  True

def algebraic_AdamSqIdeal_AdamSqRefIdeal [hAdamSqIdeal : Cert.AdamSqIdeal.Facts] [hAdamSqRefIdeal : Cert.AdamSqRefIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg)
    (m' : (ℓ : Loc Cert.AdamSqRefIdeal.nD Cert.AdamSqRefIdeal.τ Cert.AdamSqRefIdeal.sig) → Buf (Elt Ideal) ℓ) (g' : Dev Cert.AdamSqRefIdeal.nD → PrngReg), Pre_AdamSqIdeal m →
    (∀ c : Dev Cert.AdamSqIdeal.nD,
      m' ((c.tc : Thread Cert.AdamSqRefIdeal.nD Cert.AdamSqRefIdeal.τ).loc Cert.AdamSqRefIdeal.main_arg0) = m ((c.tc : Thread Cert.AdamSqIdeal.nD Cert.AdamSqIdeal.τ).loc Cert.AdamSqIdeal.main_arg0)
      ∧ m' ((c.tc : Thread Cert.AdamSqRefIdeal.nD Cert.AdamSqRefIdeal.τ).loc Cert.AdamSqRefIdeal.main_arg1) = m ((c.tc : Thread Cert.AdamSqIdeal.nD Cert.AdamSqIdeal.τ).loc Cert.AdamSqIdeal.main_arg1)
      ∧ m' ((c.tc : Thread Cert.AdamSqRefIdeal.nD Cert.AdamSqRefIdeal.τ).loc Cert.AdamSqRefIdeal.main_arg2) = m ((c.tc : Thread Cert.AdamSqIdeal.nD Cert.AdamSqIdeal.τ).loc Cert.AdamSqIdeal.main_arg2)
      ∧ m' ((c.tc : Thread Cert.AdamSqRefIdeal.nD Cert.AdamSqRefIdeal.τ).loc Cert.AdamSqRefIdeal.main_arg3) = m ((c.tc : Thread Cert.AdamSqIdeal.nD Cert.AdamSqIdeal.τ).loc Cert.AdamSqIdeal.main_arg3)
      ∧ m' ((c.tc : Thread Cert.AdamSqRefIdeal.nD Cert.AdamSqRefIdeal.τ).loc Cert.AdamSqRefIdeal.main_arg4) = m ((c.tc : Thread Cert.AdamSqIdeal.nD Cert.AdamSqIdeal.τ).loc Cert.AdamSqIdeal.main_arg4)) →
    ∃ (v0 : (c : Dev Cert.AdamSqIdeal.nD) → Buf (Elt Ideal) ((c.tc : Thread Cert.AdamSqIdeal.nD Cert.AdamSqIdeal.τ).loc Cert.AdamSqIdeal.main_v0_0)) (v1 : (c : Dev Cert.AdamSqIdeal.nD) → Buf (Elt Ideal) ((c.tc : Thread Cert.AdamSqIdeal.nD Cert.AdamSqIdeal.τ).loc Cert.AdamSqIdeal.main_v0_1)) (v2 : (c : Dev Cert.AdamSqIdeal.nD) → Buf (Elt Ideal) ((c.tc : Thread Cert.AdamSqIdeal.nD Cert.AdamSqIdeal.τ).loc Cert.AdamSqIdeal.main_v0_2)) (v3 : (c : Dev Cert.AdamSqIdeal.nD) → Buf (Elt Ideal) ((c.tc : Thread Cert.AdamSqIdeal.nD Cert.AdamSqIdeal.τ).loc Cert.AdamSqIdeal.main_v0_3)),
      θ_run (Cert.AdamSqIdeal.defs (F := Ideal)) (onTc (τ := Cert.AdamSqIdeal.τ) (Cert.AdamSqIdeal.main (F := Ideal))) ⟨m, fun _ => 0, g⟩ (fun r => ∀ c : Dev Cert.AdamSqIdeal.nD,
          r.2.mem ((c.tc : Thread Cert.AdamSqIdeal.nD Cert.AdamSqIdeal.τ).loc Cert.AdamSqIdeal.main_v0_0) = v0 c
          ∧ r.2.mem ((c.tc : Thread Cert.AdamSqIdeal.nD Cert.AdamSqIdeal.τ).loc Cert.AdamSqIdeal.main_v0_1) = v1 c
          ∧ r.2.mem ((c.tc : Thread Cert.AdamSqIdeal.nD Cert.AdamSqIdeal.τ).loc Cert.AdamSqIdeal.main_v0_2) = v2 c
          ∧ r.2.mem ((c.tc : Thread Cert.AdamSqIdeal.nD Cert.AdamSqIdeal.τ).loc Cert.AdamSqIdeal.main_v0_3) = v3 c
          ∧ r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
          ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
          ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
          ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3)
          ∧ r.2.mem ((c.tc : Thread Cert.AdamSqIdeal.nD Cert.AdamSqIdeal.τ).loc Cert.AdamSqIdeal.main_arg4) = m ((c.tc : Thread Cert.AdamSqIdeal.nD Cert.AdamSqIdeal.τ).loc Cert.AdamSqIdeal.main_arg4))
      ∧ θ_run (Cert.AdamSqRefIdeal.defs (F := Ideal)) (onTc (τ := Cert.AdamSqRefIdeal.τ) (Cert.AdamSqRefIdeal.main (F := Ideal))) ⟨m', fun _ => 0, g'⟩ (fun r => ∀ c : Dev Cert.AdamSqRefIdeal.nD,
          r.2.mem ((c.tc : Thread Cert.AdamSqRefIdeal.nD Cert.AdamSqRefIdeal.τ).loc Cert.AdamSqRefIdeal.main_v6) = v0 c
          ∧ r.2.mem ((c.tc : Thread Cert.AdamSqRefIdeal.nD Cert.AdamSqRefIdeal.τ).loc Cert.AdamSqRefIdeal.main_v30) = v1 c
          ∧ r.2.mem ((c.tc : Thread Cert.AdamSqRefIdeal.nD Cert.AdamSqRefIdeal.τ).loc Cert.AdamSqRefIdeal.main_v11) = v2 c
          ∧ r.2.mem ((c.tc : Thread Cert.AdamSqRefIdeal.nD Cert.AdamSqRefIdeal.τ).loc Cert.AdamSqRefIdeal.main_v17) = v3 c
          ∧ r.2.mem ((c.tc : Thread Cert.AdamSqRefIdeal.nD Cert.AdamSqRefIdeal.τ).loc Cert.AdamSqRefIdeal.main_arg0) = m' ((c.tc : Thread Cert.AdamSqRefIdeal.nD Cert.AdamSqRefIdeal.τ).loc Cert.AdamSqRefIdeal.main_arg0)
          ∧ r.2.mem ((c.tc : Thread Cert.AdamSqRefIdeal.nD Cert.AdamSqRefIdeal.τ).loc Cert.AdamSqRefIdeal.main_arg1) = m' ((c.tc : Thread Cert.AdamSqRefIdeal.nD Cert.AdamSqRefIdeal.τ).loc Cert.AdamSqRefIdeal.main_arg1)
          ∧ r.2.mem ((c.tc : Thread Cert.AdamSqRefIdeal.nD Cert.AdamSqRefIdeal.τ).loc Cert.AdamSqRefIdeal.main_arg2) = m' ((c.tc : Thread Cert.AdamSqRefIdeal.nD Cert.AdamSqRefIdeal.τ).loc Cert.AdamSqRefIdeal.main_arg2)
          ∧ r.2.mem ((c.tc : Thread Cert.AdamSqRefIdeal.nD Cert.AdamSqRefIdeal.τ).loc Cert.AdamSqRefIdeal.main_arg3) = m' ((c.tc : Thread Cert.AdamSqRefIdeal.nD Cert.AdamSqRefIdeal.τ).loc Cert.AdamSqRefIdeal.main_arg3)
          ∧ r.2.mem ((c.tc : Thread Cert.AdamSqRefIdeal.nD Cert.AdamSqRefIdeal.τ).loc Cert.AdamSqRefIdeal.main_arg4) = m' ((c.tc : Thread Cert.AdamSqRefIdeal.nD Cert.AdamSqRefIdeal.τ).loc Cert.AdamSqRefIdeal.main_arg4))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)
      ∧ m' ((c.tc : Thread Cert.AdamConvRefIdeal.nD Cert.AdamConvRefIdeal.τ).loc Cert.AdamConvRefIdeal.main_arg4) = m ((c.tc : Thread Cert.AdamConvIdeal.nD Cert.AdamConvIdeal.τ).loc Cert.AdamConvIdeal.main_arg4)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
          ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v6) = v0 c
          ∧ r.2.mem ((c.tc : Thread Cert.AdamConvRefIdeal.nD Cert.AdamConvRefIdeal.τ).loc Cert.AdamConvRefIdeal.main_v30) = v1 c
          ∧ r.2.mem ((c.tc : Thread Cert.AdamConvRefIdeal.nD Cert.AdamConvRefIdeal.τ).loc Cert.AdamConvRefIdeal.main_v11) = v2 c
          ∧ r.2.mem ((c.tc : Thread Cert.AdamConvRefIdeal.nD Cert.AdamConvRefIdeal.τ).loc Cert.AdamConvRefIdeal.main_v17) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3)
          ∧ r.2.mem ((c.tc : Thread Cert.AdamConvRefIdeal.nD Cert.AdamConvRefIdeal.τ).loc Cert.AdamConvRefIdeal.main_arg4) = m' ((c.tc : Thread Cert.AdamConvRefIdeal.nD Cert.AdamConvRefIdeal.τ).loc Cert.AdamConvRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Delta_DeltaIdeal : Prop :=
  IdealRules.named_const.Statement Cert.DeltaIdeal.κ "mask" .f32 0xF149F2CA#32 ⊥

def algebraic_DeltaIdeal_DeltaRefIdeal_pre_finite_gates [hDeltaIdeal : Cert.DeltaIdeal.Facts] [hDeltaRefIdeal : Cert.DeltaRefIdeal.Facts] [hPre_finite_gates : Cert.Pre_finite_gates.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal_finite_gates m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)
      ∧ m' ((c.tc : Thread Cert.DeltaRefIdeal.nD Cert.DeltaRefIdeal.τ).loc Cert.DeltaRefIdeal.main_arg2) = m ((c.tc : Thread Cert.DeltaIdeal.nD Cert.DeltaIdeal.τ).loc Cert.DeltaIdeal.main_arg2)
      ∧ m' ((c.tc : Thread Cert.DeltaRefIdeal.nD Cert.DeltaRefIdeal.τ).loc Cert.DeltaRefIdeal.main_arg3) = m ((c.tc : Thread Cert.DeltaIdeal.nD Cert.DeltaIdeal.τ).loc Cert.DeltaIdeal.main_arg3)
      ∧ m' ((c.tc : Thread Cert.DeltaRefIdeal.nD Cert.DeltaRefIdeal.τ).loc Cert.DeltaRefIdeal.main_arg4) = m ((c.tc : Thread Cert.DeltaIdeal.nD Cert.DeltaIdeal.τ).loc Cert.DeltaIdeal.main_arg4)
      ∧ m' ((c.tc : Thread Cert.DeltaRefIdeal.nD Cert.DeltaRefIdeal.τ).loc Cert.DeltaRefIdeal.main_arg5) = m ((c.tc : Thread Cert.DeltaIdeal.nD Cert.DeltaIdeal.τ).loc Cert.DeltaIdeal.main_arg5)
      ∧ m' ((c.tc : Thread Cert.DeltaRefIdeal.nD Cert.DeltaRefIdeal.τ).loc Cert.DeltaRefIdeal.main_arg6) = m ((c.tc : Thread Cert.DeltaIdeal.nD Cert.DeltaIdeal.τ).loc Cert.DeltaIdeal.main_arg6)
      ∧ m' ((c.tc : Thread Cert.DeltaRefIdeal.nD Cert.DeltaRefIdeal.τ).loc Cert.DeltaRefIdeal.main_arg7) = m ((c.tc : Thread Cert.DeltaIdeal.nD Cert.DeltaIdeal.τ).loc Cert.DeltaIdeal.main_arg7)
      ∧ m' ((c.tc : Thread Cert.DeltaRefIdeal.nD Cert.DeltaRefIdeal.τ).loc Cert.DeltaRefIdeal.main_arg8) = m ((c.tc : Thread Cert.DeltaIdeal.nD Cert.DeltaIdeal.τ).loc Cert.DeltaIdeal.main_arg8)) →
    ∃ (v0 : (c : Dev Cert.DeltaIdeal.nD) → Buf (Elt Ideal) ((c.tc : Thread Cert.DeltaIdeal.nD Cert.DeltaIdeal.τ).loc Cert.DeltaIdeal.main_v0_0)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v0_0) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
          ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
          ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
          ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4)
          ∧ r.2.mem ((c.tc : Thread Cert.DeltaIdeal.nD Cert.DeltaIdeal.τ).loc Cert.DeltaIdeal.main_arg5) = m ((c.tc : Thread Cert.DeltaIdeal.nD Cert.DeltaIdeal.τ).loc Cert.DeltaIdeal.main_arg5)
          ∧ r.2.mem ((c.tc : Thread Cert.DeltaIdeal.nD Cert.DeltaIdeal.τ).loc Cert.DeltaIdeal.main_arg6) = m ((c.tc : Thread Cert.DeltaIdeal.nD Cert.DeltaIdeal.τ).loc Cert.DeltaIdeal.main_arg6)
          ∧ r.2.mem ((c.tc : Thread Cert.DeltaIdeal.nD Cert.DeltaIdeal.τ).loc Cert.DeltaIdeal.main_arg7) = m ((c.tc : Thread Cert.DeltaIdeal.nD Cert.DeltaIdeal.τ).loc Cert.DeltaIdeal.main_arg7)
          ∧ r.2.mem ((c.tc : Thread Cert.DeltaIdeal.nD Cert.DeltaIdeal.τ).loc Cert.DeltaIdeal.main_arg8) = m ((c.tc : Thread Cert.DeltaIdeal.nD Cert.DeltaIdeal.τ).loc Cert.DeltaIdeal.main_arg8))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v53) = v0 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1)
          ∧ r.2.mem ((c.tc : Thread Cert.DeltaRefIdeal.nD Cert.DeltaRefIdeal.τ).loc Cert.DeltaRefIdeal.main_arg2) = m' ((c.tc : Thread Cert.DeltaRefIdeal.nD Cert.DeltaRefIdeal.τ).loc Cert.DeltaRefIdeal.main_arg2)
          ∧ r.2.mem ((c.tc : Thread Cert.DeltaRefIdeal.nD Cert.DeltaRefIdeal.τ).loc Cert.DeltaRefIdeal.main_arg3) = m' ((c.tc : Thread Cert.DeltaRefIdeal.nD Cert.DeltaRefIdeal.τ).loc Cert.DeltaRefIdeal.main_arg3)
          ∧ r.2.mem ((c.tc : Thread Cert.DeltaRefIdeal.nD Cert.DeltaRefIdeal.τ).loc Cert.DeltaRefIdeal.main_arg4) = m' ((c.tc : Thread Cert.DeltaRefIdeal.nD Cert.DeltaRefIdeal.τ).loc Cert.DeltaRefIdeal.main_arg4)
          ∧ r.2.mem ((c.tc : Thread Cert.DeltaRefIdeal.nD Cert.DeltaRefIdeal.τ).loc Cert.DeltaRefIdeal.main_arg5) = m' ((c.tc : Thread Cert.DeltaRefIdeal.nD Cert.DeltaRefIdeal.τ).loc Cert.DeltaRefIdeal.main_arg5)
          ∧ r.2.mem ((c.tc : Thread Cert.DeltaRefIdeal.nD Cert.DeltaRefIdeal.τ).loc Cert.DeltaRefIdeal.main_arg6) = m' ((c.tc : Thread Cert.DeltaRefIdeal.nD Cert.DeltaRefIdeal.τ).loc Cert.DeltaRefIdeal.main_arg6)
          ∧ r.2.mem ((c.tc : Thread Cert.DeltaRefIdeal.nD Cert.DeltaRefIdeal.τ).loc Cert.DeltaRefIdeal.main_arg7) = m' ((c.tc : Thread Cert.DeltaRefIdeal.nD Cert.DeltaRefIdeal.τ).loc Cert.DeltaRefIdeal.main_arg7)
          ∧ r.2.mem ((c.tc : Thread Cert.DeltaRefIdeal.nD Cert.DeltaRefIdeal.τ).loc Cert.DeltaRefIdeal.main_arg8) = m' ((c.tc : Thread Cert.DeltaRefIdeal.nD Cert.DeltaRefIdeal.τ).loc Cert.DeltaRefIdeal.main_arg8))

def Claim : Prop :=
  ∃ (hSwiglu : Cert.Swiglu.Facts) (hSwigluIdeal : Cert.SwigluIdeal.Facts) (hSwigluRefIdeal : Cert.SwigluRefIdeal.Facts) (hMerge : Cert.Merge.Facts) (hMergeIdeal : Cert.MergeIdeal.Facts) (hMergeRefIdeal : Cert.MergeRefIdeal.Facts) (hWIn : Cert.WIn.Facts) (hWInIdeal : Cert.WInIdeal.Facts) (hWInRefIdeal : Cert.WInRefIdeal.Facts) (hWGate : Cert.WGate.Facts) (hWGateIdeal : Cert.WGateIdeal.Facts) (hWGateRefIdeal : Cert.WGateRefIdeal.Facts) (hWDown : Cert.WDown.Facts) (hWDownIdeal : Cert.WDownIdeal.Facts) (hWDownRefIdeal : Cert.WDownRefIdeal.Facts) (hWMerge : Cert.WMerge.Facts) (hWMergeIdeal : Cert.WMergeIdeal.Facts) (hWMergeRefIdeal : Cert.WMergeRefIdeal.Facts) (hWOut : Cert.WOut.Facts) (hWOutIdeal : Cert.WOutIdeal.Facts) (hWOutRefIdeal : Cert.WOutRefIdeal.Facts) (hXIn : Cert.XIn.Facts) (hXInIdeal : Cert.XInIdeal.Facts) (hXInRefIdeal : Cert.XInRefIdeal.Facts) (hXFfn : Cert.XFfn.Facts) (hXFfnIdeal : Cert.XFfnIdeal.Facts) (hXFfnRefIdeal : Cert.XFfnRefIdeal.Facts) (hLnBwd : Cert.LnBwd.Facts) (hLnBwdIdeal : Cert.LnBwdIdeal.Facts) (hLnBwdRefIdeal : Cert.LnBwdRefIdeal.Facts) (hLossLn : Cert.LossLn.Facts) (hLossLnIdeal : Cert.LossLnIdeal.Facts) (hLossLnRefIdeal : Cert.LossLnRefIdeal.Facts) (hConvBwd : Cert.ConvBwd.Facts) (hConvBwdIdeal : Cert.ConvBwdIdeal.Facts) (hConvBwdRefIdeal : Cert.ConvBwdRefIdeal.Facts) (hQkvPrep : Cert.QkvPrep.Facts) (hQkvPrepIdeal : Cert.QkvPrepIdeal.Facts) (hQkvPrepRefIdeal : Cert.QkvPrepRefIdeal.Facts) (hInQkv : Cert.InQkv.Facts) (hInQkvIdeal : Cert.InQkvIdeal.Facts) (hInQkvRefIdeal : Cert.InQkvRefIdeal.Facts) (hInRest : Cert.InRest.Facts) (hInRestIdeal : Cert.InRestIdeal.Facts) (hInRestRefIdeal : Cert.InRestRefIdeal.Facts) (hHidden : Cert.Hidden.Facts) (hHiddenIdeal : Cert.HiddenIdeal.Facts) (hHiddenRefIdeal : Cert.HiddenRefIdeal.Facts) (hOutLn : Cert.OutLn.Facts) (hOutLnIdeal : Cert.OutLnIdeal.Facts) (hOutLnRefIdeal : Cert.OutLnRefIdeal.Facts) (hDownLn : Cert.DownLn.Facts) (hDownLnIdeal : Cert.DownLnIdeal.Facts) (hDownLnRefIdeal : Cert.DownLnRefIdeal.Facts) (hAdamIn : Cert.AdamIn.Facts) (hAdamInIdeal : Cert.AdamInIdeal.Facts) (hAdamInRefIdeal : Cert.AdamInRefIdeal.Facts) (hAdamFfn : Cert.AdamFfn.Facts) (hAdamFfnIdeal : Cert.AdamFfnIdeal.Facts) (hAdamFfnRefIdeal : Cert.AdamFfnRefIdeal.Facts) (hAdamSq : Cert.AdamSq.Facts) (hAdamSqIdeal : Cert.AdamSqIdeal.Facts) (hAdamSqRefIdeal : Cert.AdamSqRefIdeal.Facts) (hAdamConv : Cert.AdamConv.Facts) (hAdamConvIdeal : Cert.AdamConvIdeal.Facts) (hAdamConvRefIdeal : Cert.AdamConvRefIdeal.Facts) (hAdamSmall : Cert.AdamSmall.Facts) (hAdamSmallIdeal : Cert.AdamSmallIdeal.Facts) (hAdamSmallRefIdeal : Cert.AdamSmallRefIdeal.Facts) (hDelta : Cert.Delta.Facts) (hDeltaIdeal : Cert.DeltaIdeal.Facts) (hDeltaRefIdeal : Cert.DeltaRefIdeal.Facts) (hPre_finite_ffn : Cert.Pre_finite_ffn.Facts) (hPre_finite_ln : Cert.Pre_finite_ln.Facts) (hPre_finite_loss : Cert.Pre_finite_loss.Facts) (hPre_finite_gates : Cert.Pre_finite_gates.Facts) (hOn_gate_columns : Cert.On_gate_columns.Facts),
    quiescent_Swiglu (hSwiglu := hSwiglu)
    ∧ quiescent_SwigluIdeal (hSwigluIdeal := hSwigluIdeal)
    ∧ quiescent_SwigluIdeal_pre_finite_ffn (hSwigluIdeal := hSwigluIdeal) (hPre_finite_ffn := hPre_finite_ffn)
    ∧ quiescent_SwigluRefIdeal (hSwigluRefIdeal := hSwigluRefIdeal)
    ∧ quiescent_SwigluRefIdeal_pre_finite_ffn (hSwigluRefIdeal := hSwigluRefIdeal) (hPre_finite_ffn := hPre_finite_ffn)
    ∧ quiescent_Merge (hMerge := hMerge)
    ∧ quiescent_MergeIdeal (hMergeIdeal := hMergeIdeal)
    ∧ quiescent_MergeRefIdeal (hMergeRefIdeal := hMergeRefIdeal)
    ∧ quiescent_WIn (hWIn := hWIn)
    ∧ quiescent_WInIdeal (hWInIdeal := hWInIdeal)
    ∧ quiescent_WInRefIdeal (hWInRefIdeal := hWInRefIdeal)
    ∧ quiescent_WGate (hWGate := hWGate)
    ∧ quiescent_WGateIdeal (hWGateIdeal := hWGateIdeal)
    ∧ quiescent_WGateRefIdeal (hWGateRefIdeal := hWGateRefIdeal)
    ∧ quiescent_WDown (hWDown := hWDown)
    ∧ quiescent_WDownIdeal (hWDownIdeal := hWDownIdeal)
    ∧ quiescent_WDownRefIdeal (hWDownRefIdeal := hWDownRefIdeal)
    ∧ quiescent_WMerge (hWMerge := hWMerge)
    ∧ quiescent_WMergeIdeal (hWMergeIdeal := hWMergeIdeal)
    ∧ quiescent_WMergeRefIdeal (hWMergeRefIdeal := hWMergeRefIdeal)
    ∧ quiescent_WOut (hWOut := hWOut)
    ∧ quiescent_WOutIdeal (hWOutIdeal := hWOutIdeal)
    ∧ quiescent_WOutRefIdeal (hWOutRefIdeal := hWOutRefIdeal)
    ∧ quiescent_XIn (hXIn := hXIn)
    ∧ quiescent_XInIdeal (hXInIdeal := hXInIdeal)
    ∧ quiescent_XInRefIdeal (hXInRefIdeal := hXInRefIdeal)
    ∧ quiescent_XFfn (hXFfn := hXFfn)
    ∧ quiescent_XFfnIdeal (hXFfnIdeal := hXFfnIdeal)
    ∧ quiescent_XFfnRefIdeal (hXFfnRefIdeal := hXFfnRefIdeal)
    ∧ quiescent_LnBwd (hLnBwd := hLnBwd)
    ∧ quiescent_LnBwdIdeal (hLnBwdIdeal := hLnBwdIdeal)
    ∧ quiescent_LnBwdIdeal_pre_finite_ln (hLnBwdIdeal := hLnBwdIdeal) (hPre_finite_ln := hPre_finite_ln)
    ∧ quiescent_LnBwdRefIdeal (hLnBwdRefIdeal := hLnBwdRefIdeal)
    ∧ quiescent_LnBwdRefIdeal_pre_finite_ln (hLnBwdRefIdeal := hLnBwdRefIdeal) (hPre_finite_ln := hPre_finite_ln)
    ∧ quiescent_LossLn (hLossLn := hLossLn)
    ∧ quiescent_LossLnIdeal (hLossLnIdeal := hLossLnIdeal)
    ∧ quiescent_LossLnIdeal_pre_finite_loss (hLossLnIdeal := hLossLnIdeal) (hPre_finite_loss := hPre_finite_loss)
    ∧ quiescent_LossLnRefIdeal (hLossLnRefIdeal := hLossLnRefIdeal)
    ∧ quiescent_LossLnRefIdeal_pre_finite_loss (hLossLnRefIdeal := hLossLnRefIdeal) (hPre_finite_loss := hPre_finite_loss)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_QkvPrep (hQkvPrep := hQkvPrep)
    ∧ quiescent_QkvPrepIdeal (hQkvPrepIdeal := hQkvPrepIdeal)
    ∧ quiescent_QkvPrepRefIdeal (hQkvPrepRefIdeal := hQkvPrepRefIdeal)
    ∧ quiescent_InQkv (hInQkv := hInQkv)
    ∧ quiescent_InQkvIdeal (hInQkvIdeal := hInQkvIdeal)
    ∧ quiescent_InQkvRefIdeal (hInQkvRefIdeal := hInQkvRefIdeal)
    ∧ quiescent_InRest (hInRest := hInRest)
    ∧ quiescent_InRestIdeal (hInRestIdeal := hInRestIdeal)
    ∧ quiescent_InRestRefIdeal (hInRestRefIdeal := hInRestRefIdeal)
    ∧ quiescent_Hidden (hHidden := hHidden)
    ∧ quiescent_HiddenIdeal (hHiddenIdeal := hHiddenIdeal)
    ∧ quiescent_HiddenRefIdeal (hHiddenRefIdeal := hHiddenRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_DownLn (hDownLn := hDownLn)
    ∧ quiescent_DownLnIdeal (hDownLnIdeal := hDownLnIdeal)
    ∧ quiescent_DownLnRefIdeal (hDownLnRefIdeal := hDownLnRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamSq (hAdamSq := hAdamSq)
    ∧ quiescent_AdamSqIdeal (hAdamSqIdeal := hAdamSqIdeal)
    ∧ quiescent_AdamSqRefIdeal (hAdamSqRefIdeal := hAdamSqRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Delta (hDelta := hDelta)
    ∧ quiescent_DeltaIdeal (hDeltaIdeal := hDeltaIdeal)
    ∧ quiescent_DeltaIdeal_pre_finite_gates (hDeltaIdeal := hDeltaIdeal) (hPre_finite_gates := hPre_finite_gates)
    ∧ quiescent_DeltaRefIdeal (hDeltaRefIdeal := hDeltaRefIdeal)
    ∧ quiescent_DeltaRefIdeal_pre_finite_gates (hDeltaRefIdeal := hDeltaRefIdeal) (hPre_finite_gates := hPre_finite_gates)
    ∧ preserves_Swiglu_SwigluIdeal
    ∧ algebraic_SwigluIdeal_SwigluRefIdeal_pre_finite_ffn (hSwigluIdeal := hSwigluIdeal) (hSwigluRefIdeal := hSwigluRefIdeal) (hPre_finite_ffn := hPre_finite_ffn)
    ∧ preserves_Merge_MergeIdeal
    ∧ algebraic_MergeIdeal_MergeRefIdeal_on_gate_columns (hMergeIdeal := hMergeIdeal) (hMergeRefIdeal := hMergeRefIdeal) (hOn_gate_columns := hOn_gate_columns)
    ∧ preserves_WIn_WInIdeal
    ∧ algebraic_WInIdeal_WInRefIdeal (hWInIdeal := hWInIdeal) (hWInRefIdeal := hWInRefIdeal)
    ∧ preserves_WGate_WGateIdeal
    ∧ algebraic_WGateIdeal_WGateRefIdeal (hWGateIdeal := hWGateIdeal) (hWGateRefIdeal := hWGateRefIdeal)
    ∧ preserves_WDown_WDownIdeal
    ∧ algebraic_WDownIdeal_WDownRefIdeal (hWDownIdeal := hWDownIdeal) (hWDownRefIdeal := hWDownRefIdeal)
    ∧ preserves_WMerge_WMergeIdeal
    ∧ algebraic_WMergeIdeal_WMergeRefIdeal (hWMergeIdeal := hWMergeIdeal) (hWMergeRefIdeal := hWMergeRefIdeal)
    ∧ preserves_WOut_WOutIdeal
    ∧ algebraic_WOutIdeal_WOutRefIdeal (hWOutIdeal := hWOutIdeal) (hWOutRefIdeal := hWOutRefIdeal)
    ∧ preserves_XIn_XInIdeal
    ∧ algebraic_XInIdeal_XInRefIdeal (hXInIdeal := hXInIdeal) (hXInRefIdeal := hXInRefIdeal)
    ∧ preserves_XFfn_XFfnIdeal
    ∧ algebraic_XFfnIdeal_XFfnRefIdeal (hXFfnIdeal := hXFfnIdeal) (hXFfnRefIdeal := hXFfnRefIdeal)
    ∧ preserves_LnBwd_LnBwdIdeal
    ∧ algebraic_LnBwdIdeal_LnBwdRefIdeal_pre_finite_ln (hLnBwdIdeal := hLnBwdIdeal) (hLnBwdRefIdeal := hLnBwdRefIdeal) (hPre_finite_ln := hPre_finite_ln)
    ∧ preserves_LossLn_LossLnIdeal
    ∧ algebraic_LossLnIdeal_LossLnRefIdeal_pre_finite_loss (hLossLnIdeal := hLossLnIdeal) (hLossLnRefIdeal := hLossLnRefIdeal) (hPre_finite_loss := hPre_finite_loss)
    ∧ preserves_ConvBwd_ConvBwdIdeal
    ∧ algebraic_ConvBwdIdeal_ConvBwdRefIdeal (hConvBwdIdeal := hConvBwdIdeal) (hConvBwdRefIdeal := hConvBwdRefIdeal)
    ∧ preserves_QkvPrep_QkvPrepIdeal
    ∧ algebraic_QkvPrepIdeal_QkvPrepRefIdeal (hQkvPrepIdeal := hQkvPrepIdeal) (hQkvPrepRefIdeal := hQkvPrepRefIdeal)
    ∧ preserves_InQkv_InQkvIdeal
    ∧ algebraic_InQkvIdeal_InQkvRefIdeal (hInQkvIdeal := hInQkvIdeal) (hInQkvRefIdeal := hInQkvRefIdeal)
    ∧ preserves_InRest_InRestIdeal
    ∧ algebraic_InRestIdeal_InRestRefIdeal (hInRestIdeal := hInRestIdeal) (hInRestRefIdeal := hInRestRefIdeal)
    ∧ preserves_Hidden_HiddenIdeal
    ∧ algebraic_HiddenIdeal_HiddenRefIdeal (hHiddenIdeal := hHiddenIdeal) (hHiddenRefIdeal := hHiddenRefIdeal)
    ∧ preserves_OutLn_OutLnIdeal
    ∧ algebraic_OutLnIdeal_OutLnRefIdeal (hOutLnIdeal := hOutLnIdeal) (hOutLnRefIdeal := hOutLnRefIdeal)
    ∧ preserves_DownLn_DownLnIdeal
    ∧ algebraic_DownLnIdeal_DownLnRefIdeal (hDownLnIdeal := hDownLnIdeal) (hDownLnRefIdeal := hDownLnRefIdeal)
    ∧ preserves_AdamIn_AdamInIdeal
    ∧ algebraic_AdamInIdeal_AdamInRefIdeal (hAdamInIdeal := hAdamInIdeal) (hAdamInRefIdeal := hAdamInRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamSq_AdamSqIdeal
    ∧ algebraic_AdamSqIdeal_AdamSqRefIdeal (hAdamSqIdeal := hAdamSqIdeal) (hAdamSqRefIdeal := hAdamSqRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Delta_DeltaIdeal
    ∧ algebraic_DeltaIdeal_DeltaRefIdeal_pre_finite_gates (hDeltaIdeal := hDeltaIdeal) (hDeltaRefIdeal := hDeltaRefIdeal) (hPre_finite_gates := hPre_finite_gates)
-- ==== On_gate_columns.lean ====
abbrev S8192x1024 : Shape := ⟨2, ![8192, 1024]⟩
abbrev S1024x1024 : Shape := ⟨2, ![1024, 1024]⟩
abbrev S8192x5120 : Shape := ⟨2, ![8192, 5120]⟩
abbrev S8192x8192 : Shape := ⟨2, ![8192, 8192]⟩
abbrev S_ : Shape := ⟨0, ![]⟩

class Facts : Prop where
  bcast_S_S8192x1024 : S_.BroadcastsInDim S8192x1024 (![] : Fin 0 → Fin S8192x1024.rank)
  bcast_S_S8192x8192 : S_.BroadcastsInDim S8192x8192 (![] : Fin 0 → Fin S8192x8192.rank)

variable [Facts]

def fn {F : FTy → Type} [FloatOps F] (main_arg0 : FVec F S8192x1024 .f32) (main_arg1 : FVec F S1024x1024 .bf16) (main_arg2 : FVec F S8192x1024 .bf16) (main_arg3 : FVec F S8192x1024 .bf16) (main_arg4 : FVec F S8192x5120 .bf16) : IVec S8192x1024 1 × IVec S8192x1024 1 × IVec S8192x8192 1 :=
  let main_v0 : IVec S8192x8192 32 := iotaInDim S8192x8192 32 1
  let main_v1 : IVec S8192x1024 32 := iotaInDim S8192x1024 32 1
  let main_c : IVec S_ 32 := constantI S_ 32 0#32
  let main_v2 : IVec S8192x1024 32 := broadcastInDim S8192x1024 ![] bcast_S_S8192x1024 main_c
  let main_v3 : IVec S8192x1024 1 := cmpi .sge main_v1 main_v2
  let main_c_0 : IVec S_ 32 := constantI S_ 32 6144#32
  let main_v4 : IVec S8192x8192 32 := broadcastInDim S8192x8192 ![] bcast_S_S8192x8192 main_c_0
  let main_v5 : IVec S8192x8192 1 := cmpi .sge main_v0 main_v4
  (main_v3, main_v3, main_v5)
-- ==== Pre_finite_ffn.lean ====
abbrev S8192x1024 : Shape := ⟨2, ![8192, 1024]⟩
abbrev S3072x1024 : Shape := ⟨2, ![3072, 1024]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S3072x1024 : S_.BroadcastsInDim S3072x1024 (![] : Fin 0 → Fin S3072x1024.rank)
  bcast_S_S8192x3072 : S_.BroadcastsInDim S8192x3072 (![] : Fin 0 → Fin S8192x3072.rank)

variable [Facts]

def fn {F : FTy → Type} [FloatOps F] (main_arg0 : FVec F S8192x1024 .f32) (main_arg1 : FVec F S3072x1024 .bf16) (main_arg2 : FVec F S8192x3072 .bf16) (main_arg3 : FVec F S8192x3072 .bf16) : IVec S8192x1024 1 × IVec S3072x1024 1 × IVec S8192x3072 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S3072x1024 .f32 := (extf .f32 · bitsLt_bf16_f32) main_arg1
  let main_v4 : FVec F S3072x1024 .f32 := Host.absf main_v3
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_v7 : FVec F S8192x3072 .f32 := (extf .f32 · bitsLt_bf16_f32) main_arg3
  let main_v8 : FVec F S8192x3072 .f32 := Host.absf main_v7
  let main_cst_1 : FVec F S_ .f32 := constant S_ .f32 0x7F800000#32
  let main_v9 : FVec F S8192x3072 .f32 := broadcastInDim S8192x3072 ![] bcast_S_S8192x3072 main_cst_1
  let main_v10 : IVec S8192x3072 1 := cmpf .olt main_v8 main_v9
  (main_v2, main_v6, main_v10)
-- ==== Pre_finite_gates.lean ====
abbrev S8192x1024 : Shape := ⟨2, ![8192, 1024]⟩
abbrev S8192x128 : Shape := ⟨2, ![8192, 128]⟩
abbrev S8x64x128x128 : Shape := ⟨4, ![8, 64, 128, 128]⟩
abbrev S_ : Shape := ⟨0, ![]⟩

class Facts : Prop where
  bcast_S_S8192x128 : S_.BroadcastsInDim S8192x128 (![] : Fin 0 → Fin S8192x128.rank)

variable [Facts]

def fn {F : FTy → Type} [FloatOps F] (main_arg0 : FVec F S8192x1024 .f32) (main_arg1 : FVec F S8192x1024 .f32) (main_arg2 : FVec F S8192x1024 .f32) (main_arg3 : FVec F S8192x128 .f32) (main_arg4 : FVec F S8x64x128x128 .f32) (main_arg5 : FVec F S8x64x128x128 .f32) (main_arg6 : FVec F S8192x1024 .f32) (main_arg7 : FVec F S8192x1024 .f32) (main_arg8 : FVec F S8192x1024 .bf16) : IVec S8192x128 1 :=
  let main_v0 : FVec F S8192x128 .f32 := Host.absf main_arg3
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  main_v2
-- ==== Pre_finite_ln.lean ====
abbrev S8192x1024 : Shape := ⟨2, ![8192, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S1x1024 .f32) (main_arg2 : FVec F S1x1024 .f32) (main_arg3 : FVec F S8192x1024 .f32) : IVec S1x1024 1 × IVec S8192x1024 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S8192x1024 .f32 := Host.absf main_arg3
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  (main_v2, main_v5)
-- ==== Pre_finite_loss.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S8192x1024 .f32) (main_arg3 : FVec F S1x1024 .f32) (main_arg4 : FVec F S1x1024 .f32) : IVec S8192x1024 1 × IVec S8192x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Swiglu.lean ====
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S3072x1024, .bf16⟩
  | .hbm, ⟨2, _⟩ => ⟨S8192x3072, .bf16⟩
  | .hbm, ⟨3, _⟩ => ⟨S8192x3072, .bf16⟩
  | .hbm, ⟨4, _⟩ => ⟨S8192x3072, .bf16⟩
  | .hbm, ⟨5, _⟩ => ⟨S8192x3072, .bf16⟩
  | .local _ .vmem, ⟨0, _⟩ => ⟨S1024x1024, .f32⟩
  | .local _ .vmem, ⟨1, _⟩ => ⟨S1024x1024, .f32⟩
  | .local _ .vmem, ⟨2, _⟩ => ⟨S768x1024, .bf16⟩
  | .local _ .vmem, ⟨3, _⟩ => ⟨S768x1024, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluRefIdeal.lean ====
abbrev S8192x1024 : Shape := ⟨2, ![8192, 1024]⟩
abbrev S3072x1024 : Shape := ⟨2, ![3072, 1024]⟩
abbrev S8192x3072 : Shape := ⟨2, ![8192, 3072]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S3072x1024, .bf16⟩
  | .hbm, ⟨2, _⟩ => ⟨S8192x3072, .bf16⟩
  | .hbm, ⟨3, _⟩ => ⟨S8192x3072, .bf16⟩
  | .hbm, ⟨4, _⟩ => ⟨S8192x3072, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S_, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S3072x1024, .f32⟩
  | .hbm, ⟨21, _⟩ => ⟨S8192x1024, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .bf16⟩
  | .hbm, ⟨30, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Merge.lean ====
abbrev S8192x1024 : Shape := ⟨2, ![8192, 1024]⟩
abbrev S1024x1024 : Shape := ⟨2, ![1024, 1024]⟩
abbrev S8192x5120 : Shape := ⟨2, ![8192, 5120]⟩
abbrev S8192x8192 : Shape := ⟨2, ![8192, 8192]⟩
abbrev S512x1024 : Shape := ⟨2, ![512, 1024]⟩
abbrev S512x2048 : Shape := ⟨2, ![512, 2048]⟩

abbrev nBuf : Space → Nat
  | .hbm => 8
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .hbm, ⟨3, _⟩ => ⟨S8192x1024, .bf16⟩
  | .hbm, ⟨4, _⟩ => ⟨S8192x5120, .bf16⟩
  | .hbm, ⟨5, _⟩ => ⟨S8192x1024, .bf16⟩
  | .hbm, ⟨6, _⟩ => ⟨S8192x1024, .bf16⟩
  | .hbm, ⟨7, _⟩ => ⟨S8192x8192, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S8192x1024 : Shape := ⟨2, ![8192, 1024]⟩
abbrev S1024x1024 : Shape := ⟨2, ![1024, 1024]⟩
abbrev S8192x5120 : Shape := ⟨2, ![8192, 5120]⟩
abbrev S_ : Shape := ⟨0, ![]⟩
abbrev S8192x6144 : Shape := ⟨2, ![8192, 6144]⟩
abbrev S8192x2048 : Shape := ⟨2, ![8192, 2048]⟩
abbrev S8192x8192 : Shape := ⟨2, ![8192, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .hbm, ⟨3, _⟩ => ⟨S8192x1024, .bf16⟩
  | .hbm, ⟨4, _⟩ => ⟨S8192x5120, .bf16⟩
  | .hbm, ⟨5, _⟩ => ⟨S8192x1024, .bf16⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1024x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x6144, .f32⟩
  | .hbm, ⟨49, _⟩ => ⟨S8192x1024, .bf16⟩
  | .hbm, ⟨50, _⟩ => ⟨S8192x1024, .bf16⟩
  | .hbm, ⟨51, _⟩ => ⟨S8192x2048, .f32⟩
  | .hbm, ⟨52, _⟩ => ⟨S8192x8192, .f32⟩
  | .hbm, ⟨53, _⟩ => ⟨S8192x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== WIn.lean ====
abbrev S8192x1024 : Shape := ⟨2, ![8192, 1024]⟩
abbrev S8192x8192 : Shape := ⟨2, ![8192, 8192]⟩
abbrev S1024x8192 : Shape := ⟨2, ![1024, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S1024x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInRefIdeal.lean ====
abbrev S8192x1024 : Shape := ⟨2, ![8192, 1024]⟩
abbrev S8192x8192 : Shape := ⟨2, ![8192, 8192]⟩
abbrev S_ : Shape := ⟨0, ![]⟩
abbrev S1024x8192 : Shape := ⟨2, ![1024, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S_, .f32⟩
  | .hbm, ⟨3, _⟩ => ⟨S1024x8192, .f32⟩
  | .hbm, ⟨4, _⟩ => ⟨S8192x1024, .f32⟩
  | .hbm, ⟨5, _⟩ => ⟨S8192x8192, .f32⟩
  | .hbm, ⟨6, _⟩ => ⟨S8192x8192, .f32⟩
  | .hbm, ⟨7, _⟩ => ⟨S8192x1024, .f32⟩
  | .hbm, ⟨8, _⟩ => ⟨S1024x8192, .f32⟩
  | .hbm, ⟨9, _⟩ => ⟨S1024x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WGate.lean ====
abbrev S8192x3072 : Shape := ⟨2, ![8192, 3072]⟩
abbrev S8192x1024 : Shape := ⟨2, ![8192, 1024]⟩
abbrev S3072x1024 : Shape := ⟨2, ![3072, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WGateRefIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 12
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S_, .f32⟩
  | .hbm, ⟨3, _⟩ => ⟨S3072x1024, .f32⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S3072x1024, .f32⟩
  | .hbm, ⟨11, _⟩ => ⟨S3072x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WDown.lean ====
abbrev S8192x3072 : Shape := ⟨2, ![8192, 3072]⟩
abbrev S8192x1024 : Shape := ⟨2, ![8192, 1024]⟩
abbrev S3072x1024 : Shape := ⟨2, ![3072, 1024]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S3072x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1024, .f32⟩
  | .local _ .vmem, ⟨3, _⟩ => ⟨S1024x1024, .f32⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WDownRefIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S_, .f32⟩
  | .hbm, ⟨3, _⟩ => ⟨S3072x1024, .f32⟩
  | .hbm, ⟨4, _⟩ => ⟨S8192x3072, .f32⟩
  | .hbm, ⟨5, _⟩ => ⟨S8192x1024, .f32⟩
  | .hbm, ⟨6, _⟩ => ⟨S1024x3072, .f32⟩
  | .hbm, ⟨7, _⟩ => ⟨S3072x1024, .f32⟩
  | .hbm, ⟨8, _⟩ => ⟨S3072x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WMerge.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WMergeRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WOut.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== XIn.lean ====
abbrev S8192x8192 : Shape := ⟨2, ![8192, 8192]⟩
abbrev S1024x8192 : Shape := ⟨2, ![1024, 8192]⟩
abbrev S8192x1024 : Shape := ⟨2, ![8192, 1024]⟩
abbrev S8192x128 : Shape := ⟨2, ![8192, 128]⟩
abbrev S1024x128 : Shape := ⟨2, ![1024, 128]⟩
abbrev S1024x2048 : Shape := ⟨2, ![1024, 2048]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x8192, .bf16⟩
  | .hbm, ⟨1, _⟩ => ⟨S1024x8192, .bf16⟩
  | .hbm, ⟨2, _⟩ => ⟨S8192x1024, .f32⟩
  | .hbm, ⟨3, _⟩ => ⟨S8192x128, .bf16⟩
  | .hbm, ⟨4, _⟩ => ⟨S1024x128, .bf16⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== XInRefIdeal.lean ====
abbrev S8192x8192 : Shape := ⟨2, ![8192, 8192]⟩
abbrev S1024x8192 : Shape := ⟨2, ![1024, 8192]⟩
abbrev S8192x1024 : Shape := ⟨2, ![8192, 1024]⟩
abbrev S8192x128 : Shape := ⟨2, ![8192, 128]⟩
abbrev S1024x128 : Shape := ⟨2, ![1024, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S1024x8192, .bf16⟩
  | .hbm, ⟨2, _⟩ => ⟨S8192x1024, .f32⟩
  | .hbm, ⟨3, _⟩ => ⟨S8192x128, .bf16⟩
  | .hbm, ⟨4, _⟩ => ⟨S1024x128, .bf16⟩
  | .hbm, ⟨5, _⟩ => ⟨S_, .f32⟩
  | .hbm, ⟨6, _⟩ => ⟨S8192x1024, .f32⟩
  | .hbm, ⟨7, _⟩ => ⟨S1024x8192, .f32⟩
  | .hbm, ⟨8, _⟩ => ⟨S8192x8192, .f32⟩
  | .hbm, ⟨9, _⟩ => ⟨S1024x128, .f32⟩
  | .hbm, ⟨10, _⟩ => ⟨S8192x128, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x8192, .f32⟩
  | .hbm, ⟨15, _⟩ => ⟨S8192x128, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== XFfn.lean ====
abbrev S8192x3072 : Shape := ⟨2, ![8192, 3072]⟩
abbrev S3072x1024 : Shape := ⟨2, ![3072, 1024]⟩
abbrev S8192x1024 : Shape := ⟨2, ![8192, 1024]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x3072, .bf16⟩
  | .hbm, ⟨3, _⟩ => ⟨S3072x1024, .bf16⟩
  | .hbm, ⟨4, _⟩ => ⟨S8192x1024, .f32⟩
  | .hbm, ⟨5, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1536, .bf16⟩
  | .local _ .vmem, ⟨5, _⟩ => ⟨S1024x1536, .bf16⟩
  | .local _ .vmem, ⟨6, _⟩ => ⟨S1536x1024, .bf16⟩
  | .local _ .vmem, ⟨7, _⟩ => ⟨S1536x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_11 : BitVec 32 := 1#32
  let v15 : BitVec 1 := Scalar.cmpi .eq arg2 c1_i32_11
  let v16 : BitVec 32 := Scalar.extui v15
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== XFfnRefIdeal.lean ====
abbrev S8192x3072 : Shape := ⟨2, ![8192, 3072]⟩
abbrev S3072x1024 : Shape := ⟨2, ![3072, 1024]⟩
abbrev S8192x1024 : Shape := ⟨2, ![8192, 1024]⟩
abbrev S_ : Shape := ⟨0, ![]⟩
abbrev S1024x3072 : Shape := ⟨2, ![1024, 3072]⟩

abbrev nBuf : Space → Nat
  | .hbm => 25
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x3072, .bf16⟩
  | .hbm, ⟨3, _⟩ => ⟨S3072x1024, .bf16⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S3072x1024, .f32⟩
  | .hbm, ⟨8, _⟩ => ⟨S1024x3072, .f32⟩
  | .hbm, ⟨9, _⟩ => ⟨S8192x3072, .f32⟩
  | .hbm, ⟨10, _⟩ => ⟨S3072x1024, .f32⟩
  | .hbm, ⟨11, _⟩ => ⟨S1024x3072, .f32⟩
  | .hbm, ⟨12, _⟩ => ⟨S8192x3072, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== LnBwd.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8x1024, .f32⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x1024 : Shape := ⟨2, ![8, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1024, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S1x1024, .f32⟩
  | .hbm, ⟨88, _⟩ => ⟨S8x1024, .f32⟩
  | .hbm, ⟨89, _⟩ => ⟨S1x1024, .f32⟩
  | .hbm, ⟨90, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_15 : Ref sig .tc := ⟨.hbm, 80, rfl⟩
abbrev main_v60 : Ref sig .tc := ⟨.hbm, 81, rfl⟩
abbrev main_v61 : Ref sig .tc := ⟨.hbm, 82, rfl⟩
abbrev main_cst_16 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== LossLn.lean ====
abbrev S8192x1024 : Shape := ⟨2, ![8192, 1024]⟩
abbrev S1x1024 : Shape := ⟨2, ![1, 1024]⟩
abbrev S8x1024 : Shape := ⟨2, ![8, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1x1 : Shape := ⟨2, ![1, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8x1024, .f32⟩
  | .hbm, ⟨7, _⟩ => ⟨S8x1024, .f32⟩
  | .hbm, ⟨8, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x1024, .f32⟩
  | .local _ .vmem, ⟨12, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossLnRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S1024 : Shape := ⟨1, ![1024]⟩
abbrev S8192x1 : Shape := ⟨2, ![8192, 1]⟩
abbrev S8x1024 : Shape := ⟨2, ![8, 1024]⟩
abbrev S8x128 : Shape := ⟨2, ![8, 128]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x1024, .f32⟩
  | .hbm, ⟨27, _⟩ => ⟨S8192x1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S_, .f32⟩
  | .hbm, ⟨71, _⟩ => ⟨S1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S8192x1, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192, .f32⟩
  | .hbm, ⟨101, _⟩ => ⟨S8192x1, .f32⟩
  | .hbm, ⟨102, _⟩ => ⟨S8192x1024, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192, .f32⟩
  | .hbm, ⟨109, _⟩ => ⟨S8192x1024, .f32⟩
  | .hbm, ⟨110, _⟩ => ⟨S8192x1024, .f32⟩
  | .hbm, ⟨111, _⟩ => ⟨S1x1024, .f32⟩
  | .hbm, ⟨112, _⟩ => ⟨S8x1024, .f32⟩
  | .hbm, ⟨113, _⟩ => ⟨S1x1024, .f32⟩
  | .hbm, ⟨114, _⟩ => ⟨S8x1024, .f32⟩
  | .hbm, ⟨115, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_cst_4 : Ref sig .tc := ⟨.hbm, 19, rfl⟩
abbrev main_cst_5 : Ref sig .tc := ⟨.hbm, 20, rfl⟩
abbrev main_v9 : Ref sig .tc := ⟨.hbm, 21, rfl⟩
abbrev main_v10 : Ref sig .tc := ⟨.hbm, 22, rfl⟩
abbrev main_cst_6 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_7 : Ref sig .tc := ⟨.hbm, 30, rfl⟩
abbrev main_v17 : Ref sig .tc := ⟨.hbm, 31, rfl⟩
abbrev main_v18 : Ref sig .tc := ⟨.hbm, 32, rfl⟩
abbrev main_cst_8 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_9 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_cst_11 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_12 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_13 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_cst_16 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_17 : Ref sig .tc := ⟨.hbm, 78, rfl⟩
abbrev main_v55 : Ref sig .tc := ⟨.hbm, 79, rfl⟩
abbrev main_v56 : Ref sig .tc := ⟨.hbm, 80, rfl⟩
abbrev main_cst_18 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_19 : Ref sig .tc := ⟨.hbm, 88, rfl⟩
abbrev main_v63 : Ref sig .tc := ⟨.hbm, 89, rfl⟩
abbrev main_v64 : Ref sig .tc := ⟨.hbm, 90, rfl⟩
abbrev main_cst_20 : Ref sig .tc := ⟨.hbm, 91, rfl⟩
abbrev main_v65 : Ref sig .tc := ⟨.hbm, 92, rfl⟩
abbrev main_v66 : Ref sig .tc := ⟨.hbm, 93, rfl⟩
abbrev main_cst_21 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_22 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_23 : Ref sig .tc := ⟨.hbm, 104, rfl⟩
abbrev main_v75 : Ref sig .tc := ⟨.hbm, 105, rfl⟩
abbrev main_v76 : Ref sig .tc := ⟨.hbm, 106, rfl⟩
abbrev main_cst_24 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]
-- ==== ConvBwd.lean ====
abbrev S8192x3072 : Shape := ⟨2, ![8192, 3072]⟩
abbrev S4x3072 : Shape := ⟨2, ![4, 3072]⟩
abbrev S8192x8192 : Shape := ⟨2, ![8192, 8192]⟩
abbrev S256x3072 : Shape := ⟨2, ![256, 3072]⟩
abbrev S16x3072 : Shape := ⟨2, ![16, 3072]⟩
abbrev S272x3072 : Shape := ⟨2, ![272, 3072]⟩
abbrev S1x3072 : Shape := ⟨2, ![1, 3072]⟩

abbrev nBuf : Space → Nat
  | .hbm => 4
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S4x3072, .f32⟩
  | .hbm, ⟨2, _⟩ => ⟨S8192x8192, .bf16⟩
  | .hbm, ⟨3, _⟩ => ⟨S8192x8192, .bf16⟩
  | .local _ .vmem, ⟨0, _⟩ => ⟨S256x3072, .bf16⟩
  | .local _ .vmem, ⟨1, _⟩ => ⟨S256x3072, .bf16⟩
  | .local _ .vmem, ⟨2, _⟩ => ⟨S16x3072, .bf16⟩
  | .local _ .vmem, ⟨3, _⟩ => ⟨S16x3072, .bf16⟩
  | .local _ .vmem, ⟨4, _⟩ => ⟨S4x3072, .f32⟩
  | .local _ .vmem, ⟨5, _⟩ => ⟨S256x3072, .bf16⟩
  | .local _ .vmem, ⟨6, _⟩ => ⟨S256x3072, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvBwdRefIdeal.lean ====
abbrev S8192x3072 : Shape := ⟨2, ![8192, 3072]⟩
abbrev S4x3072 : Shape := ⟨2, ![4, 3072]⟩
abbrev S8192x8192 : Shape := ⟨2, ![8192, 8192]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩
abbrev S3072 : Shape := ⟨1, ![3072]⟩
abbrev S8192x5120 : Shape := ⟨2, ![8192, 5120]⟩

abbrev nBuf : Space → Nat
  | .hbm => 65
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S4x3072, .f32⟩
  | .hbm, ⟨2, _⟩ => ⟨S8192x8192, .bf16⟩
  | .hbm, ⟨3, _⟩ => ⟨S_, .f32⟩
  | .hbm, ⟨4, _⟩ => ⟨S8192x3072, .f32⟩
  | .hbm, ⟨5, _⟩ => ⟨S_, .f32⟩
  | .hbm, ⟨6, _⟩ => ⟨S3x3072, .f32⟩
  | .hbm, ⟨7, _⟩ => ⟨S8195x3072, .f32⟩
  | .hbm, ⟨8, _⟩ => ⟨S_, .f32⟩
  | .hbm, ⟨9, _⟩ => ⟨S3x3072, .f32⟩
  | .hbm, ⟨10, _⟩ => ⟨S1x3072, .f32⟩
  | .hbm, ⟨11, _⟩ => ⟨S3072, .f32⟩
  | .hbm, ⟨12, _⟩ => ⟨S8192x3072, .f32⟩
  | .hbm, ⟨13, _⟩ => ⟨S1x3072, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S1x3072, .f32⟩
  | .hbm, ⟨20, _⟩ => ⟨S3072, .f32⟩
  | .hbm, ⟨21, _⟩ => ⟨S8192x3072, .f32⟩
  | .hbm, ⟨22, _⟩ => ⟨S1x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S1x3072, .f32⟩
  | .hbm, ⟨27, _⟩ => ⟨S3072, .f32⟩
  | .hbm, ⟨28, _⟩ => ⟨S8192x3072, .f32⟩
  | .hbm, ⟨29, _⟩ => ⟨S1x3072, .f32⟩
  | .hbm, ⟨30, _⟩ => ⟨S8192x3072, .f32⟩
  | .hbm, ⟨31, _⟩ => ⟨S8192x3072, .f32⟩
  | .hbm, ⟨32, _⟩ => ⟨S8192x3072, .f32⟩
  | .hbm, ⟨33, _⟩ => ⟨S1x3072, .f32⟩
  | .hbm, ⟨34, _⟩ => ⟨S3072, .f32⟩
  | .hbm, ⟨35, _⟩ => ⟨S8192x3072, .f32⟩
  | .hbm, ⟨36, _⟩ => ⟨S1x3072, .f32⟩
  | .hbm, ⟨37, _⟩ => ⟨S8192x3072, .f32⟩
  | .hbm, ⟨38, _⟩ => ⟨S8192x3072, .f32⟩
  | .hbm, ⟨39, _⟩ => ⟨S8192x3072, .f32⟩
  | .hbm, ⟨40, _⟩ => ⟨S8192x3072, .f32⟩
  | .hbm, ⟨41, _⟩ => ⟨S8192x3072, .f32⟩
  | .hbm, ⟨42, _⟩ => ⟨S8192x3072, .f32⟩
  | .hbm, ⟨43, _⟩ => ⟨S_, .f32⟩
  | .hbm, ⟨44, _⟩ => ⟨S8195x3072, .f32⟩
  | .hbm, ⟨45, _⟩ => ⟨S8192x3072, .f32⟩
  | .hbm, ⟨46, _⟩ => ⟨S8192x3072, .f32⟩
  | .hbm, ⟨47, _⟩ => ⟨S_, .f32⟩
  | .hbm, ⟨48, _⟩ => ⟨S8195x3072, .f32⟩
  | .hbm, ⟨49, _⟩ => ⟨S8195x3072, .f32⟩
  | .hbm, ⟨50, _⟩ => ⟨S8192x3072, .f32⟩
  | .hbm, ⟨51, _⟩ => ⟨S8192x3072, .f32⟩
  | .hbm, ⟨52, _⟩ => ⟨S_, .f32⟩
  | .hbm, ⟨53, _⟩ => ⟨S8195x3072, .f32⟩
  | .hbm, ⟨54, _⟩ => ⟨S8195x3072, .f32⟩
  | .hbm, ⟨55, _⟩ => ⟨S8192x3072, .f32⟩
  | .hbm, ⟨56, _⟩ => ⟨S8192x3072, .f32⟩
  | .hbm, ⟨57, _⟩ => ⟨S_, .f32⟩
  | .hbm, ⟨58, _⟩ => ⟨S8195x3072, .f32⟩
  | .hbm, ⟨59, _⟩ => ⟨S8195x3072, .f32⟩
  | .hbm, ⟨60, _⟩ => ⟨S3x3072, .f32⟩
  | .hbm, ⟨61, _⟩ => ⟨S8192x3072, .f32⟩
  | .hbm, ⟨62, _⟩ => ⟨S8192x3072, .bf16⟩
  | .hbm, ⟨63, _⟩ => ⟨S8192x5120, .bf16⟩
  | .hbm, ⟨64, _⟩ => ⟨S8192x8192, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== QkvPrep.lean ====
abbrev S8192x3072 : Shape := ⟨2, ![8192, 3072]⟩
abbrev S8192x1024 : Shape := ⟨2, ![8192, 1024]⟩
abbrev S1024x128 : Shape := ⟨2, ![1024, 128]⟩
abbrev S4x3072 : Shape := ⟨2, ![4, 3072]⟩
abbrev S1x128 : Shape := ⟨2, ![1, 128]⟩
abbrev S8192x128 : Shape := ⟨2, ![8192, 128]⟩
abbrev S256x3072 : Shape := ⟨2, ![256, 3072]⟩
abbrev S8x3072 : Shape := ⟨2, ![8, 3072]⟩
abbrev S256x1024 : Shape := ⟨2, ![256, 1024]⟩
abbrev S256x128 : Shape := ⟨2, ![256, 128]⟩
abbrev S264x3072 : Shape := ⟨2, ![264, 3072]⟩
abbrev S1x3072 : Shape := ⟨2, ![1, 3072]⟩
abbrev S256 : Shape := ⟨1, ![256]⟩
abbrev S256x1 : Shape := ⟨2, ![256, 1]⟩

abbrev nBuf : Space → Nat
  | .hbm => 12
  | .vmem => 22
  | .smem => 0
  | _ => 0

abbrev bufTy : (tb : Table) → Fin (tcTables nBuf tb) → BufTy
  | .hbm, ⟨0, _⟩ => ⟨S8192x3072, .f32⟩
  | .hbm, ⟨1, _⟩ => ⟨S8192x1024, .bf16⟩
  | .hbm, ⟨2, _⟩ => ⟨S1024x128, .bf16⟩
  | .hbm, ⟨3, _⟩ => ⟨S4x3072, .f32⟩
  | .hbm, ⟨4, _⟩ => ⟨S1x128, .f32⟩
  | .hbm, ⟨5, _⟩ => ⟨S1x128, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x128, .f32⟩
  | .hbm, ⟨10, _⟩ => ⟨S8192x3072, .f32⟩
  | .hbm, ⟨11, _⟩ => ⟨S8192x128, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S256x1024, .bf16⟩
  | .local _ .vmem, ⟨5, _⟩ => ⟨S256x1024, .bf16⟩
  | .local _ .vmem, ⟨6, _⟩ => ⟨S1024x128, .bf16⟩
  | .local _ .vmem, ⟨7, _⟩ => ⟨S4x3072, .f32⟩
  | .local _ .vmem, ⟨8, _⟩ => ⟨S1x128, .f32⟩
  | .local _ .vmem, ⟨9, _⟩ => ⟨S1x128, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x128, .f32⟩
  | .local _ .vmem, ⟨17, _⟩ => ⟨S256x128, .f32⟩
  | .local _ .vmem, ⟨18, _⟩ => ⟨S256x3072, .f32⟩
  | .local _ .vmem, ⟨19, _⟩ => ⟨S256x3072, .f32⟩
  | .local _ .vmem, ⟨20, _⟩ => ⟨S256x128, .f32⟩
  | .local _ .vmem, ⟨21, _⟩ => ⟨S256x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvPrepRefIdeal.lean ====
abbrev S8192x3072 : Shape := ⟨2, ![8192, 3072]⟩
abbrev S8192x1024 : Shape := ⟨2, ![8192, 1024]⟩
abbrev S1024x128 : Shape := ⟨2, ![1024, 128]⟩
abbrev S4x3072 : Shape := ⟨2, ![4, 3072]⟩
abbrev S1x128 : Shape := ⟨2, ![1, 128]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩
abbrev S3072 : Shape := ⟨1, ![3072]⟩
abbrev S8192x8x128 : Shape := ⟨3, ![8192, 8, 128]⟩
abbrev S8192x8 : Shape := ⟨2, ![8192, 8]⟩
abbrev S8192x8x1 : Shape := ⟨3, ![8192, 8, 1]⟩
abbrev S8192x128 : Shape := ⟨2, ![8192, 128]⟩
abbrev S1x8 : Shape := ⟨2, ![1, 8]⟩
abbrev S8 : Shape := ⟨1, ![8]⟩
abbrev S8192x112 : Shape := ⟨2, ![8192, 112]⟩

abbrev nBuf : Space → Nat
  | .hbm => 117
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .bf16⟩
  | .hbm, ⟨2, _⟩ => ⟨S1024x128, .bf16⟩
  | .hbm, ⟨3, _⟩ => ⟨S4x3072, .f32⟩
  | .hbm, ⟨4, _⟩ => ⟨S1x128, .f32⟩
  | .hbm, ⟨5, _⟩ => ⟨S1x128, .f32⟩
  | .hbm, ⟨6, _⟩ => ⟨S_, .f32⟩
  | .hbm, ⟨7, _⟩ => ⟨S3x3072, .f32⟩
  | .hbm, ⟨8, _⟩ => ⟨S8195x3072, .f32⟩
  | .hbm, ⟨9, _⟩ => ⟨S1x3072, .f32⟩
  | .hbm, ⟨10, _⟩ => ⟨S3072, .f32⟩
  | .hbm, ⟨11, _⟩ => ⟨S8192x3072, .f32⟩
  | .hbm, ⟨12, _⟩ => ⟨S1x3072, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S1x3072, .f32⟩
  | .hbm, ⟨19, _⟩ => ⟨S3072, .f32⟩
  | .hbm, ⟨20, _⟩ => ⟨S8192x3072, .f32⟩
  | .hbm, ⟨21, _⟩ => ⟨S1x3072, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S1x3072, .f32⟩
  | .hbm, ⟨26, _⟩ => ⟨S3072, .f32⟩
  | .hbm, ⟨27, _⟩ => ⟨S8192x3072, .f32⟩
  | .hbm, ⟨28, _⟩ => ⟨S1x3072, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S1x3072, .f32⟩
  | .hbm, ⟨33, _⟩ => ⟨S3072, .f32⟩
  | .hbm, ⟨34, _⟩ => ⟨S8192x3072, .f32⟩
  | .hbm, ⟨35, _⟩ => ⟨S1x3072, .f32⟩
  | .hbm, ⟨36, _⟩ => ⟨S8192x3072, .f32⟩
  | .hbm, ⟨37, _⟩ => ⟨S8192x3072, .f32⟩
  | .hbm, ⟨38, _⟩ => ⟨S8192x3072, .f32⟩
  | .hbm, ⟨39, _⟩ => ⟨S8192x3072, .f32⟩
  | .hbm, ⟨40, _⟩ => ⟨S8192x3072, .f32⟩
  | .hbm, ⟨41, _⟩ => ⟨S_, .f32⟩
  | .hbm, ⟨42, _⟩ => ⟨S8192x3072, .f32⟩
  | .hbm, ⟨43, _⟩ => ⟨S8192x3072, .f32⟩
  | .hbm, ⟨44, _⟩ => ⟨S_, .f32⟩
  | .hbm, ⟨45, _⟩ => ⟨S8192x3072, .f32⟩
  | .hbm, ⟨46, _⟩ => ⟨S8192x3072, .f32⟩
  | .hbm, ⟨47, _⟩ => ⟨S8192x3072, .f32⟩
  | .hbm, ⟨48, _⟩ => ⟨S8192x1024, .f32⟩
  | .hbm, ⟨49, _⟩ => ⟨S8192x8x128, .f32⟩
  | .hbm, ⟨50, _⟩ => ⟨S8192x8x128, .f32⟩
  | .hbm, ⟨51, _⟩ => ⟨S_, .f32⟩
  | .hbm, ⟨52, _⟩ => ⟨S8192x8, .f32⟩
  | .hbm, ⟨53, _⟩ => ⟨S8192x8x1, .f32⟩
  | .hbm, ⟨54, _⟩ => ⟨S_, .f32⟩
  | .hbm, ⟨55, _⟩ => ⟨S8192x8x1, .f32⟩
  | .hbm, ⟨56, _⟩ => ⟨S8192x8x1, .f32⟩
  | .hbm, ⟨57, _⟩ => ⟨S8192x8x1, .f32⟩
  | .hbm, ⟨58, _⟩ => ⟨S8192x8x128, .f32⟩
  | .hbm, ⟨59, _⟩ => ⟨S8192x8x128, .f32⟩
  | .hbm, ⟨60, _⟩ => ⟨S8192x1024, .f32⟩
  | .hbm, ⟨61, _⟩ => ⟨S8192x1024, .f32⟩
  | .hbm, ⟨62, _⟩ => ⟨S8192x8x128, .f32⟩
  | .hbm, ⟨63, _⟩ => ⟨S8192x8x128, .f32⟩
  | .hbm, ⟨64, _⟩ => ⟨S_, .f32⟩
  | .hbm, ⟨65, _⟩ => ⟨S8192x8, .f32⟩
  | .hbm, ⟨66, _⟩ => ⟨S8192x8x1, .f32⟩
  | .hbm, ⟨67, _⟩ => ⟨S_, .f32⟩
  | .hbm, ⟨68, _⟩ => ⟨S8192x8x1, .f32⟩
  | .hbm, ⟨69, _⟩ => ⟨S8192x8x1, .f32⟩
  | .hbm, ⟨70, _⟩ => ⟨S8192x8x1, .f32⟩
  | .hbm, ⟨71, _⟩ => ⟨S8192x8x128, .f32⟩
  | .hbm, ⟨72, _⟩ => ⟨S8192x8x128, .f32⟩
  | .hbm, ⟨73, _⟩ => ⟨S8192x1024, .f32⟩
  | .hbm, ⟨74, _⟩ => ⟨S8192x1024, .f32⟩
  | .hbm, ⟨75, _⟩ => ⟨S1024x128, .f32⟩
  | .hbm, ⟨76, _⟩ => ⟨S8192x128, .f32⟩
  | .hbm, ⟨77, _⟩ => ⟨S8192x8, .f32⟩
  | .hbm, ⟨78, _⟩ => ⟨S8192x8, .f32⟩
  | .hbm, ⟨79, _⟩ => ⟨S8192x8, .f32⟩
  | .hbm, ⟨80, _⟩ => ⟨S_, .f32⟩
  | .hbm, ⟨81, _⟩ => ⟨S8192x8, .f32⟩
  | .hbm, ⟨82, _⟩ => ⟨S8192x8, .f32⟩
  | .hbm, ⟨83, _⟩ => ⟨S_, .f32⟩
  | .hbm, ⟨84, _⟩ => ⟨S8192x8, .f32⟩
  | .hbm, ⟨85, _⟩ => ⟨S8192x8, .f32⟩
  | .hbm, ⟨86, _⟩ => ⟨S1x8, .f32⟩
  | .hbm, ⟨87, _⟩ => ⟨S8, .f32⟩
  | .hbm, ⟨88, _⟩ => ⟨S8, .f32⟩
  | .hbm, ⟨89, _⟩ => ⟨S8, .f32⟩
  | .hbm, ⟨90, _⟩ => ⟨S8192x8, .f32⟩
  | .hbm, ⟨91, _⟩ => ⟨S1x8, .f32⟩
  | .hbm, ⟨92, _⟩ => ⟨S8, .f32⟩
  | .hbm, ⟨93, _⟩ => ⟨S1x8, .f32⟩
  | .hbm, ⟨94, _⟩ => ⟨S8192x8, .f32⟩
  | .hbm, ⟨95, _⟩ => ⟨S8192x8, .f32⟩
  | .hbm, ⟨96, _⟩ => ⟨S_, .f32⟩
  | .hbm, ⟨97, _⟩ => ⟨S8192x8, .f32⟩
  | .hbm, ⟨98, _⟩ => ⟨S8192x8, .f32⟩
  | .hbm, ⟨99, _⟩ => ⟨S8192x8, .f32⟩
  | .hbm, ⟨100, _⟩ => ⟨S8192x8, .f32⟩
  | .hbm, ⟨101, _⟩ => ⟨S8192x8, .i1⟩
  | .hbm, ⟨102, _⟩ => ⟨S8192x8, .f32⟩
  | .hbm, ⟨103, _⟩ => ⟨S8192x8, .f32⟩
  | .hbm, ⟨104, _⟩ => ⟨S8192x8, .f32⟩
  | .hbm, ⟨105, _⟩ => ⟨S8192x8, .f32⟩
  | .hbm, ⟨106, _⟩ => ⟨S8192x8, .f32⟩
  | .hbm, ⟨107, _⟩ => ⟨S8192x8, .f32⟩
  | .hbm, ⟨108, _⟩ => ⟨S8192x8, .f32⟩
  | .hbm, ⟨109, _⟩ => ⟨S8192x8, .f32⟩
  | .hbm, ⟨110, _⟩ => ⟨S1x8, .f32⟩
  | .hbm, ⟨111, _⟩ => ⟨S8192x8, .f32⟩
  | .hbm, ⟨112, _⟩ => ⟨S8192x8, .f32⟩
  | .hbm, ⟨113, _⟩ => ⟨S_, .f32⟩
  | .hbm, ⟨114, _⟩ => ⟨S8192x112, .f32⟩
  | .hbm, ⟨115, _⟩ => ⟨S8192x128, .f32⟩
  | .hbm, ⟨116, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_1 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_5 : Ref sig .tc := ⟨.hbm, 80, rfl⟩
abbrev main_v60 : Ref sig .tc := ⟨.hbm, 81, rfl⟩
abbrev main_v61 : Ref sig .tc := ⟨.hbm, 82, rfl⟩
abbrev main_cst_6 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_7 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== InQkv.lean ====
abbrev S8192x1024 : Shape := ⟨2, ![8192, 1024]⟩
abbrev S1024x8192 : Shape := ⟨2, ![1024, 8192]⟩
abbrev S8192x3072 : Shape := ⟨2, ![8192, 3072]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQkvRefIdeal.lean ====
abbrev S8192x1024 : Shape := ⟨2, ![8192, 1024]⟩
abbrev S1024x8192 : Shape := ⟨2, ![1024, 8192]⟩
abbrev S8192x8192 : Shape := ⟨2, ![8192, 8192]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x1024, .f32⟩
  | .hbm, ⟨3, _⟩ => ⟨S1024x8192, .f32⟩
  | .hbm, ⟨4, _⟩ => ⟨S8192x8192, .f32⟩
  | .hbm, ⟨5, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InRest.lean ====
abbrev S8192x1024 : Shape := ⟨2, ![8192, 1024]⟩
abbrev S1024x8192 : Shape := ⟨2, ![1024, 8192]⟩
abbrev S8192x5120 : Shape := ⟨2, ![8192, 5120]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRestRefIdeal.lean ====
abbrev S8192x1024 : Shape := ⟨2, ![8192, 1024]⟩
abbrev S1024x8192 : Shape := ⟨2, ![1024, 8192]⟩
abbrev S8192x8192 : Shape := ⟨2, ![8192, 8192]⟩
abbrev S8192x5120 : Shape := ⟨2, ![8192, 5120]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x1024, .f32⟩
  | .hbm, ⟨3, _⟩ => ⟨S1024x8192, .f32⟩
  | .hbm, ⟨4, _⟩ => ⟨S8192x8192, .f32⟩
  | .hbm, ⟨5, _⟩ => ⟨S8192x5120, .f32⟩
  | .hbm, ⟨6, _⟩ => ⟨S8192x5120, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Hidden.lean ====
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S3072x1024, .bf16⟩
  | .hbm, ⟨3, _⟩ => ⟨S8192x3072, .bf16⟩
  | .hbm, ⟨4, _⟩ => ⟨S8192x3072, .bf16⟩
  | .hbm, ⟨5, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== HiddenRefIdeal.lean ====
abbrev S8192x1024 : Shape := ⟨2, ![8192, 1024]⟩
abbrev S3072x1024 : Shape := ⟨2, ![3072, 1024]⟩
abbrev S1024x3072 : Shape := ⟨2, ![1024, 3072]⟩
abbrev S8192x3072 : Shape := ⟨2, ![8192, 3072]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S3072x1024, .bf16⟩
  | .hbm, ⟨3, _⟩ => ⟨S8192x1024, .f32⟩
  | .hbm, ⟨4, _⟩ => ⟨S3072x1024, .f32⟩
  | .hbm, ⟨5, _⟩ => ⟨S1024x3072, .f32⟩
  | .hbm, ⟨6, _⟩ => ⟨S8192x3072, .f32⟩
  | .hbm, ⟨7, _⟩ => ⟨S8192x3072, .bf16⟩
  | .hbm, ⟨8, _⟩ => ⟨S8192x1024, .f32⟩
  | .hbm, ⟨9, _⟩ => ⟨S3072x1024, .f32⟩
  | .hbm, ⟨10, _⟩ => ⟨S1024x3072, .f32⟩
  | .hbm, ⟨11, _⟩ => ⟨S8192x3072, .f32⟩
  | .hbm, ⟨12, _⟩ => ⟨S8192x3072, .bf16⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== OutLn.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutLnRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== DownLn.lean ====
abbrev S8192x3072 : Shape := ⟨2, ![8192, 3072]⟩
abbrev S3072x1024 : Shape := ⟨2, ![3072, 1024]⟩
abbrev S8192x1024 : Shape := ⟨2, ![8192, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownLnRefIdeal.lean ====
abbrev S8192x3072 : Shape := ⟨2, ![8192, 3072]⟩
abbrev S3072x1024 : Shape := ⟨2, ![3072, 1024]⟩
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x3072, .f32⟩
  | .hbm, ⟨9, _⟩ => ⟨S3072x1024, .f32⟩
  | .hbm, ⟨10, _⟩ => ⟨S8192x1024, .f32⟩
  | .hbm, ⟨11, _⟩ => ⟨S8192x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== AdamIn.lean ====
abbrev S8x1024x1152 : Shape := ⟨3, ![8, 1024, 1152]⟩
abbrev S2x1024x1026 : Shape := ⟨3, ![2, 1024, 1026]⟩
abbrev S8x128x1152 : Shape := ⟨3, ![8, 128, 1152]⟩
abbrev S1x128x1026 : Shape := ⟨3, ![1, 128, 1026]⟩
abbrev S128x1026 : Shape := ⟨2, ![128, 1026]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x1152, .bf16⟩
  | .hbm, ⟨1, _⟩ => ⟨S8x1024x1152, .bf16⟩
  | .hbm, ⟨2, _⟩ => ⟨S2x1024x1026, .f32⟩
  | .hbm, ⟨3, _⟩ => ⟨S2x1024x1026, .f32⟩
  | .hbm, ⟨4, _⟩ => ⟨S2x1024x1026, .f32⟩
  | .hbm, ⟨5, _⟩ => ⟨S2x1024x1026, .f32⟩
  | .hbm, ⟨6, _⟩ => ⟨S2x1024x1026, .f32⟩
  | .hbm, ⟨7, _⟩ => ⟨S2x1024x1026, .f32⟩
  | .hbm, ⟨8, _⟩ => ⟨S2x1024x1026, .f32⟩
  | .local _ .vmem, ⟨0, _⟩ => ⟨S8x128x1152, .bf16⟩
  | .local _ .vmem, ⟨1, _⟩ => ⟨S8x128x1152, .bf16⟩
  | .local _ .vmem, ⟨2, _⟩ => ⟨S8x128x1152, .bf16⟩
  | .local _ .vmem, ⟨3, _⟩ => ⟨S8x128x1152, .bf16⟩
  | .local _ .vmem, ⟨4, _⟩ => ⟨S1x128x1026, .f32⟩
  | .local _ .vmem, ⟨5, _⟩ => ⟨S1x128x1026, .f32⟩
  | .local _ .vmem, ⟨6, _⟩ => ⟨S1x128x1026, .f32⟩
  | .local _ .vmem, ⟨7, _⟩ => ⟨S1x128x1026, .f32⟩
  | .local _ .vmem, ⟨8, _⟩ => ⟨S1x128x1026, .f32⟩
  | .local _ .vmem, ⟨9, _⟩ => ⟨S1x128x1026, .f32⟩
  | .local _ .vmem, ⟨10, _⟩ => ⟨S1x128x1026, .f32⟩
  | .local _ .vmem, ⟨11, _⟩ => ⟨S1x128x1026, .f32⟩
  | .local _ .vmem, ⟨12, _⟩ => ⟨S1x128x1026, .f32⟩
  | .local _ .vmem, ⟨13, _⟩ => ⟨S1x128x1026, .f32⟩
  | .local _ .vmem, ⟨14, _⟩ => ⟨S1x128x1026, .f32⟩
  | .local _ .vmem, ⟨15, _⟩ => ⟨S1x128x1026, .f32⟩
  | .local _ .vmem, ⟨16, _⟩ => ⟨S1x128x1026, .f32⟩
  | .local _ .vmem, ⟨17, _⟩ => ⟨S1x128x1026, .f32⟩
  | _, _ => ⟨S8x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1026 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1026 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1026 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1026 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1026 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1026 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1026 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S8x1024x1152 : Shape := ⟨3, ![8, 1024, 1152]⟩
abbrev S2x1024x1026 : Shape := ⟨3, ![2, 1024, 1026]⟩
abbrev S_ : Shape := ⟨0, ![]⟩
abbrev S1024x1152 : Shape := ⟨2, ![1024, 1152]⟩
abbrev S1024x1026 : Shape := ⟨2, ![1024, 1026]⟩
abbrev S1x1024x1026 : Shape := ⟨3, ![1, 1024, 1026]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x1152, .bf16⟩
  | .hbm, ⟨1, _⟩ => ⟨S8x1024x1152, .bf16⟩
  | .hbm, ⟨2, _⟩ => ⟨S2x1024x1026, .f32⟩
  | .hbm, ⟨3, _⟩ => ⟨S2x1024x1026, .f32⟩
  | .hbm, ⟨4, _⟩ => ⟨S2x1024x1026, .f32⟩
  | .hbm, ⟨5, _⟩ => ⟨S8x1024x1152, .f32⟩
  | .hbm, ⟨6, _⟩ => ⟨S_, .f32⟩
  | .hbm, ⟨7, _⟩ => ⟨S1024x1152, .f32⟩
  | .hbm, ⟨8, _⟩ => ⟨S1024x1026, .f32⟩
  | .hbm, ⟨9, _⟩ => ⟨S8x1024x1152, .f32⟩
  | .hbm, ⟨10, _⟩ => ⟨S_, .f32⟩
  | .hbm, ⟨11, _⟩ => ⟨S1024x1152, .f32⟩
  | .hbm, ⟨12, _⟩ => ⟨S1024x1026, .f32⟩
  | .hbm, ⟨13, _⟩ => ⟨S1x1024x1026, .f32⟩
  | .hbm, ⟨14, _⟩ => ⟨S1x1024x1026, .f32⟩
  | .hbm, ⟨15, _⟩ => ⟨S2x1024x1026, .f32⟩
  | .hbm, ⟨16, _⟩ => ⟨S_, .f32⟩
  | .hbm, ⟨17, _⟩ => ⟨S2x1024x1026, .f32⟩
  | .hbm, ⟨18, _⟩ => ⟨S2x1024x1026, .f32⟩
  | .hbm, ⟨19, _⟩ => ⟨S_, .f32⟩
  | .hbm, ⟨20, _⟩ => ⟨S2x1024x1026, .f32⟩
  | .hbm, ⟨21, _⟩ => ⟨S2x1024x1026, .f32⟩
  | .hbm, ⟨22, _⟩ => ⟨S2x1024x1026, .f32⟩
  | .hbm, ⟨23, _⟩ => ⟨S_, .f32⟩
  | .hbm, ⟨24, _⟩ => ⟨S2x1024x1026, .f32⟩
  | .hbm, ⟨25, _⟩ => ⟨S2x1024x1026, .f32⟩
  | .hbm, ⟨26, _⟩ => ⟨S2x1024x1026, .f32⟩
  | .hbm, ⟨27, _⟩ => ⟨S_, .f32⟩
  | .hbm, ⟨28, _⟩ => ⟨S2x1024x1026, .f32⟩
  | .hbm, ⟨29, _⟩ => ⟨S2x1024x1026, .f32⟩
  | .hbm, ⟨30, _⟩ => ⟨S2x1024x1026, .f32⟩
  | .hbm, ⟨31, _⟩ => ⟨S_, .f32⟩
  | .hbm, ⟨32, _⟩ => ⟨S2x1024x1026, .f32⟩
  | .hbm, ⟨33, _⟩ => ⟨S2x1024x1026, .f32⟩
  | .hbm, ⟨34, _⟩ => ⟨S_, .f32⟩
  | .hbm, ⟨35, _⟩ => ⟨S2x1024x1026, .f32⟩
  | .hbm, ⟨36, _⟩ => ⟨S2x1024x1026, .f32⟩
  | .hbm, ⟨37, _⟩ => ⟨S2x1024x1026, .f32⟩
  | .hbm, ⟨38, _⟩ => ⟨S_, .f32⟩
  | .hbm, ⟨39, _⟩ => ⟨S2x1024x1026, .f32⟩
  | .hbm, ⟨40, _⟩ => ⟨S2x1024x1026, .f32⟩
  | .hbm, ⟨41, _⟩ => ⟨S2x1024x1026, .f32⟩
  | .hbm, ⟨42, _⟩ => ⟨S_, .f32⟩
  | .hbm, ⟨43, _⟩ => ⟨S2x1024x1026, .f32⟩
  | .hbm, ⟨44, _⟩ => ⟨S2x1024x1026, .f32⟩
  | .hbm, ⟨45, _⟩ => ⟨S2x1024x1026, .f32⟩
  | .hbm, ⟨46, _⟩ => ⟨S_, .f32⟩
  | .hbm, ⟨47, _⟩ => ⟨S2x1024x1026, .f32⟩
  | .hbm, ⟨48, _⟩ => ⟨S2x1024x1026, .f32⟩
  | _, _ => ⟨S8x1024x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamFfn.lean ====
abbrev S8x384x1024 : Shape := ⟨3, ![8, 384, 1024]⟩
abbrev S2x352x1024 : Shape := ⟨3, ![2, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x384x1024, .bf16⟩
  | .hbm, ⟨1, _⟩ => ⟨S8x384x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | .local _ .vmem, ⟨16, _⟩ => ⟨S1x32x1024, .f32⟩
  | .local _ .vmem, ⟨17, _⟩ => ⟨S1x32x1024, .f32⟩
  | _, _ => ⟨S8x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfnRefIdeal.lean ====
abbrev S8x384x1024 : Shape := ⟨3, ![8, 384, 1024]⟩
abbrev S2x352x1024 : Shape := ⟨3, ![2, 352, 1024]⟩
abbrev S_ : Shape := ⟨0, ![]⟩
abbrev S384x1024 : Shape := ⟨2, ![384, 1024]⟩
abbrev S352x1024 : Shape := ⟨2, ![352, 1024]⟩
abbrev S1x352x1024 : Shape := ⟨3, ![1, 352, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x384x1024, .bf16⟩
  | .hbm, ⟨1, _⟩ => ⟨S8x384x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x384x1024, .f32⟩
  | .hbm, ⟨6, _⟩ => ⟨S_, .f32⟩
  | .hbm, ⟨7, _⟩ => ⟨S384x1024, .f32⟩
  | .hbm, ⟨8, _⟩ => ⟨S352x1024, .f32⟩
  | .hbm, ⟨9, _⟩ => ⟨S8x384x1024, .f32⟩
  | .hbm, ⟨10, _⟩ => ⟨S_, .f32⟩
  | .hbm, ⟨11, _⟩ => ⟨S384x1024, .f32⟩
  | .hbm, ⟨12, _⟩ => ⟨S352x1024, .f32⟩
  | .hbm, ⟨13, _⟩ => ⟨S1x352x1024, .f32⟩
  | .hbm, ⟨14, _⟩ => ⟨S1x352x1024, .f32⟩
  | .hbm, ⟨15, _⟩ => ⟨S2x352x1024, .f32⟩
  | .hbm, ⟨16, _⟩ => ⟨S_, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S2x352x1024, .f32⟩
  | .hbm, ⟨31, _⟩ => ⟨S_, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | .hbm, ⟨45, _⟩ => ⟨S2x352x1024, .f32⟩
  | .hbm, ⟨46, _⟩ => ⟨S_, .f32⟩
  | .hbm, ⟨47, _⟩ => ⟨S2x352x1024, .f32⟩
  | .hbm, ⟨48, _⟩ => ⟨S2x352x1024, .f32⟩
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamSq.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamSqRefIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamConv.lean ====
abbrev S8x8x384 : Shape := ⟨3, ![8, 8, 384]⟩
abbrev S2x4x384 : Shape := ⟨3, ![2, 4, 384]⟩
abbrev S1x4x384 : Shape := ⟨3, ![1, 4, 384]⟩
abbrev S4x384 : Shape := ⟨2, ![4, 384]⟩

abbrev nBuf : Space → Nat
  | .hbm => 9
  | .vmem => 18
  | .smem => 0
  | _ => 0

abbrev bufTy : (tb : Table) → Fin (tcTables nBuf tb) → BufTy
  | .hbm, ⟨0, _⟩ => ⟨S8x8x384, .f32⟩
  | .hbm, ⟨1, _⟩ => ⟨S8x8x384, .f32⟩
  | .hbm, ⟨2, _⟩ => ⟨S2x4x384, .f32⟩
  | .hbm, ⟨3, _⟩ => ⟨S2x4x384, .f32⟩
  | .hbm, ⟨4, _⟩ => ⟨S2x4x384, .f32⟩
  | .hbm, ⟨5, _⟩ => ⟨S2x4x384, .f32⟩
  | .hbm, ⟨6, _⟩ => ⟨S2x4x384, .f32⟩
  | .hbm, ⟨7, _⟩ => ⟨S2x4x384, .f32⟩
  | .hbm, ⟨8, _⟩ => ⟨S2x4x384, .f32⟩
  | .local _ .vmem, ⟨0, _⟩ => ⟨S8x8x384, .f32⟩
  | .local _ .vmem, ⟨1, _⟩ => ⟨S8x8x384, .f32⟩
  | .local _ .vmem, ⟨2, _⟩ => ⟨S8x8x384, .f32⟩
  | .local _ .vmem, ⟨3, _⟩ => ⟨S8x8x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | .local _ .vmem, ⟨8, _⟩ => ⟨S1x4x384, .f32⟩
  | .local _ .vmem, ⟨9, _⟩ => ⟨S1x4x384, .f32⟩
  | .local _ .vmem, ⟨10, _⟩ => ⟨S1x4x384, .f32⟩
  | .local _ .vmem, ⟨11, _⟩ => ⟨S1x4x384, .f32⟩
  | .local _ .vmem, ⟨12, _⟩ => ⟨S1x4x384, .f32⟩
  | .local _ .vmem, ⟨13, _⟩ => ⟨S1x4x384, .f32⟩
  | .local _ .vmem, ⟨14, _⟩ => ⟨S1x4x384, .f32⟩
  | .local _ .vmem, ⟨15, _⟩ => ⟨S1x4x384, .f32⟩
  | .local _ .vmem, ⟨16, _⟩ => ⟨S1x4x384, .f32⟩
  | .local _ .vmem, ⟨17, _⟩ => ⟨S1x4x384, .f32⟩
  | _, _ => ⟨S8x8x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x8x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamConvRefIdeal.lean ====
abbrev S8x8x384 : Shape := ⟨3, ![8, 8, 384]⟩
abbrev S2x4x384 : Shape := ⟨3, ![2, 4, 384]⟩
abbrev S_ : Shape := ⟨0, ![]⟩
abbrev S8x384 : Shape := ⟨2, ![8, 384]⟩
abbrev S4x384 : Shape := ⟨2, ![4, 384]⟩
abbrev S1x4x384 : Shape := ⟨3, ![1, 4, 384]⟩

abbrev nBuf : Space → Nat
  | .hbm => 47
  | .vmem => 0
  | .smem => 0
  | _ => 0

abbrev bufTy : (tb : Table) → Fin (tcTables nBuf tb) → BufTy
  | .hbm, ⟨0, _⟩ => ⟨S8x8x384, .f32⟩
  | .hbm, ⟨1, _⟩ => ⟨S8x8x384, .f32⟩
  | .hbm, ⟨2, _⟩ => ⟨S2x4x384, .f32⟩
  | .hbm, ⟨3, _⟩ => ⟨S2x4x384, .f32⟩
  | .hbm, ⟨4, _⟩ => ⟨S2x4x384, .f32⟩
  | .hbm, ⟨5, _⟩ => ⟨S_, .f32⟩
  | .hbm, ⟨6, _⟩ => ⟨S8x384, .f32⟩
  | .hbm, ⟨7, _⟩ => ⟨S4x384, .f32⟩
  | .hbm, ⟨8, _⟩ => ⟨S_, .f32⟩
  | .hbm, ⟨9, _⟩ => ⟨S8x384, .f32⟩
  | .hbm, ⟨10, _⟩ => ⟨S4x384, .f32⟩
  | .hbm, ⟨11, _⟩ => ⟨S1x4x384, .f32⟩
  | .hbm, ⟨12, _⟩ => ⟨S1x4x384, .f32⟩
  | .hbm, ⟨13, _⟩ => ⟨S2x4x384, .f32⟩
  | .hbm, ⟨14, _⟩ => ⟨S_, .f32⟩
  | .hbm, ⟨15, _⟩ => ⟨S2x4x384, .f32⟩
  | .hbm, ⟨16, _⟩ => ⟨S2x4x384, .f32⟩
  | .hbm, ⟨17, _⟩ => ⟨S_, .f32⟩
  | .hbm, ⟨18, _⟩ => ⟨S2x4x384, .f32⟩
  | .hbm, ⟨19, _⟩ => ⟨S2x4x384, .f32⟩
  | .hbm, ⟨20, _⟩ => ⟨S2x4x384, .f32⟩
  | .hbm, ⟨21, _⟩ => ⟨S_, .f32⟩
  | .hbm, ⟨22, _⟩ => ⟨S2x4x384, .f32⟩
  | .hbm, ⟨23, _⟩ => ⟨S2x4x384, .f32⟩
  | .hbm, ⟨24, _⟩ => ⟨S2x4x384, .f32⟩
  | .hbm, ⟨25, _⟩ => ⟨S_, .f32⟩
  | .hbm, ⟨26, _⟩ => ⟨S2x4x384, .f32⟩
  | .hbm, ⟨27, _⟩ => ⟨S2x4x384, .f32⟩
  | .hbm, ⟨28, _⟩ => ⟨S2x4x384, .f32⟩
  | .hbm, ⟨29, _⟩ => ⟨S_, .f32⟩
  | .hbm, ⟨30, _⟩ => ⟨S2x4x384, .f32⟩
  | .hbm, ⟨31, _⟩ => ⟨S2x4x384, .f32⟩
  | .hbm, ⟨32, _⟩ => ⟨S_, .f32⟩
  | .hbm, ⟨33, _⟩ => ⟨S2x4x384, .f32⟩
  | .hbm, ⟨34, _⟩ => ⟨S2x4x384, .f32⟩
  | .hbm, ⟨35, _⟩ => ⟨S2x4x384, .f32⟩
  | .hbm, ⟨36, _⟩ => ⟨S_, .f32⟩
  | .hbm, ⟨37, _⟩ => ⟨S2x4x384, .f32⟩
  | .hbm, ⟨38, _⟩ => ⟨S2x4x384, .f32⟩
  | .hbm, ⟨39, _⟩ => ⟨S2x4x384, .f32⟩
  | .hbm, ⟨40, _⟩ => ⟨S_, .f32⟩
  | .hbm, ⟨41, _⟩ => ⟨S2x4x384, .f32⟩
  | .hbm, ⟨42, _⟩ => ⟨S2x4x384, .f32⟩
  | .hbm, ⟨43, _⟩ => ⟨S2x4x384, .f32⟩
  | .hbm, ⟨44, _⟩ => ⟨S_, .f32⟩
  | .hbm, ⟨45, _⟩ => ⟨S2x4x384, .f32⟩
  | .hbm, ⟨46, _⟩ => ⟨S2x4x384, .f32⟩
  | _, _ => ⟨S8x8x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamSmall.lean ====
abbrev S8x1088x128 : Shape := ⟨3, ![8, 1088, 128]⟩
abbrev S1088x128 : Shape := ⟨2, ![1088, 128]⟩
abbrev S1x1088x128 : Shape := ⟨3, ![1, 1088, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x1088x128, .f32⟩
  | .hbm, ⟨1, _⟩ => ⟨S1088x128, .f32⟩
  | .hbm, ⟨2, _⟩ => ⟨S1088x128, .f32⟩
  | .hbm, ⟨3, _⟩ => ⟨S1088x128, .f32⟩
  | .hbm, ⟨4, _⟩ => ⟨S1088x128, .f32⟩
  | .hbm, ⟨5, _⟩ => ⟨S1088x128, .f32⟩
  | .hbm, ⟨6, _⟩ => ⟨S1088x128, .f32⟩
  | .hbm, ⟨7, _⟩ => ⟨S1088x128, .f32⟩
  | .local _ .vmem, ⟨0, _⟩ => ⟨S8x1088x128, .f32⟩
  | .local _ .vmem, ⟨1, _⟩ => ⟨S1088x128, .f32⟩
  | .local _ .vmem, ⟨2, _⟩ => ⟨S1088x128, .f32⟩
  | .local _ .vmem, ⟨3, _⟩ => ⟨S1088x128, .f32⟩
  | .local _ .vmem, ⟨4, _⟩ => ⟨S1088x128, .f32⟩
  | .local _ .vmem, ⟨5, _⟩ => ⟨S1088x128, .f32⟩
  | .local _ .vmem, ⟨6, _⟩ => ⟨S1088x128, .f32⟩
  | .local _ .vmem, ⟨7, _⟩ => ⟨S1088x128, .f32⟩
  | _, _ => ⟨S8x1088x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x1088x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1088x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1088x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1088x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1088x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1088x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1088x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1088x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdamSmallRefIdeal.lean ====
abbrev S8x1088x128 : Shape := ⟨3, ![8, 1088, 128]⟩
abbrev S1088x128 : Shape := ⟨2, ![1088, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1088x128, .f32⟩
  | .hbm, ⟨1, _⟩ => ⟨S1088x128, .f32⟩
  | .hbm, ⟨2, _⟩ => ⟨S1088x128, .f32⟩
  | .hbm, ⟨3, _⟩ => ⟨S1088x128, .f32⟩
  | .hbm, ⟨4, _⟩ => ⟨S_, .f32⟩
  | .hbm, ⟨5, _⟩ => ⟨S1088x128, .f32⟩
  | .hbm, ⟨6, _⟩ => ⟨S_, .f32⟩
  | .hbm, ⟨7, _⟩ => ⟨S1088x128, .f32⟩
  | .hbm, ⟨8, _⟩ => ⟨S1088x128, .f32⟩
  | .hbm, ⟨9, _⟩ => ⟨S_, .f32⟩
  | .hbm, ⟨10, _⟩ => ⟨S1088x128, .f32⟩
  | .hbm, ⟨11, _⟩ => ⟨S1088x128, .f32⟩
  | .hbm, ⟨12, _⟩ => ⟨S1088x128, .f32⟩
  | .hbm, ⟨13, _⟩ => ⟨S_, .f32⟩
  | .hbm, ⟨14, _⟩ => ⟨S1088x128, .f32⟩
  | .hbm, ⟨15, _⟩ => ⟨S1088x128, .f32⟩
  | .hbm, ⟨16, _⟩ => ⟨S1088x128, .f32⟩
  | .hbm, ⟨17, _⟩ => ⟨S_, .f32⟩
  | .hbm, ⟨18, _⟩ => ⟨S1088x128, .f32⟩
  | .hbm, ⟨19, _⟩ => ⟨S1088x128, .f32⟩
  | .hbm, ⟨20, _⟩ => ⟨S1088x128, .f32⟩
  | .hbm, ⟨21, _⟩ => ⟨S_, .f32⟩
  | .hbm, ⟨22, _⟩ => ⟨S1088x128, .f32⟩
  | .hbm, ⟨23, _⟩ => ⟨S1088x128, .f32⟩
  | .hbm, ⟨24, _⟩ => ⟨S_, .f32⟩
  | .hbm, ⟨25, _⟩ => ⟨S1088x128, .f32⟩
  | .hbm, ⟨26, _⟩ => ⟨S1088x128, .f32⟩
  | .hbm, ⟨27, _⟩ => ⟨S1088x128, .f32⟩
  | .hbm, ⟨28, _⟩ => ⟨S_, .f32⟩
  | .hbm, ⟨29, _⟩ => ⟨S1088x128, .f32⟩
  | .hbm, ⟨30, _⟩ => ⟨S1088x128, .f32⟩
  | .hbm, ⟨31, _⟩ => ⟨S1088x128, .f32⟩
  | .hbm, ⟨32, _⟩ => ⟨S_, .f32⟩
  | .hbm, ⟨33, _⟩ => ⟨S1088x128, .f32⟩
  | .hbm, ⟨34, _⟩ => ⟨S1088x128, .f32⟩
  | .hbm, ⟨35, _⟩ => ⟨S1088x128, .f32⟩
  | .hbm, ⟨36, _⟩ => ⟨S_, .f32⟩
  | .hbm, ⟨37, _⟩ => ⟨S1088x128, .f32⟩
  | .hbm, ⟨38, _⟩ => ⟨S1088x128, .f32⟩
  | _, _ => ⟨S8x1088x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Delta.lean ====
abbrev S8192x1024 : Shape := ⟨2, ![8192, 1024]⟩
abbrev S8192x128 : Shape := ⟨2, ![8192, 128]⟩
abbrev S8x64x128x128 : Shape := ⟨4, ![8, 64, 128, 128]⟩
abbrev S128x1024 : Shape := ⟨2, ![128, 1024]⟩
abbrev S128x128 : Shape := ⟨2, ![128, 128]⟩
abbrev S8x1x128x128 : Shape := ⟨4, ![8, 1, 128, 128]⟩
abbrev S8x128x128 : Shape := ⟨3, ![8, 128, 128]⟩
abbrev S1x128x128 : Shape := ⟨3, ![1, 128, 128]⟩
abbrev S128 : Shape := ⟨1, ![128]⟩
abbrev S128x1 : Shape := ⟨2, ![128, 1]⟩
abbrev S1x128x1 : Shape := ⟨3, ![1, 128, 1]⟩
abbrev S8x128x1 : Shape := ⟨3, ![8, 128, 1]⟩
abbrev S8 : Shape := ⟨1, ![8]⟩
abbrev S8x1x1 : Shape := ⟨3, ![8, 1, 1]⟩
abbrev S8x128 : Shape := ⟨2, ![8, 128]⟩

abbrev nBuf : Space → Nat
  | .hbm => 13
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x128, .f32⟩
  | .hbm, ⟨4, _⟩ => ⟨S8x64x128x128, .f32⟩
  | .hbm, ⟨5, _⟩ => ⟨S8x64x128x128, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x128, .f32⟩
  | .local _ .vmem, ⟨7, _⟩ => ⟨S128x128, .f32⟩
  | .local _ .vmem, ⟨8, _⟩ => ⟨S8x1x128x128, .f32⟩
  | .local _ .vmem, ⟨9, _⟩ => ⟨S8x1x128x128, .f32⟩
  | .local _ .vmem, ⟨10, _⟩ => ⟨S8x1x128x128, .f32⟩
  | .local _ .vmem, ⟨11, _⟩ => ⟨S8x1x128x128, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .bf16⟩
  | .local _ .vmem, ⟨17, _⟩ => ⟨S128x1024, .bf16⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x128, .f32⟩
  | .local _ .vmem, ⟨25, _⟩ => ⟨S128x128, .f32⟩
  | .local _ .vmem, ⟨26, _⟩ => ⟨S8x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![64, 1], ![false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def k0_off1 (i : grid0.Coords) (c0_i32_316 : BitVec 32) : Fin 3 → Nat :=
  let arg1 : BitVec 32 := BitVec.ofNat 32 (i 1).val
  let c8_i32_315 : BitVec 32 := 8#32
  let v834 : BitVec 32 := Scalar.muli arg1 c8_i32_315
  let v835 : BitVec 32 := Scalar.addi v834 c0_i32_316
  let v836 : Index := Scalar.indexCast v835
  let c0_317 : Index := 0#32
  let c0_318 : Index := 0#32
  ![v836.toNat, 0, 0]
def k0_off2 (i : grid0.Coords) (c0_i32_2 : BitVec 32) : Fin 3 → Nat :=
  let arg1 : BitVec 32 := BitVec.ofNat 32 (i 1).val
  let c8_i32 : BitVec 32 := 8#32
  let v6 : BitVec 32 := Scalar.muli arg1 c8_i32
  let v7 : BitVec 32 := Scalar.addi v6 c0_i32_2
  let v152 : Index := Scalar.indexCast v7
  let c0_50 : Index := 0#32
  let c0_51 : Index := 0#32
  ![v152.toNat, 0, 0]
def k0_cond2 (i : grid0.Coords) : BitVec 1 :=
  let arg1 : BitVec 32 := BitVec.ofNat 32 (i 1).val
  let c0_i32_310 : BitVec 32 := 0#32
  let v827 : BitVec 1 := Scalar.cmpi .eq arg1 c0_i32_310
  let v828 : BitVec 32 := Scalar.extui v827
  let c0_i32_311 : BitVec 32 := 0#32
  let v829 : BitVec 1 := Scalar.cmpi .ne v828 c0_i32_311
  v829

def k0_cond3 (i : grid0.Coords) : BitVec 1 :=
  let arg1 : BitVec 32 := BitVec.ofNat 32 (i 1).val
  let c0_i32_312 : BitVec 32 := 0#32
  let v830 : BitVec 1 := Scalar.cmpi .sgt arg1 c0_i32_312
  let v831 : BitVec 32 := Scalar.extui v830
  let c0_i32_313 : BitVec 32 := 0#32
  let v832 : BitVec 1 := Scalar.cmpi .ne v831 c0_i32_313
  v832

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![arg1.toNat, v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![arg1.toNat, v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg0
  let c0_i32 : BitVec 32 := 0#32
  ![v0.toNat, arg1.toNat]

def cc0_transform_7 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg0
  let c0_i32 : BitVec 32 := 0#32
  ![v0.toNat, arg1.toNat]

def cc0_transform_8 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg0
  let c0_i32 : BitVec 32 := 0#32
  ![v0.toNat, arg1.toNat]

def cc0_transform_9 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg0
  let c0_i32 : BitVec 32 := 0#32
  ![v0.toNat, arg1.toNat]

def cc0_transform_10 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg0
  let c0_i32 : BitVec 32 := 0#32
  ![v0.toNat, arg1.toNat]

def cc0_transform_11 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg0
  let c0_i32 : BitVec 32 := 0#32
  ![v0.toNat, arg1.toNat]

def cc0_transform_12 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg0
  let c0_i32 : BitVec 32 := 0#32
  let c0_i32_0 : BitVec 32 := 0#32
  ![v0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== DeltaIdeal.lean ====
variable {F : FTy → Type} [FloatOps F] [Named F]
def κ : String → Option EReal := fun
  | "mask" => some ⊥
  | _ => none
-- ==== DeltaRefIdeal.lean ====
abbrev S8192x1024 : Shape := ⟨2, ![8192, 1024]⟩
abbrev S8192x128 : Shape := ⟨2, ![8192, 128]⟩
abbrev S8x64x128x128 : Shape := ⟨4, ![8, 64, 128, 128]⟩
abbrev S8192x8 : Shape := ⟨2, ![8192, 8]⟩
abbrev S64x128x8 : Shape := ⟨3, ![64, 128, 8]⟩
abbrev S8x64x128 : Shape := ⟨3, ![8, 64, 128]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x64x128x1 : Shape := ⟨4, ![8, 64, 128, 1]⟩
abbrev S8x64x1x128 : Shape := ⟨4, ![8, 64, 1, 128]⟩
abbrev S64x128x8x128 : Shape := ⟨4, ![64, 128, 8, 128]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x128, .f32⟩
  | .hbm, ⟨4, _⟩ => ⟨S8x64x128x128, .f32⟩
  | .hbm, ⟨5, _⟩ => ⟨S8x64x128x128, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x8, .f32⟩
  | .hbm, ⟨10, _⟩ => ⟨S64x128x8, .f32⟩
  | .hbm, ⟨11, _⟩ => ⟨S8x64x128, .f32⟩
  | .hbm, ⟨12, _⟩ => ⟨S_, .f32⟩
  | .hbm, ⟨13, _⟩ => ⟨S_, .f32⟩
  | .hbm, ⟨14, _⟩ => ⟨S8x64x128, .f32⟩
  | .hbm, ⟨15, _⟩ => ⟨S128, .i32⟩
  | .hbm, ⟨16, _⟩ => ⟨S128x1, .i32⟩
  | .hbm, ⟨17, _⟩ => ⟨S1x128, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S8x64x128x1, .f32⟩
  | .hbm, ⟨22, _⟩ => ⟨S8x64x1x128, .f32⟩
  | .hbm, ⟨23, _⟩ => ⟨S8x64x128x128, .f32⟩
  | .hbm, ⟨24, _⟩ => ⟨S8x64x128x128, .f32⟩
  | .hbm, ⟨25, _⟩ => ⟨S8x64x128x128, .f32⟩
  | .hbm, ⟨26, _⟩ => ⟨S_, .f32⟩
  | .hbm, ⟨27, _⟩ => ⟨S_, .f32⟩
  | .hbm, ⟨28, _⟩ => ⟨S8x64x128x128, .i1⟩
  | .hbm, ⟨29, _⟩ => ⟨S8x64x128x128, .f32⟩
  | .hbm, ⟨30, _⟩ => ⟨S8x64x128x128, .f32⟩
  | .hbm, ⟨31, _⟩ => ⟨S8x64x128x128, .f32⟩
  | .hbm, ⟨32, _⟩ => ⟨S64x128x8x128, .f32⟩
  | .hbm, ⟨33, _⟩ => ⟨S8x64x128x128, .f32⟩
  | .hbm, ⟨34, _⟩ => ⟨S64x128x8x128, .f32⟩
  | .hbm, ⟨35, _⟩ => ⟨S8x64x128x128, .f32⟩
  | .hbm, ⟨36, _⟩ => ⟨S8x64x128x128, .f32⟩
  | .hbm, ⟨37, _⟩ => ⟨S8x64x128x128, .f32⟩
  | .hbm, ⟨38, _⟩ => ⟨S64x128x8x128, .f32⟩
  | .hbm, ⟨39, _⟩ => ⟨S8x64x128x128, .f32⟩
  | .hbm, ⟨40, _⟩ => ⟨S_, .f32⟩
  | .hbm, ⟨41, _⟩ => ⟨S8x64x128x128, .f32⟩
  | .hbm, ⟨42, _⟩ => ⟨S8x64x128x128, .f32⟩
  | .hbm, ⟨43, _⟩ => ⟨S64x128x8x128, .f32⟩
  | .hbm, ⟨44, _⟩ => ⟨S8x64x128x128, .f32⟩
  | .hbm, ⟨45, _⟩ => ⟨S8x64x128x128, .f32⟩
  | .hbm, ⟨46, _⟩ => ⟨S8x64x128x128, .f32⟩
  | .hbm, ⟨47, _⟩ => ⟨S8x64x128, .f32⟩
  | .hbm, ⟨48, _⟩ => ⟨S8x64x128x1, .f32⟩
  | .hbm, ⟨49, _⟩ => ⟨S8x64x128x128, .f32⟩
  | .hbm, ⟨50, _⟩ => ⟨S8x64x128x128, .f32⟩
  | .hbm, ⟨51, _⟩ => ⟨S8x64x128x128, .f32⟩
  | .hbm, ⟨52, _⟩ => ⟨S8x64x128x128, .f32⟩
  | .hbm, ⟨53, _⟩ => ⟨S8x64x128x128, .f32⟩
  | .hbm, ⟨54, _⟩ => ⟨S64x128x8x128, .f32⟩
  | .hbm, ⟨55, _⟩ => ⟨S8192x1024, .f32⟩
  | .hbm, ⟨56, _⟩ => ⟨S8192x1024, .f32⟩
  | .hbm, ⟨57, _⟩ => ⟨S64x128x8x128, .f32⟩
  | .hbm, ⟨58, _⟩ => ⟨S8x64x128x128, .f32⟩
  | .hbm, ⟨59, _⟩ => ⟨S8x64x128x128, .f32⟩
  | .hbm, ⟨60, _⟩ => ⟨S8x64x128x128, .f32⟩
  | .hbm, ⟨61, _⟩ => ⟨S8x64x128x128, .f32⟩
  | .hbm, ⟨62, _⟩ => ⟨S8x64x128x128, .f32⟩
  | .hbm, ⟨63, _⟩ => ⟨S8x64x128x128, .f32⟩
  | .hbm, ⟨64, _⟩ => ⟨S8x64x128x128, .f32⟩
  | .hbm, ⟨65, _⟩ => ⟨S8x64x128x128, .f32⟩
  | .hbm, ⟨66, _⟩ => ⟨S_, .f32⟩
  | .hbm, ⟨67, _⟩ => ⟨S8x64x128x128, .f32⟩
  | .hbm, ⟨68, _⟩ => ⟨S8x64x128x128, .f32⟩
  | .hbm, ⟨69, _⟩ => ⟨S64x128x8x128, .f32⟩
  | .hbm, ⟨70, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_call0_cst : Ref sig .tc := ⟨.hbm, 12, rfl⟩
abbrev main_call0_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_1 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Proof.Common.lean ====
/-
  Facts about extended reals and about matrix products that the value proofs of this certificate share: the sigmoid written
  with a hyperbolic tangent, finite sums, and a product read at an index of its result.
-/
module

public import Idealize.ShloMosaic.PureOps.Ideal.Laws
public import Idealize.ShloMosaic.Lib.IdealHost
public import Idealize.ShloMosaic.Lib.ValueIdx
public import Idealize.ShloMosaic.Lib.MatmulPlain
public import Idealize.ShloMosaic.Lib.Pipeline.Value

@[expose] public section

noncomputable section

namespace Cert.Common

open Idealize.ShloMosaic Idealize.ShloMosaic.ValueIdx
open scoped BigOperators

/-! ## Literals -/

theorem half_f32 : Ideal.ofBits .f32 0x3F000000#32 = ((1 / 2 : ℝ) : EReal) := by
  simp [Ideal.ofBits, Ideal.ieee]
  rw [← EReal.coe_mul]
  norm_num

theorem top_f32 : Ideal.ofBits .f32 0x7F800000#32 = ⊤ := by
  simp [Ideal.ofBits, Ideal.ieee]

/-! ## The sigmoid -/

theorem real_sigmoid (r : ℝ) : 1 / 2 * Real.tanh (1 / 2 * r) + 1 / 2 = (1 + Real.exp (-r))⁻¹ := by
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, h1]
  set a := Real.exp (1 / 2 * r)
  set b := Real.exp (-(1 / 2 * r))
  have h3 : a + b ≠ 0 := by positivity
  have h4 : (1 : ℝ) + b * b ≠ 0 := by positivity
  field_simp
  have : a * b = 1 := h2
  linear_combination (2 * b) * this

/-- `½ tanh(½ x) + ½` is the logistic function at every extended real. -/
theorem sigmoid_eq (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, mul_neg, mul_one, ← EReal.coe_neg,
      ← EReal.coe_add, neg_add_cancel, EReal.coe_zero]
  | top =>
    rw [EReal.coe_mul_top_of_pos (by norm_num), Ideal.tanh_top, Ideal.logistic_top, mul_one, ← EReal.coe_add]
    norm_num
  | coe r =>
    rw [← EReal.coe_mul, Ideal.tanh_coe, ← EReal.coe_mul, ← EReal.coe_add, Ideal.logistic_coe, real_sigmoid]

/-- The derivative of `x · logistic x` times a finite cotangent, in the two orders in which it is summed. -/
theorem silu_grad (a : ℝ) (x : EReal) :
    (a : EReal) * (Ideal.logistic x * (1 + x * (1 - Ideal.logistic x)))
      = (a : EReal) * Ideal.logistic x + x * (a : EReal) * (Ideal.logistic x * (1 - Ideal.logistic x)) := by
  induction x with
  | bot => simp
  | top =>
    have h : (1 : EReal) - 1 = 0 := by rw [← EReal.coe_one, ← EReal.coe_sub, sub_self, EReal.coe_zero]
    simp [h]
  | coe r =>
    rw [Ideal.logistic_coe, ← EReal.coe_one]
    simp only [← EReal.coe_mul, ← EReal.coe_add, ← EReal.coe_sub]
    congr 1
    ring

/-! ## Finite values -/

/-- `|x| < ∞` says that `x` is a real. -/
theorem exists_real_of_abs_lt_top {x : EReal} (h : max x (-x) < ⊤) : ∃ r : ℝ, x = r := by
  induction x with
  | bot => simp at h
  | top => simp at h
  | coe r => exact ⟨r, rfl⟩

/-- A sum of products of reals is a real. -/
theorem exists_real_sum {ι : Type} (s : Finset ι) (f g : ι → EReal) (hf : ∀ i, ∃ r : ℝ, f i = r) (hg : ∀ i, ∃ r : ℝ, g i = r) :
    ∃ r : ℝ, ∑ i ∈ s, f i * g i = r := by
  choose a ha using hf
  choose b hb using hg
  refine ⟨∑ i ∈ s, a i * b i, ?_⟩
  induction s using Finset.cons_induction with
  | empty => simp
  | cons i s hi ih => rw [Finset.sum_cons, Finset.sum_cons, ih, ha, hb, EReal.coe_add, EReal.coe_mul]

/-! ## A product read at an index -/

theorem matmul_nt_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (j : (⟨2, ![M, N]⟩ : Shape).Idx) :
    matmul d prec lhs rhs (constant ⟨2, ![M, N]⟩ .f32 0x00000000#32) j = ∑ k : Fin K, lhs (ix2 (j 0) k) * rhs (ix2 (j 1) k) := by
  subst hd
  rw [eq_ix2 j]
  refine (Ideal.matmul_transposedRhs_apply prec lhs rhs _ (j 0) (j 1)).trans ?_
  rw [constant_apply, Ideal.ofBits_zero_f32, zero_add]
  rfl

theorem matmul_nn_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (j : (⟨2, ![M, N]⟩ : Shape).Idx) :
    matmul d prec lhs rhs (constant ⟨2, ![M, N]⟩ .f32 0x00000000#32) j = ∑ k : Fin K, lhs (ix2 (j 0) k) * rhs (ix2 k (j 1)) := by
  subst hd
  rw [eq_ix2 j]
  refine (Ideal.matmul_plain_apply prec lhs rhs _ (j 0) (j 1)).trans ?_
  rw [constant_apply, Ideal.ofBits_zero_f32, zero_add]
  rfl

/-- Dimension numbers of the product of a transposed matrix with a matrix: both operands are contracted over their rows. -/
def tnDims (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simp [List.finRange]; exact List.Perm.swap 0 1 [],
    by simp [List.finRange]; exact List.Perm.swap 0 1 [], rfl, Nat.two_pos,
    fun b => by fin_cases b <;> rfl⟩

theorem matmul_tn_apply {M K N : ℕ} {φ₁ φ₂ : FTy} (d : DotDims ⟨2, ![K, M]⟩ ⟨2, ![K, N]⟩ ⟨2, ![M, N]⟩)
    (hd : d = tnDims M K N) (prec : Option ContractPrecision)
    (lhs : FVec Ideal ⟨2, ![K, M]⟩ φ₁) (rhs : FVec Ideal ⟨2, ![K, N]⟩ φ₂) (j : (⟨2, ![M, N]⟩ : Shape).Idx) :
    matmul d prec lhs rhs (constant ⟨2, ![M, N]⟩ .f32 0x00000000#32) j = ∑ k : Fin K, lhs (ix2 k (j 0)) * rhs (ix2 k (j 1)) := by
  subst hd
  refine (Ideal.matmul_apply _ prec lhs rhs _ j).trans ?_
  rw [constant_apply, Ideal.ofBits_zero_f32, zero_add, ← Equiv.sum_comp (contrEquiv1 (tnDims M K N) K rfl rfl).symm]
  refine Finset.sum_congr rfl fun k _ => ?_
  have hk := contrEquiv1_symm_val (tnDims M K N) K rfl rfl k
  have el : (tnDims M K N).lhsIdx j ((contrEquiv1 (tnDims M K N) K rfl rfl).symm k) = ix2 k (j 0) := funext fun a => Fin.ext (by
    match a with
    | ⟨0, _⟩ => exact hk
    | ⟨1, _⟩ => rfl)
  have er : (tnDims M K N).rhsIdx j ((contrEquiv1 (tnDims M K N) K rfl rfl).symm k) = ix2 k (j 1) := funext fun a => Fin.ext (by
    match a with
    | ⟨0, _⟩ => exact hk
    | ⟨1, _⟩ => rfl)
  rw [el, er]
  rfl

/-! ## A product accumulated over several points -/

/-- A run of `J` points that stores its first part, adds the parts of the points between, and at its last point gives the
    stored sum plus the last part: what it gives is the sum of the `J` parts. -/
theorem sum_of_run {ι : Type} {N : ℕ} (J : ℕ) (hJ : 2 ≤ J) (S O part : (n : ℕ) → n < N → ι → EReal)
    (hA : ∀ t (h : t < N) j, t % J = 0 → S t h j = part t h j)
    (hB : ∀ t (h : t < N) j, 1 ≤ t % J ∧ t % J ≤ J - 2 → S t h j = S (t - 1) (lt_of_le_of_lt (Nat.sub_le t 1) h) j + part t h j)
    (hC : ∀ t (h : t < N) j, t % J = J - 1 → O t h j = S (t - 1) (lt_of_le_of_lt (Nat.sub_le t 1) h) j + part t h j)
    (t : ℕ) (h : t < N) (j : ι) (ht : t % J = J - 1) :
    O t h j = ∑ s : Fin J, part (J * (t / J) + s.val) (by
      have h1 := Nat.div_add_mod t J; have h2 := s.isLt; omega) j := by
  have key : ∀ q k : ℕ, ∀ hk : k + 1 < J, ∀ hn : J * q + k < N,
      S (J * q + k) hn j = ∑ s : Fin (k + 1), part (J * q + s.val) (by have := s.isLt; omega) j := by
    intro q k
    induction k with
    | zero =>
      intro hk hn
      rw [Fin.sum_univ_one]
      exact hA _ _ _ (by rw [Nat.add_zero, Nat.mul_mod_right])
    | succ k ih =>
      intro hk hn
      have hm : (J * q + (k + 1)) % J = k + 1 := by rw [Nat.mul_add_mod, Nat.mod_eq_of_lt (by omega)]
      rw [hB _ hn j (by rw [hm]; omega), Fin.sum_univ_castSucc]
      refine congrArg₂ (· + ·) ?_ rfl
      exact ih (by omega) (by omega)
  have last : ∀ q t : ℕ, ∀ h : t < N, t % J = J - 1 → ∀ e : J * q + (J - 1) = t,
      O t h j = ∑ s : Fin J, part (J * q + s.val) (by have := s.isLt; omega) j := by
    intro q t h ht e
    obtain ⟨K, rfl⟩ : ∃ K, J = K + 2 := ⟨J - 2, by omega⟩
    subst e
    rw [hC _ h j ht, Fin.sum_univ_castSucc]
    refine congrArg₂ (· + ·) ?_ rfl
    exact key q K (by omega) (by omega)
  exact last (t / J) t h ht (by have := Nat.div_add_mod t J; omega)

/-- The zero offset of a whole two-dimensional block. -/
theorem zero2 : (![0, 0] : Fin 2 → Nat) = fun _ => 0 := funext fun a => by fin_cases a <;> rfl

/-! ## Two matrices side by side -/

theorem concat_cols_left {α : Type} {n a b l : Nat} (x : (⟨2, ![n, a]⟩ : Shape).Idx → α) (y : (⟨2, ![n, b]⟩ : Shape).Idx → α)
    (h : Shape.Concatenates [⟨2, ![n, a]⟩, ⟨2, ![n, b]⟩] ⟨2, ![n, l]⟩ 1) (i : (⟨2, ![n, l]⟩ : Shape).Idx) (j : Fin a)
    (hj : (i 1).val = j.val) : concatenate ⟨2, ![n, l]⟩ 1 [⟨⟨2, ![n, a]⟩, x⟩, ⟨⟨2, ![n, b]⟩, y⟩] h i = x (ix2 (n0 := n) (n1 := a) (i 0) j) := by
  refine concatenate_pair_apply_left (t := ⟨2, ![n, l]⟩) (s₁ := ⟨2, ![n, a]⟩) (s₂ := ⟨2, ![n, b]⟩) 1 x y h i rfl _ ?_
  intro c
  match c with
  | ⟨0, _⟩ => rfl
  | ⟨1, _⟩ => exact hj.symm

theorem concat_cols_right {α : Type} {n a b l : Nat} (x : (⟨2, ![n, a]⟩ : Shape).Idx → α) (y : (⟨2, ![n, b]⟩ : Shape).Idx → α)
    (h : Shape.Concatenates [⟨2, ![n, a]⟩, ⟨2, ![n, b]⟩] ⟨2, ![n, l]⟩ 1) (i : (⟨2, ![n, l]⟩ : Shape).Idx) (j : Fin b)
    (hj : (i 1).val = a + j.val) : concatenate ⟨2, ![n, l]⟩ 1 [⟨⟨2, ![n, a]⟩, x⟩, ⟨⟨2, ![n, b]⟩, y⟩] h i = y (ix2 (n0 := n) (n1 := b) (i 0) j) := by
  refine concatenate_pair_apply_right (t := ⟨2, ![n, l]⟩) (s₁ := ⟨2, ![n, a]⟩) (s₂ := ⟨2, ![n, b]⟩) 1 x y h i rfl rfl _ ?_ ?_
  · intro c hc
    match c with
    | ⟨0, _⟩ => rfl
    | ⟨1, _⟩ => exact absurd rfl hc
  · show j.val + a = (i 1).val
    omega

end Cert.Common

end
-- ==== Proof.SwigluVal.lean ====
/-
  The gradient of the gated hidden layer: what the kernel leaves in its two result arrays, index by index, and that it is what
  the derivative of `(silu(hg) * hu) @ w_down` along the cotangent is.
-/
module

public import proofs.«01_k».proof.Defs
public import proofs.«01_k».proof.Proof.Common
public import proofs.«01_k».proof.Proof.Gen.Swiglu.Frame
public import proofs.«01_k».proof.Proof.Gen.SwigluIdeal.Value
public import proofs.«01_k».proof.Proof.Gen.SwigluRefIdeal.Read
public import proofs.«01_k».proof.Proof.Gen.Pre_finite_ffn

@[expose] public section

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.Proof.SwigluVal

open Cert.SwigluIdeal Cert.SwigluIdeal.Gen Cert.Common

/-- The cotangent of the hidden layer: the cotangent of the product's result times the transposed weights. -/
def dh (D : S8192x1024.Idx → EReal) (W : S3072x1024.Idx → EReal) (i : S8192x3072.Idx) : EReal :=
  ∑ k : Fin 1024, D (ix2 (i 0) k) * W (ix2 (i 1) k)

/-- The first result at an index. -/
def G4 (D : S8192x1024.Idx → EReal) (W : S3072x1024.Idx → EReal) (A B : S8192x3072.Idx → EReal) (i : S8192x3072.Idx) : EReal :=
  dh D W i * B i * (Ideal.logistic (A i) * (1 + A i * (1 - Ideal.logistic (A i))))

/-- The second result at an index. -/
def G5 (D : S8192x1024.Idx → EReal) (W : S3072x1024.Idx → EReal) (A : S8192x3072.Idx → EReal) (i : S8192x3072.Idx) : EReal :=
  dh D W i * (A i * Ideal.logistic (A i))

/-! ## The body at an index of its block -/

theorem pay1_apply (v0 : Vec Ideal S1024x1024 .f32) (v1 : Vec Ideal S768x1024 .bf16) (j : S1024x768.Idx) :
    k0_pay1 v0 v1 j = ∑ k : Fin 1024, v0 (ix2 (j 0) k) * v1 (ix2 (j 1) k) :=
  matmul_nt_apply dot_S1024x1024_S768x1024_S1024x768_1_1_0_0_n_n rfl none (truncf .bf16 v0 bitsLt_bf16_f32) v1 j

theorem pay3_apply (v4 : Vec Ideal S1024x768 .bf16) (j : S1024x768.Idx) : k0_pay3 v4 j = Ideal.logistic (v4 j) := by
  show Ideal.ofBits .f32 0x3F000000#32 * Ideal.tanh (Ideal.ofBits .f32 0x3F000000#32 * v4 j) + Ideal.ofBits .f32 0x3F000000#32 = _
  rw [half_f32, sigmoid_eq]

theorem pay4_apply (v0 : Vec Ideal S1024x1024 .f32) (v1 : Vec Ideal S768x1024 .bf16) (v4 v20 : Vec Ideal S1024x768 .bf16) (j : S1024x768.Idx) :
    k0_pay4 v0 v1 v4 v20 j = (∑ k : Fin 1024, v0 (ix2 (j 0) k) * v1 (ix2 (j 1) k)) * v20 j
      * (Ideal.logistic (v4 j) * (1 + v4 j * (1 - Ideal.logistic (v4 j)))) := by
  show k0_pay1 v0 v1 j * v20 j * (k0_pay3 v4 j * (Ideal.ofBits .f32 0x3F800000#32 + v4 j * (Ideal.ofBits .f32 0x3F800000#32 - k0_pay3 v4 j))) = _
  rw [pay1_apply, pay3_apply, Ideal.ofBits_one_f32]

theorem pay5_apply (v0 : Vec Ideal S1024x1024 .f32) (v1 : Vec Ideal S768x1024 .bf16) (v4 : Vec Ideal S1024x768 .bf16) (j : S1024x768.Idx) :
    k0_pay5 v0 v1 v4 j = (∑ k : Fin 1024, v0 (ix2 (j 0) k) * v1 (ix2 (j 1) k)) * (v4 j * Ideal.logistic (v4 j)) := by
  show k0_pay1 v0 v1 j * (v4 j * k0_pay3 v4 j) = _
  rw [pay1_apply, pay3_apply]

/-! ## The windows: every window's block beside the first result's -/

theorem idx_facts : ∀ t : Fin grid0.N,
    win0_4.index t 0 = t.val / 4 ∧ win0_4.index t 1 = t.val % 4 ∧ win0_5.index t 0 = t.val / 4 ∧ win0_5.index t 1 = t.val % 4
    ∧ win0_0.index t 0 = t.val / 4 ∧ win0_0.index t 1 = 0 ∧ win0_1.index t 0 = t.val % 4 ∧ win0_1.index t 1 = 0 := by
  decide +kernel

/-- The index of a result array that point `t` writes at index `j` of its block. -/
def at4 (t : Fin cfg0.N) (j : S1024x768.Idx) : S8192x3072.Idx := ((cfg0.win 4).blk t).view.emb j

theorem at4_0 (t : Fin cfg0.N) (j : S1024x768.Idx) : (at4 t j 0).val = t.val / 4 * 1024 + (j 0).val := by
  have h : (at4 t j 0).val = win0_4.index t 0 * 1024 + 1 * (j 0).val := rfl
  rw [h, (idx_facts t).1, one_mul]

theorem at4_1 (t : Fin cfg0.N) (j : S1024x768.Idx) : (at4 t j 1).val = t.val % 4 * 768 + (j 1).val := by
  have h : (at4 t j 1).val = win0_4.index t 1 * 768 + 1 * (j 1).val := rfl
  rw [h, (idx_facts t).2.1, one_mul]

variable (m : (ℓ : Loc nD τ sig) → Buf (Elt Ideal) ℓ) (ρ : Dev nD → PrngReg)

theorem blk0 (c : Dev nD) (t : Fin cfg0.N) (j : S1024x768.Idx) (k : Fin 1024) :
    (iblk m c 0 t : Vec Ideal S1024x1024 .f32) (ix2 (j 0) k)
      = m ((c : Thread nD τ).loc main_arg0) (ix2 (n0 := 8192) (n1 := 1024) (at4 t j 0) k) := by
  unfold iblk
  rw [View.read_apply]
  show V m c main_arg0 _ = _
  rw [V_main_arg0]
  congr 1
  refine Shape.idx_ext₂ (n := ![8192, 1024]) ?_ ?_
  · show win0_0.index t 0 * 1024 + 1 * (j 0).val = (at4 t j 0).val
    rw [at4_0, (idx_facts t).2.2.2.2.1, one_mul]
  · show win0_0.index t 1 * 1024 + 1 * k.val = k.val
    rw [(idx_facts t).2.2.2.2.2.1]; omega

theorem blk1 (c : Dev nD) (t : Fin cfg0.N) (j : S1024x768.Idx) (k : Fin 1024) :
    (iblk m c 1 t : Vec Ideal S768x1024 .bf16) (ix2 (j 1) k)
      = m ((c : Thread nD τ).loc main_arg1) (ix2 (n0 := 3072) (n1 := 1024) (at4 t j 1) k) := by
  unfold iblk
  rw [View.read_apply]
  show V m c main_arg1 _ = _
  rw [V_main_arg1]
  congr 1
  refine Shape.idx_ext₂ (n := ![3072, 1024]) ?_ ?_
  · show win0_1.index t 0 * 768 + 1 * (j 1).val = (at4 t j 1).val
    rw [at4_1, (idx_facts t).2.2.2.2.2.2.1, one_mul]
  · show win0_1.index t 1 * 1024 + 1 * k.val = k.val
    rw [(idx_facts t).2.2.2.2.2.2.2]; omega

theorem blk2 (c : Dev nD) (t : Fin cfg0.N) (j : S1024x768.Idx) :
    (iblk m c 2 t : Vec Ideal S1024x768 .bf16) j = m ((c : Thread nD τ).loc main_arg2) (at4 t j) := by
  unfold iblk
  rw [View.read_apply]
  show V m c main_arg2 _ = _
  rw [V_main_arg2]
  rfl

theorem blk3 (c : Dev nD) (t : Fin cfg0.N) (j : S1024x768.Idx) :
    (iblk m c 3 t : Vec Ideal S1024x768 .bf16) j = m ((c : Thread nD τ).loc main_arg3) (at4 t j) := by
  unfold iblk
  rw [View.read_apply]
  show V m c main_arg3 _ = _
  rw [V_main_arg3]
  rfl

/-! ## The result arrays -/

/-- The four argument arrays of device `c`. -/
abbrev D (c : Dev nD) : S8192x1024.Idx → EReal := m ((c : Thread nD τ).loc main_arg0)
abbrev W (c : Dev nD) : S3072x1024.Idx → EReal := m ((c : Thread nD τ).loc main_arg1)
abbrev A (c : Dev nD) : S8192x3072.Idx → EReal := m ((c : Thread nD τ).loc main_arg2)
abbrev B (c : Dev nD) : S8192x3072.Idx → EReal := m ((c : Thread nD τ).loc main_arg3)

theorem flushed4_eq (c : Dev nD) (t : Fin cfg0.N) :
    (dats m 0 c).flushed 4 t = (win0_4.blk t).view.read (Elt Ideal) (G4 (D m c) (W m c) (A m c) (B m c)) := by
  rw [Value.flushed4]
  funext j
  rw [View.read_apply]
  show out0_4 (iblk m c 0 t) (iblk m c 1 t) (iblk m c 2 t) (iblk m c 3 t) j = G4 (D m c) (W m c) (A m c) (B m c) (at4 t j)
  unfold out0_4
  rw [View.canon_unit_zero zero2, View.ld_unit_zero zero2, View.ld_unit_zero zero2, View.ld_unit_zero zero2, View.ld_unit_zero zero2]
  rw [pay4_apply, blk2, blk3]
  simp only [blk0, blk1]
  rfl

theorem flushed5_eq (c : Dev nD) (t : Fin cfg0.N) :
    (dats m 0 c).flushed 5 t = (win0_5.blk t).view.read (Elt Ideal) (G5 (D m c) (W m c) (A m c)) := by
  rw [Value.flushed5]
  funext j
  rw [View.read_apply]
  have e : (win0_5.blk t).view.emb j = at4 t j := by
    refine Shape.idx_ext₂ (n := ![8192, 3072]) ?_ ?_
    · show win0_5.index t 0 * 1024 + 1 * (j 0).val = (at4 t j 0).val
      rw [at4_0, (idx_facts t).2.2.1, one_mul]
    · show win0_5.index t 1 * 768 + 1 * (j 1).val = (at4 t j 1).val
      rw [at4_1, (idx_facts t).2.2.2.1, one_mul]
  show out0_5 (iblk m c 0 t) (iblk m c 1 t) (iblk m c 2 t) (iblk m c 3 t) j = G5 (D m c) (W m c) (A m c) ((win0_5.blk t).view.emb j)
  rw [e]
  unfold out0_5
  rw [View.canon_unit_zero zero2, View.ld_unit_zero zero2, View.ld_unit_zero zero2, View.ld_unit_zero zero2]
  rw [pay5_apply, blk2]
  simp only [blk0, blk1]
  rfl

/-- The point whose block holds index `i`. -/
theorem point_lt (i : S8192x3072.Idx) : (i 0).val / 1024 * 4 + (i 1).val / 768 < cfg0.N := by
  have h0 : (i 0).val < 8192 := (i 0).isLt
  have h1 : (i 1).val < 3072 := (i 1).isLt
  have hN : cfg0.N = 32 := N_0
  omega

theorem cover4 (i : S8192x3072.Idx) : ∃ t : Fin cfg0.N, (cfg0.win 4).flush t = true ∧ i ∈ ((cfg0.win 4).blk t).view.set := by
  have h0 : (i 0).val < 8192 := (i 0).isLt
  have h1 : (i 1).val < 3072 := (i 1).isLt
  refine ⟨⟨_, point_lt i⟩, flush0_4 _, ?_⟩
  show i ∈ ((View.whole main_v0_0).slice (win0_4.rect ⟨_, point_lt i⟩)).set
  rw [View.set_slice_whole, Rect.mem_set_unit]
  intro a
  match a with
  | ⟨0, _⟩ =>
    show win0_4.index _ 0 * 1024 ≤ (i 0).val ∧ (i 0).val < win0_4.index _ 0 * 1024 + 1024
    rw [(idx_facts _).1]; dsimp only; omega
  | ⟨1, _⟩ =>
    show win0_4.index _ 1 * 768 ≤ (i 1).val ∧ (i 1).val < win0_4.index _ 1 * 768 + 768
    rw [(idx_facts _).2.1]; dsimp only; omega

theorem cover5 (i : S8192x3072.Idx) : ∃ t : Fin cfg0.N, (cfg0.win 5).flush t = true ∧ i ∈ ((cfg0.win 5).blk t).view.set := by
  have h0 : (i 0).val < 8192 := (i 0).isLt
  have h1 : (i 1).val < 3072 := (i 1).isLt
  refine ⟨⟨_, point_lt i⟩, flush0_5 _, ?_⟩
  show i ∈ ((View.whole main_v0_1).slice (win0_5.rect ⟨_, point_lt i⟩)).set
  rw [View.set_slice_whole, Rect.mem_set_unit]
  intro a
  match a with
  | ⟨0, _⟩ =>
    show win0_5.index _ 0 * 1024 ≤ (i 0).val ∧ (i 0).val < win0_5.index _ 0 * 1024 + 1024
    rw [(idx_facts _).2.2.1]; dsimp only; omega
  | ⟨1, _⟩ =>
    show win0_5.index _ 1 * 768 ≤ (i 1).val ∧ (i 1).val < win0_5.index _ 1 * 768 + 768
    rw [(idx_facts _).2.2.2.1]; dsimp only; omega

theorem final4 (c : Dev nD) : (dats m 0 c).arrAt 4 cfg0.N = G4 (D m c) (W m c) (A m c) (B m c) :=
  (dats m 0 c).arrAt_eq_of_cover 4 _ (fun t _ => flushed4_eq m c t) cover4

theorem final5 (c : Dev nD) : (dats m 0 c).arrAt 5 cfg0.N = G5 (D m c) (W m c) (A m c) :=
  (dats m 0 c).arrAt_eq_of_cover 5 _ (fun t _ => flushed5_eq m c t) cover5

/-! ## The reference at an index -/

open Cert.SwigluRefIdeal.Read in
theorem ref_logistic (x2 : (⟨S8192x3072, .bf16⟩ : BufTy).Contents (Elt Ideal)) (i : S8192x3072.Idx) :
    val_main_v2_2 (F := Ideal) x2 i = Ideal.logistic (x2 i) := by
  show Ideal.div (val_main_call0_v4 (F := Ideal) i) (val_main_call0_v2 (F := Ideal) i + Ideal.exp (-(x2 i))) = _
  rw [val_main_call0_v4_apply, val_main_call0_v2_apply]
  show Ideal.div (Ideal.ofBits .f32 0x3F800000#32) (Ideal.ofBits .f32 0x3F800000#32 + Ideal.exp (-(x2 i))) = _
  rw [Ideal.ofBits_one_f32]
  rfl

open Cert.SwigluRefIdeal.Read in
theorem ref_dh (x0 : (⟨S8192x1024, .f32⟩ : BufTy).Contents (Elt Ideal)) (x1 : (⟨S3072x1024, .bf16⟩ : BufTy).Contents (Elt Ideal))
    (i : S8192x3072.Idx) : val_main_v6 (F := Ideal) x0 x1 i = dh x0 x1 i := by
  rw [val_main_v6_apply]
  unfold dh
  refine Finset.sum_congr rfl fun k _ => ?_
  have el : lidx_main_v6 i k = ix2 (i 0) k := Shape.idx_ext₂ (n := ![8192, 1024]) rfl rfl
  have er : ridx_main_v6 i k = ix2 (i 1) k := Shape.idx_ext₂ (n := ![3072, 1024]) rfl rfl
  rw [el, er]
  rfl

open Cert.SwigluRefIdeal.Read in
theorem ref10 (x0 : (⟨S8192x1024, .f32⟩ : BufTy).Contents (Elt Ideal)) (x1 : (⟨S3072x1024, .bf16⟩ : BufTy).Contents (Elt Ideal))
    (x2 x3 : (⟨S8192x3072, .bf16⟩ : BufTy).Contents (Elt Ideal)) (h0 : ∀ i, ∃ r : ℝ, x0 i = r) (h1 : ∀ i, ∃ r : ℝ, x1 i = r)
    (h3 : ∀ i, ∃ r : ℝ, x3 i = r) : val_main_v10 (F := Ideal) x0 x1 x2 x3 = G4 x0 x1 x2 x3 := by
  funext i
  have h2 : val_main_call0_v7 (F := Ideal) x2 i = 1 - Ideal.logistic (x2 i) := by
    show val_main_call0_v6 (F := Ideal) i - val_main_v2_2 (F := Ideal) x2 i = _
    rw [val_main_call0_v6_apply, ref_logistic]
    show Ideal.ofBits .f32 0x3F800000#32 - _ = _
    rw [Ideal.ofBits_one_f32]
  show val_main_v6 (F := Ideal) x0 x1 i * x3 i * val_main_v2_2 (F := Ideal) x2 i
    + x2 i * (val_main_v6 (F := Ideal) x0 x1 i * x3 i) * (val_main_v2_2 (F := Ideal) x2 i * val_main_call0_v7 (F := Ideal) x2 i) = _
  rw [h2, ref_logistic, ref_dh]
  obtain ⟨a, ha⟩ : ∃ a : ℝ, dh x0 x1 i * x3 i = a := by
    obtain ⟨p, hp⟩ := exists_real_sum Finset.univ (fun k : Fin 1024 => x0 (ix2 (i 0) k)) (fun k => x1 (ix2 (i 1) k)) (fun _ => h0 _) (fun _ => h1 _)
    obtain ⟨q, hq⟩ := h3 i
    exact ⟨p * q, by rw [EReal.coe_mul, ← hp, ← hq]; rfl⟩
  unfold G4
  rw [ha, silu_grad]

open Cert.SwigluRefIdeal.Read in
theorem ref11 (x0 : (⟨S8192x1024, .f32⟩ : BufTy).Contents (Elt Ideal)) (x1 : (⟨S3072x1024, .bf16⟩ : BufTy).Contents (Elt Ideal))
    (x2 : (⟨S8192x3072, .bf16⟩ : BufTy).Contents (Elt Ideal)) : val_main_v11 (F := Ideal) x0 x1 x2 = G5 x0 x1 x2 := by
  funext i
  show x2 i * val_main_v2_2 (F := Ideal) x2 i * val_main_v6 (F := Ideal) x0 x1 i = _
  rw [ref_logistic, ref_dh, mul_comm]
  rfl

/-! ## The precondition at an index -/

theorem finite_of_pre (x0 : FVec Ideal S8192x1024 .f32) (x1 : FVec Ideal S3072x1024 .bf16) (x2 x3 : FVec Ideal S8192x3072 .bf16) :
    ((Cert.Pre_finite_ffn.fn (F := Ideal) x0 x1 x2 x3).1 = (fun _ => 1#1) → ∀ i, ∃ r : ℝ, x0 i = r)
    ∧ ((Cert.Pre_finite_ffn.fn (F := Ideal) x0 x1 x2 x3).2.1 = (fun _ => 1#1) → ∀ i, ∃ r : ℝ, x1 i = r)
    ∧ ((Cert.Pre_finite_ffn.fn (F := Ideal) x0 x1 x2 x3).2.2 = (fun _ => 1#1) → ∀ i, ∃ r : ℝ, x3 i = r) := by
  have key : ∀ x : EReal, Ideal.cmp .olt (max x (-x)) (Ideal.ofBits .f32 0x7F800000#32) = 1#1 → ∃ r : ℝ, x = r := by
    intro x h
    rw [top_f32] at h
    refine exists_real_of_abs_lt_top ?_
    by_contra hn
    simp [Ideal.cmp, hn] at h
  exact ⟨fun h i => key _ (congrFun h i), fun h i => key _ (congrFun h i), fun h i => key _ (congrFun h i)⟩

/-! ## The claims -/

theorem frame : Cert.quiescent_Swiglu := fun m ρ _ => Cert.Swiglu.Gen.frame m ρ
theorem frame_ideal : Cert.quiescent_SwigluIdeal := fun m ρ _ => Cert.SwigluIdeal.Gen.frame m ρ
theorem frame_ideal_pre : Cert.quiescent_SwigluIdeal_pre_finite_ffn := fun m ρ _ => Cert.SwigluIdeal.Gen.frame m ρ
theorem frame_ref : Cert.quiescent_SwigluRefIdeal := fun m ρ _ =>
  (θ_run Cert.SwigluRefIdeal.defs _ _).mono (fun r h => ⟨fun c => (h c).2.2, sem_eq_zero_of_no_sems (by decide) r.2⟩)
    (Cert.SwigluRefIdeal.Value.run (F := Ideal) m ρ)
theorem frame_ref_pre : Cert.quiescent_SwigluRefIdeal_pre_finite_ffn := fun m ρ _ => frame_ref m ρ trivial

theorem preserves : Cert.preserves_Swiglu_SwigluIdeal := trivial

theorem algebraic : Cert.algebraic_SwigluIdeal_SwigluRefIdeal_pre_finite_ffn := by
  intro m ρ m' ρ' hpre hagree
  refine ⟨fun c => G4 (D m c) (W m c) (A m c) (B m c), fun c => G5 (D m c) (W m c) (A m c), ?_, ?_⟩
  · exact (θ_run Cert.SwigluIdeal.defs _ _).mono
      (fun _ h c => ⟨(h c).1.trans (final4 m c), (h c).2.1.trans (final5 m c), (h c).2.2⟩)
      (Cert.SwigluIdeal.Value.run_blocks (F := Ideal) m ρ)
  refine (θ_run Cert.SwigluRefIdeal.defs _ _).mono (fun _ h c => ⟨(h c).1.trans ?_, (h c).2.1.trans ?_, (h c).2.2⟩)
    (Cert.SwigluRefIdeal.Value.run (F := Ideal) m' ρ')
  · rw [(hagree c).1, (hagree c).2.1, (hagree c).2.2.1, (hagree c).2.2.2]
    have hf := finite_of_pre (D m c) (W m c) (A m c) (B m c)
    exact ref10 (D m c) (W m c) (A m c) (B m c) (hf.1 (hpre c).1) (hf.2.1 (hpre c).2.1) (hf.2.2 (hpre c).2.2)
  · rw [(hagree c).1, (hagree c).2.1, (hagree c).2.2.1]
    exact ref11 (D m c) (W m c) (A m c)

end Cert.Proof.SwigluVal

end
-- ==== Proof.MergeVal.lean ====
/-
  The gradient of the merge gates: what the kernel leaves in its three result arrays, index by index, and that it is the
  derivative of `(sigmoid(ga) * pa + sigmoid(gb) * pb) @ wo` along the cotangent. The third array is wider than what is
  written: the claim reads its last 2048 columns.
-/
module

public import proofs.«01_k».proof.Defs
public import proofs.«01_k».proof.Proof.Common
public import proofs.«01_k».proof.Proof.Gen.Merge.Frame
public import proofs.«01_k».proof.Proof.Gen.MergeIdeal.Value
public import proofs.«01_k».proof.Proof.Gen.MergeRefIdeal.Read
public import proofs.«01_k».proof.Proof.Gen.On_gate_columns
public import Idealize.ShloMosaic.Lib.Pipeline.ValueKit.Partial
public import Idealize.ShloMosaic.Lib.Pipeline.ValueKit.Acc
public import Idealize.ShloMosaic.Lib.Quiescent
public import Idealize.ShloMosaic.Lib.WordCmp

@[expose] public section

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.Proof.MergeVal

open Cert.MergeIdeal Cert.MergeIdeal.Gen Cert.Common

/-- The cotangent of the merged branches: the product's cotangent times the transposed weights. -/
def dm (D : S8192x1024.Idx → EReal) (W : S1024x1024.Idx → EReal) (i : S8192x1024.Idx) : EReal :=
  ∑ k : Fin 1024, D (ix2 (i 0) k) * W (ix2 (i 1) k)

/-- The gate's logit beside element `i` of a branch; the gate's columns of the input projection begin at `o`. -/
def logit (o : Nat) (ho : o ≤ 4096) (P : S8192x5120.Idx → EReal) (i : S8192x1024.Idx) : EReal :=
  P (ix2 (n0 := 8192) (n1 := 5120) (i 0) ⟨o + (i 1).val, by have : (i 1).val < 1024 := (i 1).isLt; omega⟩)

/-- A branch's cotangent. -/
def GP (o : Nat) (ho : o ≤ 4096) (D : S8192x1024.Idx → EReal) (W : S1024x1024.Idx → EReal) (P : S8192x5120.Idx → EReal)
    (i : S8192x1024.Idx) : EReal :=
  dm D W i * Ideal.logistic (logit o ho P i)

/-- A gate's cotangent. -/
def GG (o : Nat) (ho : o ≤ 4096) (D : S8192x1024.Idx → EReal) (W : S1024x1024.Idx → EReal) (X : S8192x1024.Idx → EReal)
    (P : S8192x5120.Idx → EReal) (i : S8192x1024.Idx) : EReal :=
  dm D W i * X i * Ideal.logistic (logit o ho P i) * (1 - Ideal.logistic (logit o ho P i))

/-- The third result: zero before column 6144, then the first gate's cotangent, then the second's. -/
def GZ (D : S8192x1024.Idx → EReal) (W : S1024x1024.Idx → EReal) (X Y : S8192x1024.Idx → EReal) (P : S8192x5120.Idx → EReal)
    (i : S8192x8192.Idx) : EReal :=
  if hb : 7168 ≤ (i 1).val then
    GG 4096 (by decide) D W Y P (ix2 (n0 := 8192) (n1 := 1024) (i 0) ⟨(i 1).val - 7168, by have : (i 1).val < 8192 := (i 1).isLt; omega⟩)
  else if ha : 6144 ≤ (i 1).val then
    GG 3072 (by decide) D W X P (ix2 (n0 := 8192) (n1 := 1024) (i 0) ⟨(i 1).val - 6144, by omega⟩)
  else 0

/-! ## The body at an index of its block -/

theorem pay3_apply (v0 : Vec Ideal S512x1024 .f32) (v1 : Vec Ideal S1024x1024 .bf16) (j : S512x1024.Idx) :
    k0_pay3 v0 v1 j = ∑ k : Fin 1024, v0 (ix2 (j 0) k) * v1 (ix2 (j 1) k) :=
  matmul_nt_apply dot_S512x1024_S1024x1024_S512x1024_1_1_0_0_n_n rfl none (truncf .bf16 v0 bitsLt_bf16_f32) v1 j

theorem pay4_apply (v : Vec Ideal S512x1024 .bf16) (j : S512x1024.Idx) : k0_pay4 v j = Ideal.logistic (v j) := by
  show Ideal.ofBits .f32 0x3F000000#32 * Ideal.tanh (Ideal.ofBits .f32 0x3F000000#32 * v j) + Ideal.ofBits .f32 0x3F000000#32 = _
  rw [half_f32, sigmoid_eq]

theorem pay5_apply (v : Vec Ideal S512x1024 .bf16) (j : S512x1024.Idx) : k0_pay5 v j = Ideal.logistic (v j) := pay4_apply v j

theorem pay8_apply (v0 : Vec Ideal S512x1024 .f32) (v1 : Vec Ideal S1024x1024 .bf16) (v4 v28 : Vec Ideal S512x1024 .bf16) (j : S512x1024.Idx) :
    k0_pay1 (k0_pay8 v0 v1 v4 v28) j = (∑ k : Fin 1024, v0 (ix2 (j 0) k) * v1 (ix2 (j 1) k)) * v28 j * Ideal.logistic (v4 j)
      * (1 - Ideal.logistic (v4 j)) := by
  show k0_pay3 v0 v1 j * v28 j * k0_pay4 v4 j * (Ideal.ofBits .f32 0x3F800000#32 - k0_pay4 v4 j) = _
  rw [pay3_apply, pay4_apply, Ideal.ofBits_one_f32]

theorem pay2_apply (v0 : Vec Ideal S512x1024 .f32) (v1 : Vec Ideal S1024x1024 .bf16) (v5 v37 : Vec Ideal S512x1024 .bf16) (j : S512x1024.Idx) :
    k0_pay2 (k0_pay3 v0 v1) (k0_pay5 v5) v37 j = (∑ k : Fin 1024, v0 (ix2 (j 0) k) * v1 (ix2 (j 1) k)) * v37 j * Ideal.logistic (v5 j)
      * (1 - Ideal.logistic (v5 j)) :=
  pay8_apply v0 v1 v5 v37 j

/-! ## The windows -/

theorem idx_facts : ∀ t : Fin grid0.N,
    win0_0.index t = ![t.val, 0] ∧ win0_1.index t = ![0, 0] ∧ win0_2.index t = ![t.val, 0] ∧ win0_3.index t = ![t.val, 0]
    ∧ win0_4.index t = ![t.val, 3] ∧ win0_5.index t = ![t.val, 4] ∧ win0_6.index t = ![t.val, 0] ∧ win0_7.index t = ![t.val, 0]
    ∧ win0_8.index t = ![t.val, 3] := by
  decide +kernel

theorem e0 (t : Fin cfg0.N) : win0_0.index t = ![t.val, 0] := (idx_facts t).1
theorem e1 (t : Fin cfg0.N) : win0_1.index t = ![0, 0] := (idx_facts t).2.1
theorem e2 (t : Fin cfg0.N) : win0_2.index t = ![t.val, 0] := (idx_facts t).2.2.1
theorem e3 (t : Fin cfg0.N) : win0_3.index t = ![t.val, 0] := (idx_facts t).2.2.2.1
theorem e4 (t : Fin cfg0.N) : win0_4.index t = ![t.val, 3] := (idx_facts t).2.2.2.2.1
theorem e5 (t : Fin cfg0.N) : win0_5.index t = ![t.val, 4] := (idx_facts t).2.2.2.2.2.1
theorem e6 (t : Fin cfg0.N) : win0_6.index t = ![t.val, 0] := (idx_facts t).2.2.2.2.2.2.1
theorem e7 (t : Fin cfg0.N) : win0_7.index t = ![t.val, 0] := (idx_facts t).2.2.2.2.2.2.2.1
theorem e8 (t : Fin cfg0.N) : win0_8.index t = ![t.val, 3] := (idx_facts t).2.2.2.2.2.2.2.2

/-- The index of a branch's array that point `t` touches at index `j` of its block. -/
def at6 (t : Fin cfg0.N) (j : S512x1024.Idx) : S8192x1024.Idx := (win0_6.blk t).view.emb j

theorem at6_0 (t : Fin cfg0.N) (j : S512x1024.Idx) : (at6 t j 0).val = t.val * 512 + (j 0).val := by
  have h : (at6 t j 0).val = win0_6.index t 0 * 512 + 1 * (j 0).val := rfl
  rw [h, e6, one_mul]; rfl
theorem at6_1 (t : Fin cfg0.N) (j : S512x1024.Idx) : (at6 t j 1).val = (j 1).val := by
  have h : (at6 t j 1).val = win0_6.index t 1 * 1024 + 1 * (j 1).val := rfl
  rw [h, e6, one_mul]; show 0 * 1024 + _ = _; omega

variable (m : (ℓ : Loc nD τ sig) → Buf (Elt Ideal) ℓ) (ρ : Dev nD → PrngReg)

/-- The five argument arrays of device `c`. -/
abbrev D (c : Dev nD) : S8192x1024.Idx → EReal := m ((c : Thread nD τ).loc main_arg0)
abbrev W (c : Dev nD) : S1024x1024.Idx → EReal := m ((c : Thread nD τ).loc main_arg1)
abbrev X (c : Dev nD) : S8192x1024.Idx → EReal := m ((c : Thread nD τ).loc main_arg2)
abbrev Y (c : Dev nD) : S8192x1024.Idx → EReal := m ((c : Thread nD τ).loc main_arg3)
abbrev P (c : Dev nD) : S8192x5120.Idx → EReal := m ((c : Thread nD τ).loc main_arg4)

theorem blk0 (c : Dev nD) (t : Fin cfg0.N) (j : S512x1024.Idx) (k : Fin 1024) :
    (iblk m c 0 t : Vec Ideal S512x1024 .f32) (ix2 (j 0) k) = D m c (ix2 (n0 := 8192) (n1 := 1024) (at6 t j 0) k) := by
  unfold iblk
  rw [View.read_apply]
  show V m c main_arg0 _ = _
  rw [V_main_arg0]
  congr 1
  refine Shape.idx_ext₂ (n := ![8192, 1024]) ?_ ?_
  · show win0_0.index t 0 * 512 + 1 * (j 0).val = (at6 t j 0).val
    rw [at6_0, e0, one_mul]; rfl
  · show win0_0.index t 1 * 1024 + 1 * k.val = k.val
    rw [e0]; show 0 * 1024 + _ = _; omega

theorem blk1 (c : Dev nD) (t : Fin cfg0.N) (j : S512x1024.Idx) (k : Fin 1024) :
    (iblk m c 1 t : Vec Ideal S1024x1024 .bf16) (ix2 (j 1) k) = W m c (ix2 (n0 := 1024) (n1 := 1024) (at6 t j 1) k) := by
  unfold iblk
  rw [View.read_apply]
  show V m c main_arg1 _ = _
  rw [V_main_arg1]
  congr 1
  refine Shape.idx_ext₂ (n := ![1024, 1024]) ?_ ?_
  · show win0_1.index t 0 * 1024 + 1 * (j 1).val = (at6 t j 1).val
    rw [at6_1, e1]; show 0 * 1024 + _ = _; omega
  · show win0_1.index t 1 * 1024 + 1 * k.val = k.val
    rw [e1]; show 0 * 1024 + _ = _; omega

theorem blk2 (c : Dev nD) (t : Fin cfg0.N) (j : S512x1024.Idx) :
    (iblk m c 2 t : Vec Ideal S512x1024 .bf16) j = X m c (at6 t j) := by
  unfold iblk
  rw [View.read_apply]
  show V m c main_arg2 _ = _
  rw [V_main_arg2]
  rfl

theorem blk3 (c : Dev nD) (t : Fin cfg0.N) (j : S512x1024.Idx) :
    (iblk m c 3 t : Vec Ideal S512x1024 .bf16) j = Y m c (at6 t j) := by
  unfold iblk
  rw [View.read_apply]
  show V m c main_arg3 _ = _
  rw [V_main_arg3]
  rfl

theorem blk4 (c : Dev nD) (t : Fin cfg0.N) (j : S512x1024.Idx) :
    (iblk m c 4 t : Vec Ideal S512x1024 .bf16) j = logit 3072 (by decide) (P m c) (at6 t j) := by
  unfold iblk logit
  rw [View.read_apply]
  show V m c main_arg4 _ = _
  rw [V_main_arg4]
  congr 1
  refine Shape.idx_ext₂ (n := ![8192, 5120]) ?_ ?_
  · show win0_4.index t 0 * 512 + 1 * (j 0).val = (at6 t j 0).val
    rw [at6_0, e4, one_mul]; rfl
  · show win0_4.index t 1 * 1024 + 1 * (j 1).val = 3072 + (at6 t j 1).val
    rw [at6_1, e4]; show 3 * 1024 + _ = _; omega

theorem blk5 (c : Dev nD) (t : Fin cfg0.N) (j : S512x1024.Idx) :
    (iblk m c 5 t : Vec Ideal S512x1024 .bf16) j = logit 4096 (by decide) (P m c) (at6 t j) := by
  unfold iblk logit
  rw [View.read_apply]
  show V m c main_arg4 _ = _
  rw [V_main_arg4]
  congr 1
  refine Shape.idx_ext₂ (n := ![8192, 5120]) ?_ ?_
  · show win0_5.index t 0 * 512 + 1 * (j 0).val = (at6 t j 0).val
    rw [at6_0, e5, one_mul]; rfl
  · show win0_5.index t 1 * 1024 + 1 * (j 1).val = 4096 + (at6 t j 1).val
    rw [at6_1, e5]; show 4 * 1024 + _ = _; omega

/-- The block's product is the array's, at the index the point touches. -/
theorem dm_blk (c : Dev nD) (t : Fin cfg0.N) (j : S512x1024.Idx) :
    (∑ k : Fin 1024, (show EReal from (iblk m c 0 t : Vec Ideal S512x1024 .f32) (ix2 (j 0) k)) * (show EReal from (iblk m c 1 t : Vec Ideal S1024x1024 .bf16) (ix2 (j 1) k)))
      = dm (D m c) (W m c) (at6 t j) := by
  exact Finset.sum_congr rfl fun k _ => congrArg₂ (· * ·) (blk0 m c t j k) (blk1 m c t j k)

/-! ## The result arrays -/

theorem final6 (c : Dev nD) : (dats m 0 c).arrAt 6 cfg0.N = GP 3072 (by decide) (D m c) (W m c) (P m c) := by
  refine (dats m 0 c).arrAt_eq_of_covers 6 _ (by decide +kernel) fun t hf y => ?_
  blk_simp
  rw [after0_6]
  frame_out
  refine Eq.trans (congrArg₂ (· * ·) ((pay3_apply (iblk m c 0 t) (iblk m c 1 t) y).trans (dm_blk m c t y))
    ((pay4_apply (iblk m c 4 t) y).trans (congrArg Ideal.logistic (blk4 m c t y)))) ?_
  rfl

theorem final7 (c : Dev nD) : (dats m 0 c).arrAt 7 cfg0.N = GP 4096 (by decide) (D m c) (W m c) (P m c) := by
  refine (dats m 0 c).arrAt_eq_of_covers 7 _ (by decide +kernel) fun t hf y => ?_
  blk_simp
  rw [after0_7]
  frame_out
  refine Eq.trans (congrArg₂ (· * ·) ((pay3_apply (iblk m c 0 t) (iblk m c 1 t) y).trans (dm_blk m c t y))
    ((pay5_apply (iblk m c 5 t) y).trans (congrArg Ideal.logistic (blk5 m c t y)))) ?_
  rfl

theorem GG_blk (o : Nat) (ho : o ≤ 4096) (c : Dev nD) (t : Fin cfg0.N) (j : S512x1024.Idx) (X : S8192x1024.Idx → EReal) (y i) (hx : y = X (at6 t j))
    (hi : i = logit o ho (P m c) (at6 t j)) :
    (∑ k : Fin 1024, (show EReal from (iblk m c 0 t : Vec Ideal S512x1024 .f32) (ix2 (j 0) k)) * (show EReal from (iblk m c 1 t : Vec Ideal S1024x1024 .bf16) (ix2 (j 1) k)))
      * y * Ideal.logistic i * (1 - Ideal.logistic i) = GG o ho (D m c) (W m c) X (P m c) (at6 t j) := by
  rw [dm_blk, hx, hi]
  rfl

theorem out8_apply (c : Dev nD) (t : Fin cfg0.N) (y : S512x2048.Idx) :
    out0_8 (iblk m c 0 t) (iblk m c 1 t) (iblk m c 2 t) (iblk m c 3 t) (iblk m c 4 t) (iblk m c 5 t) y
      = GZ (D m c) (W m c) (X m c) (Y m c) (P m c) ((win0_8.blk t).view.emb y) := by
  unfold out0_8
  rw [View.ld_unit_zero zero2, View.ld_unit_zero zero2, View.ld_unit_zero zero2, View.ld_unit_zero zero2, View.ld_unit_zero zero2, View.ld_unit_zero zero2]
  refine View.canon_apply_of_pieces (Val := Elt Ideal) (e := .bf16) (fun y => GZ (D m c) (W m c) (X m c) (Y m c) (P m c) ((win0_8.blk t).view.emb y)) _ ?_ y (cover0_8 _ _ y)
  have col (y : S512x2048.Idx) : (((win0_8.blk t).view.emb y : S8192x8192.Idx) 1).val = 6144 + (y 1).val := by
    show win0_8.index t 1 * 2048 + 1 * (y 1).val = _
    rw [e8]; show 3 * 2048 + _ = _; omega
  have row (y : S512x2048.Idx) : (((win0_8.blk t).view.emb y : S8192x8192.Idx) 0).val = t.val * 512 + (y 0).val := by
    show win0_8.index t 0 * 512 + 1 * (y 0).val = _
    rw [e8, one_mul]; rfl
  intro p hp
  rcases List.mem_cons.mp hp with rfl | hp
  · intro x
    have cx : ((r0_3.emb x : S512x2048.Idx) 1).val = 1024 + ((x : S512x1024.Idx) 1).val := by
      show 1024 + 1 * ((x : S512x1024.Idx) 1).val = _; omega
    have rx : ((r0_3.emb x : S512x2048.Idx) 0).val = ((x : S512x1024.Idx) 0).val := by
      show 0 + 1 * ((x : S512x1024.Idx) 0).val = _; omega
    show k0_pay2 (k0_pay3 (iblk m c 0 t) (iblk m c 1 t)) (k0_pay5 (iblk m c 5 t)) (iblk m c 3 t) x = _
    rw [pay2_apply, GG_blk m 4096 (by decide) c t x (Y m c) _ _ (blk3 m c t x) (blk5 m c t x)]
    unfold GZ
    rw [dif_pos (by rw [col, cx]; omega)]
    congr 1
    refine Shape.idx_ext₂ (n := ![8192, 1024]) ?_ ?_
    · show (at6 t x 0).val = (((win0_8.blk t).view.emb (r0_3.emb x) : S8192x8192.Idx) 0).val
      rw [row, at6_0, rx]
    · show (at6 t x 1).val = (((win0_8.blk t).view.emb (r0_3.emb x) : S8192x8192.Idx) 1).val - 7168
      rw [col, at6_1, cx]; omega
  · obtain rfl := List.mem_singleton.mp hp
    intro x
    have cx : ((r0_2.emb x : S512x2048.Idx) 1).val = ((x : S512x1024.Idx) 1).val := by
      show 0 + 1 * ((x : S512x1024.Idx) 1).val = _; omega
    have rx : ((r0_2.emb x : S512x2048.Idx) 0).val = ((x : S512x1024.Idx) 0).val := by
      show 0 + 1 * ((x : S512x1024.Idx) 0).val = _; omega
    have lx : ((x : S512x1024.Idx) 1).val < 1024 := ((x : S512x1024.Idx) 1).isLt
    show k0_pay1 (k0_pay8 (iblk m c 0 t) (iblk m c 1 t) (iblk m c 4 t) (iblk m c 2 t)) x = _
    rw [pay8_apply, GG_blk m 3072 (by decide) c t x (X m c) _ _ (blk2 m c t x) (blk4 m c t x)]
    unfold GZ
    rw [dif_neg (by rw [col, cx]; omega), dif_pos (by rw [col, cx]; omega)]
    congr 1
    refine Shape.idx_ext₂ (n := ![8192, 1024]) ?_ ?_
    · show (at6 t x 0).val = (((win0_8.blk t).view.emb (r0_2.emb x) : S8192x8192.Idx) 0).val
      rw [row, at6_0, rx]
    · show (at6 t x 1).val = (((win0_8.blk t).view.emb (r0_2.emb x) : S8192x8192.Idx) 1).val - 6144
      rw [col, at6_1, cx]; omega

theorem final8 (c : Dev nD) (i : S8192x8192.Idx) (hi : 6144 ≤ (i 1).val) :
    (dats m 0 c).arrAt 8 cfg0.N i = GZ (D m c) (W m c) (X m c) (Y m c) (P m c) i := by
  have h := (dats m 0 c).arrAt_eq_of_coversWhere 8 (GZ (D m c) (W m c) (X m c) (Y m c) (P m c)) (fun β => 3 ≤ β (1 : Fin 2))
    (by decide +kernel) (fun t hf y => by
      blk_simp
      rw [after0_8]
      exact out8_apply m c t y) (P := fun i => 3 ≤ (i 1).val / 2048) (fun j => Iff.rfl)
  rw [h]
  exact if_pos (show 3 ≤ (i 1).val / 2048 by omega)

/-! ## The reference at an index -/

section Ref

open Cert.MergeRefIdeal.Read

variable (x0 : (⟨S8192x1024, .f32⟩ : BufTy).Contents (Elt Ideal)) (x1 : (⟨S1024x1024, .bf16⟩ : BufTy).Contents (Elt Ideal))
  (x2 x3 : (⟨S8192x1024, .bf16⟩ : BufTy).Contents (Elt Ideal)) (x4 : (⟨S8192x5120, .bf16⟩ : BufTy).Contents (Elt Ideal))

theorem ref_one (i : S8192x1024.Idx) : val_main_v10 (F := Ideal) i = 1 := by
  rw [val_main_v10_apply]
  exact Ideal.ofBits_one_f32

theorem ref_sa (i : S8192x1024.Idx) : val_main_v11 (F := Ideal) x4 i = Ideal.logistic (logit 3072 (by decide) x4 i) := by
  show Ideal.div (val_main_v10 (F := Ideal) i) (val_main_v10 (F := Ideal) i + Ideal.exp (-(val_main_v0 (F := Ideal) x4 i))) = _
  rw [ref_one, val_main_v0_apply]
  have e : idx_main_v0 i = ix2 (n0 := 8192) (n1 := 5120) (i 0) ⟨3072 + (i 1).val, by have : (i 1).val < 1024 := (i 1).isLt; omega⟩ :=
    Shape.idx_ext₂ (n := ![8192, 5120]) rfl rfl
  rw [e]
  rfl

theorem ref_sb (i : S8192x1024.Idx) : val_main_v21 (F := Ideal) x4 i = Ideal.logistic (logit 4096 (by decide) x4 i) := by
  show Ideal.div (val_main_v10 (F := Ideal) i) (val_main_v10 (F := Ideal) i + Ideal.exp (-(val_main_v1 (F := Ideal) x4 i))) = _
  rw [ref_one, val_main_v1_apply]
  have e : idx_main_v1 i = ix2 (n0 := 8192) (n1 := 5120) (i 0) ⟨4096 + (i 1).val, by have : (i 1).val < 1024 := (i 1).isLt; omega⟩ :=
    Shape.idx_ext₂ (n := ![8192, 5120]) rfl rfl
  rw [e]
  rfl

theorem ref_dm (i : S8192x1024.Idx) : val_main_v29 (F := Ideal) x0 x1 i = dm x0 x1 i := by
  rw [val_main_v29_apply]
  unfold dm
  refine Finset.sum_congr rfl fun k _ => ?_
  have el : lidx_main_v29 i k = ix2 (i 0) k := Shape.idx_ext₂ (n := ![8192, 1024]) rfl rfl
  have er : ridx_main_v29 i k = ix2 (i 1) k := Shape.idx_ext₂ (n := ![1024, 1024]) rfl rfl
  rw [el, er]
  rfl

theorem ref37 : val_main_v37 (F := Ideal) x0 x1 x4 = GP 3072 (by decide) x0 x1 x4 := by
  funext i
  show val_main_v11 (F := Ideal) x4 i * val_main_v29 (F := Ideal) x0 x1 i = _
  rw [ref_sa, ref_dm, mul_comm]
  rfl

theorem ref38 : val_main_v38 (F := Ideal) x0 x1 x4 = GP 4096 (by decide) x0 x1 x4 := by
  funext i
  show val_main_v21 (F := Ideal) x4 i * val_main_v29 (F := Ideal) x0 x1 i = _
  rw [ref_sb, ref_dm, mul_comm]
  rfl

theorem ref35 (i : S8192x1024.Idx) : val_main_v35 (F := Ideal) x0 x1 x2 x4 i = GG 3072 (by decide) x0 x1 x2 x4 i := by
  show val_main_v29 (F := Ideal) x0 x1 i * x2 i * (val_main_v11 (F := Ideal) x4 i * (val_main_v10 (F := Ideal) i - val_main_v11 (F := Ideal) x4 i)) = _
  rw [ref_sa, ref_dm, ref_one, ← mul_assoc]
  rfl

theorem ref32 (i : S8192x1024.Idx) : val_main_v32 (F := Ideal) x0 x1 x3 x4 i = GG 4096 (by decide) x0 x1 x3 x4 i := by
  show val_main_v29 (F := Ideal) x0 x1 i * x3 i * (val_main_v21 (F := Ideal) x4 i * (val_main_v10 (F := Ideal) i - val_main_v21 (F := Ideal) x4 i)) = _
  rw [ref_sb, ref_dm, ref_one, ← mul_assoc]
  rfl

theorem ref41 (i : S8192x8192.Idx) (hi : 6144 ≤ (i 1).val) : val_main_v41 (F := Ideal) x0 x1 x2 x3 x4 i = GZ x0 x1 x2 x3 x4 i := by
  have hlt : (i 1).val < 8192 := (i 1).isLt
  show val_main_v40 (F := Ideal) x0 x1 x2 x3 x4 i = _
  unfold val_main_v40 GZ
  obtain ⟨q, hq⟩ : ∃ q : Fin 2048, q.val + 6144 = (i 1).val := ⟨⟨(i 1).val - 6144, by omega⟩, by dsimp only; omega⟩
  refine (concat_cols_right (n := 8192) (a := 6144) (b := 2048) (l := 8192) _ _ _ i q (by omega)).trans ?_
  unfold val_main_v39
  by_cases hb : 7168 ≤ (i 1).val
  · rw [dif_pos hb]
    obtain ⟨r, hr⟩ : ∃ r : Fin 1024, r.val = (i 1).val - 7168 := ⟨⟨(i 1).val - 7168, by omega⟩, rfl⟩
    exact (concat_cols_right (n := 8192) (a := 1024) (b := 1024) (l := 2048) _ _ _ (ix2 (i 0) q) r (by show q.val = _; omega)).trans ((ref32 x0 x1 x3 x4 _).trans
      (congrArg (GG 4096 (by decide) x0 x1 x3 x4) (congrArg (ix2 (n0 := 8192) (n1 := 1024) (i 0)) (Fin.ext hr))))
  · rw [dif_neg hb, dif_pos hi]
    obtain ⟨r, hr⟩ : ∃ r : Fin 1024, r.val = (i 1).val - 6144 := ⟨⟨(i 1).val - 6144, by omega⟩, rfl⟩
    exact (concat_cols_left (n := 8192) (a := 1024) (b := 1024) (l := 2048) _ _ _ (ix2 (i 0) q) r (by show q.val = _; omega)).trans ((ref35 x0 x1 x2 x4 _).trans
      (congrArg (GG 3072 (by decide) x0 x1 x2 x4) (congrArg (ix2 (n0 := 8192) (n1 := 1024) (i 0)) (Fin.ext hr))))

end Ref

/-- The mask of the third result: the columns of the two gates. -/
theorem mask_iff (x0 : FVec Ideal S8192x1024 .f32) (x1 : FVec Ideal S1024x1024 .bf16) (x2 x3 : FVec Ideal S8192x1024 .bf16)
    (x4 : FVec Ideal S8192x5120 .bf16) (i : S8192x8192.Idx) :
    (Cert.On_gate_columns.fn (F := Ideal) x0 x1 x2 x3 x4).2.2 i = 1#1 → 6144 ≤ (i 1).val := by
  intro h
  have hlt : (i 1).val < 8192 := (i 1).isLt
  have h' : IntOp.cmpi .sge (BitVec.ofNat 32 (i 1).val) (BitVec.ofNat 32 6144) = 1#1 := h
  rw [WordCmp.cmpi_sge_ofNat (by omega) (by omega)] at h'
  by_contra hn
  rw [decide_eq_false hn] at h'
  exact absurd h' (by decide)

/-! ## The claims -/

theorem frame : Cert.quiescent_Merge := fun m ρ _ => Cert.Merge.Gen.frame m ρ
theorem frame_ideal : Cert.quiescent_MergeIdeal := fun m ρ _ => Cert.MergeIdeal.Gen.frame m ρ
theorem frame_ref : Cert.quiescent_MergeRefIdeal := fun m ρ _ =>
  (θ_run Cert.MergeRefIdeal.defs _ _).mono (fun r h => ⟨fun c => (h c).2.2.2, sem_eq_zero_of_no_sems (by decide) r.2⟩)
    (Cert.MergeRefIdeal.Value.run (F := Ideal) m ρ)

theorem preserves : Cert.preserves_Merge_MergeIdeal := trivial

theorem algebraic : Cert.algebraic_MergeIdeal_MergeRefIdeal_on_gate_columns := by
  intro m ρ m' ρ' _ hagree
  refine ⟨fun c => GP 3072 (by decide) (D m c) (W m c) (P m c), fun c => GP 4096 (by decide) (D m c) (W m c) (P m c),
    fun c => GZ (D m c) (W m c) (X m c) (Y m c) (P m c), ?_, ?_⟩
  · exact (θ_run Cert.MergeIdeal.defs _ _).mono
      (fun _ h c => ⟨fun i _ => congrFun ((h c).1.trans (final6 m c)) i, fun i _ => congrFun ((h c).2.1.trans (final7 m c)) i,
        fun i hi => (congrFun (h c).2.2.1 i).trans (final8 m c i (mask_iff _ _ _ _ _ i hi)), (h c).2.2.2⟩)
      (Cert.MergeIdeal.Value.run_blocks (F := Ideal) m ρ)
  have e37 (c : Dev nD) := Cert.MergeRefIdeal.Read.val_main_v37_eq (F := Ideal) (D m c) (W m c) (P m c)
  have e38 (c : Dev nD) := Cert.MergeRefIdeal.Read.val_main_v38_eq (F := Ideal) (D m c) (W m c) (P m c)
  have e41 (c : Dev nD) := Cert.MergeRefIdeal.Read.val_main_v41_eq (F := Ideal) (D m c) (W m c) (X m c) (Y m c) (P m c)
  refine (θ_run Cert.MergeRefIdeal.defs _ _).mono (fun r h c => ?_) (Cert.MergeRefIdeal.Value.run (F := Ideal) m' ρ')
  have hc := h c
  rw [(hagree c).1, (hagree c).2.1, (hagree c).2.2.1, (hagree c).2.2.2.1, (hagree c).2.2.2.2] at hc
  obtain ⟨h37, h38, h41, k0, k1, k2, k3, k4⟩ := hc
  refine ⟨fun i _ => congrFun (h37.trans ((e37 c).trans (ref37 _ _ _))) i, fun i _ => congrFun (h38.trans ((e38 c).trans (ref38 _ _ _))) i,
    fun i hi => (congrFun (h41.trans (e41 c)) i).trans (ref41 _ _ _ _ _ i (mask_iff _ _ _ _ _ i hi)), ?_⟩
  exact (h c).2.2.2

end Cert.Proof.MergeVal

end
-- ==== Proof.WInVal.lean ====
/-
  The gradient of the input projection's weights: `x` transposed times the projection's cotangent, accumulated over four blocks
  of positions, and that it is the derivative of `x @ w` by `w`.
-/
module

public import proofs.«01_k».proof.Defs
public import proofs.«01_k».proof.Proof.Common
public import proofs.«01_k».proof.Proof.Gen.WIn.Frame
public import proofs.«01_k».proof.Proof.Gen.WInIdeal.Value
public import proofs.«01_k».proof.Proof.Gen.WInRefIdeal.Read
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.Proof.WInVal

open Cert.WInIdeal Cert.WInIdeal.Gen Cert.Common

/-- The gradient: row `i` of the transposed left array times column `j` of the right one, over the 8192 positions. -/
def G (X : S8192x1024.Idx → EReal) (D : S8192x8192.Idx → EReal) (i : S1024x8192.Idx) : EReal :=
  ∑ l : Fin 8192, X (ix2 l (i 0)) * D (ix2 l (i 1))

/-! ## The body at an index of its block -/

theorem pay_apply (v0 : Vec Ideal S2048x1024 .bf16) (v1 : Vec Ideal S2048x1024 .bf16) (j : S1024x1024.Idx) :
    k0_pay1 v0 v1 j = ∑ k : Fin 2048, v0 (ix2 k (j 0)) * v1 (ix2 k (j 1)) :=
  matmul_tn_apply dot_S2048x1024_S2048x1024_S1024x1024_0_0_1_1_n_n rfl none v0 v1 j

theorem pay2_apply (v0 : Vec Ideal S2048x1024 .bf16) (v1 : Vec Ideal S2048x1024 .bf16) (j : S1024x1024.Idx) :
    k0_pay2 v0 v1 j = ∑ k : Fin 2048, v0 (ix2 k (j 0)) * v1 (ix2 k (j 1)) :=
  (congrFun (shapeCast_self _ _) j).trans (pay_apply v0 v1 j)

theorem pay3_apply (v0 : Vec Ideal S2048x1024 .bf16) (v1 : Vec Ideal S2048x1024 .bf16) (v14 : Vec Ideal S1024x1024 .f32)
    (j : S1024x1024.Idx) : k0_pay3 v0 v1 v14 j = v14 j + ∑ k : Fin 2048, v0 (ix2 k (j 0)) * v1 (ix2 k (j 1)) :=
  (congrFun (shapeCast_self (addf v14 (k0_pay1 v0 v1)) _) j).trans (congrArg (v14 j + ·) (pay_apply v0 v1 j))

theorem pay4_apply (v0 : Vec Ideal S2048x1024 .bf16) (v1 : Vec Ideal S2048x1024 .bf16) (v14 : Vec Ideal S1024x1024 .f32)
    (j : S1024x1024.Idx) : k0_pay4 v0 v1 v14 j = v14 j + ∑ k : Fin 2048, v0 (ix2 k (j 0)) * v1 (ix2 k (j 1)) :=
  congrArg (v14 j + ·) (pay_apply v0 v1 j)

theorem idx_facts : ∀ t : Fin grid0.N,
    win0_0.index t = ![t.val % 4, 0] ∧ win0_1.index t = ![t.val % 4, t.val / 4] ∧ win0_2.index t = ![0, t.val / 4] := by
  decide +kernel

variable (m : (ℓ : Loc nD τ sig) → Buf (Elt Ideal) ℓ) (ρ : Dev nD → PrngReg)

/-- The two argument arrays of device `c`. -/
abbrev X (c : Dev nD) : S8192x1024.Idx → EReal := m ((c : Thread nD τ).loc main_arg0)
abbrev D (c : Dev nD) : S8192x8192.Idx → EReal := m ((c : Thread nD τ).loc main_arg1)

/-- The index of the result that point `t` touches at index `j` of its block. -/
def at2 (t : Fin cfg0.N) (j : S1024x1024.Idx) : S1024x8192.Idx := (win0_2.blk t).view.emb j

theorem at2_0 (t : Fin cfg0.N) (j : S1024x1024.Idx) : (at2 t j 0).val = (0) * 1024 + (j 0).val := by
  have h : (at2 t j 0).val = win0_2.index t 0 * 1024 + 1 * (j 0).val := rfl
  rw [h, (idx_facts t).2.2, one_mul]; rfl
theorem at2_1 (t : Fin cfg0.N) (j : S1024x1024.Idx) : (at2 t j 1).val = (t.val / 4) * 1024 + (j 1).val := by
  have h : (at2 t j 1).val = win0_2.index t 1 * 1024 + 1 * (j 1).val := rfl
  rw [h, (idx_facts t).2.2, one_mul]; rfl

/-- Row `k` of point `t`'s blocks is row `l` of the arrays, `l` being `2048` times the point's place in its run plus `k`. -/
theorem blk0 (c : Dev nD) (t t' : Fin cfg0.N) (ht : t.val / 4 = t'.val / 4) (j : S1024x1024.Idx) (k : Fin 2048) (l : Fin 8192)
    (hl : l.val = t.val % 4 * 2048 + k.val) :
    (iblk m c 0 t : Vec Ideal S2048x1024 .bf16) (ix2 k (j 0)) = X m c (ix2 (n0 := 8192) (n1 := 1024) l (at2 t' j 0)) := by
  unfold iblk
  rw [View.read_apply]
  show V m c main_arg0 _ = _
  rw [V_main_arg0]
  congr 1
  refine Shape.idx_ext₂ (n := ![8192, 1024]) ?_ ?_
  · show win0_0.index t 0 * 2048 + 1 * k.val = l.val
    rw [(idx_facts t).1, hl, one_mul]; rfl
  · show win0_0.index t 1 * 1024 + 1 * (j 0).val = (at2 t' j 0).val
    rw [at2_0, (idx_facts t).1, one_mul]
    show 0 * 1024 + _ = _
    omega

theorem blk1 (c : Dev nD) (t t' : Fin cfg0.N) (ht : t.val / 4 = t'.val / 4) (j : S1024x1024.Idx) (k : Fin 2048) (l : Fin 8192)
    (hl : l.val = t.val % 4 * 2048 + k.val) :
    (iblk m c 1 t : Vec Ideal S2048x1024 .bf16) (ix2 k (j 1)) = D m c (ix2 (n0 := 8192) (n1 := 8192) l (at2 t' j 1)) := by
  unfold iblk
  rw [View.read_apply]
  show V m c main_arg1 _ = _
  rw [V_main_arg1]
  congr 1
  refine Shape.idx_ext₂ (n := ![8192, 8192]) ?_ ?_
  · show win0_1.index t 0 * 2048 + 1 * k.val = l.val
    rw [(idx_facts t).2.1, hl, one_mul]; rfl
  · show win0_1.index t 1 * 1024 + 1 * (j 1).val = (at2 t' j 1).val
    rw [at2_1, (idx_facts t).2.1, one_mul]
    show t.val / 4 * 1024 + _ = _
    omega

/-! ## The accumulation -/

/-- What point `n` adds to the sum. -/
def part (c : Dev nD) (n : ℕ) (h : n < cfg0.N) (j : S1024x1024.Idx) : EReal :=
  ∑ k : Fin 2048, (show EReal from (iblk m c 0 ⟨n, h⟩ : Vec Ideal S2048x1024 .bf16) (ix2 k (j 0)))
    * (show EReal from (iblk m c 1 ⟨n, h⟩ : Vec Ideal S2048x1024 .bf16) (ix2 k (j 1)))

theorem run_sum (c : Dev nD) (t : Fin cfg0.N) (ht : t.val % 4 = 3) (j : S1024x1024.Idx) :
    (outsAt0 m c t.val t.isLt).1 j = ∑ s : Fin 4, part m c (4 * (t.val / 4) + s.val) (by
      have h0 := t.isLt; have h1 := Nat.div_add_mod t.val 4; have h2 := s.isLt; omega) j := by
  refine sum_of_run 4 (by decide) (fun n h => (outsAt0 m c n h).2) (fun n h => (outsAt0 m c n h).1) (part m c) ?_ ?_ ?_ t.val t.isLt j ht
  · intro n h j h0
    rw [outsAt0_A m c ⟨n, h⟩ h0 (by dsimp only; omega) (by dsimp only; omega)]
    frame_out
    rw [pay2_apply]
    rfl
  · intro n h j h1
    rw [outsAt0_B m c ⟨n, h⟩ (by dsimp only; omega) h1 (by dsimp only; omega)]
    frame_out
    rw [pay3_apply]
    exact congrArg (· + part m c n h j) (congrFun (Memref.IsWhole.read_unread (Memref.isWhole_whole cc0_scratch0) _) j)
  · intro n h j h2
    rw [outsAt0_C m c ⟨n, h⟩ (by dsimp only; omega) (by dsimp only; omega) h2]
    frame_out
    rw [pay4_apply]
    exact congrArg (· + part m c n h j) (congrFun (Memref.IsWhole.read_unread (Memref.isWhole_whole cc0_scratch0) _) j)

/-- The array after the run. -/
theorem final2 (c : Dev nD) : (dats m 0 c).arrAt 2 cfg0.N = G (X m c) (D m c) := by
  refine (dats m 0 c).arrAt_eq_of_covers 2 _ (by decide +kernel) fun t hf y => ?_
  have ht : t.val % 4 = 3 := (flush0_2 t).mp hf
  have hN : t.val < 32 := lt_of_lt_of_eq t.isLt N_0
  blk_simp
  rw [after0_2]
  refine (run_sum m c t ht y).trans ?_
  unfold part G
  refine Fin.sum_mul_add_congr fun s k hl => ?_
  have hs := s.isLt
  have hb : 4 * (t.val / 4) + s.val < cfg0.N := lt_of_lt_of_eq (by omega) N_0.symm
  exact congrArg₂ (· * ·)
    (blk0 m c ⟨4 * (t.val / 4) + s.val, hb⟩ t (by dsimp only; omega) y k ⟨s.val * 2048 + k.val, hl⟩ (by dsimp only; omega))
    (blk1 m c ⟨4 * (t.val / 4) + s.val, hb⟩ t (by dsimp only; omega) y k ⟨s.val * 2048 + k.val, hl⟩ (by dsimp only; omega))

/-! ## The reference -/

theorem ref_eq (x : S8192x1024.Idx → EReal) (d : S8192x8192.Idx → EReal) :
    Cert.WInRefIdeal.Read.val_main_v6 (F := Ideal) x d = G x d := by
  funext i
  rw [Cert.WInRefIdeal.Read.val_main_v6_apply]
  show Cert.WInRefIdeal.Read.val_main_v5 (F := Ideal) x d i = _
  rw [Cert.WInRefIdeal.Read.val_main_v5_apply, Cert.WInRefIdeal.Read.val_main_v4_apply]
  refine Finset.sum_congr rfl fun l _ => ?_
  rw [mul_comm]
  refine congrArg₂ (· * ·) (congrArg x ?_) (congrArg d ?_)
  · exact Shape.idx_ext₂ (n := ![8192, 1024]) rfl rfl
  · exact Shape.idx_ext₂ (n := ![8192, 8192]) rfl rfl

/-! ## The claims -/

theorem frame : Cert.quiescent_WIn := fun m ρ _ => Cert.WIn.Gen.frame m ρ
theorem frame_ideal : Cert.quiescent_WInIdeal := fun m ρ _ => Cert.WInIdeal.Gen.frame m ρ
theorem frame_ref : Cert.quiescent_WInRefIdeal := fun m ρ _ =>
  (θ_run Cert.WInRefIdeal.defs _ _).mono (fun r h => ⟨fun c => (h c).2, sem_eq_zero_of_no_sems (by decide) r.2⟩)
    (Cert.WInRefIdeal.Value.run (F := Ideal) m ρ)

theorem preserves : Cert.preserves_WIn_WInIdeal := trivial

theorem algebraic : Cert.algebraic_WInIdeal_WInRefIdeal := by
  intro m ρ m' ρ' _ hagree
  refine ⟨fun c => G (X m c) (D m c), ?_, ?_⟩
  · exact (θ_run Cert.WInIdeal.defs _ _).mono (fun _ h c => ⟨(h c).1.trans (final2 m c), (h c).2⟩)
      (Cert.WInIdeal.Value.run_blocks (F := Ideal) m ρ)
  have e (c : Dev nD) := Cert.WInRefIdeal.Read.val_main_v6_eq (F := Ideal) (X m c) (D m c)
  refine (θ_run Cert.WInRefIdeal.defs _ _).mono (fun r h c => ?_) (Cert.WInRefIdeal.Value.run (F := Ideal) m' ρ')
  have hc := h c
  rw [(hagree c).1, (hagree c).2] at hc
  obtain ⟨h1, k0, k1⟩ := hc
  exact ⟨h1.trans ((e c).trans (ref_eq _ _)), (h c).2⟩

end Cert.Proof.WInVal

end
-- ==== Proof.WGateVal.lean ====
/-
  The gradient of one half of the feed-forward's first weights, as it is stored (transposed): the cotangent transposed times the
  layer's input, accumulated over four blocks of positions, and that it is the derivative of `x @ w.T` by `w`.
-/
module

public import proofs.«01_k».proof.Defs
public import proofs.«01_k».proof.Proof.Common
public import proofs.«01_k».proof.Proof.Gen.WGate.Frame
public import proofs.«01_k».proof.Proof.Gen.WGateIdeal.Value
public import proofs.«01_k».proof.Proof.Gen.WGateRefIdeal.Read
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.Proof.WGateVal

open Cert.WGateIdeal Cert.WGateIdeal.Gen Cert.Common

/-- The gradient: row `i` of the transposed left array times column `j` of the right one, over the 8192 positions. -/
def G (X : S8192x3072.Idx → EReal) (D : S8192x1024.Idx → EReal) (i : S3072x1024.Idx) : EReal :=
  ∑ l : Fin 8192, X (ix2 l (i 0)) * D (ix2 l (i 1))

/-! ## The body at an index of its block -/

theorem pay_apply (v0 : Vec Ideal S2048x1536 .bf16) (v1 : Vec Ideal S2048x1024 .bf16) (j : S1536x1024.Idx) :
    k0_pay1 v0 v1 j = ∑ k : Fin 2048, v0 (ix2 k (j 0)) * v1 (ix2 k (j 1)) :=
  matmul_tn_apply dot_S2048x1536_S2048x1024_S1536x1024_0_0_1_1_n_n rfl none v0 v1 j

theorem pay2_apply (v0 : Vec Ideal S2048x1536 .bf16) (v1 : Vec Ideal S2048x1024 .bf16) (j : S1536x1024.Idx) :
    k0_pay2 v0 v1 j = ∑ k : Fin 2048, v0 (ix2 k (j 0)) * v1 (ix2 k (j 1)) :=
  (congrFun (shapeCast_self _ _) j).trans (pay_apply v0 v1 j)

theorem pay3_apply (v0 : Vec Ideal S2048x1536 .bf16) (v1 : Vec Ideal S2048x1024 .bf16) (v14 : Vec Ideal S1536x1024 .f32)
    (j : S1536x1024.Idx) : k0_pay3 v0 v1 v14 j = v14 j + ∑ k : Fin 2048, v0 (ix2 k (j 0)) * v1 (ix2 k (j 1)) :=
  (congrFun (shapeCast_self (addf v14 (k0_pay1 v0 v1)) _) j).trans (congrArg (v14 j + ·) (pay_apply v0 v1 j))

theorem pay4_apply (v0 : Vec Ideal S2048x1536 .bf16) (v1 : Vec Ideal S2048x1024 .bf16) (v14 : Vec Ideal S1536x1024 .f32)
    (j : S1536x1024.Idx) : k0_pay4 v0 v1 v14 j = v14 j + ∑ k : Fin 2048, v0 (ix2 k (j 0)) * v1 (ix2 k (j 1)) :=
  congrArg (v14 j + ·) (pay_apply v0 v1 j)

theorem idx_facts : ∀ t : Fin grid0.N,
    win0_0.index t = ![t.val % 4, t.val / 4] ∧ win0_1.index t = ![t.val % 4, 0] ∧ win0_2.index t = ![t.val / 4, 0] := by
  decide +kernel

variable (m : (ℓ : Loc nD τ sig) → Buf (Elt Ideal) ℓ) (ρ : Dev nD → PrngReg)

/-- The two argument arrays of device `c`. -/
abbrev X (c : Dev nD) : S8192x3072.Idx → EReal := m ((c : Thread nD τ).loc main_arg0)
abbrev D (c : Dev nD) : S8192x1024.Idx → EReal := m ((c : Thread nD τ).loc main_arg1)

/-- The index of the result that point `t` touches at index `j` of its block. -/
def at2 (t : Fin cfg0.N) (j : S1536x1024.Idx) : S3072x1024.Idx := (win0_2.blk t).view.emb j

theorem at2_0 (t : Fin cfg0.N) (j : S1536x1024.Idx) : (at2 t j 0).val = (t.val / 4) * 1536 + (j 0).val := by
  have h : (at2 t j 0).val = win0_2.index t 0 * 1536 + 1 * (j 0).val := rfl
  rw [h, (idx_facts t).2.2, one_mul]; rfl
theorem at2_1 (t : Fin cfg0.N) (j : S1536x1024.Idx) : (at2 t j 1).val = (0) * 1024 + (j 1).val := by
  have h : (at2 t j 1).val = win0_2.index t 1 * 1024 + 1 * (j 1).val := rfl
  rw [h, (idx_facts t).2.2, one_mul]; rfl

/-- Row `k` of point `t`'s blocks is row `l` of the arrays, `l` being `2048` times the point's place in its run plus `k`. -/
theorem blk0 (c : Dev nD) (t t' : Fin cfg0.N) (ht : t.val / 4 = t'.val / 4) (j : S1536x1024.Idx) (k : Fin 2048) (l : Fin 8192)
    (hl : l.val = t.val % 4 * 2048 + k.val) :
    (iblk m c 0 t : Vec Ideal S2048x1536 .bf16) (ix2 k (j 0)) = X m c (ix2 (n0 := 8192) (n1 := 3072) l (at2 t' j 0)) := by
  unfold iblk
  rw [View.read_apply]
  show V m c main_arg0 _ = _
  rw [V_main_arg0]
  congr 1
  refine Shape.idx_ext₂ (n := ![8192, 3072]) ?_ ?_
  · show win0_0.index t 0 * 2048 + 1 * k.val = l.val
    rw [(idx_facts t).1, hl, one_mul]; rfl
  · show win0_0.index t 1 * 1536 + 1 * (j 0).val = (at2 t' j 0).val
    rw [at2_0, (idx_facts t).1, one_mul]
    show t.val / 4 * 1536 + _ = _
    omega

theorem blk1 (c : Dev nD) (t t' : Fin cfg0.N) (ht : t.val / 4 = t'.val / 4) (j : S1536x1024.Idx) (k : Fin 2048) (l : Fin 8192)
    (hl : l.val = t.val % 4 * 2048 + k.val) :
    (iblk m c 1 t : Vec Ideal S2048x1024 .bf16) (ix2 k (j 1)) = D m c (ix2 (n0 := 8192) (n1 := 1024) l (at2 t' j 1)) := by
  unfold iblk
  rw [View.read_apply]
  show V m c main_arg1 _ = _
  rw [V_main_arg1]
  congr 1
  refine Shape.idx_ext₂ (n := ![8192, 1024]) ?_ ?_
  · show win0_1.index t 0 * 2048 + 1 * k.val = l.val
    rw [(idx_facts t).2.1, hl, one_mul]; rfl
  · show win0_1.index t 1 * 1024 + 1 * (j 1).val = (at2 t' j 1).val
    rw [at2_1, (idx_facts t).2.1, one_mul]
    show 0 * 1024 + _ = _
    omega

/-! ## The accumulation -/

/-- What point `n` adds to the sum. -/
def part (c : Dev nD) (n : ℕ) (h : n < cfg0.N) (j : S1536x1024.Idx) : EReal :=
  ∑ k : Fin 2048, (show EReal from (iblk m c 0 ⟨n, h⟩ : Vec Ideal S2048x1536 .bf16) (ix2 k (j 0)))
    * (show EReal from (iblk m c 1 ⟨n, h⟩ : Vec Ideal S2048x1024 .bf16) (ix2 k (j 1)))

theorem run_sum (c : Dev nD) (t : Fin cfg0.N) (ht : t.val % 4 = 3) (j : S1536x1024.Idx) :
    (outsAt0 m c t.val t.isLt).1 j = ∑ s : Fin 4, part m c (4 * (t.val / 4) + s.val) (by
      have h0 := t.isLt; have h1 := Nat.div_add_mod t.val 4; have h2 := s.isLt; omega) j := by
  refine sum_of_run 4 (by decide) (fun n h => (outsAt0 m c n h).2) (fun n h => (outsAt0 m c n h).1) (part m c) ?_ ?_ ?_ t.val t.isLt j ht
  · intro n h j h0
    rw [outsAt0_A m c ⟨n, h⟩ h0 (by dsimp only; omega) (by dsimp only; omega)]
    frame_out
    rw [pay2_apply]
    rfl
  · intro n h j h1
    rw [outsAt0_B m c ⟨n, h⟩ (by dsimp only; omega) h1 (by dsimp only; omega)]
    frame_out
    rw [pay3_apply]
    exact congrArg (· + part m c n h j) (congrFun (Memref.IsWhole.read_unread (Memref.isWhole_whole cc0_scratch0) _) j)
  · intro n h j h2
    rw [outsAt0_C m c ⟨n, h⟩ (by dsimp only; omega) (by dsimp only; omega) h2]
    frame_out
    rw [pay4_apply]
    exact congrArg (· + part m c n h j) (congrFun (Memref.IsWhole.read_unread (Memref.isWhole_whole cc0_scratch0) _) j)

/-- The array after the run. -/
theorem final2 (c : Dev nD) : (dats m 0 c).arrAt 2 cfg0.N = G (X m c) (D m c) := by
  refine (dats m 0 c).arrAt_eq_of_covers 2 _ (by decide +kernel) fun t hf y => ?_
  have ht : t.val % 4 = 3 := (flush0_2 t).mp hf
  have hN : t.val < 8 := lt_of_lt_of_eq t.isLt N_0
  blk_simp
  rw [after0_2]
  refine (run_sum m c t ht y).trans ?_
  unfold part G
  refine Fin.sum_mul_add_congr fun s k hl => ?_
  have hs := s.isLt
  have hb : 4 * (t.val / 4) + s.val < cfg0.N := lt_of_lt_of_eq (by omega) N_0.symm
  exact congrArg₂ (· * ·)
    (blk0 m c ⟨4 * (t.val / 4) + s.val, hb⟩ t (by dsimp only; omega) y k ⟨s.val * 2048 + k.val, hl⟩ (by dsimp only; omega))
    (blk1 m c ⟨4 * (t.val / 4) + s.val, hb⟩ t (by dsimp only; omega) y k ⟨s.val * 2048 + k.val, hl⟩ (by dsimp only; omega))

/-! ## The reference -/

theorem ref_eq (x : S8192x3072.Idx → EReal) (d : S8192x1024.Idx → EReal) :
    Cert.WGateRefIdeal.Read.val_main_v8 (F := Ideal) x d = G x d := by
  funext i
  rw [Cert.WGateRefIdeal.Read.val_main_v8_apply]
  show Cert.WGateRefIdeal.Read.val_main_v7 (F := Ideal) x d i = _
  rw [Cert.WGateRefIdeal.Read.val_main_v7_apply, Cert.WGateRefIdeal.Read.val_main_v6_apply, Cert.WGateRefIdeal.Read.val_main_v5_apply]
  refine Finset.sum_congr rfl fun l _ => ?_
  refine congrArg₂ (· * ·) (congrArg x ?_) (congrArg d ?_)
  · exact Shape.idx_ext₂ (n := ![8192, 3072]) rfl rfl
  · exact Shape.idx_ext₂ (n := ![8192, 1024]) rfl rfl

/-! ## The claims -/

theorem frame : Cert.quiescent_WGate := fun m ρ _ => Cert.WGate.Gen.frame m ρ
theorem frame_ideal : Cert.quiescent_WGateIdeal := fun m ρ _ => Cert.WGateIdeal.Gen.frame m ρ
theorem frame_ref : Cert.quiescent_WGateRefIdeal := fun m ρ _ =>
  (θ_run Cert.WGateRefIdeal.defs _ _).mono (fun r h => ⟨fun c => (h c).2, sem_eq_zero_of_no_sems (by decide) r.2⟩)
    (Cert.WGateRefIdeal.Value.run (F := Ideal) m ρ)

theorem preserves : Cert.preserves_WGate_WGateIdeal := trivial

theorem algebraic : Cert.algebraic_WGateIdeal_WGateRefIdeal := by
  intro m ρ m' ρ' _ hagree
  refine ⟨fun c => G (X m c) (D m c), ?_, ?_⟩
  · exact (θ_run Cert.WGateIdeal.defs _ _).mono (fun _ h c => ⟨(h c).1.trans (final2 m c), (h c).2⟩)
      (Cert.WGateIdeal.Value.run_blocks (F := Ideal) m ρ)
  have e (c : Dev nD) := Cert.WGateRefIdeal.Read.val_main_v8_eq (F := Ideal) (X m c) (D m c)
  refine (θ_run Cert.WGateRefIdeal.defs _ _).mono (fun r h c => ?_) (Cert.WGateRefIdeal.Value.run (F := Ideal) m' ρ')
  have hc := h c
  rw [(hagree c).1, (hagree c).2] at hc
  obtain ⟨h1, k0, k1⟩ := hc
  exact ⟨h1.trans ((e c).trans (ref_eq _ _)), (h c).2⟩

end Cert.Proof.WGateVal

end
-- ==== Proof.WDownVal.lean ====
/-
  The gradient of the feed-forward's second weights: the hidden layer transposed times the cotangent, accumulated over eight
  blocks of positions, and that it is the derivative of `h @ w` by `w`.
-/
module

public import proofs.«01_k».proof.Defs
public import proofs.«01_k».proof.Proof.Common
public import proofs.«01_k».proof.Proof.Gen.WDown.Frame
public import proofs.«01_k».proof.Proof.Gen.WDownIdeal.Value
public import proofs.«01_k».proof.Proof.Gen.WDownRefIdeal.Read
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.Proof.WDownVal

open Cert.WDownIdeal Cert.WDownIdeal.Gen Cert.Common

/-- The gradient: row `i` of the transposed left array times column `j` of the right one, over the 8192 positions. -/
def G (X : S8192x3072.Idx → EReal) (D : S8192x1024.Idx → EReal) (i : S3072x1024.Idx) : EReal :=
  ∑ l : Fin 8192, X (ix2 l (i 0)) * D (ix2 l (i 1))

/-! ## The body at an index of its block -/

theorem pay_apply (v0 : Vec Ideal S1024x1536 .bf16) (v1 : Vec Ideal S1024x1024 .f32) (j : S1536x1024.Idx) :
    k0_pay1 v0 v1 j = ∑ k : Fin 1024, v0 (ix2 k (j 0)) * v1 (ix2 k (j 1)) :=
  matmul_tn_apply dot_S1024x1536_S1024x1024_S1536x1024_0_0_1_1_n_n rfl none v0 (truncf .bf16 v1 bitsLt_bf16_f32) j

theorem pay2_apply (v0 : Vec Ideal S1024x1536 .bf16) (v1 : Vec Ideal S1024x1024 .f32) (j : S1536x1024.Idx) :
    k0_pay2 v0 v1 j = ∑ k : Fin 1024, v0 (ix2 k (j 0)) * v1 (ix2 k (j 1)) :=
  (congrFun (shapeCast_self _ _) j).trans (pay_apply v0 v1 j)

theorem pay3_apply (v0 : Vec Ideal S1024x1536 .bf16) (v1 : Vec Ideal S1024x1024 .f32) (v14 : Vec Ideal S1536x1024 .f32)
    (j : S1536x1024.Idx) : k0_pay3 v0 v1 v14 j = v14 j + ∑ k : Fin 1024, v0 (ix2 k (j 0)) * v1 (ix2 k (j 1)) :=
  (congrFun (shapeCast_self (addf v14 (k0_pay1 v0 v1)) _) j).trans (congrArg (v14 j + ·) (pay_apply v0 v1 j))

theorem pay4_apply (v0 : Vec Ideal S1024x1536 .bf16) (v1 : Vec Ideal S1024x1024 .f32) (v14 : Vec Ideal S1536x1024 .f32)
    (j : S1536x1024.Idx) : k0_pay4 v0 v1 v14 j = v14 j + ∑ k : Fin 1024, v0 (ix2 k (j 0)) * v1 (ix2 k (j 1)) :=
  congrArg (v14 j + ·) (pay_apply v0 v1 j)

theorem idx_facts : ∀ t : Fin grid0.N,
    win0_0.index t = ![t.val % 8, t.val / 8] ∧ win0_1.index t = ![t.val % 8, 0] ∧ win0_2.index t = ![t.val / 8, 0] := by
  decide +kernel

variable (m : (ℓ : Loc nD τ sig) → Buf (Elt Ideal) ℓ) (ρ : Dev nD → PrngReg)

/-- The two argument arrays of device `c`. -/
abbrev X (c : Dev nD) : S8192x3072.Idx → EReal := m ((c : Thread nD τ).loc main_arg0)
abbrev D (c : Dev nD) : S8192x1024.Idx → EReal := m ((c : Thread nD τ).loc main_arg1)

/-- The index of the result that point `t` touches at index `j` of its block. -/
def at2 (t : Fin cfg0.N) (j : S1536x1024.Idx) : S3072x1024.Idx := (win0_2.blk t).view.emb j

theorem at2_0 (t : Fin cfg0.N) (j : S1536x1024.Idx) : (at2 t j 0).val = (t.val / 8) * 1536 + (j 0).val := by
  have h : (at2 t j 0).val = win0_2.index t 0 * 1536 + 1 * (j 0).val := rfl
  rw [h, (idx_facts t).2.2, one_mul]; rfl
theorem at2_1 (t : Fin cfg0.N) (j : S1536x1024.Idx) : (at2 t j 1).val = (0) * 1024 + (j 1).val := by
  have h : (at2 t j 1).val = win0_2.index t 1 * 1024 + 1 * (j 1).val := rfl
  rw [h, (idx_facts t).2.2, one_mul]; rfl

/-- Row `k` of point `t`'s blocks is row `l` of the arrays, `l` being `1024` times the point's place in its run plus `k`. -/
theorem blk0 (c : Dev nD) (t t' : Fin cfg0.N) (ht : t.val / 8 = t'.val / 8) (j : S1536x1024.Idx) (k : Fin 1024) (l : Fin 8192)
    (hl : l.val = t.val % 8 * 1024 + k.val) :
    (iblk m c 0 t : Vec Ideal S1024x1536 .bf16) (ix2 k (j 0)) = X m c (ix2 (n0 := 8192) (n1 := 3072) l (at2 t' j 0)) := by
  unfold iblk
  rw [View.read_apply]
  show V m c main_arg0 _ = _
  rw [V_main_arg0]
  congr 1
  refine Shape.idx_ext₂ (n := ![8192, 3072]) ?_ ?_
  · show win0_0.index t 0 * 1024 + 1 * k.val = l.val
    rw [(idx_facts t).1, hl, one_mul]; rfl
  · show win0_0.index t 1 * 1536 + 1 * (j 0).val = (at2 t' j 0).val
    rw [at2_0, (idx_facts t).1, one_mul]
    show t.val / 8 * 1536 + _ = _
    omega

theorem blk1 (c : Dev nD) (t t' : Fin cfg0.N) (ht : t.val / 8 = t'.val / 8) (j : S1536x1024.Idx) (k : Fin 1024) (l : Fin 8192)
    (hl : l.val = t.val % 8 * 1024 + k.val) :
    (iblk m c 1 t : Vec Ideal S1024x1024 .f32) (ix2 k (j 1)) = D m c (ix2 (n0 := 8192) (n1 := 1024) l (at2 t' j 1)) := by
  unfold iblk
  rw [View.read_apply]
  show V m c main_arg1 _ = _
  rw [V_main_arg1]
  congr 1
  refine Shape.idx_ext₂ (n := ![8192, 1024]) ?_ ?_
  · show win0_1.index t 0 * 1024 + 1 * k.val = l.val
    rw [(idx_facts t).2.1, hl, one_mul]; rfl
  · show win0_1.index t 1 * 1024 + 1 * (j 1).val = (at2 t' j 1).val
    rw [at2_1, (idx_facts t).2.1, one_mul]
    show 0 * 1024 + _ = _
    omega

/-! ## The accumulation -/

/-- What point `n` adds to the sum. -/
def part (c : Dev nD) (n : ℕ) (h : n < cfg0.N) (j : S1536x1024.Idx) : EReal :=
  ∑ k : Fin 1024, (show EReal from (iblk m c 0 ⟨n, h⟩ : Vec Ideal S1024x1536 .bf16) (ix2 k (j 0)))
    * (show EReal from (iblk m c 1 ⟨n, h⟩ : Vec Ideal S1024x1024 .f32) (ix2 k (j 1)))

theorem run_sum (c : Dev nD) (t : Fin cfg0.N) (ht : t.val % 8 = 7) (j : S1536x1024.Idx) :
    (outsAt0 m c t.val t.isLt).1 j = ∑ s : Fin 8, part m c (8 * (t.val / 8) + s.val) (by
      have h0 := t.isLt; have h1 := Nat.div_add_mod t.val 8; have h2 := s.isLt; omega) j := by
  refine sum_of_run 8 (by decide) (fun n h => (outsAt0 m c n h).2) (fun n h => (outsAt0 m c n h).1) (part m c) ?_ ?_ ?_ t.val t.isLt j ht
  · intro n h j h0
    rw [outsAt0_A m c ⟨n, h⟩ h0 (by dsimp only; omega) (by dsimp only; omega)]
    frame_out
    rw [pay2_apply]
    rfl
  · intro n h j h1
    rw [outsAt0_B m c ⟨n, h⟩ (by dsimp only; omega) h1 (by dsimp only; omega)]
    frame_out
    rw [pay3_apply]
    exact congrArg (· + part m c n h j) (congrFun (Memref.IsWhole.read_unread (Memref.isWhole_whole cc0_scratch0) _) j)
  · intro n h j h2
    rw [outsAt0_C m c ⟨n, h⟩ (by dsimp only; omega) (by dsimp only; omega) h2]
    frame_out
    rw [pay4_apply]
    exact congrArg (· + part m c n h j) (congrFun (Memref.IsWhole.read_unread (Memref.isWhole_whole cc0_scratch0) _) j)

/-- The array after the run. -/
theorem final2 (c : Dev nD) : (dats m 0 c).arrAt 2 cfg0.N = G (X m c) (D m c) := by
  refine (dats m 0 c).arrAt_eq_of_covers 2 _ (by decide +kernel) fun t hf y => ?_
  have ht : t.val % 8 = 7 := (flush0_2 t).mp hf
  have hN : t.val < 16 := lt_of_lt_of_eq t.isLt N_0
  blk_simp
  rw [after0_2]
  refine (run_sum m c t ht y).trans ?_
  unfold part G
  refine Fin.sum_mul_add_congr fun s k hl => ?_
  have hs := s.isLt
  have hb : 8 * (t.val / 8) + s.val < cfg0.N := lt_of_lt_of_eq (by omega) N_0.symm
  exact congrArg₂ (· * ·)
    (blk0 m c ⟨8 * (t.val / 8) + s.val, hb⟩ t (by dsimp only; omega) y k ⟨s.val * 1024 + k.val, hl⟩ (by dsimp only; omega))
    (blk1 m c ⟨8 * (t.val / 8) + s.val, hb⟩ t (by dsimp only; omega) y k ⟨s.val * 1024 + k.val, hl⟩ (by dsimp only; omega))

/-! ## The reference -/

theorem ref_eq (x : S8192x3072.Idx → EReal) (d : S8192x1024.Idx → EReal) :
    Cert.WDownRefIdeal.Read.val_main_v5 (F := Ideal) x d = G x d := by
  funext i
  rw [Cert.WDownRefIdeal.Read.val_main_v5_apply]
  show Cert.WDownRefIdeal.Read.val_main_v4 (F := Ideal) x d i = _
  rw [Cert.WDownRefIdeal.Read.val_main_v4_apply, Cert.WDownRefIdeal.Read.val_main_v3_apply]
  refine Finset.sum_congr rfl fun l _ => ?_
  rw [mul_comm]
  refine congrArg₂ (· * ·) (congrArg x ?_) (congrArg d ?_)
  · exact Shape.idx_ext₂ (n := ![8192, 3072]) rfl rfl
  · exact Shape.idx_ext₂ (n := ![8192, 1024]) rfl rfl

/-! ## The claims -/

theorem frame : Cert.quiescent_WDown := fun m ρ _ => Cert.WDown.Gen.frame m ρ
theorem frame_ideal : Cert.quiescent_WDownIdeal := fun m ρ _ => Cert.WDownIdeal.Gen.frame m ρ
theorem frame_ref : Cert.quiescent_WDownRefIdeal := fun m ρ _ =>
  (θ_run Cert.WDownRefIdeal.defs _ _).mono (fun r h => ⟨fun c => (h c).2, sem_eq_zero_of_no_sems (by decide) r.2⟩)
    (Cert.WDownRefIdeal.Value.run (F := Ideal) m ρ)

theorem preserves : Cert.preserves_WDown_WDownIdeal := trivial

theorem algebraic : Cert.algebraic_WDownIdeal_WDownRefIdeal := by
  intro m ρ m' ρ' _ hagree
  refine ⟨fun c => G (X m c) (D m c), ?_, ?_⟩
  · exact (θ_run Cert.WDownIdeal.defs _ _).mono (fun _ h c => ⟨(h c).1.trans (final2 m c), (h c).2⟩)
      (Cert.WDownIdeal.Value.run_blocks (F := Ideal) m ρ)
  have e (c : Dev nD) := Cert.WDownRefIdeal.Read.val_main_v5_eq (F := Ideal) (X m c) (D m c)
  refine (θ_run Cert.WDownRefIdeal.defs _ _).mono (fun r h c => ?_) (Cert.WDownRefIdeal.Value.run (F := Ideal) m' ρ')
  have hc := h c
  rw [(hagree c).1, (hagree c).2] at hc
  obtain ⟨h1, k0, k1⟩ := hc
  exact ⟨h1.trans ((e c).trans (ref_eq _ _)), (h c).2⟩

end Cert.Proof.WDownVal

end
-- ==== Proof.WMergeVal.lean ====
/-
  The gradient of one of the square merging products' weights: the layer's input transposed times the cotangent, accumulated over
  eight blocks of positions, and that it is the derivative of `x @ w` by `w`.
-/
module

public import proofs.«01_k».proof.Defs
public import proofs.«01_k».proof.Proof.Common
public import proofs.«01_k».proof.Proof.Gen.WMerge.Frame
public import proofs.«01_k».proof.Proof.Gen.WMergeIdeal.Value
public import proofs.«01_k».proof.Proof.Gen.WMergeRefIdeal.Read
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.Proof.WMergeVal

open Cert.WMergeIdeal Cert.WMergeIdeal.Gen Cert.Common

/-- The gradient: row `i` of the transposed left array times column `j` of the right one, over the 8192 positions. -/
def G (X : S8192x1024.Idx → EReal) (D : S8192x1024.Idx → EReal) (i : S1024x1024.Idx) : EReal :=
  ∑ l : Fin 8192, X (ix2 l (i 0)) * D (ix2 l (i 1))

/-! ## The body at an index of its block -/

theorem pay_apply (v0 : Vec Ideal S1024x1024 .bf16) (v1 : Vec Ideal S1024x1024 .bf16) (j : S1024x1024.Idx) :
    k0_pay1 v0 v1 j = ∑ k : Fin 1024, v0 (ix2 k (j 0)) * v1 (ix2 k (j 1)) :=
  matmul_tn_apply dot_S1024x1024_S1024x1024_S1024x1024_0_0_1_1_n_n rfl none v0 v1 j

theorem pay2_apply (v0 : Vec Ideal S1024x1024 .bf16) (v1 : Vec Ideal S1024x1024 .bf16) (j : S1024x1024.Idx) :
    k0_pay2 v0 v1 j = ∑ k : Fin 1024, v0 (ix2 k (j 0)) * v1 (ix2 k (j 1)) :=
  (congrFun (shapeCast_self _ _) j).trans (pay_apply v0 v1 j)

theorem pay3_apply (v0 : Vec Ideal S1024x1024 .bf16) (v1 : Vec Ideal S1024x1024 .bf16) (v14 : Vec Ideal S1024x1024 .f32)
    (j : S1024x1024.Idx) : k0_pay3 v0 v1 v14 j = v14 j + ∑ k : Fin 1024, v0 (ix2 k (j 0)) * v1 (ix2 k (j 1)) :=
  (congrFun (shapeCast_self (addf v14 (k0_pay1 v0 v1)) _) j).trans (congrArg (v14 j + ·) (pay_apply v0 v1 j))

theorem pay4_apply (v0 : Vec Ideal S1024x1024 .bf16) (v1 : Vec Ideal S1024x1024 .bf16) (v14 : Vec Ideal S1024x1024 .f32)
    (j : S1024x1024.Idx) : k0_pay4 v0 v1 v14 j = v14 j + ∑ k : Fin 1024, v0 (ix2 k (j 0)) * v1 (ix2 k (j 1)) :=
  congrArg (v14 j + ·) (pay_apply v0 v1 j)

theorem idx_facts : ∀ t : Fin grid0.N,
    win0_0.index t = ![t.val % 8, 0] ∧ win0_1.index t = ![t.val % 8, 0] ∧ win0_2.index t = ![0, 0] := by
  decide +kernel

variable (m : (ℓ : Loc nD τ sig) → Buf (Elt Ideal) ℓ) (ρ : Dev nD → PrngReg)

/-- The two argument arrays of device `c`. -/
abbrev X (c : Dev nD) : S8192x1024.Idx → EReal := m ((c : Thread nD τ).loc main_arg0)
abbrev D (c : Dev nD) : S8192x1024.Idx → EReal := m ((c : Thread nD τ).loc main_arg1)

/-- The index of the result that point `t` touches at index `j` of its block. -/
def at2 (t : Fin cfg0.N) (j : S1024x1024.Idx) : S1024x1024.Idx := (win0_2.blk t).view.emb j

theorem at2_0 (t : Fin cfg0.N) (j : S1024x1024.Idx) : (at2 t j 0).val = (0) * 1024 + (j 0).val := by
  have h : (at2 t j 0).val = win0_2.index t 0 * 1024 + 1 * (j 0).val := rfl
  rw [h, (idx_facts t).2.2, one_mul]; rfl
theorem at2_1 (t : Fin cfg0.N) (j : S1024x1024.Idx) : (at2 t j 1).val = (0) * 1024 + (j 1).val := by
  have h : (at2 t j 1).val = win0_2.index t 1 * 1024 + 1 * (j 1).val := rfl
  rw [h, (idx_facts t).2.2, one_mul]; rfl

/-- Row `k` of point `t`'s blocks is row `l` of the arrays, `l` being `1024` times the point's place in its run plus `k`. -/
theorem blk0 (c : Dev nD) (t t' : Fin cfg0.N) (ht : t.val / 8 = t'.val / 8) (j : S1024x1024.Idx) (k : Fin 1024) (l : Fin 8192)
    (hl : l.val = t.val % 8 * 1024 + k.val) :
    (iblk m c 0 t : Vec Ideal S1024x1024 .bf16) (ix2 k (j 0)) = X m c (ix2 (n0 := 8192) (n1 := 1024) l (at2 t' j 0)) := by
  unfold iblk
  rw [View.read_apply]
  show V m c main_arg0 _ = _
  rw [V_main_arg0]
  congr 1
  refine Shape.idx_ext₂ (n := ![8192, 1024]) ?_ ?_
  · show win0_0.index t 0 * 1024 + 1 * k.val = l.val
    rw [(idx_facts t).1, hl, one_mul]; rfl
  · show win0_0.index t 1 * 1024 + 1 * (j 0).val = (at2 t' j 0).val
    rw [at2_0, (idx_facts t).1, one_mul]
    show 0 * 1024 + _ = _
    omega

theorem blk1 (c : Dev nD) (t t' : Fin cfg0.N) (ht : t.val / 8 = t'.val / 8) (j : S1024x1024.Idx) (k : Fin 1024) (l : Fin 8192)
    (hl : l.val = t.val % 8 * 1024 + k.val) :
    (iblk m c 1 t : Vec Ideal S1024x1024 .bf16) (ix2 k (j 1)) = D m c (ix2 (n0 := 8192) (n1 := 1024) l (at2 t' j 1)) := by
  unfold iblk
  rw [View.read_apply]
  show V m c main_arg1 _ = _
  rw [V_main_arg1]
  congr 1
  refine Shape.idx_ext₂ (n := ![8192, 1024]) ?_ ?_
  · show win0_1.index t 0 * 1024 + 1 * k.val = l.val
    rw [(idx_facts t).2.1, hl, one_mul]; rfl
  · show win0_1.index t 1 * 1024 + 1 * (j 1).val = (at2 t' j 1).val
    rw [at2_1, (idx_facts t).2.1, one_mul]
    show 0 * 1024 + _ = _
    omega

/-! ## The accumulation -/

/-- What point `n` adds to the sum. -/
def part (c : Dev nD) (n : ℕ) (h : n < cfg0.N) (j : S1024x1024.Idx) : EReal :=
  ∑ k : Fin 1024, (show EReal from (iblk m c 0 ⟨n, h⟩ : Vec Ideal S1024x1024 .bf16) (ix2 k (j 0)))
    * (show EReal from (iblk m c 1 ⟨n, h⟩ : Vec Ideal S1024x1024 .bf16) (ix2 k (j 1)))

theorem run_sum (c : Dev nD) (t : Fin cfg0.N) (ht : t.val % 8 = 7) (j : S1024x1024.Idx) :
    (outsAt0 m c t.val t.isLt).1 j = ∑ s : Fin 8, part m c (8 * (t.val / 8) + s.val) (by
      have h0 := t.isLt; have h1 := Nat.div_add_mod t.val 8; have h2 := s.isLt; omega) j := by
  refine sum_of_run 8 (by decide) (fun n h => (outsAt0 m c n h).2) (fun n h => (outsAt0 m c n h).1) (part m c) ?_ ?_ ?_ t.val t.isLt j ht
  · intro n h j h0
    rw [outsAt0_A m c ⟨n, h⟩ h0 (by dsimp only; omega) (by dsimp only; omega)]
    frame_out
    rw [pay2_apply]
    rfl
  · intro n h j h1
    rw [outsAt0_B m c ⟨n, h⟩ (by dsimp only; omega) h1 (by dsimp only; omega)]
    frame_out
    rw [pay3_apply]
    exact congrArg (· + part m c n h j) (congrFun (Memref.IsWhole.read_unread (Memref.isWhole_whole cc0_scratch0) _) j)
  · intro n h j h2
    rw [outsAt0_C m c ⟨n, h⟩ (by dsimp only; omega) (by dsimp only; omega) h2]
    frame_out
    rw [pay4_apply]
    exact congrArg (· + part m c n h j) (congrFun (Memref.IsWhole.read_unread (Memref.isWhole_whole cc0_scratch0) _) j)

/-- The array after the run. -/
theorem final2 (c : Dev nD) : (dats m 0 c).arrAt 2 cfg0.N = G (X m c) (D m c) := by
  refine (dats m 0 c).arrAt_eq_of_covers 2 _ (by decide +kernel) fun t hf y => ?_
  have ht : t.val % 8 = 7 := (flush0_2 t).mp hf
  have hN : t.val < 8 := lt_of_lt_of_eq t.isLt N_0
  blk_simp
  rw [after0_2]
  refine (run_sum m c t ht y).trans ?_
  unfold part G
  refine Fin.sum_mul_add_congr fun s k hl => ?_
  have hs := s.isLt
  have hb : 8 * (t.val / 8) + s.val < cfg0.N := lt_of_lt_of_eq (by omega) N_0.symm
  exact congrArg₂ (· * ·)
    (blk0 m c ⟨8 * (t.val / 8) + s.val, hb⟩ t (by dsimp only; omega) y k ⟨s.val * 1024 + k.val, hl⟩ (by dsimp only; omega))
    (blk1 m c ⟨8 * (t.val / 8) + s.val, hb⟩ t (by dsimp only; omega) y k ⟨s.val * 1024 + k.val, hl⟩ (by dsimp only; omega))

/-! ## The reference -/

theorem ref_eq (x : S8192x1024.Idx → EReal) (d : S8192x1024.Idx → EReal) :
    Cert.WMergeRefIdeal.Read.val_main_v6 (F := Ideal) x d = G x d := by
  funext i
  rw [Cert.WMergeRefIdeal.Read.val_main_v6_apply]
  show Cert.WMergeRefIdeal.Read.val_main_v5 (F := Ideal) x d i = _
  rw [Cert.WMergeRefIdeal.Read.val_main_v5_apply, Cert.WMergeRefIdeal.Read.val_main_v4_apply]
  refine Finset.sum_congr rfl fun l _ => ?_
  rw [mul_comm]
  refine congrArg₂ (· * ·) (congrArg x ?_) (congrArg d ?_)
  · exact Shape.idx_ext₂ (n := ![8192, 1024]) rfl rfl
  · exact Shape.idx_ext₂ (n := ![8192, 1024]) rfl rfl

/-! ## The claims -/

theorem frame : Cert.quiescent_WMerge := fun m ρ _ => Cert.WMerge.Gen.frame m ρ
theorem frame_ideal : Cert.quiescent_WMergeIdeal := fun m ρ _ => Cert.WMergeIdeal.Gen.frame m ρ
theorem frame_ref : Cert.quiescent_WMergeRefIdeal := fun m ρ _ =>
  (θ_run Cert.WMergeRefIdeal.defs _ _).mono (fun r h => ⟨fun c => (h c).2, sem_eq_zero_of_no_sems (by decide) r.2⟩)
    (Cert.WMergeRefIdeal.Value.run (F := Ideal) m ρ)

theorem preserves : Cert.preserves_WMerge_WMergeIdeal := trivial

theorem algebraic : Cert.algebraic_WMergeIdeal_WMergeRefIdeal := by
  intro m ρ m' ρ' _ hagree
  refine ⟨fun c => G (X m c) (D m c), ?_, ?_⟩
  · exact (θ_run Cert.WMergeIdeal.defs _ _).mono (fun _ h c => ⟨(h c).1.trans (final2 m c), (h c).2⟩)
      (Cert.WMergeIdeal.Value.run_blocks (F := Ideal) m ρ)
  have e (c : Dev nD) := Cert.WMergeRefIdeal.Read.val_main_v6_eq (F := Ideal) (X m c) (D m c)
  refine (θ_run Cert.WMergeRefIdeal.defs _ _).mono (fun r h c => ?_) (Cert.WMergeRefIdeal.Value.run (F := Ideal) m' ρ')
  have hc := h c
  rw [(hagree c).1, (hagree c).2] at hc
  obtain ⟨h1, k0, k1⟩ := hc
  exact ⟨h1.trans ((e c).trans (ref_eq _ _)), (h c).2⟩

end Cert.Proof.WMergeVal

end
-- ==== Proof.WOutVal.lean ====
/-
  The gradient of the output product's weights: the merged branches transposed times the cotangent, accumulated over eight blocks of
  positions, and that it is the derivative of `m @ w` by `w`.
-/
module

public import proofs.«01_k».proof.Defs
public import proofs.«01_k».proof.Proof.Common
public import proofs.«01_k».proof.Proof.Gen.WOut.Frame
public import proofs.«01_k».proof.Proof.Gen.WOutIdeal.Value
public import proofs.«01_k».proof.Proof.Gen.WOutRefIdeal.Read
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.Proof.WOutVal

open Cert.WOutIdeal Cert.WOutIdeal.Gen Cert.Common

/-- The gradient: row `i` of the transposed left array times column `j` of the right one, over the 8192 positions. -/
def G (X : S8192x1024.Idx → EReal) (D : S8192x1024.Idx → EReal) (i : S1024x1024.Idx) : EReal :=
  ∑ l : Fin 8192, X (ix2 l (i 0)) * D (ix2 l (i 1))

/-! ## The body at an index of its block -/

theorem pay_apply (v0 : Vec Ideal S1024x1024 .bf16) (v1 : Vec Ideal S1024x1024 .f32) (j : S1024x1024.Idx) :
    k0_pay1 v0 v1 j = ∑ k : Fin 1024, v0 (ix2 k (j 0)) * v1 (ix2 k (j 1)) :=
  matmul_tn_apply dot_S1024x1024_S1024x1024_S1024x1024_0_0_1_1_n_n rfl none v0 (truncf .bf16 v1 bitsLt_bf16_f32) j

theorem pay2_apply (v0 : Vec Ideal S1024x1024 .bf16) (v1 : Vec Ideal S1024x1024 .f32) (j : S1024x1024.Idx) :
    k0_pay2 v0 v1 j = ∑ k : Fin 1024, v0 (ix2 k (j 0)) * v1 (ix2 k (j 1)) :=
  (congrFun (shapeCast_self _ _) j).trans (pay_apply v0 v1 j)

theorem pay3_apply (v0 : Vec Ideal S1024x1024 .bf16) (v1 : Vec Ideal S1024x1024 .f32) (v14 : Vec Ideal S1024x1024 .f32)
    (j : S1024x1024.Idx) : k0_pay3 v0 v1 v14 j = v14 j + ∑ k : Fin 1024, v0 (ix2 k (j 0)) * v1 (ix2 k (j 1)) :=
  (congrFun (shapeCast_self (addf v14 (k0_pay1 v0 v1)) _) j).trans (congrArg (v14 j + ·) (pay_apply v0 v1 j))

theorem pay4_apply (v0 : Vec Ideal S1024x1024 .bf16) (v1 : Vec Ideal S1024x1024 .f32) (v14 : Vec Ideal S1024x1024 .f32)
    (j : S1024x1024.Idx) : k0_pay4 v0 v1 v14 j = v14 j + ∑ k : Fin 1024, v0 (ix2 k (j 0)) * v1 (ix2 k (j 1)) :=
  congrArg (v14 j + ·) (pay_apply v0 v1 j)

theorem idx_facts : ∀ t : Fin grid0.N,
    win0_0.index t = ![t.val % 8, 0] ∧ win0_1.index t = ![t.val % 8, 0] ∧ win0_2.index t = ![0, 0] := by
  decide +kernel

variable (m : (ℓ : Loc nD τ sig) → Buf (Elt Ideal) ℓ) (ρ : Dev nD → PrngReg)

/-- The two argument arrays of device `c`. -/
abbrev X (c : Dev nD) : S8192x1024.Idx → EReal := m ((c : Thread nD τ).loc main_arg0)
abbrev D (c : Dev nD) : S8192x1024.Idx → EReal := m ((c : Thread nD τ).loc main_arg1)

/-- The index of the result that point `t` touches at index `j` of its block. -/
def at2 (t : Fin cfg0.N) (j : S1024x1024.Idx) : S1024x1024.Idx := (win0_2.blk t).view.emb j

theorem at2_0 (t : Fin cfg0.N) (j : S1024x1024.Idx) : (at2 t j 0).val = (0) * 1024 + (j 0).val := by
  have h : (at2 t j 0).val = win0_2.index t 0 * 1024 + 1 * (j 0).val := rfl
  rw [h, (idx_facts t).2.2, one_mul]; rfl
theorem at2_1 (t : Fin cfg0.N) (j : S1024x1024.Idx) : (at2 t j 1).val = (0) * 1024 + (j 1).val := by
  have h : (at2 t j 1).val = win0_2.index t 1 * 1024 + 1 * (j 1).val := rfl
  rw [h, (idx_facts t).2.2, one_mul]; rfl

/-- Row `k` of point `t`'s blocks is row `l` of the arrays, `l` being `1024` times the point's place in its run plus `k`. -/
theorem blk0 (c : Dev nD) (t t' : Fin cfg0.N) (ht : t.val / 8 = t'.val / 8) (j : S1024x1024.Idx) (k : Fin 1024) (l : Fin 8192)
    (hl : l.val = t.val % 8 * 1024 + k.val) :
    (iblk m c 0 t : Vec Ideal S1024x1024 .bf16) (ix2 k (j 0)) = X m c (ix2 (n0 := 8192) (n1 := 1024) l (at2 t' j 0)) := by
  unfold iblk
  rw [View.read_apply]
  show V m c main_arg0 _ = _
  rw [V_main_arg0]
  congr 1
  refine Shape.idx_ext₂ (n := ![8192, 1024]) ?_ ?_
  · show win0_0.index t 0 * 1024 + 1 * k.val = l.val
    rw [(idx_facts t).1, hl, one_mul]; rfl
  · show win0_0.index t 1 * 1024 + 1 * (j 0).val = (at2 t' j 0).val
    rw [at2_0, (idx_facts t).1, one_mul]
    show 0 * 1024 + _ = _
    omega

theorem blk1 (c : Dev nD) (t t' : Fin cfg0.N) (ht : t.val / 8 = t'.val / 8) (j : S1024x1024.Idx) (k : Fin 1024) (l : Fin 8192)
    (hl : l.val = t.val % 8 * 1024 + k.val) :
    (iblk m c 1 t : Vec Ideal S1024x1024 .f32) (ix2 k (j 1)) = D m c (ix2 (n0 := 8192) (n1 := 1024) l (at2 t' j 1)) := by
  unfold iblk
  rw [View.read_apply]
  show V m c main_arg1 _ = _
  rw [V_main_arg1]
  congr 1
  refine Shape.idx_ext₂ (n := ![8192, 1024]) ?_ ?_
  · show win0_1.index t 0 * 1024 + 1 * k.val = l.val
    rw [(idx_facts t).2.1, hl, one_mul]; rfl
  · show win0_1.index t 1 * 1024 + 1 * (j 1).val = (at2 t' j 1).val
    rw [at2_1, (idx_facts t).2.1, one_mul]
    show 0 * 1024 + _ = _
    omega

/-! ## The accumulation -/

/-- What point `n` adds to the sum. -/
def part (c : Dev nD) (n : ℕ) (h : n < cfg0.N) (j : S1024x1024.Idx) : EReal :=
  ∑ k : Fin 1024, (show EReal from (iblk m c 0 ⟨n, h⟩ : Vec Ideal S1024x1024 .bf16) (ix2 k (j 0)))
    * (show EReal from (iblk m c 1 ⟨n, h⟩ : Vec Ideal S1024x1024 .f32) (ix2 k (j 1)))

theorem run_sum (c : Dev nD) (t : Fin cfg0.N) (ht : t.val % 8 = 7) (j : S1024x1024.Idx) :
    (outsAt0 m c t.val t.isLt).1 j = ∑ s : Fin 8, part m c (8 * (t.val / 8) + s.val) (by
      have h0 := t.isLt; have h1 := Nat.div_add_mod t.val 8; have h2 := s.isLt; omega) j := by
  refine sum_of_run 8 (by decide) (fun n h => (outsAt0 m c n h).2) (fun n h => (outsAt0 m c n h).1) (part m c) ?_ ?_ ?_ t.val t.isLt j ht
  · intro n h j h0
    rw [outsAt0_A m c ⟨n, h⟩ h0 (by dsimp only; omega) (by dsimp only; omega)]
    frame_out
    rw [pay2_apply]
    rfl
  · intro n h j h1
    rw [outsAt0_B m c ⟨n, h⟩ (by dsimp only; omega) h1 (by dsimp only; omega)]
    frame_out
    rw [pay3_apply]
    exact congrArg (· + part m c n h j) (congrFun (Memref.IsWhole.read_unread (Memref.isWhole_whole cc0_scratch0) _) j)
  · intro n h j h2
    rw [outsAt0_C m c ⟨n, h⟩ (by dsimp only; omega) (by dsimp only; omega) h2]
    frame_out
    rw [pay4_apply]
    exact congrArg (· + part m c n h j) (congrFun (Memref.IsWhole.read_unread (Memref.isWhole_whole cc0_scratch0) _) j)

/-- The array after the run. -/
theorem final2 (c : Dev nD) : (dats m 0 c).arrAt 2 cfg0.N = G (X m c) (D m c) := by
  refine (dats m 0 c).arrAt_eq_of_covers 2 _ (by decide +kernel) fun t hf y => ?_
  have ht : t.val % 8 = 7 := (flush0_2 t).mp hf
  have hN : t.val < 8 := lt_of_lt_of_eq t.isLt N_0
  blk_simp
  rw [after0_2]
  refine (run_sum m c t ht y).trans ?_
  unfold part G
  refine Fin.sum_mul_add_congr fun s k hl => ?_
  have hs := s.isLt
  have hb : 8 * (t.val / 8) + s.val < cfg0.N := lt_of_lt_of_eq (by omega) N_0.symm
  exact congrArg₂ (· * ·)
    (blk0 m c ⟨8 * (t.val / 8) + s.val, hb⟩ t (by dsimp only; omega) y k ⟨s.val * 1024 + k.val, hl⟩ (by dsimp only; omega))
    (blk1 m c ⟨8 * (t.val / 8) + s.val, hb⟩ t (by dsimp only; omega) y k ⟨s.val * 1024 + k.val, hl⟩ (by dsimp only; omega))

/-! ## The reference -/

theorem ref_eq (x : S8192x1024.Idx → EReal) (d : S8192x1024.Idx → EReal) :
    Cert.WOutRefIdeal.Read.val_main_v5 (F := Ideal) x d = G x d := by
  funext i
  rw [Cert.WOutRefIdeal.Read.val_main_v5_apply]
  show Cert.WOutRefIdeal.Read.val_main_v4 (F := Ideal) x d i = _
  rw [Cert.WOutRefIdeal.Read.val_main_v4_apply, Cert.WOutRefIdeal.Read.val_main_v3_apply]
  refine Finset.sum_congr rfl fun l _ => ?_
  rw [mul_comm]
  refine congrArg₂ (· * ·) (congrArg x ?_) (congrArg d ?_)
  · exact Shape.idx_ext₂ (n := ![8192, 1024]) rfl rfl
  · exact Shape.idx_ext₂ (n := ![8192, 1024]) rfl rfl

/-! ## The claims -/

theorem frame : Cert.quiescent_WOut := fun m ρ _ => Cert.WOut.Gen.frame m ρ
theorem frame_ideal : Cert.quiescent_WOutIdeal := fun m ρ _ => Cert.WOutIdeal.Gen.frame m ρ
theorem frame_ref : Cert.quiescent_WOutRefIdeal := fun m ρ _ =>
  (θ_run Cert.WOutRefIdeal.defs _ _).mono (fun r h => ⟨fun c => (h c).2, sem_eq_zero_of_no_sems (by decide) r.2⟩)
    (Cert.WOutRefIdeal.Value.run (F := Ideal) m ρ)

theorem preserves : Cert.preserves_WOut_WOutIdeal := trivial

theorem algebraic : Cert.algebraic_WOutIdeal_WOutRefIdeal := by
  intro m ρ m' ρ' _ hagree
  refine ⟨fun c => G (X m c) (D m c), ?_, ?_⟩
  · exact (θ_run Cert.WOutIdeal.defs _ _).mono (fun _ h c => ⟨(h c).1.trans (final2 m c), (h c).2⟩)
      (Cert.WOutIdeal.Value.run_blocks (F := Ideal) m ρ)
  have e (c : Dev nD) := Cert.WOutRefIdeal.Read.val_main_v5_eq (F := Ideal) (X m c) (D m c)
  refine (θ_run Cert.WOutRefIdeal.defs _ _).mono (fun r h c => ?_) (Cert.WOutRefIdeal.Value.run (F := Ideal) m' ρ')
  have hc := h c
  rw [(hagree c).1, (hagree c).2] at hc
  obtain ⟨h1, k0, k1⟩ := hc
  exact ⟨h1.trans ((e c).trans (ref_eq _ _)), (h c).2⟩

end Cert.Proof.WOutVal

end
-- ==== Proof.XInVal.lean ====
/-
  The gradient of a layer's input through its input projection: the projection's cotangent times the transposed weights, accumulated
  over four blocks of columns, plus the scaled cotangent of the residual and the gates' thin product; and that it is the derivative
  of the forward lines by `x`.
-/
module

public import proofs.«01_k».proof.Defs
public import proofs.«01_k».proof.Proof.Common
public import proofs.«01_k».proof.Proof.Gen.XIn.Frame
public import proofs.«01_k».proof.Proof.Gen.XInIdeal.Value
public import proofs.«01_k».proof.Proof.Gen.XInRefIdeal.Read
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.Proof.XInVal

open Cert.XInIdeal Cert.XInIdeal.Gen Cert.Common

/-- The scale of the residual, `√2`. -/
abbrev α : EReal := Ideal.ofBits .f32 0x3FB504F3#32

/-- The gradient: the scaled residual, the gates' part and the projection's part. -/
def G (D : S8192x8192.Idx → EReal) (W : S1024x8192.Idx → EReal) (A : S8192x1024.Idx → EReal) (B : S8192x128.Idx → EReal)
    (U : S1024x128.Idx → EReal) (i : S8192x1024.Idx) : EReal :=
  A i * α + (∑ l : Fin 128, B (ix2 (i 0) l) * U (ix2 (i 1) l)) + ∑ l : Fin 8192, D (ix2 (i 0) l) * W (ix2 (i 1) l)

/-! ## The body at an index of its block -/

theorem pay_apply (v0 v1 : Vec Ideal S1024x2048 .bf16) (j : S1024x1024.Idx) :
    k0_pay1 v0 v1 j = ∑ k : Fin 2048, v0 (ix2 (j 0) k) * v1 (ix2 (j 1) k) :=
  matmul_nt_apply dot_S1024x2048_S1024x2048_S1024x1024_1_1_0_0_n_n rfl none v0 v1 j

theorem pay2_apply (v0 v1 : Vec Ideal S1024x2048 .bf16) (j : S1024x1024.Idx) :
    k0_pay2 v0 v1 j = ∑ k : Fin 2048, v0 (ix2 (j 0) k) * v1 (ix2 (j 1) k) :=
  (congrFun (shapeCast_self _ _) j).trans (pay_apply v0 v1 j)

theorem pay3_apply (v0 v1 : Vec Ideal S1024x2048 .bf16) (v14 : Vec Ideal S1024x1024 .f32) (j : S1024x1024.Idx) :
    k0_pay3 v0 v1 v14 j = v14 j + ∑ k : Fin 2048, v0 (ix2 (j 0) k) * v1 (ix2 (j 1) k) :=
  (congrFun (shapeCast_self (addf v14 (k0_pay1 v0 v1)) _) j).trans (congrArg (v14 j + ·) (pay_apply v0 v1 j))

theorem pay4_apply (v0 v1 : Vec Ideal S1024x2048 .bf16) (v14 v16 : Vec Ideal S1024x1024 .f32) (v20 v21 : Vec Ideal S1024x128 .bf16)
    (j : S1024x1024.Idx) : k0_pay4 v0 v1 v14 v16 v20 v21 j
      = v14 j + (∑ k : Fin 2048, v0 (ix2 (j 0) k) * v1 (ix2 (j 1) k)) + α * v16 j
        + ∑ k : Fin 128, v20 (ix2 (j 0) k) * v21 (ix2 (j 1) k) :=
  congrArg₂ (fun a b : EReal => v14 j + a + α * v16 j + b) (pay_apply v0 v1 j)
    (matmul_nt_apply dot_S1024x128_S1024x128_S1024x1024_1_1_0_0_n_n rfl none v20 v21 j)

theorem idx_facts : ∀ t : Fin grid0.N,
    win0_0.index t = ![t.val / 4, t.val % 4] ∧ win0_1.index t = ![0, t.val % 4] ∧ win0_2.index t = ![t.val / 4, 0] ∧ win0_3.index t = ![t.val / 4, 0] ∧ win0_4.index t = ![0, 0] ∧ win0_5.index t = ![t.val / 4, 0] := by
  decide +kernel

variable (m : (ℓ : Loc nD τ sig) → Buf (Elt Ideal) ℓ) (ρ : Dev nD → PrngReg)

/-- The argument arrays of device `c`. -/
abbrev D (c : Dev nD) : S8192x8192.Idx → EReal := m ((c : Thread nD τ).loc main_arg0)
abbrev W (c : Dev nD) : S1024x8192.Idx → EReal := m ((c : Thread nD τ).loc main_arg1)
abbrev A (c : Dev nD) : S8192x1024.Idx → EReal := m ((c : Thread nD τ).loc main_arg2)
abbrev B (c : Dev nD) : S8192x128.Idx → EReal := m ((c : Thread nD τ).loc main_arg3)
abbrev U (c : Dev nD) : S1024x128.Idx → EReal := m ((c : Thread nD τ).loc main_arg4)

/-- The index of the result that point `t` touches at index `j` of its block. -/
def at5 (t : Fin cfg0.N) (j : S1024x1024.Idx) : S8192x1024.Idx := (win0_5.blk t).view.emb j

theorem at5_0 (t : Fin cfg0.N) (j : S1024x1024.Idx) : (at5 t j 0).val = (t.val / 4) * 1024 + (j 0).val := by
  have h : (at5 t j 0).val = win0_5.index t 0 * 1024 + 1 * (j 0).val := rfl
  rw [h, (idx_facts t).2.2.2.2.2, one_mul]; rfl
theorem at5_1 (t : Fin cfg0.N) (j : S1024x1024.Idx) : (at5 t j 1).val = 0 * 1024 + (j 1).val := by
  have h : (at5 t j 1).val = win0_5.index t 1 * 1024 + 1 * (j 1).val := rfl
  rw [h, (idx_facts t).2.2.2.2.2, one_mul]; rfl

/-! ## The blocks read from the arrays -/

theorem blk0 (c : Dev nD) (t t' : Fin cfg0.N) (ht : t.val / 4 = t'.val / 4) (j : S1024x1024.Idx) (k : Fin 2048) (l : Fin 8192)
    (hl : l.val = t.val % 4 * 2048 + k.val) :
    (iblk m c 0 t : Vec Ideal S1024x2048 .bf16) (ix2 (j 0) k) = D m c (ix2 (n0 := 8192) (n1 := 8192) (at5 t' j 0) l) := by
  unfold iblk
  rw [View.read_apply]
  show V m c main_arg0 _ = _
  rw [V_main_arg0]
  congr 1
  refine Shape.idx_ext₂ (n := ![8192, 8192]) ?_ ?_
  · show win0_0.index t 0 * 1024 + 1 * (j 0).val = (at5 t' j 0).val
    rw [at5_0, (idx_facts t).1, one_mul]
    show t.val / 4 * 1024 + _ = _
    omega
  · show win0_0.index t 1 * 2048 + 1 * k.val = l.val
    rw [(idx_facts t).1, hl, one_mul]; rfl

theorem blk1 (c : Dev nD) (t t' : Fin cfg0.N) (ht : t.val / 4 = t'.val / 4) (j : S1024x1024.Idx) (k : Fin 2048) (l : Fin 8192)
    (hl : l.val = t.val % 4 * 2048 + k.val) :
    (iblk m c 1 t : Vec Ideal S1024x2048 .bf16) (ix2 (j 1) k) = W m c (ix2 (n0 := 1024) (n1 := 8192) (at5 t' j 1) l) := by
  unfold iblk
  rw [View.read_apply]
  show V m c main_arg1 _ = _
  rw [V_main_arg1]
  congr 1
  refine Shape.idx_ext₂ (n := ![1024, 8192]) ?_ ?_
  · show win0_1.index t 0 * 1024 + 1 * (j 1).val = (at5 t' j 1).val
    rw [at5_1, (idx_facts t).2.1, one_mul]
    show 0 * 1024 + _ = _
    omega
  · show win0_1.index t 1 * 2048 + 1 * k.val = l.val
    rw [(idx_facts t).2.1, hl, one_mul]; rfl

theorem blk2 (c : Dev nD) (t t' : Fin cfg0.N) (ht : t.val / 4 = t'.val / 4) (j : S1024x1024.Idx) :
    (iblk m c 2 t : Vec Ideal S1024x1024 .f32) j = A m c (at5 t' j) := by
  unfold iblk
  rw [View.read_apply]
  show V m c main_arg2 _ = _
  rw [V_main_arg2]
  congr 1
  refine Shape.idx_ext₂ (n := ![8192, 1024]) ?_ ?_
  · show win0_2.index t 0 * 1024 + 1 * (j 0).val = (at5 t' j 0).val
    rw [at5_0, (idx_facts t).2.2.1, one_mul]
    show t.val / 4 * 1024 + _ = _
    omega
  · show win0_2.index t 1 * 1024 + 1 * (j 1).val = (at5 t' j 1).val
    rw [at5_1, (idx_facts t).2.2.1, one_mul]
    show 0 * 1024 + _ = _
    omega

theorem blk3 (c : Dev nD) (t t' : Fin cfg0.N) (ht : t.val / 4 = t'.val / 4) (j : S1024x1024.Idx) (k : Fin 128) :
    (iblk m c 3 t : Vec Ideal S1024x128 .bf16) (ix2 (j 0) k) = B m c (ix2 (n0 := 8192) (n1 := 128) (at5 t' j 0) k) := by
  unfold iblk
  rw [View.read_apply]
  show V m c main_arg3 _ = _
  rw [V_main_arg3]
  congr 1
  refine Shape.idx_ext₂ (n := ![8192, 128]) ?_ ?_
  · show win0_3.index t 0 * 1024 + 1 * (j 0).val = (at5 t' j 0).val
    rw [at5_0, (idx_facts t).2.2.2.1, one_mul]
    show t.val / 4 * 1024 + _ = _
    omega
  · show win0_3.index t 1 * 128 + 1 * k.val = k.val
    rw [(idx_facts t).2.2.2.1, one_mul]
    show 0 * 128 + _ = _
    omega

theorem blk4 (c : Dev nD) (t t' : Fin cfg0.N) (ht : t.val / 4 = t'.val / 4) (j : S1024x1024.Idx) (k : Fin 128) :
    (iblk m c 4 t : Vec Ideal S1024x128 .bf16) (ix2 (j 1) k) = U m c (ix2 (n0 := 1024) (n1 := 128) (at5 t' j 1) k) := by
  unfold iblk
  rw [View.read_apply]
  show V m c main_arg4 _ = _
  rw [V_main_arg4]
  congr 1
  refine Shape.idx_ext₂ (n := ![1024, 128]) ?_ ?_
  · show win0_4.index t 0 * 1024 + 1 * (j 1).val = (at5 t' j 1).val
    rw [at5_1, (idx_facts t).2.2.2.2.1, one_mul]
    show 0 * 1024 + _ = _
    omega
  · show win0_4.index t 1 * 128 + 1 * k.val = k.val
    rw [(idx_facts t).2.2.2.2.1, one_mul]
    show 0 * 128 + _ = _
    omega

/-! ## The accumulation -/

/-- What point `n` adds to the sum. -/
def part (c : Dev nD) (n : ℕ) (h : n < cfg0.N) (j : S1024x1024.Idx) : EReal :=
  ∑ k : Fin 2048, (show EReal from (iblk m c 0 ⟨n, h⟩ : Vec Ideal S1024x2048 .bf16) (ix2 (j 0) k))
    * (show EReal from (iblk m c 1 ⟨n, h⟩ : Vec Ideal S1024x2048 .bf16) (ix2 (j 1) k))

theorem run_sum (c : Dev nD) (t : Fin cfg0.N) (ht : t.val % 4 = 3) (j : S1024x1024.Idx) :
    (outsAt0 m c (t.val - 1) (lt_of_le_of_lt (Nat.sub_le t.val 1) t.isLt)).2 j + part m c t.val t.isLt j
      = ∑ s : Fin 4, part m c (4 * (t.val / 4) + s.val) (by
      have h0 := t.isLt; have h1 := Nat.div_add_mod t.val 4; have h2 := s.isLt; omega) j := by
  refine sum_of_run 4 (by decide) (fun n h => (outsAt0 m c n h).2)
    (fun n h j => (outsAt0 m c (n - 1) (lt_of_le_of_lt (Nat.sub_le n 1) h)).2 j + part m c n h j) (part m c) ?_ ?_ ?_ t.val t.isLt j ht
  · intro n h j h0
    rw [outsAt0_A m c ⟨n, h⟩ h0 (by dsimp only; omega) (by dsimp only; omega)]
    frame_out
    rw [pay2_apply]
    rfl
  · intro n h j h1
    rw [outsAt0_B m c ⟨n, h⟩ (by dsimp only; omega) h1 (by dsimp only; omega)]
    frame_out
    rw [pay3_apply]
    exact congrArg (· + part m c n h j) (congrFun (Memref.IsWhole.read_unread (Memref.isWhole_whole cc0_scratch0) _) j)
  · intro n h j _
    rfl

theorem out_eq (c : Dev nD) (t : Fin cfg0.N) (ht : t.val % 4 = 3) (j : S1024x1024.Idx) :
    (outsAt0 m c t.val t.isLt).1 j
      = (outsAt0 m c (t.val - 1) (lt_of_le_of_lt (Nat.sub_le t.val 1) t.isLt)).2 j + part m c t.val t.isLt j
        + α * (show EReal from (iblk m c 2 t : Vec Ideal S1024x1024 .f32) j)
        + ∑ k : Fin 128, (show EReal from (iblk m c 3 t : Vec Ideal S1024x128 .bf16) (ix2 (j 0) k))
          * (show EReal from (iblk m c 4 t : Vec Ideal S1024x128 .bf16) (ix2 (j 1) k)) := by
  rw [outsAt0_C m c t (by omega) (by omega) ht]
  frame_out
  rw [pay4_apply]
  refine congrArg (fun a : EReal => a + part m c t.val t.isLt j + α * (show EReal from (iblk m c 2 t : Vec Ideal S1024x1024 .f32) j)
        + ∑ k : Fin 128, (show EReal from (iblk m c 3 t : Vec Ideal S1024x128 .bf16) (ix2 (j 0) k))
          * (show EReal from (iblk m c 4 t : Vec Ideal S1024x128 .bf16) (ix2 (j 1) k))) ?_
  exact congrFun (Memref.IsWhole.read_unread (Memref.isWhole_whole cc0_scratch0) _) j

/-- The projection's part of the gradient, summed over the run of point `t`. -/
theorem proj_eq (c : Dev nD) (t : Fin cfg0.N) (y : S1024x1024.Idx) :
    (∑ s : Fin 4, part m c (4 * (t.val / 4) + s.val) (by
      have h0 := t.isLt; have h1 := N_0; have h2 := s.isLt; have : t.val < 32 := lt_of_lt_of_eq t.isLt N_0
      exact lt_of_lt_of_eq (by omega) N_0.symm) y)
      = ∑ l : Fin 8192, D m c (ix2 (at5 t y 0) l) * W m c (ix2 (at5 t y 1) l) := by
  have hN : t.val < 32 := lt_of_lt_of_eq t.isLt N_0
  unfold part
  refine Fin.sum_mul_add_congr fun s k hl => ?_
  have hs := s.isLt
  have hb : 4 * (t.val / 4) + s.val < cfg0.N := lt_of_lt_of_eq (by omega) N_0.symm
  exact congrArg₂ (· * ·)
    (blk0 m c ⟨4 * (t.val / 4) + s.val, hb⟩ t (by dsimp only; omega) y k ⟨s.val * 2048 + k.val, hl⟩ (by dsimp only; omega))
    (blk1 m c ⟨4 * (t.val / 4) + s.val, hb⟩ t (by dsimp only; omega) y k ⟨s.val * 2048 + k.val, hl⟩ (by dsimp only; omega))

/-- The array after the run. -/
theorem final5 (c : Dev nD) : (dats m 0 c).arrAt 5 cfg0.N = G (D m c) (W m c) (A m c) (B m c) (U m c) := by
  refine (dats m 0 c).arrAt_eq_of_covers 5 _ (by decide +kernel) fun t hf y => ?_
  have ht : t.val % 4 = 3 := (flush0_5 t).mp hf
  blk_simp
  rw [after0_5]
  refine (out_eq m c t ht y).trans ?_
  rw [run_sum m c t ht y, proj_eq m c t y, add_assoc, add_comm, mul_comm α]
  unfold G
  refine congrArg₂ (· + ·) (congrArg₂ (· + ·) (congrArg (· * α) (blk2 m c t t rfl y)) ?_) rfl
  exact Finset.sum_congr rfl fun k _ => congrArg₂ (· * ·) (blk3 m c t t rfl y k) (blk4 m c t t rfl y k)

/-! ## The reference -/

theorem ref_eq (D : S8192x8192.Idx → EReal) (W : S1024x8192.Idx → EReal) (A : S8192x1024.Idx → EReal) (B : S8192x128.Idx → EReal)
    (U : S1024x128.Idx → EReal) : Cert.XInRefIdeal.Read.val_main_v14 (F := Ideal) D W A B U = G D W A B U := by
  funext i
  rw [Cert.XInRefIdeal.Read.val_main_v14_apply, Cert.XInRefIdeal.Read.val_main_v12_apply, Cert.XInRefIdeal.Read.val_main_v10_apply,
    Cert.XInRefIdeal.Read.val_main_v9_apply, Cert.XInRefIdeal.Read.val_main_cst_1_apply, Cert.XInRefIdeal.Read.val_main_v11_apply,
    Cert.XInRefIdeal.Read.val_main_v13_apply]
  unfold G
  refine congrArg₂ (fun a b : EReal => A i * α + a + b) (Finset.sum_congr rfl fun l _ => ?_) (Finset.sum_congr rfl fun l _ => ?_)
  · refine congrArg₂ (· * ·) (congrArg B ?_) (congrArg U ?_)
    · exact Shape.idx_ext₂ (n := ![8192, 128]) rfl rfl
    · exact Shape.idx_ext₂ (n := ![1024, 128]) rfl rfl
  · refine congrArg₂ (· * ·) (congrArg D ?_) (congrArg W ?_)
    · exact Shape.idx_ext₂ (n := ![8192, 8192]) rfl rfl
    · exact Shape.idx_ext₂ (n := ![1024, 8192]) rfl rfl

/-! ## The claims -/

theorem frame : Cert.quiescent_XIn := fun m ρ _ => Cert.XIn.Gen.frame m ρ
theorem frame_ideal : Cert.quiescent_XInIdeal := fun m ρ _ => Cert.XInIdeal.Gen.frame m ρ
theorem frame_ref : Cert.quiescent_XInRefIdeal := fun m ρ _ =>
  (θ_run Cert.XInRefIdeal.defs _ _).mono (fun r h => ⟨fun c => (h c).2, sem_eq_zero_of_no_sems (by decide) r.2⟩)
    (Cert.XInRefIdeal.Value.run (F := Ideal) m ρ)

theorem preserves : Cert.preserves_XIn_XInIdeal := trivial

theorem algebraic : Cert.algebraic_XInIdeal_XInRefIdeal := by
  intro m ρ m' ρ' _ hagree
  refine ⟨fun c => G (D m c) (W m c) (A m c) (B m c) (U m c), ?_, ?_⟩
  · exact (θ_run Cert.XInIdeal.defs _ _).mono (fun _ h c => ⟨(h c).1.trans (final5 m c), (h c).2⟩)
      (Cert.XInIdeal.Value.run_blocks (F := Ideal) m ρ)
  have e (c : Dev nD) := Cert.XInRefIdeal.Read.val_main_v14_eq (F := Ideal) (D m c) (W m c) (A m c) (B m c) (U m c)
  refine (θ_run Cert.XInRefIdeal.defs _ _).mono (fun r h c => ?_) (Cert.XInRefIdeal.Value.run (F := Ideal) m' ρ')
  have hc := h c
  rw [(hagree c).1, (hagree c).2.1, (hagree c).2.2.1, (hagree c).2.2.2.1, (hagree c).2.2.2.2] at hc
  exact ⟨hc.1.trans ((e c).trans (ref_eq _ _ _ _ _)), (h c).2⟩

end Cert.Proof.XInVal

end
-- ==== Proof.XFfnVal.lean ====
/-
  The gradient of the feed-forward's input: the cotangents of the gate and of the up projection times their weights, accumulated over
  two blocks of the hidden columns, plus the scaled cotangent of the residual; and that it is the derivative of the forward lines by
  `x`.
-/
module

public import proofs.«01_k».proof.Defs
public import proofs.«01_k».proof.Proof.Common
public import proofs.«01_k».proof.Proof.Gen.XFfn.Frame
public import proofs.«01_k».proof.Proof.Gen.XFfnIdeal.Value
public import proofs.«01_k».proof.Proof.Gen.XFfnRefIdeal.Read
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.Proof.XFfnVal

open Cert.XFfnIdeal Cert.XFfnIdeal.Gen Cert.Common

/-- The scale of the residual, `√2`. -/
abbrev α : EReal := Ideal.ofBits .f32 0x3FB504F3#32

/-- The gradient: the scaled residual, the up projection's part and the gate's part. -/
def G (P : S8192x3072.Idx → EReal) (W : S3072x1024.Idx → EReal) (Q : S8192x3072.Idx → EReal) (U : S3072x1024.Idx → EReal)
    (A : S8192x1024.Idx → EReal) (i : S8192x1024.Idx) : EReal :=
  A i * α + (∑ l : Fin 3072, Q (ix2 (i 0) l) * U (ix2 l (i 1))) + ∑ l : Fin 3072, P (ix2 (i 0) l) * W (ix2 l (i 1))

/-! ## The body at an index of its block -/

/-- The product of two blocks at an index. -/
def prod (v0 : Vec Ideal S1024x1536 .bf16) (v1 : Vec Ideal S1536x1024 .bf16) (j : S1024x1024.Idx) : EReal :=
  ∑ k : Fin 1536, v0 (ix2 (j 0) k) * v1 (ix2 k (j 1))

theorem pay_apply (v0 : Vec Ideal S1024x1536 .bf16) (v1 : Vec Ideal S1536x1024 .bf16) (v3 : Vec Ideal S1024x1536 .bf16)
    (v4 : Vec Ideal S1536x1024 .bf16) (j : S1024x1024.Idx) : k0_pay1 v0 v1 v3 v4 j = prod v0 v1 j + prod v3 v4 j :=
  congrArg₂ (fun a b : EReal => a + b) (matmul_nn_apply dot_S1024x1536_S1536x1024_S1024x1024_1_0_0_1_n_n rfl none v0 v1 j)
    (matmul_nn_apply dot_S1024x1536_S1536x1024_S1024x1024_1_0_0_1_n_n rfl none v3 v4 j)

theorem pay2_apply (v0 : Vec Ideal S1024x1536 .bf16) (v1 : Vec Ideal S1536x1024 .bf16) (v3 : Vec Ideal S1024x1536 .bf16)
    (v4 : Vec Ideal S1536x1024 .bf16) (j : S1024x1024.Idx) : k0_pay2 v0 v1 v3 v4 j = prod v0 v1 j + prod v3 v4 j :=
  (congrFun (shapeCast_self _ _) j).trans (pay_apply v0 v1 v3 v4 j)

theorem pay4_apply (v0 : Vec Ideal S1024x1536 .bf16) (v1 : Vec Ideal S1536x1024 .bf16) (v3 : Vec Ideal S1024x1536 .bf16)
    (v4 : Vec Ideal S1536x1024 .bf16) (v18 v20 : Vec Ideal S1024x1024 .f32) (j : S1024x1024.Idx) :
    k0_pay4 v0 v1 v3 v4 v18 v20 j = v18 j + (prod v0 v1 j + prod v3 v4 j) + α * v20 j :=
  congrArg (fun a : EReal => v18 j + a + α * v20 j) (pay_apply v0 v1 v3 v4 j)

theorem idx_facts : ∀ t : Fin grid0.N,
    win0_0.index t = ![t.val / 2, t.val % 2] ∧ win0_1.index t = ![t.val % 2, 0] ∧ win0_2.index t = ![t.val / 2, t.val % 2] ∧ win0_3.index t = ![t.val % 2, 0] ∧ win0_4.index t = ![t.val / 2, 0] ∧ win0_5.index t = ![t.val / 2, 0] := by
  decide +kernel

variable (m : (ℓ : Loc nD τ sig) → Buf (Elt Ideal) ℓ) (ρ : Dev nD → PrngReg)

/-- The argument arrays of device `c`. -/
abbrev P (c : Dev nD) : S8192x3072.Idx → EReal := m ((c : Thread nD τ).loc main_arg0)
abbrev W (c : Dev nD) : S3072x1024.Idx → EReal := m ((c : Thread nD τ).loc main_arg1)
abbrev Q (c : Dev nD) : S8192x3072.Idx → EReal := m ((c : Thread nD τ).loc main_arg2)
abbrev U (c : Dev nD) : S3072x1024.Idx → EReal := m ((c : Thread nD τ).loc main_arg3)
abbrev A (c : Dev nD) : S8192x1024.Idx → EReal := m ((c : Thread nD τ).loc main_arg4)

/-- The index of the result that point `t` touches at index `j` of its block. -/
def at5 (t : Fin cfg0.N) (j : S1024x1024.Idx) : S8192x1024.Idx := (win0_5.blk t).view.emb j

theorem at5_0 (t : Fin cfg0.N) (j : S1024x1024.Idx) : (at5 t j 0).val = (t.val / 2) * 1024 + (j 0).val := by
  have h : (at5 t j 0).val = win0_5.index t 0 * 1024 + 1 * (j 0).val := rfl
  rw [h, (idx_facts t).2.2.2.2.2, one_mul]; rfl
theorem at5_1 (t : Fin cfg0.N) (j : S1024x1024.Idx) : (at5 t j 1).val = 0 * 1024 + (j 1).val := by
  have h : (at5 t j 1).val = win0_5.index t 1 * 1024 + 1 * (j 1).val := rfl
  rw [h, (idx_facts t).2.2.2.2.2, one_mul]; rfl

/-! ## The blocks read from the arrays -/

theorem blk0 (c : Dev nD) (t t' : Fin cfg0.N) (ht : t.val / 2 = t'.val / 2) (j : S1024x1024.Idx) (k : Fin 1536) (l : Fin 3072)
    (hl : l.val = t.val % 2 * 1536 + k.val) :
    (iblk m c 0 t : Vec Ideal S1024x1536 .bf16) (ix2 (j 0) k) = P m c (ix2 (n0 := 8192) (n1 := 3072) (at5 t' j 0) l) := by
  unfold iblk
  rw [View.read_apply]
  show V m c main_arg0 _ = _
  rw [V_main_arg0]
  congr 1
  refine Shape.idx_ext₂ (n := ![8192, 3072]) ?_ ?_
  · show win0_0.index t 0 * 1024 + 1 * (j 0).val = (at5 t' j 0).val
    rw [at5_0, (idx_facts t).1, one_mul]
    show t.val / 2 * 1024 + _ = _
    omega
  · show win0_0.index t 1 * 1536 + 1 * k.val = l.val
    rw [(idx_facts t).1, hl, one_mul]; rfl

theorem blk1 (c : Dev nD) (t t' : Fin cfg0.N) (ht : t.val / 2 = t'.val / 2) (j : S1024x1024.Idx) (k : Fin 1536) (l : Fin 3072)
    (hl : l.val = t.val % 2 * 1536 + k.val) :
    (iblk m c 1 t : Vec Ideal S1536x1024 .bf16) (ix2 k (j 1)) = W m c (ix2 (n0 := 3072) (n1 := 1024) l (at5 t' j 1)) := by
  unfold iblk
  rw [View.read_apply]
  show V m c main_arg1 _ = _
  rw [V_main_arg1]
  congr 1
  refine Shape.idx_ext₂ (n := ![3072, 1024]) ?_ ?_
  · show win0_1.index t 0 * 1536 + 1 * k.val = l.val
    rw [(idx_facts t).2.1, hl, one_mul]; rfl
  · show win0_1.index t 1 * 1024 + 1 * (j 1).val = (at5 t' j 1).val
    rw [at5_1, (idx_facts t).2.1, one_mul]
    show 0 * 1024 + _ = _
    omega

theorem blk2 (c : Dev nD) (t t' : Fin cfg0.N) (ht : t.val / 2 = t'.val / 2) (j : S1024x1024.Idx) (k : Fin 1536) (l : Fin 3072)
    (hl : l.val = t.val % 2 * 1536 + k.val) :
    (iblk m c 2 t : Vec Ideal S1024x1536 .bf16) (ix2 (j 0) k) = Q m c (ix2 (n0 := 8192) (n1 := 3072) (at5 t' j 0) l) := by
  unfold iblk
  rw [View.read_apply]
  show V m c main_arg2 _ = _
  rw [V_main_arg2]
  congr 1
  refine Shape.idx_ext₂ (n := ![8192, 3072]) ?_ ?_
  · show win0_2.index t 0 * 1024 + 1 * (j 0).val = (at5 t' j 0).val
    rw [at5_0, (idx_facts t).2.2.1, one_mul]
    show t.val / 2 * 1024 + _ = _
    omega
  · show win0_2.index t 1 * 1536 + 1 * k.val = l.val
    rw [(idx_facts t).2.2.1, hl, one_mul]; rfl

theorem blk3 (c : Dev nD) (t t' : Fin cfg0.N) (ht : t.val / 2 = t'.val / 2) (j : S1024x1024.Idx) (k : Fin 1536) (l : Fin 3072)
    (hl : l.val = t.val % 2 * 1536 + k.val) :
    (iblk m c 3 t : Vec Ideal S1536x1024 .bf16) (ix2 k (j 1)) = U m c (ix2 (n0 := 3072) (n1 := 1024) l (at5 t' j 1)) := by
  unfold iblk
  rw [View.read_apply]
  show V m c main_arg3 _ = _
  rw [V_main_arg3]
  congr 1
  refine Shape.idx_ext₂ (n := ![3072, 1024]) ?_ ?_
  · show win0_3.index t 0 * 1536 + 1 * k.val = l.val
    rw [(idx_facts t).2.2.2.1, hl, one_mul]; rfl
  · show win0_3.index t 1 * 1024 + 1 * (j 1).val = (at5 t' j 1).val
    rw [at5_1, (idx_facts t).2.2.2.1, one_mul]
    show 0 * 1024 + _ = _
    omega

theorem blk4 (c : Dev nD) (t t' : Fin cfg0.N) (ht : t.val / 2 = t'.val / 2) (j : S1024x1024.Idx) :
    (iblk m c 4 t : Vec Ideal S1024x1024 .f32) j = A m c (at5 t' j) := by
  unfold iblk
  rw [View.read_apply]
  show V m c main_arg4 _ = _
  rw [V_main_arg4]
  congr 1
  refine Shape.idx_ext₂ (n := ![8192, 1024]) ?_ ?_
  · show win0_4.index t 0 * 1024 + 1 * (j 0).val = (at5 t' j 0).val
    rw [at5_0, (idx_facts t).2.2.2.2.1, one_mul]
    show t.val / 2 * 1024 + _ = _
    omega
  · show win0_4.index t 1 * 1024 + 1 * (j 1).val = (at5 t' j 1).val
    rw [at5_1, (idx_facts t).2.2.2.2.1, one_mul]
    show 0 * 1024 + _ = _
    omega

/-! ## The accumulation -/

/-- The gate's and the up projection's products at point `n`. -/
def partW (c : Dev nD) (n : ℕ) (h : n < cfg0.N) (j : S1024x1024.Idx) : EReal := prod (iblk m c 0 ⟨n, h⟩) (iblk m c 1 ⟨n, h⟩) j
def partU (c : Dev nD) (n : ℕ) (h : n < cfg0.N) (j : S1024x1024.Idx) : EReal := prod (iblk m c 2 ⟨n, h⟩) (iblk m c 3 ⟨n, h⟩) j

theorem bound (t : Fin cfg0.N) (s : Fin 2) : 2 * (t.val / 2) + s.val < cfg0.N := by
  have h : t.val < 16 := lt_of_lt_of_eq t.isLt N_0
  have hs := s.isLt
  exact lt_of_lt_of_eq (by omega) N_0.symm

theorem out_eq (c : Dev nD) (t : Fin cfg0.N) (ht : t.val % 2 = 1) (j : S1024x1024.Idx) :
    (outsAt0 m c t.val t.isLt).1 j
      = (∑ s : Fin 2, (partW m c (2 * (t.val / 2) + s.val) (bound t s) j + partU m c (2 * (t.val / 2) + s.val) (bound t s) j))
        + α * (show EReal from (iblk m c 4 t : Vec Ideal S1024x1024 .f32) j) := by
  have hp : t.val - 1 < cfg0.N := lt_of_le_of_lt (Nat.sub_le t.val 1) t.isLt
  have hS : (outsAt0 m c (t.val - 1) hp).2 j = partW m c (t.val - 1) hp j + partU m c (t.val - 1) hp j := by
    rw [outsAt0_A m c ⟨t.val - 1, hp⟩ (by dsimp only; omega) (by dsimp only; omega)]
    frame_out
    rw [pay2_apply]
    rfl
  rw [outsAt0_B m c t (by omega) ht]
  frame_out
  rw [pay4_apply]
  refine congrArg (· + α * (show EReal from (iblk m c 4 t : Vec Ideal S1024x1024 .f32) j)) ?_
  refine Eq.trans (congrArg (· + (partW m c t.val t.isLt j + partU m c t.val t.isLt j))
    ((congrFun (Memref.IsWhole.read_unread (Memref.isWhole_whole cc0_scratch0) _) j).trans hS)) ?_
  rw [Fin.sum_univ_two]
  have e0 : 2 * (t.val / 2) + (0 : Fin 2).val = t.val - 1 := by show 2 * (t.val / 2) + 0 = _; omega
  have e1 : 2 * (t.val / 2) + (1 : Fin 2).val = t.val := by show 2 * (t.val / 2) + 1 = _; omega
  simp only [e0, e1]

theorem sumW (c : Dev nD) (t : Fin cfg0.N) (y : S1024x1024.Idx) :
    (∑ s : Fin 2, partW m c (2 * (t.val / 2) + s.val) (bound t s) y)
      = ∑ l : Fin 3072, P m c (ix2 (at5 t y 0) l) * W m c (ix2 l (at5 t y 1)) := by
  unfold partW prod
  refine Fin.sum_mul_add_congr fun s k hl => ?_
  have hs := s.isLt
  exact congrArg₂ (· * ·)
    (blk0 m c ⟨2 * (t.val / 2) + s.val, bound t s⟩ t (by dsimp only; omega) y k ⟨s.val * 1536 + k.val, hl⟩ (by dsimp only; omega))
    (blk1 m c ⟨2 * (t.val / 2) + s.val, bound t s⟩ t (by dsimp only; omega) y k ⟨s.val * 1536 + k.val, hl⟩ (by dsimp only; omega))

theorem sumU (c : Dev nD) (t : Fin cfg0.N) (y : S1024x1024.Idx) :
    (∑ s : Fin 2, partU m c (2 * (t.val / 2) + s.val) (bound t s) y)
      = ∑ l : Fin 3072, Q m c (ix2 (at5 t y 0) l) * U m c (ix2 l (at5 t y 1)) := by
  unfold partU prod
  refine Fin.sum_mul_add_congr fun s k hl => ?_
  have hs := s.isLt
  exact congrArg₂ (· * ·)
    (blk2 m c ⟨2 * (t.val / 2) + s.val, bound t s⟩ t (by dsimp only; omega) y k ⟨s.val * 1536 + k.val, hl⟩ (by dsimp only; omega))
    (blk3 m c ⟨2 * (t.val / 2) + s.val, bound t s⟩ t (by dsimp only; omega) y k ⟨s.val * 1536 + k.val, hl⟩ (by dsimp only; omega))

/-- The array after the run. -/
theorem final5 (c : Dev nD) : (dats m 0 c).arrAt 5 cfg0.N = G (P m c) (W m c) (Q m c) (U m c) (A m c) := by
  refine (dats m 0 c).arrAt_eq_of_covers 5 _ (by decide +kernel) fun t hf y => ?_
  have ht : t.val % 2 = 1 := (flush0_5 t).mp hf
  blk_simp
  rw [after0_5]
  refine (out_eq m c t ht y).trans ?_
  rw [Finset.sum_add_distrib, sumW m c t y, sumU m c t y, add_assoc, add_comm, add_comm (∑ l : Fin 3072, Q m c _ * _), mul_comm α]
  unfold G
  exact congrArg₂ (· + ·) (congrArg₂ (· + ·) (congrArg (· * α) (blk4 m c t t rfl y)) rfl) rfl

/-! ## The reference -/

theorem ref_eq (P : S8192x3072.Idx → EReal) (W : S3072x1024.Idx → EReal) (Q : S8192x3072.Idx → EReal) (U : S3072x1024.Idx → EReal)
    (A : S8192x1024.Idx → EReal) : Cert.XFfnRefIdeal.Read.val_main_v16 (F := Ideal) P W Q U A = G P W Q U A := by
  funext i
  rw [Cert.XFfnRefIdeal.Read.val_main_v16_apply, Cert.XFfnRefIdeal.Read.val_main_v14_apply, Cert.XFfnRefIdeal.Read.val_main_v12_apply,
    Cert.XFfnRefIdeal.Read.val_main_v11_apply, Cert.XFfnRefIdeal.Read.val_main_cst_1_apply, Cert.XFfnRefIdeal.Read.val_main_v13_apply,
    Cert.XFfnRefIdeal.Read.val_main_v15_apply]
  unfold G
  refine congrArg₂ (fun a b : EReal => A i * α + a + b) (Finset.sum_congr rfl fun l _ => ?_) (Finset.sum_congr rfl fun l _ => ?_)
  · rw [Cert.XFfnRefIdeal.Read.val_main_v5_apply]
    refine congrArg₂ (· * ·) (congrArg Q ?_) (congrArg U ?_)
    · exact Shape.idx_ext₂ (n := ![8192, 3072]) rfl rfl
    · exact Shape.idx_ext₂ (n := ![3072, 1024]) rfl rfl
  · rw [Cert.XFfnRefIdeal.Read.val_main_v2_apply]
    refine congrArg₂ (· * ·) (congrArg P ?_) (congrArg W ?_)
    · exact Shape.idx_ext₂ (n := ![8192, 3072]) rfl rfl
    · exact Shape.idx_ext₂ (n := ![3072, 1024]) rfl rfl

/-! ## The claims -/

theorem frame : Cert.quiescent_XFfn := fun m ρ _ => Cert.XFfn.Gen.frame m ρ
theorem frame_ideal : Cert.quiescent_XFfnIdeal := fun m ρ _ => Cert.XFfnIdeal.Gen.frame m ρ
theorem frame_ref : Cert.quiescent_XFfnRefIdeal := fun m ρ _ =>
  (θ_run Cert.XFfnRefIdeal.defs _ _).mono (fun r h => ⟨fun c => (h c).2, sem_eq_zero_of_no_sems (by decide) r.2⟩)
    (Cert.XFfnRefIdeal.Value.run (F := Ideal) m ρ)

theorem preserves : Cert.preserves_XFfn_XFfnIdeal := trivial

theorem algebraic : Cert.algebraic_XFfnIdeal_XFfnRefIdeal := by
  intro m ρ m' ρ' _ hagree
  refine ⟨fun c => G (P m c) (W m c) (Q m c) (U m c) (A m c), ?_, ?_⟩
  · exact (θ_run Cert.XFfnIdeal.defs _ _).mono (fun _ h c => ⟨(h c).1.trans (final5 m c), (h c).2⟩)
      (Cert.XFfnIdeal.Value.run_blocks (F := Ideal) m ρ)
  have e (c : Dev nD) := Cert.XFfnRefIdeal.Read.val_main_v16_eq (F := Ideal) (P m c) (W m c) (Q m c) (U m c) (A m c)
  refine (θ_run Cert.XFfnRefIdeal.defs _ _).mono (fun r h c => ?_) (Cert.XFfnRefIdeal.Value.run (F := Ideal) m' ρ')
  have hc := h c
  rw [(hagree c).1, (hagree c).2.1, (hagree c).2.2.1, (hagree c).2.2.2.1, (hagree c).2.2.2.2] at hc
  exact ⟨hc.1.trans ((e c).trans (ref_eq _ _ _ _ _)), (h c).2⟩

end Cert.Proof.XFfnVal

end
-- ==== Proof.LnForm.lean ====
/-
  The layer normalisation of one row of 1024 numbers, as a formula on extended reals.
-/
module

public import Idealize.ShloMosaic.Lib.Pointwise
public import Idealize.ShloMosaic.Lib.ValueIdx

@[expose] public section

noncomputable section

open Idealize.ShloMosaic
open scoped BigOperators

namespace Cert.LnForm

/-- The mean of a row. -/
def mean (p : Fin 1024 → EReal) : EReal := Ideal.div (∑ k, p k) (Ideal.ofBits .f32 0x44800000#32)

/-- The row's variance with the small constant added. -/
def spread (p : Fin 1024 → EReal) : EReal :=
  mean (fun k => (p k - mean p) * (p k - mean p)) + Ideal.ofBits .f32 0x3727C5AC#32

/-- The normalised row at `d`, times the gain, plus the bias. -/
def ln (p g b : Fin 1024 → EReal) (d : Fin 1024) : EReal :=
  (p d - mean p) * Ideal.rsqrt (spread p) * g d + b d

/-- The two spellings of an index of a matrix agree. -/
theorem ix2_eq {a b : ℕ} (i : Fin a) (k : Fin b) : Idealize.ShloMosaic.ix2 i k = ValueIdx.ix2 i k :=
  Shape.idx_ext₂ (n := ![a, b]) rfl rfl

end Cert.LnForm

end
-- ==== Proof.LnGrad.lean ====
/-
  The gradient of the layer normalisation of one row of 1024 numbers, as a formula on extended reals; and that the
  derivative's own lines, which sum the two parts apart, give the same.
-/
module

public import proofs.«01_k».proof.Proof.Common
public import proofs.«01_k».proof.Proof.LnForm

@[expose] public section

noncomputable section

open Idealize.ShloMosaic
open scoped BigOperators

namespace Cert.LnForm

open Cert.Common (top_f32 exists_real_of_abs_lt_top)

/-- The distance of an entry from the row's mean. -/
def gap (p : Fin 1024 → EReal) (d : Fin 1024) : EReal := p d - mean p

/-- The normalised entry. -/
def scaled (p : Fin 1024 → EReal) (d : Fin 1024) : EReal := gap p d * Ideal.rsqrt (spread p)

/-- The cotangent's part through the entry itself. -/
def push (p g u : Fin 1024 → EReal) (d : Fin 1024) : EReal := u d * g d * Ideal.rsqrt (spread p)

/-- The cotangent of the variance, over the row's length. -/
def coef (p g u : Fin 1024 → EReal) : EReal :=
  Ideal.div ((∑ k, gap p k * (u k * g k)) * (Ideal.ofBits .f32 0xBF000000#32 * Ideal.div (Ideal.rsqrt (spread p)) (spread p)))
    (Ideal.ofBits .f32 0x44800000#32)

/-- The cotangent of the gap. -/
def raw (p g u : Fin 1024 → EReal) (d : Fin 1024) : EReal :=
  push p g u d + gap p d * coef p g u + coef p g u * gap p d

/-- The gradient by the row's entry `d`. -/
def lnGrad (p g u : Fin 1024 → EReal) (d : Fin 1024) : EReal :=
  raw p g u d + Ideal.div (∑ k, (0 - raw p g u k)) (Ideal.ofBits .f32 0x44800000#32)

theorem two_f32 : Ideal.ofBits .f32 0x40000000#32 = ((2 : ℝ) : EReal) := by
  simp [Ideal.ofBits, Ideal.ieee]
  rw [← EReal.coe_mul]
  norm_num

theorem length_f32 : Ideal.ofBits .f32 0x44800000#32 = ((1024 : ℝ) : EReal) := by
  simp [Ideal.ofBits, Ideal.ieee]
  rw [← EReal.coe_mul]
  norm_num

theorem small_pos : (0 : EReal) < Ideal.ofBits .f32 0x3727C5AC#32 := by
  have h : Ideal.ofBits .f32 0x3727C5AC#32 = ((10995116 / 1099511627776 : ℝ) : EReal) := by
    simp [Ideal.ofBits, Ideal.ieee]
    rw [← EReal.coe_mul]
    norm_num
  rw [h]
  exact EReal.coe_pos.mpr (by norm_num)

theorem two_mul_eq (x : EReal) : ((2 : ℝ) : EReal) * x = x + x := by
  have h : ((2 : ℝ) : EReal) = 1 + 1 := by
    rw [show (2 : ℝ) = 1 + 1 by norm_num, EReal.coe_add, EReal.coe_one]
  rw [h, EReal.right_distrib_of_nonneg zero_le_one zero_le_one, one_mul]

theorem sq_nonneg (x : EReal) : 0 ≤ x * x := by
  rcases le_total 0 x with h | h
  · exact mul_nonneg h h
  · rw [← neg_mul_neg]
    exact mul_nonneg (EReal.neg_nonneg.mpr h) (EReal.neg_nonneg.mpr h)

theorem length_div_nonneg {x : EReal} (h : 0 ≤ x) : 0 ≤ Ideal.div x (Ideal.ofBits .f32 0x44800000#32) := by
  rw [length_f32]
  unfold Ideal.div
  rw [if_neg (by norm_num)]
  exact mul_nonneg h (EReal.inv_nonneg_of_nonneg (by norm_num))

/-- The reciprocal root of a row's variance is a real number. -/
theorem rsqrt_real (p : Fin 1024 → EReal) : ∃ r : ℝ, Ideal.rsqrt (spread p) = r := by
  have h : 0 < spread p :=
    lt_of_lt_of_le small_pos (le_add_of_nonneg_left (length_div_nonneg (Finset.sum_nonneg fun _ _ => sq_nonneg _)))
  generalize spread p = s at h
  induction s with
  | bot => exact absurd h (by simp)
  | top => exact ⟨0, rfl⟩
  | coe r =>
    have hr : 0 < r := EReal.coe_pos.mp h
    refine ⟨(Real.sqrt r)⁻¹, ?_⟩
    show (if r < 0 then ⊥ else if r = 0 then ⊤ else (((Real.sqrt r)⁻¹ : ℝ) : EReal)) = _
    rw [if_neg (not_lt.mpr hr.le), if_neg hr.ne']

section

variable (p g u : Fin 1024 → EReal)

theorem push_real (hg : ∀ d, ∃ r : ℝ, g d = r) (hu : ∀ d, ∃ r : ℝ, u d = r) (d : Fin 1024) : ∃ r : ℝ, push p g u d = r := by
  obtain ⟨a, ha⟩ := hg d
  obtain ⟨b, hb⟩ := hu d
  obtain ⟨s, hs⟩ := rsqrt_real p
  exact ⟨b * a * s, by unfold push; rw [ha, hb, hs, EReal.coe_mul, EReal.coe_mul]⟩

theorem raw_eq (d : Fin 1024) :
    push p g u d + coef p g u * (Ideal.ofBits .f32 0x40000000#32 * gap p d) = raw p g u d := by
  unfold raw
  rw [two_f32, mul_left_comm, two_mul_eq, add_assoc, mul_comm (gap p d)]

/-- The derivative's own lines, at a finite gain and a finite cotangent. -/
theorem lnGrad_eq (hg : ∀ d, ∃ r : ℝ, g d = r) (hu : ∀ d, ∃ r : ℝ, u d = r) (d : Fin 1024) :
    (push p g u d + coef p g u * (Ideal.ofBits .f32 0x40000000#32 * gap p d))
      + Ideal.div ((∑ k, -(push p g u k)) + ∑ k, -(coef p g u * (Ideal.ofBits .f32 0x40000000#32 * gap p k)))
          (Ideal.ofBits .f32 0x44800000#32)
      = lnGrad p g u d := by
  unfold lnGrad
  rw [raw_eq, ← Finset.sum_add_distrib]
  refine congrArg (raw p g u d + Ideal.div · _) (Finset.sum_congr rfl fun k _ => ?_)
  obtain ⟨r, hr⟩ := push_real p g u hg hu k
  rw [← raw_eq, zero_sub, hr, EReal.neg_add (.inl (EReal.coe_ne_bot r)) (.inl (EReal.coe_ne_top r)), sub_eq_add_neg]

end

/-- A number whose size is below infinity is real. -/
theorem real_of_cmp (x : EReal) (h : Ideal.cmp .olt (max x (-x)) (Ideal.ofBits .f32 0x7F800000#32) = 1#1) : ∃ r : ℝ, x = r := by
  rw [top_f32] at h
  refine exists_real_of_abs_lt_top ?_
  by_contra hn
  simp [Ideal.cmp, hn] at h

end Cert.LnForm

end
-- ==== Proof.LnBwdVal.lean ====
/-
  The gradient of the layer normalisation, 512 rows at a time: by the normalised rows at every point, and by the gain
  and the bias as sums carried over the points; and that the three results are the derivative's lines over the whole
  arrays, at a finite gain and a finite cotangent.
-/
module

public import proofs.«01_k».proof.Defs
public import proofs.«01_k».proof.Proof.Common
public import proofs.«01_k».proof.Proof.Gen.LnBwd.Frame
public import proofs.«01_k».proof.Proof.Gen.LnBwdIdeal.Value
public import proofs.«01_k».proof.Proof.Gen.LnBwdRefIdeal.Read
public import proofs.«01_k».proof.Proof.Gen.Pre_finite_ln
public import proofs.«01_k».proof.Proof.LnGrad
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic hiding ix1 ix2 ix3 ix4 ix5
open Idealize.ShloMosaic.TcCoe Idealize.ShloMosaic.ValueIdx Idealize.SL.Sem
open Idealize.ShloMosaic.Pipeline (Dat)
open scoped BigOperators

namespace Cert.Proof.LnBwdVal

open Cert.LnBwdIdeal Cert.LnBwdIdeal.Gen Cert.Common Cert.LnForm

/-! ## What a point computes, at an index -/

section Pay

variable (v3 v24 : Vec Ideal S512x1024 .f32) (v4 : Vec Ideal S1x1024 .f32)

/-- Row `r` of a block. -/
abbrev line (v : S512x1024.Idx → EReal) (r : Fin 512) (k : Fin 1024) : EReal := v (ix2 r k)
/-- The row of a one-row block. -/
abbrev only (v : S1x1024.Idx → EReal) (k : Fin 1024) : EReal := v (ix2 0 k)

theorem pay6_apply (r : Fin 512) (d : Fin 1024) : (show EReal from k0_pay6 v3 (ix2 r d)) = gap (line v3 r) d := by
  unfold k0_pay6 gap mean
  pointwise
  rfl

theorem pay7_apply (r : Fin 512) (z : Fin 1) : (show EReal from k0_pay7 v3 (ix2 r z)) = spread (line v3 r) := by
  unfold k0_pay7
  have h := pay6_apply v3 r
  generalize k0_pay6 v3 = q at h
  pointwise
  exact congrArg (Ideal.div · _ + _) (Finset.sum_congr rfl fun k _ => congrArg₂ (· * ·) (h k) (h k))

theorem pay8_apply (r : Fin 512) (z : Fin 1) : (show EReal from k0_pay8 v3 (ix2 r z)) = Ideal.rsqrt (spread (line v3 r)) :=
  congrArg Ideal.rsqrt (pay7_apply v3 r z)

theorem pay10_apply (z : Fin 1) (d : Fin 1024) : (show EReal from k0_pay10 v24 (ix2 z d)) = ∑ r, line v24 r d := by
  unfold k0_pay10
  pointwise
  rfl

theorem pay9_eq : k0_pay9 v24 = v24 := by
  unfold k0_pay9
  funext j
  pointwise

theorem pay11_apply (z : Fin 1) (d : Fin 1024) :
    (show EReal from k0_pay11 v3 v24 (ix2 z d)) = ∑ r, scaled (line v3 r) d * line v24 r d := by
  unfold k0_pay11
  rw [pay9_eq]
  have h := fun r => pay6_apply v3 r d
  have h8 := fun r => pay8_apply v3 r 0
  generalize k0_pay6 v3 = q at h
  generalize k0_pay8 v3 = s at h8
  pointwise
  exact Finset.sum_congr rfl fun r _ => congrArg (· * _) (congrArg₂ (· * ·) (h r) (h8 r))

theorem pay12_apply (r : Fin 512) (d : Fin 1024) : (show EReal from k0_pay12 v4 v24 (ix2 r d)) = line v24 r d * only v4 d := by
  unfold k0_pay12
  rw [pay9_eq]
  pointwise
  rfl

theorem pay13_apply (r : Fin 512) (d : Fin 1024) :
    (show EReal from k0_pay13 v3 v4 v24 (ix2 r d)) = push (line v3 r) (only v4) (line v24 r) d := by
  unfold k0_pay13
  have h := pay12_apply v24 v4 r d
  have h8 := pay8_apply v3 r 0
  generalize k0_pay12 v4 v24 = q at h
  generalize k0_pay8 v3 = s at h8
  pointwise
  exact congrArg₂ (· * ·) h h8

theorem pay14_apply (r : Fin 512) (z : Fin 1) :
    Ideal.div (show EReal from k0_pay14 v3 v4 v24 (ix2 r z)) (Ideal.ofBits .f32 0x44800000#32)
      = coef (line v3 r) (only v4) (line v24 r) := by
  unfold k0_pay14 coef
  have h := pay12_apply v24 v4 r
  have h6 := pay6_apply v3 r
  have h7 := pay7_apply v3 r z
  have h8 := pay8_apply v3 r z
  generalize k0_pay12 v4 v24 = q at h
  generalize k0_pay6 v3 = a at h6
  generalize k0_pay7 v3 = b at h7
  generalize k0_pay8 v3 = s at h8
  pointwise
  exact congrArg (Ideal.div · _) (congrArg₂ (· * ·) (Finset.sum_congr rfl fun k _ => congrArg₂ (· * ·) (h6 k) (h k))
    (congrArg (_ * ·) (congrArg₂ Ideal.div h8 h7)))

theorem pay1_apply (r : Fin 512) (d : Fin 1024) :
    (show EReal from k0_pay1 (k0_pay6 v3) (k0_pay13 v3 v4 v24) (k0_pay14 v3 v4 v24) k0_pay15 (ix2 r d))
      = lnGrad (line v3 r) (only v4) (line v24 r) d := by
  unfold k0_pay1 k0_pay15 lnGrad raw
  have h13 := pay13_apply v3 v24 v4 r
  have h6 := pay6_apply v3 r
  have h14 := pay14_apply v3 v24 v4 r 0
  generalize k0_pay13 v3 v4 v24 = q at h13
  generalize k0_pay6 v3 = a at h6
  generalize k0_pay14 v3 v4 v24 = b at h14
  pointwise
  have hb : (∑ x : Fin 1, Ideal.div (b (ix2 r x)) (Ideal.ofBits .f32 0x44800000#32)) = _ := (Fin.sum_univ_one _).trans h14
  have key : ∀ k, q (ix2 r k) + a (ix2 r k) * (∑ x : Fin 1, Ideal.div (b (ix2 r x)) (Ideal.ofBits .f32 0x44800000#32))
      + (∑ x : Fin 1, Ideal.div (b (ix2 r x)) (Ideal.ofBits .f32 0x44800000#32)) * a (ix2 r k) = _ :=
    fun k => congrArg₂ (· + ·) (congrArg₂ (· + ·) (h13 k) (congrArg₂ (· * ·) (h6 k) hb)) (congrArg₂ (· * ·) hb (h6 k))
  exact congrArg₂ (· + ·) (key d) ((Fin.sum_univ_one _).trans
    (congrArg (Ideal.div · _) (Finset.sum_congr rfl fun k _ => congrArg (0 - ·) (key k))))

theorem pay2_apply (v30 : FVec Ideal S1x1024 .f32) (v59 : Vec Ideal S8x1024 .f32) (j : S8x1024.Idx) :
    (show EReal from k0_pay2 v30 v59 j) = (show EReal from v59 j) + only v30 (j 1) := by
  unfold k0_pay2
  pointwise
  rfl

theorem pay3_apply (v27 : FVec Ideal S1x1024 .f32) (v65 : Vec Ideal S8x1024 .f32) (j : S8x1024.Idx) :
    (show EReal from k0_pay3 v27 v65 j) = (show EReal from v65 j) + only v27 (j 1) := by
  unfold k0_pay3
  pointwise
  rfl

end Pay

/-- Which block each window shows at a grid point. -/
theorem idx_facts : ∀ t : Fin grid0.N,
    win0_0.index t = ![t.val, 0] ∧ win0_1.index t = ![0, 0] ∧ win0_3.index t = ![t.val, 0] ∧ win0_4.index t = ![t.val, 0]
      ∧ win0_5.index t = ![0, 0] ∧ win0_6.index t = ![0, 0] := by
  decide +kernel

variable (m : (ℓ : Loc nD τ sig) → Buf (Elt Ideal) ℓ) (ρ : Dev nD → PrngReg)

/-- The argument arrays of device `c`. -/
abbrev X (c : Dev nD) : S8192x1024.Idx → EReal := m ((c : Thread nD τ).loc main_arg0)
abbrev g (c : Dev nD) : S1x1024.Idx → EReal := m ((c : Thread nD τ).loc main_arg1)
abbrev U (c : Dev nD) : S8192x1024.Idx → EReal := m ((c : Thread nD τ).loc main_arg3)

/-- The gradient by the normalised rows. -/
def G (X : S8192x1024.Idx → EReal) (g : S1x1024.Idx → EReal) (U : S8192x1024.Idx → EReal) (i : S8192x1024.Idx) : EReal :=
  lnGrad (fun k => X (ix2 (i 0) k)) (only g) (fun k => U (ix2 (i 0) k)) (i 1)

/-- The gradient by the gain, a column's sum, in every row of the result. -/
def H (X : S8192x1024.Idx → EReal) (U : S8192x1024.Idx → EReal) (i : S8x1024.Idx) : EReal :=
  ∑ r : Fin 8192, scaled (fun k => X (ix2 r k)) (i 1) * U (ix2 r (i 1))

/-- The gradient by the bias. -/
def B (U : S8192x1024.Idx → EReal) (i : S8x1024.Idx) : EReal := ∑ r : Fin 8192, U (ix2 r (i 1))

/-- The array row that row `r` of the block at point `t` is. -/
def row (t : Fin cfg0.N) (r : Fin 512) : Fin 8192 :=
  ⟨t.val * 512 + r.val, by have h : t.val < 16 := lt_of_lt_of_eq t.isLt N_0; have := r.isLt; omega⟩

theorem blk0 (c : Dev nD) (t : Fin cfg0.N) (r : Fin 512) (k : Fin 1024) :
    (iblk m c 0 t : Vec Ideal S512x1024 .f32) (ix2 r k) = X m c (ix2 (row t r) k) := by
  unfold iblk
  rw [View.read_apply]
  show V m c main_arg0 _ = _
  rw [V_main_arg0]
  congr 1
  refine Shape.idx_ext₂ (n := ![8192, 1024]) ?_ ?_
  · show win0_0.index t 0 * 512 + 1 * r.val = t.val * 512 + r.val
    rw [(idx_facts t).1, one_mul]; rfl
  · show win0_0.index t 1 * 1024 + 1 * k.val = k.val
    rw [(idx_facts t).1, one_mul]
    show 0 * 1024 + _ = _
    omega

theorem blk3 (c : Dev nD) (t : Fin cfg0.N) (r : Fin 512) (k : Fin 1024) :
    (iblk m c 3 t : Vec Ideal S512x1024 .f32) (ix2 r k) = U m c (ix2 (row t r) k) := by
  unfold iblk
  rw [View.read_apply]
  show V m c main_arg3 _ = _
  rw [V_main_arg3]
  congr 1
  refine Shape.idx_ext₂ (n := ![8192, 1024]) ?_ ?_
  · show win0_3.index t 0 * 512 + 1 * r.val = t.val * 512 + r.val
    rw [(idx_facts t).2.2.1, one_mul]; rfl
  · show win0_3.index t 1 * 1024 + 1 * k.val = k.val
    rw [(idx_facts t).2.2.1, one_mul]
    show 0 * 1024 + _ = _
    omega

theorem blk1 (c : Dev nD) (t : Fin cfg0.N) (z : Fin 1) (k : Fin 1024) :
    (iblk m c 1 t : Vec Ideal S1x1024 .f32) (ix2 z k) = g m c (ix2 z k) := by
  unfold iblk
  rw [View.read_apply]
  show V m c main_arg1 _ = _
  rw [V_main_arg1]
  congr 1
  refine Shape.idx_ext₂ (n := ![1, 1024]) ?_ ?_
  · show win0_1.index t 0 * 1 + 1 * z.val = z.val
    rw [(idx_facts t).2.1, one_mul]
    show 0 * 1 + _ = _
    omega
  · show win0_1.index t 1 * 1024 + 1 * k.val = k.val
    rw [(idx_facts t).2.1, one_mul]
    show 0 * 1024 + _ = _
    omega

/-- The gradient of a block's rows. -/
theorem rows_eq (c : Dev nD) (t : Fin cfg0.N) (y : S512x1024.Idx) :
    (show EReal from k0_pay1 (k0_pay6 (iblk m c 0 t)) (k0_pay13 (iblk m c 0 t) (iblk m c 1 t) (iblk m c 3 t))
        (k0_pay14 (iblk m c 0 t) (iblk m c 1 t) (iblk m c 3 t)) k0_pay15 y)
      = G (X m c) (g m c) (U m c) ((win0_4.blk t).view.emb y) := by
  have hy : y = ix2 (n0 := 512) (n1 := 1024) (y 0) (y 1) := Shape.idx_ext₂ (n := ![512, 1024]) rfl rfl
  have ha : (win0_4.blk t).view.emb y = ix2 (row t (y 0)) (y 1) := by
    refine Shape.idx_ext₂ (n := ![8192, 1024]) ?_ ?_
    · show win0_4.index t 0 * 512 + 1 * (y 0).val = t.val * 512 + (y 0).val
      rw [(idx_facts t).2.2.2.1, one_mul]; rfl
    · show win0_4.index t 1 * 1024 + 1 * (y 1).val = (y 1).val
      rw [(idx_facts t).2.2.2.1, one_mul]
      show 0 * 1024 + _ = _
      omega
  rw [ha]
  refine (congrArg (k0_pay1 _ _ _ k0_pay15) hy).trans ((pay1_apply (iblk m c 0 t) (iblk m c 3 t) (iblk m c 1 t) (y 0) (y 1)).trans ?_)
  exact congr (congr (congr (congrArg lnGrad (funext (blk0 m c t (y 0)))) (funext (blk1 m c t 0))) (funext (blk3 m c t (y 0)))) rfl

theorem out4_eq (c : Dev nD) (t : Fin cfg0.N) (y : S512x1024.Idx) :
    (show EReal from (outsAt0 m c t.val t.isLt).1 y) = G (X m c) (g m c) (U m c) ((win0_4.blk t).view.emb y) := by
  by_cases h : t.val % 16 = 0
  · rw [outsAt0_A m c t h]
    frame_out
    exact rows_eq m c t y
  · rw [outsAt0_B m c t h]
    frame_out
    exact rows_eq m c t y

theorem final4 (c : Dev nD) : (dats m 0 c).arrAt 4 cfg0.N = G (X m c) (g m c) (U m c) := by
  refine (dats m 0 c).arrAt_eq_of_covers 4 _ (by decide +kernel) fun t hf y => ?_
  blk_simp
  rw [after0_4]
  exact out4_eq m c t y

/-- What one point adds to the gain's gradient. -/
def part5 (c : Dev nD) (n : ℕ) (h : n < cfg0.N) (j : S8x1024.Idx) : EReal :=
  ∑ r : Fin 512, scaled (fun k => X m c (ix2 (row ⟨n, h⟩ r) k)) (j 1) * U m c (ix2 (row ⟨n, h⟩ r) (j 1))

/-- What one point adds to the bias's gradient. -/
def part6 (c : Dev nD) (n : ℕ) (h : n < cfg0.N) (j : S8x1024.Idx) : EReal := ∑ r : Fin 512, U m c (ix2 (row ⟨n, h⟩ r) (j 1))

theorem add5 (c : Dev nD) (n : ℕ) (h : n < cfg0.N) (d : Fin 1024) (j : S8x1024.Idx) (hd : d = j 1) :
    only (k0_pay11 (iblk m c 0 ⟨n, h⟩) (iblk m c 3 ⟨n, h⟩)) d = part5 m c n h j := by
  subst hd
  exact (pay11_apply _ _ 0 _).trans (Finset.sum_congr rfl fun r _ =>
    congrArg₂ (· * ·) (congrArg (scaled · (j 1)) (funext (blk0 m c ⟨n, h⟩ r))) (blk3 m c ⟨n, h⟩ r (j 1)))

theorem add6 (c : Dev nD) (n : ℕ) (h : n < cfg0.N) (d : Fin 1024) (j : S8x1024.Idx) (hd : d = j 1) :
    only (k0_pay10 (iblk m c 3 ⟨n, h⟩)) d = part6 m c n h j := by
  subst hd
  exact (pay10_apply _ 0 _).trans (Finset.sum_congr rfl fun r _ => blk3 m c ⟨n, h⟩ r (j 1))

theorem run5 (c : Dev nD) (t : Fin cfg0.N) (ht : t.val % 16 = 15) (j : S8x1024.Idx) :
    (show EReal from (outsAt0 m c t.val t.isLt).2.1 j) = ∑ s : Fin 16, part5 m c (16 * (t.val / 16) + s.val) (by
      have h1 := Nat.div_add_mod t.val 16; have h2 := s.isLt; have h3 := t.isLt; omega) j := by
  have step : ∀ n (h : n < cfg0.N) (j : S8x1024.Idx), ¬n % 16 = 0 → (show EReal from (outsAt0 m c n h).2.1 j)
      = (show EReal from (outsAt0 m c (n - 1) (lt_of_le_of_lt (Nat.sub_le n 1) h)).2.1 j) + part5 m c n h j := by
    intro n h j h0
    rw [outsAt0_B m c ⟨n, h⟩ h0]
    frame_out
    refine (pay2_apply _ _ j).trans (congrArg₂ (· + ·) ?_ (add5 m c n h _ j rfl))
    rfl
  refine sum_of_run 16 (by decide) (fun n h => (outsAt0 m c n h).2.1) (fun n h => (outsAt0 m c n h).2.1) (part5 m c) ?_ ?_ ?_
    t.val t.isLt j ht
  · intro n h j h0
    rw [outsAt0_A m c ⟨n, h⟩ h0]
    frame_out
    refine (pay2_apply _ _ j).trans ((congrArg₂ (· + ·) ?_ (add5 m c n h _ j rfl)).trans (zero_add _))
    exact Ideal.ofBits_zero_f32
  · exact fun n h j h1 => step n h j (by omega)
  · exact fun n h j h1 => step n h j (by omega)

theorem run6 (c : Dev nD) (t : Fin cfg0.N) (ht : t.val % 16 = 15) (j : S8x1024.Idx) :
    (show EReal from (outsAt0 m c t.val t.isLt).2.2 j) = ∑ s : Fin 16, part6 m c (16 * (t.val / 16) + s.val) (by
      have h1 := Nat.div_add_mod t.val 16; have h2 := s.isLt; have h3 := t.isLt; omega) j := by
  have step : ∀ n (h : n < cfg0.N) (j : S8x1024.Idx), ¬n % 16 = 0 → (show EReal from (outsAt0 m c n h).2.2 j)
      = (show EReal from (outsAt0 m c (n - 1) (lt_of_le_of_lt (Nat.sub_le n 1) h)).2.2 j) + part6 m c n h j := by
    intro n h j h0
    rw [outsAt0_B m c ⟨n, h⟩ h0]
    frame_out
    refine (pay3_apply _ _ j).trans (congrArg₂ (· + ·) ?_ (add6 m c n h _ j rfl))
    rfl
  refine sum_of_run 16 (by decide) (fun n h => (outsAt0 m c n h).2.2) (fun n h => (outsAt0 m c n h).2.2) (part6 m c) ?_ ?_ ?_
    t.val t.isLt j ht
  · intro n h j h0
    rw [outsAt0_A m c ⟨n, h⟩ h0]
    frame_out
    refine (pay3_apply _ _ j).trans ((congrArg₂ (· + ·) ?_ (add6 m c n h _ j rfl)).trans (zero_add _))
    exact Ideal.ofBits_zero_f32
  · exact fun n h j h1 => step n h j (by omega)
  · exact fun n h j h1 => step n h j (by omega)

theorem final5 (c : Dev nD) : (dats m 0 c).arrAt 5 cfg0.N = H (X m c) (U m c) := by
  refine (dats m 0 c).arrAt_eq_of_covers 5 _ (by decide +kernel) fun t hf y => ?_
  have ht : t.val % 16 = 15 := (flush0_5 t).mp hf
  have hN : t.val < 16 := lt_of_lt_of_eq t.isLt N_0
  have hy : ((win0_5.blk t).view.emb y) 1 = y 1 := by
    refine Fin.ext ?_
    show win0_5.index t 1 * 1024 + 1 * (y 1).val = (y 1).val
    rw [(idx_facts t).2.2.2.2.1, one_mul]
    show 0 * 1024 + _ = _
    omega
  blk_simp
  rw [after0_5]
  refine (run5 m c t ht y).trans ?_
  unfold H part5
  rw [hy]
  refine Fin.sum_mul_add_congr fun s k hl => ?_
  have e : row ⟨16 * (t.val / 16) + s.val, lt_of_lt_of_eq (by have := s.isLt; omega) N_0.symm⟩ k = ⟨s.val * 512 + k.val, hl⟩ :=
    Fin.ext (by show (16 * (t.val / 16) + s.val) * 512 + k.val = _; dsimp only; omega)
  rw [e]

theorem final6 (c : Dev nD) : (dats m 0 c).arrAt 6 cfg0.N = B (U m c) := by
  refine (dats m 0 c).arrAt_eq_of_covers 6 _ (by decide +kernel) fun t hf y => ?_
  have ht : t.val % 16 = 15 := (flush0_6 t).mp hf
  have hN : t.val < 16 := lt_of_lt_of_eq t.isLt N_0
  have hy : ((win0_6.blk t).view.emb y) 1 = y 1 := by
    refine Fin.ext ?_
    show win0_6.index t 1 * 1024 + 1 * (y 1).val = (y 1).val
    rw [(idx_facts t).2.2.2.2.2, one_mul]
    show 0 * 1024 + _ = _
    omega
  blk_simp
  rw [after0_6]
  refine (run6 m c t ht y).trans ?_
  unfold B part6
  rw [hy]
  refine Fin.sum_mul_add_congr fun s k hl => ?_
  have e : row ⟨16 * (t.val / 16) + s.val, lt_of_lt_of_eq (by have := s.isLt; omega) N_0.symm⟩ k = ⟨s.val * 512 + k.val, hl⟩ :=
    Fin.ext (by show (16 * (t.val / 16) + s.val) * 512 + k.val = _; dsimp only; omega)
  rw [e]

/-! ## The reference -/

open Cert.LnBwdRefIdeal.Read

section Ref

variable (X : S8192x1024.Idx → EReal) (g : S1x1024.Idx → EReal) (U : S8192x1024.Idx → EReal)

/-- A row of an array. -/
abbrev full (A : S8192x1024.Idx → EReal) (r : Fin 8192) (k : Fin 1024) : EReal := A (ix2 r k)

theorem ix_eta (i : S8192x1024.Idx) : i = ix2 (n0 := 8192) (n1 := 1024) (i 0) (i 1) := Shape.idx_ext₂ (n := ![8192, 1024]) rfl rfl

theorem ref5 (i : Cert.LnBwdRefIdeal.S8192x1.Idx) : val_main_v5 (F := Ideal) X i = mean (full X (i 0)) := by
  show Ideal.div (val_main_v3 (F := Ideal) X i) (val_main_v4 (F := Ideal) i) = _
  rw [val_main_v3_apply, val_main_v4_apply, val_main_v2_apply]
  show Ideal.div (Ideal.ofBits .f32 0x00000000#32 + ∑ k : Fin 1024, X _) (Ideal.ofBits .f32 0x44800000#32) = _
  rw [Ideal.ofBits_zero_f32, zero_add]
  exact congrArg (Ideal.div · _) (Finset.sum_congr rfl fun k _ => congrArg X (Shape.idx_ext₂ (n := ![8192, 1024]) rfl rfl))

theorem ref7 (i : S8192x1024.Idx) : val_main_v7 (F := Ideal) X i = gap (full X (i 0)) (i 1) := by
  show X i - val_main_v6 (F := Ideal) X i = _
  rw [val_main_v6_apply, ref5]
  exact congrArg (X · - _) (ix_eta i)

theorem ref16 (i : S8192x1024.Idx) : val_main_v16 (F := Ideal) X i = gap (full X (i 0)) (i 1) := by
  show X i - val_main_v15 (F := Ideal) X i = _
  rw [val_main_v15_apply, ref5]
  exact congrArg (X · - _) (ix_eta i)

theorem ref18 (i : Cert.LnBwdRefIdeal.S8192x1.Idx) : val_main_v18 (F := Ideal) X i = spread (full X (i 0)) := by
  show Ideal.div (val_main_v12 (F := Ideal) X i) (val_main_v13 (F := Ideal) i) + val_main_v17 (F := Ideal) i = _
  rw [val_main_v12_apply, val_main_v13_apply, val_main_v17_apply, val_main_v11_apply]
  show Ideal.div (Ideal.ofBits .f32 0x00000000#32 + ∑ k : Fin 1024, val_main_v7 (F := Ideal) X _ * val_main_v7 (F := Ideal) X _)
    (Ideal.ofBits .f32 0x44800000#32) + Ideal.ofBits .f32 0x3727C5AC#32 = _
  rw [Ideal.ofBits_zero_f32, zero_add]
  refine congrArg (Ideal.div · _ + _) (Finset.sum_congr rfl fun k _ => ?_)
  rw [ref7]
  rfl

theorem ref24 (i : S8192x1024.Idx) : val_main_v24 (F := Ideal) X i = scaled (full X (i 0)) (i 1) := by
  show val_main_v16 (F := Ideal) X i * val_main_v23 (F := Ideal) X i = _
  rw [val_main_v23_apply, ref16]
  show _ * Ideal.rsqrt (val_main_v18 (F := Ideal) X _) = _
  rw [ref18]
  rfl

theorem ref31 (i : S8192x1024.Idx) : val_main_v31 (F := Ideal) U i = U i := by
  rw [val_main_v31_apply]
  exact congrArg U (Shape.idx_ext₂ (n := ![8192, 1024])
    (by have := (i 1).isLt; show ((i 0).val * 1024 + (i 1).val) / 1024 = (i 0).val; change (i 1).val < 1024 at this; omega)
    (by have := (i 1).isLt; show ((i 0).val * 1024 + (i 1).val) % 1024 = (i 1).val; change (i 1).val < 1024 at this; omega))

theorem ref39 (i : S8192x1024.Idx) : val_main_v39 (F := Ideal) g U i = full U (i 0) (i 1) * only g (i 1) := by
  show val_main_v31 (F := Ideal) U i * val_main_v38 (F := Ideal) g i = _
  rw [val_main_v38_apply, val_main_v25_apply, val_main_v0_apply, ref31]
  exact congrArg₂ (· * ·) (congrArg U (ix_eta i)) (congrArg g (Shape.idx_ext₂ (n := ![1, 1024]) rfl (Nat.mod_eq_of_lt (i 1).isLt)))

theorem ref45 (i : S8192x1024.Idx) : val_main_v45 (F := Ideal) X g U i = push (full X (i 0)) (only g) (full U (i 0)) (i 1) := by
  show val_main_v39 (F := Ideal) g U i * val_main_v44 (F := Ideal) X i = _
  rw [val_main_v44_apply, ref39]
  show _ * Ideal.rsqrt (val_main_v18 (F := Ideal) X _) = _
  rw [ref18]
  rfl

theorem ref51 (i : Cert.LnBwdRefIdeal.S8192x1.Idx) :
    val_main_v51 (F := Ideal) X g U i = coef (full X (i 0)) (only g) (full U (i 0)) := by
  show Ideal.div (val_main_v43 (F := Ideal) X g U i * (val_main_v21 (F := Ideal) i * Ideal.div (Ideal.rsqrt (val_main_v18 (F := Ideal) X i))
    (val_main_v18 (F := Ideal) X i))) (val_main_v50 (F := Ideal) i) = _
  rw [val_main_v43_apply, val_main_v42_apply, val_main_v21_apply, val_main_v50_apply, ref18]
  show Ideal.div ((Ideal.ofBits .f32 0x00000000#32 + ∑ k : Fin 1024, val_main_v16 (F := Ideal) X _ * val_main_v39 (F := Ideal) g U _)
    * (Ideal.ofBits .f32 0xBF000000#32 * _)) (Ideal.ofBits .f32 0x44800000#32) = _
  rw [Ideal.ofBits_zero_f32, zero_add]
  refine congrArg (fun z => Ideal.div (z * _) _) (Finset.sum_congr rfl fun k _ => ?_)
  rw [ref16, ref39]
  exact congrArg (fun r => gap (full X r) k * (full U r k * only g k))
    (Fin.ext (by have := (i 1).isLt; change (i 1).val < 1 at this; show (i 0).val * 1 + (i 1).val = (i 0).val; omega))

theorem ref54 (i : S8192x1024.Idx) : val_main_v54 (F := Ideal) X g U i
    = coef (full X (i 0)) (only g) (full U (i 0)) * (Ideal.ofBits .f32 0x40000000#32 * gap (full X (i 0)) (i 1)) := by
  show val_main_v53 (F := Ideal) X g U i * (val_main_v9 (F := Ideal) i * val_main_v7 (F := Ideal) X i) = _
  rw [val_main_v53_apply, val_main_v52_apply, val_main_v9_apply, ref7]
  show (Ideal.ofBits .f32 0x00000000#32 + ∑ k : Fin 1, val_main_v51 (F := Ideal) X g U _) * _ = _
  rw [Ideal.ofBits_zero_f32, zero_add, Fin.sum_univ_one, ref51]
  rfl

theorem ref64 (hg : ∀ i, ∃ r : ℝ, g i = r) (hU : ∀ i, ∃ r : ℝ, U i = r) : val_main_v64 (F := Ideal) X g U = G X g U := by
  funext i
  refine Eq.trans ?_ (lnGrad_eq (full X (i 0)) (only g) (full U (i 0)) (fun d => hg _) (fun d => hU _) (i 1))
  show val_main_v45 (F := Ideal) X g U i + val_main_v54 (F := Ideal) X g U i + val_main_v63 (F := Ideal) X g U i = _
  rw [ref45, ref54, val_main_v63_apply, val_main_v62_apply]
  show _ + (Ideal.ofBits .f32 0x00000000#32 + ∑ k : Fin 1, Ideal.div (val_main_v49 (F := Ideal) X g U _ + val_main_v57 (F := Ideal) X g U _)
    (val_main_v60 (F := Ideal) _)) = _
  rw [Ideal.ofBits_zero_f32, zero_add, Fin.sum_univ_one, val_main_v49_apply, val_main_v57_apply, val_main_v48_apply, val_main_v56_apply,
    val_main_v60_apply]
  show _ + Ideal.div ((Ideal.ofBits .f32 0x00000000#32 + ∑ k : Fin 1024, -(val_main_v45 (F := Ideal) X g U _))
    + (Ideal.ofBits .f32 0x00000000#32 + ∑ k : Fin 1024, -(val_main_v54 (F := Ideal) X g U _))) (Ideal.ofBits .f32 0x44800000#32) = _
  rw [Ideal.ofBits_zero_f32, zero_add, zero_add]
  refine congrArg (_ + Ideal.div · _) (congrArg₂ (· + ·) (Finset.sum_congr rfl fun k _ => congrArg Neg.neg ?_)
    (Finset.sum_congr rfl fun k _ => congrArg Neg.neg ?_))
  · rw [ref45]
    exact congrArg (fun r => push (full X r) (only g) (full U r) k) (Fin.ext (by show (i 0).val * 1 + 0 = (i 0).val; omega))
  · rw [ref54]
    exact congrArg (fun r => coef (full X r) (only g) (full U r) * (_ * gap (full X r) k)) (Fin.ext (by show (i 0).val * 1 + 0 = (i 0).val; omega))

theorem ref66 : val_main_v66 (F := Ideal) X U = H X U := by
  funext i
  rw [val_main_v66_apply, val_main_v65_apply, val_main_v40_apply]
  show Ideal.ofBits .f32 0x00000000#32 + ∑ k : Fin 1, val_main_v37 (F := Ideal) X U _ = _
  rw [Ideal.ofBits_zero_f32, zero_add, Fin.sum_univ_one, val_main_v37_apply, val_main_v36_apply]
  show Ideal.ofBits .f32 0x00000000#32 + ∑ k : Fin 8192, val_main_v24 (F := Ideal) X _ * val_main_v31 (F := Ideal) U _ = _
  rw [Ideal.ofBits_zero_f32, zero_add]
  refine Finset.sum_congr rfl fun k _ => ?_
  have e : idx_main_v36 (idx_main_v37 (idx_main_v40 (idx_main_v65 (idx_main_v66 i)) 0)) k = ix2 (n0 := 8192) (n1 := 1024) k (i 1) :=
    Shape.idx_ext₂ (n := ![8192, 1024]) rfl (by show 0 * 1024 + (i 1).val = (i 1).val; omega)
  rw [ref24, ref31, e]

theorem ref68 : val_main_v68 (F := Ideal) U = B U := by
  funext i
  rw [val_main_v68_apply, val_main_v67_apply, val_main_v34_apply]
  show Ideal.ofBits .f32 0x00000000#32 + ∑ k : Fin 1, val_main_v33 (F := Ideal) U _ = _
  rw [Ideal.ofBits_zero_f32, zero_add, Fin.sum_univ_one, val_main_v33_apply, val_main_v32_apply]
  show Ideal.ofBits .f32 0x00000000#32 + ∑ k : Fin 8192, U _ = _
  rw [Ideal.ofBits_zero_f32, zero_add]
  exact Finset.sum_congr rfl fun k _ => congrArg U (Shape.idx_ext₂ (n := ![8192, 1024]) rfl (by show 0 * 1024 + (i 1).val = (i 1).val; omega))

end Ref

/-- Where the precondition holds, the gain and the cotangent are real. -/
theorem finite_of_pre (x0 x3 : FVec Ideal S8192x1024 .f32) (x1 x2 : FVec Ideal S1x1024 .f32) :
    ((Cert.Pre_finite_ln.fn (F := Ideal) x0 x1 x2 x3).1 = (fun _ => 1#1) → ∀ i, ∃ r : ℝ, x1 i = r)
    ∧ ((Cert.Pre_finite_ln.fn (F := Ideal) x0 x1 x2 x3).2 = (fun _ => 1#1) → ∀ i, ∃ r : ℝ, x3 i = r) :=
  ⟨fun h i => real_of_cmp _ (congrFun h i), fun h i => real_of_cmp _ (congrFun h i)⟩

/-! ## The claims -/

theorem frame : Cert.quiescent_LnBwd := fun m ρ _ => Cert.LnBwd.Gen.frame m ρ
theorem frame_ideal : Cert.quiescent_LnBwdIdeal := fun m ρ _ => Cert.LnBwdIdeal.Gen.frame m ρ
theorem frame_ideal_pre : Cert.quiescent_LnBwdIdeal_pre_finite_ln := fun m ρ _ => Cert.LnBwdIdeal.Gen.frame m ρ
theorem frame_ref : Cert.quiescent_LnBwdRefIdeal := fun m ρ _ =>
  (θ_run Cert.LnBwdRefIdeal.defs _ _).mono (fun r h => ⟨fun c => (h c).2.2.2, sem_eq_zero_of_no_sems (by decide) r.2⟩)
    (Cert.LnBwdRefIdeal.Value.run (F := Ideal) m ρ)
theorem frame_ref_pre : Cert.quiescent_LnBwdRefIdeal_pre_finite_ln := fun m ρ _ => frame_ref m ρ trivial

theorem preserves : Cert.preserves_LnBwd_LnBwdIdeal := trivial

theorem algebraic : Cert.algebraic_LnBwdIdeal_LnBwdRefIdeal_pre_finite_ln := by
  intro m ρ m' ρ' hpre hagree
  refine ⟨fun c => G (X m c) (g m c) (U m c), fun c => H (X m c) (U m c), fun c => B (U m c), ?_, ?_⟩
  · exact (θ_run Cert.LnBwdIdeal.defs _ _).mono
      (fun _ h c => ⟨(h c).1.trans (final4 m c), (h c).2.1.trans (final5 m c), (h c).2.2.1.trans (final6 m c), (h c).2.2.2⟩)
      (Cert.LnBwdIdeal.Value.run_blocks (F := Ideal) m ρ)
  refine (θ_run Cert.LnBwdRefIdeal.defs _ _).mono (fun r h c => ?_) (Cert.LnBwdRefIdeal.Value.run (F := Ideal) m' ρ')
  have h1 := (h c).1.trans (val_main_v64_eq m' c)
  have h2 := (h c).2.1.trans (val_main_v66_eq _ _)
  have h3 := (h c).2.2.1.trans (val_main_v68_eq _)
  rw [(hagree c).1, (hagree c).2.1, (hagree c).2.2.2] at h1
  rw [(hagree c).1, (hagree c).2.2.2] at h2
  rw [(hagree c).2.2.2] at h3
  have hf := finite_of_pre (X m c) (U m c) (g m c) (m ((c.tc : Thread nD τ).loc main_arg2))
  exact ⟨h1.trans (ref64 (X m c) (g m c) (U m c) (hf.1 (hpre c).1) (hf.2 (hpre c).2)), h2.trans (ref66 (X m c) (U m c)),
    h3.trans (ref68 (U m c)), (h c).2.2.2⟩

end Cert.Proof.LnBwdVal

end
-- ==== Proof.LossLnVal.lean ====
/-
  The loss and the gradient of the layer normalisation that feeds it, 512 rows at a time: the loss, and the gradients by
  the gain and by the bias, are sums carried over the points; and that the four results are the derivative's lines over
  the whole arrays, at finite values, targets and gains.
-/
module

public import proofs.«01_k».proof.Defs
public import proofs.«01_k».proof.Proof.Common
public import proofs.«01_k».proof.Proof.Gen.LossLn.Frame
public import proofs.«01_k».proof.Proof.Gen.LossLnIdeal.Value
public import proofs.«01_k».proof.Proof.Gen.LossLnRefIdeal.Read
public import proofs.«01_k».proof.Proof.Gen.Pre_finite_loss
public import proofs.«01_k».proof.Proof.LnGrad
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic hiding ix1 ix2 ix3 ix4 ix5
open Idealize.ShloMosaic.TcCoe Idealize.ShloMosaic.ValueIdx Idealize.SL.Sem
open Idealize.ShloMosaic.Pipeline (Dat)
open scoped BigOperators

namespace Cert.Proof.LossLnVal

open Cert.LossLnIdeal Cert.LossLnIdeal.Gen Cert.Common Cert.LnForm

/-! ## What a point computes, at an index -/

section Pay

variable (v3 v4 v23 : Vec Ideal S512x1024 .f32) (v5 : FVec Ideal S512x1024 .f32) (v24 : Vec Ideal S1x1024 .f32)

/-- Row `r` of a block. -/
abbrev line (v : S512x1024.Idx → EReal) (r : Fin 512) (k : Fin 1024) : EReal := v (ix2 r k)
/-- The row of a one-row block. -/
abbrev only (v : S1x1024.Idx → EReal) (k : Fin 1024) : EReal := v (ix2 0 k)
/-- One over the length of a row. -/
abbrev share : EReal := Ideal.ofBits .f32 0x3A800000#32

theorem pay6_apply (r : Fin 512) (d : Fin 1024) : (show EReal from k0_pay6 v3 v4 (ix2 r d)) = line v3 r d - line v4 r d := by
  unfold k0_pay6
  pointwise

theorem pay8_apply (r : Fin 512) (d : Fin 1024) : (show EReal from k0_pay8 v23 (ix2 r d)) = gap (line v23 r) d := by
  unfold k0_pay8 gap mean
  pointwise
  rfl

theorem pay11_apply (r : Fin 512) (z : Fin 1) :
    (show EReal from k0_pay11 (k0_pay9 v23) k0_pay10 (ix2 r z)) = spread (line v23 r) := by
  unfold k0_pay11 k0_pay9 k0_pay10
  have h := pay8_apply v23 r
  generalize k0_pay8 v23 = q at h
  pointwise
  exact congrArg (Ideal.div · _ + _) (Finset.sum_congr rfl fun k _ => congrArg₂ (· * ·) (h k) (h k))

theorem pay12_apply (r : Fin 512) (z : Fin 1) :
    (show EReal from k0_pay12 (k0_pay9 v23) k0_pay10 (ix2 r z)) = Ideal.rsqrt (spread (line v23 r)) :=
  congrArg Ideal.rsqrt (pay11_apply v23 r z)

theorem pay13_apply (r : Fin 512) (d : Fin 1024) : (show EReal from k0_pay13 v5 (ix2 r d)) = line v5 r d * share := by
  unfold k0_pay13
  pointwise

theorem pay14_apply (z : Fin 1) (d : Fin 1024) : (show EReal from k0_pay14 v5 (ix2 z d)) = ∑ r, line v5 r d * share := by
  unfold k0_pay14
  have h := fun r => pay13_apply v5 r d
  generalize k0_pay13 v5 = q at h
  pointwise
  exact Finset.sum_congr rfl fun r _ => h r

theorem pay15_apply (z : Fin 1) (d : Fin 1024) :
    (show EReal from k0_pay15 v5 (k0_pay8 v23) (k0_pay9 v23) k0_pay10 (ix2 z d))
      = ∑ r, scaled (line v23 r) d * (line v5 r d * share) := by
  unfold k0_pay15
  have h := fun r => pay13_apply v5 r d
  have h8 := fun r => pay8_apply v23 r d
  have h12 := fun r => pay12_apply v23 r 0
  generalize k0_pay13 v5 = q at h
  generalize k0_pay12 (k0_pay9 v23) k0_pay10 = s at h12
  generalize k0_pay8 v23 = a at h8
  pointwise
  exact Finset.sum_congr rfl fun r _ => congrArg₂ (· * ·) (congrArg₂ (· * ·) (h8 r) (h12 r)) (h r)

theorem pay16_apply (r : Fin 512) (d : Fin 1024) :
    (show EReal from k0_pay16 v5 v24 (k0_pay8 v23) (k0_pay9 v23) k0_pay10 (ix2 r d))
      = lnGrad (line v23 r) (only v24) (fun k => line v5 r k * share) d := by
  have h13 := pay13_apply v5 r
  have h8 := pay8_apply v23 r
  have h11 := pay11_apply v23 r 0
  have h12 := pay12_apply v23 r 0
  unfold k0_pay16 lnGrad raw
  generalize k0_pay13 v5 = q at h13
  generalize k0_pay12 (k0_pay9 v23) k0_pay10 = s at h12
  generalize k0_pay11 (k0_pay9 v23) k0_pay10 = w at h11
  generalize k0_pay8 v23 = a at h8
  pointwise
  have hu : ∀ k, q (ix2 r k) * v24 (ix2 0 k) = line v5 r k * share * only v24 k := fun k => congrArg (· * _) (h13 k)
  have hb : (∑ x : Fin 1, Ideal.div ((∑ y, a (ix2 r y) * (q (ix2 r y) * v24 (ix2 0 y)))
      * (Ideal.ofBits .f32 0xBF000000#32 * Ideal.div (s (ix2 r x)) (w (ix2 r x)))) (Ideal.ofBits .f32 0x44800000#32))
      = coef (line v23 r) (only v24) (fun k => line v5 r k * share) :=
    (Fin.sum_univ_one _).trans (congrArg (Ideal.div · _) (congrArg₂ (· * ·)
      (Finset.sum_congr rfl fun k _ => congrArg₂ (· * ·) (h8 k) (hu k)) (congrArg (_ * ·) (congrArg₂ Ideal.div h12 h11))))
  have key : ∀ k, q (ix2 r k) * v24 (ix2 0 k) * s (ix2 r 0)
      + a (ix2 r k) * (∑ x : Fin 1, Ideal.div ((∑ y, a (ix2 r y) * (q (ix2 r y) * v24 (ix2 0 y)))
        * (Ideal.ofBits .f32 0xBF000000#32 * Ideal.div (s (ix2 r x)) (w (ix2 r x)))) (Ideal.ofBits .f32 0x44800000#32))
      + (∑ x : Fin 1, Ideal.div ((∑ y, a (ix2 r y) * (q (ix2 r y) * v24 (ix2 0 y)))
        * (Ideal.ofBits .f32 0xBF000000#32 * Ideal.div (s (ix2 r x)) (w (ix2 r x)))) (Ideal.ofBits .f32 0x44800000#32)) * a (ix2 r k) = _ :=
    fun k => congrArg₂ (· + ·) (congrArg₂ (· + ·) (congrArg₂ (· * ·) (hu k) h12) (congrArg₂ (· * ·) (h8 k) hb))
      (congrArg₂ (· * ·) hb (h8 k))
  exact congrArg₂ (· + ·) (key d) ((Fin.sum_univ_one _).trans
    (congrArg (Ideal.div · _) (Finset.sum_congr rfl fun k _ => congrArg (0 - ·) (key k))))

theorem pay1_apply (v50 : FVec Ideal S1x1024 .f32) (v79 : Vec Ideal S8x1024 .f32) (j : S8x1024.Idx) :
    (show EReal from k0_pay1 v50 v79 j) = (show EReal from v79 j) + only v50 (j 1) := by
  unfold k0_pay1
  pointwise
  rfl

theorem pay2_apply (v47 : FVec Ideal S1x1024 .f32) (v85 : Vec Ideal S8x1024 .f32) (j : S8x1024.Idx) :
    (show EReal from k0_pay2 v47 v85 j) = (show EReal from v85 j) + only v47 (j 1) := by
  unfold k0_pay2
  pointwise
  rfl

theorem pay7_apply (v6 : Vec Ideal S8x128 .f32) (j : S8x128.Idx) : (show EReal from k0_pay7 v3 v4 v6 j) = (show EReal from v6 j)
    + Ideal.ofBits .f32 0x3F000000#32 * ∑ r : Fin 512,
      Ideal.div (∑ k, (line v3 r k - line v4 r k) * (line v3 r k - line v4 r k)) (Ideal.ofBits .f32 0x44800000#32) := by
  unfold k0_pay7
  have h := pay6_apply v3 v4
  generalize k0_pay6 v3 v4 = q at h
  pointwise
  exact congrArg (_ + _ * ·) (Finset.sum_congr rfl fun r _ => (Fin.sum_univ_one _).trans
    (congrArg (Ideal.div · _) (Finset.sum_congr rfl fun k _ => congrArg₂ (· * ·) (h r k) (h r k))))

end Pay

/-- The mean square of a row's errors. -/
def err (a b : Fin 1024 → EReal) : EReal := Ideal.div (∑ k, (a k - b k) * (a k - b k)) (Ideal.ofBits .f32 0x44800000#32)

/-- Which block each window shows at a grid point. -/
theorem idx_facts : ∀ t : Fin grid0.N,
    win0_0.index t = ![t.val, 0] ∧ win0_1.index t = ![t.val, 0] ∧ win0_2.index t = ![t.val, 0] ∧ win0_3.index t = ![0, 0]
      ∧ win0_5.index t = ![t.val, 0] ∧ win0_6.index t = ![0, 0] ∧ win0_7.index t = ![0, 0] ∧ win0_8.index t = ![0, 0] := by
  decide +kernel

variable (m : (ℓ : Loc nD τ sig) → Buf (Elt Ideal) ℓ) (ρ : Dev nD → PrngReg)

/-- The argument arrays of device `c`. -/
abbrev Y (c : Dev nD) : S8192x1024.Idx → EReal := m ((c : Thread nD τ).loc main_arg0)
abbrev T (c : Dev nD) : S8192x1024.Idx → EReal := m ((c : Thread nD τ).loc main_arg1)
abbrev X (c : Dev nD) : S8192x1024.Idx → EReal := m ((c : Thread nD τ).loc main_arg2)
abbrev g (c : Dev nD) : S1x1024.Idx → EReal := m ((c : Thread nD τ).loc main_arg3)

/-- The cotangent of the normalised rows: the error over the row's length. -/
def U (Y T : S8192x1024.Idx → EReal) (i : S8192x1024.Idx) : EReal := (Y i - T i) * share

/-- The gradient by the normalised rows. -/
def G (X : S8192x1024.Idx → EReal) (g : S1x1024.Idx → EReal) (U : S8192x1024.Idx → EReal) (i : S8192x1024.Idx) : EReal :=
  lnGrad (fun k => X (ix2 (i 0) k)) (only g) (fun k => U (ix2 (i 0) k)) (i 1)

/-- The gradient by the gain, a column's sum, in every row of the result. -/
def H (X : S8192x1024.Idx → EReal) (U : S8192x1024.Idx → EReal) (i : S8x1024.Idx) : EReal :=
  ∑ r : Fin 8192, scaled (fun k => X (ix2 r k)) (i 1) * U (ix2 r (i 1))

/-- The gradient by the bias. -/
def B (U : S8192x1024.Idx → EReal) (i : S8x1024.Idx) : EReal := ∑ r : Fin 8192, U (ix2 r (i 1))

/-- The loss: half the sum of the rows' mean squares, in every entry of the result. -/
def L (Y T : S8192x1024.Idx → EReal) (_ : S8x128.Idx) : EReal :=
  Ideal.ofBits .f32 0x3F000000#32 * ∑ r : Fin 8192, err (fun k => Y (ix2 r k)) (fun k => T (ix2 r k))

/-- The array row that row `r` of the block at point `t` is. -/
def row (t : Fin cfg0.N) (r : Fin 512) : Fin 8192 :=
  ⟨t.val * 512 + r.val, by have h : t.val < 16 := lt_of_lt_of_eq t.isLt N_0; have := r.isLt; omega⟩

theorem blk0 (c : Dev nD) (t : Fin cfg0.N) (r : Fin 512) (k : Fin 1024) :
    (iblk m c 0 t : Vec Ideal S512x1024 .f32) (ix2 r k) = Y m c (ix2 (row t r) k) := by
  unfold iblk
  rw [View.read_apply]
  show V m c main_arg0 _ = _
  rw [V_main_arg0]
  congr 1
  refine Shape.idx_ext₂ (n := ![8192, 1024]) ?_ ?_
  · show win0_0.index t 0 * 512 + 1 * r.val = t.val * 512 + r.val
    rw [(idx_facts t).1, one_mul]; rfl
  · show win0_0.index t 1 * 1024 + 1 * k.val = k.val
    rw [(idx_facts t).1, one_mul]
    show 0 * 1024 + _ = _
    omega

theorem blk1 (c : Dev nD) (t : Fin cfg0.N) (r : Fin 512) (k : Fin 1024) :
    (iblk m c 1 t : Vec Ideal S512x1024 .f32) (ix2 r k) = T m c (ix2 (row t r) k) := by
  unfold iblk
  rw [View.read_apply]
  show V m c main_arg1 _ = _
  rw [V_main_arg1]
  congr 1
  refine Shape.idx_ext₂ (n := ![8192, 1024]) ?_ ?_
  · show win0_1.index t 0 * 512 + 1 * r.val = t.val * 512 + r.val
    rw [(idx_facts t).2.1, one_mul]; rfl
  · show win0_1.index t 1 * 1024 + 1 * k.val = k.val
    rw [(idx_facts t).2.1, one_mul]
    show 0 * 1024 + _ = _
    omega

theorem blk2 (c : Dev nD) (t : Fin cfg0.N) (r : Fin 512) (k : Fin 1024) :
    (iblk m c 2 t : Vec Ideal S512x1024 .f32) (ix2 r k) = X m c (ix2 (row t r) k) := by
  unfold iblk
  rw [View.read_apply]
  show V m c main_arg2 _ = _
  rw [V_main_arg2]
  congr 1
  refine Shape.idx_ext₂ (n := ![8192, 1024]) ?_ ?_
  · show win0_2.index t 0 * 512 + 1 * r.val = t.val * 512 + r.val
    rw [(idx_facts t).2.2.1, one_mul]; rfl
  · show win0_2.index t 1 * 1024 + 1 * k.val = k.val
    rw [(idx_facts t).2.2.1, one_mul]
    show 0 * 1024 + _ = _
    omega

theorem blk3 (c : Dev nD) (t : Fin cfg0.N) (z : Fin 1) (k : Fin 1024) :
    (iblk m c 3 t : Vec Ideal S1x1024 .f32) (ix2 z k) = g m c (ix2 z k) := by
  unfold iblk
  rw [View.read_apply]
  show V m c main_arg3 _ = _
  rw [V_main_arg3]
  congr 1
  refine Shape.idx_ext₂ (n := ![1, 1024]) ?_ ?_
  · show win0_3.index t 0 * 1 + 1 * z.val = z.val
    rw [(idx_facts t).2.2.2.1, one_mul]
    show 0 * 1 + _ = _
    omega
  · show win0_3.index t 1 * 1024 + 1 * k.val = k.val
    rw [(idx_facts t).2.2.2.1, one_mul]
    show 0 * 1024 + _ = _
    omega

theorem errs (c : Dev nD) (t : Fin cfg0.N) (r : Fin 512) (k : Fin 1024) :
    line (k0_pay6 (iblk m c 0 t) (iblk m c 1 t)) r k * share = U (Y m c) (T m c) (ix2 (row t r) k) :=
  congrArg (· * share) ((pay6_apply (iblk m c 0 t) (iblk m c 1 t) r k).trans (congrArg₂ (· - ·) (blk0 m c t r k) (blk1 m c t r k)))

/-- The gradient of a block's rows. -/
theorem rows_eq (c : Dev nD) (t : Fin cfg0.N) (y : S512x1024.Idx) :
    (show EReal from k0_pay16 (k0_pay6 (iblk m c 0 t) (iblk m c 1 t)) (iblk m c 3 t) (k0_pay8 (iblk m c 2 t))
        (k0_pay9 (iblk m c 2 t)) k0_pay10 y)
      = G (X m c) (g m c) (U (Y m c) (T m c)) ((win0_5.blk t).view.emb y) := by
  have hy : y = ix2 (n0 := 512) (n1 := 1024) (y 0) (y 1) := Shape.idx_ext₂ (n := ![512, 1024]) rfl rfl
  have ha : (win0_5.blk t).view.emb y = ix2 (row t (y 0)) (y 1) := by
    refine Shape.idx_ext₂ (n := ![8192, 1024]) ?_ ?_
    · show win0_5.index t 0 * 512 + 1 * (y 0).val = t.val * 512 + (y 0).val
      rw [(idx_facts t).2.2.2.2.1, one_mul]; rfl
    · show win0_5.index t 1 * 1024 + 1 * (y 1).val = (y 1).val
      rw [(idx_facts t).2.2.2.2.1, one_mul]
      show 0 * 1024 + _ = _
      omega
  rw [ha]
  refine (congrArg (k0_pay16 _ _ _ _ k0_pay10) hy).trans ((pay16_apply (iblk m c 2 t) (k0_pay6 (iblk m c 0 t) (iblk m c 1 t)) (iblk m c 3 t) (y 0) (y 1)).trans ?_)
  exact congr (congr (congr (congrArg lnGrad (funext (blk2 m c t (y 0)))) (funext (blk3 m c t 0))) (funext (errs m c t (y 0)))) rfl

theorem out5_eq (c : Dev nD) (t : Fin cfg0.N) (y : S512x1024.Idx) :
    (show EReal from (outsAt0 m c t.val t.isLt).1 y) = G (X m c) (g m c) (U (Y m c) (T m c)) ((win0_5.blk t).view.emb y) := by
  by_cases h : t.val % 16 = 0
  · rw [outsAt0_A m c t h]
    frame_out
    exact rows_eq m c t y
  · rw [outsAt0_B m c t h]
    frame_out
    exact rows_eq m c t y

theorem final5 (c : Dev nD) : (dats m 0 c).arrAt 5 cfg0.N = G (X m c) (g m c) (U (Y m c) (T m c)) := by
  refine (dats m 0 c).arrAt_eq_of_covers 5 _ (by decide +kernel) fun t hf y => ?_
  blk_simp
  rw [after0_5]
  exact out5_eq m c t y

/-- What one point adds to the gain's gradient. -/
def part6 (c : Dev nD) (n : ℕ) (h : n < cfg0.N) (j : S8x1024.Idx) : EReal :=
  ∑ r : Fin 512, scaled (fun k => X m c (ix2 (row ⟨n, h⟩ r) k)) (j 1) * U (Y m c) (T m c) (ix2 (row ⟨n, h⟩ r) (j 1))

/-- What one point adds to the bias's gradient. -/
def part7 (c : Dev nD) (n : ℕ) (h : n < cfg0.N) (j : S8x1024.Idx) : EReal := ∑ r : Fin 512, U (Y m c) (T m c) (ix2 (row ⟨n, h⟩ r) (j 1))

theorem add6 (c : Dev nD) (n : ℕ) (h : n < cfg0.N) (d : Fin 1024) (j : S8x1024.Idx) (hd : d = j 1) :
    only (k0_pay15 (k0_pay6 (iblk m c 0 ⟨n, h⟩) (iblk m c 1 ⟨n, h⟩)) (k0_pay8 (iblk m c 2 ⟨n, h⟩)) (k0_pay9 (iblk m c 2 ⟨n, h⟩)) k0_pay10) d = part6 m c n h j := by
  subst hd
  exact (pay15_apply _ _ 0 _).trans (Finset.sum_congr rfl fun r _ =>
    congrArg₂ (· * ·) (congrArg (scaled · (j 1)) (funext (blk2 m c ⟨n, h⟩ r))) (errs m c ⟨n, h⟩ r (j 1)))

theorem add7 (c : Dev nD) (n : ℕ) (h : n < cfg0.N) (d : Fin 1024) (j : S8x1024.Idx) (hd : d = j 1) :
    only (k0_pay14 (k0_pay6 (iblk m c 0 ⟨n, h⟩) (iblk m c 1 ⟨n, h⟩))) d = part7 m c n h j := by
  subst hd
  exact (pay14_apply _ 0 _).trans (Finset.sum_congr rfl fun r _ => errs m c ⟨n, h⟩ r (j 1))

/-- What one point adds to the loss. -/
def part8 (c : Dev nD) (n : ℕ) (h : n < cfg0.N) (_ : S8x128.Idx) : EReal :=
  Ideal.ofBits .f32 0x3F000000#32
    * ∑ r : Fin 512, err (fun k => Y m c (ix2 (row ⟨n, h⟩ r) k)) (fun k => T m c (ix2 (row ⟨n, h⟩ r) k))

theorem add8 (c : Dev nD) (n : ℕ) (h : n < cfg0.N) (j : S8x128.Idx) :
    Ideal.ofBits .f32 0x3F000000#32 * ∑ r : Fin 512, err (line (iblk m c 0 ⟨n, h⟩) r) (line (iblk m c 1 ⟨n, h⟩) r) = part8 m c n h j :=
  congrArg (_ * ·) (Finset.sum_congr rfl fun r _ => congrArg₂ err (funext (blk0 m c ⟨n, h⟩ r)) (funext (blk1 m c ⟨n, h⟩ r)))

theorem run6 (c : Dev nD) (t : Fin cfg0.N) (ht : t.val % 16 = 15) (j : S8x1024.Idx) :
    (show EReal from (outsAt0 m c t.val t.isLt).2.1 j) = ∑ s : Fin 16, part6 m c (16 * (t.val / 16) + s.val) (by
      have h1 := Nat.div_add_mod t.val 16; have h2 := s.isLt; have h3 := t.isLt; omega) j := by
  have step : ∀ n (h : n < cfg0.N) (j : S8x1024.Idx), ¬n % 16 = 0 → (show EReal from (outsAt0 m c n h).2.1 j)
      = (show EReal from (outsAt0 m c (n - 1) (lt_of_le_of_lt (Nat.sub_le n 1) h)).2.1 j) + part6 m c n h j := by
    intro n h j h0
    rw [outsAt0_B m c ⟨n, h⟩ h0]
    frame_out
    refine (pay1_apply _ _ j).trans (congrArg₂ (· + ·) ?_ (add6 m c n h _ j rfl))
    rfl
  refine sum_of_run 16 (by decide) (fun n h => (outsAt0 m c n h).2.1) (fun n h => (outsAt0 m c n h).2.1) (part6 m c) ?_ ?_ ?_
    t.val t.isLt j ht
  · intro n h j h0
    rw [outsAt0_A m c ⟨n, h⟩ h0]
    frame_out
    refine (pay1_apply _ _ j).trans ((congrArg₂ (· + ·) ?_ (add6 m c n h _ j rfl)).trans (zero_add _))
    exact Ideal.ofBits_zero_f32
  · exact fun n h j h1 => step n h j (by omega)
  · exact fun n h j h1 => step n h j (by omega)

theorem run7 (c : Dev nD) (t : Fin cfg0.N) (ht : t.val % 16 = 15) (j : S8x1024.Idx) :
    (show EReal from (outsAt0 m c t.val t.isLt).2.2.1 j) = ∑ s : Fin 16, part7 m c (16 * (t.val / 16) + s.val) (by
      have h1 := Nat.div_add_mod t.val 16; have h2 := s.isLt; have h3 := t.isLt; omega) j := by
  have step : ∀ n (h : n < cfg0.N) (j : S8x1024.Idx), ¬n % 16 = 0 → (show EReal from (outsAt0 m c n h).2.2.1 j)
      = (show EReal from (outsAt0 m c (n - 1) (lt_of_le_of_lt (Nat.sub_le n 1) h)).2.2.1 j) + part7 m c n h j := by
    intro n h j h0
    rw [outsAt0_B m c ⟨n, h⟩ h0]
    frame_out
    refine (pay2_apply _ _ j).trans (congrArg₂ (· + ·) ?_ (add7 m c n h _ j rfl))
    rfl
  refine sum_of_run 16 (by decide) (fun n h => (outsAt0 m c n h).2.2.1) (fun n h => (outsAt0 m c n h).2.2.1) (part7 m c) ?_ ?_ ?_
    t.val t.isLt j ht
  · intro n h j h0
    rw [outsAt0_A m c ⟨n, h⟩ h0]
    frame_out
    refine (pay2_apply _ _ j).trans ((congrArg₂ (· + ·) ?_ (add7 m c n h _ j rfl)).trans (zero_add _))
    exact Ideal.ofBits_zero_f32
  · exact fun n h j h1 => step n h j (by omega)
  · exact fun n h j h1 => step n h j (by omega)

theorem run8 (c : Dev nD) (t : Fin cfg0.N) (ht : t.val % 16 = 15) (j : S8x128.Idx) :
    (show EReal from (outsAt0 m c t.val t.isLt).2.2.2 j) = ∑ s : Fin 16, part8 m c (16 * (t.val / 16) + s.val) (by
      have h1 := Nat.div_add_mod t.val 16; have h2 := s.isLt; have h3 := t.isLt; omega) j := by
  have step : ∀ n (h : n < cfg0.N) (j : S8x128.Idx), ¬n % 16 = 0 → (show EReal from (outsAt0 m c n h).2.2.2 j)
      = (show EReal from (outsAt0 m c (n - 1) (lt_of_le_of_lt (Nat.sub_le n 1) h)).2.2.2 j) + part8 m c n h j := by
    intro n h j h0
    rw [outsAt0_B m c ⟨n, h⟩ h0]
    frame_out
    refine (pay7_apply _ _ _ j).trans (congrArg₂ (· + ·) ?_ (add8 m c n h j))
    rfl
  refine sum_of_run 16 (by decide) (fun n h => (outsAt0 m c n h).2.2.2) (fun n h => (outsAt0 m c n h).2.2.2) (part8 m c) ?_ ?_ ?_
    t.val t.isLt j ht
  · intro n h j h0
    rw [outsAt0_A m c ⟨n, h⟩ h0]
    frame_out
    refine (pay7_apply _ _ _ j).trans ((congrArg₂ (· + ·) ?_ (add8 m c n h j)).trans (zero_add _))
    exact Ideal.ofBits_zero_f32
  · exact fun n h j h1 => step n h j (by omega)
  · exact fun n h j h1 => step n h j (by omega)

theorem final6 (c : Dev nD) : (dats m 0 c).arrAt 6 cfg0.N = H (X m c) (U (Y m c) (T m c)) := by
  refine (dats m 0 c).arrAt_eq_of_covers 6 _ (by decide +kernel) fun t hf y => ?_
  have ht : t.val % 16 = 15 := (flush0_6 t).mp hf
  have hN : t.val < 16 := lt_of_lt_of_eq t.isLt N_0
  have hy : ((win0_6.blk t).view.emb y) 1 = y 1 := by
    refine Fin.ext ?_
    show win0_6.index t 1 * 1024 + 1 * (y 1).val = (y 1).val
    rw [(idx_facts t).2.2.2.2.2.1, one_mul]
    show 0 * 1024 + _ = _
    omega
  blk_simp
  rw [after0_6]
  refine (run6 m c t ht y).trans ?_
  unfold H part6
  rw [hy]
  refine Fin.sum_mul_add_congr fun s k hl => ?_
  have e : row ⟨16 * (t.val / 16) + s.val, lt_of_lt_of_eq (by have := s.isLt; omega) N_0.symm⟩ k = ⟨s.val * 512 + k.val, hl⟩ :=
    Fin.ext (by show (16 * (t.val / 16) + s.val) * 512 + k.val = _; dsimp only; omega)
  rw [e]

theorem final7 (c : Dev nD) : (dats m 0 c).arrAt 7 cfg0.N = B (U (Y m c) (T m c)) := by
  refine (dats m 0 c).arrAt_eq_of_covers 7 _ (by decide +kernel) fun t hf y => ?_
  have ht : t.val % 16 = 15 := (flush0_7 t).mp hf
  have hN : t.val < 16 := lt_of_lt_of_eq t.isLt N_0
  have hy : ((win0_7.blk t).view.emb y) 1 = y 1 := by
    refine Fin.ext ?_
    show win0_7.index t 1 * 1024 + 1 * (y 1).val = (y 1).val
    rw [(idx_facts t).2.2.2.2.2.2.1, one_mul]
    show 0 * 1024 + _ = _
    omega
  blk_simp
  rw [after0_7]
  refine (run7 m c t ht y).trans ?_
  unfold B part7
  rw [hy]
  refine Fin.sum_mul_add_congr fun s k hl => ?_
  have e : row ⟨16 * (t.val / 16) + s.val, lt_of_lt_of_eq (by have := s.isLt; omega) N_0.symm⟩ k = ⟨s.val * 512 + k.val, hl⟩ :=
    Fin.ext (by show (16 * (t.val / 16) + s.val) * 512 + k.val = _; dsimp only; omega)
  rw [e]

theorem half_mul_sum {ι : Type} (s : Finset ι) (f : ι → EReal) :
    Ideal.ofBits .f32 0x3F000000#32 * ∑ i ∈ s, f i = ∑ i ∈ s, Ideal.ofBits .f32 0x3F000000#32 * f i := by
  classical
  rw [half_f32]
  induction s using Finset.induction_on with
  | empty => simp
  | insert a s ha ih =>
    rw [Finset.sum_insert ha, Finset.sum_insert ha, ← ih]
    exact EReal.left_distrib_of_nonneg_of_ne_top (EReal.coe_nonneg.mpr (by norm_num)) (EReal.coe_ne_top _) _ _

theorem final8 (c : Dev nD) : (dats m 0 c).arrAt 8 cfg0.N = L (Y m c) (T m c) := by
  refine (dats m 0 c).arrAt_eq_of_covers 8 _ (by decide +kernel) fun t hf y => ?_
  have ht : t.val % 16 = 15 := (flush0_8 t).mp hf
  have hN : t.val < 16 := lt_of_lt_of_eq t.isLt N_0
  blk_simp
  rw [after0_8]
  refine (run8 m c t ht y).trans ?_
  unfold L part8
  rw [← half_mul_sum]
  refine congrArg (_ * ·) (Fin.sum_mul_add_congr fun s k hl => ?_)
  have e : row ⟨16 * (t.val / 16) + s.val, lt_of_lt_of_eq (by have := s.isLt; omega) N_0.symm⟩ k = ⟨s.val * 512 + k.val, hl⟩ :=
    Fin.ext (by show (16 * (t.val / 16) + s.val) * 512 + k.val = _; dsimp only; omega)
  rw [e]

/-! ## The reference -/

open Cert.LossLnRefIdeal.Read

theorem share_real : share = ((1 / 1024 : ℝ) : EReal) := by
  simp [share, Ideal.ofBits, Ideal.ieee]
  rw [← EReal.coe_mul]
  norm_num

theorem one_f32 : Ideal.ofBits .f32 0x3F800000#32 = 1 := Ideal.ofBits_one_f32

theorem share_eq : Ideal.div (Ideal.ofBits .f32 0x3F000000#32 * Ideal.ofBits .f32 0x3F800000#32) (Ideal.ofBits .f32 0x44800000#32)
    * Ideal.ofBits .f32 0x40000000#32 = share := by
  rw [share_real, Ideal.ofBits_one_f32, half_f32, two_f32, length_f32, mul_one, Ideal.div, if_neg (by norm_num), ← EReal.coe_inv, ← EReal.coe_mul, ← EReal.coe_mul]
  norm_num

section Ref

variable (Y T X : S8192x1024.Idx → EReal) (g : S1x1024.Idx → EReal)

/-- A row of an array. -/
abbrev full (A : S8192x1024.Idx → EReal) (r : Fin 8192) (k : Fin 1024) : EReal := A (ix2 r k)

theorem ix_eta (i : S8192x1024.Idx) : i = ix2 (n0 := 8192) (n1 := 1024) (i 0) (i 1) := Shape.idx_ext₂ (n := ![8192, 1024]) rfl rfl

theorem ref20 (i : Cert.LossLnRefIdeal.S8192x1.Idx) : val_main_v20 (F := Ideal) X i = mean (full X (i 0)) := by
  show Ideal.div (val_main_v18 (F := Ideal) X i) (val_main_v19 (F := Ideal) i) = _
  rw [val_main_v18_apply, val_main_v19_apply, val_main_v17_apply]
  show Ideal.div (Ideal.ofBits .f32 0x00000000#32 + ∑ k : Fin 1024, X _) (Ideal.ofBits .f32 0x44800000#32) = _
  rw [Ideal.ofBits_zero_f32, zero_add]
  exact congrArg (Ideal.div · _) (Finset.sum_congr rfl fun k _ => congrArg X (Shape.idx_ext₂ (n := ![8192, 1024]) rfl rfl))

theorem ref22 (i : S8192x1024.Idx) : val_main_v22 (F := Ideal) X i = gap (full X (i 0)) (i 1) := by
  show X i - val_main_v21 (F := Ideal) X i = _
  rw [val_main_v21_apply, ref20]
  exact congrArg (X · - _) (ix_eta i)

theorem ref31 (i : S8192x1024.Idx) : val_main_v31 (F := Ideal) X i = gap (full X (i 0)) (i 1) := by
  show X i - val_main_v30 (F := Ideal) X i = _
  rw [val_main_v30_apply, ref20]
  exact congrArg (X · - _) (ix_eta i)

theorem ref33 (i : Cert.LossLnRefIdeal.S8192x1.Idx) : val_main_v33 (F := Ideal) X i = spread (full X (i 0)) := by
  show Ideal.div (val_main_v27 (F := Ideal) X i) (val_main_v28 (F := Ideal) i) + val_main_v32 (F := Ideal) i = _
  rw [val_main_v27_apply, val_main_v28_apply, val_main_v32_apply, val_main_v26_apply]
  show Ideal.div (Ideal.ofBits .f32 0x00000000#32 + ∑ k : Fin 1024, val_main_v22 (F := Ideal) X _ * val_main_v22 (F := Ideal) X _)
    (Ideal.ofBits .f32 0x44800000#32) + Ideal.ofBits .f32 0x3727C5AC#32 = _
  rw [Ideal.ofBits_zero_f32, zero_add]
  refine congrArg (Ideal.div · _ + _) (Finset.sum_congr rfl fun k _ => ?_)
  rw [ref22]
  rfl

theorem ref39 (i : S8192x1024.Idx) : val_main_v39 (F := Ideal) X i = scaled (full X (i 0)) (i 1) := by
  show val_main_v31 (F := Ideal) X i * val_main_v38 (F := Ideal) X i = _
  rw [val_main_v38_apply, ref31]
  show _ * Ideal.rsqrt (val_main_v33 (F := Ideal) X _) = _
  rw [ref33]
  rfl

theorem ref14 (i : S8192x1024.Idx) : val_main_v14 (F := Ideal) Y T i = U Y T i := by
  show val_main_v13 (F := Ideal) i * (val_main_v2 (F := Ideal) i * (Y i - T i)) = _
  rw [val_main_v13_apply, val_main_v2_apply]
  show Ideal.div (val_main_v10 (F := Ideal) _) (val_main_v11 (F := Ideal) _) * _ = _
  rw [val_main_v10_apply, val_main_v11_apply]
  show Ideal.div (Ideal.ofBits .f32 0x3F000000#32 * Ideal.ofBits .f32 0x3F800000#32) (Ideal.ofBits .f32 0x44800000#32)
    * (Ideal.ofBits .f32 0x40000000#32 * (Y i - T i)) = (Y i - T i) * share
  rw [← mul_assoc, share_eq, mul_comm]

theorem ref6 (j : Cert.LossLnRefIdeal.S8192.Idx) :
    val_main_v6 (F := Ideal) Y T j = err (full Y (j 0)) (full T (j 0)) := by
  show Ideal.div (val_main_v4 (F := Ideal) Y T j) (val_main_v5 (F := Ideal) j) = _
  rw [val_main_v4_apply, val_main_v5_apply]
  show Ideal.div (Ideal.ofBits .f32 0x00000000#32 + ∑ k : Fin 1024, (Y _ - T _) * (Y _ - T _)) (Ideal.ofBits .f32 0x44800000#32) = _
  rw [Ideal.ofBits_zero_f32, zero_add]
  refine congrArg (Ideal.div · _) (Finset.sum_congr rfl fun k _ => ?_)
  rw [show idx_main_v4 j k = ix2 (n0 := 8192) (n1 := 1024) (j 0) k from Shape.idx_ext₂ (n := ![8192, 1024]) rfl rfl]

theorem ref84 : val_main_v84 (F := Ideal) Y T = L Y T := by
  funext i
  rw [val_main_v84_apply]
  refine (congrArg (Ideal.ofBits .f32 0x3F000000#32 * ·) (val_main_v7_apply Y T _)).trans (congrArg (_ * ·) ?_)
  refine (congrArg (· + _) Ideal.ofBits_zero_f32).trans ((zero_add _).trans ?_)
  exact (Finset.sum_congr rfl fun j _ => ref6 Y T j).trans (Fin.sum_idx1 ![8192] fun r => err (full Y r) (full T r))

theorem ref46 (i : S8192x1024.Idx) : val_main_v46 (F := Ideal) Y T i = U Y T i := by
  rw [val_main_v46_apply, ref14]
  exact congrArg (U Y T) (Shape.idx_ext₂ (n := ![8192, 1024])
    (by have := (i 1).isLt; show ((i 0).val * 1024 + (i 1).val) / 1024 = (i 0).val; change (i 1).val < 1024 at this; omega)
    (by have := (i 1).isLt; show ((i 0).val * 1024 + (i 1).val) % 1024 = (i 1).val; change (i 1).val < 1024 at this; omega))

theorem ref54 (i : S8192x1024.Idx) : val_main_v54 (F := Ideal) Y T g i = full (U Y T) (i 0) (i 1) * only g (i 1) := by
  show val_main_v46 (F := Ideal) Y T i * val_main_v53 (F := Ideal) g i = _
  rw [val_main_v53_apply, val_main_v40_apply, val_main_v15_apply, ref46]
  exact congrArg₂ (· * ·) (congrArg (U Y T) (ix_eta i)) (congrArg g (Shape.idx_ext₂ (n := ![1, 1024]) rfl (Nat.mod_eq_of_lt (i 1).isLt)))

theorem ref60 (i : S8192x1024.Idx) : val_main_v60 (F := Ideal) Y T X g i = push (full X (i 0)) (only g) (full (U Y T) (i 0)) (i 1) := by
  show val_main_v54 (F := Ideal) Y T g i * val_main_v59 (F := Ideal) X i = _
  rw [val_main_v59_apply, ref54]
  show _ * Ideal.rsqrt (val_main_v33 (F := Ideal) X _) = _
  rw [ref33]
  rfl

theorem ref66 (i : Cert.LossLnRefIdeal.S8192x1.Idx) :
    val_main_v66 (F := Ideal) Y T X g i = coef (full X (i 0)) (only g) (full (U Y T) (i 0)) := by
  show Ideal.div (val_main_v58 (F := Ideal) Y T X g i * (val_main_v36 (F := Ideal) i * Ideal.div (Ideal.rsqrt (val_main_v33 (F := Ideal) X i))
    (val_main_v33 (F := Ideal) X i))) (val_main_v65 (F := Ideal) i) = _
  rw [val_main_v58_apply, val_main_v57_apply, val_main_v36_apply, val_main_v65_apply, ref33]
  show Ideal.div ((Ideal.ofBits .f32 0x00000000#32 + ∑ k : Fin 1024, val_main_v31 (F := Ideal) X _ * val_main_v54 (F := Ideal) Y T g _)
    * (Ideal.ofBits .f32 0xBF000000#32 * _)) (Ideal.ofBits .f32 0x44800000#32) = _
  rw [Ideal.ofBits_zero_f32, zero_add]
  refine congrArg (fun z => Ideal.div (z * _) _) (Finset.sum_congr rfl fun k _ => ?_)
  rw [ref31, ref54]
  exact congrArg (fun r => gap (full X r) k * (full (U Y T) r k * only g k))
    (Fin.ext (by have := (i 1).isLt; change (i 1).val < 1 at this; show (i 0).val * 1 + (i 1).val = (i 0).val; omega))

theorem ref69 (i : S8192x1024.Idx) : val_main_v69 (F := Ideal) Y T X g i
    = coef (full X (i 0)) (only g) (full (U Y T) (i 0)) * (Ideal.ofBits .f32 0x40000000#32 * gap (full X (i 0)) (i 1)) := by
  show val_main_v68 (F := Ideal) Y T X g i * (val_main_v24 (F := Ideal) i * val_main_v22 (F := Ideal) X i) = _
  rw [val_main_v68_apply, val_main_v67_apply, val_main_v24_apply, ref22]
  show (Ideal.ofBits .f32 0x00000000#32 + ∑ k : Fin 1, val_main_v66 (F := Ideal) Y T X g _) * _ = _
  rw [Ideal.ofBits_zero_f32, zero_add, Fin.sum_univ_one, ref66]
  rfl

theorem ref79 (hg : ∀ i, ∃ r : ℝ, g i = r) (hU : ∀ i, ∃ r : ℝ, U Y T i = r) : val_main_v79 (F := Ideal) Y T X g = G X g (U Y T) := by
  funext i
  refine Eq.trans ?_ (lnGrad_eq (full X (i 0)) (only g) (full (U Y T) (i 0)) (fun d => hg _) (fun d => hU _) (i 1))
  show val_main_v60 (F := Ideal) Y T X g i + val_main_v69 (F := Ideal) Y T X g i + val_main_v78 (F := Ideal) Y T X g i = _
  rw [ref60, ref69, val_main_v78_apply, val_main_v77_apply]
  show _ + (Ideal.ofBits .f32 0x00000000#32 + ∑ k : Fin 1, Ideal.div (val_main_v64 (F := Ideal) Y T X g _ + val_main_v72 (F := Ideal) Y T X g _)
    (val_main_v75 (F := Ideal) _)) = _
  rw [Ideal.ofBits_zero_f32, zero_add, Fin.sum_univ_one, val_main_v64_apply, val_main_v72_apply, val_main_v63_apply, val_main_v71_apply,
    val_main_v75_apply]
  show _ + Ideal.div ((Ideal.ofBits .f32 0x00000000#32 + ∑ k : Fin 1024, -(val_main_v60 (F := Ideal) Y T X g _))
    + (Ideal.ofBits .f32 0x00000000#32 + ∑ k : Fin 1024, -(val_main_v69 (F := Ideal) Y T X g _))) (Ideal.ofBits .f32 0x44800000#32) = _
  rw [Ideal.ofBits_zero_f32, zero_add, zero_add]
  refine congrArg (_ + Ideal.div · _) (congrArg₂ (· + ·) (Finset.sum_congr rfl fun k _ => congrArg Neg.neg ?_)
    (Finset.sum_congr rfl fun k _ => congrArg Neg.neg ?_))
  · rw [ref60]
    exact congrArg (fun r => push (full X r) (only g) (full (U Y T) r) k) (Fin.ext (by show (i 0).val * 1 + 0 = (i 0).val; omega))
  · rw [ref69]
    exact congrArg (fun r => coef (full X r) (only g) (full (U Y T) r) * (_ * gap (full X r) k)) (Fin.ext (by show (i 0).val * 1 + 0 = (i 0).val; omega))

theorem ref81 : val_main_v81 (F := Ideal) Y T X = H X (U Y T) := by
  funext i
  rw [val_main_v81_apply, val_main_v80_apply, val_main_v55_apply]
  show Ideal.ofBits .f32 0x00000000#32 + ∑ k : Fin 1, val_main_v52 (F := Ideal) Y T X _ = _
  rw [Ideal.ofBits_zero_f32, zero_add, Fin.sum_univ_one, val_main_v52_apply, val_main_v51_apply]
  show Ideal.ofBits .f32 0x00000000#32 + ∑ k : Fin 8192, val_main_v39 (F := Ideal) X _ * val_main_v46 (F := Ideal) Y T _ = _
  rw [Ideal.ofBits_zero_f32, zero_add]
  refine Finset.sum_congr rfl fun k _ => ?_
  have e : idx_main_v51 (idx_main_v52 (idx_main_v55 (idx_main_v80 (idx_main_v81 i)) 0)) k = ix2 (n0 := 8192) (n1 := 1024) k (i 1) :=
    Shape.idx_ext₂ (n := ![8192, 1024]) rfl (by show 0 * 1024 + (i 1).val = (i 1).val; omega)
  rw [ref39, ref46, e]

theorem ref83 : val_main_v83 (F := Ideal) Y T = B (U Y T) := by
  funext i
  rw [val_main_v83_apply, val_main_v82_apply, val_main_v49_apply]
  show Ideal.ofBits .f32 0x00000000#32 + ∑ k : Fin 1, val_main_v48 (F := Ideal) Y T _ = _
  rw [Ideal.ofBits_zero_f32, zero_add, Fin.sum_univ_one, val_main_v48_apply, val_main_v47_apply]
  show Ideal.ofBits .f32 0x00000000#32 + ∑ k : Fin 8192, val_main_v14 (F := Ideal) Y T _ = _
  rw [Ideal.ofBits_zero_f32, zero_add]
  exact Finset.sum_congr rfl fun k _ => (ref14 Y T _).trans (congrArg (U Y T) (Shape.idx_ext₂ (n := ![8192, 1024]) rfl (by show 0 * 1024 + (i 1).val = (i 1).val; omega)))

end Ref

/-- Where the precondition holds, the values, the targets and the gain are real. -/
theorem finite_of_pre (x0 x1 x2 : FVec Ideal S8192x1024 .f32) (x3 x4 : FVec Ideal S1x1024 .f32) :
    ((Cert.Pre_finite_loss.fn (F := Ideal) x0 x1 x2 x3 x4).1 = (fun _ => 1#1) → ∀ i, ∃ r : ℝ, x0 i = r)
    ∧ ((Cert.Pre_finite_loss.fn (F := Ideal) x0 x1 x2 x3 x4).2.1 = (fun _ => 1#1) → ∀ i, ∃ r : ℝ, x1 i = r)
    ∧ ((Cert.Pre_finite_loss.fn (F := Ideal) x0 x1 x2 x3 x4).2.2 = (fun _ => 1#1) → ∀ i, ∃ r : ℝ, x3 i = r) :=
  ⟨fun h i => real_of_cmp _ (congrFun h i), fun h i => real_of_cmp _ (congrFun h i), fun h i => real_of_cmp _ (congrFun h i)⟩

theorem U_real (Y T : S8192x1024.Idx → EReal) (hY : ∀ i, ∃ r : ℝ, Y i = r) (hT : ∀ i, ∃ r : ℝ, T i = r) (i : S8192x1024.Idx) :
    ∃ r : ℝ, U Y T i = r := by
  obtain ⟨a, ha⟩ := hY i
  obtain ⟨b, hb⟩ := hT i
  refine ⟨(a - b) * (1 / 1024), ?_⟩
  rw [U, ha, hb, share_real, EReal.coe_mul, EReal.coe_sub]

/-! ## The claims -/

theorem frame : Cert.quiescent_LossLn := fun m ρ _ => Cert.LossLn.Gen.frame m ρ
theorem frame_ideal : Cert.quiescent_LossLnIdeal := fun m ρ _ => Cert.LossLnIdeal.Gen.frame m ρ
theorem frame_ideal_pre : Cert.quiescent_LossLnIdeal_pre_finite_loss := fun m ρ _ => Cert.LossLnIdeal.Gen.frame m ρ
theorem frame_ref : Cert.quiescent_LossLnRefIdeal := fun m ρ _ =>
  (θ_run Cert.LossLnRefIdeal.defs _ _).mono (fun r h => ⟨fun c => (h c).2.2.2.2, sem_eq_zero_of_no_sems (by decide) r.2⟩)
    (Cert.LossLnRefIdeal.Value.run (F := Ideal) m ρ)
theorem frame_ref_pre : Cert.quiescent_LossLnRefIdeal_pre_finite_loss := fun m ρ _ => frame_ref m ρ trivial

theorem preserves : Cert.preserves_LossLn_LossLnIdeal := trivial

theorem algebraic : Cert.algebraic_LossLnIdeal_LossLnRefIdeal_pre_finite_loss := by
  intro m ρ m' ρ' hpre hagree
  refine ⟨fun c => G (X m c) (g m c) (U (Y m c) (T m c)), fun c => H (X m c) (U (Y m c) (T m c)), fun c => B (U (Y m c) (T m c)),
    fun c => L (Y m c) (T m c), ?_, ?_⟩
  · exact (θ_run Cert.LossLnIdeal.defs _ _).mono
      (fun _ h c => ⟨(h c).1.trans (final5 m c), (h c).2.1.trans (final6 m c), (h c).2.2.1.trans (final7 m c),
        (h c).2.2.2.1.trans (final8 m c), (h c).2.2.2.2⟩)
      (Cert.LossLnIdeal.Value.run_blocks (F := Ideal) m ρ)
  refine (θ_run Cert.LossLnRefIdeal.defs _ _).mono (fun r h c => ?_) (Cert.LossLnRefIdeal.Value.run (F := Ideal) m' ρ')
  have h1 := (h c).1.trans (val_main_v79_eq m' c)
  have h2 := (h c).2.1.trans (val_main_v81_eq _ _ _)
  have h3 := (h c).2.2.1.trans (val_main_v83_eq _ _)
  have h4 := (h c).2.2.2.1.trans (val_main_v84_eq _ _)
  rw [(hagree c).1, (hagree c).2.1, (hagree c).2.2.1, (hagree c).2.2.2.1] at h1
  rw [(hagree c).1, (hagree c).2.1, (hagree c).2.2.1] at h2
  rw [(hagree c).1, (hagree c).2.1] at h3 h4
  have hf := finite_of_pre (Y m c) (T m c) (X m c) (g m c) (m ((c.tc : Thread nD τ).loc main_arg4))
  exact ⟨h1.trans (ref79 (Y m c) (T m c) (X m c) (g m c) (hf.2.2 (hpre c).2.2)
      (U_real _ _ (hf.1 (hpre c).1) (hf.2.1 (hpre c).2.1))),
    h2.trans (ref81 (Y m c) (T m c) (X m c)), h3.trans (ref83 (Y m c) (T m c)), h4.trans (ref84 (Y m c) (T m c)), (h c).2.2.2.2⟩

end Cert.Proof.LossLnVal

end
-- ==== Proof.ConvBwdVal.lean ====
/-
  The gradient of the causal convolution: a row's gradient is the sum of four shifted rows of the cotangent, each times its tap. The kernel
  takes 256 rows at a time with the next 16, and writes the first 3072 columns of an array whose other columns it leaves as they were.
-/
module

public import proofs.«01_k».proof.Defs
public import proofs.«01_k».proof.Proof.Common
public import proofs.«01_k».proof.Proof.Gen.ConvBwd.Frame
public import proofs.«01_k».proof.Proof.Gen.ConvBwdIdeal.Value
public import proofs.«01_k».proof.Proof.Gen.ConvBwdRefIdeal.Read
public import Idealize.ShloMosaic.Lib.KernelVsHost
public import Idealize.ShloMosaic.Lib.Pointwise
public import Idealize.ShloMosaic.Lib.Pipeline.ValueKit.Acc
public import Idealize.ShloMosaic.Lib.Pipeline.ValueKit.Geometry
public import Idealize.ShloMosaic.Lib.Pipeline.ValueKit.Partial
public import Idealize.ShloMosaic.Lib.Quiescent

@[expose] public section

set_option maxRecDepth 16384

noncomputable section

open Idealize.ShloMosaic hiding ix1 ix2 ix3 ix4 ix5
open Idealize.ShloMosaic.TcCoe Idealize.ShloMosaic.ValueIdx Idealize.SL.Sem
open Idealize.ShloMosaic.Pipeline (Dat)
open scoped BigOperators

namespace Cert.Proof.ConvBwdVal

open Cert.ConvBwdIdeal Cert.ConvBwdIdeal.Gen Cert.Common

/-! ## The kernel's payload at an index -/

section Pay

variable (i : grid0.Coords) (v1 : Vec Ideal S16x3072 .bf16) (v5 : Vec Ideal S256x3072 .bf16) (v8 v13 v19 v25 : Vec Ideal S1x3072 .f32)

/-- Whether the point is the last one, as the kernel asks it. -/
abbrev last : BitVec 1 := Scalar.cmpi CmpIPredicate.eq (BitVec.ofNat 32 (i 0).val) 31#32

/-- If `S` lists a column of the block and of the rows after it, the payload is four entries of `S`, each times its tap. -/
theorem pay1_apply (r : Fin 256) (j : Fin 3072) (S : ℕ → EReal)
    (hS : ∀ n (h : n < 256), (show EReal from v5 (ix2 (⟨n, h⟩ : Fin 256) j)) = S n)
    (hT : ∀ n (h : n < 16), (show EReal from Scalar.select (last i) (0 : EReal) (v1 (ix2 (⟨n, h⟩ : Fin 16) j))) = S (n + 256)) :
    (show EReal from k0_pay1 i v1 v5 v8 v13 v19 v25 (ix2 r j))
      = S r.val * (show EReal from v8 (ix2 (0 : Fin 1) j)) + S (r.val + 1) * (show EReal from v13 (ix2 (0 : Fin 1) j))
        + S (r.val + 2) * (show EReal from v19 (ix2 (0 : Fin 1) j)) + S (r.val + 3) * (show EReal from v25 (ix2 (0 : Fin 1) j)) := by
  have key (n k : ℕ) (h : n = k) (hk : k < 272) (h' : ¬ n < 256 → n - 256 < 16) :
      (if h : n < 256 then (show EReal from v5 (ix2 (⟨n, h⟩ : Fin 256) j))
        else (show EReal from Scalar.select (last i) (0 : EReal) (v1 (ix2 (⟨n - 256, h' h⟩ : Fin 16) j)))) = S k := by
    subst h
    split
    · exact hS _ _
    · rename_i hn
      refine (hT _ _).trans (congrArg S ?_)
      omega
  have hr := r.isLt
  unfold k0_pay1
  pointwise
  refine congrArg₂ (· + ·) (congrArg₂ (· + ·) (congrArg₂ (· + ·) (congrArg₂ (· * ·) (hS r.val hr) rfl) (congrArg₂ (· * ·) ?_ rfl))
    (congrArg₂ (· * ·) ?_ rfl)) (congrArg₂ (· * ·) ?_ rfl)
  · exact key ((r.val + 272 - 271) % 272) _ (by omega) (by omega) (by omega)
  · exact key ((r.val + 272 - 270) % 272) _ (by omega) (by omega) (by omega)
  · exact key ((r.val + 272 - 269) % 272) _ (by omega) (by omega) (by omega)

end Pay

/-- Which block each window shows at a grid point, and which point is the last. -/
theorem idx_facts : ∀ t : Fin grid0.N,
    win0_0.index t = ![t.val, 0] ∧ win0_1.index t = ![min ((t.val + 1) * 16) 511, 0] ∧ win0_2.index t = ![0, 0]
      ∧ win0_3.index t = ![t.val, 0] ∧ last (grid0.coords t) = if t.val = 31 then 1#1 else 0#1 := by
  decide +kernel

/-- A column of the cotangent at row `r`, zero beyond the last row. -/
def down (D : S8192x3072.Idx → EReal) (j : Fin 3072) (r : ℕ) : EReal := if h : r < 8192 then D (ix2 (⟨r, h⟩ : Fin 8192) j) else 0

/-- The convolution's gradient at a row and a column. -/
def back (D : S8192x3072.Idx → EReal) (W : S4x3072.Idx → EReal) (r : ℕ) (j : Fin 3072) : EReal :=
  down D j r * W (ix2 (3 : Fin 4) j) + down D j (r + 1) * W (ix2 (2 : Fin 4) j) + down D j (r + 2) * W (ix2 (1 : Fin 4) j)
    + down D j (r + 3) * W (ix2 (0 : Fin 4) j)

/-- The result: the gradient in the first 3072 columns, the third argument in the others. -/
def G (D : S8192x3072.Idx → EReal) (W : S4x3072.Idx → EReal) (P : S8192x8192.Idx → EReal) (i : S8192x8192.Idx) : EReal :=
  if h : (i 1).val < 3072 then back D W (i 0).val ⟨(i 1).val, h⟩ else P i

variable (m : (ℓ : Loc nD τ sig) → Buf (Elt Ideal) ℓ) (ρ : Dev nD → PrngReg)

/-- The argument arrays of device `c`. -/
abbrev D (c : Dev nD) : S8192x3072.Idx → EReal := m ((c : Thread nD τ).loc main_arg0)
abbrev W (c : Dev nD) : S4x3072.Idx → EReal := m ((c : Thread nD τ).loc main_arg1)
abbrev P (c : Dev nD) : S8192x8192.Idx → EReal := m ((c : Thread nD τ).loc main_arg2)

theorem blk0 (c : Dev nD) (t : Fin cfg0.N) (n : ℕ) (h : n < 256) (j : Fin 3072) :
    (show EReal from (iblk m c 0 t : Vec Ideal S256x3072 .bf16) (ix2 (⟨n, h⟩ : Fin 256) j)) = down (D m c) j (t.val * 256 + n) := by
  have ht : t.val < 32 := lt_of_lt_of_eq t.isLt N_0
  unfold iblk down
  rw [dif_pos (by omega), View.read_apply]
  show V m c main_arg0 _ = _
  rw [V_main_arg0]
  congr 1
  refine Shape.idx_ext₂ (n := ![8192, 3072]) ?_ ?_
  · show win0_0.index t 0 * 256 + 1 * n = t.val * 256 + n
    rw [(idx_facts t).1, one_mul]; rfl
  · show win0_0.index t 1 * 3072 + 1 * j.val = j.val
    rw [(idx_facts t).1, one_mul]
    show 0 * 3072 + _ = _
    omega

theorem blk1 (c : Dev nD) (t : Fin cfg0.N) (n : ℕ) (h : n < 16) (j : Fin 3072) :
    (show EReal from Scalar.select (last (grid0.coords t)) (0 : EReal) ((iblk m c 1 t : Vec Ideal S16x3072 .bf16) (ix2 (⟨n, h⟩ : Fin 16) j)))
      = down (D m c) j (t.val * 256 + (n + 256)) := by
  have ht : t.val < 32 := lt_of_lt_of_eq t.isLt N_0
  rw [(idx_facts t).2.2.2.2]
  unfold down
  by_cases h31 : t.val = 31
  · rw [if_pos h31, dif_neg (by omega)]; rfl
  rw [if_neg h31, dif_pos (by omega)]
  show (show EReal from (iblk m c 1 t : Vec Ideal S16x3072 .bf16) (ix2 (⟨n, h⟩ : Fin 16) j)) = _
  unfold iblk
  rw [View.read_apply]
  show V m c main_arg0 _ = _
  rw [V_main_arg0]
  congr 1
  refine Shape.idx_ext₂ (n := ![8192, 3072]) ?_ ?_
  · show win0_1.index t 0 * 16 + 1 * n = t.val * 256 + (n + 256)
    rw [(idx_facts t).2.1, one_mul]
    show min ((t.val + 1) * 16) 511 * 16 + n = _
    rw [min_eq_left (by omega)]
    omega
  · show win0_1.index t 1 * 3072 + 1 * j.val = j.val
    rw [(idx_facts t).2.1, one_mul]
    show 0 * 3072 + _ = _
    omega

/-- Row `o` of the taps, as the kernel loads it. -/
theorem blk2 (c : Dev nD) (t : Fin cfg0.N) (o : Fin 4) (hi) (j : Fin 3072) :
    (show EReal from View.ld (iblk m c 2 t : Vec Ideal S4x3072 .f32) (Rect.unit (s := S4x3072) ![o.val, 0] S1x3072.size hi) (ix2 (0 : Fin 1) j))
      = W m c (ix2 o j) := by
  show (show EReal from (iblk m c 2 t : Vec Ideal S4x3072 .f32) _) = _
  unfold iblk
  rw [View.read_apply]
  show V m c main_arg1 _ = _
  rw [V_main_arg1]
  congr 1
  refine Shape.idx_ext₂ (n := ![4, 3072]) ?_ ?_
  · show win0_2.index t 0 * 4 + 1 * (o.val + 1 * 0) = o.val
    rw [(idx_facts t).2.2.1]
    show 0 * 4 + _ = _
    omega
  · show win0_2.index t 1 * 3072 + 1 * (0 + 1 * j.val) = j.val
    rw [(idx_facts t).2.2.1]
    show 0 * 3072 + _ = _
    omega

/-- The output's array is the third argument when the kernel starts. -/
theorem start (c : Dev nD) : V m c main_v0 = P m c := by
  show StableHlo.after hostOps0 _ _ = _
  rw [StableHlo.after_cons, StableHlo.after_nil]
  exact StableHlo.unary_result ..

theorem out3_eq (c : Dev nD) (t : Fin cfg0.N) (y : S256x3072.Idx) (i : S8192x8192.Idx) (e0 : (i 0).val = t.val * 256 + (y 0).val)
    (e1 : (i 1).val = (y 1).val) : (show EReal from outsAt0 m c t y) = G (D m c) (W m c) (P m c) i := by
  have hj : (y 1).val < 3072 := (y 1).isLt
  have hy : y = ix2 (n0 := 256) (n1 := 3072) (y 0) (y 1) := Shape.idx_ext₂ (n := ![256, 3072]) rfl rfl
  have hG : G (D m c) (W m c) (P m c) i = back (D m c) (W m c) (t.val * 256 + (y 0).val) (y 1) := by
    unfold G
    rw [dif_pos (by rw [e1]; exact hj), e0]
    congr 1
    exact Fin.ext e1
  rw [hG]
  unfold outsAt0
  frame_out
  refine (congrArg (k0_pay1 _ _ _ _ _ _ _) hy).trans ((pay1_apply _ _ _ _ _ _ _ (y 0) (y 1) (fun n => down (D m c) (y 1) (t.val * 256 + n))
    (fun n h => blk0 m c t n h (y 1)) (fun n h => blk1 m c t n h (y 1))).trans ?_)
  unfold back
  refine congrArg₂ (· + ·) (congrArg₂ (· + ·) (congrArg₂ (· + ·) (congrArg₂ (· * ·) rfl ?_) (congrArg₂ (· * ·) rfl ?_))
    (congrArg₂ (· * ·) rfl ?_)) (congrArg₂ (· * ·) rfl ?_)
  · exact blk2 m c t 3 _ (y 1)
  · exact blk2 m c t 2 _ (y 1)
  · exact blk2 m c t 1 _ (y 1)
  · exact blk2 m c t 0 _ (y 1)

theorem final3 (c : Dev nD) : (dats m 0 c).arrAt 3 cfg0.N = G (D m c) (W m c) (P m c) := by
  have h := (dats m 0 c).arrAt_eq_of_coversWhere 3 (G (D m c) (W m c) (P m c)) (fun β => β (1 : Fin 2) = 0)
    (by decide +kernel) (fun t hf y => by
      blk_simp
      rw [after0_3]
      refine out3_eq m c t _ _ ?_ ?_
      · show win0_3.index t 0 * 256 + 1 * (y 0).val = t.val * 256 + (y 0).val
        rw [(idx_facts t).2.2.2.1, one_mul]; rfl
      · show win0_3.index t 1 * 3072 + 1 * (y 1).val = (y 1).val
        rw [(idx_facts t).2.2.2.1, one_mul]
        show 0 * 3072 + _ = _
        omega) (P := fun i => (i 1).val / 3072 = 0) (fun j => Iff.rfl)
  rw [h]
  funext i
  show (if (i 1).val / 3072 = 0 then G (D m c) (W m c) (P m c) i else (dats m 0 c).A 3 i) = _
  split
  · rfl
  · rename_i hn
    rw [A_eq]
    show V m c main_v0 i = _
    rw [start]
    unfold G
    rw [dif_neg (by omega)]

/-! ## The reference -/

open Cert.ConvBwdRefIdeal.Read

/-- An array of 8192 rows with three zero rows set about it, at an index. -/
theorem pad_rows (lo hi : ℕ) (x : S8192x3072.Idx → EReal) (v : Cert.ConvBwdRefIdeal.S_.Idx → EReal)
    (h : S8192x3072.Pads ![lo, 0] ![hi, 0] ![0, 0] Cert.ConvBwdRefIdeal.S8195x3072) (hu) (i : Cert.ConvBwdRefIdeal.S8195x3072.Idx) :
    pad Cert.ConvBwdRefIdeal.S8195x3072 ![lo, 0] ![hi, 0] ![0, 0] x v h hu i
      = if h : lo ≤ (i 0).val ∧ (i 0).val - lo < 8192 then x (ix2 (⟨(i 0).val - lo, h.2⟩ : Fin 8192) (⟨(i 1).val, (i 1).isLt⟩ : Fin 3072))
        else v (Shape.Idx.first hu) := by
  split
  · rename_i hi
    refine pad_apply_of_inside (s := S8192x3072) _ _ _ x v h hu i _ fun a => ?_
    match a with
    | ⟨0, _⟩ => show (i 0).val = lo + ((i 0).val - lo) * (0 + 1); omega
    | ⟨1, _⟩ => show (i 1).val = 0 + (i 1).val * (0 + 1); omega
  · rename_i hi
    refine pad_apply_of_not_inside (s := S8192x3072) _ _ _ x v h hu i ⟨0, by decide⟩ fun hh => hi ?_
    refine ⟨hh.1, ?_⟩
    have := hh.2.2
    simpa using this

section Ref

variable (D : S8192x3072.Idx → EReal) (W : S4x3072.Idx → EReal) (P : S8192x8192.Idx → EReal)

theorem ref35 (i : S8192x3072.Idx) : val_main_v35 (F := Ideal) D W i = D i * W (ix2 (3 : Fin 4) (i 1)) := by
  rw [val_main_v35_apply, val_main_v33_apply, val_main_v34_apply, val_main_v29_apply, val_main_v27_apply, val_main_v26_apply]
  refine (mul_comm _ _).trans (congrArg₂ (· * ·) rfl (congrArg W (Shape.idx_ext₂ (n := ![4, 3072]) ?_ ?_)))
  · rfl
  · exact Nat.mod_eq_of_lt (i 1).isLt

theorem ref38 (i : S8192x3072.Idx) : val_main_v38 (F := Ideal) D W i = D i * W (ix2 (2 : Fin 4) (i 1)) := by
  rw [val_main_v38_apply, val_main_v33_apply, val_main_v37_apply, val_main_v22_apply, val_main_v20_apply, val_main_v19_apply]
  refine (mul_comm _ _).trans (congrArg₂ (· * ·) rfl (congrArg W (Shape.idx_ext₂ (n := ![4, 3072]) ?_ ?_)))
  · rfl
  · exact Nat.mod_eq_of_lt (i 1).isLt

theorem ref42 (i : S8192x3072.Idx) : val_main_v42 (F := Ideal) D W i = D i * W (ix2 (1 : Fin 4) (i 1)) := by
  rw [val_main_v42_apply, val_main_v33_apply, val_main_v41_apply, val_main_v15_apply, val_main_v13_apply, val_main_v12_apply]
  refine (mul_comm _ _).trans (congrArg₂ (· * ·) rfl (congrArg W (Shape.idx_ext₂ (n := ![4, 3072]) ?_ ?_)))
  · rfl
  · exact Nat.mod_eq_of_lt (i 1).isLt

theorem ref46 (i : S8192x3072.Idx) : val_main_v46 (F := Ideal) D W i = D i * W (ix2 (0 : Fin 4) (i 1)) := by
  rw [val_main_v46_apply, val_main_v33_apply, val_main_v45_apply, val_main_v7_apply, val_main_v5_apply, val_main_v4_apply]
  refine (mul_comm _ _).trans (congrArg₂ (· * ·) rfl (congrArg W (Shape.idx_ext₂ (n := ![4, 3072]) ?_ ?_)))
  · rfl
  · exact Nat.mod_eq_of_lt (i 1).isLt

/-- A padded product at row `r + 3`: the cotangent's row times the tap, zero times the tap beyond the last row. -/
theorem padded (lo hi : ℕ) (hlo : lo ≤ 3) (o : Fin 4) (x : S8192x3072.Idx → EReal) (v : Cert.ConvBwdRefIdeal.S_.Idx → EReal) (h hu)
    (hx : ∀ i, x i = D i * W (ix2 o (i 1))) (hv : ∀ i, v i = 0) (r : ℕ) (i : Cert.ConvBwdRefIdeal.S8195x3072.Idx) (j : Fin 3072)
    (hi0 : (i 0).val = 3 + r) (hi1 : (i 1).val = j.val) :
    pad Cert.ConvBwdRefIdeal.S8195x3072 ![lo, 0] ![hi, 0] ![0, 0] x v h hu i = down D j (r + (3 - lo)) * W (ix2 o j) := by
  rw [pad_rows]
  unfold down
  have ej : (⟨(i 1).val, (i 1).isLt⟩ : Fin 3072) = j := Fin.ext hi1
  have e0 : (i 0).val - lo = r + (3 - lo) := by omega
  by_cases hr : r + (3 - lo) < 8192
  · rw [dif_pos (⟨by omega, by omega⟩ : lo ≤ (i 0).val ∧ (i 0).val - lo < 8192), dif_pos hr, hx]
    have er : (⟨(i 0).val - lo, e0 ▸ hr⟩ : Fin 8192) = ⟨r + (3 - lo), hr⟩ := Fin.ext (e0)
    rw [er, ej]
  · rw [dif_neg (by omega), dif_neg hr, hv, zero_mul]

theorem ref53 : val_main_v53 (F := Ideal) D W P = G D W P := by
  funext i
  unfold G
  split
  · rename_i hj
    refine (concat_cols_left (n := 8192) (a := 3072) (b := 5120) (l := 8192) (val_main_v51 (F := Ideal) D W) (val_main_v52 (F := Ideal) P) _ i ⟨(i 1).val, hj⟩ rfl).trans ?_
    rw [val_main_v51_apply, val_main_v50_apply, val_main_v48_apply, val_main_v44_apply, val_main_v40_apply]
    unfold val_main_v36 val_main_v39 val_main_v43 val_main_v47 back
    have z (v : Cert.ConvBwdRefIdeal.S_.Idx → EReal) (h : v = fun _ => Ideal.ofBits .f32 0x00000000#32) (i) : v i = 0 := by
      rw [h]; exact Ideal.ofBits_zero_f32
    refine congrArg₂ (· + ·) (congrArg₂ (· + ·) (congrArg₂ (· + ·) ?_ ?_) ?_) ?_
    · exact padded D W 3 0 (by omega) 3 _ _ _ _ (ref35 D W) (z _ rfl) (i 0).val _ ⟨(i 1).val, hj⟩ rfl rfl
    · exact padded D W 2 1 (by omega) 2 _ _ _ _ (ref38 D W) (z _ rfl) (i 0).val _ ⟨(i 1).val, hj⟩ rfl rfl
    · exact padded D W 1 2 (by omega) 1 _ _ _ _ (ref42 D W) (z _ rfl) (i 0).val _ ⟨(i 1).val, hj⟩ rfl rfl
    · exact padded D W 0 3 (by omega) 0 _ _ _ _ (ref46 D W) (z _ rfl) (i 0).val _ ⟨(i 1).val, hj⟩ rfl rfl
  · rename_i hj
    have hi : (i 1).val < 8192 := (i 1).isLt
    refine (concat_cols_right (n := 8192) (a := 3072) (b := 5120) (l := 8192) (val_main_v51 (F := Ideal) D W) (val_main_v52 (F := Ideal) P) _ i
      ⟨(i 1).val - 3072, by omega⟩ (by show (i 1).val = 3072 + ((i 1).val - 3072); omega)).trans ?_
    rw [val_main_v52_apply]
    congr 1
    refine Shape.idx_ext₂ (n := ![8192, 8192]) rfl ?_
    show 3072 + ((i 1).val - 3072) = (i 1).val
    omega

end Ref

/-! ## The claims -/

theorem frame : Cert.quiescent_ConvBwd := fun m ρ _ => Cert.ConvBwd.Gen.frame m ρ
theorem frame_ideal : Cert.quiescent_ConvBwdIdeal := fun m ρ _ => Cert.ConvBwdIdeal.Gen.frame m ρ
theorem frame_ref : Cert.quiescent_ConvBwdRefIdeal := fun m ρ _ =>
  (θ_run Cert.ConvBwdRefIdeal.defs _ _).mono (fun r h => ⟨fun c => (h c).2, sem_eq_zero_of_no_sems (by decide) r.2⟩)
    (Cert.ConvBwdRefIdeal.Value.run (F := Ideal) m ρ)

theorem preserves : Cert.preserves_ConvBwd_ConvBwdIdeal := trivial

theorem algebraic : Cert.algebraic_ConvBwdIdeal_ConvBwdRefIdeal := by
  intro m ρ m' ρ' _ hagree
  refine ⟨fun c => G (D m c) (W m c) (P m c), ?_, ?_⟩
  · exact (θ_run Cert.ConvBwdIdeal.defs _ _).mono (fun _ h c => ⟨(h c).1.trans (final3 m c), (h c).2⟩)
      (Cert.ConvBwdIdeal.Value.run_blocks (F := Ideal) m ρ)
  refine (θ_run Cert.ConvBwdRefIdeal.defs _ _).mono (fun r h c => ?_) (Cert.ConvBwdRefIdeal.Value.run (F := Ideal) m' ρ')
  have h1 := (h c).1.trans (val_main_v53_eq _ _ _)
  rw [(hagree c).1, (hagree c).2.1, (hagree c).2.2] at h1
  exact ⟨h1.trans (ref53 (D m c) (W m c) (P m c)), (h c).2⟩

end Cert.Proof.ConvBwdVal

end
-- ==== Proof.QkvPrepVal.lean ====
/-
  The attention inputs: the projections' causal convolution of four taps, its silu, the queries and keys of every head at unit
  length, the values, and the two gates of every head.
-/
module

public import proofs.«01_k».proof.Defs
public import proofs.«01_k».proof.Proof.Common
public import proofs.«01_k».proof.Proof.Gen.QkvPrep.Frame
public import proofs.«01_k».proof.Proof.Gen.QkvPrepIdeal.Value
public import proofs.«01_k».proof.Proof.Gen.QkvPrepRefIdeal.Read
public import Idealize.ShloMosaic.Lib.KernelVsHost
public import Idealize.ShloMosaic.Lib.Pointwise
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic hiding ix1 ix2 ix3 ix4 ix5
open Idealize.ShloMosaic.TcCoe Idealize.ShloMosaic.ValueIdx Idealize.SL.Sem
open Idealize.ShloMosaic.Pipeline (Dat)
open scoped BigOperators

namespace Cert.Proof.QkvPrepVal

open Cert.QkvPrepIdeal Cert.QkvPrepIdeal.Gen Cert.Common

/-! ## The mathematics -/

/-- A column of the projections at row `n - 3`, zero before the first row. -/
def up (P : S8192x3072.Idx → EReal) (j : Fin 3072) (n : ℕ) : EReal :=
  if h : 3 ≤ n ∧ n - 3 < 8192 then P (ix2 (⟨n - 3, h.2⟩ : Fin 8192) j) else 0

/-- The convolution at a row and a column. -/
def conv (P : S8192x3072.Idx → EReal) (W : S4x3072.Idx → EReal) (r : ℕ) (j : Fin 3072) : EReal :=
  up P j (r + 3) * W (ix2 (3 : Fin 4) j) + up P j (r + 2) * W (ix2 (2 : Fin 4) j) + up P j (r + 1) * W (ix2 (1 : Fin 4) j)
    + up P j r * W (ix2 (0 : Fin 4) j)

/-- Its silu, zero beyond the last column. -/
def act (P : S8192x3072.Idx → EReal) (W : S4x3072.Idx → EReal) (r n : ℕ) : EReal :=
  if h : n < 3072 then conv P W r ⟨n, h⟩ * Ideal.logistic (conv P W r ⟨n, h⟩) else 0

/-- An entry of a row over the length of the 128 entries from `b` on. -/
def unit (A : ℕ → EReal) (b n : ℕ) : EReal :=
  A n * Ideal.rsqrt (∑ e : Fin 128, A (b + e.val) * A (b + e.val) + Ideal.ofBits .f32 0x358637BD#32)

/-- An entry of the silu over the length of its head. -/
def head (P : S8192x3072.Idx → EReal) (W : S4x3072.Idx → EReal) (r n : ℕ) : EReal := unit (act P W r) (n / 128 * 128) n

theorem unit_eq_head (P : S8192x3072.Idx → EReal) (W : S4x3072.Idx → EReal) (r o d n : ℕ) (hn : n = o + d) (hd : d < 128) (ho : o % 128 = 0) :
    unit (act P W r) o (o + d) = head P W r n := by
  subst hn
  unfold head
  rw [show (o + d) / 128 * 128 = o by omega]

/-- The logits of the gates. -/
def logits (X : S8192x1024.Idx → EReal) (B : S1024x128.Idx → EReal) (r : Fin 8192) (j : Fin 128) : EReal := ∑ k : Fin 1024, X (ix2 r k) * B (ix2 k j)

/-- The softplus. -/
def softplus (x : EReal) : EReal := max x 0 + Ideal.log1p (Ideal.exp (-(FloatOps.absf (F := Ideal) (φ := .f32) x : EReal)))

/-- The gates: the sigmoid in the first eight lanes, the decay in the next eight, zero in the others. -/
def gate (X : S8192x1024.Idx → EReal) (B : S1024x128.Idx → EReal) (a d : S1x128.Idx → EReal) (r : Fin 8192) (j : Fin 128) : EReal :=
  if j.val < 8 then Ideal.logistic (logits X B r j)
  else if j.val < 16 then -(Ideal.exp (a (ix2 (0 : Fin 1) j))) * softplus (logits X B r j + d (ix2 (0 : Fin 1) j)) else 0

/-! ## The kernel's payloads at an index -/

/-- Whether the point is the first one, as the kernel asks it. -/
abbrev first (i : grid0.Coords) : BitVec 1 := Scalar.cmpi CmpIPredicate.eq (BitVec.ofNat 32 (i 0).val) 0#32

/-- If `S` lists a column of the rows before the block and of the block, the convolution is four entries of `S`, each times its tap. -/
theorem pay3_apply (i : grid0.Coords) (v4 : Vec Ideal S256x3072 .f32) (v5 : Vec Ideal S8x3072 .f32) (v16 v19 v23 v27 : Vec Ideal S1x3072 .f32)
    (r : Fin 256) (j : Fin 3072) (S : ℕ → EReal)
    (hS : ∀ n (h : n < 256), (show EReal from v4 (ix2 (⟨n, h⟩ : Fin 256) j)) = S (n + 8))
    (hT : ∀ n (h : n < 8), (show EReal from Scalar.select (first i) (0 : EReal) (v5 (ix2 (⟨n, h⟩ : Fin 8) j))) = S n) :
    (show EReal from k0_pay3 i v4 v5 v16 v19 v23 v27 (ix2 r j))
      = S (r.val + 8) * (show EReal from v16 (ix2 (0 : Fin 1) j)) + S (r.val + 7) * (show EReal from v19 (ix2 (0 : Fin 1) j))
        + S (r.val + 6) * (show EReal from v23 (ix2 (0 : Fin 1) j)) + S (r.val + 5) * (show EReal from v27 (ix2 (0 : Fin 1) j)) := by
  have key (n k : ℕ) (h : n = k) (hk : k < 264) (h' : ¬ n < 8 → n - 8 < 256) :
      (if h : n < 8 then (show EReal from Scalar.select (first i) (0 : EReal) (v5 (ix2 (⟨n, h⟩ : Fin 8) j)))
        else (show EReal from v4 (ix2 (⟨n - 8, h' h⟩ : Fin 256) j))) = S k := by
    subst h
    split
    · exact hT _ _
    · rename_i hn
      refine (hS _ _).trans (congrArg S ?_)
      omega
  have hr := r.isLt
  unfold k0_pay3
  pointwise
  refine congrArg₂ (· + ·) (congrArg₂ (· + ·) (congrArg₂ (· + ·) (congrArg₂ (· * ·) (hS r.val hr) rfl) (congrArg₂ (· * ·) ?_ rfl))
    (congrArg₂ (· * ·) ?_ rfl)) (congrArg₂ (· * ·) ?_ rfl)
  · exact key ((8 + r.val + 264 - 1) % 264) _ (by omega) (by omega) (by omega)
  · exact key ((8 + r.val + 264 - 2) % 264) _ (by omega) (by omega) (by omega)
  · exact key ((8 + r.val + 264 - 3) % 264) _ (by omega) (by omega) (by omega)

theorem pay2_apply (v0 : Vec Ideal S256x1024 .bf16) (v1 : Vec Ideal S1024x128 .bf16) (j : S256x128.Idx) :
    k0_pay2 v0 v1 j = ∑ k : Fin 1024, v0 (ix2 (j 0) k) * v1 (ix2 k (j 1)) :=
  matmul_nn_apply (φ₁ := .bf16) (φ₂ := .bf16) dot_S256x1024_S1024x128_S256x128_1_0_0_1_n_n rfl none v0 v1 j

theorem pay4_apply (v : FVec Ideal S256x3072 .f32) (j : S256x3072.Idx) :
    (show EReal from k0_pay4 v j) = (show EReal from v j) * Ideal.logistic (show EReal from v j) := by
  rw [← sigmoid_eq, ← half_f32]
  unfold k0_pay4
  pointwise

theorem pay29_apply (v : FVec Ideal S256x3072 .f32) (r : Fin 256) (d : Fin 1024) :
    (show EReal from k0_pay29 v (ix2 r d)) = v (ix2 (n0 := 256) (n1 := 3072) r ⟨2048 + d.val, by omega⟩) := by
  unfold k0_pay29
  pointwise
  rfl

section Heads

variable (v : FVec Ideal S256x3072 .f32) (A : ℕ → EReal) (r : Fin 256) (d : Fin 128)

theorem pay5_apply (hA : ∀ n (h : n < 3072), (show EReal from (k0_pay4 v) (ix2 r (⟨n, h⟩ : Fin 3072))) = A n) :
    (show EReal from k0_pay5 v (ix2 r d)) = unit A 0 (0 + d.val) := by
  unfold k0_pay5
  generalize k0_pay4 v = y at hA ⊢
  unfold unit
  simp only [zero_add]
  pointwise
  exact congrArg₂ (· * ·) (hA _ _) (congrArg Ideal.rsqrt (congrArg (· + _) (Finset.sum_congr rfl fun e _ => congrArg₂ (· * ·) (hA _ _) (hA _ _))))

theorem pay6_apply (hA : ∀ n (h : n < 3072), (show EReal from (k0_pay4 v) (ix2 r (⟨n, h⟩ : Fin 3072))) = A n) :
    (show EReal from k0_pay6 v (ix2 r d)) = unit A 1024 (1024 + d.val) := by
  unfold k0_pay6
  generalize k0_pay4 v = y at hA ⊢
  pointwise
  exact congrArg₂ (· * ·) (hA _ _) (congrArg Ideal.rsqrt (congrArg (· + _) (Finset.sum_congr rfl fun e _ => congrArg₂ (· * ·) (hA _ _) (hA _ _))))

theorem pay7_apply (hA : ∀ n (h : n < 3072), (show EReal from (k0_pay4 v) (ix2 r (⟨n, h⟩ : Fin 3072))) = A n) :
    (show EReal from k0_pay7 v (ix2 r d)) = unit A 128 (128 + d.val) := by
  unfold k0_pay7
  generalize k0_pay4 v = y at hA ⊢
  pointwise
  exact congrArg₂ (· * ·) (hA _ _) (congrArg Ideal.rsqrt (congrArg (· + _) (Finset.sum_congr rfl fun e _ => congrArg₂ (· * ·) (hA _ _) (hA _ _))))

theorem pay10_apply (hA : ∀ n (h : n < 3072), (show EReal from (k0_pay4 v) (ix2 r (⟨n, h⟩ : Fin 3072))) = A n) :
    (show EReal from k0_pay10 (k0_pay8 v) (k0_pay9 v) (ix2 r d)) = unit A 1152 (1152 + d.val) := by
  unfold k0_pay10 k0_pay9 k0_pay8
  generalize k0_pay4 v = y at hA ⊢
  pointwise
  exact congrArg₂ (· * ·) (hA _ _) (congrArg Ideal.rsqrt (congrArg (· + _) (Finset.sum_congr rfl fun e _ => congrArg₂ (· * ·) (hA _ _) (hA _ _))))

theorem pay11_apply (hA : ∀ n (h : n < 3072), (show EReal from v (ix2 r (⟨n, h⟩ : Fin 3072))) = A n) :
    (show EReal from k0_pay11 v (ix2 r d)) = unit A 256 (256 + d.val) := by
  unfold k0_pay11
  pointwise
  exact congrArg₂ (· * ·) (hA _ _) (congrArg Ideal.rsqrt (congrArg (· + _) (Finset.sum_congr rfl fun e _ => congrArg₂ (· * ·) (hA _ _) (hA _ _))))

theorem pay12_apply (hA : ∀ n (h : n < 3072), (show EReal from v (ix2 r (⟨n, h⟩ : Fin 3072))) = A n) :
    (show EReal from k0_pay12 v (ix2 r d)) = unit A 1280 (1280 + d.val) := by
  unfold k0_pay12
  pointwise
  exact congrArg₂ (· * ·) (hA _ _) (congrArg Ideal.rsqrt (congrArg (· + _) (Finset.sum_congr rfl fun e _ => congrArg₂ (· * ·) (hA _ _) (hA _ _))))

theorem pay13_apply (hA : ∀ n (h : n < 3072), (show EReal from v (ix2 r (⟨n, h⟩ : Fin 3072))) = A n) :
    (show EReal from k0_pay13 v (ix2 r d)) = unit A 384 (384 + d.val) := by
  unfold k0_pay13
  pointwise
  exact congrArg₂ (· * ·) (hA _ _) (congrArg Ideal.rsqrt (congrArg (· + _) (Finset.sum_congr rfl fun e _ => congrArg₂ (· * ·) (hA _ _) (hA _ _))))

theorem pay16_apply (hA : ∀ n (h : n < 3072), (show EReal from v (ix2 r (⟨n, h⟩ : Fin 3072))) = A n) :
    (show EReal from k0_pay16 (k0_pay14 v) (k0_pay15 v) (ix2 r d)) = unit A 1408 (1408 + d.val) := by
  unfold k0_pay16 k0_pay15 k0_pay14
  pointwise
  exact congrArg₂ (· * ·) (hA _ _) (congrArg Ideal.rsqrt (congrArg (· + _) (Finset.sum_congr rfl fun e _ => congrArg₂ (· * ·) (hA _ _) (hA _ _))))

theorem pay17_apply (hA : ∀ n (h : n < 3072), (show EReal from v (ix2 r (⟨n, h⟩ : Fin 3072))) = A n) :
    (show EReal from k0_pay17 v (ix2 r d)) = unit A 512 (512 + d.val) := by
  unfold k0_pay17
  pointwise
  exact congrArg₂ (· * ·) (hA _ _) (congrArg Ideal.rsqrt (congrArg (· + _) (Finset.sum_congr rfl fun e _ => congrArg₂ (· * ·) (hA _ _) (hA _ _))))

theorem pay18_apply (hA : ∀ n (h : n < 3072), (show EReal from v (ix2 r (⟨n, h⟩ : Fin 3072))) = A n) :
    (show EReal from k0_pay18 v (ix2 r d)) = unit A 1536 (1536 + d.val) := by
  unfold k0_pay18
  pointwise
  exact congrArg₂ (· * ·) (hA _ _) (congrArg Ideal.rsqrt (congrArg (· + _) (Finset.sum_congr rfl fun e _ => congrArg₂ (· * ·) (hA _ _) (hA _ _))))

theorem pay19_apply (hA : ∀ n (h : n < 3072), (show EReal from v (ix2 r (⟨n, h⟩ : Fin 3072))) = A n) :
    (show EReal from k0_pay19 v (ix2 r d)) = unit A 640 (640 + d.val) := by
  unfold k0_pay19
  pointwise
  exact congrArg₂ (· * ·) (hA _ _) (congrArg Ideal.rsqrt (congrArg (· + _) (Finset.sum_congr rfl fun e _ => congrArg₂ (· * ·) (hA _ _) (hA _ _))))

theorem pay22_apply (hA : ∀ n (h : n < 3072), (show EReal from v (ix2 r (⟨n, h⟩ : Fin 3072))) = A n) :
    (show EReal from k0_pay22 (k0_pay20 v) (k0_pay21 v) (ix2 r d)) = unit A 1664 (1664 + d.val) := by
  unfold k0_pay22 k0_pay21 k0_pay20
  pointwise
  exact congrArg₂ (· * ·) (hA _ _) (congrArg Ideal.rsqrt (congrArg (· + _) (Finset.sum_congr rfl fun e _ => congrArg₂ (· * ·) (hA _ _) (hA _ _))))

theorem pay23_apply (hA : ∀ n (h : n < 3072), (show EReal from v (ix2 r (⟨n, h⟩ : Fin 3072))) = A n) :
    (show EReal from k0_pay23 v (ix2 r d)) = unit A 768 (768 + d.val) := by
  unfold k0_pay23
  pointwise
  exact congrArg₂ (· * ·) (hA _ _) (congrArg Ideal.rsqrt (congrArg (· + _) (Finset.sum_congr rfl fun e _ => congrArg₂ (· * ·) (hA _ _) (hA _ _))))

theorem pay24_apply (hA : ∀ n (h : n < 3072), (show EReal from v (ix2 r (⟨n, h⟩ : Fin 3072))) = A n) :
    (show EReal from k0_pay24 v (ix2 r d)) = unit A 1792 (1792 + d.val) := by
  unfold k0_pay24
  pointwise
  exact congrArg₂ (· * ·) (hA _ _) (congrArg Ideal.rsqrt (congrArg (· + _) (Finset.sum_congr rfl fun e _ => congrArg₂ (· * ·) (hA _ _) (hA _ _))))

theorem pay25_apply (hA : ∀ n (h : n < 3072), (show EReal from v (ix2 r (⟨n, h⟩ : Fin 3072))) = A n) :
    (show EReal from k0_pay25 v (ix2 r d)) = unit A 896 (896 + d.val) := by
  unfold k0_pay25
  pointwise
  exact congrArg₂ (· * ·) (hA _ _) (congrArg Ideal.rsqrt (congrArg (· + _) (Finset.sum_congr rfl fun e _ => congrArg₂ (· * ·) (hA _ _) (hA _ _))))

theorem pay28_apply (hA : ∀ n (h : n < 3072), (show EReal from v (ix2 r (⟨n, h⟩ : Fin 3072))) = A n) :
    (show EReal from k0_pay28 (k0_pay26 v) (k0_pay27 v) (ix2 r d)) = unit A 1920 (1920 + d.val) := by
  unfold k0_pay28 k0_pay27 k0_pay26
  pointwise
  exact congrArg₂ (· * ·) (hA _ _) (congrArg Ideal.rsqrt (congrArg (· + _) (Finset.sum_congr rfl fun e _ => congrArg₂ (· * ·) (hA _ _) (hA _ _))))

end Heads

/-- The gates' payload in its lanes. -/
theorem pay1_apply (z : Vec Ideal S256x128 .f32) (a d : Vec Ideal S1x128 .f32) (r : Fin 256) (j : Fin 128) :
    (show EReal from k0_pay1 (iota Kind.tc S256x128 32 [1] iota_S256x128_d1_w32) (k0_pay31 z) (k0_pay32 z a d) k0_pay33 (16#32) (ix2 r j))
      = if j.val < 8 then Ideal.logistic (show EReal from z (ix2 r j))
        else if j.val < 16 then -(Ideal.exp (show EReal from a (ix2 (0 : Fin 1) j)))
          * softplus ((show EReal from z (ix2 r j)) + (show EReal from d (ix2 (0 : Fin 1) j))) else 0 := by
  have e31 : (show EReal from k0_pay31 z (ix2 r j)) = Ideal.logistic (show EReal from z (ix2 r j)) := by
    rw [← sigmoid_eq, ← half_f32]
    unfold k0_pay31 k0_pay30
    pointwise
  have e32 : (show EReal from k0_pay32 z a d (ix2 r j)) = -(Ideal.exp (show EReal from a (ix2 (0 : Fin 1) j)))
      * softplus ((show EReal from z (ix2 r j)) + (show EReal from d (ix2 (0 : Fin 1) j))) := by
    unfold k0_pay32 k0_pay30 softplus
    pointwise
    rw [zero_sub, zero_sub]
    rfl
  have lane : ∀ (k j : Fin 128), IntOp.cmpi CmpIPredicate.slt (BitVec.ofNat 32 j.val) (BitVec.ofNat 32 k.val) = if j.val < k.val then 1#1 else 0#1 := by
    decide +kernel
  have e33 : k0_pay33 (ix2 r j) = if j.val < 8 then 1#1 else 0#1 := by
    unfold k0_pay33
    show IntOp.cmpi .slt (iota Kind.tc S256x128 32 [1] iota_S256x128_d1_w32 (ix2 r j)) 8#32 = _
    rw [iota_single_apply]
    exact lane 8 j
  unfold k0_pay1
  generalize hu : k0_pay31 z = u at e31 ⊢
  generalize hw : k0_pay32 z a d = w at e32 ⊢
  generalize hq : k0_pay33 = q at e33 ⊢
  have l16 : IntOp.cmpi CmpIPredicate.slt ((iota Kind.tc S256x128 32 [1] iota_S256x128_d1_w32) (ix2 r j)) 16#32 = if j.val < 16 then 1#1 else 0#1 := by
    rw [iota_single_apply]
    exact lane 16 j
  generalize iota Kind.tc S256x128 32 [1] iota_S256x128_d1_w32 = ii at l16 ⊢
  pointwise
  refine (congrArg₂ (fun p s => Scalar.select p (u (ix2 r j)) (Scalar.select s (w (ix2 r j)) (0 : EReal))) e33 l16).trans ?_
  split
  · exact e31
  · split
    · exact e32
    · rfl

/-! ## The blocks -/

/-- Which block each window shows at a grid point, and which point is the first. -/
theorem idx_facts : ∀ t : Fin grid0.N,
    win0_0.index t = ![t.val, 0] ∧ win0_1.index t = ![t.val * 32 - 1, 0] ∧ win0_2.index t = ![t.val, 0] ∧ win0_3.index t = ![0, 0]
      ∧ win0_4.index t = ![0, 0] ∧ win0_5.index t = ![0, 0] ∧ win0_6.index t = ![0, 0]
      ∧ first (grid0.coords t) = if t.val = 0 then 1#1 else 0#1 := by
  decide +kernel

theorem out_facts : ∀ t : Fin grid0.N,
    win0_7.index t = ![t.val, 0] ∧ win0_8.index t = ![t.val, 0] ∧ win0_9.index t = ![t.val, 0] ∧ win0_10.index t = ![t.val, 0]
      ∧ win0_11.index t = ![t.val, 0] ∧ win0_12.index t = ![t.val, 0] := by
  decide +kernel

variable (m : (ℓ : Loc nD τ sig) → Buf (Elt Ideal) ℓ) (ρ : Dev nD → PrngReg)

/-- The argument arrays of device `c`. -/
abbrev P (c : Dev nD) : S8192x3072.Idx → EReal := m ((c : Thread nD τ).loc main_arg0)
abbrev X (c : Dev nD) : S8192x1024.Idx → EReal := m ((c : Thread nD τ).loc main_arg1)
abbrev B (c : Dev nD) : S1024x128.Idx → EReal := m ((c : Thread nD τ).loc main_arg2)
abbrev W (c : Dev nD) : S4x3072.Idx → EReal := m ((c : Thread nD τ).loc main_arg3)
abbrev a (c : Dev nD) : S1x128.Idx → EReal := m ((c : Thread nD τ).loc main_arg4)
abbrev d (c : Dev nD) : S1x128.Idx → EReal := m ((c : Thread nD τ).loc main_arg5)

theorem t_lt (t : Fin cfg0.N) : t.val < 32 := lt_of_lt_of_eq t.isLt N_0

/-- The array's row that the point's block shows in its row `r`. -/
def row (t : Fin cfg0.N) (r : Fin 256) : Fin 8192 := ⟨t.val * 256 + r.val, by have := t_lt t; omega⟩

theorem blk0 (c : Dev nD) (t : Fin cfg0.N) (n : ℕ) (h : n < 256) (j : Fin 3072) :
    (show EReal from (iblk m c 0 t : Vec Ideal S256x3072 .f32) (ix2 (⟨n, h⟩ : Fin 256) j)) = up (P m c) j (t.val * 256 + (n + 8) - 5) := by
  have ht := t_lt t
  unfold iblk up
  rw [dif_pos (by omega), View.read_apply]
  show V m c main_arg0 _ = _
  rw [V_main_arg0]
  congr 1
  refine Shape.idx_ext₂ (n := ![8192, 3072]) ?_ ?_
  · show win0_0.index t 0 * 256 + 1 * n = t.val * 256 + (n + 8) - 5 - 3
    rw [(idx_facts t).1, one_mul]
    show t.val * 256 + n = _
    omega
  · show win0_0.index t 1 * 3072 + 1 * j.val = j.val
    rw [(idx_facts t).1, one_mul]
    show 0 * 3072 + _ = _
    omega

theorem blk1 (c : Dev nD) (t : Fin cfg0.N) (n : ℕ) (h : n < 8) (j : Fin 3072) :
    (show EReal from Scalar.select (first (grid0.coords t)) (0 : EReal) ((iblk m c 1 t : Vec Ideal S8x3072 .f32) (ix2 (⟨n, h⟩ : Fin 8) j)))
      = up (P m c) j (t.val * 256 + n - 5) := by
  have ht := t_lt t
  rw [(idx_facts t).2.2.2.2.2.2.2]
  unfold up
  by_cases h0 : t.val = 0
  · rw [if_pos h0, dif_neg (by omega)]; rfl
  rw [if_neg h0, dif_pos (by omega)]
  show (show EReal from (iblk m c 1 t : Vec Ideal S8x3072 .f32) (ix2 (⟨n, h⟩ : Fin 8) j)) = _
  unfold iblk
  rw [View.read_apply]
  show V m c main_arg0 _ = _
  rw [V_main_arg0]
  congr 1
  refine Shape.idx_ext₂ (n := ![8192, 3072]) ?_ ?_
  · show win0_1.index t 0 * 8 + 1 * n = t.val * 256 + n - 5 - 3
    rw [(idx_facts t).2.1, one_mul]
    show (t.val * 32 - 1) * 8 + n = _
    omega
  · show win0_1.index t 1 * 3072 + 1 * j.val = j.val
    rw [(idx_facts t).2.1, one_mul]
    show 0 * 3072 + _ = _
    omega

/-- Row `o` of the taps, as the kernel loads it. -/
theorem blk4 (c : Dev nD) (t : Fin cfg0.N) (o : Fin 4) (hi) (j : Fin 3072) :
    (show EReal from View.ld (iblk m c 4 t : Vec Ideal S4x3072 .f32) (Rect.unit (s := S4x3072) ![o.val, 0] S1x3072.size hi) (ix2 (0 : Fin 1) j))
      = W m c (ix2 o j) := by
  show (show EReal from (iblk m c 4 t : Vec Ideal S4x3072 .f32) _) = _
  unfold iblk
  rw [View.read_apply]
  show V m c main_arg3 _ = _
  rw [V_main_arg3]
  congr 1
  refine Shape.idx_ext₂ (n := ![4, 3072]) ?_ ?_
  · show win0_4.index t 0 * 4 + 1 * (o.val + 1 * 0) = o.val
    rw [(idx_facts t).2.2.2.2.1]
    show 0 * 4 + _ = _
    omega
  · show win0_4.index t 1 * 3072 + 1 * (0 + 1 * j.val) = j.val
    rw [(idx_facts t).2.2.2.2.1]
    show 0 * 3072 + _ = _
    omega

theorem blk2 (c : Dev nD) (t : Fin cfg0.N) (r : Fin 256) (k : Fin 1024) :
    (show EReal from (iblk m c 2 t : Vec Ideal S256x1024 .bf16) (ix2 r k)) = X m c (ix2 (row t r) k) := by
  unfold iblk
  rw [View.read_apply]
  show V m c main_arg1 _ = _
  rw [V_main_arg1]
  congr 1
  refine Shape.idx_ext₂ (n := ![8192, 1024]) ?_ ?_
  · show win0_2.index t 0 * 256 + 1 * r.val = t.val * 256 + r.val
    rw [(idx_facts t).2.2.1, one_mul]; rfl
  · show win0_2.index t 1 * 1024 + 1 * k.val = k.val
    rw [(idx_facts t).2.2.1, one_mul]
    show 0 * 1024 + _ = _
    omega

theorem blk3 (c : Dev nD) (t : Fin cfg0.N) (k : Fin 1024) (j : Fin 128) :
    (show EReal from (iblk m c 3 t : Vec Ideal S1024x128 .bf16) (ix2 k j)) = B m c (ix2 k j) := by
  unfold iblk
  rw [View.read_apply]
  show V m c main_arg2 _ = _
  rw [V_main_arg2]
  congr 1
  refine Shape.idx_ext₂ (n := ![1024, 128]) ?_ ?_
  · show win0_3.index t 0 * 1024 + 1 * k.val = k.val
    rw [(idx_facts t).2.2.2.1, one_mul]
    show 0 * 1024 + _ = _
    omega
  · show win0_3.index t 1 * 128 + 1 * j.val = j.val
    rw [(idx_facts t).2.2.2.1, one_mul]
    show 0 * 128 + _ = _
    omega

theorem blk5 (c : Dev nD) (t : Fin cfg0.N) (j : Fin 128) :
    (show EReal from (iblk m c 5 t : Vec Ideal S1x128 .f32) (ix2 (0 : Fin 1) j)) = a m c (ix2 (0 : Fin 1) j) := by
  unfold iblk
  rw [View.read_apply]
  show V m c main_arg4 _ = _
  rw [V_main_arg4]
  congr 1
  refine Shape.idx_ext₂ (n := ![1, 128]) ?_ ?_
  · show win0_5.index t 0 * 1 + 1 * 0 = 0
    rw [(idx_facts t).2.2.2.2.2.1]; rfl
  · show win0_5.index t 1 * 128 + 1 * j.val = j.val
    rw [(idx_facts t).2.2.2.2.2.1, one_mul]
    show 0 * 128 + _ = _
    omega

theorem blk6 (c : Dev nD) (t : Fin cfg0.N) (j : Fin 128) :
    (show EReal from (iblk m c 6 t : Vec Ideal S1x128 .f32) (ix2 (0 : Fin 1) j)) = d m c (ix2 (0 : Fin 1) j) := by
  unfold iblk
  rw [View.read_apply]
  show V m c main_arg5 _ = _
  rw [V_main_arg5]
  congr 1
  refine Shape.idx_ext₂ (n := ![1, 128]) ?_ ?_
  · show win0_6.index t 0 * 1 + 1 * 0 = 0
    rw [(idx_facts t).2.2.2.2.2.2.1]; rfl
  · show win0_6.index t 1 * 128 + 1 * j.val = j.val
    rw [(idx_facts t).2.2.2.2.2.2.1, one_mul]
    show 0 * 128 + _ = _
    omega

/-! ## The results -/

/-- The convolution as the kernel's body has it at a grid point. -/
abbrev convAt (c : Dev nD) (t : Fin cfg0.N) : FVec Ideal S256x3072 .f32 :=
  k0_pay3 (grid0.coords t) (iblk m c 0 t) (iblk m c 1 t)
    (View.ld (iblk m c 4 t : Vec Ideal S4x3072 .f32) (Rect.unit ![3, 0] ![1, 3072] inb_S4x3072_S1x3072_3_0))
    (View.ld (iblk m c 4 t : Vec Ideal S4x3072 .f32) (Rect.unit ![2, 0] ![1, 3072] inb_S4x3072_S1x3072_2_0))
    (View.ld (iblk m c 4 t : Vec Ideal S4x3072 .f32) (Rect.unit ![1, 0] ![1, 3072] inb_S4x3072_S1x3072_1_0))
    (View.ld (iblk m c 4 t : Vec Ideal S4x3072 .f32) (Rect.unit ![0, 0] ![1, 3072] inb_S4x3072_S1x3072_0_0))

theorem convAt_eq (c : Dev nD) (t : Fin cfg0.N) (r : Fin 256) (j : Fin 3072) :
    (show EReal from convAt m c t (ix2 r j)) = conv (P m c) (W m c) (t.val * 256 + r.val) j := by
  refine (pay3_apply _ _ _ _ _ _ _ r j (fun n => up (P m c) j (t.val * 256 + n - 5))
    (fun n h => blk0 m c t n h j) (fun n h => blk1 m c t n h j)).trans ?_
  unfold conv
  refine congrArg₂ (· + ·) (congrArg₂ (· + ·) (congrArg₂ (· + ·) (congrArg₂ (· * ·) ?_ ?_) (congrArg₂ (· * ·) ?_ ?_))
    (congrArg₂ (· * ·) ?_ ?_)) (congrArg₂ (· * ·) ?_ ?_)
  · exact congrArg _ (by omega)
  · exact blk4 m c t 3 _ j
  · exact congrArg _ (by omega)
  · exact blk4 m c t 2 _ j
  · exact congrArg _ (by omega)
  · exact blk4 m c t 1 _ j
  · exact congrArg _ (by omega)
  · exact blk4 m c t 0 _ j

theorem actAt_eq (c : Dev nD) (t : Fin cfg0.N) (r : Fin 256) (n : ℕ) (h : n < 3072) :
    (show EReal from k0_pay4 (convAt m c t) (ix2 r (⟨n, h⟩ : Fin 3072))) = act (P m c) (W m c) (t.val * 256 + r.val) n := by
  unfold act
  rw [dif_pos h]
  exact (pay4_apply (convAt m c t) _).trans (congrArg₂ (fun x y => x * Ideal.logistic y) (convAt_eq m c t r _) (convAt_eq m c t r _))

theorem logitsAt_eq (c : Dev nD) (t : Fin cfg0.N) (r : Fin 256) (j : Fin 128) :
    (show EReal from k0_pay2 (iblk m c 2 t) (iblk m c 3 t) (ix2 r j)) = logits (X m c) (B m c) (row t r) j :=
  (pay2_apply (iblk m c 2 t) (iblk m c 3 t) (ix2 r j)).trans
    (Finset.sum_congr rfl fun k _ => congrArg₂ (· * ·) (blk2 m c t r k) (blk3 m c t k j))

/-- The results at an index of their arrays: the queries (`s = 0`) and the keys (`s = 1024`), the values, the gates, the
    convolution and the gates' logits. -/
def Heads (s : ℕ) (P : S8192x3072.Idx → EReal) (W : S4x3072.Idx → EReal) (i : S8192x1024.Idx) : EReal := head P W (i 0).val (s + (i 1).val)
def Vals (P : S8192x3072.Idx → EReal) (W : S4x3072.Idx → EReal) (i : S8192x1024.Idx) : EReal := act P W (i 0).val (2048 + (i 1).val)
def Gates (X : S8192x1024.Idx → EReal) (B : S1024x128.Idx → EReal) (a d : S1x128.Idx → EReal) (i : S8192x128.Idx) : EReal :=
  gate X B a d (i 0) (i 1)
def Conv (P : S8192x3072.Idx → EReal) (W : S4x3072.Idx → EReal) (i : S8192x3072.Idx) : EReal := conv P W (i 0).val (i 1)
def Logits (X : S8192x1024.Idx → EReal) (B : S1024x128.Idx → EReal) (i : S8192x128.Idx) : EReal := logits X B (i 0) (i 1)

/-- The queries at an index of the block. -/
theorem out7_eq (c : Dev nD) (t : Fin cfg0.N) (y : S256x1024.Idx) :
    (show EReal from (outsAt0 m c t).1 y) = head (P m c) (W m c) (t.val * 256 + (y 0).val) (0 + (y 1).val) := by
  have hx (x : S256x128.Idx) : x = ix2 (n0 := 256) (n1 := 128) (x 0) (x 1) := Shape.idx_ext₂ (n := ![256, 128]) rfl rfl
  have lx (x : S256x128.Idx) : (x 1).val < 128 := (x 1).isLt
  have rx (r n : ℕ) (x : S256x128.Idx) : head (P m c) (W m c) (r + (x 0).val) n = head (P m c) (W m c) (r + (0 + 1 * (x 0).val)) n := by
    rw [zero_add, one_mul]
  unfold outsAt0
  frame_out
  refine View.canon_apply_of_pieces (Val := Elt Ideal) (e := .f32)
    (fun y => head (P m c) (W m c) (t.val * 256 + (y 0).val) (0 + (y 1).val)) _ ?_ y
    (View.cover_of_tiled _ ![256, 128] rfl y)
  refine List.forall_mem_cons.mpr ⟨fun (x : S256x128.Idx) => ?_, ?_⟩
  · refine (congrArg (k0_pay25 _) (hx x)).trans (((pay25_apply (k0_pay4 (convAt m c t)) _ (x 0) (x 1) (actAt_eq m c t (x 0))).trans
      (unit_eq_head _ _ _ 896 (x 1).val (0 + (896 + 1 * (x 1).val)) (by omega) (lx x) rfl)).trans (rx _ _ x))
  refine List.forall_mem_cons.mpr ⟨fun (x : S256x128.Idx) => ?_, ?_⟩
  · refine (congrArg (k0_pay23 _) (hx x)).trans (((pay23_apply (k0_pay4 (convAt m c t)) _ (x 0) (x 1) (actAt_eq m c t (x 0))).trans
      (unit_eq_head _ _ _ 768 (x 1).val (0 + (768 + 1 * (x 1).val)) (by omega) (lx x) rfl)).trans (rx _ _ x))
  refine List.forall_mem_cons.mpr ⟨fun (x : S256x128.Idx) => ?_, ?_⟩
  · refine (congrArg (k0_pay19 _) (hx x)).trans (((pay19_apply (k0_pay4 (convAt m c t)) _ (x 0) (x 1) (actAt_eq m c t (x 0))).trans
      (unit_eq_head _ _ _ 640 (x 1).val (0 + (640 + 1 * (x 1).val)) (by omega) (lx x) rfl)).trans (rx _ _ x))
  refine List.forall_mem_cons.mpr ⟨fun (x : S256x128.Idx) => ?_, ?_⟩
  · refine (congrArg (k0_pay17 _) (hx x)).trans (((pay17_apply (k0_pay4 (convAt m c t)) _ (x 0) (x 1) (actAt_eq m c t (x 0))).trans
      (unit_eq_head _ _ _ 512 (x 1).val (0 + (512 + 1 * (x 1).val)) (by omega) (lx x) rfl)).trans (rx _ _ x))
  refine List.forall_mem_cons.mpr ⟨fun (x : S256x128.Idx) => ?_, ?_⟩
  · refine (congrArg (k0_pay13 _) (hx x)).trans (((pay13_apply (k0_pay4 (convAt m c t)) _ (x 0) (x 1) (actAt_eq m c t (x 0))).trans
      (unit_eq_head _ _ _ 384 (x 1).val (0 + (384 + 1 * (x 1).val)) (by omega) (lx x) rfl)).trans (rx _ _ x))
  refine List.forall_mem_cons.mpr ⟨fun (x : S256x128.Idx) => ?_, ?_⟩
  · refine (congrArg (k0_pay11 _) (hx x)).trans (((pay11_apply (k0_pay4 (convAt m c t)) _ (x 0) (x 1) (actAt_eq m c t (x 0))).trans
      (unit_eq_head _ _ _ 256 (x 1).val (0 + (256 + 1 * (x 1).val)) (by omega) (lx x) rfl)).trans (rx _ _ x))
  refine List.forall_mem_cons.mpr ⟨fun (x : S256x128.Idx) => ?_, ?_⟩
  · refine (congrArg (k0_pay7 _) (hx x)).trans (((pay7_apply (convAt m c t) _ (x 0) (x 1) (actAt_eq m c t (x 0))).trans
      (unit_eq_head _ _ _ 128 (x 1).val (0 + (128 + 1 * (x 1).val)) (by omega) (lx x) rfl)).trans (rx _ _ x))
  refine List.forall_mem_cons.mpr ⟨fun (x : S256x128.Idx) => ?_, ?_⟩
  · refine (congrArg (k0_pay5 _) (hx x)).trans (((pay5_apply (convAt m c t) _ (x 0) (x 1) (actAt_eq m c t (x 0))).trans
      (unit_eq_head _ _ _ 0 (x 1).val (0 + (0 + 1 * (x 1).val)) (by omega) (lx x) rfl)).trans (rx _ _ x))
  exact List.forall_mem_nil _

/-- The keys at an index of the block. -/
theorem out8_eq (c : Dev nD) (t : Fin cfg0.N) (y : S256x1024.Idx) :
    (show EReal from (outsAt0 m c t).2.1 y) = head (P m c) (W m c) (t.val * 256 + (y 0).val) (1024 + (y 1).val) := by
  have hx (x : S256x128.Idx) : x = ix2 (n0 := 256) (n1 := 128) (x 0) (x 1) := Shape.idx_ext₂ (n := ![256, 128]) rfl rfl
  have lx (x : S256x128.Idx) : (x 1).val < 128 := (x 1).isLt
  have rx (r n : ℕ) (x : S256x128.Idx) : head (P m c) (W m c) (r + (x 0).val) n = head (P m c) (W m c) (r + (0 + 1 * (x 0).val)) n := by
    rw [zero_add, one_mul]
  unfold outsAt0
  frame_out
  refine View.canon_apply_of_pieces (Val := Elt Ideal) (e := .f32)
    (fun y => head (P m c) (W m c) (t.val * 256 + (y 0).val) (1024 + (y 1).val)) _ ?_ y
    (View.cover_of_tiled _ ![256, 128] rfl y)
  refine List.forall_mem_cons.mpr ⟨fun (x : S256x128.Idx) => ?_, ?_⟩
  · refine (congrArg (k0_pay28 _ _) (hx x)).trans (((pay28_apply (k0_pay4 (convAt m c t)) _ (x 0) (x 1) (actAt_eq m c t (x 0))).trans
      (unit_eq_head _ _ _ 1920 (x 1).val (1024 + (896 + 1 * (x 1).val)) (by omega) (lx x) rfl)).trans (rx _ _ x))
  refine List.forall_mem_cons.mpr ⟨fun (x : S256x128.Idx) => ?_, ?_⟩
  · refine (congrArg (k0_pay24 _) (hx x)).trans (((pay24_apply (k0_pay4 (convAt m c t)) _ (x 0) (x 1) (actAt_eq m c t (x 0))).trans
      (unit_eq_head _ _ _ 1792 (x 1).val (1024 + (768 + 1 * (x 1).val)) (by omega) (lx x) rfl)).trans (rx _ _ x))
  refine List.forall_mem_cons.mpr ⟨fun (x : S256x128.Idx) => ?_, ?_⟩
  · refine (congrArg (k0_pay22 _ _) (hx x)).trans (((pay22_apply (k0_pay4 (convAt m c t)) _ (x 0) (x 1) (actAt_eq m c t (x 0))).trans
      (unit_eq_head _ _ _ 1664 (x 1).val (1024 + (640 + 1 * (x 1).val)) (by omega) (lx x) rfl)).trans (rx _ _ x))
  refine List.forall_mem_cons.mpr ⟨fun (x : S256x128.Idx) => ?_, ?_⟩
  · refine (congrArg (k0_pay18 _) (hx x)).trans (((pay18_apply (k0_pay4 (convAt m c t)) _ (x 0) (x 1) (actAt_eq m c t (x 0))).trans
      (unit_eq_head _ _ _ 1536 (x 1).val (1024 + (512 + 1 * (x 1).val)) (by omega) (lx x) rfl)).trans (rx _ _ x))
  refine List.forall_mem_cons.mpr ⟨fun (x : S256x128.Idx) => ?_, ?_⟩
  · refine (congrArg (k0_pay16 _ _) (hx x)).trans (((pay16_apply (k0_pay4 (convAt m c t)) _ (x 0) (x 1) (actAt_eq m c t (x 0))).trans
      (unit_eq_head _ _ _ 1408 (x 1).val (1024 + (384 + 1 * (x 1).val)) (by omega) (lx x) rfl)).trans (rx _ _ x))
  refine List.forall_mem_cons.mpr ⟨fun (x : S256x128.Idx) => ?_, ?_⟩
  · refine (congrArg (k0_pay12 _) (hx x)).trans (((pay12_apply (k0_pay4 (convAt m c t)) _ (x 0) (x 1) (actAt_eq m c t (x 0))).trans
      (unit_eq_head _ _ _ 1280 (x 1).val (1024 + (256 + 1 * (x 1).val)) (by omega) (lx x) rfl)).trans (rx _ _ x))
  refine List.forall_mem_cons.mpr ⟨fun (x : S256x128.Idx) => ?_, ?_⟩
  · refine (congrArg (k0_pay10 _ _) (hx x)).trans (((pay10_apply (convAt m c t) _ (x 0) (x 1) (actAt_eq m c t (x 0))).trans
      (unit_eq_head _ _ _ 1152 (x 1).val (1024 + (128 + 1 * (x 1).val)) (by omega) (lx x) rfl)).trans (rx _ _ x))
  refine List.forall_mem_cons.mpr ⟨fun (x : S256x128.Idx) => ?_, ?_⟩
  · refine (congrArg (k0_pay6 _) (hx x)).trans (((pay6_apply (convAt m c t) _ (x 0) (x 1) (actAt_eq m c t (x 0))).trans
      (unit_eq_head _ _ _ 1024 (x 1).val (1024 + (0 + 1 * (x 1).val)) (by omega) (lx x) rfl)).trans (rx _ _ x))
  exact List.forall_mem_nil _

/-- The values at an index of the block. -/
theorem out9_eq (c : Dev nD) (t : Fin cfg0.N) (y : S256x1024.Idx) :
    (show EReal from (outsAt0 m c t).2.2.1 y) = act (P m c) (W m c) (t.val * 256 + (y 0).val) (2048 + (y 1).val) := by
  have hy : y = ix2 (n0 := 256) (n1 := 1024) (y 0) (y 1) := Shape.idx_ext₂ (n := ![256, 1024]) rfl rfl
  unfold outsAt0
  frame_out
  exact (congrArg (k0_pay29 _) hy).trans ((pay29_apply (k0_pay4 (convAt m c t)) (y 0) (y 1)).trans (actAt_eq m c t (y 0) _ _))

/-- The gates at an index of the block. -/
theorem out10_eq (c : Dev nD) (t : Fin cfg0.N) (y : S256x128.Idx) :
    (show EReal from (outsAt0 m c t).2.2.2.1 y) = gate (X m c) (B m c) (a m c) (d m c) (row t (y 0)) (y 1) := by
  have hy : y = ix2 (n0 := 256) (n1 := 128) (y 0) (y 1) := Shape.idx_ext₂ (n := ![256, 128]) rfl rfl
  unfold outsAt0
  frame_out
  refine (congrArg (k0_pay1 _ _ _ _ _) hy).trans ((pay1_apply (k0_pay2 (iblk m c 2 t) (iblk m c 3 t)) (iblk m c 5 t) (iblk m c 6 t) (y 0) (y 1)).trans ?_)
  have e := logitsAt_eq m c t (y 0) (y 1)
  have e5 := blk5 m c t (y 1)
  have e6 := blk6 m c t (y 1)
  unfold gate
  rw [e, e5, e6]

/-- The convolution at an index of the block. -/
theorem out11_eq (c : Dev nD) (t : Fin cfg0.N) (y : S256x3072.Idx) :
    (show EReal from (outsAt0 m c t).2.2.2.2.1 y) = conv (P m c) (W m c) (t.val * 256 + (y 0).val) (y 1) := by
  have hy : y = ix2 (n0 := 256) (n1 := 3072) (y 0) (y 1) := Shape.idx_ext₂ (n := ![256, 3072]) rfl rfl
  unfold outsAt0
  frame_out
  exact (congrArg (convAt m c t) hy).trans (convAt_eq m c t (y 0) (y 1))

/-- The gates' logits at an index of the block. -/
theorem out12_eq (c : Dev nD) (t : Fin cfg0.N) (y : S256x128.Idx) :
    (show EReal from (outsAt0 m c t).2.2.2.2.2 y) = logits (X m c) (B m c) (row t (y 0)) (y 1) := by
  have hy : y = ix2 (n0 := 256) (n1 := 128) (y 0) (y 1) := Shape.idx_ext₂ (n := ![256, 128]) rfl rfl
  unfold outsAt0
  frame_out
  exact (congrArg (k0_pay2 _ _) hy).trans (logitsAt_eq m c t (y 0) (y 1))

theorem final7 (c : Dev nD) : (dats m 0 c).arrAt 7 cfg0.N = Heads 0 (P m c) (W m c) := by
  refine (dats m 0 c).arrAt_eq_of_covers 7 _ (by decide +kernel) fun t hf y => ?_
  blk_simp
  rw [after0_7]
  refine (out7_eq m c t y).trans (congrArg₂ (head (P m c) (W m c)) (?_) (congrArg (0 + ·) ?_))
  · show t.val * 256 + (y 0).val = win0_7.index t 0 * 256 + 1 * (y 0).val
    rw [(out_facts t).1, one_mul]; rfl
  · show (y 1).val = win0_7.index t 1 * 1024 + 1 * (y 1).val
    rw [(out_facts t).1, one_mul]
    show _ = 0 * 1024 + _
    omega

theorem final8 (c : Dev nD) : (dats m 0 c).arrAt 8 cfg0.N = Heads 1024 (P m c) (W m c) := by
  refine (dats m 0 c).arrAt_eq_of_covers 8 _ (by decide +kernel) fun t hf y => ?_
  blk_simp
  rw [after0_8]
  refine (out8_eq m c t y).trans (congrArg₂ (head (P m c) (W m c)) (?_) (congrArg (1024 + ·) ?_))
  · show t.val * 256 + (y 0).val = win0_8.index t 0 * 256 + 1 * (y 0).val
    rw [(out_facts t).2.1, one_mul]; rfl
  · show (y 1).val = win0_8.index t 1 * 1024 + 1 * (y 1).val
    rw [(out_facts t).2.1, one_mul]
    show _ = 0 * 1024 + _
    omega

theorem final9 (c : Dev nD) : (dats m 0 c).arrAt 9 cfg0.N = Vals (P m c) (W m c) := by
  refine (dats m 0 c).arrAt_eq_of_covers 9 _ (by decide +kernel) fun t hf y => ?_
  blk_simp
  rw [after0_9]
  refine (out9_eq m c t y).trans (congrArg₂ (act (P m c) (W m c)) (?_) (congrArg (2048 + ·) ?_))
  · show t.val * 256 + (y 0).val = win0_9.index t 0 * 256 + 1 * (y 0).val
    rw [(out_facts t).2.2.1, one_mul]; rfl
  · show (y 1).val = win0_9.index t 1 * 1024 + 1 * (y 1).val
    rw [(out_facts t).2.2.1, one_mul]
    show _ = 0 * 1024 + _
    omega

theorem final10 (c : Dev nD) : (dats m 0 c).arrAt 10 cfg0.N = Gates (X m c) (B m c) (a m c) (d m c) := by
  refine (dats m 0 c).arrAt_eq_of_covers 10 _ (by decide +kernel) fun t hf y => ?_
  blk_simp
  rw [after0_10]
  refine (out10_eq m c t y).trans (congrArg₂ (gate (X m c) (B m c) (a m c) (d m c)) (Fin.ext ?_) (Fin.ext ?_))
  · show t.val * 256 + (y 0).val = win0_10.index t 0 * 256 + 1 * (y 0).val
    rw [(out_facts t).2.2.2.1, one_mul]; rfl
  · show (y 1).val = win0_10.index t 1 * 128 + 1 * (y 1).val
    rw [(out_facts t).2.2.2.1, one_mul]
    show _ = 0 * 128 + _
    omega

theorem final11 (c : Dev nD) : (dats m 0 c).arrAt 11 cfg0.N = Conv (P m c) (W m c) := by
  refine (dats m 0 c).arrAt_eq_of_covers 11 _ (by decide +kernel) fun t hf y => ?_
  blk_simp
  rw [after0_11]
  refine (out11_eq m c t y).trans (congrArg₂ (conv (P m c) (W m c)) (?_) (Fin.ext ?_))
  · show t.val * 256 + (y 0).val = win0_11.index t 0 * 256 + 1 * (y 0).val
    rw [(out_facts t).2.2.2.2.1, one_mul]; rfl
  · show (y 1).val = win0_11.index t 1 * 3072 + 1 * (y 1).val
    rw [(out_facts t).2.2.2.2.1, one_mul]
    show _ = 0 * 3072 + _
    omega

theorem final12 (c : Dev nD) : (dats m 0 c).arrAt 12 cfg0.N = Logits (X m c) (B m c) := by
  refine (dats m 0 c).arrAt_eq_of_covers 12 _ (by decide +kernel) fun t hf y => ?_
  blk_simp
  rw [after0_12]
  refine (out12_eq m c t y).trans (congrArg₂ (logits (X m c) (B m c)) (Fin.ext ?_) (Fin.ext ?_))
  · show t.val * 256 + (y 0).val = win0_12.index t 0 * 256 + 1 * (y 0).val
    rw [(out_facts t).2.2.2.2.2, one_mul]; rfl
  · show (y 1).val = win0_12.index t 1 * 128 + 1 * (y 1).val
    rw [(out_facts t).2.2.2.2.2, one_mul]
    show _ = 0 * 128 + _
    omega

/-! ## The reference -/

open Cert.QkvPrepRefIdeal.Read

section Ref

variable (P : S8192x3072.Idx → EReal) (X : S8192x1024.Idx → EReal) (B : S1024x128.Idx → EReal) (W : S4x3072.Idx → EReal)
  (a d : S1x128.Idx → EReal)

/-- The projections with three zero rows before them. -/
theorem ref1 (i : Cert.QkvPrepRefIdeal.S8195x3072.Idx) (j : Fin 3072) (n : ℕ) (h0 : (i 0).val = n) (h1 : (i 1).val = j.val) :
    val_main_v1 (F := Ideal) P i = up P j n := by
  subst h0
  have hi : (i 0).val < 8195 := (i 0).isLt
  unfold val_main_v1 up
  by_cases h : (i 0).val < 3
  · rw [dif_neg (by omega)]
    refine (concatenate_pair_apply_left (t := Cert.QkvPrepRefIdeal.S8195x3072) (s₁ := Cert.QkvPrepRefIdeal.S3x3072) (s₂ := S8192x3072) 0
      (val_main_v0 (F := Ideal)) P _ i rfl (ix2 (n0 := 3) (n1 := 3072) ⟨(i 0).val, h⟩ j) (fun b => ?_)).trans ?_
    · match b with
      | ⟨0, _⟩ => rfl
      | ⟨1, _⟩ => exact h1.symm
    · rw [val_main_v0_apply]; exact Ideal.ofBits_zero_f32
  · rw [dif_pos (by omega)]
    refine concatenate_pair_apply_right (t := Cert.QkvPrepRefIdeal.S8195x3072) (s₁ := Cert.QkvPrepRefIdeal.S3x3072) (s₂ := S8192x3072) 0
      (val_main_v0 (F := Ideal)) P _ i rfl rfl (ix2 (n0 := 8192) (n1 := 3072) ⟨(i 0).val - 3, by omega⟩ j) (fun b hb => ?_) ?_
    · match b with
      | ⟨0, _⟩ => exact absurd rfl hb
      | ⟨1, _⟩ => exact h1.symm
    · show (i 0).val - 3 + 3 = (i 0).val
      omega

theorem ref7 (i : S8192x3072.Idx) : val_main_v7 (F := Ideal) P W i = up P (i 1) (i 0).val * W (ix2 (0 : Fin 4) (i 1)) := by
  rw [val_main_v7_apply, val_main_v6_apply, val_main_v5_apply, val_main_v3_apply, val_main_v2_apply, val_main_v4_apply]
  refine (mul_comm _ _).trans (congrArg₂ (· * ·) (ref1 P _ _ _ ?_ rfl) (congrArg W (Shape.idx_ext₂ (n := ![4, 3072]) rfl (Nat.mod_eq_of_lt (i 1).isLt))))
  rfl

theorem ref15 (i : S8192x3072.Idx) : val_main_v15 (F := Ideal) P W i = up P (i 1) ((i 0).val + 1) * W (ix2 (1 : Fin 4) (i 1)) := by
  rw [val_main_v15_apply, val_main_v14_apply, val_main_v13_apply, val_main_v11_apply, val_main_v10_apply, val_main_v12_apply]
  refine (mul_comm _ _).trans (congrArg₂ (· * ·) (ref1 P _ _ _ ?_ rfl) (congrArg W (Shape.idx_ext₂ (n := ![4, 3072]) rfl (Nat.mod_eq_of_lt (i 1).isLt))))
  exact Nat.add_comm 1 _

theorem ref22 (i : S8192x3072.Idx) : val_main_v22 (F := Ideal) P W i = up P (i 1) ((i 0).val + 2) * W (ix2 (2 : Fin 4) (i 1)) := by
  rw [val_main_v22_apply, val_main_v21_apply, val_main_v20_apply, val_main_v18_apply, val_main_v17_apply, val_main_v19_apply]
  refine (mul_comm _ _).trans (congrArg₂ (· * ·) (ref1 P _ _ _ ?_ rfl) (congrArg W (Shape.idx_ext₂ (n := ![4, 3072]) rfl (Nat.mod_eq_of_lt (i 1).isLt))))
  exact Nat.add_comm 2 _

theorem ref29 (i : S8192x3072.Idx) : val_main_v29 (F := Ideal) P W i = up P (i 1) ((i 0).val + 3) * W (ix2 (3 : Fin 4) (i 1)) := by
  rw [val_main_v29_apply, val_main_v28_apply, val_main_v27_apply, val_main_v25_apply, val_main_v24_apply, val_main_v26_apply]
  refine (mul_comm _ _).trans (congrArg₂ (· * ·) (ref1 P _ _ _ ?_ rfl) (congrArg W (Shape.idx_ext₂ (n := ![4, 3072]) rfl (Nat.mod_eq_of_lt (i 1).isLt))))
  exact Nat.add_comm 3 _

theorem ref30_apply (i : S8192x3072.Idx) : val_main_v30 (F := Ideal) P W i = conv P W (i 0).val (i 1) := by
  have e8 : val_main_v8 (F := Ideal) i = 0 := by rw [val_main_v8_apply]; exact Ideal.ofBits_zero_f32
  show (((val_main_v8 (F := Ideal) i + val_main_v7 (F := Ideal) P W i) + val_main_v15 (F := Ideal) P W i) + val_main_v22 (F := Ideal) P W i)
    + val_main_v29 (F := Ideal) P W i = _
  rw [e8, zero_add, ref7, ref15, ref22, ref29]
  unfold conv
  generalize up P (i 1) (i 0).val * _ = x0
  generalize up P (i 1) ((i 0).val + 1) * _ = x1
  generalize up P (i 1) ((i 0).val + 2) * _ = x2
  generalize up P (i 1) ((i 0).val + 3) * _ = x3
  rw [add_comm (x0 + x1 + x2) x3, add_comm (x0 + x1) x2, add_comm x0 x1, ← add_assoc, ← add_assoc]

theorem ref31_apply (i : S8192x3072.Idx) : val_main_v31 (F := Ideal) P W i = act P W (i 0).val (i 1).val := by
  have e2 : val_main_call0_v2 (F := Ideal) i = 1 := by rw [val_main_call0_v2_apply]; exact Ideal.ofBits_one_f32
  have e4 : val_main_call0_v4 (F := Ideal) i = 1 := by rw [val_main_call0_v4_apply]; exact Ideal.ofBits_one_f32
  show val_main_v30 (F := Ideal) P W i * Ideal.div (val_main_call0_v4 (F := Ideal) i)
    (val_main_call0_v2 (F := Ideal) i + Ideal.exp (-(val_main_v30 (F := Ideal) P W i))) = _
  rw [e2, e4, ref30_apply]
  unfold act
  refine Eq.trans ?_ (dif_pos (show (i 1).val < 3072 from (i 1).isLt)).symm
  rfl

theorem ref33_apply (k : Cert.QkvPrepRefIdeal.S8192x8x128.Idx) :
    val_main_v33 (F := Ideal) P W k = act P W (k 0).val (0 + ((k 1).val * 128 + (k 2).val)) := by
  have h1 : (k 1).val < 8 := (k 1).isLt
  have h2 : (k 2).val < 128 := (k 2).isLt
  rw [val_main_v33_apply, val_main_v32_apply, ref31_apply]
  refine congrArg₂ (act P W) ?_ ?_
  · show (((k 0).val * 8 + (k 1).val) * 128 + (k 2).val) / 1024 = (k 0).val
    omega
  · show (((k 0).val * 8 + (k 1).val) * 128 + (k 2).val) % 1024 = _
    omega

theorem ref42 : val_main_v42 (F := Ideal) P W = Heads 0 P W := by
  funext i
  have h1 : (i 1).val < 1024 := (i 1).isLt
  have e0 : ((i 0).val * 1024 + (i 1).val) / 1024 = (i 0).val := by omega
  rw [val_main_v42_apply, val_main_v41_apply, val_main_v40_apply, val_main_v39_apply, val_main_v38_apply, val_main_v36_apply,
    val_main_v35_apply, val_main_v37_apply, ref33_apply]
  unfold Heads head unit
  refine congrArg₂ (· * ·) (congrArg₂ (act P W) e0 ?_) (congrArg Ideal.rsqrt (congrArg₂ (· + ·) ?_ rfl))
  · show 0 + (((i 0).val * 1024 + (i 1).val) / 128 % 8 * 128 + ((i 0).val * 1024 + (i 1).val) % 128) = _
    omega
  · refine (congrArg (· + _) Ideal.ofBits_zero_f32).trans ((zero_add _).trans (Finset.sum_congr rfl fun e _ => ?_))
    rw [val_main_v34_apply, ref33_apply]
    have h : 0 + (((i 0).val * 1024 + (i 1).val) / 128 % 8 * 128 + e.val) = (0 + (i 1).val) / 128 * 128 + e.val := by omega
    exact congrArg₂ (· * ·) (congrArg₂ (act P W) e0 h) (congrArg₂ (act P W) e0 h)

theorem ref44_apply (k : Cert.QkvPrepRefIdeal.S8192x8x128.Idx) :
    val_main_v44 (F := Ideal) P W k = act P W (k 0).val (1024 + ((k 1).val * 128 + (k 2).val)) := by
  have h1 : (k 1).val < 8 := (k 1).isLt
  have h2 : (k 2).val < 128 := (k 2).isLt
  rw [val_main_v44_apply, val_main_v43_apply, ref31_apply]
  refine congrArg₂ (act P W) ?_ ?_
  · show (((k 0).val * 8 + (k 1).val) * 128 + (k 2).val) / 1024 = (k 0).val
    omega
  · show 1024 + (((k 0).val * 8 + (k 1).val) * 128 + (k 2).val) % 1024 = _
    omega

theorem ref53 : val_main_v53 (F := Ideal) P W = Heads 1024 P W := by
  funext i
  have h1 : (i 1).val < 1024 := (i 1).isLt
  have e0 : ((i 0).val * 1024 + (i 1).val) / 1024 = (i 0).val := by omega
  rw [val_main_v53_apply, val_main_v52_apply, val_main_v51_apply, val_main_v50_apply, val_main_v49_apply, val_main_v47_apply,
    val_main_v46_apply, val_main_v48_apply, ref44_apply]
  unfold Heads head unit
  refine congrArg₂ (· * ·) (congrArg₂ (act P W) e0 ?_) (congrArg Ideal.rsqrt (congrArg₂ (· + ·) ?_ rfl))
  · show 1024 + (((i 0).val * 1024 + (i 1).val) / 128 % 8 * 128 + ((i 0).val * 1024 + (i 1).val) % 128) = _
    omega
  · refine (congrArg (· + _) Ideal.ofBits_zero_f32).trans ((zero_add _).trans (Finset.sum_congr rfl fun e _ => ?_))
    rw [val_main_v45_apply, ref44_apply]
    have h : 1024 + (((i 0).val * 1024 + (i 1).val) / 128 % 8 * 128 + e.val) = (1024 + (i 1).val) / 128 * 128 + e.val := by omega
    exact congrArg₂ (· * ·) (congrArg₂ (act P W) e0 h) (congrArg₂ (act P W) e0 h)

theorem ref80 : val_main_v80 (F := Ideal) P W = Vals P W := by
  funext i
  rw [val_main_v80_apply, ref31_apply]
  rfl

theorem ref56_apply (i : S8192x128.Idx) : val_main_v56 (F := Ideal) X B i = logits X B (i 0) (i 1) := by
  rw [val_main_v56_apply]
  unfold logits
  refine Finset.sum_congr rfl fun k _ => congrArg₂ (· * ·) (congrArg X ?_) (congrArg B ?_)
  · exact Shape.idx_ext₂ (n := ![8192, 1024]) rfl rfl
  · exact Shape.idx_ext₂ (n := ![1024, 128]) rfl rfl

theorem ref63_apply (i : Cert.QkvPrepRefIdeal.S8192x8.Idx) (r : Fin 8192) (j : Fin 128) (h0 : (i 0).val = r.val) (h1 : (i 1).val = j.val) :
    val_main_v63 (F := Ideal) X B i = Ideal.logistic (logits X B r j) := by
  have e60 : val_main_v60 (F := Ideal) i = 1 := by rw [val_main_v60_apply]; exact Ideal.ofBits_one_f32
  have e62 : val_main_v62 (F := Ideal) i = 1 := by rw [val_main_v62_apply]; exact Ideal.ofBits_one_f32
  show Ideal.div (val_main_v62 (F := Ideal) i) (val_main_v60 (F := Ideal) i + Ideal.exp (-(val_main_v57 (F := Ideal) X B i))) = _
  rw [e60, e62, val_main_v57_apply, ref56_apply]
  have e : logits X B (idx_main_v57 i 0) (idx_main_v57 i 1) = logits X B r j := congrArg₂ (logits X B) (Fin.ext h0) (Fin.ext h1)
  rw [e]
  rfl

theorem ref74_apply (i : Cert.QkvPrepRefIdeal.S8192x8.Idx) :
    val_main_v74 (F := Ideal) X B d i = softplus (val_main_v73 (F := Ideal) X B d i) := by
  have e0 : val_main_call1_v0 (F := Ideal) i = 0 := by rw [val_main_call1_v0_apply]; exact Ideal.ofBits_zero_f32
  have e2 : val_main_call1_v2 (F := Ideal) i = 0 := by rw [val_main_call1_v2_apply]; exact Ideal.ofBits_zero_f32
  have e4 : val_main_call1_v4 (F := Ideal) X B d i = 0#1 := by
    rw [val_main_call1_v4_apply]
    simp [Ideal.cmpf_def, Ideal.cmp]
  rw [val_main_v74_apply, e4]
  show max (val_main_v73 (F := Ideal) X B d i) (val_main_call1_v0 (F := Ideal) i) + Ideal.log1p (Ideal.exp (-(FloatOps.absf (F := Ideal) (φ := .f32)
    (val_main_v73 (F := Ideal) X B d i - val_main_call1_v2 (F := Ideal) i) : EReal))) = _
  rw [e0, e2, sub_zero]
  rfl

theorem ref77_apply (i : Cert.QkvPrepRefIdeal.S8192x8.Idx) (r : Fin 8192) (j : Fin 128) (h0 : (i 0).val = r.val) (h1 : 8 + (i 1).val = j.val) :
    val_main_v77 (F := Ideal) X B a d i = -(Ideal.exp (a (ix2 (0 : Fin 1) j))) * softplus (logits X B r j + d (ix2 (0 : Fin 1) j)) := by
  have h8 : (i 1).val < 8 := (i 1).isLt
  have hj : 8 + (i 1).val % 8 = j.val := by omega
  rw [val_main_v77_apply, ref74_apply, val_main_v76_apply, val_main_v75_apply, val_main_v67_apply, val_main_v66_apply, val_main_v65_apply,
    val_main_v64_apply, val_main_v73_apply, val_main_v68_apply, ref56_apply, val_main_v72_apply, val_main_v71_apply, val_main_v70_apply,
    val_main_v69_apply]
  refine congrArg₂ (fun x y => -(Ideal.exp x) * softplus y) (congrArg a ?_) (congrArg₂ (· + ·) (congrArg₂ (logits X B) (Fin.ext h0) (Fin.ext h1)) (congrArg d ?_))
  · exact Shape.idx_ext₂ (n := ![1, 128]) rfl hj
  · exact Shape.idx_ext₂ (n := ![1, 128]) rfl hj

/-- Three matrices side by side. -/
theorem cat3 (x y : Cert.QkvPrepRefIdeal.S8192x8.Idx → EReal) (z : Cert.QkvPrepRefIdeal.S8192x112.Idx → EReal) (h) (i : S8192x128.Idx) :
    concatenate Cert.QkvPrepRefIdeal.S8192x128 1 [⟨Cert.QkvPrepRefIdeal.S8192x8, x⟩, ⟨Cert.QkvPrepRefIdeal.S8192x8, y⟩, ⟨Cert.QkvPrepRefIdeal.S8192x112, z⟩] h i
      = if h1 : (i 1).val < 8 then x (ix2 (n0 := 8192) (n1 := 8) (i 0) ⟨(i 1).val, h1⟩)
        else if h2 : (i 1).val - 8 < 8 then y (ix2 (n0 := 8192) (n1 := 8) (i 0) ⟨(i 1).val - 8, h2⟩)
        else z (ix2 (n0 := 8192) (n1 := 112) (i 0) ⟨(i 1).val - 8 - 8, by have : (i 1).val < 128 := (i 1).isLt; omega⟩) := by
  pointwise
  rfl

theorem ref79 : val_main_v79 (F := Ideal) X B a d = Gates X B a d := by
  funext i
  refine (cat3 (val_main_v63 (F := Ideal) X B) (val_main_v77 (F := Ideal) X B a d) (val_main_v78 (F := Ideal)) _ i).trans ?_
  unfold Gates gate
  by_cases h1 : (i 1).val < 8
  · rw [dif_pos h1]
    refine (ref63_apply X B _ (i 0) (i 1) rfl rfl).trans ?_
    exact (if_pos h1).symm
  rw [dif_neg h1]
  refine Eq.trans ?_ (if_neg h1).symm
  by_cases h2 : (i 1).val < 16
  · rw [dif_pos (by omega)]
    refine (ref77_apply X B a d _ (i 0) (i 1) rfl ?_).trans (if_pos h2).symm
    show 8 + ((i 1).val - 8) = (i 1).val
    omega
  · rw [dif_neg (by omega)]
    refine Eq.trans ?_ (if_neg h2).symm
    rw [val_main_v78_apply]
    exact Ideal.ofBits_zero_f32

end Ref

/-! ## The claims -/

theorem frame : Cert.quiescent_QkvPrep := fun m ρ _ => Cert.QkvPrep.Gen.frame m ρ
theorem frame_ideal : Cert.quiescent_QkvPrepIdeal := fun m ρ _ => Cert.QkvPrepIdeal.Gen.frame m ρ
theorem frame_ref : Cert.quiescent_QkvPrepRefIdeal := fun m ρ _ =>
  (θ_run Cert.QkvPrepRefIdeal.defs _ _).mono (fun r h => ⟨fun c => (h c).2.2.2.2.2.2, sem_eq_zero_of_no_sems (by decide) r.2⟩)
    (Cert.QkvPrepRefIdeal.Value.run (F := Ideal) m ρ)

theorem preserves : Cert.preserves_QkvPrep_QkvPrepIdeal := trivial

theorem algebraic : Cert.algebraic_QkvPrepIdeal_QkvPrepRefIdeal := by
  intro m ρ m' ρ' _ hagree
  refine ⟨fun c => Heads 0 (P m c) (W m c), fun c => Heads 1024 (P m c) (W m c), fun c => Vals (P m c) (W m c),
    fun c => Gates (X m c) (B m c) (a m c) (d m c), fun c => Conv (P m c) (W m c), fun c => Logits (X m c) (B m c), ?_, ?_⟩
  · exact (θ_run Cert.QkvPrepIdeal.defs _ _).mono
      (fun _ h c => ⟨(h c).1.trans (final7 m c), (h c).2.1.trans (final8 m c), (h c).2.2.1.trans (final9 m c),
        (h c).2.2.2.1.trans (final10 m c), (h c).2.2.2.2.1.trans (final11 m c), (h c).2.2.2.2.2.1.trans (final12 m c), (h c).2.2.2.2.2.2⟩)
      (Cert.QkvPrepIdeal.Value.run_blocks (F := Ideal) m ρ)
  refine (θ_run Cert.QkvPrepRefIdeal.defs _ _).mono (fun r h c => ?_) (Cert.QkvPrepRefIdeal.Value.run (F := Ideal) m' ρ')
  have h1 := (h c).1.trans (val_main_v42_eq m' c)
  have h2 := (h c).2.1.trans (val_main_v53_eq m' c)
  have h3 := (h c).2.2.1.trans (val_main_v80_eq m' c)
  have h4 := (h c).2.2.2.1.trans (val_main_v79_eq m' c)
  have h5 := (h c).2.2.2.2.1.trans (val_main_v30_eq _ _)
  have h6 := (h c).2.2.2.2.2.1.trans (val_main_v56_eq _ _)
  rw [(hagree c).1, (hagree c).2.2.2.1] at h1 h2 h3 h5
  rw [(hagree c).2.1, (hagree c).2.2.1, (hagree c).2.2.2.2.1, (hagree c).2.2.2.2.2] at h4
  rw [(hagree c).2.1, (hagree c).2.2.1] at h6
  exact ⟨h1.trans (ref42 (P m c) (W m c)), h2.trans (ref53 (P m c) (W m c)), h3.trans (ref80 (P m c) (W m c)),
    h4.trans (ref79 (X m c) (B m c) (a m c) (d m c)), h5.trans (funext (ref30_apply (P m c) (W m c))),
    h6.trans (funext (ref56_apply (X m c) (B m c))), (h c).2.2.2.2.2.2⟩

end Cert.Proof.QkvPrepVal

end
-- ==== Proof.InQkvVal.lean ====
/-
  The input projection, the columns of the queries, keys and values: blocks of rows times blocks of columns; and that it is
  those columns of the product of the whole arrays.
-/
module

public import proofs.«01_k».proof.Defs
public import proofs.«01_k».proof.Proof.Common
public import proofs.«01_k».proof.Proof.Gen.InQkv.Frame
public import proofs.«01_k».proof.Proof.Gen.InQkvIdeal.Value
public import proofs.«01_k».proof.Proof.Gen.InQkvRefIdeal.Read
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.Proof.InQkvVal

open Cert.InQkvIdeal Cert.InQkvIdeal.Gen Cert.Common

/-- The result at an index. -/
def G (A : S8192x1024.Idx → EReal) (B : S1024x8192.Idx → EReal) (i : S8192x3072.Idx) : EReal :=
  ∑ k : Fin 1024, A (ix2 (i 0) k) * B (ix2 (n0 := 1024) (n1 := 8192) k ⟨(i 1).val + 0, by have : (i 1).val < 3072 := (i 1).isLt; omega⟩)

theorem pay_apply (v0 v1 : Vec Ideal S1024x1024 .bf16) (j : S1024x1024.Idx) :
    k0_pay1 v0 v1 j = ∑ k : Fin 1024, v0 (ix2 (j 0) k) * v1 (ix2 k (j 1)) :=
  matmul_nn_apply (φ₁ := .bf16) (φ₂ := .bf16) dot_S1024x1024_S1024x1024_S1024x1024_1_0_0_1_n_n rfl none v0 v1 j

/-- Which block each window shows at a grid point. -/
theorem idx_facts : ∀ t : Fin grid0.N,
    win0_0.index t = ![t.val / 3, 0] ∧ win0_1.index t = ![0, t.val % 3] ∧ win0_2.index t = ![t.val / 3, t.val % 3] := by
  decide +kernel

variable (m : (ℓ : Loc nD τ sig) → Buf (Elt Ideal) ℓ) (ρ : Dev nD → PrngReg)

/-- The argument arrays of device `c`. -/
abbrev A (c : Dev nD) : S8192x1024.Idx → EReal := m ((c : Thread nD τ).loc main_arg0)
abbrev B (c : Dev nD) : S1024x8192.Idx → EReal := m ((c : Thread nD τ).loc main_arg1)

/-- The index of result 2 that point `t` touches at index `j` of its block. -/
def at2 (t : Fin cfg0.N) (j : S1024x1024.Idx) : S8192x3072.Idx := (win0_2.blk t).view.emb j

theorem at2_0 (t : Fin cfg0.N) (j : S1024x1024.Idx) : (at2 t j 0).val = (t.val / 3) * 1024 + (j 0).val := by
  have h : (at2 t j 0).val = win0_2.index t 0 * 1024 + 1 * (j 0).val := rfl
  rw [h, (idx_facts t).2.2, one_mul]; rfl
theorem at2_1 (t : Fin cfg0.N) (j : S1024x1024.Idx) : (at2 t j 1).val = (t.val % 3) * 1024 + (j 1).val := by
  have h : (at2 t j 1).val = win0_2.index t 1 * 1024 + 1 * (j 1).val := rfl
  rw [h, (idx_facts t).2.2, one_mul]; rfl

theorem blk0 (c : Dev nD) (t : Fin cfg0.N) (j : S1024x1024.Idx) (k : Fin 1024) :
    (iblk m c 0 t : Vec Ideal S1024x1024 .bf16) (ix2 (n0 := 1024) (n1 := 1024) (j 0) k) = A m c (ix2 (n0 := 8192) (n1 := 1024) (at2 t j 0) k) := by
  unfold iblk
  rw [View.read_apply]
  show V m c main_arg0 _ = _
  rw [V_main_arg0]
  congr 1
  refine Shape.idx_ext₂ (n := ![8192, 1024]) ?_ ?_
  · show win0_0.index t 0 * 1024 + 1 * (j 0).val = (at2 t j 0).val
    rw [at2_0, (idx_facts t).1, one_mul]
    show (t.val / 3) * 1024 + _ = _
    omega
  · show win0_0.index t 1 * 1024 + 1 * k.val = k.val
    rw [(idx_facts t).1, one_mul]
    show (0) * 1024 + _ = _
    omega

theorem blk1 (c : Dev nD) (t : Fin cfg0.N) (j : S1024x1024.Idx) (k : Fin 1024) :
    (iblk m c 1 t : Vec Ideal S1024x1024 .bf16) (ix2 k (j 1))
      = B m c (ix2 (n0 := 1024) (n1 := 8192) k ⟨(at2 t j 1).val + 0, by have : (at2 t j 1).val < 3072 := (at2 t j 1).isLt; omega⟩) := by
  unfold iblk
  rw [View.read_apply]
  show V m c main_arg1 _ = _
  rw [V_main_arg1]
  congr 1
  refine Shape.idx_ext₂ (n := ![1024, 8192]) ?_ ?_
  · show win0_1.index t 0 * 1024 + 1 * k.val = k.val
    rw [(idx_facts t).2.1, one_mul]
    show 0 * 1024 + _ = _
    omega
  · show win0_1.index t 1 * 1024 + 1 * (j 1).val = (at2 t j 1).val + 0
    rw [at2_1, (idx_facts t).2.1, one_mul]
    show (t.val % 3) * 1024 + _ = _
    omega

/-- What a point computes is the result on its block. -/
theorem point_eq (c : Dev nD) (t : Fin cfg0.N) (y : S1024x1024.Idx) :
    (∑ k : Fin 1024, (show EReal from (iblk m c 0 t : Vec Ideal S1024x1024 .bf16) (ix2 (y 0) k))
      * (show EReal from (iblk m c 1 t : Vec Ideal S1024x1024 .bf16) (ix2 k (y 1)))) = G (A m c) (B m c) (at2 t y) :=
  Finset.sum_congr rfl fun k _ => congrArg₂ (· * ·) (blk0 m c t y k) (blk1 m c t y k)

/-- The array after the run. -/
theorem final2 (c : Dev nD) : (dats m 0 c).arrAt 2 cfg0.N = G (A m c) (B m c) := by
  refine (dats m 0 c).arrAt_eq_of_covers 2 _ (by decide +kernel) fun t hf y => ?_
  blk_simp
  rw [after0_2]
  unfold outsAt0
  frame_out
  exact (pay_apply _ _ y).trans (point_eq m c t y)

/-! ## The reference -/

theorem ref_eq (A : S8192x1024.Idx → EReal) (B : S1024x8192.Idx → EReal) : Cert.InQkvRefIdeal.Read.val_main_v3 (F := Ideal) A B = G A B := by
  funext i
  refine ((Cert.InQkvRefIdeal.Read.val_main_v3_apply (F := Ideal) A B i).trans (Cert.InQkvRefIdeal.Read.val_main_v2_apply A B _)).trans ?_
  unfold G
  refine Finset.sum_congr rfl fun k _ => congrArg₂ (· * ·) (congrArg A ?_) (congrArg B ?_)
  · exact Shape.idx_ext₂ (n := ![8192, 1024]) rfl rfl
  · exact Shape.idx_ext₂ (n := ![1024, 8192]) rfl rfl

/-! ## The claims -/

theorem frame : Cert.quiescent_InQkv := fun m ρ _ => Cert.InQkv.Gen.frame m ρ
theorem frame_ideal : Cert.quiescent_InQkvIdeal := fun m ρ _ => Cert.InQkvIdeal.Gen.frame m ρ
theorem frame_ref : Cert.quiescent_InQkvRefIdeal := fun m ρ _ =>
  (θ_run Cert.InQkvRefIdeal.defs _ _).mono (fun r h => ⟨fun c => (h c).2, sem_eq_zero_of_no_sems (by decide) r.2⟩)
    (Cert.InQkvRefIdeal.Value.run (F := Ideal) m ρ)

theorem preserves : Cert.preserves_InQkv_InQkvIdeal := trivial

theorem algebraic : Cert.algebraic_InQkvIdeal_InQkvRefIdeal := by
  intro m ρ m' ρ' _ hagree
  refine ⟨fun c => G (A m c) (B m c), ?_, ?_⟩
  · exact (θ_run Cert.InQkvIdeal.defs _ _).mono (fun _ h c => ⟨(h c).1.trans (final2 m c), (h c).2⟩)
      (Cert.InQkvIdeal.Value.run_blocks (F := Ideal) m ρ)
  refine (θ_run Cert.InQkvRefIdeal.defs _ _).mono (fun r h c => ?_) (Cert.InQkvRefIdeal.Value.run (F := Ideal) m' ρ')
  have hc := h c
  rw [(hagree c).1, (hagree c).2] at hc
  exact ⟨hc.1.trans (ref_eq (A m c) (B m c)), (h c).2⟩

end Cert.Proof.InQkvVal

end
-- ==== Proof.InRestVal.lean ====
/-
  The input projection, the columns of the gates and of the gating unit: blocks of rows times blocks of columns; and that it is
  those columns of the product of the whole arrays.
-/
module

public import proofs.«01_k».proof.Defs
public import proofs.«01_k».proof.Proof.Common
public import proofs.«01_k».proof.Proof.Gen.InRest.Frame
public import proofs.«01_k».proof.Proof.Gen.InRestIdeal.Value
public import proofs.«01_k».proof.Proof.Gen.InRestRefIdeal.Read
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.Proof.InRestVal

open Cert.InRestIdeal Cert.InRestIdeal.Gen Cert.Common

/-- The result at an index. -/
def G (A : S8192x1024.Idx → EReal) (B : S1024x8192.Idx → EReal) (i : S8192x5120.Idx) : EReal :=
  ∑ k : Fin 1024, A (ix2 (i 0) k) * B (ix2 (n0 := 1024) (n1 := 8192) k ⟨(i 1).val + 3072, by have : (i 1).val < 5120 := (i 1).isLt; omega⟩)

theorem pay_apply (v0 v1 : Vec Ideal S1024x1024 .bf16) (j : S1024x1024.Idx) :
    k0_pay1 v0 v1 j = ∑ k : Fin 1024, v0 (ix2 (j 0) k) * v1 (ix2 k (j 1)) :=
  matmul_nn_apply (φ₁ := .bf16) (φ₂ := .bf16) dot_S1024x1024_S1024x1024_S1024x1024_1_0_0_1_n_n rfl none v0 v1 j

/-- Which block each window shows at a grid point. -/
theorem idx_facts : ∀ t : Fin grid0.N,
    win0_0.index t = ![t.val / 5, 0] ∧ win0_1.index t = ![0, t.val % 5 + 3] ∧ win0_2.index t = ![t.val / 5, t.val % 5] := by
  decide +kernel

variable (m : (ℓ : Loc nD τ sig) → Buf (Elt Ideal) ℓ) (ρ : Dev nD → PrngReg)

/-- The argument arrays of device `c`. -/
abbrev A (c : Dev nD) : S8192x1024.Idx → EReal := m ((c : Thread nD τ).loc main_arg0)
abbrev B (c : Dev nD) : S1024x8192.Idx → EReal := m ((c : Thread nD τ).loc main_arg1)

/-- The index of result 2 that point `t` touches at index `j` of its block. -/
def at2 (t : Fin cfg0.N) (j : S1024x1024.Idx) : S8192x5120.Idx := (win0_2.blk t).view.emb j

theorem at2_0 (t : Fin cfg0.N) (j : S1024x1024.Idx) : (at2 t j 0).val = (t.val / 5) * 1024 + (j 0).val := by
  have h : (at2 t j 0).val = win0_2.index t 0 * 1024 + 1 * (j 0).val := rfl
  rw [h, (idx_facts t).2.2, one_mul]; rfl
theorem at2_1 (t : Fin cfg0.N) (j : S1024x1024.Idx) : (at2 t j 1).val = (t.val % 5) * 1024 + (j 1).val := by
  have h : (at2 t j 1).val = win0_2.index t 1 * 1024 + 1 * (j 1).val := rfl
  rw [h, (idx_facts t).2.2, one_mul]; rfl

theorem blk0 (c : Dev nD) (t : Fin cfg0.N) (j : S1024x1024.Idx) (k : Fin 1024) :
    (iblk m c 0 t : Vec Ideal S1024x1024 .bf16) (ix2 (n0 := 1024) (n1 := 1024) (j 0) k) = A m c (ix2 (n0 := 8192) (n1 := 1024) (at2 t j 0) k) := by
  unfold iblk
  rw [View.read_apply]
  show V m c main_arg0 _ = _
  rw [V_main_arg0]
  congr 1
  refine Shape.idx_ext₂ (n := ![8192, 1024]) ?_ ?_
  · show win0_0.index t 0 * 1024 + 1 * (j 0).val = (at2 t j 0).val
    rw [at2_0, (idx_facts t).1, one_mul]
    show (t.val / 5) * 1024 + _ = _
    omega
  · show win0_0.index t 1 * 1024 + 1 * k.val = k.val
    rw [(idx_facts t).1, one_mul]
    show (0) * 1024 + _ = _
    omega

theorem blk1 (c : Dev nD) (t : Fin cfg0.N) (j : S1024x1024.Idx) (k : Fin 1024) :
    (iblk m c 1 t : Vec Ideal S1024x1024 .bf16) (ix2 k (j 1))
      = B m c (ix2 (n0 := 1024) (n1 := 8192) k ⟨(at2 t j 1).val + 3072, by have : (at2 t j 1).val < 5120 := (at2 t j 1).isLt; omega⟩) := by
  unfold iblk
  rw [View.read_apply]
  show V m c main_arg1 _ = _
  rw [V_main_arg1]
  congr 1
  refine Shape.idx_ext₂ (n := ![1024, 8192]) ?_ ?_
  · show win0_1.index t 0 * 1024 + 1 * k.val = k.val
    rw [(idx_facts t).2.1, one_mul]
    show 0 * 1024 + _ = _
    omega
  · show win0_1.index t 1 * 1024 + 1 * (j 1).val = (at2 t j 1).val + 3072
    rw [at2_1, (idx_facts t).2.1, one_mul]
    show (t.val % 5 + 3) * 1024 + _ = _
    omega

/-- What a point computes is the result on its block. -/
theorem point_eq (c : Dev nD) (t : Fin cfg0.N) (y : S1024x1024.Idx) :
    (∑ k : Fin 1024, (show EReal from (iblk m c 0 t : Vec Ideal S1024x1024 .bf16) (ix2 (y 0) k))
      * (show EReal from (iblk m c 1 t : Vec Ideal S1024x1024 .bf16) (ix2 k (y 1)))) = G (A m c) (B m c) (at2 t y) :=
  Finset.sum_congr rfl fun k _ => congrArg₂ (· * ·) (blk0 m c t y k) (blk1 m c t y k)

/-- The array after the run. -/
theorem final2 (c : Dev nD) : (dats m 0 c).arrAt 2 cfg0.N = G (A m c) (B m c) := by
  refine (dats m 0 c).arrAt_eq_of_covers 2 _ (by decide +kernel) fun t hf y => ?_
  blk_simp
  rw [after0_2]
  unfold outsAt0
  frame_out
  exact (pay_apply _ _ y).trans (point_eq m c t y)

/-! ## The reference -/

theorem ref_eq (A : S8192x1024.Idx → EReal) (B : S1024x8192.Idx → EReal) : Cert.InRestRefIdeal.Read.val_main_v4 (F := Ideal) A B = G A B := by
  funext i
  refine ((Cert.InRestRefIdeal.Read.val_main_v3_apply (F := Ideal) A B i).trans (Cert.InRestRefIdeal.Read.val_main_v2_apply A B _)).trans ?_
  unfold G
  refine Finset.sum_congr rfl fun k _ => congrArg₂ (· * ·) (congrArg A ?_) (congrArg B ?_)
  · exact Shape.idx_ext₂ (n := ![8192, 1024]) rfl rfl
  · exact Shape.idx_ext₂ (n := ![1024, 8192]) rfl (Nat.add_comm _ _)

/-! ## The claims -/

theorem frame : Cert.quiescent_InRest := fun m ρ _ => Cert.InRest.Gen.frame m ρ
theorem frame_ideal : Cert.quiescent_InRestIdeal := fun m ρ _ => Cert.InRestIdeal.Gen.frame m ρ
theorem frame_ref : Cert.quiescent_InRestRefIdeal := fun m ρ _ =>
  (θ_run Cert.InRestRefIdeal.defs _ _).mono (fun r h => ⟨fun c => (h c).2, sem_eq_zero_of_no_sems (by decide) r.2⟩)
    (Cert.InRestRefIdeal.Value.run (F := Ideal) m ρ)

theorem preserves : Cert.preserves_InRest_InRestIdeal := trivial

theorem algebraic : Cert.algebraic_InRestIdeal_InRestRefIdeal := by
  intro m ρ m' ρ' _ hagree
  refine ⟨fun c => G (A m c) (B m c), ?_, ?_⟩
  · exact (θ_run Cert.InRestIdeal.defs _ _).mono (fun _ h c => ⟨(h c).1.trans (final2 m c), (h c).2⟩)
      (Cert.InRestIdeal.Value.run_blocks (F := Ideal) m ρ)
  refine (θ_run Cert.InRestRefIdeal.defs _ _).mono (fun r h c => ?_) (Cert.InRestRefIdeal.Value.run (F := Ideal) m' ρ')
  have hc := h c
  rw [(hagree c).1, (hagree c).2] at hc
  exact ⟨hc.1.trans (ref_eq (A m c) (B m c)), (h c).2⟩

end Cert.Proof.InRestVal

end
-- ==== Proof.HiddenVal.lean ====
/-
  The gated hidden layer: the gate, the up branch and `silu(gate) * up`, block by block; and that they are the same lines over
  the whole arrays.
-/
module

public import proofs.«01_k».proof.Defs
public import proofs.«01_k».proof.Proof.Common
public import proofs.«01_k».proof.Proof.Gen.Hidden.Frame
public import proofs.«01_k».proof.Proof.Gen.HiddenIdeal.Value
public import proofs.«01_k».proof.Proof.Gen.HiddenRefIdeal.Read
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.Proof.HiddenVal

open Cert.HiddenIdeal Cert.HiddenIdeal.Gen Cert.Common

/-- One of the two branches at an index. -/
def H (X : S8192x1024.Idx → EReal) (W : S3072x1024.Idx → EReal) (i : S8192x3072.Idx) : EReal :=
  ∑ k : Fin 1024, X (ix2 (i 0) k) * W (ix2 (i 1) k)

/-- The hidden layer at an index. -/
def G (X : S8192x1024.Idx → EReal) (W U : S3072x1024.Idx → EReal) (i : S8192x3072.Idx) : EReal :=
  H X W i * Ideal.logistic (H X W i) * H X U i

theorem pay1_apply (v0 : Vec Ideal S1024x1024 .bf16) (v1 : Vec Ideal S768x1024 .bf16) (j : S1024x768.Idx) :
    k0_pay1 v0 v1 j = ∑ k : Fin 1024, v0 (ix2 (j 0) k) * v1 (ix2 (j 1) k) :=
  matmul_nt_apply (φ₁ := .bf16) (φ₂ := .bf16) dot_S1024x1024_S768x1024_S1024x768_1_1_0_0_n_n rfl none v0 v1 j

theorem pay3_apply (v0 : Vec Ideal S1024x1024 .bf16) (v1 v4 : Vec Ideal S768x1024 .bf16) (j : S1024x768.Idx) :
    k0_pay3 v0 v1 v4 j = k0_pay1 v0 v1 j * Ideal.logistic (k0_pay1 v0 v1 j) * k0_pay1 v0 v4 j := by
  show k0_pay1 v0 v1 j * (Ideal.ofBits .f32 0x3F000000#32 * Ideal.tanh (Ideal.ofBits .f32 0x3F000000#32 * k0_pay1 v0 v1 j)
    + Ideal.ofBits .f32 0x3F000000#32) * k0_pay1 v0 v4 j = _
  rw [half_f32, sigmoid_eq]

/-- Which block each window shows at a grid point. -/
theorem idx_facts : ∀ t : Fin grid0.N,
    win0_0.index t = ![t.val / 4, 0] ∧ win0_1.index t = ![t.val % 4, 0] ∧ win0_2.index t = ![t.val % 4, 0] ∧ win0_3.index t = ![t.val / 4, t.val % 4] ∧ win0_4.index t = ![t.val / 4, t.val % 4] ∧ win0_5.index t = ![t.val / 4, t.val % 4] := by
  decide +kernel

variable (m : (ℓ : Loc nD τ sig) → Buf (Elt Ideal) ℓ) (ρ : Dev nD → PrngReg)

/-- The argument arrays of device `c`. -/
abbrev X (c : Dev nD) : S8192x1024.Idx → EReal := m ((c : Thread nD τ).loc main_arg0)
abbrev W (c : Dev nD) : S3072x1024.Idx → EReal := m ((c : Thread nD τ).loc main_arg1)
abbrev U (c : Dev nD) : S3072x1024.Idx → EReal := m ((c : Thread nD τ).loc main_arg2)

/-- The index of result 3 that point `t` touches at index `j` of its block. -/
def at3 (t : Fin cfg0.N) (j : S1024x768.Idx) : S8192x3072.Idx := (win0_3.blk t).view.emb j

theorem at3_0 (t : Fin cfg0.N) (j : S1024x768.Idx) : (at3 t j 0).val = (t.val / 4) * 1024 + (j 0).val := by
  have h : (at3 t j 0).val = win0_3.index t 0 * 1024 + 1 * (j 0).val := rfl
  rw [h, (idx_facts t).2.2.2.1, one_mul]; rfl
theorem at3_1 (t : Fin cfg0.N) (j : S1024x768.Idx) : (at3 t j 1).val = (t.val % 4) * 768 + (j 1).val := by
  have h : (at3 t j 1).val = win0_3.index t 1 * 768 + 1 * (j 1).val := rfl
  rw [h, (idx_facts t).2.2.2.1, one_mul]; rfl

/-- The index of result 4 that point `t` touches at index `j` of its block. -/
def at4 (t : Fin cfg0.N) (j : S1024x768.Idx) : S8192x3072.Idx := (win0_4.blk t).view.emb j

theorem at4_0 (t : Fin cfg0.N) (j : S1024x768.Idx) : (at4 t j 0).val = (t.val / 4) * 1024 + (j 0).val := by
  have h : (at4 t j 0).val = win0_4.index t 0 * 1024 + 1 * (j 0).val := rfl
  rw [h, (idx_facts t).2.2.2.2.1, one_mul]; rfl
theorem at4_1 (t : Fin cfg0.N) (j : S1024x768.Idx) : (at4 t j 1).val = (t.val % 4) * 768 + (j 1).val := by
  have h : (at4 t j 1).val = win0_4.index t 1 * 768 + 1 * (j 1).val := rfl
  rw [h, (idx_facts t).2.2.2.2.1, one_mul]; rfl

/-- The index of result 5 that point `t` touches at index `j` of its block. -/
def at5 (t : Fin cfg0.N) (j : S1024x768.Idx) : S8192x3072.Idx := (win0_5.blk t).view.emb j

theorem at5_0 (t : Fin cfg0.N) (j : S1024x768.Idx) : (at5 t j 0).val = (t.val / 4) * 1024 + (j 0).val := by
  have h : (at5 t j 0).val = win0_5.index t 0 * 1024 + 1 * (j 0).val := rfl
  rw [h, (idx_facts t).2.2.2.2.2, one_mul]; rfl
theorem at5_1 (t : Fin cfg0.N) (j : S1024x768.Idx) : (at5 t j 1).val = (t.val % 4) * 768 + (j 1).val := by
  have h : (at5 t j 1).val = win0_5.index t 1 * 768 + 1 * (j 1).val := rfl
  rw [h, (idx_facts t).2.2.2.2.2, one_mul]; rfl

theorem blk0 (c : Dev nD) (t : Fin cfg0.N) (j : S1024x768.Idx) (k : Fin 1024) :
    (iblk m c 0 t : Vec Ideal S1024x1024 .bf16) (ix2 (n0 := 1024) (n1 := 1024) (j 0) k) = X m c (ix2 (n0 := 8192) (n1 := 1024) (at3 t j 0) k) := by
  unfold iblk
  rw [View.read_apply]
  show V m c main_arg0 _ = _
  rw [V_main_arg0]
  congr 1
  refine Shape.idx_ext₂ (n := ![8192, 1024]) ?_ ?_
  · show win0_0.index t 0 * 1024 + 1 * (j 0).val = (at3 t j 0).val
    rw [at3_0, (idx_facts t).1, one_mul]
    show (t.val / 4) * 1024 + _ = _
    omega
  · show win0_0.index t 1 * 1024 + 1 * k.val = k.val
    rw [(idx_facts t).1, one_mul]
    show (0) * 1024 + _ = _
    omega

theorem blk1 (c : Dev nD) (t : Fin cfg0.N) (j : S1024x768.Idx) (k : Fin 1024) :
    (iblk m c 1 t : Vec Ideal S768x1024 .bf16) (ix2 (n0 := 768) (n1 := 1024) (j 1) k) = W m c (ix2 (n0 := 3072) (n1 := 1024) (at3 t j 1) k) := by
  unfold iblk
  rw [View.read_apply]
  show V m c main_arg1 _ = _
  rw [V_main_arg1]
  congr 1
  refine Shape.idx_ext₂ (n := ![3072, 1024]) ?_ ?_
  · show win0_1.index t 0 * 768 + 1 * (j 1).val = (at3 t j 1).val
    rw [at3_1, (idx_facts t).2.1, one_mul]
    show (t.val % 4) * 768 + _ = _
    omega
  · show win0_1.index t 1 * 1024 + 1 * k.val = k.val
    rw [(idx_facts t).2.1, one_mul]
    show (0) * 1024 + _ = _
    omega

theorem blk2 (c : Dev nD) (t : Fin cfg0.N) (j : S1024x768.Idx) (k : Fin 1024) :
    (iblk m c 2 t : Vec Ideal S768x1024 .bf16) (ix2 (n0 := 768) (n1 := 1024) (j 1) k) = U m c (ix2 (n0 := 3072) (n1 := 1024) (at3 t j 1) k) := by
  unfold iblk
  rw [View.read_apply]
  show V m c main_arg2 _ = _
  rw [V_main_arg2]
  congr 1
  refine Shape.idx_ext₂ (n := ![3072, 1024]) ?_ ?_
  · show win0_2.index t 0 * 768 + 1 * (j 1).val = (at3 t j 1).val
    rw [at3_1, (idx_facts t).2.2.1, one_mul]
    show (t.val % 4) * 768 + _ = _
    omega
  · show win0_2.index t 1 * 1024 + 1 * k.val = k.val
    rw [(idx_facts t).2.2.1, one_mul]
    show (0) * 1024 + _ = _
    omega

theorem at4_eq (t : Fin cfg0.N) (j : S1024x768.Idx) : at4 t j = at3 t j :=
  Shape.idx_ext₂ (n := ![8192, 3072]) (by rw [at4_0, at3_0]) (by rw [at4_1, at3_1])
theorem at5_eq (t : Fin cfg0.N) (j : S1024x768.Idx) : at5 t j = at3 t j :=
  Shape.idx_ext₂ (n := ![8192, 3072]) (by rw [at5_0, at3_0]) (by rw [at5_1, at3_1])

/-- The branches on a block. -/
theorem gate_eq (c : Dev nD) (t : Fin cfg0.N) (y : S1024x768.Idx) : k0_pay1 (iblk m c 0 t) (iblk m c 1 t) y = H (X m c) (W m c) (at3 t y) :=
  (pay1_apply _ _ y).trans (Finset.sum_congr rfl fun k _ => congrArg₂ (· * ·) (blk0 m c t y k) (blk1 m c t y k))
theorem up_eq (c : Dev nD) (t : Fin cfg0.N) (y : S1024x768.Idx) : k0_pay1 (iblk m c 0 t) (iblk m c 2 t) y = H (X m c) (U m c) (at3 t y) :=
  (pay1_apply _ _ y).trans (Finset.sum_congr rfl fun k _ => congrArg₂ (· * ·) (blk0 m c t y k) (blk2 m c t y k))

/-! ## The arrays after the run -/

theorem out3_eq (c : Dev nD) (t : Fin cfg0.N) (y : S1024x768.Idx) :
    out0_3 (iblk m c 0 t) (iblk m c 1 t) (iblk m c 2 t) y = H (X m c) (W m c) (at3 t y) := by
  unfold out0_3
  rw [View.canon_unit_zero zero2, View.ld_unit_zero zero2, View.ld_unit_zero zero2]
  exact gate_eq m c t y

theorem final3 (c : Dev nD) : (dats m 0 c).arrAt 3 cfg0.N = H (X m c) (W m c) := by
  refine (dats m 0 c).arrAt_eq_of_covers 3 _ (by decide +kernel) fun t hf y => ?_
  blk_simp
  rw [after0_3]
  exact out3_eq m c t y

theorem out4_eq (c : Dev nD) (t : Fin cfg0.N) (y : S1024x768.Idx) :
    out0_4 (iblk m c 0 t) (iblk m c 1 t) (iblk m c 2 t) y = H (X m c) (U m c) (at4 t y) := by
  unfold out0_4
  rw [View.canon_unit_zero zero2, View.ld_unit_zero zero2, View.ld_unit_zero zero2, at4_eq]
  exact up_eq m c t y

theorem final4 (c : Dev nD) : (dats m 0 c).arrAt 4 cfg0.N = H (X m c) (U m c) := by
  refine (dats m 0 c).arrAt_eq_of_covers 4 _ (by decide +kernel) fun t hf y => ?_
  blk_simp
  rw [after0_4]
  exact out4_eq m c t y

theorem out5_eq (c : Dev nD) (t : Fin cfg0.N) (y : S1024x768.Idx) :
    out0_5 (iblk m c 0 t) (iblk m c 1 t) (iblk m c 2 t) y = G (X m c) (W m c) (U m c) (at5 t y) := by
  unfold out0_5
  rw [View.canon_unit_zero zero2, View.ld_unit_zero zero2, View.ld_unit_zero zero2, View.ld_unit_zero zero2, at5_eq]
  refine (pay3_apply _ _ _ y).trans ?_
  rw [gate_eq, up_eq]
  rfl

theorem final5 (c : Dev nD) : (dats m 0 c).arrAt 5 cfg0.N = G (X m c) (W m c) (U m c) := by
  refine (dats m 0 c).arrAt_eq_of_covers 5 _ (by decide +kernel) fun t hf y => ?_
  blk_simp
  rw [after0_5]
  exact out5_eq m c t y

/-! ## The reference -/

open Cert.HiddenRefIdeal.Read

theorem ref4 (X : S8192x1024.Idx → EReal) (W : S3072x1024.Idx → EReal) : val_main_v4 (F := Ideal) X W = H X W := by
  funext i
  refine (val_main_v3_apply X W i).trans (Finset.sum_congr rfl fun k _ => congrArg₂ (· * ·) (congrArg X ?_) ?_)
  · exact Shape.idx_ext₂ (n := ![8192, 1024]) rfl rfl
  · exact (val_main_v2_apply (F := Ideal) W _).trans (congrArg W (Shape.idx_ext₂ (n := ![3072, 1024]) rfl rfl))

theorem ref9 (X : S8192x1024.Idx → EReal) (U : S3072x1024.Idx → EReal) : val_main_v9 (F := Ideal) X U = H X U := ref4 X U

theorem ref14 (X : S8192x1024.Idx → EReal) (W U : S3072x1024.Idx → EReal) : val_main_v14 (F := Ideal) X W U = G X W U := by
  funext i
  have h4 : val_main_v4 (F := Ideal) X W i = H X W i := congrFun (ref4 X W) i
  have h9 : val_main_v9 (F := Ideal) X U i = H X U i := congrFun (ref9 X U) i
  show val_main_v4 (F := Ideal) X W i * Ideal.div (val_main_call0_v4 (F := Ideal) i)
    (val_main_call0_v2 (F := Ideal) i + Ideal.exp (-(val_main_v4 (F := Ideal) X W i))) * val_main_v9 (F := Ideal) X U i = _
  rw [val_main_call0_v4_apply, val_main_call0_v2_apply, h4, h9]
  show H X W i * Ideal.div (Ideal.ofBits .f32 0x3F800000#32) (Ideal.ofBits .f32 0x3F800000#32 + Ideal.exp (-(H X W i))) * H X U i = _
  rw [Ideal.ofBits_one_f32]
  rfl

/-! ## The claims -/

theorem frame : Cert.quiescent_Hidden := fun m ρ _ => Cert.Hidden.Gen.frame m ρ
theorem frame_ideal : Cert.quiescent_HiddenIdeal := fun m ρ _ => Cert.HiddenIdeal.Gen.frame m ρ
theorem frame_ref : Cert.quiescent_HiddenRefIdeal := fun m ρ _ =>
  (θ_run Cert.HiddenRefIdeal.defs _ _).mono (fun r h => ⟨fun c => (h c).2.2.2, sem_eq_zero_of_no_sems (by decide) r.2⟩)
    (Cert.HiddenRefIdeal.Value.run (F := Ideal) m ρ)

theorem preserves : Cert.preserves_Hidden_HiddenIdeal := trivial

theorem algebraic : Cert.algebraic_HiddenIdeal_HiddenRefIdeal := by
  intro m ρ m' ρ' _ hagree
  refine ⟨fun c => H (X m c) (W m c), fun c => H (X m c) (U m c), fun c => G (X m c) (W m c) (U m c), ?_, ?_⟩
  · exact (θ_run Cert.HiddenIdeal.defs _ _).mono (fun _ h c => ⟨(h c).1.trans (final3 m c), (h c).2.1.trans (final4 m c), (h c).2.2.1.trans (final5 m c), (h c).2.2.2⟩)
      (Cert.HiddenIdeal.Value.run_blocks (F := Ideal) m ρ)
  refine (θ_run Cert.HiddenRefIdeal.defs _ _).mono (fun r h c => ?_) (Cert.HiddenRefIdeal.Value.run (F := Ideal) m' ρ')
  have hc := h c
  rw [(hagree c).1, (hagree c).2.1, (hagree c).2.2] at hc
  exact ⟨hc.1.trans (ref4 (X m c) (W m c)), hc.2.1.trans (ref9 (X m c) (U m c)), hc.2.2.1.trans (ref14 (X m c) (W m c) (U m c)), (h c).2.2.2⟩

end Cert.Proof.HiddenVal

end
-- ==== Proof.OutLnVal.lean ====
/-
  The output projection with the residual and the layer normalisation after it, 512 rows at a time; and that the three
  results are the same lines over the whole arrays.
-/
module

public import proofs.«01_k».proof.Defs
public import proofs.«01_k».proof.Proof.Common
public import proofs.«01_k».proof.Proof.Gen.OutLn.Frame
public import proofs.«01_k».proof.Proof.Gen.OutLnIdeal.Value
public import proofs.«01_k».proof.Proof.Gen.OutLnRefIdeal.Read
public import proofs.«01_k».proof.Proof.LnForm
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic hiding ix1 ix2 ix3 ix4 ix5
open Idealize.ShloMosaic.TcCoe Idealize.ShloMosaic.ValueIdx Idealize.SL.Sem
open Idealize.ShloMosaic.Pipeline (Dat)
open scoped BigOperators

namespace Cert.Proof.OutLnVal

open Cert.OutLnIdeal Cert.OutLnIdeal.Gen Cert.Common Cert.LnForm

/-- The sum of the scaled residual and the product, at an index. -/
def P (A : S8192x1024.Idx → EReal) (W : S1024x1024.Idx → EReal) (X : S8192x1024.Idx → EReal) (i : S8192x1024.Idx) : EReal :=
  Ideal.ofBits .f32 0x3FB504F3#32 * X i + ∑ k : Fin 1024, A (ix2 (i 0) k) * W (ix2 k (i 1))

/-- Its layer normalisation at an index. -/
def G (A : S8192x1024.Idx → EReal) (W : S1024x1024.Idx → EReal) (X : S8192x1024.Idx → EReal) (g b : S1x1024.Idx → EReal)
    (i : S8192x1024.Idx) : EReal :=
  ln (fun k => P A W X (ix2 (i 0) k)) (fun k => g (ix2 0 k)) (fun k => b (ix2 0 k)) (i 1)

theorem pay1_apply (v0 : Vec Ideal S512x1024 .f32) (v3 : Vec Ideal S512x1024 .bf16) (v4 : Vec Ideal S1024x1024 .bf16) (j : S512x1024.Idx) :
    k0_pay1 v0 v3 v4 j = Ideal.ofBits .f32 0x3FB504F3#32 * v0 j + ∑ k : Fin 1024, v3 (ix2 (j 0) k) * v4 (ix2 k (j 1)) :=
  congrArg (Ideal.ofBits .f32 0x3FB504F3#32 * v0 j + ·)
    (matmul_nn_apply (φ₁ := .bf16) (φ₂ := .bf16) dot_S512x1024_S1024x1024_S512x1024_1_0_0_1_n_n rfl none v3 v4 j)

theorem pay2_apply (v0 : Vec Ideal S512x1024 .f32) (v3 : Vec Ideal S512x1024 .bf16) (v4 : Vec Ideal S1024x1024 .bf16)
    (v7 v8 : Vec Ideal S1x1024 .f32) (j : S512x1024.Idx) :
    k0_pay2 v0 v3 v4 v7 v8 j
      = ln (fun k => k0_pay1 v0 v3 v4 (ix2 (j 0) k)) (fun k => v7 (ix2 0 k)) (fun k => v8 (ix2 0 k)) (j 1) := by
  have hj : j = ix2 (n0 := 512) (n1 := 1024) (j 0) (j 1) := Shape.idx_ext₂ (n := ![512, 1024]) rfl rfl
  unfold k0_pay2 ln spread mean
  generalize k0_pay1 v0 v3 v4 = p
  have hp : p j = p (ix2 (n0 := 512) (n1 := 1024) (j 0) (j 1)) := congrArg p hj
  pointwise
  rw [hp]
  rfl

/-- Which block each window shows at a grid point. -/
theorem idx_facts : ∀ t : Fin grid0.N,
    win0_0.index t = ![t.val, 0] ∧ win0_1.index t = ![0, 0] ∧ win0_2.index t = ![t.val, 0] ∧ win0_3.index t = ![0, 0] ∧ win0_4.index t = ![0, 0] ∧ win0_5.index t = ![t.val, 0] ∧ win0_6.index t = ![t.val, 0] ∧ win0_7.index t = ![t.val, 0] := by
  decide +kernel

variable (m : (ℓ : Loc nD τ sig) → Buf (Elt Ideal) ℓ) (ρ : Dev nD → PrngReg)

/-- The argument arrays of device `c`. -/
abbrev A (c : Dev nD) : S8192x1024.Idx → EReal := m ((c : Thread nD τ).loc main_arg0)
abbrev W (c : Dev nD) : S1024x1024.Idx → EReal := m ((c : Thread nD τ).loc main_arg1)
abbrev X (c : Dev nD) : S8192x1024.Idx → EReal := m ((c : Thread nD τ).loc main_arg2)
abbrev g (c : Dev nD) : S1x1024.Idx → EReal := m ((c : Thread nD τ).loc main_arg3)
abbrev b (c : Dev nD) : S1x1024.Idx → EReal := m ((c : Thread nD τ).loc main_arg4)

/-- The index of result 5 that point `t` touches at index `j` of its block. -/
def at5 (t : Fin cfg0.N) (j : S512x1024.Idx) : S8192x1024.Idx := (win0_5.blk t).view.emb j

theorem at5_0 (t : Fin cfg0.N) (j : S512x1024.Idx) : (at5 t j 0).val = (t.val) * 512 + (j 0).val := by
  have h : (at5 t j 0).val = win0_5.index t 0 * 512 + 1 * (j 0).val := rfl
  rw [h, (idx_facts t).2.2.2.2.2.1, one_mul]; rfl
theorem at5_1 (t : Fin cfg0.N) (j : S512x1024.Idx) : (at5 t j 1).val = (0) * 1024 + (j 1).val := by
  have h : (at5 t j 1).val = win0_5.index t 1 * 1024 + 1 * (j 1).val := rfl
  rw [h, (idx_facts t).2.2.2.2.2.1, one_mul]; rfl

/-- The index of result 6 that point `t` touches at index `j` of its block. -/
def at6 (t : Fin cfg0.N) (j : S512x1024.Idx) : S8192x1024.Idx := (win0_6.blk t).view.emb j

theorem at6_0 (t : Fin cfg0.N) (j : S512x1024.Idx) : (at6 t j 0).val = (t.val) * 512 + (j 0).val := by
  have h : (at6 t j 0).val = win0_6.index t 0 * 512 + 1 * (j 0).val := rfl
  rw [h, (idx_facts t).2.2.2.2.2.2.1, one_mul]; rfl
theorem at6_1 (t : Fin cfg0.N) (j : S512x1024.Idx) : (at6 t j 1).val = (0) * 1024 + (j 1).val := by
  have h : (at6 t j 1).val = win0_6.index t 1 * 1024 + 1 * (j 1).val := rfl
  rw [h, (idx_facts t).2.2.2.2.2.2.1, one_mul]; rfl

/-- The index of result 7 that point `t` touches at index `j` of its block. -/
def at7 (t : Fin cfg0.N) (j : S512x1024.Idx) : S8192x1024.Idx := (win0_7.blk t).view.emb j

theorem at7_0 (t : Fin cfg0.N) (j : S512x1024.Idx) : (at7 t j 0).val = (t.val) * 512 + (j 0).val := by
  have h : (at7 t j 0).val = win0_7.index t 0 * 512 + 1 * (j 0).val := rfl
  rw [h, (idx_facts t).2.2.2.2.2.2.2, one_mul]; rfl
theorem at7_1 (t : Fin cfg0.N) (j : S512x1024.Idx) : (at7 t j 1).val = (0) * 1024 + (j 1).val := by
  have h : (at7 t j 1).val = win0_7.index t 1 * 1024 + 1 * (j 1).val := rfl
  rw [h, (idx_facts t).2.2.2.2.2.2.2, one_mul]; rfl

theorem blk0 (c : Dev nD) (t : Fin cfg0.N) (j : S512x1024.Idx) (k : Fin 1024) :
    (iblk m c 0 t : Vec Ideal S512x1024 .bf16) (ix2 (n0 := 512) (n1 := 1024) (j 0) k) = A m c (ix2 (n0 := 8192) (n1 := 1024) (at5 t j 0) k) := by
  unfold iblk
  rw [View.read_apply]
  show V m c main_arg0 _ = _
  rw [V_main_arg0]
  congr 1
  refine Shape.idx_ext₂ (n := ![8192, 1024]) ?_ ?_
  · show win0_0.index t 0 * 512 + 1 * (j 0).val = (at5 t j 0).val
    rw [at5_0, (idx_facts t).1, one_mul]
    show (t.val) * 512 + _ = _
    omega
  · show win0_0.index t 1 * 1024 + 1 * k.val = k.val
    rw [(idx_facts t).1, one_mul]
    show (0) * 1024 + _ = _
    omega

theorem blk1 (c : Dev nD) (t : Fin cfg0.N) (j : S512x1024.Idx) (k : Fin 1024) (d : Fin 1024) :
    (iblk m c 1 t : Vec Ideal S1024x1024 .bf16) (ix2 (n0 := 1024) (n1 := 1024) k d) = W m c (ix2 (n0 := 1024) (n1 := 1024) k d) := by
  unfold iblk
  rw [View.read_apply]
  show V m c main_arg1 _ = _
  rw [V_main_arg1]
  congr 1
  refine Shape.idx_ext₂ (n := ![1024, 1024]) ?_ ?_
  · show win0_1.index t 0 * 1024 + 1 * k.val = k.val
    rw [(idx_facts t).2.1, one_mul]
    show (0) * 1024 + _ = _
    omega
  · show win0_1.index t 1 * 1024 + 1 * d.val = d.val
    rw [(idx_facts t).2.1, one_mul]
    show (0) * 1024 + _ = _
    omega

theorem blk2 (c : Dev nD) (t : Fin cfg0.N) (j : S512x1024.Idx) (k : Fin 1024) :
    (iblk m c 2 t : Vec Ideal S512x1024 .f32) (ix2 (n0 := 512) (n1 := 1024) (j 0) k) = X m c (ix2 (n0 := 8192) (n1 := 1024) (at5 t j 0) k) := by
  unfold iblk
  rw [View.read_apply]
  show V m c main_arg2 _ = _
  rw [V_main_arg2]
  congr 1
  refine Shape.idx_ext₂ (n := ![8192, 1024]) ?_ ?_
  · show win0_2.index t 0 * 512 + 1 * (j 0).val = (at5 t j 0).val
    rw [at5_0, (idx_facts t).2.2.1, one_mul]
    show (t.val) * 512 + _ = _
    omega
  · show win0_2.index t 1 * 1024 + 1 * k.val = k.val
    rw [(idx_facts t).2.2.1, one_mul]
    show (0) * 1024 + _ = _
    omega

theorem blk3 (c : Dev nD) (t : Fin cfg0.N) (j : S512x1024.Idx) (z : Fin 1) (k : Fin 1024) :
    (iblk m c 3 t : Vec Ideal S1x1024 .f32) (ix2 (n0 := 1) (n1 := 1024) z k) = g m c (ix2 (n0 := 1) (n1 := 1024) z k) := by
  unfold iblk
  rw [View.read_apply]
  show V m c main_arg3 _ = _
  rw [V_main_arg3]
  congr 1
  refine Shape.idx_ext₂ (n := ![1, 1024]) ?_ ?_
  · show win0_3.index t 0 * 1 + 1 * z.val = z.val
    rw [(idx_facts t).2.2.2.1, one_mul]
    show (0) * 1 + _ = _
    omega
  · show win0_3.index t 1 * 1024 + 1 * k.val = k.val
    rw [(idx_facts t).2.2.2.1, one_mul]
    show (0) * 1024 + _ = _
    omega

theorem blk4 (c : Dev nD) (t : Fin cfg0.N) (j : S512x1024.Idx) (z : Fin 1) (k : Fin 1024) :
    (iblk m c 4 t : Vec Ideal S1x1024 .f32) (ix2 (n0 := 1) (n1 := 1024) z k) = b m c (ix2 (n0 := 1) (n1 := 1024) z k) := by
  unfold iblk
  rw [View.read_apply]
  show V m c main_arg4 _ = _
  rw [V_main_arg4]
  congr 1
  refine Shape.idx_ext₂ (n := ![1, 1024]) ?_ ?_
  · show win0_4.index t 0 * 1 + 1 * z.val = z.val
    rw [(idx_facts t).2.2.2.2.1, one_mul]
    show (0) * 1 + _ = _
    omega
  · show win0_4.index t 1 * 1024 + 1 * k.val = k.val
    rw [(idx_facts t).2.2.2.2.1, one_mul]
    show (0) * 1024 + _ = _
    omega

theorem at6_eq (t : Fin cfg0.N) (j : S512x1024.Idx) : at6 t j = at5 t j :=
  Shape.idx_ext₂ (n := ![8192, 1024]) (by rw [at6_0, at5_0]) (by rw [at6_1, at5_1])
theorem at7_eq (t : Fin cfg0.N) (j : S512x1024.Idx) : at7 t j = at5 t j :=
  Shape.idx_ext₂ (n := ![8192, 1024]) (by rw [at7_0, at5_0]) (by rw [at7_1, at5_1])

theorem at5_col (t : Fin cfg0.N) (j : S512x1024.Idx) : at5 t j 1 = j 1 :=
  Fin.ext (by rw [at5_1]; omega)

/-- The sum of the residual and the product on a block's row. -/
theorem pre_eq (c : Dev nD) (t : Fin cfg0.N) (y : S512x1024.Idx) (d : Fin 1024) :
    k0_pay1 (iblk m c 2 t) (iblk m c 0 t) (iblk m c 1 t) (ix2 (n0 := 512) (n1 := 1024) (y 0) d)
      = P (A m c) (W m c) (X m c) (ix2 (at5 t y 0) d) :=
  (pay1_apply _ _ _ _).trans (congrArg₂ (· + ·) (congrArg (Ideal.ofBits .f32 0x3FB504F3#32 * ·) (blk2 m c t y d))
    (Finset.sum_congr rfl fun k _ => congrArg₂ (· * ·) (blk0 m c t y k) (blk1 m c t y k d)))

/-- The normalised block. -/
theorem norm_eq (c : Dev nD) (t : Fin cfg0.N) (y : S512x1024.Idx) :
    k0_pay2 (iblk m c 2 t) (iblk m c 0 t) (iblk m c 1 t) (iblk m c 3 t) (iblk m c 4 t) y
      = G (A m c) (W m c) (X m c) (g m c) (b m c) (at5 t y) := by
  refine (pay2_apply _ _ _ _ _ y).trans ?_
  unfold G
  rw [at5_col, funext (pre_eq m c t y), funext (blk3 m c t y 0), funext (blk4 m c t y 0)]

/-! ## The arrays after the run -/

theorem out5_eq (c : Dev nD) (t : Fin cfg0.N) (y : S512x1024.Idx) :
    out0_5 (iblk m c 0 t) (iblk m c 1 t) (iblk m c 2 t) (iblk m c 3 t) (iblk m c 4 t) y = P (A m c) (W m c) (X m c) (at5 t y) := by
  unfold out0_5
  rw [View.canon_unit_zero zero2]
  repeat rw [View.ld_unit_zero zero2]
  have hy : y = ix2 (n0 := 512) (n1 := 1024) (y 0) (y 1) := Shape.idx_ext₂ (n := ![512, 1024]) rfl rfl
  have ha : at5 t y = ix2 (n0 := 8192) (n1 := 1024) (at5 t y 0) (y 1) :=
    Shape.idx_ext₂ (n := ![8192, 1024]) rfl (congrArg Fin.val (at5_col t y))
  rw [ha]
  exact (congrArg (k0_pay1 (iblk m c 2 t) (iblk m c 0 t) (iblk m c 1 t)) hy).trans (pre_eq m c t y (y 1))

theorem out6_eq (c : Dev nD) (t : Fin cfg0.N) (y : S512x1024.Idx) :
    out0_6 (iblk m c 0 t) (iblk m c 1 t) (iblk m c 2 t) (iblk m c 3 t) (iblk m c 4 t) y
      = G (A m c) (W m c) (X m c) (g m c) (b m c) (at6 t y) := by
  unfold out0_6
  rw [View.canon_unit_zero zero2, at6_eq]
  repeat rw [View.ld_unit_zero zero2]
  exact norm_eq m c t y

theorem out7_eq (c : Dev nD) (t : Fin cfg0.N) (y : S512x1024.Idx) :
    out0_7 (iblk m c 0 t) (iblk m c 1 t) (iblk m c 2 t) (iblk m c 3 t) (iblk m c 4 t) y
      = G (A m c) (W m c) (X m c) (g m c) (b m c) (at7 t y) := by
  unfold out0_7
  rw [View.canon_unit_zero zero2, at7_eq]
  repeat rw [View.ld_unit_zero zero2]
  exact norm_eq m c t y

theorem final5 (c : Dev nD) : (dats m 0 c).arrAt 5 cfg0.N = P (A m c) (W m c) (X m c) := by
  refine (dats m 0 c).arrAt_eq_of_covers 5 _ (by decide +kernel) fun t hf y => ?_
  blk_simp
  rw [after0_5]
  exact out5_eq m c t y

theorem final6 (c : Dev nD) : (dats m 0 c).arrAt 6 cfg0.N = G (A m c) (W m c) (X m c) (g m c) (b m c) := by
  refine (dats m 0 c).arrAt_eq_of_covers 6 _ (by decide +kernel) fun t hf y => ?_
  blk_simp
  rw [after0_6]
  exact out6_eq m c t y

theorem final7 (c : Dev nD) : (dats m 0 c).arrAt 7 cfg0.N = G (A m c) (W m c) (X m c) (g m c) (b m c) := by
  refine (dats m 0 c).arrAt_eq_of_covers 7 _ (by decide +kernel) fun t hf y => ?_
  blk_simp
  rw [after0_7]
  exact out7_eq m c t y

/-! ## The reference -/

open Cert.OutLnRefIdeal.Read

section Ref

variable (A : S8192x1024.Idx → EReal) (W : S1024x1024.Idx → EReal) (X : S8192x1024.Idx → EReal) (g b : S1x1024.Idx → EReal)

theorem ref5 : val_main_v5 (F := Ideal) A W X = P A W X := by
  funext i
  show val_main_v0 (F := Ideal) i * X i + val_main_v4 (F := Ideal) A W i = _
  rw [val_main_v0_apply, val_main_v4_apply]
  refine congrArg (Ideal.ofBits .f32 0x3FB504F3#32 * X i + ·)
    (Finset.sum_congr rfl fun k _ => congrArg₂ (· * ·) (congrArg A ?_) (congrArg W ?_))
  · exact Shape.idx_ext₂ (n := ![8192, 1024]) rfl rfl
  · exact Shape.idx_ext₂ (n := ![1024, 1024]) rfl rfl

theorem ref11 (i : Cert.OutLnRefIdeal.S8192x1.Idx) : val_main_v11 (F := Ideal) A W X i = mean (fun k => P A W X (ix2 (i 0) k)) := by
  show Ideal.div (val_main_v9 (F := Ideal) A W X i) (val_main_v10 (F := Ideal) i) = _
  rw [val_main_v9_apply, val_main_v10_apply, val_main_v8_apply, ref5]
  show Ideal.div (Ideal.ofBits .f32 0x00000000#32 + ∑ k : Fin 1024, P A W X _) (Ideal.ofBits .f32 0x44800000#32) = _
  rw [Ideal.ofBits_zero_f32, zero_add]
  exact congrArg (Ideal.div · _) (Finset.sum_congr rfl fun k _ => congrArg _ (Shape.idx_ext₂ (n := ![8192, 1024]) rfl rfl))

theorem ref13 (i : S8192x1024.Idx) :
    val_main_v13 (F := Ideal) A W X i = P A W X i - mean (fun k => P A W X (ix2 (i 0) k)) := by
  show val_main_v5 (F := Ideal) A W X i - val_main_v12 (F := Ideal) A W X i = _
  rw [val_main_v12_apply, ref5, ref11]
  rfl

theorem ref20 (i : S8192x1024.Idx) :
    val_main_v20 (F := Ideal) A W X i = P A W X i - mean (fun k => P A W X (ix2 (i 0) k)) := by
  show val_main_v5 (F := Ideal) A W X i - val_main_v19 (F := Ideal) A W X i = _
  rw [val_main_v19_apply, ref5, ref11]
  rfl

theorem ref22 (i : Cert.OutLnRefIdeal.S8192x1.Idx) : val_main_v22 (F := Ideal) A W X i = spread (fun k => P A W X (ix2 (i 0) k)) := by
  show Ideal.div (val_main_v16 (F := Ideal) A W X i) (val_main_v17 (F := Ideal) i) + val_main_v21 (F := Ideal) i = _
  rw [val_main_v16_apply, val_main_v17_apply, val_main_v21_apply, val_main_v15_apply]
  show Ideal.div (Ideal.ofBits .f32 0x00000000#32 + ∑ k : Fin 1024, val_main_v13 (F := Ideal) A W X _ * val_main_v13 (F := Ideal) A W X _)
    (Ideal.ofBits .f32 0x44800000#32) + Ideal.ofBits .f32 0x3727C5AC#32 = _
  rw [Ideal.ofBits_zero_f32, zero_add]
  refine congrArg (Ideal.div · _ + _) (Finset.sum_congr rfl fun k _ => ?_)
  rw [show idx_main_v15 (idx_main_v16 i) k = ix2 (n0 := 8192) (n1 := 1024) (i 0) k from Shape.idx_ext₂ (n := ![8192, 1024]) rfl rfl, ref13]

theorem ref31 : val_main_v31 (F := Ideal) A W X g b = G A W X g b := by
  funext i
  have hi : i = ix2 (n0 := 8192) (n1 := 1024) (i 0) (i 1) := Shape.idx_ext₂ (n := ![8192, 1024]) rfl rfl
  show val_main_v20 (F := Ideal) A W X i * val_main_v24 (F := Ideal) A W X i * val_main_v27 (F := Ideal) g i
    + val_main_v30 (F := Ideal) b i = _
  rw [val_main_v24_apply, val_main_v27_apply, val_main_v30_apply, val_main_v26_apply, val_main_v29_apply, val_main_v6_apply,
    val_main_v7_apply, ref20]
  show (P A W X i - _) * Ideal.rsqrt (val_main_v22 (F := Ideal) A W X _) * g _ + b _ = _
  rw [ref22]
  refine congrArg₂ (· + ·) (congrArg₂ (· * ·) (congrArg₂ (· * ·) (congrArg (· - _) (congrArg (P A W X) hi)) rfl) (congrArg g ?_))
    (congrArg b ?_) <;> exact Shape.idx_ext₂ (n := ![1, 1024]) rfl (Nat.mod_eq_of_lt (i 1).isLt)

theorem ref32 : val_main_v32 (F := Ideal) A W X g b = G A W X g b := ref31 A W X g b

end Ref

/-! ## The claims -/

theorem frame : Cert.quiescent_OutLn := fun m ρ _ => Cert.OutLn.Gen.frame m ρ
theorem frame_ideal : Cert.quiescent_OutLnIdeal := fun m ρ _ => Cert.OutLnIdeal.Gen.frame m ρ
theorem frame_ref : Cert.quiescent_OutLnRefIdeal := fun m ρ _ =>
  (θ_run Cert.OutLnRefIdeal.defs _ _).mono (fun r h => ⟨fun c => (h c).2.2.2, sem_eq_zero_of_no_sems (by decide) r.2⟩)
    (Cert.OutLnRefIdeal.Value.run (F := Ideal) m ρ)

theorem preserves : Cert.preserves_OutLn_OutLnIdeal := trivial

theorem algebraic : Cert.algebraic_OutLnIdeal_OutLnRefIdeal := by
  intro m ρ m' ρ' _ hagree
  refine ⟨fun c => P (A m c) (W m c) (X m c), fun c => G (A m c) (W m c) (X m c) (g m c) (b m c), fun c => G (A m c) (W m c) (X m c) (g m c) (b m c), ?_, ?_⟩
  · exact (θ_run Cert.OutLnIdeal.defs _ _).mono (fun _ h c => ⟨(h c).1.trans (final5 m c), (h c).2.1.trans (final6 m c), (h c).2.2.1.trans (final7 m c), (h c).2.2.2⟩)
      (Cert.OutLnIdeal.Value.run_blocks (F := Ideal) m ρ)
  refine (θ_run Cert.OutLnRefIdeal.defs _ _).mono (fun r h c => ?_) (Cert.OutLnRefIdeal.Value.run (F := Ideal) m' ρ')
  have hc := h c
  rw [(hagree c).1, (hagree c).2.1, (hagree c).2.2.1, (hagree c).2.2.2.1, (hagree c).2.2.2.2] at hc
  exact ⟨hc.1.trans (ref5 (A m c) (W m c) (X m c)), hc.2.1.trans (ref31 (A m c) (W m c) (X m c) (g m c) (b m c)), hc.2.2.1.trans (ref32 (A m c) (W m c) (X m c) (g m c) (b m c)), (h c).2.2.2⟩

end Cert.Proof.OutLnVal

end
-- ==== Proof.DownLnVal.lean ====
/-
  The down projection with the residual and the layer normalisation after it, 512 rows at a time; and that the three
  results are the same lines over the whole arrays.
-/
module

public import proofs.«01_k».proof.Defs
public import proofs.«01_k».proof.Proof.Common
public import proofs.«01_k».proof.Proof.Gen.DownLn.Frame
public import proofs.«01_k».proof.Proof.Gen.DownLnIdeal.Value
public import proofs.«01_k».proof.Proof.Gen.DownLnRefIdeal.Read
public import proofs.«01_k».proof.Proof.LnForm
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic hiding ix1 ix2 ix3 ix4 ix5
open Idealize.ShloMosaic.TcCoe Idealize.ShloMosaic.ValueIdx Idealize.SL.Sem
open Idealize.ShloMosaic.Pipeline (Dat)
open scoped BigOperators

namespace Cert.Proof.DownLnVal

open Cert.DownLnIdeal Cert.DownLnIdeal.Gen Cert.Common Cert.LnForm

/-- The sum of the scaled residual and the product, at an index. -/
def P (A : S8192x3072.Idx → EReal) (W : S3072x1024.Idx → EReal) (X : S8192x1024.Idx → EReal) (i : S8192x1024.Idx) : EReal :=
  Ideal.ofBits .f32 0x3FB504F3#32 * X i + ∑ k : Fin 3072, A (ix2 (i 0) k) * W (ix2 k (i 1))

/-- Its layer normalisation at an index. -/
def G (A : S8192x3072.Idx → EReal) (W : S3072x1024.Idx → EReal) (X : S8192x1024.Idx → EReal) (g b : S1x1024.Idx → EReal)
    (i : S8192x1024.Idx) : EReal :=
  ln (fun k => P A W X (ix2 (i 0) k)) (fun k => g (ix2 0 k)) (fun k => b (ix2 0 k)) (i 1)

theorem pay1_apply (v0 : Vec Ideal S512x1024 .f32) (v3 : Vec Ideal S512x3072 .bf16) (v4 : Vec Ideal S3072x1024 .bf16) (j : S512x1024.Idx) :
    k0_pay1 v0 v3 v4 j = Ideal.ofBits .f32 0x3FB504F3#32 * v0 j + ∑ k : Fin 3072, v3 (ix2 (j 0) k) * v4 (ix2 k (j 1)) :=
  congrArg (Ideal.ofBits .f32 0x3FB504F3#32 * v0 j + ·)
    (matmul_nn_apply (φ₁ := .bf16) (φ₂ := .bf16) dot_S512x3072_S3072x1024_S512x1024_1_0_0_1_n_n rfl none v3 v4 j)

theorem pay2_apply (v0 : Vec Ideal S512x1024 .f32) (v3 : Vec Ideal S512x3072 .bf16) (v4 : Vec Ideal S3072x1024 .bf16)
    (v7 v8 : Vec Ideal S1x1024 .f32) (j : S512x1024.Idx) :
    k0_pay2 v0 v3 v4 v7 v8 j
      = ln (fun k => k0_pay1 v0 v3 v4 (ix2 (j 0) k)) (fun k => v7 (ix2 0 k)) (fun k => v8 (ix2 0 k)) (j 1) := by
  have hj : j = ix2 (n0 := 512) (n1 := 1024) (j 0) (j 1) := Shape.idx_ext₂ (n := ![512, 1024]) rfl rfl
  unfold k0_pay2 ln spread mean
  generalize k0_pay1 v0 v3 v4 = p
  have hp : p j = p (ix2 (n0 := 512) (n1 := 1024) (j 0) (j 1)) := congrArg p hj
  pointwise
  rw [hp]
  rfl

/-- Which block each window shows at a grid point. -/
theorem idx_facts : ∀ t : Fin grid0.N,
    win0_0.index t = ![t.val, 0] ∧ win0_1.index t = ![0, 0] ∧ win0_2.index t = ![t.val, 0] ∧ win0_3.index t = ![0, 0] ∧ win0_4.index t = ![0, 0] ∧ win0_5.index t = ![t.val, 0] ∧ win0_6.index t = ![t.val, 0] ∧ win0_7.index t = ![t.val, 0] := by
  decide +kernel

variable (m : (ℓ : Loc nD τ sig) → Buf (Elt Ideal) ℓ) (ρ : Dev nD → PrngReg)

/-- The argument arrays of device `c`. -/
abbrev A (c : Dev nD) : S8192x3072.Idx → EReal := m ((c : Thread nD τ).loc main_arg0)
abbrev W (c : Dev nD) : S3072x1024.Idx → EReal := m ((c : Thread nD τ).loc main_arg1)
abbrev X (c : Dev nD) : S8192x1024.Idx → EReal := m ((c : Thread nD τ).loc main_arg2)
abbrev g (c : Dev nD) : S1x1024.Idx → EReal := m ((c : Thread nD τ).loc main_arg3)
abbrev b (c : Dev nD) : S1x1024.Idx → EReal := m ((c : Thread nD τ).loc main_arg4)

/-- The index of result 5 that point `t` touches at index `j` of its block. -/
def at5 (t : Fin cfg0.N) (j : S512x1024.Idx) : S8192x1024.Idx := (win0_5.blk t).view.emb j

theorem at5_0 (t : Fin cfg0.N) (j : S512x1024.Idx) : (at5 t j 0).val = (t.val) * 512 + (j 0).val := by
  have h : (at5 t j 0).val = win0_5.index t 0 * 512 + 1 * (j 0).val := rfl
  rw [h, (idx_facts t).2.2.2.2.2.1, one_mul]; rfl
theorem at5_1 (t : Fin cfg0.N) (j : S512x1024.Idx) : (at5 t j 1).val = (0) * 1024 + (j 1).val := by
  have h : (at5 t j 1).val = win0_5.index t 1 * 1024 + 1 * (j 1).val := rfl
  rw [h, (idx_facts t).2.2.2.2.2.1, one_mul]; rfl

/-- The index of result 6 that point `t` touches at index `j` of its block. -/
def at6 (t : Fin cfg0.N) (j : S512x1024.Idx) : S8192x1024.Idx := (win0_6.blk t).view.emb j

theorem at6_0 (t : Fin cfg0.N) (j : S512x1024.Idx) : (at6 t j 0).val = (t.val) * 512 + (j 0).val := by
  have h : (at6 t j 0).val = win0_6.index t 0 * 512 + 1 * (j 0).val := rfl
  rw [h, (idx_facts t).2.2.2.2.2.2.1, one_mul]; rfl
theorem at6_1 (t : Fin cfg0.N) (j : S512x1024.Idx) : (at6 t j 1).val = (0) * 1024 + (j 1).val := by
  have h : (at6 t j 1).val = win0_6.index t 1 * 1024 + 1 * (j 1).val := rfl
  rw [h, (idx_facts t).2.2.2.2.2.2.1, one_mul]; rfl

/-- The index of result 7 that point `t` touches at index `j` of its block. -/
def at7 (t : Fin cfg0.N) (j : S512x1024.Idx) : S8192x1024.Idx := (win0_7.blk t).view.emb j

theorem at7_0 (t : Fin cfg0.N) (j : S512x1024.Idx) : (at7 t j 0).val = (t.val) * 512 + (j 0).val := by
  have h : (at7 t j 0).val = win0_7.index t 0 * 512 + 1 * (j 0).val := rfl
  rw [h, (idx_facts t).2.2.2.2.2.2.2, one_mul]; rfl
theorem at7_1 (t : Fin cfg0.N) (j : S512x1024.Idx) : (at7 t j 1).val = (0) * 1024 + (j 1).val := by
  have h : (at7 t j 1).val = win0_7.index t 1 * 1024 + 1 * (j 1).val := rfl
  rw [h, (idx_facts t).2.2.2.2.2.2.2, one_mul]; rfl

theorem blk0 (c : Dev nD) (t : Fin cfg0.N) (j : S512x1024.Idx) (k : Fin 3072) :
    (iblk m c 0 t : Vec Ideal S512x3072 .bf16) (ix2 (n0 := 512) (n1 := 3072) (j 0) k) = A m c (ix2 (n0 := 8192) (n1 := 3072) (at5 t j 0) k) := by
  unfold iblk
  rw [View.read_apply]
  show V m c main_arg0 _ = _
  rw [V_main_arg0]
  congr 1
  refine Shape.idx_ext₂ (n := ![8192, 3072]) ?_ ?_
  · show win0_0.index t 0 * 512 + 1 * (j 0).val = (at5 t j 0).val
    rw [at5_0, (idx_facts t).1, one_mul]
    show (t.val) * 512 + _ = _
    omega
  · show win0_0.index t 1 * 3072 + 1 * k.val = k.val
    rw [(idx_facts t).1, one_mul]
    show (0) * 3072 + _ = _
    omega

theorem blk1 (c : Dev nD) (t : Fin cfg0.N) (j : S512x1024.Idx) (k : Fin 3072) (d : Fin 1024) :
    (iblk m c 1 t : Vec Ideal S3072x1024 .bf16) (ix2 (n0 := 3072) (n1 := 1024) k d) = W m c (ix2 (n0 := 3072) (n1 := 1024) k d) := by
  unfold iblk
  rw [View.read_apply]
  show V m c main_arg1 _ = _
  rw [V_main_arg1]
  congr 1
  refine Shape.idx_ext₂ (n := ![3072, 1024]) ?_ ?_
  · show win0_1.index t 0 * 3072 + 1 * k.val = k.val
    rw [(idx_facts t).2.1, one_mul]
    show (0) * 3072 + _ = _
    omega
  · show win0_1.index t 1 * 1024 + 1 * d.val = d.val
    rw [(idx_facts t).2.1, one_mul]
    show (0) * 1024 + _ = _
    omega

theorem blk2 (c : Dev nD) (t : Fin cfg0.N) (j : S512x1024.Idx) (k : Fin 1024) :
    (iblk m c 2 t : Vec Ideal S512x1024 .f32) (ix2 (n0 := 512) (n1 := 1024) (j 0) k) = X m c (ix2 (n0 := 8192) (n1 := 1024) (at5 t j 0) k) := by
  unfold iblk
  rw [View.read_apply]
  show V m c main_arg2 _ = _
  rw [V_main_arg2]
  congr 1
  refine Shape.idx_ext₂ (n := ![8192, 1024]) ?_ ?_
  · show win0_2.index t 0 * 512 + 1 * (j 0).val = (at5 t j 0).val
    rw [at5_0, (idx_facts t).2.2.1, one_mul]
    show (t.val) * 512 + _ = _
    omega
  · show win0_2.index t 1 * 1024 + 1 * k.val = k.val
    rw [(idx_facts t).2.2.1, one_mul]
    show (0) * 1024 + _ = _
    omega

theorem blk3 (c : Dev nD) (t : Fin cfg0.N) (j : S512x1024.Idx) (z : Fin 1) (k : Fin 1024) :
    (iblk m c 3 t : Vec Ideal S1x1024 .f32) (ix2 (n0 := 1) (n1 := 1024) z k) = g m c (ix2 (n0 := 1) (n1 := 1024) z k) := by
  unfold iblk
  rw [View.read_apply]
  show V m c main_arg3 _ = _
  rw [V_main_arg3]
  congr 1
  refine Shape.idx_ext₂ (n := ![1, 1024]) ?_ ?_
  · show win0_3.index t 0 * 1 + 1 * z.val = z.val
    rw [(idx_facts t).2.2.2.1, one_mul]
    show (0) * 1 + _ = _
    omega
  · show win0_3.index t 1 * 1024 + 1 * k.val = k.val
    rw [(idx_facts t).2.2.2.1, one_mul]
    show (0) * 1024 + _ = _
    omega

theorem blk4 (c : Dev nD) (t : Fin cfg0.N) (j : S512x1024.Idx) (z : Fin 1) (k : Fin 1024) :
    (iblk m c 4 t : Vec Ideal S1x1024 .f32) (ix2 (n0 := 1) (n1 := 1024) z k) = b m c (ix2 (n0 := 1) (n1 := 1024) z k) := by
  unfold iblk
  rw [View.read_apply]
  show V m c main_arg4 _ = _
  rw [V_main_arg4]
  congr 1
  refine Shape.idx_ext₂ (n := ![1, 1024]) ?_ ?_
  · show win0_4.index t 0 * 1 + 1 * z.val = z.val
    rw [(idx_facts t).2.2.2.2.1, one_mul]
    show (0) * 1 + _ = _
    omega
  · show win0_4.index t 1 * 1024 + 1 * k.val = k.val
    rw [(idx_facts t).2.2.2.2.1, one_mul]
    show (0) * 1024 + _ = _
    omega

theorem at6_eq (t : Fin cfg0.N) (j : S512x1024.Idx) : at6 t j = at5 t j :=
  Shape.idx_ext₂ (n := ![8192, 1024]) (by rw [at6_0, at5_0]) (by rw [at6_1, at5_1])
theorem at7_eq (t : Fin cfg0.N) (j : S512x1024.Idx) : at7 t j = at5 t j :=
  Shape.idx_ext₂ (n := ![8192, 1024]) (by rw [at7_0, at5_0]) (by rw [at7_1, at5_1])

theorem at5_col (t : Fin cfg0.N) (j : S512x1024.Idx) : at5 t j 1 = j 1 :=
  Fin.ext (by rw [at5_1]; omega)

/-- The sum of the residual and the product on a block's row. -/
theorem pre_eq (c : Dev nD) (t : Fin cfg0.N) (y : S512x1024.Idx) (d : Fin 1024) :
    k0_pay1 (iblk m c 2 t) (iblk m c 0 t) (iblk m c 1 t) (ix2 (n0 := 512) (n1 := 1024) (y 0) d)
      = P (A m c) (W m c) (X m c) (ix2 (at5 t y 0) d) :=
  (pay1_apply _ _ _ _).trans (congrArg₂ (· + ·) (congrArg (Ideal.ofBits .f32 0x3FB504F3#32 * ·) (blk2 m c t y d))
    (Finset.sum_congr rfl fun k _ => congrArg₂ (· * ·) (blk0 m c t y k) (blk1 m c t y k d)))

/-- The normalised block. -/
theorem norm_eq (c : Dev nD) (t : Fin cfg0.N) (y : S512x1024.Idx) :
    k0_pay2 (iblk m c 2 t) (iblk m c 0 t) (iblk m c 1 t) (iblk m c 3 t) (iblk m c 4 t) y
      = G (A m c) (W m c) (X m c) (g m c) (b m c) (at5 t y) := by
  refine (pay2_apply _ _ _ _ _ y).trans ?_
  unfold G
  rw [at5_col, funext (pre_eq m c t y), funext (blk3 m c t y 0), funext (blk4 m c t y 0)]

/-! ## The arrays after the run -/

theorem out5_eq (c : Dev nD) (t : Fin cfg0.N) (y : S512x1024.Idx) :
    out0_5 (iblk m c 0 t) (iblk m c 1 t) (iblk m c 2 t) (iblk m c 3 t) (iblk m c 4 t) y = P (A m c) (W m c) (X m c) (at5 t y) := by
  unfold out0_5
  rw [View.canon_unit_zero zero2]
  repeat rw [View.ld_unit_zero zero2]
  have hy : y = ix2 (n0 := 512) (n1 := 1024) (y 0) (y 1) := Shape.idx_ext₂ (n := ![512, 1024]) rfl rfl
  have ha : at5 t y = ix2 (n0 := 8192) (n1 := 1024) (at5 t y 0) (y 1) :=
    Shape.idx_ext₂ (n := ![8192, 1024]) rfl (congrArg Fin.val (at5_col t y))
  rw [ha]
  exact (congrArg (k0_pay1 (iblk m c 2 t) (iblk m c 0 t) (iblk m c 1 t)) hy).trans (pre_eq m c t y (y 1))

theorem out6_eq (c : Dev nD) (t : Fin cfg0.N) (y : S512x1024.Idx) :
    out0_6 (iblk m c 0 t) (iblk m c 1 t) (iblk m c 2 t) (iblk m c 3 t) (iblk m c 4 t) y
      = G (A m c) (W m c) (X m c) (g m c) (b m c) (at6 t y) := by
  unfold out0_6
  rw [View.canon_unit_zero zero2, at6_eq]
  repeat rw [View.ld_unit_zero zero2]
  exact norm_eq m c t y

theorem out7_eq (c : Dev nD) (t : Fin cfg0.N) (y : S512x1024.Idx) :
    out0_7 (iblk m c 0 t) (iblk m c 1 t) (iblk m c 2 t) (iblk m c 3 t) (iblk m c 4 t) y
      = G (A m c) (W m c) (X m c) (g m c) (b m c) (at7 t y) := by
  unfold out0_7
  rw [View.canon_unit_zero zero2, at7_eq]
  repeat rw [View.ld_unit_zero zero2]
  exact norm_eq m c t y

theorem final5 (c : Dev nD) : (dats m 0 c).arrAt 5 cfg0.N = P (A m c) (W m c) (X m c) := by
  refine (dats m 0 c).arrAt_eq_of_covers 5 _ (by decide +kernel) fun t hf y => ?_
  blk_simp
  rw [after0_5]
  exact out5_eq m c t y

theorem final6 (c : Dev nD) : (dats m 0 c).arrAt 6 cfg0.N = G (A m c) (W m c) (X m c) (g m c) (b m c) := by
  refine (dats m 0 c).arrAt_eq_of_covers 6 _ (by decide +kernel) fun t hf y => ?_
  blk_simp
  rw [after0_6]
  exact out6_eq m c t y

theorem final7 (c : Dev nD) : (dats m 0 c).arrAt 7 cfg0.N = G (A m c) (W m c) (X m c) (g m c) (b m c) := by
  refine (dats m 0 c).arrAt_eq_of_covers 7 _ (by decide +kernel) fun t hf y => ?_
  blk_simp
  rw [after0_7]
  exact out7_eq m c t y

/-! ## The reference -/

open Cert.DownLnRefIdeal.Read

section Ref

variable (A : S8192x3072.Idx → EReal) (W : S3072x1024.Idx → EReal) (X : S8192x1024.Idx → EReal) (g b : S1x1024.Idx → EReal)

theorem ref5 : val_main_v5 (F := Ideal) A W X = P A W X := by
  funext i
  show val_main_v0 (F := Ideal) i * X i + val_main_v4 (F := Ideal) A W i = _
  rw [val_main_v0_apply, val_main_v4_apply]
  refine congrArg (Ideal.ofBits .f32 0x3FB504F3#32 * X i + ·)
    (Finset.sum_congr rfl fun k _ => congrArg₂ (· * ·) (congrArg A ?_) (congrArg W ?_))
  · exact Shape.idx_ext₂ (n := ![8192, 3072]) rfl rfl
  · exact Shape.idx_ext₂ (n := ![3072, 1024]) rfl rfl

theorem ref11 (i : Cert.DownLnRefIdeal.S8192x1.Idx) : val_main_v11 (F := Ideal) A W X i = mean (fun k => P A W X (ix2 (i 0) k)) := by
  show Ideal.div (val_main_v9 (F := Ideal) A W X i) (val_main_v10 (F := Ideal) i) = _
  rw [val_main_v9_apply, val_main_v10_apply, val_main_v8_apply, ref5]
  show Ideal.div (Ideal.ofBits .f32 0x00000000#32 + ∑ k : Fin 1024, P A W X _) (Ideal.ofBits .f32 0x44800000#32) = _
  rw [Ideal.ofBits_zero_f32, zero_add]
  exact congrArg (Ideal.div · _) (Finset.sum_congr rfl fun k _ => congrArg _ (Shape.idx_ext₂ (n := ![8192, 1024]) rfl rfl))

theorem ref13 (i : S8192x1024.Idx) :
    val_main_v13 (F := Ideal) A W X i = P A W X i - mean (fun k => P A W X (ix2 (i 0) k)) := by
  show val_main_v5 (F := Ideal) A W X i - val_main_v12 (F := Ideal) A W X i = _
  rw [val_main_v12_apply, ref5, ref11]
  rfl

theorem ref20 (i : S8192x1024.Idx) :
    val_main_v20 (F := Ideal) A W X i = P A W X i - mean (fun k => P A W X (ix2 (i 0) k)) := by
  show val_main_v5 (F := Ideal) A W X i - val_main_v19 (F := Ideal) A W X i = _
  rw [val_main_v19_apply, ref5, ref11]
  rfl

theorem ref22 (i : Cert.DownLnRefIdeal.S8192x1.Idx) : val_main_v22 (F := Ideal) A W X i = spread (fun k => P A W X (ix2 (i 0) k)) := by
  show Ideal.div (val_main_v16 (F := Ideal) A W X i) (val_main_v17 (F := Ideal) i) + val_main_v21 (F := Ideal) i = _
  rw [val_main_v16_apply, val_main_v17_apply, val_main_v21_apply, val_main_v15_apply]
  show Ideal.div (Ideal.ofBits .f32 0x00000000#32 + ∑ k : Fin 1024, val_main_v13 (F := Ideal) A W X _ * val_main_v13 (F := Ideal) A W X _)
    (Ideal.ofBits .f32 0x44800000#32) + Ideal.ofBits .f32 0x3727C5AC#32 = _
  rw [Ideal.ofBits_zero_f32, zero_add]
  refine congrArg (Ideal.div · _ + _) (Finset.sum_congr rfl fun k _ => ?_)
  rw [show idx_main_v15 (idx_main_v16 i) k = ix2 (n0 := 8192) (n1 := 1024) (i 0) k from Shape.idx_ext₂ (n := ![8192, 1024]) rfl rfl, ref13]

theorem ref31 : val_main_v31 (F := Ideal) A W X g b = G A W X g b := by
  funext i
  have hi : i = ix2 (n0 := 8192) (n1 := 1024) (i 0) (i 1) := Shape.idx_ext₂ (n := ![8192, 1024]) rfl rfl
  show val_main_v20 (F := Ideal) A W X i * val_main_v24 (F := Ideal) A W X i * val_main_v27 (F := Ideal) g i
    + val_main_v30 (F := Ideal) b i = _
  rw [val_main_v24_apply, val_main_v27_apply, val_main_v30_apply, val_main_v26_apply, val_main_v29_apply, val_main_v6_apply,
    val_main_v7_apply, ref20]
  show (P A W X i - _) * Ideal.rsqrt (val_main_v22 (F := Ideal) A W X _) * g _ + b _ = _
  rw [ref22]
  refine congrArg₂ (· + ·) (congrArg₂ (· * ·) (congrArg₂ (· * ·) (congrArg (· - _) (congrArg (P A W X) hi)) rfl) (congrArg g ?_))
    (congrArg b ?_) <;> exact Shape.idx_ext₂ (n := ![1, 1024]) rfl (Nat.mod_eq_of_lt (i 1).isLt)

theorem ref32 : val_main_v32 (F := Ideal) A W X g b = G A W X g b := ref31 A W X g b

end Ref

/-! ## The claims -/

theorem frame : Cert.quiescent_DownLn := fun m ρ _ => Cert.DownLn.Gen.frame m ρ
theorem frame_ideal : Cert.quiescent_DownLnIdeal := fun m ρ _ => Cert.DownLnIdeal.Gen.frame m ρ
theorem frame_ref : Cert.quiescent_DownLnRefIdeal := fun m ρ _ =>
  (θ_run Cert.DownLnRefIdeal.defs _ _).mono (fun r h => ⟨fun c => (h c).2.2.2, sem_eq_zero_of_no_sems (by decide) r.2⟩)
    (Cert.DownLnRefIdeal.Value.run (F := Ideal) m ρ)

theorem preserves : Cert.preserves_DownLn_DownLnIdeal := trivial

theorem algebraic : Cert.algebraic_DownLnIdeal_DownLnRefIdeal := by
  intro m ρ m' ρ' _ hagree
  refine ⟨fun c => P (A m c) (W m c) (X m c), fun c => G (A m c) (W m c) (X m c) (g m c) (b m c), fun c => G (A m c) (W m c) (X m c) (g m c) (b m c), ?_, ?_⟩
  · exact (θ_run Cert.DownLnIdeal.defs _ _).mono (fun _ h c => ⟨(h c).1.trans (final5 m c), (h c).2.1.trans (final6 m c), (h c).2.2.1.trans (final7 m c), (h c).2.2.2⟩)
      (Cert.DownLnIdeal.Value.run_blocks (F := Ideal) m ρ)
  refine (θ_run Cert.DownLnRefIdeal.defs _ _).mono (fun r h c => ?_) (Cert.DownLnRefIdeal.Value.run (F := Ideal) m' ρ')
  have hc := h c
  rw [(hagree c).1, (hagree c).2.1, (hagree c).2.2.1, (hagree c).2.2.2.1, (hagree c).2.2.2.2] at hc
  exact ⟨hc.1.trans (ref5 (A m c) (W m c) (X m c)), hc.2.1.trans (ref31 (A m c) (W m c) (X m c) (g m c) (b m c)), hc.2.2.1.trans (ref32 (A m c) (W m c) (X m c) (g m c) (b m c)), (h c).2.2.2⟩

end Cert.Proof.DownLnVal

end
-- ==== Proof.AdamForm.lean ====
/-
  One AdamW step on one number, as formulas on extended reals: the two moments and the change of the weight.
-/
module

public import Idealize.ShloMosaic.Lib.Pointwise
public import Idealize.ShloMosaic.Lib.ValueIdx
public import Mathlib.Algebra.BigOperators.Fin

@[expose] public section

noncomputable section

open Idealize.ShloMosaic
open scoped BigOperators

namespace Cert.AdamForm

/-- The first moment after a step with gradient `g`. -/
def mom1 (g m : EReal) : EReal := Ideal.ofBits .f32 0x3F666666#32 * m + Ideal.ofBits .f32 0x3DCCCCCD#32 * g

/-- The second moment after a step with gradient `g`. -/
def mom2 (g v : EReal) : EReal := Ideal.ofBits .f32 0x3F7FBE77#32 * v + Ideal.ofBits .f32 0x3A83126F#32 * (g * g)

/-- The change of the weight `w`. -/
def delta (g w m v : EReal) : EReal :=
  Ideal.ofBits .f32 0xBA83126F#32 * (Ideal.div (Ideal.div (mom1 g m) (Ideal.ofBits .f32 0x3F26BD02#32))
    (Ideal.sqrt (Ideal.div (mom2 g v) (Ideal.ofBits .f32 0x3C231ACC#32)) + Ideal.ofBits .f32 0x322BCC77#32)
    + Ideal.ofBits .f32 0x3C23D70A#32 * w)

theorem mom1_congr {g g' m m' : EReal} (h : g = g') (hm : m = m') : mom1 g m = mom1 g' m' := h ▸ hm ▸ rfl
theorem mom2_congr {g g' v v' : EReal} (h : g = g') (hv : v = v') : mom2 g v = mom2 g' v' := h ▸ hv ▸ rfl
theorem delta_congr {g g' w w' m m' v v' : EReal} (h : g = g') (hw : w = w') (hm : m = m') (hv : v = v') :
    delta g w m v = delta g' w' m' v' := h ▸ hw ▸ hm ▸ hv ▸ rfl

/-! ## Two layers, one after the other -/

theorem stack_first {α : Type} {a b : Nat} (x y : (⟨3, ![1, a, b]⟩ : Shape).Idx → α)
    (h : Shape.Concatenates [⟨3, ![1, a, b]⟩, ⟨3, ![1, a, b]⟩] ⟨3, ![2, a, b]⟩ 0) (i : (⟨3, ![2, a, b]⟩ : Shape).Idx)
    (hi : (i 0).val = 0) : concatenate ⟨3, ![2, a, b]⟩ 0 [⟨⟨3, ![1, a, b]⟩, x⟩, ⟨⟨3, ![1, a, b]⟩, y⟩] h i
      = x (ValueIdx.ix3 (n0 := 1) (n1 := a) (n2 := b) 0 (i 1) (i 2)) := by
  refine concatenate_pair_apply_left (t := ⟨3, ![2, a, b]⟩) (s₁ := ⟨3, ![1, a, b]⟩) (s₂ := ⟨3, ![1, a, b]⟩) 0 x y h i rfl _ ?_
  intro c
  match c with
  | ⟨0, _⟩ => exact hi.symm
  | ⟨1, _⟩ => rfl
  | ⟨2, _⟩ => rfl

theorem stack_second {α : Type} {a b : Nat} (x y : (⟨3, ![1, a, b]⟩ : Shape).Idx → α)
    (h : Shape.Concatenates [⟨3, ![1, a, b]⟩, ⟨3, ![1, a, b]⟩] ⟨3, ![2, a, b]⟩ 0) (i : (⟨3, ![2, a, b]⟩ : Shape).Idx)
    (hi : (i 0).val = 1) : concatenate ⟨3, ![2, a, b]⟩ 0 [⟨⟨3, ![1, a, b]⟩, x⟩, ⟨⟨3, ![1, a, b]⟩, y⟩] h i
      = y (ValueIdx.ix3 (n0 := 1) (n1 := a) (n2 := b) 0 (i 1) (i 2)) := by
  refine concatenate_pair_apply_right (t := ⟨3, ![2, a, b]⟩) (s₁ := ⟨3, ![1, a, b]⟩) (s₂ := ⟨3, ![1, a, b]⟩) 0 x y h i rfl rfl _ ?_ ?_
  · intro c hc
    match c with
    | ⟨0, _⟩ => exact absurd rfl hc
    | ⟨1, _⟩ => rfl
    | ⟨2, _⟩ => rfl
  · show 0 + 1 = (i 0).val
    omega

end Cert.AdamForm

end
-- ==== Proof.AdamInVal.lean ====
/-
  The AdamW step of the input projections of both layers: the gradient summed over the eight devices' parts, the two
  moments and the change of the weight, tile by tile; and that they are the same lines over the whole arrays.
-/
module

public import proofs.«01_k».proof.Defs
public import proofs.«01_k».proof.Proof.Common
public import proofs.«01_k».proof.Proof.Gen.AdamIn.Frame
public import proofs.«01_k».proof.Proof.Gen.AdamInIdeal.Value
public import proofs.«01_k».proof.Proof.Gen.AdamInRefIdeal.Read
public import proofs.«01_k».proof.Proof.AdamForm
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic hiding ix1 ix2 ix3 ix4 ix5
open Idealize.ShloMosaic.TcCoe Idealize.ShloMosaic.ValueIdx Idealize.SL.Sem
open Idealize.ShloMosaic.Pipeline (Dat)
open scoped BigOperators

namespace Cert.Proof.AdamInVal

open Cert.AdamInIdeal Cert.AdamInIdeal.Gen Cert.Common Cert.AdamForm

/-- Result row and column as a row and a column of a received part. -/
abbrev row (i : S2x1024x1026.Idx) : Fin 1024 := ⟨(i 1).val, lt_of_lt_of_le (i 1).isLt (by decide : 1024 ≤ 1024)⟩
abbrev col (i : S2x1024x1026.Idx) : Fin 1152 := ⟨(i 2).val, lt_of_lt_of_le (i 2).isLt (by decide : 1026 ≤ 1152)⟩

/-- The sum of the eight parts at an index. -/
def part (R : S8x1024x1152.Idx → EReal) (i : S2x1024x1026.Idx) : EReal := ∑ k : Fin 8, R (ix3 k (row i) (col i))

/-- The gradient: the first layer's parts summed, and the second layer's. -/
def G (R₀ R₁ : S8x1024x1152.Idx → EReal) (i : S2x1024x1026.Idx) : EReal := if (i 0).val = 0 then part R₀ i else part R₁ i

/-- The change of the weights and the two moments at an index. -/
def D (R₀ R₁ : S8x1024x1152.Idx → EReal) (W M₀ V₀ : S2x1024x1026.Idx → EReal) (i : S2x1024x1026.Idx) : EReal := delta (G R₀ R₁ i) (W i) (M₀ i) (V₀ i)
def M (R₀ R₁ : S8x1024x1152.Idx → EReal) (M₀ : S2x1024x1026.Idx → EReal) (i : S2x1024x1026.Idx) : EReal := mom1 (G R₀ R₁ i) (M₀ i)
def Q (R₀ R₁ : S8x1024x1152.Idx → EReal) (V₀ : S2x1024x1026.Idx → EReal) (i : S2x1024x1026.Idx) : EReal := mom2 (G R₀ R₁ i) (V₀ i)

/-! ## The stored values at an index of a block -/

theorem pay5_apply (v0 v1 v2 v3 v4 v5 v6 v7 : Vec Ideal S1x128x1026 .bf16) (j : S128x1026.Idx) :
    k0_pay5 v0 v1 v2 v3 v4 v5 v6 v7 j
      = v0 (Idealize.ShloMosaic.ix3 0 (j 0) (j 1)) + v1 (Idealize.ShloMosaic.ix3 0 (j 0) (j 1)) + v2 (Idealize.ShloMosaic.ix3 0 (j 0) (j 1)) + v3 (Idealize.ShloMosaic.ix3 0 (j 0) (j 1))
        + v4 (Idealize.ShloMosaic.ix3 0 (j 0) (j 1)) + v5 (Idealize.ShloMosaic.ix3 0 (j 0) (j 1)) + v6 (Idealize.ShloMosaic.ix3 0 (j 0) (j 1)) + v7 (Idealize.ShloMosaic.ix3 0 (j 0) (j 1)) := by
  unfold k0_pay5
  pointwise
  done

theorem pay11_apply (v0 v1 v2 v3 v4 v5 v6 v7 : Vec Ideal S1x128x1026 .bf16) (j : S128x1026.Idx) :
    k0_pay11 v0 v1 v2 v3 v4 v5 v6 v7 j
      = v0 (Idealize.ShloMosaic.ix3 0 (j 0) (j 1)) + v1 (Idealize.ShloMosaic.ix3 0 (j 0) (j 1)) + v2 (Idealize.ShloMosaic.ix3 0 (j 0) (j 1)) + v3 (Idealize.ShloMosaic.ix3 0 (j 0) (j 1))
        + v4 (Idealize.ShloMosaic.ix3 0 (j 0) (j 1)) + v5 (Idealize.ShloMosaic.ix3 0 (j 0) (j 1)) + v6 (Idealize.ShloMosaic.ix3 0 (j 0) (j 1)) + v7 (Idealize.ShloMosaic.ix3 0 (j 0) (j 1)) := by
  unfold k0_pay11
  pointwise
  done

theorem pay9_apply (g : Vec Ideal S128x1026 .f32) (y : S1x128x1026.Idx) :
    (show EReal from k0_pay9 (F := Ideal) g y) = g (Idealize.ShloMosaic.ix2 (y 1) (y 2)) := by
  unfold k0_pay9
  pointwise

theorem pay15_apply (g : Vec Ideal S128x1026 .f32) (y : S1x128x1026.Idx) :
    (show EReal from k0_pay15 (F := Ideal) g y) = g (Idealize.ShloMosaic.ix2 (y 1) (y 2)) := by
  unfold k0_pay15
  pointwise

theorem deltaA_apply (g : Vec Ideal S128x1026 .f32) (w m v : Vec Ideal S1x128x1026 .f32) (y : S1x128x1026.Idx) :
    k0_pay10 g (k0_pay6 w) m v y = delta (g (Idealize.ShloMosaic.ix2 (y 1) (y 2))) (w y) (m y) (v y) := by
  unfold k0_pay10 k0_pay6 k0_pay7 k0_pay8
  pointwise
  rfl

theorem mom1A_apply (g : Vec Ideal S128x1026 .f32) (m : Vec Ideal S1x128x1026 .f32) (y : S1x128x1026.Idx) :
    k0_pay3 (k0_pay7 g m) y = mom1 (g (Idealize.ShloMosaic.ix2 (y 1) (y 2))) (m y) := by
  unfold k0_pay3 k0_pay7
  pointwise
  rfl

theorem mom2A_apply (g : Vec Ideal S128x1026 .f32) (v : Vec Ideal S1x128x1026 .f32) (y : S1x128x1026.Idx) :
    k0_pay4 (k0_pay8 g v) y = mom2 (g (Idealize.ShloMosaic.ix2 (y 1) (y 2))) (v y) := by
  unfold k0_pay4 k0_pay8
  pointwise
  rfl

theorem deltaB_apply (g : Vec Ideal S128x1026 .f32) (w m v : Vec Ideal S1x128x1026 .f32) (y : S1x128x1026.Idx) :
    k0_pay16 g (k0_pay12 w) m v y = delta (g (Idealize.ShloMosaic.ix2 (y 1) (y 2))) (w y) (m y) (v y) := by
  unfold k0_pay16 k0_pay12 k0_pay13 k0_pay14
  pointwise
  rfl

theorem mom1B_apply (g : Vec Ideal S128x1026 .f32) (m : Vec Ideal S1x128x1026 .f32) (y : S1x128x1026.Idx) :
    k0_pay1 (k0_pay13 g m) y = mom1 (g (Idealize.ShloMosaic.ix2 (y 1) (y 2))) (m y) := by
  unfold k0_pay1 k0_pay13
  pointwise
  rfl

theorem mom2B_apply (g : Vec Ideal S128x1026 .f32) (v : Vec Ideal S1x128x1026 .f32) (y : S1x128x1026.Idx) :
    k0_pay2 (k0_pay14 g v) y = mom2 (g (Idealize.ShloMosaic.ix2 (y 1) (y 2))) (v y) := by
  unfold k0_pay2 k0_pay14
  pointwise
  rfl

/-- Which block each window shows at a grid point. -/
theorem idx_facts : ∀ t : Fin grid0.N,
    win0_2.index t = ![t.val / 8, t.val % 8, 0] ∧ win0_3.index t = ![t.val / 8, t.val % 8, 0] ∧ win0_4.index t = ![t.val / 8, t.val % 8, 0] ∧ win0_5.index t = ![t.val / 8, t.val % 8, 0] ∧ win0_6.index t = ![t.val / 8, t.val % 8, 0] ∧ win0_7.index t = ![t.val / 8, t.val % 8, 0] ∧ win0_8.index t = ![t.val / 8, t.val % 8, 0] := by
  decide +kernel

theorem idxA : ∀ t : Fin grid0.N, t.val < 8 → win0_0.index t = ![0, t.val, 0] := by
  decide +kernel
theorem idxB : ∀ t : Fin grid0.N, 8 ≤ t.val → win0_1.index t = ![0, t.val - 8, 0] := by
  decide +kernel

variable (m : (ℓ : Loc nD τ sig) → Buf (Elt Ideal) ℓ) (ρ : Dev nD → PrngReg)

/-- The argument arrays of device `c`. -/
abbrev R₀ (c : Dev nD) : S8x1024x1152.Idx → EReal := m ((c : Thread nD τ).loc main_arg0)
abbrev R₁ (c : Dev nD) : S8x1024x1152.Idx → EReal := m ((c : Thread nD τ).loc main_arg1)
abbrev W (c : Dev nD) : S2x1024x1026.Idx → EReal := m ((c : Thread nD τ).loc main_arg2)
abbrev M₀ (c : Dev nD) : S2x1024x1026.Idx → EReal := m ((c : Thread nD τ).loc main_arg3)
abbrev V₀ (c : Dev nD) : S2x1024x1026.Idx → EReal := m ((c : Thread nD τ).loc main_arg4)

/-- The index of result 5 that point `t` touches at index `j` of its block. -/
def at5 (t : Fin cfg0.N) (j : S1x128x1026.Idx) : S2x1024x1026.Idx := (win0_5.blk t).view.emb j

theorem at5_0 (t : Fin cfg0.N) (j : S1x128x1026.Idx) : (at5 t j 0).val = (t.val / 8) * 1 + (j 0).val := by
  have h : (at5 t j 0).val = win0_5.index t 0 * 1 + 1 * (j 0).val := rfl
  rw [h, (idx_facts t).2.2.2.1, one_mul]; rfl
theorem at5_1 (t : Fin cfg0.N) (j : S1x128x1026.Idx) : (at5 t j 1).val = (t.val % 8) * 128 + (j 1).val := by
  have h : (at5 t j 1).val = win0_5.index t 1 * 128 + 1 * (j 1).val := rfl
  rw [h, (idx_facts t).2.2.2.1, one_mul]; rfl
theorem at5_2 (t : Fin cfg0.N) (j : S1x128x1026.Idx) : (at5 t j 2).val = (0) * 1026 + (j 2).val := by
  have h : (at5 t j 2).val = win0_5.index t 2 * 1026 + 1 * (j 2).val := rfl
  rw [h, (idx_facts t).2.2.2.1, one_mul]; rfl

/-- The index of result 6 that point `t` touches at index `j` of its block. -/
def at6 (t : Fin cfg0.N) (j : S1x128x1026.Idx) : S2x1024x1026.Idx := (win0_6.blk t).view.emb j

theorem at6_0 (t : Fin cfg0.N) (j : S1x128x1026.Idx) : (at6 t j 0).val = (t.val / 8) * 1 + (j 0).val := by
  have h : (at6 t j 0).val = win0_6.index t 0 * 1 + 1 * (j 0).val := rfl
  rw [h, (idx_facts t).2.2.2.2.1, one_mul]; rfl
theorem at6_1 (t : Fin cfg0.N) (j : S1x128x1026.Idx) : (at6 t j 1).val = (t.val % 8) * 128 + (j 1).val := by
  have h : (at6 t j 1).val = win0_6.index t 1 * 128 + 1 * (j 1).val := rfl
  rw [h, (idx_facts t).2.2.2.2.1, one_mul]; rfl
theorem at6_2 (t : Fin cfg0.N) (j : S1x128x1026.Idx) : (at6 t j 2).val = (0) * 1026 + (j 2).val := by
  have h : (at6 t j 2).val = win0_6.index t 2 * 1026 + 1 * (j 2).val := rfl
  rw [h, (idx_facts t).2.2.2.2.1, one_mul]; rfl

/-- The index of result 7 that point `t` touches at index `j` of its block. -/
def at7 (t : Fin cfg0.N) (j : S1x128x1026.Idx) : S2x1024x1026.Idx := (win0_7.blk t).view.emb j

theorem at7_0 (t : Fin cfg0.N) (j : S1x128x1026.Idx) : (at7 t j 0).val = (t.val / 8) * 1 + (j 0).val := by
  have h : (at7 t j 0).val = win0_7.index t 0 * 1 + 1 * (j 0).val := rfl
  rw [h, (idx_facts t).2.2.2.2.2.1, one_mul]; rfl
theorem at7_1 (t : Fin cfg0.N) (j : S1x128x1026.Idx) : (at7 t j 1).val = (t.val % 8) * 128 + (j 1).val := by
  have h : (at7 t j 1).val = win0_7.index t 1 * 128 + 1 * (j 1).val := rfl
  rw [h, (idx_facts t).2.2.2.2.2.1, one_mul]; rfl
theorem at7_2 (t : Fin cfg0.N) (j : S1x128x1026.Idx) : (at7 t j 2).val = (0) * 1026 + (j 2).val := by
  have h : (at7 t j 2).val = win0_7.index t 2 * 1026 + 1 * (j 2).val := rfl
  rw [h, (idx_facts t).2.2.2.2.2.1, one_mul]; rfl

/-- The index of result 8 that point `t` touches at index `j` of its block. -/
def at8 (t : Fin cfg0.N) (j : S1x128x1026.Idx) : S2x1024x1026.Idx := (win0_8.blk t).view.emb j

theorem at8_0 (t : Fin cfg0.N) (j : S1x128x1026.Idx) : (at8 t j 0).val = (t.val / 8) * 1 + (j 0).val := by
  have h : (at8 t j 0).val = win0_8.index t 0 * 1 + 1 * (j 0).val := rfl
  rw [h, (idx_facts t).2.2.2.2.2.2, one_mul]; rfl
theorem at8_1 (t : Fin cfg0.N) (j : S1x128x1026.Idx) : (at8 t j 1).val = (t.val % 8) * 128 + (j 1).val := by
  have h : (at8 t j 1).val = win0_8.index t 1 * 128 + 1 * (j 1).val := rfl
  rw [h, (idx_facts t).2.2.2.2.2.2, one_mul]; rfl
theorem at8_2 (t : Fin cfg0.N) (j : S1x128x1026.Idx) : (at8 t j 2).val = (0) * 1026 + (j 2).val := by
  have h : (at8 t j 2).val = win0_8.index t 2 * 1026 + 1 * (j 2).val := rfl
  rw [h, (idx_facts t).2.2.2.2.2.2, one_mul]; rfl

theorem at6_eq (t : Fin cfg0.N) (j : S1x128x1026.Idx) : at6 t j = at5 t j :=
  funext fun a => Fin.ext (match a with
    | ⟨0, _⟩ => (at6_0 t j).trans (at5_0 t j).symm | ⟨1, _⟩ => (at6_1 t j).trans (at5_1 t j).symm
    | ⟨2, _⟩ => (at6_2 t j).trans (at5_2 t j).symm)
theorem at7_eq (t : Fin cfg0.N) (j : S1x128x1026.Idx) : at7 t j = at5 t j :=
  funext fun a => Fin.ext (match a with
    | ⟨0, _⟩ => (at7_0 t j).trans (at5_0 t j).symm | ⟨1, _⟩ => (at7_1 t j).trans (at5_1 t j).symm
    | ⟨2, _⟩ => (at7_2 t j).trans (at5_2 t j).symm)
theorem at8_eq (t : Fin cfg0.N) (j : S1x128x1026.Idx) : at8 t j = at5 t j :=
  funext fun a => Fin.ext (match a with
    | ⟨0, _⟩ => (at8_0 t j).trans (at5_0 t j).symm | ⟨1, _⟩ => (at8_1 t j).trans (at5_1 t j).symm
    | ⟨2, _⟩ => (at8_2 t j).trans (at5_2 t j).symm)

theorem blk2 (c : Dev nD) (t : Fin cfg0.N) (y : S1x128x1026.Idx) :
    (iblk m c 2 t : Vec Ideal S1x128x1026 .f32) y = W m c (at5 t y) := by
  have hz : (y 0).val = 0 := Nat.lt_one_iff.mp (y 0).isLt
  unfold iblk
  rw [View.read_apply]
  show V m c main_arg2 _ = _
  rw [V_main_arg2]
  refine congrArg (W m c) (funext fun d => Fin.ext ?_)
  match d with
  | ⟨0, _⟩ =>
    refine Eq.trans ?_ (at5_0 t y).symm
    show win0_2.index t 0 * 1 + 1 * (y 0).val = _
    rw [(idx_facts t).1, hz]; rfl
  | ⟨1, _⟩ =>
    refine Eq.trans ?_ (at5_1 t y).symm
    show win0_2.index t 1 * 128 + 1 * (y 1).val = _
    rw [(idx_facts t).1, one_mul]; rfl
  | ⟨2, _⟩ =>
    refine Eq.trans ?_ (at5_2 t y).symm
    show win0_2.index t 2 * 1026 + 1 * (y 2).val = _
    rw [(idx_facts t).1, one_mul]; rfl

theorem blk3 (c : Dev nD) (t : Fin cfg0.N) (y : S1x128x1026.Idx) :
    (iblk m c 3 t : Vec Ideal S1x128x1026 .f32) y = M₀ m c (at5 t y) := by
  have hz : (y 0).val = 0 := Nat.lt_one_iff.mp (y 0).isLt
  unfold iblk
  rw [View.read_apply]
  show V m c main_arg3 _ = _
  rw [V_main_arg3]
  refine congrArg (M₀ m c) (funext fun d => Fin.ext ?_)
  match d with
  | ⟨0, _⟩ =>
    refine Eq.trans ?_ (at5_0 t y).symm
    show win0_3.index t 0 * 1 + 1 * (y 0).val = _
    rw [(idx_facts t).2.1, hz]; rfl
  | ⟨1, _⟩ =>
    refine Eq.trans ?_ (at5_1 t y).symm
    show win0_3.index t 1 * 128 + 1 * (y 1).val = _
    rw [(idx_facts t).2.1, one_mul]; rfl
  | ⟨2, _⟩ =>
    refine Eq.trans ?_ (at5_2 t y).symm
    show win0_3.index t 2 * 1026 + 1 * (y 2).val = _
    rw [(idx_facts t).2.1, one_mul]; rfl

theorem blk4 (c : Dev nD) (t : Fin cfg0.N) (y : S1x128x1026.Idx) :
    (iblk m c 4 t : Vec Ideal S1x128x1026 .f32) y = V₀ m c (at5 t y) := by
  have hz : (y 0).val = 0 := Nat.lt_one_iff.mp (y 0).isLt
  unfold iblk
  rw [View.read_apply]
  show V m c main_arg4 _ = _
  rw [V_main_arg4]
  refine congrArg (V₀ m c) (funext fun d => Fin.ext ?_)
  match d with
  | ⟨0, _⟩ =>
    refine Eq.trans ?_ (at5_0 t y).symm
    show win0_4.index t 0 * 1 + 1 * (y 0).val = _
    rw [(idx_facts t).2.2.1, hz]; rfl
  | ⟨1, _⟩ =>
    refine Eq.trans ?_ (at5_1 t y).symm
    show win0_4.index t 1 * 128 + 1 * (y 1).val = _
    rw [(idx_facts t).2.2.1, one_mul]; rfl
  | ⟨2, _⟩ =>
    refine Eq.trans ?_ (at5_2 t y).symm
    show win0_4.index t 2 * 1026 + 1 * (y 2).val = _
    rw [(idx_facts t).2.2.1, one_mul]; rfl

/-- Part `k` of the eight, read off the block of a point of layer 0. -/
theorem loadA (c : Dev nD) (t : Fin cfg0.N) (h : t.val < 8) (y : S1x128x1026.Idx) (k : Fin 8)
    (inb : ∀ a, ![k.val, 0, 0] a + ![1, 128, 1026] a ≤ S8x128x1152.size a) :
    View.ld (iblk m c 0 t : Vec Ideal S8x128x1152 .bf16) (Rect.unit (s := S8x128x1152) ![k.val, 0, 0] ![1, 128, 1026] inb) (Idealize.ShloMosaic.ix3 0 (y 1) (y 2))
      = R₀ m c (ix3 k (row (at5 t y)) (col (at5 t y))) := by
  have ht : t.val < 16 := t.isLt
  show (iblk m c 0 t : Vec Ideal S8x128x1152 .bf16) _ = _
  unfold iblk
  rw [View.read_apply]
  show V m c main_arg0 _ = _
  rw [V_main_arg0]
  refine congrArg (R₀ m c) (funext fun d => Fin.ext ?_)
  match d with
  | ⟨0, _⟩ =>
    show win0_0.index t 0 * 8 + 1 * (k.val + 1 * 0) = k.val
    rw [idxA t h]; show 0 * 8 + _ = _; omega
  | ⟨1, _⟩ =>
    refine Eq.trans ?_ (at5_1 t y).symm
    show win0_0.index t 1 * 128 + 1 * (0 + 1 * (y 1).val) = _
    rw [idxA t h]; show (t.val) * 128 + _ = _; omega
  | ⟨2, _⟩ =>
    refine Eq.trans ?_ (at5_2 t y).symm
    show win0_0.index t 2 * 1152 + 1 * (0 + 1 * (y 2).val) = _
    rw [idxA t h]; show 0 * 1152 + _ = _; omega

theorem sumA (c : Dev nD) (t : Fin cfg0.N) (h : t.val < 8) (y : S1x128x1026.Idx) :
    k0_pay5
      (View.ld (iblk m c 0 t : Vec Ideal S8x128x1152 .bf16) (Rect.unit (s := S8x128x1152) ![0, 0, 0] ![1, 128, 1026] inb_S8x128x1152_S1x128x1026_0_0_0))
      (View.ld (iblk m c 0 t : Vec Ideal S8x128x1152 .bf16) (Rect.unit (s := S8x128x1152) ![1, 0, 0] ![1, 128, 1026] inb_S8x128x1152_S1x128x1026_1_0_0))
      (View.ld (iblk m c 0 t : Vec Ideal S8x128x1152 .bf16) (Rect.unit (s := S8x128x1152) ![2, 0, 0] ![1, 128, 1026] inb_S8x128x1152_S1x128x1026_2_0_0))
      (View.ld (iblk m c 0 t : Vec Ideal S8x128x1152 .bf16) (Rect.unit (s := S8x128x1152) ![3, 0, 0] ![1, 128, 1026] inb_S8x128x1152_S1x128x1026_3_0_0))
      (View.ld (iblk m c 0 t : Vec Ideal S8x128x1152 .bf16) (Rect.unit (s := S8x128x1152) ![4, 0, 0] ![1, 128, 1026] inb_S8x128x1152_S1x128x1026_4_0_0))
      (View.ld (iblk m c 0 t : Vec Ideal S8x128x1152 .bf16) (Rect.unit (s := S8x128x1152) ![5, 0, 0] ![1, 128, 1026] inb_S8x128x1152_S1x128x1026_5_0_0))
      (View.ld (iblk m c 0 t : Vec Ideal S8x128x1152 .bf16) (Rect.unit (s := S8x128x1152) ![6, 0, 0] ![1, 128, 1026] inb_S8x128x1152_S1x128x1026_6_0_0))
      (View.ld (iblk m c 0 t : Vec Ideal S8x128x1152 .bf16) (Rect.unit (s := S8x128x1152) ![7, 0, 0] ![1, 128, 1026] inb_S8x128x1152_S1x128x1026_7_0_0)) (Idealize.ShloMosaic.ix2 (y 1) (y 2))
      = G (R₀ m c) (R₁ m c) (at5 t y) := by
  have ht : t.val < 16 := t.isLt
  have hz : (y 0).val = 0 := Nat.lt_one_iff.mp (y 0).isLt
  refine (pay5_apply _ _ _ _ _ _ _ _ _).trans ?_
  unfold G
  rw [if_pos (show (at5 t y 0).val = 0 by rw [at5_0, hz]; omega)]
  unfold part
  rw [Fin.sum_univ_eight]
  exact congrArg₂ (· + ·) (congrArg₂ (· + ·) (congrArg₂ (· + ·) (congrArg₂ (· + ·) (congrArg₂ (· + ·) (congrArg₂ (· + ·) (congrArg₂ (· + ·) (loadA m c t h y 0 _) (loadA m c t h y 1 _)) (loadA m c t h y 2 _)) (loadA m c t h y 3 _)) (loadA m c t h y 4 _)) (loadA m c t h y 5 _)) (loadA m c t h y 6 _))
    (loadA m c t h y 7 _)

/-- Part `k` of the eight, read off the block of a point of layer 1. -/
theorem loadB (c : Dev nD) (t : Fin cfg0.N) (h : 8 ≤ t.val) (y : S1x128x1026.Idx) (k : Fin 8)
    (inb : ∀ a, ![k.val, 0, 0] a + ![1, 128, 1026] a ≤ S8x128x1152.size a) :
    View.ld (iblk m c 1 t : Vec Ideal S8x128x1152 .bf16) (Rect.unit (s := S8x128x1152) ![k.val, 0, 0] ![1, 128, 1026] inb) (Idealize.ShloMosaic.ix3 0 (y 1) (y 2))
      = R₁ m c (ix3 k (row (at5 t y)) (col (at5 t y))) := by
  have ht : t.val < 16 := t.isLt
  show (iblk m c 1 t : Vec Ideal S8x128x1152 .bf16) _ = _
  unfold iblk
  rw [View.read_apply]
  show V m c main_arg1 _ = _
  rw [V_main_arg1]
  refine congrArg (R₁ m c) (funext fun d => Fin.ext ?_)
  match d with
  | ⟨0, _⟩ =>
    show win0_1.index t 0 * 8 + 1 * (k.val + 1 * 0) = k.val
    rw [idxB t h]; show 0 * 8 + _ = _; omega
  | ⟨1, _⟩ =>
    refine Eq.trans ?_ (at5_1 t y).symm
    show win0_1.index t 1 * 128 + 1 * (0 + 1 * (y 1).val) = _
    rw [idxB t h]; show (t.val - 8) * 128 + _ = _; omega
  | ⟨2, _⟩ =>
    refine Eq.trans ?_ (at5_2 t y).symm
    show win0_1.index t 2 * 1152 + 1 * (0 + 1 * (y 2).val) = _
    rw [idxB t h]; show 0 * 1152 + _ = _; omega

theorem sumB (c : Dev nD) (t : Fin cfg0.N) (h : 8 ≤ t.val) (y : S1x128x1026.Idx) :
    k0_pay11
      (View.ld (iblk m c 1 t : Vec Ideal S8x128x1152 .bf16) (Rect.unit (s := S8x128x1152) ![0, 0, 0] ![1, 128, 1026] inb_S8x128x1152_S1x128x1026_0_0_0))
      (View.ld (iblk m c 1 t : Vec Ideal S8x128x1152 .bf16) (Rect.unit (s := S8x128x1152) ![1, 0, 0] ![1, 128, 1026] inb_S8x128x1152_S1x128x1026_1_0_0))
      (View.ld (iblk m c 1 t : Vec Ideal S8x128x1152 .bf16) (Rect.unit (s := S8x128x1152) ![2, 0, 0] ![1, 128, 1026] inb_S8x128x1152_S1x128x1026_2_0_0))
      (View.ld (iblk m c 1 t : Vec Ideal S8x128x1152 .bf16) (Rect.unit (s := S8x128x1152) ![3, 0, 0] ![1, 128, 1026] inb_S8x128x1152_S1x128x1026_3_0_0))
      (View.ld (iblk m c 1 t : Vec Ideal S8x128x1152 .bf16) (Rect.unit (s := S8x128x1152) ![4, 0, 0] ![1, 128, 1026] inb_S8x128x1152_S1x128x1026_4_0_0))
      (View.ld (iblk m c 1 t : Vec Ideal S8x128x1152 .bf16) (Rect.unit (s := S8x128x1152) ![5, 0, 0] ![1, 128, 1026] inb_S8x128x1152_S1x128x1026_5_0_0))
      (View.ld (iblk m c 1 t : Vec Ideal S8x128x1152 .bf16) (Rect.unit (s := S8x128x1152) ![6, 0, 0] ![1, 128, 1026] inb_S8x128x1152_S1x128x1026_6_0_0))
      (View.ld (iblk m c 1 t : Vec Ideal S8x128x1152 .bf16) (Rect.unit (s := S8x128x1152) ![7, 0, 0] ![1, 128, 1026] inb_S8x128x1152_S1x128x1026_7_0_0)) (Idealize.ShloMosaic.ix2 (y 1) (y 2))
      = G (R₀ m c) (R₁ m c) (at5 t y) := by
  have ht : t.val < 16 := t.isLt
  have hz : (y 0).val = 0 := Nat.lt_one_iff.mp (y 0).isLt
  refine (pay11_apply _ _ _ _ _ _ _ _ _).trans ?_
  unfold G
  rw [if_neg (show ¬(at5 t y 0).val = 0 by rw [at5_0, hz]; omega)]
  unfold part
  rw [Fin.sum_univ_eight]
  exact congrArg₂ (· + ·) (congrArg₂ (· + ·) (congrArg₂ (· + ·) (congrArg₂ (· + ·) (congrArg₂ (· + ·) (congrArg₂ (· + ·) (congrArg₂ (· + ·) (loadB m c t h y 0 _) (loadB m c t h y 1 _)) (loadB m c t h y 2 _)) (loadB m c t h y 3 _)) (loadB m c t h y 4 _)) (loadB m c t h y 5 _)) (loadB m c t h y 6 _))
    (loadB m c t h y 7 _)

/-! ## The arrays after the run -/

theorem out5_eq (c : Dev nD) (t : Fin cfg0.N) (y : S1x128x1026.Idx) : (outsAt0 m c t.val t.isLt).1 y = G (R₀ m c) (R₁ m c) (at5 t y) := by
  by_cases h : t.val < 8
  · rw [outsAt0_A m c t h (by omega)]
    frame_out
    exact (pay9_apply _ y).trans (sumA m c t h y)
  · have h' : 8 ≤ t.val := by omega
    rw [outsAt0_B m c t h h']
    frame_out
    exact (pay15_apply _ y).trans (sumB m c t h' y)

theorem final5 (c : Dev nD) : (dats m 0 c).arrAt 5 cfg0.N = G (R₀ m c) (R₁ m c) := by
  refine (dats m 0 c).arrAt_eq_of_covers 5 _ (by decide +kernel) fun t hf y => ?_
  blk_simp
  rw [after0_5]
  exact (out5_eq m c t y).trans (congrArg _ (rfl))

theorem out6_eq (c : Dev nD) (t : Fin cfg0.N) (y : S1x128x1026.Idx) : (outsAt0 m c t.val t.isLt).2.1 y = D (R₀ m c) (R₁ m c) (W m c) (M₀ m c) (V₀ m c) (at5 t y) := by
  by_cases h : t.val < 8
  · rw [outsAt0_A m c t h (by omega)]
    frame_out
    exact (deltaA_apply _ _ _ _ y).trans (delta_congr (sumA m c t h y) (blk2 m c t y) (blk3 m c t y) (blk4 m c t y))
  · have h' : 8 ≤ t.val := by omega
    rw [outsAt0_B m c t h h']
    frame_out
    exact (deltaB_apply _ _ _ _ y).trans (delta_congr (sumB m c t h' y) (blk2 m c t y) (blk3 m c t y) (blk4 m c t y))

theorem final6 (c : Dev nD) : (dats m 0 c).arrAt 6 cfg0.N = D (R₀ m c) (R₁ m c) (W m c) (M₀ m c) (V₀ m c) := by
  refine (dats m 0 c).arrAt_eq_of_covers 6 _ (by decide +kernel) fun t hf y => ?_
  blk_simp
  rw [after0_6]
  exact (out6_eq m c t y).trans (congrArg _ ((at6_eq t y).symm))

theorem out7_eq (c : Dev nD) (t : Fin cfg0.N) (y : S1x128x1026.Idx) : (outsAt0 m c t.val t.isLt).2.2.1 y = M (R₀ m c) (R₁ m c) (M₀ m c) (at5 t y) := by
  by_cases h : t.val < 8
  · rw [outsAt0_A m c t h (by omega)]
    frame_out
    exact (mom1A_apply _ _ y).trans (mom1_congr (sumA m c t h y) (blk3 m c t y))
  · have h' : 8 ≤ t.val := by omega
    rw [outsAt0_B m c t h h']
    frame_out
    exact (mom1B_apply _ _ y).trans (mom1_congr (sumB m c t h' y) (blk3 m c t y))

theorem final7 (c : Dev nD) : (dats m 0 c).arrAt 7 cfg0.N = M (R₀ m c) (R₁ m c) (M₀ m c) := by
  refine (dats m 0 c).arrAt_eq_of_covers 7 _ (by decide +kernel) fun t hf y => ?_
  blk_simp
  rw [after0_7]
  exact (out7_eq m c t y).trans (congrArg _ ((at7_eq t y).symm))

theorem out8_eq (c : Dev nD) (t : Fin cfg0.N) (y : S1x128x1026.Idx) : (outsAt0 m c t.val t.isLt).2.2.2 y = Q (R₀ m c) (R₁ m c) (V₀ m c) (at5 t y) := by
  by_cases h : t.val < 8
  · rw [outsAt0_A m c t h (by omega)]
    frame_out
    exact (mom2A_apply _ _ y).trans (mom2_congr (sumA m c t h y) (blk4 m c t y))
  · have h' : 8 ≤ t.val := by omega
    rw [outsAt0_B m c t h h']
    frame_out
    exact (mom2B_apply _ _ y).trans (mom2_congr (sumB m c t h' y) (blk4 m c t y))

theorem final8 (c : Dev nD) : (dats m 0 c).arrAt 8 cfg0.N = Q (R₀ m c) (R₁ m c) (V₀ m c) := by
  refine (dats m 0 c).arrAt_eq_of_covers 8 _ (by decide +kernel) fun t hf y => ?_
  blk_simp
  rw [after0_8]
  exact (out8_eq m c t y).trans (congrArg _ ((at8_eq t y).symm))

/-! ## The reference -/

open Cert.AdamInRefIdeal.Read

section Ref

variable (R₀ R₁ : S8x1024x1152.Idx → EReal) (W M₀ V₀ : S2x1024x1026.Idx → EReal)

theorem first_eq (i : S2x1024x1026.Idx) : val_main_v6 (F := Ideal) R₀ (ix3 (n0 := 1) (n1 := 1024) (n2 := 1026) 0 (i 1) (i 2)) = part R₀ i := by
  rw [val_main_v6_apply, val_main_v2_apply, val_main_v1_apply]
  show Ideal.ofBits .f32 0x00000000#32 + ∑ k : Fin 8, R₀ _ = _
  rw [Ideal.ofBits_zero_f32, zero_add]
  exact Finset.sum_congr rfl fun k _ => congrArg R₀ (funext fun d => match d with | ⟨0, _⟩ => rfl | ⟨1, _⟩ => rfl | ⟨2, _⟩ => rfl)

theorem second_eq (i : S2x1024x1026.Idx) : val_main_v7 (F := Ideal) R₁ (ix3 (n0 := 1) (n1 := 1024) (n2 := 1026) 0 (i 1) (i 2)) = part R₁ i := by
  rw [val_main_v7_apply, val_main_v5_apply, val_main_v4_apply]
  show Ideal.ofBits .f32 0x00000000#32 + ∑ k : Fin 8, R₁ _ = _
  rw [Ideal.ofBits_zero_f32, zero_add]
  exact Finset.sum_congr rfl fun k _ => congrArg R₁ (funext fun d => match d with | ⟨0, _⟩ => rfl | ⟨1, _⟩ => rfl | ⟨2, _⟩ => rfl)

theorem refG : val_main_v8 (F := Ideal) R₀ R₁ = G R₀ R₁ := by
  funext i
  have hi : (i 0).val < 2 := (i 0).isLt
  unfold val_main_v8 G
  by_cases h : (i 0).val = 0
  · rw [if_pos h]
    exact (stack_first _ _ _ i h).trans (first_eq R₀ i)
  · rw [if_neg h]
    exact (stack_second _ _ _ i (by omega)).trans (second_eq R₁ i)

theorem refM : val_main_v13 (F := Ideal) R₀ R₁ M₀ = M R₀ R₁ M₀ := by
  funext i
  show val_main_v9 (F := Ideal) i * M₀ i + val_main_v11 (F := Ideal) i * val_main_v8 (F := Ideal) R₀ R₁ i = _
  rw [val_main_v9_apply, val_main_v11_apply, refG]
  rfl

theorem refQ : val_main_v19 (F := Ideal) R₀ R₁ V₀ = Q R₀ R₁ V₀ := by
  funext i
  show val_main_v14 (F := Ideal) i * V₀ i
    + val_main_v17 (F := Ideal) i * (val_main_v8 (F := Ideal) R₀ R₁ i * val_main_v8 (F := Ideal) R₀ R₁ i) = _
  rw [val_main_v14_apply, val_main_v17_apply, refG]
  rfl

theorem refD : val_main_v32 (F := Ideal) R₀ R₁ W M₀ V₀ = D R₀ R₁ W M₀ V₀ := by
  funext i
  show val_main_v31 (F := Ideal) i * (Ideal.div
    (Ideal.div (val_main_v13 (F := Ideal) R₀ R₁ M₀ i) (val_main_v20 (F := Ideal) i))
    (Ideal.sqrt (Ideal.div (val_main_v19 (F := Ideal) R₀ R₁ V₀ i) (val_main_v22 (F := Ideal) i)) + val_main_v25 (F := Ideal) i)
    + val_main_v28 (F := Ideal) i * W i) = _
  rw [val_main_v31_apply, val_main_v20_apply, val_main_v22_apply, val_main_v25_apply, val_main_v28_apply, refM, refQ]
  rfl

end Ref

/-! ## The claims -/

theorem frame : Cert.quiescent_AdamIn := fun m ρ _ => Cert.AdamIn.Gen.frame m ρ
theorem frame_ideal : Cert.quiescent_AdamInIdeal := fun m ρ _ => Cert.AdamInIdeal.Gen.frame m ρ
theorem frame_ref : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

theorem preserves : Cert.preserves_AdamIn_AdamInIdeal := trivial

theorem algebraic : Cert.algebraic_AdamInIdeal_AdamInRefIdeal := by
  intro m ρ m' ρ' _ hagree
  refine ⟨fun c => G (R₀ m c) (R₁ m c), fun c => D (R₀ m c) (R₁ m c) (W m c) (M₀ m c) (V₀ m c), fun c => M (R₀ m c) (R₁ m c) (M₀ m c), fun c => Q (R₀ m c) (R₁ m c) (V₀ m c), ?_, ?_⟩
  · exact (θ_run Cert.AdamInIdeal.defs _ _).mono (fun _ h c => ⟨(h c).1.trans (final5 m c), (h c).2.1.trans (final6 m c), (h c).2.2.1.trans (final7 m c), (h c).2.2.2.1.trans (final8 m c), (h c).2.2.2.2⟩)
      (Cert.AdamInIdeal.Value.run_blocks (F := Ideal) m ρ)
  refine (θ_run Cert.AdamInRefIdeal.defs _ _).mono (fun r h c => ?_) (Cert.AdamInRefIdeal.Value.run (F := Ideal) m' ρ')
  have hc := h c
  rw [(hagree c).1, (hagree c).2.1, (hagree c).2.2.1, (hagree c).2.2.2.1, (hagree c).2.2.2.2] at hc
  exact ⟨hc.1.trans (refG (R₀ m c) (R₁ m c)), hc.2.1.trans (refD (R₀ m c) (R₁ m c) (W m c) (M₀ m c) (V₀ m c)), hc.2.2.1.trans (refM (R₀ m c) (R₁ m c) (M₀ m c)), hc.2.2.2.1.trans (refQ (R₀ m c) (R₁ m c) (V₀ m c)), (h c).2.2.2.2⟩

end Cert.Proof.AdamInVal

end
-- ==== Proof.AdamFfnVal.lean ====
/-
  The AdamW step of the weights of the gated layers of both layers: the gradient summed over the eight devices' parts, the two
  moments and the change of the weight, tile by tile; and that they are the same lines over the whole arrays.
-/
module

public import proofs.«01_k».proof.Defs
public import proofs.«01_k».proof.Proof.Common
public import proofs.«01_k».proof.Proof.Gen.AdamFfn.Frame
public import proofs.«01_k».proof.Proof.Gen.AdamFfnIdeal.Value
public import proofs.«01_k».proof.Proof.Gen.AdamFfnRefIdeal.Read
public import proofs.«01_k».proof.Proof.AdamForm
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic hiding ix1 ix2 ix3 ix4 ix5
open Idealize.ShloMosaic.TcCoe Idealize.ShloMosaic.ValueIdx Idealize.SL.Sem
open Idealize.ShloMosaic.Pipeline (Dat)
open scoped BigOperators

namespace Cert.Proof.AdamFfnVal

open Cert.AdamFfnIdeal Cert.AdamFfnIdeal.Gen Cert.Common Cert.AdamForm

/-- Result row and column as a row and a column of a received part. -/
abbrev row (i : S2x352x1024.Idx) : Fin 384 := ⟨(i 1).val, lt_of_lt_of_le (i 1).isLt (by decide : 352 ≤ 384)⟩
abbrev col (i : S2x352x1024.Idx) : Fin 1024 := ⟨(i 2).val, lt_of_lt_of_le (i 2).isLt (by decide : 1024 ≤ 1024)⟩

/-- The sum of the eight parts at an index. -/
def part (R : S8x384x1024.Idx → EReal) (i : S2x352x1024.Idx) : EReal := ∑ k : Fin 8, R (ix3 k (row i) (col i))

/-- The gradient: the first layer's parts summed, and the second layer's. -/
def G (R₀ R₁ : S8x384x1024.Idx → EReal) (i : S2x352x1024.Idx) : EReal := if (i 0).val = 0 then part R₀ i else part R₁ i

/-- The change of the weights and the two moments at an index. -/
def D (R₀ R₁ : S8x384x1024.Idx → EReal) (W M₀ V₀ : S2x352x1024.Idx → EReal) (i : S2x352x1024.Idx) : EReal := delta (G R₀ R₁ i) (W i) (M₀ i) (V₀ i)
def M (R₀ R₁ : S8x384x1024.Idx → EReal) (M₀ : S2x352x1024.Idx → EReal) (i : S2x352x1024.Idx) : EReal := mom1 (G R₀ R₁ i) (M₀ i)
def Q (R₀ R₁ : S8x384x1024.Idx → EReal) (V₀ : S2x352x1024.Idx → EReal) (i : S2x352x1024.Idx) : EReal := mom2 (G R₀ R₁ i) (V₀ i)

/-! ## The stored values at an index of a block -/

theorem pay5_apply (v0 v1 v2 v3 v4 v5 v6 v7 : Vec Ideal S1x32x1024 .bf16) (j : S32x1024.Idx) :
    k0_pay5 v0 v1 v2 v3 v4 v5 v6 v7 j
      = v0 (Idealize.ShloMosaic.ix3 0 (j 0) (j 1)) + v1 (Idealize.ShloMosaic.ix3 0 (j 0) (j 1)) + v2 (Idealize.ShloMosaic.ix3 0 (j 0) (j 1)) + v3 (Idealize.ShloMosaic.ix3 0 (j 0) (j 1))
        + v4 (Idealize.ShloMosaic.ix3 0 (j 0) (j 1)) + v5 (Idealize.ShloMosaic.ix3 0 (j 0) (j 1)) + v6 (Idealize.ShloMosaic.ix3 0 (j 0) (j 1)) + v7 (Idealize.ShloMosaic.ix3 0 (j 0) (j 1)) := by
  unfold k0_pay5
  pointwise
  done

theorem pay11_apply (v0 v1 v2 v3 v4 v5 v6 v7 : Vec Ideal S1x32x1024 .bf16) (j : S32x1024.Idx) :
    k0_pay11 v0 v1 v2 v3 v4 v5 v6 v7 j
      = v0 (Idealize.ShloMosaic.ix3 0 (j 0) (j 1)) + v1 (Idealize.ShloMosaic.ix3 0 (j 0) (j 1)) + v2 (Idealize.ShloMosaic.ix3 0 (j 0) (j 1)) + v3 (Idealize.ShloMosaic.ix3 0 (j 0) (j 1))
        + v4 (Idealize.ShloMosaic.ix3 0 (j 0) (j 1)) + v5 (Idealize.ShloMosaic.ix3 0 (j 0) (j 1)) + v6 (Idealize.ShloMosaic.ix3 0 (j 0) (j 1)) + v7 (Idealize.ShloMosaic.ix3 0 (j 0) (j 1)) := by
  unfold k0_pay11
  pointwise
  done

theorem pay9_apply (g : Vec Ideal S32x1024 .f32) (y : S1x32x1024.Idx) :
    (show EReal from k0_pay9 (F := Ideal) g y) = g (Idealize.ShloMosaic.ix2 (y 1) (y 2)) := by
  unfold k0_pay9
  pointwise

theorem pay15_apply (g : Vec Ideal S32x1024 .f32) (y : S1x32x1024.Idx) :
    (show EReal from k0_pay15 (F := Ideal) g y) = g (Idealize.ShloMosaic.ix2 (y 1) (y 2)) := by
  unfold k0_pay15
  pointwise

theorem deltaA_apply (g : Vec Ideal S32x1024 .f32) (w m v : Vec Ideal S1x32x1024 .f32) (y : S1x32x1024.Idx) :
    k0_pay10 g (k0_pay6 w) m v y = delta (g (Idealize.ShloMosaic.ix2 (y 1) (y 2))) (w y) (m y) (v y) := by
  unfold k0_pay10 k0_pay6 k0_pay7 k0_pay8
  pointwise
  rfl

theorem mom1A_apply (g : Vec Ideal S32x1024 .f32) (m : Vec Ideal S1x32x1024 .f32) (y : S1x32x1024.Idx) :
    k0_pay3 (k0_pay7 g m) y = mom1 (g (Idealize.ShloMosaic.ix2 (y 1) (y 2))) (m y) := by
  unfold k0_pay3 k0_pay7
  pointwise
  rfl

theorem mom2A_apply (g : Vec Ideal S32x1024 .f32) (v : Vec Ideal S1x32x1024 .f32) (y : S1x32x1024.Idx) :
    k0_pay4 (k0_pay8 g v) y = mom2 (g (Idealize.ShloMosaic.ix2 (y 1) (y 2))) (v y) := by
  unfold k0_pay4 k0_pay8
  pointwise
  rfl

theorem deltaB_apply (g : Vec Ideal S32x1024 .f32) (w m v : Vec Ideal S1x32x1024 .f32) (y : S1x32x1024.Idx) :
    k0_pay16 g (k0_pay12 w) m v y = delta (g (Idealize.ShloMosaic.ix2 (y 1) (y 2))) (w y) (m y) (v y) := by
  unfold k0_pay16 k0_pay12 k0_pay13 k0_pay14
  pointwise
  rfl

theorem mom1B_apply (g : Vec Ideal S32x1024 .f32) (m : Vec Ideal S1x32x1024 .f32) (y : S1x32x1024.Idx) :
    k0_pay1 (k0_pay13 g m) y = mom1 (g (Idealize.ShloMosaic.ix2 (y 1) (y 2))) (m y) := by
  unfold k0_pay1 k0_pay13
  pointwise
  rfl

theorem mom2B_apply (g : Vec Ideal S32x1024 .f32) (v : Vec Ideal S1x32x1024 .f32) (y : S1x32x1024.Idx) :
    k0_pay2 (k0_pay14 g v) y = mom2 (g (Idealize.ShloMosaic.ix2 (y 1) (y 2))) (v y) := by
  unfold k0_pay2 k0_pay14
  pointwise
  rfl

/-- Which block each window shows at a grid point. -/
theorem idx_facts : ∀ t : Fin grid0.N,
    win0_2.index t = ![t.val / 11, t.val % 11, 0] ∧ win0_3.index t = ![t.val / 11, t.val % 11, 0] ∧ win0_4.index t = ![t.val / 11, t.val % 11, 0] ∧ win0_5.index t = ![t.val / 11, t.val % 11, 0] ∧ win0_6.index t = ![t.val / 11, t.val % 11, 0] ∧ win0_7.index t = ![t.val / 11, t.val % 11, 0] ∧ win0_8.index t = ![t.val / 11, t.val % 11, 0] := by
  decide +kernel

theorem idxA : ∀ t : Fin grid0.N, t.val < 11 → win0_0.index t = ![0, t.val, 0] := by
  decide +kernel
theorem idxB : ∀ t : Fin grid0.N, 11 ≤ t.val → win0_1.index t = ![0, t.val - 11, 0] := by
  decide +kernel

variable (m : (ℓ : Loc nD τ sig) → Buf (Elt Ideal) ℓ) (ρ : Dev nD → PrngReg)

/-- The argument arrays of device `c`. -/
abbrev R₀ (c : Dev nD) : S8x384x1024.Idx → EReal := m ((c : Thread nD τ).loc main_arg0)
abbrev R₁ (c : Dev nD) : S8x384x1024.Idx → EReal := m ((c : Thread nD τ).loc main_arg1)
abbrev W (c : Dev nD) : S2x352x1024.Idx → EReal := m ((c : Thread nD τ).loc main_arg2)
abbrev M₀ (c : Dev nD) : S2x352x1024.Idx → EReal := m ((c : Thread nD τ).loc main_arg3)
abbrev V₀ (c : Dev nD) : S2x352x1024.Idx → EReal := m ((c : Thread nD τ).loc main_arg4)

/-- The index of result 5 that point `t` touches at index `j` of its block. -/
def at5 (t : Fin cfg0.N) (j : S1x32x1024.Idx) : S2x352x1024.Idx := (win0_5.blk t).view.emb j

theorem at5_0 (t : Fin cfg0.N) (j : S1x32x1024.Idx) : (at5 t j 0).val = (t.val / 11) * 1 + (j 0).val := by
  have h : (at5 t j 0).val = win0_5.index t 0 * 1 + 1 * (j 0).val := rfl
  rw [h, (idx_facts t).2.2.2.1, one_mul]; rfl
theorem at5_1 (t : Fin cfg0.N) (j : S1x32x1024.Idx) : (at5 t j 1).val = (t.val % 11) * 32 + (j 1).val := by
  have h : (at5 t j 1).val = win0_5.index t 1 * 32 + 1 * (j 1).val := rfl
  rw [h, (idx_facts t).2.2.2.1, one_mul]; rfl
theorem at5_2 (t : Fin cfg0.N) (j : S1x32x1024.Idx) : (at5 t j 2).val = (0) * 1024 + (j 2).val := by
  have h : (at5 t j 2).val = win0_5.index t 2 * 1024 + 1 * (j 2).val := rfl
  rw [h, (idx_facts t).2.2.2.1, one_mul]; rfl

/-- The index of result 6 that point `t` touches at index `j` of its block. -/
def at6 (t : Fin cfg0.N) (j : S1x32x1024.Idx) : S2x352x1024.Idx := (win0_6.blk t).view.emb j

theorem at6_0 (t : Fin cfg0.N) (j : S1x32x1024.Idx) : (at6 t j 0).val = (t.val / 11) * 1 + (j 0).val := by
  have h : (at6 t j 0).val = win0_6.index t 0 * 1 + 1 * (j 0).val := rfl
  rw [h, (idx_facts t).2.2.2.2.1, one_mul]; rfl
theorem at6_1 (t : Fin cfg0.N) (j : S1x32x1024.Idx) : (at6 t j 1).val = (t.val % 11) * 32 + (j 1).val := by
  have h : (at6 t j 1).val = win0_6.index t 1 * 32 + 1 * (j 1).val := rfl
  rw [h, (idx_facts t).2.2.2.2.1, one_mul]; rfl
theorem at6_2 (t : Fin cfg0.N) (j : S1x32x1024.Idx) : (at6 t j 2).val = (0) * 1024 + (j 2).val := by
  have h : (at6 t j 2).val = win0_6.index t 2 * 1024 + 1 * (j 2).val := rfl
  rw [h, (idx_facts t).2.2.2.2.1, one_mul]; rfl

/-- The index of result 7 that point `t` touches at index `j` of its block. -/
def at7 (t : Fin cfg0.N) (j : S1x32x1024.Idx) : S2x352x1024.Idx := (win0_7.blk t).view.emb j

theorem at7_0 (t : Fin cfg0.N) (j : S1x32x1024.Idx) : (at7 t j 0).val = (t.val / 11) * 1 + (j 0).val := by
  have h : (at7 t j 0).val = win0_7.index t 0 * 1 + 1 * (j 0).val := rfl
  rw [h, (idx_facts t).2.2.2.2.2.1, one_mul]; rfl
theorem at7_1 (t : Fin cfg0.N) (j : S1x32x1024.Idx) : (at7 t j 1).val = (t.val % 11) * 32 + (j 1).val := by
  have h : (at7 t j 1).val = win0_7.index t 1 * 32 + 1 * (j 1).val := rfl
  rw [h, (idx_facts t).2.2.2.2.2.1, one_mul]; rfl
theorem at7_2 (t : Fin cfg0.N) (j : S1x32x1024.Idx) : (at7 t j 2).val = (0) * 1024 + (j 2).val := by
  have h : (at7 t j 2).val = win0_7.index t 2 * 1024 + 1 * (j 2).val := rfl
  rw [h, (idx_facts t).2.2.2.2.2.1, one_mul]; rfl

/-- The index of result 8 that point `t` touches at index `j` of its block. -/
def at8 (t : Fin cfg0.N) (j : S1x32x1024.Idx) : S2x352x1024.Idx := (win0_8.blk t).view.emb j

theorem at8_0 (t : Fin cfg0.N) (j : S1x32x1024.Idx) : (at8 t j 0).val = (t.val / 11) * 1 + (j 0).val := by
  have h : (at8 t j 0).val = win0_8.index t 0 * 1 + 1 * (j 0).val := rfl
  rw [h, (idx_facts t).2.2.2.2.2.2, one_mul]; rfl
theorem at8_1 (t : Fin cfg0.N) (j : S1x32x1024.Idx) : (at8 t j 1).val = (t.val % 11) * 32 + (j 1).val := by
  have h : (at8 t j 1).val = win0_8.index t 1 * 32 + 1 * (j 1).val := rfl
  rw [h, (idx_facts t).2.2.2.2.2.2, one_mul]; rfl
theorem at8_2 (t : Fin cfg0.N) (j : S1x32x1024.Idx) : (at8 t j 2).val = (0) * 1024 + (j 2).val := by
  have h : (at8 t j 2).val = win0_8.index t 2 * 1024 + 1 * (j 2).val := rfl
  rw [h, (idx_facts t).2.2.2.2.2.2, one_mul]; rfl

theorem at6_eq (t : Fin cfg0.N) (j : S1x32x1024.Idx) : at6 t j = at5 t j :=
  funext fun a => Fin.ext (match a with
    | ⟨0, _⟩ => (at6_0 t j).trans (at5_0 t j).symm | ⟨1, _⟩ => (at6_1 t j).trans (at5_1 t j).symm
    | ⟨2, _⟩ => (at6_2 t j).trans (at5_2 t j).symm)
theorem at7_eq (t : Fin cfg0.N) (j : S1x32x1024.Idx) : at7 t j = at5 t j :=
  funext fun a => Fin.ext (match a with
    | ⟨0, _⟩ => (at7_0 t j).trans (at5_0 t j).symm | ⟨1, _⟩ => (at7_1 t j).trans (at5_1 t j).symm
    | ⟨2, _⟩ => (at7_2 t j).trans (at5_2 t j).symm)
theorem at8_eq (t : Fin cfg0.N) (j : S1x32x1024.Idx) : at8 t j = at5 t j :=
  funext fun a => Fin.ext (match a with
    | ⟨0, _⟩ => (at8_0 t j).trans (at5_0 t j).symm | ⟨1, _⟩ => (at8_1 t j).trans (at5_1 t j).symm
    | ⟨2, _⟩ => (at8_2 t j).trans (at5_2 t j).symm)

theorem blk2 (c : Dev nD) (t : Fin cfg0.N) (y : S1x32x1024.Idx) :
    (iblk m c 2 t : Vec Ideal S1x32x1024 .f32) y = W m c (at5 t y) := by
  have hz : (y 0).val = 0 := Nat.lt_one_iff.mp (y 0).isLt
  unfold iblk
  rw [View.read_apply]
  show V m c main_arg2 _ = _
  rw [V_main_arg2]
  refine congrArg (W m c) (funext fun d => Fin.ext ?_)
  match d with
  | ⟨0, _⟩ =>
    refine Eq.trans ?_ (at5_0 t y).symm
    show win0_2.index t 0 * 1 + 1 * (y 0).val = _
    rw [(idx_facts t).1, hz]; rfl
  | ⟨1, _⟩ =>
    refine Eq.trans ?_ (at5_1 t y).symm
    show win0_2.index t 1 * 32 + 1 * (y 1).val = _
    rw [(idx_facts t).1, one_mul]; rfl
  | ⟨2, _⟩ =>
    refine Eq.trans ?_ (at5_2 t y).symm
    show win0_2.index t 2 * 1024 + 1 * (y 2).val = _
    rw [(idx_facts t).1, one_mul]; rfl

theorem blk3 (c : Dev nD) (t : Fin cfg0.N) (y : S1x32x1024.Idx) :
    (iblk m c 3 t : Vec Ideal S1x32x1024 .f32) y = M₀ m c (at5 t y) := by
  have hz : (y 0).val = 0 := Nat.lt_one_iff.mp (y 0).isLt
  unfold iblk
  rw [View.read_apply]
  show V m c main_arg3 _ = _
  rw [V_main_arg3]
  refine congrArg (M₀ m c) (funext fun d => Fin.ext ?_)
  match d with
  | ⟨0, _⟩ =>
    refine Eq.trans ?_ (at5_0 t y).symm
    show win0_3.index t 0 * 1 + 1 * (y 0).val = _
    rw [(idx_facts t).2.1, hz]; rfl
  | ⟨1, _⟩ =>
    refine Eq.trans ?_ (at5_1 t y).symm
    show win0_3.index t 1 * 32 + 1 * (y 1).val = _
    rw [(idx_facts t).2.1, one_mul]; rfl
  | ⟨2, _⟩ =>
    refine Eq.trans ?_ (at5_2 t y).symm
    show win0_3.index t 2 * 1024 + 1 * (y 2).val = _
    rw [(idx_facts t).2.1, one_mul]; rfl

theorem blk4 (c : Dev nD) (t : Fin cfg0.N) (y : S1x32x1024.Idx) :
    (iblk m c 4 t : Vec Ideal S1x32x1024 .f32) y = V₀ m c (at5 t y) := by
  have hz : (y 0).val = 0 := Nat.lt_one_iff.mp (y 0).isLt
  unfold iblk
  rw [View.read_apply]
  show V m c main_arg4 _ = _
  rw [V_main_arg4]
  refine congrArg (V₀ m c) (funext fun d => Fin.ext ?_)
  match d with
  | ⟨0, _⟩ =>
    refine Eq.trans ?_ (at5_0 t y).symm
    show win0_4.index t 0 * 1 + 1 * (y 0).val = _
    rw [(idx_facts t).2.2.1, hz]; rfl
  | ⟨1, _⟩ =>
    refine Eq.trans ?_ (at5_1 t y).symm
    show win0_4.index t 1 * 32 + 1 * (y 1).val = _
    rw [(idx_facts t).2.2.1, one_mul]; rfl
  | ⟨2, _⟩ =>
    refine Eq.trans ?_ (at5_2 t y).symm
    show win0_4.index t 2 * 1024 + 1 * (y 2).val = _
    rw [(idx_facts t).2.2.1, one_mul]; rfl

/-- Part `k` of the eight, read off the block of a point of layer 0. -/
theorem loadA (c : Dev nD) (t : Fin cfg0.N) (h : t.val < 11) (y : S1x32x1024.Idx) (k : Fin 8)
    (inb : ∀ a, ![k.val, 0, 0] a + ![1, 32, 1024] a ≤ S8x32x1024.size a) :
    View.ld (iblk m c 0 t : Vec Ideal S8x32x1024 .bf16) (Rect.unit (s := S8x32x1024) ![k.val, 0, 0] ![1, 32, 1024] inb) (Idealize.ShloMosaic.ix3 0 (y 1) (y 2))
      = R₀ m c (ix3 k (row (at5 t y)) (col (at5 t y))) := by
  have ht : t.val < 22 := t.isLt
  show (iblk m c 0 t : Vec Ideal S8x32x1024 .bf16) _ = _
  unfold iblk
  rw [View.read_apply]
  show V m c main_arg0 _ = _
  rw [V_main_arg0]
  refine congrArg (R₀ m c) (funext fun d => Fin.ext ?_)
  match d with
  | ⟨0, _⟩ =>
    show win0_0.index t 0 * 8 + 1 * (k.val + 1 * 0) = k.val
    rw [idxA t h]; show 0 * 8 + _ = _; omega
  | ⟨1, _⟩ =>
    refine Eq.trans ?_ (at5_1 t y).symm
    show win0_0.index t 1 * 32 + 1 * (0 + 1 * (y 1).val) = _
    rw [idxA t h]; show (t.val) * 32 + _ = _; omega
  | ⟨2, _⟩ =>
    refine Eq.trans ?_ (at5_2 t y).symm
    show win0_0.index t 2 * 1024 + 1 * (0 + 1 * (y 2).val) = _
    rw [idxA t h]; show 0 * 1024 + _ = _; omega

theorem sumA (c : Dev nD) (t : Fin cfg0.N) (h : t.val < 11) (y : S1x32x1024.Idx) :
    k0_pay5
      (View.ld (iblk m c 0 t : Vec Ideal S8x32x1024 .bf16) (Rect.unit (s := S8x32x1024) ![0, 0, 0] ![1, 32, 1024] inb_S8x32x1024_S1x32x1024_0_0_0))
      (View.ld (iblk m c 0 t : Vec Ideal S8x32x1024 .bf16) (Rect.unit (s := S8x32x1024) ![1, 0, 0] ![1, 32, 1024] inb_S8x32x1024_S1x32x1024_1_0_0))
      (View.ld (iblk m c 0 t : Vec Ideal S8x32x1024 .bf16) (Rect.unit (s := S8x32x1024) ![2, 0, 0] ![1, 32, 1024] inb_S8x32x1024_S1x32x1024_2_0_0))
      (View.ld (iblk m c 0 t : Vec Ideal S8x32x1024 .bf16) (Rect.unit (s := S8x32x1024) ![3, 0, 0] ![1, 32, 1024] inb_S8x32x1024_S1x32x1024_3_0_0))
      (View.ld (iblk m c 0 t : Vec Ideal S8x32x1024 .bf16) (Rect.unit (s := S8x32x1024) ![4, 0, 0] ![1, 32, 1024] inb_S8x32x1024_S1x32x1024_4_0_0))
      (View.ld (iblk m c 0 t : Vec Ideal S8x32x1024 .bf16) (Rect.unit (s := S8x32x1024) ![5, 0, 0] ![1, 32, 1024] inb_S8x32x1024_S1x32x1024_5_0_0))
      (View.ld (iblk m c 0 t : Vec Ideal S8x32x1024 .bf16) (Rect.unit (s := S8x32x1024) ![6, 0, 0] ![1, 32, 1024] inb_S8x32x1024_S1x32x1024_6_0_0))
      (View.ld (iblk m c 0 t : Vec Ideal S8x32x1024 .bf16) (Rect.unit (s := S8x32x1024) ![7, 0, 0] ![1, 32, 1024] inb_S8x32x1024_S1x32x1024_7_0_0)) (Idealize.ShloMosaic.ix2 (y 1) (y 2))
      = G (R₀ m c) (R₁ m c) (at5 t y) := by
  have ht : t.val < 22 := t.isLt
  have hz : (y 0).val = 0 := Nat.lt_one_iff.mp (y 0).isLt
  refine (pay5_apply _ _ _ _ _ _ _ _ _).trans ?_
  unfold G
  rw [if_pos (show (at5 t y 0).val = 0 by rw [at5_0, hz]; omega)]
  unfold part
  rw [Fin.sum_univ_eight]
  exact congrArg₂ (· + ·) (congrArg₂ (· + ·) (congrArg₂ (· + ·) (congrArg₂ (· + ·) (congrArg₂ (· + ·) (congrArg₂ (· + ·) (congrArg₂ (· + ·) (loadA m c t h y 0 _) (loadA m c t h y 1 _)) (loadA m c t h y 2 _)) (loadA m c t h y 3 _)) (loadA m c t h y 4 _)) (loadA m c t h y 5 _)) (loadA m c t h y 6 _))
    (loadA m c t h y 7 _)

/-- Part `k` of the eight, read off the block of a point of layer 1. -/
theorem loadB (c : Dev nD) (t : Fin cfg0.N) (h : 11 ≤ t.val) (y : S1x32x1024.Idx) (k : Fin 8)
    (inb : ∀ a, ![k.val, 0, 0] a + ![1, 32, 1024] a ≤ S8x32x1024.size a) :
    View.ld (iblk m c 1 t : Vec Ideal S8x32x1024 .bf16) (Rect.unit (s := S8x32x1024) ![k.val, 0, 0] ![1, 32, 1024] inb) (Idealize.ShloMosaic.ix3 0 (y 1) (y 2))
      = R₁ m c (ix3 k (row (at5 t y)) (col (at5 t y))) := by
  have ht : t.val < 22 := t.isLt
  show (iblk m c 1 t : Vec Ideal S8x32x1024 .bf16) _ = _
  unfold iblk
  rw [View.read_apply]
  show V m c main_arg1 _ = _
  rw [V_main_arg1]
  refine congrArg (R₁ m c) (funext fun d => Fin.ext ?_)
  match d with
  | ⟨0, _⟩ =>
    show win0_1.index t 0 * 8 + 1 * (k.val + 1 * 0) = k.val
    rw [idxB t h]; show 0 * 8 + _ = _; omega
  | ⟨1, _⟩ =>
    refine Eq.trans ?_ (at5_1 t y).symm
    show win0_1.index t 1 * 32 + 1 * (0 + 1 * (y 1).val) = _
    rw [idxB t h]; show (t.val - 11) * 32 + _ = _; omega
  | ⟨2, _⟩ =>
    refine Eq.trans ?_ (at5_2 t y).symm
    show win0_1.index t 2 * 1024 + 1 * (0 + 1 * (y 2).val) = _
    rw [idxB t h]; show 0 * 1024 + _ = _; omega

theorem sumB (c : Dev nD) (t : Fin cfg0.N) (h : 11 ≤ t.val) (y : S1x32x1024.Idx) :
    k0_pay11
      (View.ld (iblk m c 1 t : Vec Ideal S8x32x1024 .bf16) (Rect.unit (s := S8x32x1024) ![0, 0, 0] ![1, 32, 1024] inb_S8x32x1024_S1x32x1024_0_0_0))
      (View.ld (iblk m c 1 t : Vec Ideal S8x32x1024 .bf16) (Rect.unit (s := S8x32x1024) ![1, 0, 0] ![1, 32, 1024] inb_S8x32x1024_S1x32x1024_1_0_0))
      (View.ld (iblk m c 1 t : Vec Ideal S8x32x1024 .bf16) (Rect.unit (s := S8x32x1024) ![2, 0, 0] ![1, 32, 1024] inb_S8x32x1024_S1x32x1024_2_0_0))
      (View.ld (iblk m c 1 t : Vec Ideal S8x32x1024 .bf16) (Rect.unit (s := S8x32x1024) ![3, 0, 0] ![1, 32, 1024] inb_S8x32x1024_S1x32x1024_3_0_0))
      (View.ld (iblk m c 1 t : Vec Ideal S8x32x1024 .bf16) (Rect.unit (s := S8x32x1024) ![4, 0, 0] ![1, 32, 1024] inb_S8x32x1024_S1x32x1024_4_0_0))
      (View.ld (iblk m c 1 t : Vec Ideal S8x32x1024 .bf16) (Rect.unit (s := S8x32x1024) ![5, 0, 0] ![1, 32, 1024] inb_S8x32x1024_S1x32x1024_5_0_0))
      (View.ld (iblk m c 1 t : Vec Ideal S8x32x1024 .bf16) (Rect.unit (s := S8x32x1024) ![6, 0, 0] ![1, 32, 1024] inb_S8x32x1024_S1x32x1024_6_0_0))
      (View.ld (iblk m c 1 t : Vec Ideal S8x32x1024 .bf16) (Rect.unit (s := S8x32x1024) ![7, 0, 0] ![1, 32, 1024] inb_S8x32x1024_S1x32x1024_7_0_0)) (Idealize.ShloMosaic.ix2 (y 1) (y 2))
      = G (R₀ m c) (R₁ m c) (at5 t y) := by
  have ht : t.val < 22 := t.isLt
  have hz : (y 0).val = 0 := Nat.lt_one_iff.mp (y 0).isLt
  refine (pay11_apply _ _ _ _ _ _ _ _ _).trans ?_
  unfold G
  rw [if_neg (show ¬(at5 t y 0).val = 0 by rw [at5_0, hz]; omega)]
  unfold part
  rw [Fin.sum_univ_eight]
  exact congrArg₂ (· + ·) (congrArg₂ (· + ·) (congrArg₂ (· + ·) (congrArg₂ (· + ·) (congrArg₂ (· + ·) (congrArg₂ (· + ·) (congrArg₂ (· + ·) (loadB m c t h y 0 _) (loadB m c t h y 1 _)) (loadB m c t h y 2 _)) (loadB m c t h y 3 _)) (loadB m c t h y 4 _)) (loadB m c t h y 5 _)) (loadB m c t h y 6 _))
    (loadB m c t h y 7 _)

/-! ## The arrays after the run -/

theorem out5_eq (c : Dev nD) (t : Fin cfg0.N) (y : S1x32x1024.Idx) : (outsAt0 m c t.val t.isLt).1 y = G (R₀ m c) (R₁ m c) (at5 t y) := by
  by_cases h : t.val < 11
  · rw [outsAt0_A m c t h (by omega)]
    frame_out
    exact (pay9_apply _ y).trans (sumA m c t h y)
  · have h' : 11 ≤ t.val := by omega
    rw [outsAt0_B m c t h h']
    frame_out
    exact (pay15_apply _ y).trans (sumB m c t h' y)

theorem final5 (c : Dev nD) : (dats m 0 c).arrAt 5 cfg0.N = G (R₀ m c) (R₁ m c) := by
  refine (dats m 0 c).arrAt_eq_of_covers 5 _ (by decide +kernel) fun t hf y => ?_
  blk_simp
  rw [after0_5]
  exact (out5_eq m c t y).trans (congrArg _ (rfl))

theorem out6_eq (c : Dev nD) (t : Fin cfg0.N) (y : S1x32x1024.Idx) : (outsAt0 m c t.val t.isLt).2.1 y = D (R₀ m c) (R₁ m c) (W m c) (M₀ m c) (V₀ m c) (at5 t y) := by
  by_cases h : t.val < 11
  · rw [outsAt0_A m c t h (by omega)]
    frame_out
    exact (deltaA_apply _ _ _ _ y).trans (delta_congr (sumA m c t h y) (blk2 m c t y) (blk3 m c t y) (blk4 m c t y))
  · have h' : 11 ≤ t.val := by omega
    rw [outsAt0_B m c t h h']
    frame_out
    exact (deltaB_apply _ _ _ _ y).trans (delta_congr (sumB m c t h' y) (blk2 m c t y) (blk3 m c t y) (blk4 m c t y))

theorem final6 (c : Dev nD) : (dats m 0 c).arrAt 6 cfg0.N = D (R₀ m c) (R₁ m c) (W m c) (M₀ m c) (V₀ m c) := by
  refine (dats m 0 c).arrAt_eq_of_covers 6 _ (by decide +kernel) fun t hf y => ?_
  blk_simp
  rw [after0_6]
  exact (out6_eq m c t y).trans (congrArg _ ((at6_eq t y).symm))

theorem out7_eq (c : Dev nD) (t : Fin cfg0.N) (y : S1x32x1024.Idx) : (outsAt0 m c t.val t.isLt).2.2.1 y = M (R₀ m c) (R₁ m c) (M₀ m c) (at5 t y) := by
  by_cases h : t.val < 11
  · rw [outsAt0_A m c t h (by omega)]
    frame_out
    exact (mom1A_apply _ _ y).trans (mom1_congr (sumA m c t h y) (blk3 m c t y))
  · have h' : 11 ≤ t.val := by omega
    rw [outsAt0_B m c t h h']
    frame_out
    exact (mom1B_apply _ _ y).trans (mom1_congr (sumB m c t h' y) (blk3 m c t y))

theorem final7 (c : Dev nD) : (dats m 0 c).arrAt 7 cfg0.N = M (R₀ m c) (R₁ m c) (M₀ m c) := by
  refine (dats m 0 c).arrAt_eq_of_covers 7 _ (by decide +kernel) fun t hf y => ?_
  blk_simp
  rw [after0_7]
  exact (out7_eq m c t y).trans (congrArg _ ((at7_eq t y).symm))

theorem out8_eq (c : Dev nD) (t : Fin cfg0.N) (y : S1x32x1024.Idx) : (outsAt0 m c t.val t.isLt).2.2.2 y = Q (R₀ m c) (R₁ m c) (V₀ m c) (at5 t y) := by
  by_cases h : t.val < 11
  · rw [outsAt0_A m c t h (by omega)]
    frame_out
    exact (mom2A_apply _ _ y).trans (mom2_congr (sumA m c t h y) (blk4 m c t y))
  · have h' : 11 ≤ t.val := by omega
    rw [outsAt0_B m c t h h']
    frame_out
    exact (mom2B_apply _ _ y).trans (mom2_congr (sumB m c t h' y) (blk4 m c t y))

theorem final8 (c : Dev nD) : (dats m 0 c).arrAt 8 cfg0.N = Q (R₀ m c) (R₁ m c) (V₀ m c) := by
  refine (dats m 0 c).arrAt_eq_of_covers 8 _ (by decide +kernel) fun t hf y => ?_
  blk_simp
  rw [after0_8]
  exact (out8_eq m c t y).trans (congrArg _ ((at8_eq t y).symm))

/-! ## The reference -/

open Cert.AdamFfnRefIdeal.Read

section Ref

variable (R₀ R₁ : S8x384x1024.Idx → EReal) (W M₀ V₀ : S2x352x1024.Idx → EReal)

theorem first_eq (i : S2x352x1024.Idx) : val_main_v6 (F := Ideal) R₀ (ix3 (n0 := 1) (n1 := 352) (n2 := 1024) 0 (i 1) (i 2)) = part R₀ i := by
  rw [val_main_v6_apply, val_main_v2_apply, val_main_v1_apply]
  show Ideal.ofBits .f32 0x00000000#32 + ∑ k : Fin 8, R₀ _ = _
  rw [Ideal.ofBits_zero_f32, zero_add]
  exact Finset.sum_congr rfl fun k _ => congrArg R₀ (funext fun d => match d with | ⟨0, _⟩ => rfl | ⟨1, _⟩ => rfl | ⟨2, _⟩ => rfl)

theorem second_eq (i : S2x352x1024.Idx) : val_main_v7 (F := Ideal) R₁ (ix3 (n0 := 1) (n1 := 352) (n2 := 1024) 0 (i 1) (i 2)) = part R₁ i := by
  rw [val_main_v7_apply, val_main_v5_apply, val_main_v4_apply]
  show Ideal.ofBits .f32 0x00000000#32 + ∑ k : Fin 8, R₁ _ = _
  rw [Ideal.ofBits_zero_f32, zero_add]
  exact Finset.sum_congr rfl fun k _ => congrArg R₁ (funext fun d => match d with | ⟨0, _⟩ => rfl | ⟨1, _⟩ => rfl | ⟨2, _⟩ => rfl)

theorem refG : val_main_v8 (F := Ideal) R₀ R₁ = G R₀ R₁ := by
  funext i
  have hi : (i 0).val < 2 := (i 0).isLt
  unfold val_main_v8 G
  by_cases h : (i 0).val = 0
  · rw [if_pos h]
    exact (stack_first _ _ _ i h).trans (first_eq R₀ i)
  · rw [if_neg h]
    exact (stack_second _ _ _ i (by omega)).trans (second_eq R₁ i)

theorem refM : val_main_v13 (F := Ideal) R₀ R₁ M₀ = M R₀ R₁ M₀ := by
  funext i
  show val_main_v9 (F := Ideal) i * M₀ i + val_main_v11 (F := Ideal) i * val_main_v8 (F := Ideal) R₀ R₁ i = _
  rw [val_main_v9_apply, val_main_v11_apply, refG]
  rfl

theorem refQ : val_main_v19 (F := Ideal) R₀ R₁ V₀ = Q R₀ R₁ V₀ := by
  funext i
  show val_main_v14 (F := Ideal) i * V₀ i
    + val_main_v17 (F := Ideal) i * (val_main_v8 (F := Ideal) R₀ R₁ i * val_main_v8 (F := Ideal) R₀ R₁ i) = _
  rw [val_main_v14_apply, val_main_v17_apply, refG]
  rfl

theorem refD : val_main_v32 (F := Ideal) R₀ R₁ W M₀ V₀ = D R₀ R₁ W M₀ V₀ := by
  funext i
  show val_main_v31 (F := Ideal) i * (Ideal.div
    (Ideal.div (val_main_v13 (F := Ideal) R₀ R₁ M₀ i) (val_main_v20 (F := Ideal) i))
    (Ideal.sqrt (Ideal.div (val_main_v19 (F := Ideal) R₀ R₁ V₀ i) (val_main_v22 (F := Ideal) i)) + val_main_v25 (F := Ideal) i)
    + val_main_v28 (F := Ideal) i * W i) = _
  rw [val_main_v31_apply, val_main_v20_apply, val_main_v22_apply, val_main_v25_apply, val_main_v28_apply, refM, refQ]
  rfl

end Ref

/-! ## The claims -/

theorem frame : Cert.quiescent_AdamFfn := fun m ρ _ => Cert.AdamFfn.Gen.frame m ρ
theorem frame_ideal : Cert.quiescent_AdamFfnIdeal := fun m ρ _ => Cert.AdamFfnIdeal.Gen.frame m ρ
theorem frame_ref : Cert.quiescent_AdamFfnRefIdeal := fun m ρ _ =>
  (θ_run Cert.AdamFfnRefIdeal.defs _ _).mono (fun r h => ⟨fun c => (h c).2.2.2.2, sem_eq_zero_of_no_sems (by decide) r.2⟩)
    (Cert.AdamFfnRefIdeal.Value.run (F := Ideal) m ρ)

theorem preserves : Cert.preserves_AdamFfn_AdamFfnIdeal := trivial

theorem algebraic : Cert.algebraic_AdamFfnIdeal_AdamFfnRefIdeal := by
  intro m ρ m' ρ' _ hagree
  refine ⟨fun c => G (R₀ m c) (R₁ m c), fun c => D (R₀ m c) (R₁ m c) (W m c) (M₀ m c) (V₀ m c), fun c => M (R₀ m c) (R₁ m c) (M₀ m c), fun c => Q (R₀ m c) (R₁ m c) (V₀ m c), ?_, ?_⟩
  · exact (θ_run Cert.AdamFfnIdeal.defs _ _).mono (fun _ h c => ⟨(h c).1.trans (final5 m c), (h c).2.1.trans (final6 m c), (h c).2.2.1.trans (final7 m c), (h c).2.2.2.1.trans (final8 m c), (h c).2.2.2.2⟩)
      (Cert.AdamFfnIdeal.Value.run_blocks (F := Ideal) m ρ)
  refine (θ_run Cert.AdamFfnRefIdeal.defs _ _).mono (fun r h c => ?_) (Cert.AdamFfnRefIdeal.Value.run (F := Ideal) m' ρ')
  have hc := h c
  rw [(hagree c).1, (hagree c).2.1, (hagree c).2.2.1, (hagree c).2.2.2.1, (hagree c).2.2.2.2] at hc
  exact ⟨hc.1.trans (refG (R₀ m c) (R₁ m c)), hc.2.1.trans (refD (R₀ m c) (R₁ m c) (W m c) (M₀ m c) (V₀ m c)), hc.2.2.1.trans (refM (R₀ m c) (R₁ m c) (M₀ m c)), hc.2.2.2.1.trans (refQ (R₀ m c) (R₁ m c) (V₀ m c)), (h c).2.2.2.2⟩

end Cert.Proof.AdamFfnVal

end
-- ==== Proof.AdamSqVal.lean ====
/-
  The AdamW step of the square weights of both layers: the gradient summed over the eight devices' parts, the two
  moments and the change of the weight, tile by tile; and that they are the same lines over the whole arrays.
-/
module

public import proofs.«01_k».proof.Defs
public import proofs.«01_k».proof.Proof.Common
public import proofs.«01_k».proof.Proof.Gen.AdamSq.Frame
public import proofs.«01_k».proof.Proof.Gen.AdamSqIdeal.Value
public import proofs.«01_k».proof.Proof.Gen.AdamSqRefIdeal.Read
public import proofs.«01_k».proof.Proof.AdamForm
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic hiding ix1 ix2 ix3 ix4 ix5
open Idealize.ShloMosaic.TcCoe Idealize.ShloMosaic.ValueIdx Idealize.SL.Sem
open Idealize.ShloMosaic.Pipeline (Dat)
open scoped BigOperators

namespace Cert.Proof.AdamSqVal

open Cert.AdamSqIdeal Cert.AdamSqIdeal.Gen Cert.Common Cert.AdamForm

/-- Result row and column as a row and a column of a received part. -/
abbrev row (i : S2x128x1024.Idx) : Fin 128 := ⟨(i 1).val, lt_of_lt_of_le (i 1).isLt (by decide : 128 ≤ 128)⟩
abbrev col (i : S2x128x1024.Idx) : Fin 1024 := ⟨(i 2).val, lt_of_lt_of_le (i 2).isLt (by decide : 1024 ≤ 1024)⟩

/-- The sum of the eight parts at an index. -/
def part (R : S8x128x1024.Idx → EReal) (i : S2x128x1024.Idx) : EReal := ∑ k : Fin 8, R (ix3 k (row i) (col i))

/-- The gradient: the first layer's parts summed, and the second layer's. -/
def G (R₀ R₁ : S8x128x1024.Idx → EReal) (i : S2x128x1024.Idx) : EReal := if (i 0).val = 0 then part R₀ i else part R₁ i

/-- The change of the weights and the two moments at an index. -/
def D (R₀ R₁ : S8x128x1024.Idx → EReal) (W M₀ V₀ : S2x128x1024.Idx → EReal) (i : S2x128x1024.Idx) : EReal := delta (G R₀ R₁ i) (W i) (M₀ i) (V₀ i)
def M (R₀ R₁ : S8x128x1024.Idx → EReal) (M₀ : S2x128x1024.Idx → EReal) (i : S2x128x1024.Idx) : EReal := mom1 (G R₀ R₁ i) (M₀ i)
def Q (R₀ R₁ : S8x128x1024.Idx → EReal) (V₀ : S2x128x1024.Idx → EReal) (i : S2x128x1024.Idx) : EReal := mom2 (G R₀ R₁ i) (V₀ i)

/-! ## The stored values at an index of a block -/

theorem pay5_apply (v0 v1 v2 v3 v4 v5 v6 v7 : Vec Ideal S1x128x1024 .bf16) (j : S128x1024.Idx) :
    k0_pay5 v0 v1 v2 v3 v4 v5 v6 v7 j
      = v0 (Idealize.ShloMosaic.ix3 0 (j 0) (j 1)) + v1 (Idealize.ShloMosaic.ix3 0 (j 0) (j 1)) + v2 (Idealize.ShloMosaic.ix3 0 (j 0) (j 1)) + v3 (Idealize.ShloMosaic.ix3 0 (j 0) (j 1))
        + v4 (Idealize.ShloMosaic.ix3 0 (j 0) (j 1)) + v5 (Idealize.ShloMosaic.ix3 0 (j 0) (j 1)) + v6 (Idealize.ShloMosaic.ix3 0 (j 0) (j 1)) + v7 (Idealize.ShloMosaic.ix3 0 (j 0) (j 1)) := by
  unfold k0_pay5
  pointwise
  done

theorem pay11_apply (v0 v1 v2 v3 v4 v5 v6 v7 : Vec Ideal S1x128x1024 .bf16) (j : S128x1024.Idx) :
    k0_pay11 v0 v1 v2 v3 v4 v5 v6 v7 j
      = v0 (Idealize.ShloMosaic.ix3 0 (j 0) (j 1)) + v1 (Idealize.ShloMosaic.ix3 0 (j 0) (j 1)) + v2 (Idealize.ShloMosaic.ix3 0 (j 0) (j 1)) + v3 (Idealize.ShloMosaic.ix3 0 (j 0) (j 1))
        + v4 (Idealize.ShloMosaic.ix3 0 (j 0) (j 1)) + v5 (Idealize.ShloMosaic.ix3 0 (j 0) (j 1)) + v6 (Idealize.ShloMosaic.ix3 0 (j 0) (j 1)) + v7 (Idealize.ShloMosaic.ix3 0 (j 0) (j 1)) := by
  unfold k0_pay11
  pointwise
  done

theorem pay9_apply (g : Vec Ideal S128x1024 .f32) (y : S1x128x1024.Idx) :
    (show EReal from k0_pay9 (F := Ideal) g y) = g (Idealize.ShloMosaic.ix2 (y 1) (y 2)) := by
  unfold k0_pay9
  pointwise

theorem pay15_apply (g : Vec Ideal S128x1024 .f32) (y : S1x128x1024.Idx) :
    (show EReal from k0_pay15 (F := Ideal) g y) = g (Idealize.ShloMosaic.ix2 (y 1) (y 2)) := by
  unfold k0_pay15
  pointwise

theorem deltaA_apply (g : Vec Ideal S128x1024 .f32) (w m v : Vec Ideal S1x128x1024 .f32) (y : S1x128x1024.Idx) :
    k0_pay10 g (k0_pay6 w) m v y = delta (g (Idealize.ShloMosaic.ix2 (y 1) (y 2))) (w y) (m y) (v y) := by
  unfold k0_pay10 k0_pay6 k0_pay7 k0_pay8
  pointwise
  rfl

theorem mom1A_apply (g : Vec Ideal S128x1024 .f32) (m : Vec Ideal S1x128x1024 .f32) (y : S1x128x1024.Idx) :
    k0_pay3 (k0_pay7 g m) y = mom1 (g (Idealize.ShloMosaic.ix2 (y 1) (y 2))) (m y) := by
  unfold k0_pay3 k0_pay7
  pointwise
  rfl

theorem mom2A_apply (g : Vec Ideal S128x1024 .f32) (v : Vec Ideal S1x128x1024 .f32) (y : S1x128x1024.Idx) :
    k0_pay4 (k0_pay8 g v) y = mom2 (g (Idealize.ShloMosaic.ix2 (y 1) (y 2))) (v y) := by
  unfold k0_pay4 k0_pay8
  pointwise
  rfl

theorem deltaB_apply (g : Vec Ideal S128x1024 .f32) (w m v : Vec Ideal S1x128x1024 .f32) (y : S1x128x1024.Idx) :
    k0_pay16 g (k0_pay12 w) m v y = delta (g (Idealize.ShloMosaic.ix2 (y 1) (y 2))) (w y) (m y) (v y) := by
  unfold k0_pay16 k0_pay12 k0_pay13 k0_pay14
  pointwise
  rfl

theorem mom1B_apply (g : Vec Ideal S128x1024 .f32) (m : Vec Ideal S1x128x1024 .f32) (y : S1x128x1024.Idx) :
    k0_pay1 (k0_pay13 g m) y = mom1 (g (Idealize.ShloMosaic.ix2 (y 1) (y 2))) (m y) := by
  unfold k0_pay1 k0_pay13
  pointwise
  rfl

theorem mom2B_apply (g : Vec Ideal S128x1024 .f32) (v : Vec Ideal S1x128x1024 .f32) (y : S1x128x1024.Idx) :
    k0_pay2 (k0_pay14 g v) y = mom2 (g (Idealize.ShloMosaic.ix2 (y 1) (y 2))) (v y) := by
  unfold k0_pay2 k0_pay14
  pointwise
  rfl

/-- Which block each window shows at a grid point. -/
theorem idx_facts : ∀ t : Fin grid0.N,
    win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] := by
  decide +kernel

theorem idxA : ∀ t : Fin grid0.N, t.val % 2 = 0 → win0_0.index t = ![0, 0, 0] := by
  decide +kernel
theorem idxB : ∀ t : Fin grid0.N, t.val % 2 = 1 → win0_1.index t = ![0, 0, 0] := by
  decide +kernel

variable (m : (ℓ : Loc nD τ sig) → Buf (Elt Ideal) ℓ) (ρ : Dev nD → PrngReg)

/-- The argument arrays of device `c`. -/
abbrev R₀ (c : Dev nD) : S8x128x1024.Idx → EReal := m ((c : Thread nD τ).loc main_arg0)
abbrev R₁ (c : Dev nD) : S8x128x1024.Idx → EReal := m ((c : Thread nD τ).loc main_arg1)
abbrev W (c : Dev nD) : S2x128x1024.Idx → EReal := m ((c : Thread nD τ).loc main_arg2)
abbrev M₀ (c : Dev nD) : S2x128x1024.Idx → EReal := m ((c : Thread nD τ).loc main_arg3)
abbrev V₀ (c : Dev nD) : S2x128x1024.Idx → EReal := m ((c : Thread nD τ).loc main_arg4)

/-- The index of result 5 that point `t` touches at index `j` of its block. -/
def at5 (t : Fin cfg0.N) (j : S1x128x1024.Idx) : S2x128x1024.Idx := (win0_5.blk t).view.emb j

theorem at5_0 (t : Fin cfg0.N) (j : S1x128x1024.Idx) : (at5 t j 0).val = (t.val / 1) * 1 + (j 0).val := by
  have h : (at5 t j 0).val = win0_5.index t 0 * 1 + 1 * (j 0).val := rfl
  rw [h, (idx_facts t).2.2.2.1, one_mul]; rfl
theorem at5_1 (t : Fin cfg0.N) (j : S1x128x1024.Idx) : (at5 t j 1).val = (t.val % 1) * 128 + (j 1).val := by
  have h : (at5 t j 1).val = win0_5.index t 1 * 128 + 1 * (j 1).val := rfl
  rw [h, (idx_facts t).2.2.2.1, one_mul]; rfl
theorem at5_2 (t : Fin cfg0.N) (j : S1x128x1024.Idx) : (at5 t j 2).val = (0) * 1024 + (j 2).val := by
  have h : (at5 t j 2).val = win0_5.index t 2 * 1024 + 1 * (j 2).val := rfl
  rw [h, (idx_facts t).2.2.2.1, one_mul]; rfl

/-- The index of result 6 that point `t` touches at index `j` of its block. -/
def at6 (t : Fin cfg0.N) (j : S1x128x1024.Idx) : S2x128x1024.Idx := (win0_6.blk t).view.emb j

theorem at6_0 (t : Fin cfg0.N) (j : S1x128x1024.Idx) : (at6 t j 0).val = (t.val / 1) * 1 + (j 0).val := by
  have h : (at6 t j 0).val = win0_6.index t 0 * 1 + 1 * (j 0).val := rfl
  rw [h, (idx_facts t).2.2.2.2.1, one_mul]; rfl
theorem at6_1 (t : Fin cfg0.N) (j : S1x128x1024.Idx) : (at6 t j 1).val = (t.val % 1) * 128 + (j 1).val := by
  have h : (at6 t j 1).val = win0_6.index t 1 * 128 + 1 * (j 1).val := rfl
  rw [h, (idx_facts t).2.2.2.2.1, one_mul]; rfl
theorem at6_2 (t : Fin cfg0.N) (j : S1x128x1024.Idx) : (at6 t j 2).val = (0) * 1024 + (j 2).val := by
  have h : (at6 t j 2).val = win0_6.index t 2 * 1024 + 1 * (j 2).val := rfl
  rw [h, (idx_facts t).2.2.2.2.1, one_mul]; rfl

/-- The index of result 7 that point `t` touches at index `j` of its block. -/
def at7 (t : Fin cfg0.N) (j : S1x128x1024.Idx) : S2x128x1024.Idx := (win0_7.blk t).view.emb j

theorem at7_0 (t : Fin cfg0.N) (j : S1x128x1024.Idx) : (at7 t j 0).val = (t.val / 1) * 1 + (j 0).val := by
  have h : (at7 t j 0).val = win0_7.index t 0 * 1 + 1 * (j 0).val := rfl
  rw [h, (idx_facts t).2.2.2.2.2.1, one_mul]; rfl
theorem at7_1 (t : Fin cfg0.N) (j : S1x128x1024.Idx) : (at7 t j 1).val = (t.val % 1) * 128 + (j 1).val := by
  have h : (at7 t j 1).val = win0_7.index t 1 * 128 + 1 * (j 1).val := rfl
  rw [h, (idx_facts t).2.2.2.2.2.1, one_mul]; rfl
theorem at7_2 (t : Fin cfg0.N) (j : S1x128x1024.Idx) : (at7 t j 2).val = (0) * 1024 + (j 2).val := by
  have h : (at7 t j 2).val = win0_7.index t 2 * 1024 + 1 * (j 2).val := rfl
  rw [h, (idx_facts t).2.2.2.2.2.1, one_mul]; rfl

/-- The index of result 8 that point `t` touches at index `j` of its block. -/
def at8 (t : Fin cfg0.N) (j : S1x128x1024.Idx) : S2x128x1024.Idx := (win0_8.blk t).view.emb j

theorem at8_0 (t : Fin cfg0.N) (j : S1x128x1024.Idx) : (at8 t j 0).val = (t.val / 1) * 1 + (j 0).val := by
  have h : (at8 t j 0).val = win0_8.index t 0 * 1 + 1 * (j 0).val := rfl
  rw [h, (idx_facts t).2.2.2.2.2.2, one_mul]; rfl
theorem at8_1 (t : Fin cfg0.N) (j : S1x128x1024.Idx) : (at8 t j 1).val = (t.val % 1) * 128 + (j 1).val := by
  have h : (at8 t j 1).val = win0_8.index t 1 * 128 + 1 * (j 1).val := rfl
  rw [h, (idx_facts t).2.2.2.2.2.2, one_mul]; rfl
theorem at8_2 (t : Fin cfg0.N) (j : S1x128x1024.Idx) : (at8 t j 2).val = (0) * 1024 + (j 2).val := by
  have h : (at8 t j 2).val = win0_8.index t 2 * 1024 + 1 * (j 2).val := rfl
  rw [h, (idx_facts t).2.2.2.2.2.2, one_mul]; rfl

theorem at6_eq (t : Fin cfg0.N) (j : S1x128x1024.Idx) : at6 t j = at5 t j :=
  funext fun a => Fin.ext (match a with
    | ⟨0, _⟩ => (at6_0 t j).trans (at5_0 t j).symm | ⟨1, _⟩ => (at6_1 t j).trans (at5_1 t j).symm
    | ⟨2, _⟩ => (at6_2 t j).trans (at5_2 t j).symm)
theorem at7_eq (t : Fin cfg0.N) (j : S1x128x1024.Idx) : at7 t j = at5 t j :=
  funext fun a => Fin.ext (match a with
    | ⟨0, _⟩ => (at7_0 t j).trans (at5_0 t j).symm | ⟨1, _⟩ => (at7_1 t j).trans (at5_1 t j).symm
    | ⟨2, _⟩ => (at7_2 t j).trans (at5_2 t j).symm)
theorem at8_eq (t : Fin cfg0.N) (j : S1x128x1024.Idx) : at8 t j = at5 t j :=
  funext fun a => Fin.ext (match a with
    | ⟨0, _⟩ => (at8_0 t j).trans (at5_0 t j).symm | ⟨1, _⟩ => (at8_1 t j).trans (at5_1 t j).symm
    | ⟨2, _⟩ => (at8_2 t j).trans (at5_2 t j).symm)

theorem blk2 (c : Dev nD) (t : Fin cfg0.N) (y : S1x128x1024.Idx) :
    (iblk m c 2 t : Vec Ideal S1x128x1024 .f32) y = W m c (at5 t y) := by
  have hz : (y 0).val = 0 := Nat.lt_one_iff.mp (y 0).isLt
  unfold iblk
  rw [View.read_apply]
  show V m c main_arg2 _ = _
  rw [V_main_arg2]
  refine congrArg (W m c) (funext fun d => Fin.ext ?_)
  match d with
  | ⟨0, _⟩ =>
    refine Eq.trans ?_ (at5_0 t y).symm
    show win0_2.index t 0 * 1 + 1 * (y 0).val = _
    rw [(idx_facts t).1, hz]; rfl
  | ⟨1, _⟩ =>
    refine Eq.trans ?_ (at5_1 t y).symm
    show win0_2.index t 1 * 128 + 1 * (y 1).val = _
    rw [(idx_facts t).1, one_mul]; rfl
  | ⟨2, _⟩ =>
    refine Eq.trans ?_ (at5_2 t y).symm
    show win0_2.index t 2 * 1024 + 1 * (y 2).val = _
    rw [(idx_facts t).1, one_mul]; rfl

theorem blk3 (c : Dev nD) (t : Fin cfg0.N) (y : S1x128x1024.Idx) :
    (iblk m c 3 t : Vec Ideal S1x128x1024 .f32) y = M₀ m c (at5 t y) := by
  have hz : (y 0).val = 0 := Nat.lt_one_iff.mp (y 0).isLt
  unfold iblk
  rw [View.read_apply]
  show V m c main_arg3 _ = _
  rw [V_main_arg3]
  refine congrArg (M₀ m c) (funext fun d => Fin.ext ?_)
  match d with
  | ⟨0, _⟩ =>
    refine Eq.trans ?_ (at5_0 t y).symm
    show win0_3.index t 0 * 1 + 1 * (y 0).val = _
    rw [(idx_facts t).2.1, hz]; rfl
  | ⟨1, _⟩ =>
    refine Eq.trans ?_ (at5_1 t y).symm
    show win0_3.index t 1 * 128 + 1 * (y 1).val = _
    rw [(idx_facts t).2.1, one_mul]; rfl
  | ⟨2, _⟩ =>
    refine Eq.trans ?_ (at5_2 t y).symm
    show win0_3.index t 2 * 1024 + 1 * (y 2).val = _
    rw [(idx_facts t).2.1, one_mul]; rfl

theorem blk4 (c : Dev nD) (t : Fin cfg0.N) (y : S1x128x1024.Idx) :
    (iblk m c 4 t : Vec Ideal S1x128x1024 .f32) y = V₀ m c (at5 t y) := by
  have hz : (y 0).val = 0 := Nat.lt_one_iff.mp (y 0).isLt
  unfold iblk
  rw [View.read_apply]
  show V m c main_arg4 _ = _
  rw [V_main_arg4]
  refine congrArg (V₀ m c) (funext fun d => Fin.ext ?_)
  match d with
  | ⟨0, _⟩ =>
    refine Eq.trans ?_ (at5_0 t y).symm
    show win0_4.index t 0 * 1 + 1 * (y 0).val = _
    rw [(idx_facts t).2.2.1, hz]; rfl
  | ⟨1, _⟩ =>
    refine Eq.trans ?_ (at5_1 t y).symm
    show win0_4.index t 1 * 128 + 1 * (y 1).val = _
    rw [(idx_facts t).2.2.1, one_mul]; rfl
  | ⟨2, _⟩ =>
    refine Eq.trans ?_ (at5_2 t y).symm
    show win0_4.index t 2 * 1024 + 1 * (y 2).val = _
    rw [(idx_facts t).2.2.1, one_mul]; rfl

/-- Part `k` of the eight, read off the block of a point of layer 0. -/
theorem loadA (c : Dev nD) (t : Fin cfg0.N) (h : t.val % 2 = 0) (y : S1x128x1024.Idx) (k : Fin 8)
    (inb : ∀ a, ![k.val, 0, 0] a + ![1, 128, 1024] a ≤ S8x128x1024.size a) :
    View.ld (iblk m c 0 t : Vec Ideal S8x128x1024 .bf16) (Rect.unit (s := S8x128x1024) ![k.val, 0, 0] ![1, 128, 1024] inb) (Idealize.ShloMosaic.ix3 0 (y 1) (y 2))
      = R₀ m c (ix3 k (row (at5 t y)) (col (at5 t y))) := by
  have ht : t.val < 2 := t.isLt
  show (iblk m c 0 t : Vec Ideal S8x128x1024 .bf16) _ = _
  unfold iblk
  rw [View.read_apply]
  show V m c main_arg0 _ = _
  rw [V_main_arg0]
  refine congrArg (R₀ m c) (funext fun d => Fin.ext ?_)
  match d with
  | ⟨0, _⟩ =>
    show win0_0.index t 0 * 8 + 1 * (k.val + 1 * 0) = k.val
    rw [idxA t h]; show 0 * 8 + _ = _; omega
  | ⟨1, _⟩ =>
    refine Eq.trans ?_ (at5_1 t y).symm
    show win0_0.index t 1 * 128 + 1 * (0 + 1 * (y 1).val) = _
    rw [idxA t h]; show (0) * 128 + _ = _; omega
  | ⟨2, _⟩ =>
    refine Eq.trans ?_ (at5_2 t y).symm
    show win0_0.index t 2 * 1024 + 1 * (0 + 1 * (y 2).val) = _
    rw [idxA t h]; show 0 * 1024 + _ = _; omega

theorem sumA (c : Dev nD) (t : Fin cfg0.N) (h : t.val % 2 = 0) (y : S1x128x1024.Idx) :
    k0_pay5
      (View.ld (iblk m c 0 t : Vec Ideal S8x128x1024 .bf16) (Rect.unit (s := S8x128x1024) ![0, 0, 0] ![1, 128, 1024] inb_S8x128x1024_S1x128x1024_0_0_0))
      (View.ld (iblk m c 0 t : Vec Ideal S8x128x1024 .bf16) (Rect.unit (s := S8x128x1024) ![1, 0, 0] ![1, 128, 1024] inb_S8x128x1024_S1x128x1024_1_0_0))
      (View.ld (iblk m c 0 t : Vec Ideal S8x128x1024 .bf16) (Rect.unit (s := S8x128x1024) ![2, 0, 0] ![1, 128, 1024] inb_S8x128x1024_S1x128x1024_2_0_0))
      (View.ld (iblk m c 0 t : Vec Ideal S8x128x1024 .bf16) (Rect.unit (s := S8x128x1024) ![3, 0, 0] ![1, 128, 1024] inb_S8x128x1024_S1x128x1024_3_0_0))
      (View.ld (iblk m c 0 t : Vec Ideal S8x128x1024 .bf16) (Rect.unit (s := S8x128x1024) ![4, 0, 0] ![1, 128, 1024] inb_S8x128x1024_S1x128x1024_4_0_0))
      (View.ld (iblk m c 0 t : Vec Ideal S8x128x1024 .bf16) (Rect.unit (s := S8x128x1024) ![5, 0, 0] ![1, 128, 1024] inb_S8x128x1024_S1x128x1024_5_0_0))
      (View.ld (iblk m c 0 t : Vec Ideal S8x128x1024 .bf16) (Rect.unit (s := S8x128x1024) ![6, 0, 0] ![1, 128, 1024] inb_S8x128x1024_S1x128x1024_6_0_0))
      (View.ld (iblk m c 0 t : Vec Ideal S8x128x1024 .bf16) (Rect.unit (s := S8x128x1024) ![7, 0, 0] ![1, 128, 1024] inb_S8x128x1024_S1x128x1024_7_0_0)) (Idealize.ShloMosaic.ix2 (y 1) (y 2))
      = G (R₀ m c) (R₁ m c) (at5 t y) := by
  have ht : t.val < 2 := t.isLt
  have hz : (y 0).val = 0 := Nat.lt_one_iff.mp (y 0).isLt
  refine (pay5_apply _ _ _ _ _ _ _ _ _).trans ?_
  unfold G
  rw [if_pos (show (at5 t y 0).val = 0 by rw [at5_0, hz]; omega)]
  unfold part
  rw [Fin.sum_univ_eight]
  exact congrArg₂ (· + ·) (congrArg₂ (· + ·) (congrArg₂ (· + ·) (congrArg₂ (· + ·) (congrArg₂ (· + ·) (congrArg₂ (· + ·) (congrArg₂ (· + ·) (loadA m c t h y 0 _) (loadA m c t h y 1 _)) (loadA m c t h y 2 _)) (loadA m c t h y 3 _)) (loadA m c t h y 4 _)) (loadA m c t h y 5 _)) (loadA m c t h y 6 _))
    (loadA m c t h y 7 _)

/-- Part `k` of the eight, read off the block of a point of layer 1. -/
theorem loadB (c : Dev nD) (t : Fin cfg0.N) (h : t.val % 2 = 1) (y : S1x128x1024.Idx) (k : Fin 8)
    (inb : ∀ a, ![k.val, 0, 0] a + ![1, 128, 1024] a ≤ S8x128x1024.size a) :
    View.ld (iblk m c 1 t : Vec Ideal S8x128x1024 .bf16) (Rect.unit (s := S8x128x1024) ![k.val, 0, 0] ![1, 128, 1024] inb) (Idealize.ShloMosaic.ix3 0 (y 1) (y 2))
      = R₁ m c (ix3 k (row (at5 t y)) (col (at5 t y))) := by
  have ht : t.val < 2 := t.isLt
  show (iblk m c 1 t : Vec Ideal S8x128x1024 .bf16) _ = _
  unfold iblk
  rw [View.read_apply]
  show V m c main_arg1 _ = _
  rw [V_main_arg1]
  refine congrArg (R₁ m c) (funext fun d => Fin.ext ?_)
  match d with
  | ⟨0, _⟩ =>
    show win0_1.index t 0 * 8 + 1 * (k.val + 1 * 0) = k.val
    rw [idxB t h]; show 0 * 8 + _ = _; omega
  | ⟨1, _⟩ =>
    refine Eq.trans ?_ (at5_1 t y).symm
    show win0_1.index t 1 * 128 + 1 * (0 + 1 * (y 1).val) = _
    rw [idxB t h]; show (0) * 128 + _ = _; omega
  | ⟨2, _⟩ =>
    refine Eq.trans ?_ (at5_2 t y).symm
    show win0_1.index t 2 * 1024 + 1 * (0 + 1 * (y 2).val) = _
    rw [idxB t h]; show 0 * 1024 + _ = _; omega

theorem sumB (c : Dev nD) (t : Fin cfg0.N) (h : t.val % 2 = 1) (y : S1x128x1024.Idx) :
    k0_pay11
      (View.ld (iblk m c 1 t : Vec Ideal S8x128x1024 .bf16) (Rect.unit (s := S8x128x1024) ![0, 0, 0] ![1, 128, 1024] inb_S8x128x1024_S1x128x1024_0_0_0))
      (View.ld (iblk m c 1 t : Vec Ideal S8x128x1024 .bf16) (Rect.unit (s := S8x128x1024) ![1, 0, 0] ![1, 128, 1024] inb_S8x128x1024_S1x128x1024_1_0_0))
      (View.ld (iblk m c 1 t : Vec Ideal S8x128x1024 .bf16) (Rect.unit (s := S8x128x1024) ![2, 0, 0] ![1, 128, 1024] inb_S8x128x1024_S1x128x1024_2_0_0))
      (View.ld (iblk m c 1 t : Vec Ideal S8x128x1024 .bf16) (Rect.unit (s := S8x128x1024) ![3, 0, 0] ![1, 128, 1024] inb_S8x128x1024_S1x128x1024_3_0_0))
      (View.ld (iblk m c 1 t : Vec Ideal S8x128x1024 .bf16) (Rect.unit (s := S8x128x1024) ![4, 0, 0] ![1, 128, 1024] inb_S8x128x1024_S1x128x1024_4_0_0))
      (View.ld (iblk m c 1 t : Vec Ideal S8x128x1024 .bf16) (Rect.unit (s := S8x128x1024) ![5, 0, 0] ![1, 128, 1024] inb_S8x128x1024_S1x128x1024_5_0_0))
      (View.ld (iblk m c 1 t : Vec Ideal S8x128x1024 .bf16) (Rect.unit (s := S8x128x1024) ![6, 0, 0] ![1, 128, 1024] inb_S8x128x1024_S1x128x1024_6_0_0))
      (View.ld (iblk m c 1 t : Vec Ideal S8x128x1024 .bf16) (Rect.unit (s := S8x128x1024) ![7, 0, 0] ![1, 128, 1024] inb_S8x128x1024_S1x128x1024_7_0_0)) (Idealize.ShloMosaic.ix2 (y 1) (y 2))
      = G (R₀ m c) (R₁ m c) (at5 t y) := by
  have ht : t.val < 2 := t.isLt
  have hz : (y 0).val = 0 := Nat.lt_one_iff.mp (y 0).isLt
  refine (pay11_apply _ _ _ _ _ _ _ _ _).trans ?_
  unfold G
  rw [if_neg (show ¬(at5 t y 0).val = 0 by rw [at5_0, hz]; omega)]
  unfold part
  rw [Fin.sum_univ_eight]
  exact congrArg₂ (· + ·) (congrArg₂ (· + ·) (congrArg₂ (· + ·) (congrArg₂ (· + ·) (congrArg₂ (· + ·) (congrArg₂ (· + ·) (congrArg₂ (· + ·) (loadB m c t h y 0 _) (loadB m c t h y 1 _)) (loadB m c t h y 2 _)) (loadB m c t h y 3 _)) (loadB m c t h y 4 _)) (loadB m c t h y 5 _)) (loadB m c t h y 6 _))
    (loadB m c t h y 7 _)

/-! ## The arrays after the run -/

theorem out5_eq (c : Dev nD) (t : Fin cfg0.N) (y : S1x128x1024.Idx) : (outsAt0 m c t.val t.isLt).1 y = G (R₀ m c) (R₁ m c) (at5 t y) := by
  by_cases h : t.val % 2 = 0
  · rw [outsAt0_A m c t h (by omega)]
    frame_out
    exact (pay9_apply _ y).trans (sumA m c t h y)
  · have h' : t.val % 2 = 1 := by omega
    rw [outsAt0_B m c t h h']
    frame_out
    exact (pay15_apply _ y).trans (sumB m c t h' y)

theorem final5 (c : Dev nD) : (dats m 0 c).arrAt 5 cfg0.N = G (R₀ m c) (R₁ m c) := by
  refine (dats m 0 c).arrAt_eq_of_covers 5 _ (by decide +kernel) fun t hf y => ?_
  blk_simp
  rw [after0_5]
  exact (out5_eq m c t y).trans (congrArg _ (rfl))

theorem out6_eq (c : Dev nD) (t : Fin cfg0.N) (y : S1x128x1024.Idx) : (outsAt0 m c t.val t.isLt).2.1 y = D (R₀ m c) (R₁ m c) (W m c) (M₀ m c) (V₀ m c) (at5 t y) := by
  by_cases h : t.val % 2 = 0
  · rw [outsAt0_A m c t h (by omega)]
    frame_out
    exact (deltaA_apply _ _ _ _ y).trans (delta_congr (sumA m c t h y) (blk2 m c t y) (blk3 m c t y) (blk4 m c t y))
  · have h' : t.val % 2 = 1 := by omega
    rw [outsAt0_B m c t h h']
    frame_out
    exact (deltaB_apply _ _ _ _ y).trans (delta_congr (sumB m c t h' y) (blk2 m c t y) (blk3 m c t y) (blk4 m c t y))

theorem final6 (c : Dev nD) : (dats m 0 c).arrAt 6 cfg0.N = D (R₀ m c) (R₁ m c) (W m c) (M₀ m c) (V₀ m c) := by
  refine (dats m 0 c).arrAt_eq_of_covers 6 _ (by decide +kernel) fun t hf y => ?_
  blk_simp
  rw [after0_6]
  exact (out6_eq m c t y).trans (congrArg _ ((at6_eq t y).symm))

theorem out7_eq (c : Dev nD) (t : Fin cfg0.N) (y : S1x128x1024.Idx) : (outsAt0 m c t.val t.isLt).2.2.1 y = M (R₀ m c) (R₁ m c) (M₀ m c) (at5 t y) := by
  by_cases h : t.val % 2 = 0
  · rw [outsAt0_A m c t h (by omega)]
    frame_out
    exact (mom1A_apply _ _ y).trans (mom1_congr (sumA m c t h y) (blk3 m c t y))
  · have h' : t.val % 2 = 1 := by omega
    rw [outsAt0_B m c t h h']
    frame_out
    exact (mom1B_apply _ _ y).trans (mom1_congr (sumB m c t h' y) (blk3 m c t y))

theorem final7 (c : Dev nD) : (dats m 0 c).arrAt 7 cfg0.N = M (R₀ m c) (R₁ m c) (M₀ m c) := by
  refine (dats m 0 c).arrAt_eq_of_covers 7 _ (by decide +kernel) fun t hf y => ?_
  blk_simp
  rw [after0_7]
  exact (out7_eq m c t y).trans (congrArg _ ((at7_eq t y).symm))

theorem out8_eq (c : Dev nD) (t : Fin cfg0.N) (y : S1x128x1024.Idx) : (outsAt0 m c t.val t.isLt).2.2.2 y = Q (R₀ m c) (R₁ m c) (V₀ m c) (at5 t y) := by
  by_cases h : t.val % 2 = 0
  · rw [outsAt0_A m c t h (by omega)]
    frame_out
    exact (mom2A_apply _ _ y).trans (mom2_congr (sumA m c t h y) (blk4 m c t y))
  · have h' : t.val % 2 = 1 := by omega
    rw [outsAt0_B m c t h h']
    frame_out
    exact (mom2B_apply _ _ y).trans (mom2_congr (sumB m c t h' y) (blk4 m c t y))

theorem final8 (c : Dev nD) : (dats m 0 c).arrAt 8 cfg0.N = Q (R₀ m c) (R₁ m c) (V₀ m c) := by
  refine (dats m 0 c).arrAt_eq_of_covers 8 _ (by decide +kernel) fun t hf y => ?_
  blk_simp
  rw [after0_8]
  exact (out8_eq m c t y).trans (congrArg _ ((at8_eq t y).symm))

/-! ## The reference -/

open Cert.AdamSqRefIdeal.Read

section Ref

variable (R₀ R₁ : S8x128x1024.Idx → EReal) (W M₀ V₀ : S2x128x1024.Idx → EReal)

theorem first_eq (i : S2x128x1024.Idx) : val_main_v4 (F := Ideal) R₀ (ix3 (n0 := 1) (n1 := 128) (n2 := 1024) 0 (i 1) (i 2)) = part R₀ i := by
  rw [val_main_v4_apply, val_main_v1_apply]
  show Ideal.ofBits .f32 0x00000000#32 + ∑ k : Fin 8, R₀ _ = _
  rw [Ideal.ofBits_zero_f32, zero_add]
  exact Finset.sum_congr rfl fun k _ => congrArg R₀ (funext fun d => match d with | ⟨0, _⟩ => rfl | ⟨1, _⟩ => rfl | ⟨2, _⟩ => rfl)

theorem second_eq (i : S2x128x1024.Idx) : val_main_v5 (F := Ideal) R₁ (ix3 (n0 := 1) (n1 := 128) (n2 := 1024) 0 (i 1) (i 2)) = part R₁ i := by
  rw [val_main_v5_apply, val_main_v3_apply]
  show Ideal.ofBits .f32 0x00000000#32 + ∑ k : Fin 8, R₁ _ = _
  rw [Ideal.ofBits_zero_f32, zero_add]
  exact Finset.sum_congr rfl fun k _ => congrArg R₁ (funext fun d => match d with | ⟨0, _⟩ => rfl | ⟨1, _⟩ => rfl | ⟨2, _⟩ => rfl)

theorem refG : val_main_v6 (F := Ideal) R₀ R₁ = G R₀ R₁ := by
  funext i
  have hi : (i 0).val < 2 := (i 0).isLt
  unfold val_main_v6 G
  by_cases h : (i 0).val = 0
  · rw [if_pos h]
    exact (stack_first _ _ _ i h).trans (first_eq R₀ i)
  · rw [if_neg h]
    exact (stack_second _ _ _ i (by omega)).trans (second_eq R₁ i)

theorem refM : val_main_v11 (F := Ideal) R₀ R₁ M₀ = M R₀ R₁ M₀ := by
  funext i
  show val_main_v7 (F := Ideal) i * M₀ i + val_main_v9 (F := Ideal) i * val_main_v6 (F := Ideal) R₀ R₁ i = _
  rw [val_main_v7_apply, val_main_v9_apply, refG]
  rfl

theorem refQ : val_main_v17 (F := Ideal) R₀ R₁ V₀ = Q R₀ R₁ V₀ := by
  funext i
  show val_main_v12 (F := Ideal) i * V₀ i
    + val_main_v15 (F := Ideal) i * (val_main_v6 (F := Ideal) R₀ R₁ i * val_main_v6 (F := Ideal) R₀ R₁ i) = _
  rw [val_main_v12_apply, val_main_v15_apply, refG]
  rfl

theorem refD : val_main_v30 (F := Ideal) R₀ R₁ W M₀ V₀ = D R₀ R₁ W M₀ V₀ := by
  funext i
  show val_main_v29 (F := Ideal) i * (Ideal.div
    (Ideal.div (val_main_v11 (F := Ideal) R₀ R₁ M₀ i) (val_main_v18 (F := Ideal) i))
    (Ideal.sqrt (Ideal.div (val_main_v17 (F := Ideal) R₀ R₁ V₀ i) (val_main_v20 (F := Ideal) i)) + val_main_v23 (F := Ideal) i)
    + val_main_v26 (F := Ideal) i * W i) = _
  rw [val_main_v29_apply, val_main_v18_apply, val_main_v20_apply, val_main_v23_apply, val_main_v26_apply, refM, refQ]
  rfl

end Ref

/-! ## The claims -/

theorem frame : Cert.quiescent_AdamSq := fun m ρ _ => Cert.AdamSq.Gen.frame m ρ
theorem frame_ideal : Cert.quiescent_AdamSqIdeal := fun m ρ _ => Cert.AdamSqIdeal.Gen.frame m ρ
theorem frame_ref : Cert.quiescent_AdamSqRefIdeal := fun m ρ _ =>
  (θ_run Cert.AdamSqRefIdeal.defs _ _).mono (fun r h => ⟨fun c => (h c).2.2.2.2, sem_eq_zero_of_no_sems (by decide) r.2⟩)
    (Cert.AdamSqRefIdeal.Value.run (F := Ideal) m ρ)

theorem preserves : Cert.preserves_AdamSq_AdamSqIdeal := trivial

theorem algebraic : Cert.algebraic_AdamSqIdeal_AdamSqRefIdeal := by
  intro m ρ m' ρ' _ hagree
  refine ⟨fun c => G (R₀ m c) (R₁ m c), fun c => D (R₀ m c) (R₁ m c) (W m c) (M₀ m c) (V₀ m c), fun c => M (R₀ m c) (R₁ m c) (M₀ m c), fun c => Q (R₀ m c) (R₁ m c) (V₀ m c), ?_, ?_⟩
  · exact (θ_run Cert.AdamSqIdeal.defs _ _).mono (fun _ h c => ⟨(h c).1.trans (final5 m c), (h c).2.1.trans (final6 m c), (h c).2.2.1.trans (final7 m c), (h c).2.2.2.1.trans (final8 m c), (h c).2.2.2.2⟩)
      (Cert.AdamSqIdeal.Value.run_blocks (F := Ideal) m ρ)
  refine (θ_run Cert.AdamSqRefIdeal.defs _ _).mono (fun r h c => ?_) (Cert.AdamSqRefIdeal.Value.run (F := Ideal) m' ρ')
  have hc := h c
  rw [(hagree c).1, (hagree c).2.1, (hagree c).2.2.1, (hagree c).2.2.2.1, (hagree c).2.2.2.2] at hc
  exact ⟨hc.1.trans (refG (R₀ m c) (R₁ m c)), hc.2.1.trans (refD (R₀ m c) (R₁ m c) (W m c) (M₀ m c) (V₀ m c)), hc.2.2.1.trans (refM (R₀ m c) (R₁ m c) (M₀ m c)), hc.2.2.2.1.trans (refQ (R₀ m c) (R₁ m c) (V₀ m c)), (h c).2.2.2.2⟩

end Cert.Proof.AdamSqVal

end
-- ==== Proof.AdamConvVal.lean ====
/-
  The AdamW step of the convolution weights of both layers: the gradient summed over the eight devices' parts, the two
  moments and the change of the weight, tile by tile; and that they are the same lines over the whole arrays.
-/
module

public import proofs.«01_k».proof.Defs
public import proofs.«01_k».proof.Proof.Common
public import proofs.«01_k».proof.Proof.Gen.AdamConv.Frame
public import proofs.«01_k».proof.Proof.Gen.AdamConvIdeal.Value
public import proofs.«01_k».proof.Proof.Gen.AdamConvRefIdeal.Read
public import proofs.«01_k».proof.Proof.AdamForm
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic hiding ix1 ix2 ix3 ix4 ix5
open Idealize.ShloMosaic.TcCoe Idealize.ShloMosaic.ValueIdx Idealize.SL.Sem
open Idealize.ShloMosaic.Pipeline (Dat)
open scoped BigOperators

namespace Cert.Proof.AdamConvVal

open Cert.AdamConvIdeal Cert.AdamConvIdeal.Gen Cert.Common Cert.AdamForm

/-- Result row and column as a row and a column of a received part. -/
abbrev row (i : S2x4x384.Idx) : Fin 8 := ⟨(i 1).val, lt_of_lt_of_le (i 1).isLt (by decide : 4 ≤ 8)⟩
abbrev col (i : S2x4x384.Idx) : Fin 384 := ⟨(i 2).val, lt_of_lt_of_le (i 2).isLt (by decide : 384 ≤ 384)⟩

/-- The sum of the eight parts at an index. -/
def part (R : S8x8x384.Idx → EReal) (i : S2x4x384.Idx) : EReal := ∑ k : Fin 8, R (ix3 k (row i) (col i))

/-- The gradient: the first layer's parts summed, and the second layer's. -/
def G (R₀ R₁ : S8x8x384.Idx → EReal) (i : S2x4x384.Idx) : EReal := if (i 0).val = 0 then part R₀ i else part R₁ i

/-- The change of the weights and the two moments at an index. -/
def D (R₀ R₁ : S8x8x384.Idx → EReal) (W M₀ V₀ : S2x4x384.Idx → EReal) (i : S2x4x384.Idx) : EReal := delta (G R₀ R₁ i) (W i) (M₀ i) (V₀ i)
def M (R₀ R₁ : S8x8x384.Idx → EReal) (M₀ : S2x4x384.Idx → EReal) (i : S2x4x384.Idx) : EReal := mom1 (G R₀ R₁ i) (M₀ i)
def Q (R₀ R₁ : S8x8x384.Idx → EReal) (V₀ : S2x4x384.Idx → EReal) (i : S2x4x384.Idx) : EReal := mom2 (G R₀ R₁ i) (V₀ i)

/-! ## The stored values at an index of a block -/

theorem pay3_apply (v0 v1 v2 v3 v4 v5 v6 v7 : Vec Ideal S1x4x384 .f32) (j : S4x384.Idx) :
    k0_pay3 v0 v1 v2 v3 v4 v5 v6 v7 j
      = v0 (Idealize.ShloMosaic.ix3 0 (j 0) (j 1)) + v1 (Idealize.ShloMosaic.ix3 0 (j 0) (j 1)) + v2 (Idealize.ShloMosaic.ix3 0 (j 0) (j 1)) + v3 (Idealize.ShloMosaic.ix3 0 (j 0) (j 1))
        + v4 (Idealize.ShloMosaic.ix3 0 (j 0) (j 1)) + v5 (Idealize.ShloMosaic.ix3 0 (j 0) (j 1)) + v6 (Idealize.ShloMosaic.ix3 0 (j 0) (j 1)) + v7 (Idealize.ShloMosaic.ix3 0 (j 0) (j 1)) := by
  unfold k0_pay3
  pointwise
  done

theorem pay11_apply (v0 v1 v2 v3 v4 v5 v6 v7 : Vec Ideal S1x4x384 .f32) (j : S4x384.Idx) :
    k0_pay11 v0 v1 v2 v3 v4 v5 v6 v7 j
      = v0 (Idealize.ShloMosaic.ix3 0 (j 0) (j 1)) + v1 (Idealize.ShloMosaic.ix3 0 (j 0) (j 1)) + v2 (Idealize.ShloMosaic.ix3 0 (j 0) (j 1)) + v3 (Idealize.ShloMosaic.ix3 0 (j 0) (j 1))
        + v4 (Idealize.ShloMosaic.ix3 0 (j 0) (j 1)) + v5 (Idealize.ShloMosaic.ix3 0 (j 0) (j 1)) + v6 (Idealize.ShloMosaic.ix3 0 (j 0) (j 1)) + v7 (Idealize.ShloMosaic.ix3 0 (j 0) (j 1)) := by
  unfold k0_pay11
  pointwise
  done

theorem pay8_apply (g : Vec Ideal S4x384 .f32) (y : S1x4x384.Idx) :
    (show EReal from k0_pay8 (F := Ideal) g y) = g (Idealize.ShloMosaic.ix2 (y 1) (y 2)) := by
  unfold k0_pay8
  pointwise

theorem pay16_apply (g : Vec Ideal S4x384 .f32) (y : S1x4x384.Idx) :
    (show EReal from k0_pay16 (F := Ideal) g y) = g (Idealize.ShloMosaic.ix2 (y 1) (y 2)) := by
  unfold k0_pay16
  pointwise

theorem deltaA_apply (g : Vec Ideal S4x384 .f32) (w m v : Vec Ideal S1x4x384 .f32) (y : S1x4x384.Idx) :
    k0_pay9 g (k0_pay4 w) (k0_pay5 m) v y = delta (g (Idealize.ShloMosaic.ix2 (y 1) (y 2))) (w y) (m y) (v y) := by
  unfold k0_pay9 k0_pay4 k0_pay5 k0_pay6 k0_pay7
  pointwise
  rfl

theorem mom1A_apply (g : Vec Ideal S4x384 .f32) (m : Vec Ideal S1x4x384 .f32) (y : S1x4x384.Idx) :
    k0_pay10 g (k0_pay5 m) y = mom1 (g (Idealize.ShloMosaic.ix2 (y 1) (y 2))) (m y) := by
  unfold k0_pay10 k0_pay6 k0_pay5
  pointwise
  rfl

theorem mom2A_apply (g : Vec Ideal S4x384 .f32) (v : Vec Ideal S1x4x384 .f32) (y : S1x4x384.Idx) :
    k0_pay2 (k0_pay7 g v) y = mom2 (g (Idealize.ShloMosaic.ix2 (y 1) (y 2))) (v y) := by
  unfold k0_pay2 k0_pay7
  pointwise
  rfl

theorem deltaB_apply (g : Vec Ideal S4x384 .f32) (w m v : Vec Ideal S1x4x384 .f32) (y : S1x4x384.Idx) :
    k0_pay17 g (k0_pay12 w) (k0_pay13 m) v y = delta (g (Idealize.ShloMosaic.ix2 (y 1) (y 2))) (w y) (m y) (v y) := by
  unfold k0_pay17 k0_pay12 k0_pay13 k0_pay14 k0_pay15
  pointwise
  rfl

theorem mom1B_apply (g : Vec Ideal S4x384 .f32) (m : Vec Ideal S1x4x384 .f32) (y : S1x4x384.Idx) :
    k0_pay18 g (k0_pay13 m) y = mom1 (g (Idealize.ShloMosaic.ix2 (y 1) (y 2))) (m y) := by
  unfold k0_pay18 k0_pay14 k0_pay13
  pointwise
  rfl

theorem mom2B_apply (g : Vec Ideal S4x384 .f32) (v : Vec Ideal S1x4x384 .f32) (y : S1x4x384.Idx) :
    k0_pay2 (k0_pay15 g v) y = mom2 (g (Idealize.ShloMosaic.ix2 (y 1) (y 2))) (v y) := by
  unfold k0_pay2 k0_pay15
  pointwise
  rfl

/-- Which block each window shows at a grid point. -/
theorem idx_facts : ∀ t : Fin grid0.N,
    win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] := by
  decide +kernel

theorem idxA : ∀ t : Fin grid0.N, t.val % 2 = 0 → win0_0.index t = ![0, 0, 0] := by
  decide +kernel
theorem idxB : ∀ t : Fin grid0.N, t.val % 2 = 1 → win0_1.index t = ![0, 0, 0] := by
  decide +kernel

variable (m : (ℓ : Loc nD τ sig) → Buf (Elt Ideal) ℓ) (ρ : Dev nD → PrngReg)

/-- The argument arrays of device `c`. -/
abbrev R₀ (c : Dev nD) : S8x8x384.Idx → EReal := m ((c : Thread nD τ).loc main_arg0)
abbrev R₁ (c : Dev nD) : S8x8x384.Idx → EReal := m ((c : Thread nD τ).loc main_arg1)
abbrev W (c : Dev nD) : S2x4x384.Idx → EReal := m ((c : Thread nD τ).loc main_arg2)
abbrev M₀ (c : Dev nD) : S2x4x384.Idx → EReal := m ((c : Thread nD τ).loc main_arg3)
abbrev V₀ (c : Dev nD) : S2x4x384.Idx → EReal := m ((c : Thread nD τ).loc main_arg4)

/-- The index of result 5 that point `t` touches at index `j` of its block. -/
def at5 (t : Fin cfg0.N) (j : S1x4x384.Idx) : S2x4x384.Idx := (win0_5.blk t).view.emb j

theorem at5_0 (t : Fin cfg0.N) (j : S1x4x384.Idx) : (at5 t j 0).val = (t.val / 1) * 1 + (j 0).val := by
  have h : (at5 t j 0).val = win0_5.index t 0 * 1 + 1 * (j 0).val := rfl
  rw [h, (idx_facts t).2.2.2.1, one_mul]; rfl
theorem at5_1 (t : Fin cfg0.N) (j : S1x4x384.Idx) : (at5 t j 1).val = (t.val % 1) * 4 + (j 1).val := by
  have h : (at5 t j 1).val = win0_5.index t 1 * 4 + 1 * (j 1).val := rfl
  rw [h, (idx_facts t).2.2.2.1, one_mul]; rfl
theorem at5_2 (t : Fin cfg0.N) (j : S1x4x384.Idx) : (at5 t j 2).val = (0) * 384 + (j 2).val := by
  have h : (at5 t j 2).val = win0_5.index t 2 * 384 + 1 * (j 2).val := rfl
  rw [h, (idx_facts t).2.2.2.1, one_mul]; rfl

/-- The index of result 6 that point `t` touches at index `j` of its block. -/
def at6 (t : Fin cfg0.N) (j : S1x4x384.Idx) : S2x4x384.Idx := (win0_6.blk t).view.emb j

theorem at6_0 (t : Fin cfg0.N) (j : S1x4x384.Idx) : (at6 t j 0).val = (t.val / 1) * 1 + (j 0).val := by
  have h : (at6 t j 0).val = win0_6.index t 0 * 1 + 1 * (j 0).val := rfl
  rw [h, (idx_facts t).2.2.2.2.1, one_mul]; rfl
theorem at6_1 (t : Fin cfg0.N) (j : S1x4x384.Idx) : (at6 t j 1).val = (t.val % 1) * 4 + (j 1).val := by
  have h : (at6 t j 1).val = win0_6.index t 1 * 4 + 1 * (j 1).val := rfl
  rw [h, (idx_facts t).2.2.2.2.1, one_mul]; rfl
theorem at6_2 (t : Fin cfg0.N) (j : S1x4x384.Idx) : (at6 t j 2).val = (0) * 384 + (j 2).val := by
  have h : (at6 t j 2).val = win0_6.index t 2 * 384 + 1 * (j 2).val := rfl
  rw [h, (idx_facts t).2.2.2.2.1, one_mul]; rfl

/-- The index of result 7 that point `t` touches at index `j` of its block. -/
def at7 (t : Fin cfg0.N) (j : S1x4x384.Idx) : S2x4x384.Idx := (win0_7.blk t).view.emb j

theorem at7_0 (t : Fin cfg0.N) (j : S1x4x384.Idx) : (at7 t j 0).val = (t.val / 1) * 1 + (j 0).val := by
  have h : (at7 t j 0).val = win0_7.index t 0 * 1 + 1 * (j 0).val := rfl
  rw [h, (idx_facts t).2.2.2.2.2.1, one_mul]; rfl
theorem at7_1 (t : Fin cfg0.N) (j : S1x4x384.Idx) : (at7 t j 1).val = (t.val % 1) * 4 + (j 1).val := by
  have h : (at7 t j 1).val = win0_7.index t 1 * 4 + 1 * (j 1).val := rfl
  rw [h, (idx_facts t).2.2.2.2.2.1, one_mul]; rfl
theorem at7_2 (t : Fin cfg0.N) (j : S1x4x384.Idx) : (at7 t j 2).val = (0) * 384 + (j 2).val := by
  have h : (at7 t j 2).val = win0_7.index t 2 * 384 + 1 * (j 2).val := rfl
  rw [h, (idx_facts t).2.2.2.2.2.1, one_mul]; rfl

/-- The index of result 8 that point `t` touches at index `j` of its block. -/
def at8 (t : Fin cfg0.N) (j : S1x4x384.Idx) : S2x4x384.Idx := (win0_8.blk t).view.emb j

theorem at8_0 (t : Fin cfg0.N) (j : S1x4x384.Idx) : (at8 t j 0).val = (t.val / 1) * 1 + (j 0).val := by
  have h : (at8 t j 0).val = win0_8.index t 0 * 1 + 1 * (j 0).val := rfl
  rw [h, (idx_facts t).2.2.2.2.2.2, one_mul]; rfl
theorem at8_1 (t : Fin cfg0.N) (j : S1x4x384.Idx) : (at8 t j 1).val = (t.val % 1) * 4 + (j 1).val := by
  have h : (at8 t j 1).val = win0_8.index t 1 * 4 + 1 * (j 1).val := rfl
  rw [h, (idx_facts t).2.2.2.2.2.2, one_mul]; rfl
theorem at8_2 (t : Fin cfg0.N) (j : S1x4x384.Idx) : (at8 t j 2).val = (0) * 384 + (j 2).val := by
  have h : (at8 t j 2).val = win0_8.index t 2 * 384 + 1 * (j 2).val := rfl
  rw [h, (idx_facts t).2.2.2.2.2.2, one_mul]; rfl

theorem at6_eq (t : Fin cfg0.N) (j : S1x4x384.Idx) : at6 t j = at5 t j :=
  funext fun a => Fin.ext (match a with
    | ⟨0, _⟩ => (at6_0 t j).trans (at5_0 t j).symm | ⟨1, _⟩ => (at6_1 t j).trans (at5_1 t j).symm
    | ⟨2, _⟩ => (at6_2 t j).trans (at5_2 t j).symm)
theorem at7_eq (t : Fin cfg0.N) (j : S1x4x384.Idx) : at7 t j = at5 t j :=
  funext fun a => Fin.ext (match a with
    | ⟨0, _⟩ => (at7_0 t j).trans (at5_0 t j).symm | ⟨1, _⟩ => (at7_1 t j).trans (at5_1 t j).symm
    | ⟨2, _⟩ => (at7_2 t j).trans (at5_2 t j).symm)
theorem at8_eq (t : Fin cfg0.N) (j : S1x4x384.Idx) : at8 t j = at5 t j :=
  funext fun a => Fin.ext (match a with
    | ⟨0, _⟩ => (at8_0 t j).trans (at5_0 t j).symm | ⟨1, _⟩ => (at8_1 t j).trans (at5_1 t j).symm
    | ⟨2, _⟩ => (at8_2 t j).trans (at5_2 t j).symm)

theorem blk2 (c : Dev nD) (t : Fin cfg0.N) (y : S1x4x384.Idx) :
    (iblk m c 2 t : Vec Ideal S1x4x384 .f32) y = W m c (at5 t y) := by
  have hz : (y 0).val = 0 := Nat.lt_one_iff.mp (y 0).isLt
  unfold iblk
  rw [View.read_apply]
  show V m c main_arg2 _ = _
  rw [V_main_arg2]
  refine congrArg (W m c) (funext fun d => Fin.ext ?_)
  match d with
  | ⟨0, _⟩ =>
    refine Eq.trans ?_ (at5_0 t y).symm
    show win0_2.index t 0 * 1 + 1 * (y 0).val = _
    rw [(idx_facts t).1, hz]; rfl
  | ⟨1, _⟩ =>
    refine Eq.trans ?_ (at5_1 t y).symm
    show win0_2.index t 1 * 4 + 1 * (y 1).val = _
    rw [(idx_facts t).1, one_mul]; rfl
  | ⟨2, _⟩ =>
    refine Eq.trans ?_ (at5_2 t y).symm
    show win0_2.index t 2 * 384 + 1 * (y 2).val = _
    rw [(idx_facts t).1, one_mul]; rfl

theorem blk3 (c : Dev nD) (t : Fin cfg0.N) (y : S1x4x384.Idx) :
    (iblk m c 3 t : Vec Ideal S1x4x384 .f32) y = M₀ m c (at5 t y) := by
  have hz : (y 0).val = 0 := Nat.lt_one_iff.mp (y 0).isLt
  unfold iblk
  rw [View.read_apply]
  show V m c main_arg3 _ = _
  rw [V_main_arg3]
  refine congrArg (M₀ m c) (funext fun d => Fin.ext ?_)
  match d with
  | ⟨0, _⟩ =>
    refine Eq.trans ?_ (at5_0 t y).symm
    show win0_3.index t 0 * 1 + 1 * (y 0).val = _
    rw [(idx_facts t).2.1, hz]; rfl
  | ⟨1, _⟩ =>
    refine Eq.trans ?_ (at5_1 t y).symm
    show win0_3.index t 1 * 4 + 1 * (y 1).val = _
    rw [(idx_facts t).2.1, one_mul]; rfl
  | ⟨2, _⟩ =>
    refine Eq.trans ?_ (at5_2 t y).symm
    show win0_3.index t 2 * 384 + 1 * (y 2).val = _
    rw [(idx_facts t).2.1, one_mul]; rfl

theorem blk4 (c : Dev nD) (t : Fin cfg0.N) (y : S1x4x384.Idx) :
    (iblk m c 4 t : Vec Ideal S1x4x384 .f32) y = V₀ m c (at5 t y) := by
  have hz : (y 0).val = 0 := Nat.lt_one_iff.mp (y 0).isLt
  unfold iblk
  rw [View.read_apply]
  show V m c main_arg4 _ = _
  rw [V_main_arg4]
  refine congrArg (V₀ m c) (funext fun d => Fin.ext ?_)
  match d with
  | ⟨0, _⟩ =>
    refine Eq.trans ?_ (at5_0 t y).symm
    show win0_4.index t 0 * 1 + 1 * (y 0).val = _
    rw [(idx_facts t).2.2.1, hz]; rfl
  | ⟨1, _⟩ =>
    refine Eq.trans ?_ (at5_1 t y).symm
    show win0_4.index t 1 * 4 + 1 * (y 1).val = _
    rw [(idx_facts t).2.2.1, one_mul]; rfl
  | ⟨2, _⟩ =>
    refine Eq.trans ?_ (at5_2 t y).symm
    show win0_4.index t 2 * 384 + 1 * (y 2).val = _
    rw [(idx_facts t).2.2.1, one_mul]; rfl

/-- Part `k` of the eight, read off the block of a point of layer 0. -/
theorem loadA (c : Dev nD) (t : Fin cfg0.N) (h : t.val % 2 = 0) (y : S1x4x384.Idx) (k : Fin 8)
    (inb : ∀ a, ![k.val, 0, 0] a + ![1, 4, 384] a ≤ S8x8x384.size a) :
    View.ld (iblk m c 0 t : Vec Ideal S8x8x384 .f32) (Rect.unit (s := S8x8x384) ![k.val, 0, 0] ![1, 4, 384] inb) (Idealize.ShloMosaic.ix3 0 (y 1) (y 2))
      = R₀ m c (ix3 k (row (at5 t y)) (col (at5 t y))) := by
  have ht : t.val < 2 := t.isLt
  show (iblk m c 0 t : Vec Ideal S8x8x384 .f32) _ = _
  unfold iblk
  rw [View.read_apply]
  show V m c main_arg0 _ = _
  rw [V_main_arg0]
  refine congrArg (R₀ m c) (funext fun d => Fin.ext ?_)
  match d with
  | ⟨0, _⟩ =>
    show win0_0.index t 0 * 8 + 1 * (k.val + 1 * 0) = k.val
    rw [idxA t h]; show 0 * 8 + _ = _; omega
  | ⟨1, _⟩ =>
    refine Eq.trans ?_ (at5_1 t y).symm
    show win0_0.index t 1 * 8 + 1 * (0 + 1 * (y 1).val) = _
    rw [idxA t h]; show (0) * 8 + _ = _; omega
  | ⟨2, _⟩ =>
    refine Eq.trans ?_ (at5_2 t y).symm
    show win0_0.index t 2 * 384 + 1 * (0 + 1 * (y 2).val) = _
    rw [idxA t h]; show 0 * 384 + _ = _; omega

theorem sumA (c : Dev nD) (t : Fin cfg0.N) (h : t.val % 2 = 0) (y : S1x4x384.Idx) :
    k0_pay3
      (View.ld (iblk m c 0 t : Vec Ideal S8x8x384 .f32) (Rect.unit (s := S8x8x384) ![0, 0, 0] ![1, 4, 384] inb_S8x8x384_S1x4x384_0_0_0))
      (View.ld (iblk m c 0 t : Vec Ideal S8x8x384 .f32) (Rect.unit (s := S8x8x384) ![1, 0, 0] ![1, 4, 384] inb_S8x8x384_S1x4x384_1_0_0))
      (View.ld (iblk m c 0 t : Vec Ideal S8x8x384 .f32) (Rect.unit (s := S8x8x384) ![2, 0, 0] ![1, 4, 384] inb_S8x8x384_S1x4x384_2_0_0))
      (View.ld (iblk m c 0 t : Vec Ideal S8x8x384 .f32) (Rect.unit (s := S8x8x384) ![3, 0, 0] ![1, 4, 384] inb_S8x8x384_S1x4x384_3_0_0))
      (View.ld (iblk m c 0 t : Vec Ideal S8x8x384 .f32) (Rect.unit (s := S8x8x384) ![4, 0, 0] ![1, 4, 384] inb_S8x8x384_S1x4x384_4_0_0))
      (View.ld (iblk m c 0 t : Vec Ideal S8x8x384 .f32) (Rect.unit (s := S8x8x384) ![5, 0, 0] ![1, 4, 384] inb_S8x8x384_S1x4x384_5_0_0))
      (View.ld (iblk m c 0 t : Vec Ideal S8x8x384 .f32) (Rect.unit (s := S8x8x384) ![6, 0, 0] ![1, 4, 384] inb_S8x8x384_S1x4x384_6_0_0))
      (View.ld (iblk m c 0 t : Vec Ideal S8x8x384 .f32) (Rect.unit (s := S8x8x384) ![7, 0, 0] ![1, 4, 384] inb_S8x8x384_S1x4x384_7_0_0)) (Idealize.ShloMosaic.ix2 (y 1) (y 2))
      = G (R₀ m c) (R₁ m c) (at5 t y) := by
  have ht : t.val < 2 := t.isLt
  have hz : (y 0).val = 0 := Nat.lt_one_iff.mp (y 0).isLt
  refine (pay3_apply _ _ _ _ _ _ _ _ _).trans ?_
  unfold G
  rw [if_pos (show (at5 t y 0).val = 0 by rw [at5_0, hz]; omega)]
  unfold part
  rw [Fin.sum_univ_eight]
  exact congrArg₂ (· + ·) (congrArg₂ (· + ·) (congrArg₂ (· + ·) (congrArg₂ (· + ·) (congrArg₂ (· + ·) (congrArg₂ (· + ·) (congrArg₂ (· + ·) (loadA m c t h y 0 _) (loadA m c t h y 1 _)) (loadA m c t h y 2 _)) (loadA m c t h y 3 _)) (loadA m c t h y 4 _)) (loadA m c t h y 5 _)) (loadA m c t h y 6 _))
    (loadA m c t h y 7 _)

/-- Part `k` of the eight, read off the block of a point of layer 1. -/
theorem loadB (c : Dev nD) (t : Fin cfg0.N) (h : t.val % 2 = 1) (y : S1x4x384.Idx) (k : Fin 8)
    (inb : ∀ a, ![k.val, 0, 0] a + ![1, 4, 384] a ≤ S8x8x384.size a) :
    View.ld (iblk m c 1 t : Vec Ideal S8x8x384 .f32) (Rect.unit (s := S8x8x384) ![k.val, 0, 0] ![1, 4, 384] inb) (Idealize.ShloMosaic.ix3 0 (y 1) (y 2))
      = R₁ m c (ix3 k (row (at5 t y)) (col (at5 t y))) := by
  have ht : t.val < 2 := t.isLt
  show (iblk m c 1 t : Vec Ideal S8x8x384 .f32) _ = _
  unfold iblk
  rw [View.read_apply]
  show V m c main_arg1 _ = _
  rw [V_main_arg1]
  refine congrArg (R₁ m c) (funext fun d => Fin.ext ?_)
  match d with
  | ⟨0, _⟩ =>
    show win0_1.index t 0 * 8 + 1 * (k.val + 1 * 0) = k.val
    rw [idxB t h]; show 0 * 8 + _ = _; omega
  | ⟨1, _⟩ =>
    refine Eq.trans ?_ (at5_1 t y).symm
    show win0_1.index t 1 * 8 + 1 * (0 + 1 * (y 1).val) = _
    rw [idxB t h]; show (0) * 8 + _ = _; omega
  | ⟨2, _⟩ =>
    refine Eq.trans ?_ (at5_2 t y).symm
    show win0_1.index t 2 * 384 + 1 * (0 + 1 * (y 2).val) = _
    rw [idxB t h]; show 0 * 384 + _ = _; omega

theorem sumB (c : Dev nD) (t : Fin cfg0.N) (h : t.val % 2 = 1) (y : S1x4x384.Idx) :
    k0_pay11
      (View.ld (iblk m c 1 t : Vec Ideal S8x8x384 .f32) (Rect.unit (s := S8x8x384) ![0, 0, 0] ![1, 4, 384] inb_S8x8x384_S1x4x384_0_0_0))
      (View.ld (iblk m c 1 t : Vec Ideal S8x8x384 .f32) (Rect.unit (s := S8x8x384) ![1, 0, 0] ![1, 4, 384] inb_S8x8x384_S1x4x384_1_0_0))
      (View.ld (iblk m c 1 t : Vec Ideal S8x8x384 .f32) (Rect.unit (s := S8x8x384) ![2, 0, 0] ![1, 4, 384] inb_S8x8x384_S1x4x384_2_0_0))
      (View.ld (iblk m c 1 t : Vec Ideal S8x8x384 .f32) (Rect.unit (s := S8x8x384) ![3, 0, 0] ![1, 4, 384] inb_S8x8x384_S1x4x384_3_0_0))
      (View.ld (iblk m c 1 t : Vec Ideal S8x8x384 .f32) (Rect.unit (s := S8x8x384) ![4, 0, 0] ![1, 4, 384] inb_S8x8x384_S1x4x384_4_0_0))
      (View.ld (iblk m c 1 t : Vec Ideal S8x8x384 .f32) (Rect.unit (s := S8x8x384) ![5, 0, 0] ![1, 4, 384] inb_S8x8x384_S1x4x384_5_0_0))
      (View.ld (iblk m c 1 t : Vec Ideal S8x8x384 .f32) (Rect.unit (s := S8x8x384) ![6, 0, 0] ![1, 4, 384] inb_S8x8x384_S1x4x384_6_0_0))
      (View.ld (iblk m c 1 t : Vec Ideal S8x8x384 .f32) (Rect.unit (s := S8x8x384) ![7, 0, 0] ![1, 4, 384] inb_S8x8x384_S1x4x384_7_0_0)) (Idealize.ShloMosaic.ix2 (y 1) (y 2))
      = G (R₀ m c) (R₁ m c) (at5 t y) := by
  have ht : t.val < 2 := t.isLt
  have hz : (y 0).val = 0 := Nat.lt_one_iff.mp (y 0).isLt
  refine (pay11_apply _ _ _ _ _ _ _ _ _).trans ?_
  unfold G
  rw [if_neg (show ¬(at5 t y 0).val = 0 by rw [at5_0, hz]; omega)]
  unfold part
  rw [Fin.sum_univ_eight]
  exact congrArg₂ (· + ·) (congrArg₂ (· + ·) (congrArg₂ (· + ·) (congrArg₂ (· + ·) (congrArg₂ (· + ·) (congrArg₂ (· + ·) (congrArg₂ (· + ·) (loadB m c t h y 0 _) (loadB m c t h y 1 _)) (loadB m c t h y 2 _)) (loadB m c t h y 3 _)) (loadB m c t h y 4 _)) (loadB m c t h y 5 _)) (loadB m c t h y 6 _))
    (loadB m c t h y 7 _)

/-! ## The arrays after the run -/

theorem out5_eq (c : Dev nD) (t : Fin cfg0.N) (y : S1x4x384.Idx) : (outsAt0 m c t.val t.isLt).1 y = G (R₀ m c) (R₁ m c) (at5 t y) := by
  by_cases h : t.val % 2 = 0
  · rw [outsAt0_A m c t h (by omega)]
    frame_out
    exact (pay8_apply _ y).trans (sumA m c t h y)
  · have h' : t.val % 2 = 1 := by omega
    rw [outsAt0_B m c t h h']
    frame_out
    exact (pay16_apply _ y).trans (sumB m c t h' y)

theorem final5 (c : Dev nD) : (dats m 0 c).arrAt 5 cfg0.N = G (R₀ m c) (R₁ m c) := by
  refine (dats m 0 c).arrAt_eq_of_covers 5 _ (by decide +kernel) fun t hf y => ?_
  blk_simp
  rw [after0_5]
  exact (out5_eq m c t y).trans (congrArg _ (rfl))

theorem out6_eq (c : Dev nD) (t : Fin cfg0.N) (y : S1x4x384.Idx) : (outsAt0 m c t.val t.isLt).2.1 y = D (R₀ m c) (R₁ m c) (W m c) (M₀ m c) (V₀ m c) (at5 t y) := by
  by_cases h : t.val % 2 = 0
  · rw [outsAt0_A m c t h (by omega)]
    frame_out
    exact (deltaA_apply _ _ _ _ y).trans (delta_congr (sumA m c t h y) (blk2 m c t y) (blk3 m c t y) (blk4 m c t y))
  · have h' : t.val % 2 = 1 := by omega
    rw [outsAt0_B m c t h h']
    frame_out
    exact (deltaB_apply _ _ _ _ y).trans (delta_congr (sumB m c t h' y) (blk2 m c t y) (blk3 m c t y) (blk4 m c t y))

theorem final6 (c : Dev nD) : (dats m 0 c).arrAt 6 cfg0.N = D (R₀ m c) (R₁ m c) (W m c) (M₀ m c) (V₀ m c) := by
  refine (dats m 0 c).arrAt_eq_of_covers 6 _ (by decide +kernel) fun t hf y => ?_
  blk_simp
  rw [after0_6]
  exact (out6_eq m c t y).trans (congrArg _ ((at6_eq t y).symm))

theorem out7_eq (c : Dev nD) (t : Fin cfg0.N) (y : S1x4x384.Idx) : (outsAt0 m c t.val t.isLt).2.2.1 y = M (R₀ m c) (R₁ m c) (M₀ m c) (at5 t y) := by
  by_cases h : t.val % 2 = 0
  · rw [outsAt0_A m c t h (by omega)]
    frame_out
    exact (mom1A_apply _ _ y).trans (mom1_congr (sumA m c t h y) (blk3 m c t y))
  · have h' : t.val % 2 = 1 := by omega
    rw [outsAt0_B m c t h h']
    frame_out
    exact (mom1B_apply _ _ y).trans (mom1_congr (sumB m c t h' y) (blk3 m c t y))

theorem final7 (c : Dev nD) : (dats m 0 c).arrAt 7 cfg0.N = M (R₀ m c) (R₁ m c) (M₀ m c) := by
  refine (dats m 0 c).arrAt_eq_of_covers 7 _ (by decide +kernel) fun t hf y => ?_
  blk_simp
  rw [after0_7]
  exact (out7_eq m c t y).trans (congrArg _ ((at7_eq t y).symm))

theorem out8_eq (c : Dev nD) (t : Fin cfg0.N) (y : S1x4x384.Idx) : (outsAt0 m c t.val t.isLt).2.2.2 y = Q (R₀ m c) (R₁ m c) (V₀ m c) (at5 t y) := by
  by_cases h : t.val % 2 = 0
  · rw [outsAt0_A m c t h (by omega)]
    frame_out
    exact (mom2A_apply _ _ y).trans (mom2_congr (sumA m c t h y) (blk4 m c t y))
  · have h' : t.val % 2 = 1 := by omega
    rw [outsAt0_B m c t h h']
    frame_out
    exact (mom2B_apply _ _ y).trans (mom2_congr (sumB m c t h' y) (blk4 m c t y))

theorem final8 (c : Dev nD) : (dats m 0 c).arrAt 8 cfg0.N = Q (R₀ m c) (R₁ m c) (V₀ m c) := by
  refine (dats m 0 c).arrAt_eq_of_covers 8 _ (by decide +kernel) fun t hf y => ?_
  blk_simp
  rw [after0_8]
  exact (out8_eq m c t y).trans (congrArg _ ((at8_eq t y).symm))

/-! ## The reference -/

open Cert.AdamConvRefIdeal.Read

section Ref

variable (R₀ R₁ : S8x8x384.Idx → EReal) (W M₀ V₀ : S2x4x384.Idx → EReal)

theorem first_eq (i : S2x4x384.Idx) : val_main_v4 (F := Ideal) R₀ (ix3 (n0 := 1) (n1 := 4) (n2 := 384) 0 (i 1) (i 2)) = part R₀ i := by
  rw [val_main_v4_apply, val_main_v1_apply, val_main_v0_apply]
  show Ideal.ofBits .f32 0x00000000#32 + ∑ k : Fin 8, R₀ _ = _
  rw [Ideal.ofBits_zero_f32, zero_add]
  exact Finset.sum_congr rfl fun k _ => congrArg R₀ (funext fun d => match d with | ⟨0, _⟩ => rfl | ⟨1, _⟩ => rfl | ⟨2, _⟩ => rfl)

theorem second_eq (i : S2x4x384.Idx) : val_main_v5 (F := Ideal) R₁ (ix3 (n0 := 1) (n1 := 4) (n2 := 384) 0 (i 1) (i 2)) = part R₁ i := by
  rw [val_main_v5_apply, val_main_v3_apply, val_main_v2_apply]
  show Ideal.ofBits .f32 0x00000000#32 + ∑ k : Fin 8, R₁ _ = _
  rw [Ideal.ofBits_zero_f32, zero_add]
  exact Finset.sum_congr rfl fun k _ => congrArg R₁ (funext fun d => match d with | ⟨0, _⟩ => rfl | ⟨1, _⟩ => rfl | ⟨2, _⟩ => rfl)

theorem refG : val_main_v6 (F := Ideal) R₀ R₁ = G R₀ R₁ := by
  funext i
  have hi : (i 0).val < 2 := (i 0).isLt
  unfold val_main_v6 G
  by_cases h : (i 0).val = 0
  · rw [if_pos h]
    exact (stack_first _ _ _ i h).trans (first_eq R₀ i)
  · rw [if_neg h]
    exact (stack_second _ _ _ i (by omega)).trans (second_eq R₁ i)

theorem refM : val_main_v11 (F := Ideal) R₀ R₁ M₀ = M R₀ R₁ M₀ := by
  funext i
  show val_main_v7 (F := Ideal) i * M₀ i + val_main_v9 (F := Ideal) i * val_main_v6 (F := Ideal) R₀ R₁ i = _
  rw [val_main_v7_apply, val_main_v9_apply, refG]
  rfl

theorem refQ : val_main_v17 (F := Ideal) R₀ R₁ V₀ = Q R₀ R₁ V₀ := by
  funext i
  show val_main_v12 (F := Ideal) i * V₀ i
    + val_main_v15 (F := Ideal) i * (val_main_v6 (F := Ideal) R₀ R₁ i * val_main_v6 (F := Ideal) R₀ R₁ i) = _
  rw [val_main_v12_apply, val_main_v15_apply, refG]
  rfl

theorem refD : val_main_v30 (F := Ideal) R₀ R₁ W M₀ V₀ = D R₀ R₁ W M₀ V₀ := by
  funext i
  show val_main_v29 (F := Ideal) i * (Ideal.div
    (Ideal.div (val_main_v11 (F := Ideal) R₀ R₁ M₀ i) (val_main_v18 (F := Ideal) i))
    (Ideal.sqrt (Ideal.div (val_main_v17 (F := Ideal) R₀ R₁ V₀ i) (val_main_v20 (F := Ideal) i)) + val_main_v23 (F := Ideal) i)
    + val_main_v26 (F := Ideal) i * W i) = _
  rw [val_main_v29_apply, val_main_v18_apply, val_main_v20_apply, val_main_v23_apply, val_main_v26_apply, refM, refQ]
  rfl

end Ref

/-! ## The claims -/

theorem frame : Cert.quiescent_AdamConv := fun m ρ _ => Cert.AdamConv.Gen.frame m ρ
theorem frame_ideal : Cert.quiescent_AdamConvIdeal := fun m ρ _ => Cert.AdamConvIdeal.Gen.frame m ρ
theorem frame_ref : Cert.quiescent_AdamConvRefIdeal := fun m ρ _ =>
  (θ_run Cert.AdamConvRefIdeal.defs _ _).mono (fun r h => ⟨fun c => (h c).2.2.2.2, sem_eq_zero_of_no_sems (by decide) r.2⟩)
    (Cert.AdamConvRefIdeal.Value.run (F := Ideal) m ρ)

theorem preserves : Cert.preserves_AdamConv_AdamConvIdeal := trivial

theorem algebraic : Cert.algebraic_AdamConvIdeal_AdamConvRefIdeal := by
  intro m ρ m' ρ' _ hagree
  refine ⟨fun c => G (R₀ m c) (R₁ m c), fun c => D (R₀ m c) (R₁ m c) (W m c) (M₀ m c) (V₀ m c), fun c => M (R₀ m c) (R₁ m c) (M₀ m c), fun c => Q (R₀ m c) (R₁ m c) (V₀ m c), ?_, ?_⟩
  · exact (θ_run Cert.AdamConvIdeal.defs _ _).mono (fun _ h c => ⟨(h c).1.trans (final5 m c), (h c).2.1.trans (final6 m c), (h c).2.2.1.trans (final7 m c), (h c).2.2.2.1.trans (final8 m c), (h c).2.2.2.2⟩)
      (Cert.AdamConvIdeal.Value.run_blocks (F := Ideal) m ρ)
  refine (θ_run Cert.AdamConvRefIdeal.defs _ _).mono (fun r h c => ?_) (Cert.AdamConvRefIdeal.Value.run (F := Ideal) m' ρ')
  have hc := h c
  rw [(hagree c).1, (hagree c).2.1, (hagree c).2.2.1, (hagree c).2.2.2.1, (hagree c).2.2.2.2] at hc
  exact ⟨hc.1.trans (refG (R₀ m c) (R₁ m c)), hc.2.1.trans (refD (R₀ m c) (R₁ m c) (W m c) (M₀ m c) (V₀ m c)), hc.2.2.1.trans (refM (R₀ m c) (R₁ m c) (M₀ m c)), hc.2.2.2.1.trans (refQ (R₀ m c) (R₁ m c) (V₀ m c)), (h c).2.2.2.2⟩

end Cert.Proof.AdamConvVal

end
-- ==== Proof.AdamSmallVal.lean ====
/-
  The AdamW step of the small weights: the gradient summed over the eight devices' parts, the two moments and the change of the
  weight; and that they are the same lines over the whole arrays.
-/
module

public import proofs.«01_k».proof.Defs
public import proofs.«01_k».proof.Proof.Common
public import proofs.«01_k».proof.Proof.Gen.AdamSmall.Frame
public import proofs.«01_k».proof.Proof.Gen.AdamSmallIdeal.Value
public import proofs.«01_k».proof.Proof.Gen.AdamSmallRefIdeal.Read
public import proofs.«01_k».proof.Proof.AdamForm
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic hiding ix1 ix2 ix3 ix4 ix5
open Idealize.ShloMosaic.TcCoe Idealize.ShloMosaic.ValueIdx Idealize.SL.Sem
open Idealize.ShloMosaic.Pipeline (Dat)
open scoped BigOperators

namespace Cert.Proof.AdamSmallVal

open Cert.AdamSmallIdeal Cert.AdamSmallIdeal.Gen Cert.Common Cert.AdamForm

/-- The gradient: the sum of the eight parts. -/
def G (R : S8x1088x128.Idx → EReal) (i : S1088x128.Idx) : EReal := ∑ k : Fin 8, R (ix3 k (i 0) (i 1))

/-- The first moment, the second moment and the change of the weights at an index. -/
def M (R : S8x1088x128.Idx → EReal) (M₀ : S1088x128.Idx → EReal) (i : S1088x128.Idx) : EReal := mom1 (G R i) (M₀ i)
def Q (R : S8x1088x128.Idx → EReal) (V₀ : S1088x128.Idx → EReal) (i : S1088x128.Idx) : EReal := mom2 (G R i) (V₀ i)
def D (R : S8x1088x128.Idx → EReal) (W M₀ V₀ : S1088x128.Idx → EReal) (i : S1088x128.Idx) : EReal := delta (G R i) (W i) (M₀ i) (V₀ i)

/-- Part `k` of the eight, read as a block. -/
theorem part_apply (x : Vec Ideal S8x1088x128 .f32) (k : Fin 8) (inb : ∀ a, ![k.val, 0, 0] a + S1x1088x128.size a ≤ S8x1088x128.size a)
    (a : Fin 1088) (b : Fin 128) :
    View.ld x (Rect.unit (s := S8x1088x128) ![k.val, 0, 0] S1x1088x128.size inb) (Idealize.ShloMosaic.ix3 0 a b) = x (ix3 k a b) := by
  refine congrArg x (funext fun d => Fin.ext ?_)
  match d with
  | ⟨0, _⟩ => show k.val + 1 * 0 = k.val; omega
  | ⟨1, _⟩ => show 0 + 1 * a.val = a.val; omega
  | ⟨2, _⟩ => show 0 + 1 * b.val = b.val; omega

/-- The sum of eight blocks. -/
theorem pay4_apply (v0 v1 v2 v3 v4 v5 v6 v7 : Vec Ideal S1x1088x128 .f32) (j : S1088x128.Idx) :
    k0_pay4 v0 v1 v2 v3 v4 v5 v6 v7 j
      = v0 (Idealize.ShloMosaic.ix3 0 (j 0) (j 1)) + v1 (Idealize.ShloMosaic.ix3 0 (j 0) (j 1))
        + v2 (Idealize.ShloMosaic.ix3 0 (j 0) (j 1)) + v3 (Idealize.ShloMosaic.ix3 0 (j 0) (j 1))
        + v4 (Idealize.ShloMosaic.ix3 0 (j 0) (j 1)) + v5 (Idealize.ShloMosaic.ix3 0 (j 0) (j 1))
        + v6 (Idealize.ShloMosaic.ix3 0 (j 0) (j 1)) + v7 (Idealize.ShloMosaic.ix3 0 (j 0) (j 1)) := by
  unfold k0_pay4
  pointwise

theorem sum_eq (x : Vec Ideal S8x1088x128 .f32) (j : S1088x128.Idx) :
    k0_pay4 (View.ld x r0_0) (View.ld x r0_1) (View.ld x r0_2) (View.ld x r0_3) (View.ld x r0_4) (View.ld x r0_5) (View.ld x r0_6)
      (View.ld x r0_7) j = G x j := by
  refine (pay4_apply _ _ _ _ _ _ _ _ j).trans ?_
  unfold G
  rw [Fin.sum_univ_eight]
  exact congrArg₂ (· + ·) (congrArg₂ (· + ·) (congrArg₂ (· + ·) (congrArg₂ (· + ·) (congrArg₂ (· + ·) (congrArg₂ (· + ·) (congrArg₂ (· + ·)
    (part_apply x 0 _ _ _) (part_apply x 1 _ _ _)) (part_apply x 2 _ _ _)) (part_apply x 3 _ _ _)) (part_apply x 4 _ _ _))
    (part_apply x 5 _ _ _)) (part_apply x 6 _ _ _)) (part_apply x 7 _ _ _)

theorem pay1_apply (g m : Vec Ideal S1088x128 .f32) (j : S1088x128.Idx) : k0_pay1 g m j = mom1 (g j) (m j) := rfl
theorem pay2_apply (g v : Vec Ideal S1088x128 .f32) (j : S1088x128.Idx) : k0_pay2 g v j = mom2 (g j) (v j) := rfl
theorem pay3_apply (g w m v : Vec Ideal S1088x128 .f32) (j : S1088x128.Idx) : k0_pay3 g w m v j = delta (g j) (w j) (m j) (v j) := rfl

/-- Which block each window shows at a grid point. -/
theorem idx_facts : ∀ t : Fin grid0.N,
    win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] := by
  decide +kernel

variable (m : (ℓ : Loc nD τ sig) → Buf (Elt Ideal) ℓ) (ρ : Dev nD → PrngReg)

/-- The argument arrays of device `c`. -/
abbrev R (c : Dev nD) : S8x1088x128.Idx → EReal := m ((c : Thread nD τ).loc main_arg0)
abbrev W (c : Dev nD) : S1088x128.Idx → EReal := m ((c : Thread nD τ).loc main_arg1)
abbrev M₀ (c : Dev nD) : S1088x128.Idx → EReal := m ((c : Thread nD τ).loc main_arg2)
abbrev V₀ (c : Dev nD) : S1088x128.Idx → EReal := m ((c : Thread nD τ).loc main_arg3)

/-- The index of result 4 that point `t` touches at index `j` of its block. -/
def at4 (t : Fin cfg0.N) (j : S1088x128.Idx) : S1088x128.Idx := (win0_4.blk t).view.emb j

theorem at4_0 (t : Fin cfg0.N) (j : S1088x128.Idx) : (at4 t j 0).val = (0) * 1088 + (j 0).val := by
  have h : (at4 t j 0).val = win0_4.index t 0 * 1088 + 1 * (j 0).val := rfl
  rw [h, (idx_facts t).2.2.2.2.1, one_mul]; rfl
theorem at4_1 (t : Fin cfg0.N) (j : S1088x128.Idx) : (at4 t j 1).val = (0) * 128 + (j 1).val := by
  have h : (at4 t j 1).val = win0_4.index t 1 * 128 + 1 * (j 1).val := rfl
  rw [h, (idx_facts t).2.2.2.2.1, one_mul]; rfl

/-- The index of result 5 that point `t` touches at index `j` of its block. -/
def at5 (t : Fin cfg0.N) (j : S1088x128.Idx) : S1088x128.Idx := (win0_5.blk t).view.emb j

theorem at5_0 (t : Fin cfg0.N) (j : S1088x128.Idx) : (at5 t j 0).val = (0) * 1088 + (j 0).val := by
  have h : (at5 t j 0).val = win0_5.index t 0 * 1088 + 1 * (j 0).val := rfl
  rw [h, (idx_facts t).2.2.2.2.2.1, one_mul]; rfl
theorem at5_1 (t : Fin cfg0.N) (j : S1088x128.Idx) : (at5 t j 1).val = (0) * 128 + (j 1).val := by
  have h : (at5 t j 1).val = win0_5.index t 1 * 128 + 1 * (j 1).val := rfl
  rw [h, (idx_facts t).2.2.2.2.2.1, one_mul]; rfl

/-- The index of result 6 that point `t` touches at index `j` of its block. -/
def at6 (t : Fin cfg0.N) (j : S1088x128.Idx) : S1088x128.Idx := (win0_6.blk t).view.emb j

theorem at6_0 (t : Fin cfg0.N) (j : S1088x128.Idx) : (at6 t j 0).val = (0) * 1088 + (j 0).val := by
  have h : (at6 t j 0).val = win0_6.index t 0 * 1088 + 1 * (j 0).val := rfl
  rw [h, (idx_facts t).2.2.2.2.2.2.1, one_mul]; rfl
theorem at6_1 (t : Fin cfg0.N) (j : S1088x128.Idx) : (at6 t j 1).val = (0) * 128 + (j 1).val := by
  have h : (at6 t j 1).val = win0_6.index t 1 * 128 + 1 * (j 1).val := rfl
  rw [h, (idx_facts t).2.2.2.2.2.2.1, one_mul]; rfl

/-- The index of result 7 that point `t` touches at index `j` of its block. -/
def at7 (t : Fin cfg0.N) (j : S1088x128.Idx) : S1088x128.Idx := (win0_7.blk t).view.emb j

theorem at7_0 (t : Fin cfg0.N) (j : S1088x128.Idx) : (at7 t j 0).val = (0) * 1088 + (j 0).val := by
  have h : (at7 t j 0).val = win0_7.index t 0 * 1088 + 1 * (j 0).val := rfl
  rw [h, (idx_facts t).2.2.2.2.2.2.2, one_mul]; rfl
theorem at7_1 (t : Fin cfg0.N) (j : S1088x128.Idx) : (at7 t j 1).val = (0) * 128 + (j 1).val := by
  have h : (at7 t j 1).val = win0_7.index t 1 * 128 + 1 * (j 1).val := rfl
  rw [h, (idx_facts t).2.2.2.2.2.2.2, one_mul]; rfl

theorem at4_eq (t : Fin cfg0.N) (j : S1088x128.Idx) : at4 t j = j :=
  Shape.idx_ext₂ (n := ![1088, 128]) (by rw [at4_0]; omega) (by rw [at4_1]; omega)
theorem at5_eq (t : Fin cfg0.N) (j : S1088x128.Idx) : at5 t j = j :=
  Shape.idx_ext₂ (n := ![1088, 128]) (by rw [at5_0]; omega) (by rw [at5_1]; omega)
theorem at6_eq (t : Fin cfg0.N) (j : S1088x128.Idx) : at6 t j = j :=
  Shape.idx_ext₂ (n := ![1088, 128]) (by rw [at6_0]; omega) (by rw [at6_1]; omega)
theorem at7_eq (t : Fin cfg0.N) (j : S1088x128.Idx) : at7 t j = j :=
  Shape.idx_ext₂ (n := ![1088, 128]) (by rw [at7_0]; omega) (by rw [at7_1]; omega)

/-- Each argument's one block is the whole array. -/
theorem blk0 (c : Dev nD) (t : Fin cfg0.N) : (iblk m c 0 t : Vec Ideal S8x1088x128 .f32) = R m c := by
  funext j
  unfold iblk
  rw [View.read_apply]
  show V m c main_arg0 _ = _
  rw [V_main_arg0]
  refine congrArg (R m c) (funext fun d => Fin.ext ?_)
  match d with
  | ⟨0, _⟩ => show win0_0.index t 0 * 8 + 1 * (j 0).val = (j 0).val; rw [(idx_facts t).1]; show 0 * 8 + _ = _; omega
  | ⟨1, _⟩ => show win0_0.index t 1 * 1088 + 1 * (j 1).val = (j 1).val; rw [(idx_facts t).1]; show 0 * 1088 + _ = _; omega
  | ⟨2, _⟩ => show win0_0.index t 2 * 128 + 1 * (j 2).val = (j 2).val; rw [(idx_facts t).1]; show 0 * 128 + _ = _; omega
theorem blk1 (c : Dev nD) (t : Fin cfg0.N) : (iblk m c 1 t : Vec Ideal S1088x128 .f32) = W m c := by
  funext j
  unfold iblk
  rw [View.read_apply]
  show V m c main_arg1 _ = _
  rw [V_main_arg1]
  refine congrArg (W m c) (Shape.idx_ext₂ (n := ![1088, 128]) ?_ ?_)
  · show win0_1.index t 0 * 1088 + 1 * (j 0).val = (j 0).val; rw [(idx_facts t).2.1]; show 0 * 1088 + _ = _; omega
  · show win0_1.index t 1 * 128 + 1 * (j 1).val = (j 1).val; rw [(idx_facts t).2.1]; show 0 * 128 + _ = _; omega
theorem blk2 (c : Dev nD) (t : Fin cfg0.N) : (iblk m c 2 t : Vec Ideal S1088x128 .f32) = M₀ m c := by
  funext j
  unfold iblk
  rw [View.read_apply]
  show V m c main_arg2 _ = _
  rw [V_main_arg2]
  refine congrArg (M₀ m c) (Shape.idx_ext₂ (n := ![1088, 128]) ?_ ?_)
  · show win0_2.index t 0 * 1088 + 1 * (j 0).val = (j 0).val; rw [(idx_facts t).2.2.1]; show 0 * 1088 + _ = _; omega
  · show win0_2.index t 1 * 128 + 1 * (j 1).val = (j 1).val; rw [(idx_facts t).2.2.1]; show 0 * 128 + _ = _; omega
theorem blk3 (c : Dev nD) (t : Fin cfg0.N) : (iblk m c 3 t : Vec Ideal S1088x128 .f32) = V₀ m c := by
  funext j
  unfold iblk
  rw [View.read_apply]
  show V m c main_arg3 _ = _
  rw [V_main_arg3]
  refine congrArg (V₀ m c) (Shape.idx_ext₂ (n := ![1088, 128]) ?_ ?_)
  · show win0_3.index t 0 * 1088 + 1 * (j 0).val = (j 0).val; rw [(idx_facts t).2.2.2.1]; show 0 * 1088 + _ = _; omega
  · show win0_3.index t 1 * 128 + 1 * (j 1).val = (j 1).val; rw [(idx_facts t).2.2.2.1]; show 0 * 128 + _ = _; omega

/-! ## The arrays after the run -/

theorem out4_eq (R : S8x1088x128.Idx → EReal) (W M₀ V₀ : S1088x128.Idx → EReal) (y : S1088x128.Idx) :
    out0_4 (F := Ideal) R W M₀ V₀ y = G R y := by
  unfold out0_4
  rw [View.canon_unit_zero zero2]
  repeat rw [View.ld_unit_zero zero2]
  exact sum_eq _ _

theorem final4 (c : Dev nD) : (dats m 0 c).arrAt 4 cfg0.N = G (R m c) := by
  refine (dats m 0 c).arrAt_eq_of_covers 4 _ (by decide +kernel) fun t hf y => ?_
  blk_simp
  rw [after0_4, blk0, blk1, blk2, blk3]
  exact (out4_eq _ _ _ _ y).trans (congrArg _ (at4_eq t y).symm)

theorem out5_eq (R : S8x1088x128.Idx → EReal) (W M₀ V₀ : S1088x128.Idx → EReal) (y : S1088x128.Idx) :
    out0_5 (F := Ideal) R W M₀ V₀ y = D R W M₀ V₀ y := by
  unfold out0_5
  rw [View.canon_unit_zero zero2]
  repeat rw [View.ld_unit_zero zero2]
  exact (pay3_apply _ _ _ _ _).trans (congrArg (delta · _ _ _) (sum_eq _ _))

theorem final5 (c : Dev nD) : (dats m 0 c).arrAt 5 cfg0.N = D (R m c) (W m c) (M₀ m c) (V₀ m c) := by
  refine (dats m 0 c).arrAt_eq_of_covers 5 _ (by decide +kernel) fun t hf y => ?_
  blk_simp
  rw [after0_5, blk0, blk1, blk2, blk3]
  exact (out5_eq _ _ _ _ y).trans (congrArg _ (at5_eq t y).symm)

theorem out6_eq (R : S8x1088x128.Idx → EReal) (W M₀ V₀ : S1088x128.Idx → EReal) (y : S1088x128.Idx) :
    out0_6 (F := Ideal) R W M₀ V₀ y = M R M₀ y := by
  unfold out0_6
  rw [View.canon_unit_zero zero2]
  repeat rw [View.ld_unit_zero zero2]
  exact (pay1_apply _ _ _).trans (congrArg (mom1 · _) (sum_eq _ _))

theorem final6 (c : Dev nD) : (dats m 0 c).arrAt 6 cfg0.N = M (R m c) (M₀ m c) := by
  refine (dats m 0 c).arrAt_eq_of_covers 6 _ (by decide +kernel) fun t hf y => ?_
  blk_simp
  rw [after0_6, blk0, blk1, blk2, blk3]
  exact (out6_eq _ _ _ _ y).trans (congrArg _ (at6_eq t y).symm)

theorem out7_eq (R : S8x1088x128.Idx → EReal) (W M₀ V₀ : S1088x128.Idx → EReal) (y : S1088x128.Idx) :
    out0_7 (F := Ideal) R W M₀ V₀ y = Q R V₀ y := by
  unfold out0_7
  rw [View.canon_unit_zero zero2]
  repeat rw [View.ld_unit_zero zero2]
  exact (pay2_apply _ _ _).trans (congrArg (mom2 · _) (sum_eq _ _))

theorem final7 (c : Dev nD) : (dats m 0 c).arrAt 7 cfg0.N = Q (R m c) (V₀ m c) := by
  refine (dats m 0 c).arrAt_eq_of_covers 7 _ (by decide +kernel) fun t hf y => ?_
  blk_simp
  rw [after0_7, blk0, blk1, blk2, blk3]
  exact (out7_eq _ _ _ _ y).trans (congrArg _ (at7_eq t y).symm)

/-! ## The reference -/

open Cert.AdamSmallRefIdeal.Read

section Ref

variable (R : S8x1088x128.Idx → EReal) (W M₀ V₀ : S1088x128.Idx → EReal)

theorem ref0 : val_main_v0 (F := Ideal) R = G R := by
  funext i
  rw [val_main_v0_apply]
  show Ideal.ofBits .f32 0x00000000#32 + ∑ k : Fin 8, R _ = ∑ k : Fin 8, R (ix3 k (i 0) (i 1))
  rw [Ideal.ofBits_zero_f32, zero_add]
  exact Finset.sum_congr rfl fun k _ => congrArg R (funext fun d => match d with | ⟨0, _⟩ => rfl | ⟨1, _⟩ => rfl | ⟨2, _⟩ => rfl)

theorem ref5 : val_main_v5 (F := Ideal) R M₀ = M R M₀ := by
  funext i
  show val_main_v1 (F := Ideal) i * M₀ i + val_main_v3 (F := Ideal) i * val_main_v0 (F := Ideal) R i = _
  rw [val_main_v1_apply, val_main_v3_apply, ref0]
  rfl

theorem ref11 : val_main_v11 (F := Ideal) R V₀ = Q R V₀ := by
  funext i
  show val_main_v6 (F := Ideal) i * V₀ i
    + val_main_v9 (F := Ideal) i * (val_main_v0 (F := Ideal) R i * val_main_v0 (F := Ideal) R i) = _
  rw [val_main_v6_apply, val_main_v9_apply, ref0]
  rfl

theorem ref24 : val_main_v24 (F := Ideal) R W M₀ V₀ = D R W M₀ V₀ := by
  funext i
  show val_main_v23 (F := Ideal) i * (Ideal.div (Ideal.div (val_main_v5 (F := Ideal) R M₀ i) (val_main_v12 (F := Ideal) i))
    (Ideal.sqrt (Ideal.div (val_main_v11 (F := Ideal) R V₀ i) (val_main_v14 (F := Ideal) i)) + val_main_v17 (F := Ideal) i)
    + val_main_v20 (F := Ideal) i * W i) = _
  rw [val_main_v23_apply, val_main_v12_apply, val_main_v14_apply, val_main_v17_apply, val_main_v20_apply, ref5, ref11]
  rfl

end Ref

/-! ## The claims -/

theorem frame : Cert.quiescent_AdamSmall := fun m ρ _ => Cert.AdamSmall.Gen.frame m ρ
theorem frame_ideal : Cert.quiescent_AdamSmallIdeal := fun m ρ _ => Cert.AdamSmallIdeal.Gen.frame m ρ
theorem frame_ref : Cert.quiescent_AdamSmallRefIdeal := fun m ρ _ =>
  (θ_run Cert.AdamSmallRefIdeal.defs _ _).mono (fun r h => ⟨fun c => (h c).2.2.2.2, sem_eq_zero_of_no_sems (by decide) r.2⟩)
    (Cert.AdamSmallRefIdeal.Value.run (F := Ideal) m ρ)

theorem preserves : Cert.preserves_AdamSmall_AdamSmallIdeal := trivial

theorem algebraic : Cert.algebraic_AdamSmallIdeal_AdamSmallRefIdeal := by
  intro m ρ m' ρ' _ hagree
  refine ⟨fun c => G (R m c), fun c => D (R m c) (W m c) (M₀ m c) (V₀ m c), fun c => M (R m c) (M₀ m c), fun c => Q (R m c) (V₀ m c), ?_, ?_⟩
  · exact (θ_run Cert.AdamSmallIdeal.defs _ _).mono (fun _ h c => ⟨(h c).1.trans (final4 m c), (h c).2.1.trans (final5 m c), (h c).2.2.1.trans (final6 m c), (h c).2.2.2.1.trans (final7 m c), (h c).2.2.2.2⟩)
      (Cert.AdamSmallIdeal.Value.run_blocks (F := Ideal) m ρ)
  refine (θ_run Cert.AdamSmallRefIdeal.defs _ _).mono (fun r h c => ?_) (Cert.AdamSmallRefIdeal.Value.run (F := Ideal) m' ρ')
  have hc := h c
  rw [(hagree c).1, (hagree c).2.1, (hagree c).2.2.1, (hagree c).2.2.2] at hc
  exact ⟨hc.1.trans (ref0 (R m c)), hc.2.1.trans (ref24 (R m c) (W m c) (M₀ m c) (V₀ m c)), hc.2.2.1.trans (ref5 (R m c) (M₀ m c)), hc.2.2.2.1.trans (ref11 (R m c) (V₀ m c)), (h c).2.2.2.2⟩

end Cert.Proof.AdamSmallVal

end
-- ==== Proof.DeltaRun.lean ====
/-
  THE RUN OF THE DELTA RULE'S BACKWARD CALL. The kernel walks the chunks from the last to the first, carrying in a scratch
  buffer one matrix for each head. The block of the queries' gradient depends on the point's input blocks alone, so the
  pieces stored there are named; the carried state and the other three results are kept at some contents, which nothing here names.
-/
module

public import proofs.«01_k».proof.Defs
public import proofs.«01_k».proof.Proof.Gen.DeltaIdeal.Frame
public import proofs.«01_k».proof.Proof.Gen.DeltaIdeal.Skeleton
public import Idealize.ShloMosaic.Lib.Quiescent

@[expose] public section

set_option maxRecDepth 16384

noncomputable section

namespace Cert.Proof.DeltaRun

open Cert.DeltaIdeal Cert.DeltaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at the first point, where it clears the carried state: the pieces it leaves in the block of the queries' gradient, and
    that it runs, giving the nine input blocks back, those pieces written, and the other results and the carried state at some contents. -/
noncomputable def runA (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S8x1x128x128 .f32) (harg6 : arg6.IsWhole) (arg7 : Memref sig .tc .vmem S8x1x128x128 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x128 .f32) (harg14 : arg14.IsWhole) (arg15 : Memref sig .tc .vmem S8x128x128 .f32) (harg15 : arg15.IsWhole)
    (hc1 : k0_cond1 i = 1#1) (hc2 : k0_cond2 i = 1#1) (hc3 : ¬k0_cond3 i = 1#1) (x0 : Vec F S128x1024 .f32) (x1 : Vec F S128x1024 .f32) (x2 : Vec F S128x1024 .f32) (x3 : Vec F S128x128 .f32) (x4 : Vec F S8x1x128x128 .f32) (x5 : Vec F S8x1x128x128 .f32) (x6 : Vec F S128x1024 .f32) (x7 : Vec F S128x1024 .f32) (x8 : Vec F S128x1024 .bf16) :
    { L : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_delta_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_delta_bwd_eq_skeleton]; unfold cc0_delta_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact HS
    ipureintro; rfl

end Cert.Proof.DeltaRun

end
-- ==== Proof.DeltaRunB.lean ====
/-
  THE RUN OF THE DELTA RULE'S BACKWARD CALL. The kernel walks the chunks from the last to the first, carrying in a scratch
  buffer one matrix for each head. The block of the queries' gradient depends on the point's input blocks alone, so the
  pieces stored there are named; the carried state and the other three results are kept at some contents, which nothing here names.
-/
module

public import proofs.«01_k».proof.Defs
public import proofs.«01_k».proof.Proof.Gen.DeltaIdeal.Frame
public import proofs.«01_k».proof.Proof.Gen.DeltaIdeal.Skeleton
public import Idealize.ShloMosaic.Lib.Quiescent
public import proofs.«01_k».proof.Proof.DeltaRun

@[expose] public section

set_option maxRecDepth 16384

noncomputable section

namespace Cert.Proof.DeltaRun

open Cert.DeltaIdeal Cert.DeltaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at every other point: the pieces it leaves in the block of the queries' gradient, and
    that it runs, giving the nine input blocks back, those pieces written, and the other results and the carried state at some contents. -/
noncomputable def runB (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S8x1x128x128 .f32) (harg6 : arg6.IsWhole) (arg7 : Memref sig .tc .vmem S8x1x128x128 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x128 .f32) (harg14 : arg14.IsWhole) (arg15 : Memref sig .tc .vmem S8x128x128 .f32) (harg15 : arg15.IsWhole)
    (hc1 : ¬k0_cond1 i = 1#1) (hc2 : k0_cond2 i = 1#1) (hc3 : ¬k0_cond3 i = 1#1) (x0 : Vec F S128x1024 .f32) (x1 : Vec F S128x1024 .f32) (x2 : Vec F S128x1024 .f32) (x3 : Vec F S128x128 .f32) (x4 : Vec F S8x1x128x128 .f32) (x5 : Vec F S8x1x128x128 .f32) (x6 : Vec F S128x1024 .f32) (x7 : Vec F S128x1024 .f32) (x8 : Vec F S128x1024 .bf16) :
    { L : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_delta_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_delta_bwd_eq_skeleton]; unfold cc0_delta_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact HS
    ipureintro; rfl

end Cert.Proof.DeltaRun

end
-- ==== Proof.DeltaFrame.lean ====
/-
  THE RUN OF THE DELTA RULE'S BACKWARD CALL. The kernel walks the chunks from the last to the first, carrying in a scratch
  buffer one matrix for each head. The block of the queries' gradient depends on the point's input blocks alone, so the
  pieces stored there are named; the carried state and the other three results are kept at some contents, which nothing here names.
-/
module

public import proofs.«01_k».proof.Defs
public import proofs.«01_k».proof.Proof.Gen.DeltaIdeal.Frame
public import proofs.«01_k».proof.Proof.Gen.DeltaIdeal.Skeleton
public import Idealize.ShloMosaic.Lib.Quiescent
public import proofs.«01_k».proof.Proof.DeltaRunB

@[expose] public section

set_option maxRecDepth 16384

noncomputable section

namespace Cert.Proof.DeltaRun

open Cert.DeltaIdeal Cert.DeltaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Those pieces cover the block: eight, one for each head. -/
theorem coverA (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S8x1x128x128 .f32) (harg6 : arg6.IsWhole) (arg7 : Memref sig .tc .vmem S8x1x128x128 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x128 .f32) (harg14 : arg14.IsWhole) (arg15 : Memref sig .tc .vmem S8x128x128 .f32) (harg15 : arg15.IsWhole)
    (hc1 : k0_cond1 i = 1#1) (hc2 : k0_cond2 i = 1#1) (hc3 : ¬k0_cond3 i = 1#1) (x0 : Vec F S128x1024 .f32) (x1 : Vec F S128x1024 .f32) (x2 : Vec F S128x1024 .f32) (x3 : Vec F S128x128 .f32) (x4 : Vec F S8x1x128x128 .f32) (x5 : Vec F S8x1x128x128 .f32) (x6 : Vec F S128x1024 .f32) (x7 : Vec F S128x1024 .f32) (x8 : Vec F S128x1024 .bf16) (y : S128x1024.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x2 x3 x4 x5 x6 x7 x8).1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x2 x3 x4 x5 x6 x7 x8).1 S128x128.size (by sl_kernel_rfl) y

/-- Those pieces cover the block: eight, one for each head. -/
theorem coverB (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x128 .f32) (harg5 : arg5.IsWhole) (arg6 : Memref sig .tc .vmem S8x1x128x128 .f32) (harg6 : arg6.IsWhole) (arg7 : Memref sig .tc .vmem S8x1x128x128 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x128 .f32) (harg14 : arg14.IsWhole) (arg15 : Memref sig .tc .vmem S8x128x128 .f32) (harg15 : arg15.IsWhole)
    (hc1 : ¬k0_cond1 i = 1#1) (hc2 : k0_cond2 i = 1#1) (hc3 : ¬k0_cond3 i = 1#1) (x0 : Vec F S128x1024 .f32) (x1 : Vec F S128x1024 .f32) (x2 : Vec F S128x1024 .f32) (x3 : Vec F S128x128 .f32) (x4 : Vec F S8x1x128x128 .f32) (x5 : Vec F S8x1x128x128 .f32) (x6 : Vec F S128x1024 .f32) (x7 : Vec F S128x1024 .f32) (x8 : Vec F S128x1024 .bf16) (y : S128x1024.Idx) :
    ∃ pc ∈ (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x2 x3 x4 x5 x6 x7 x8).1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 arg14 harg14 arg15 harg15 hc1 hc2 hc3 x0 x1 x2 x3 x4 x5 x6 x7 x8).1 S128x128.size (by sl_kernel_rfl) y

/-! ## The memrefs of a point, and which points clear the carried state -/

abbrev ms0_0 (t : Fin cfg0.N) : Memref sig .tc .vmem S128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x1x128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1x128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x128 .f32 := win0_12.stage (cfg0.slots t 12)
abbrev hs0_12 (t : Fin cfg0.N) : (ms0_12 t).IsWhole := hstage0_12 ((cfg0.slots t 12).cast nbuf0_12)

/-- The carried state: one matrix for each head. -/
abbrev scM : Memref sig .tc .vmem S8x128x128 .f32 := Memref.whole cc0_scratch0

theorem cond1_iff : ∀ t : Fin grid0.N, (k0_cond1 (grid0.coords t) = 1#1 ↔ t.val = 0) := by decide +kernel
theorem cond2_all : ∀ t : Fin grid0.N, k0_cond2 (grid0.coords t) = 1#1 := by decide +kernel
theorem cond3_none : ∀ t : Fin grid0.N, ¬k0_cond3 (grid0.coords t) = 1#1 := by decide +kernel

theorem live (w : Fin cfg0.W) (t : Fin cfg0.N) : cfg0.idle w (grid0.coords t) = false := by
  revert w; decide +revert +kernel

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- A view of the block's shape to read the pieces through. -/
abbrev VO : View sig .tc .vmem S128x1024 .f32 := (Memref.whole cc0_stg9_0).view

/-- The block of the queries' gradient after point `t`. -/
def dqAt (c : Dev nD) (t : Fin cfg0.N) : Vec F S128x1024 .f32 :=
  if h : t.val = 0 then
    VO.read (Elt F) (VO.writes (Elt F) VO.junk (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM (Memref.isWhole_whole _) ((cond1_iff t).mpr h) (cond2_all t) (cond3_none t) (iblk m c 0 t) (iblk m c 1 t) (iblk m c 2 t) (iblk m c 3 t) (iblk m c 4 t) (iblk m c 5 t) (iblk m c 6 t) (iblk m c 7 t) (iblk m c 8 t)).1)
  else
    VO.read (Elt F) (VO.writes (Elt F) VO.junk (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM (Memref.isWhole_whole _) (fun h' => h ((cond1_iff t).mp h')) (cond2_all t) (cond3_none t) (iblk m c 0 t) (iblk m c 1 t) (iblk m c 2 t) (iblk m c 3 t) (iblk m c 4 t) (iblk m c 5 t) (iblk m c 6 t) (iblk m c 7 t) (iblk m c 8 t)).1)

/-! ## The proof data: the other three results are not named -/

def forgets : Fin 13 → Bool := fun w => decide (10 ≤ w.val)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dqAt m c t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = dqAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem leaves_0 (c : Dev nD) (t : Fin cfg0.N) :
    (dats m 0 c).leavesExact 0 t = owns (c : Thread nD τ) (ms0_0 t) fullShare (iblk m c 0 t) := by
  unfold Dat.leavesExact; rw [live 0 t, after_0]
theorem leaves_1 (c : Dev nD) (t : Fin cfg0.N) :
    (dats m 0 c).leavesExact 1 t = owns (c : Thread nD τ) (ms0_1 t) fullShare (iblk m c 1 t) := by
  unfold Dat.leavesExact; rw [live 1 t, after_1]
theorem leaves_2 (c : Dev nD) (t : Fin cfg0.N) :
    (dats m 0 c).leavesExact 2 t = owns (c : Thread nD τ) (ms0_2 t) fullShare (iblk m c 2 t) := by
  unfold Dat.leavesExact; rw [live 2 t, after_2]
theorem leaves_3 (c : Dev nD) (t : Fin cfg0.N) :
    (dats m 0 c).leavesExact 3 t = owns (c : Thread nD τ) (ms0_3 t) fullShare (iblk m c 3 t) := by
  unfold Dat.leavesExact; rw [live 3 t, after_3]
theorem leaves_4 (c : Dev nD) (t : Fin cfg0.N) :
    (dats m 0 c).leavesExact 4 t = owns (c : Thread nD τ) (ms0_4 t) fullShare (iblk m c 4 t) := by
  unfold Dat.leavesExact; rw [live 4 t, after_4]
theorem leaves_5 (c : Dev nD) (t : Fin cfg0.N) :
    (dats m 0 c).leavesExact 5 t = owns (c : Thread nD τ) (ms0_5 t) fullShare (iblk m c 5 t) := by
  unfold Dat.leavesExact; rw [live 5 t, after_5]
theorem leaves_6 (c : Dev nD) (t : Fin cfg0.N) :
    (dats m 0 c).leavesExact 6 t = owns (c : Thread nD τ) (ms0_6 t) fullShare (iblk m c 6 t) := by
  unfold Dat.leavesExact; rw [live 6 t, after_6]
theorem leaves_7 (c : Dev nD) (t : Fin cfg0.N) :
    (dats m 0 c).leavesExact 7 t = owns (c : Thread nD τ) (ms0_7 t) fullShare (iblk m c 7 t) := by
  unfold Dat.leavesExact; rw [live 7 t, after_7]
theorem leaves_8 (c : Dev nD) (t : Fin cfg0.N) :
    (dats m 0 c).leavesExact 8 t = owns (c : Thread nD τ) (ms0_8 t) fullShare (iblk m c 8 t) := by
  unfold Dat.leavesExact; rw [live 8 t, after_8]
theorem leaves_9 (c : Dev nD) (t : Fin cfg0.N) :
    (dats m 0 c).leavesExact 9 t = owns (c : Thread nD τ) (ms0_9 t) fullShare (dqAt m c t) := by
  unfold Dat.leavesExact; rw [live 9 t, after_9]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [leaves_0, leaves_1, leaves_2, leaves_3, leaves_4, leaves_5, leaves_6, leaves_7, leaves_8, leaves_9]
  by_cases h : t.val = 0
  ·
    unfold dqAt
    rw [dif_pos h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runA c (grid0.coords t) _ _ _ _ _ _ _ _ _ _ _ _ _ _ _ _ _ _ _ _ _ _ _ _ _ _ _ _ ((cond1_iff t).mpr h) (cond2_all t) (cond3_none t) (iblk m c 0 t) (iblk m c 1 t) (iblk m c 2 t) (iblk m c 3 t) (iblk m c 4 t) (iblk m c 5 t) (iblk m c 6 t) (iblk m c 7 t) (iblk m c 8 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS]; · iexact HS
    iintro ⟨H0, H1, H2, H3, H4, H5, H6, H7, H8, ⟨%e9, H9⟩, H10, H11, H12, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (coverA c _ _ _ _ _ _ _ _ _ _ _ _ _ _ _ _ _ _ _ _ _ _ _ _ _ _ _ _ _ _ _ _ _ _ _ _ _ _ _ _ _)
    isplitl [H10]; · iexact H10
    isplitl [H11]; · iexact H11
    iexact H12
  ·
    unfold dqAt
    rw [dif_neg h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB c (grid0.coords t) _ _ _ _ _ _ _ _ _ _ _ _ _ _ _ _ _ _ _ _ _ _ _ _ _ _ _ _ (fun h' => h ((cond1_iff t).mp h')) (cond2_all t) (cond3_none t) (iblk m c 0 t) (iblk m c 1 t) (iblk m c 2 t) (iblk m c 3 t) (iblk m c 4 t) (iblk m c 5 t) (iblk m c 6 t) (iblk m c 7 t) (iblk m c 8 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS]; · iexact HS
    iintro ⟨H0, H1, H2, H3, H4, H5, H6, H7, H8, ⟨%e9, H9⟩, H10, H11, H12, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (coverB c _ _ _ _ _ _ _ _ _ _ _ _ _ _ _ _ _ _ _ _ _ _ _ _ _ _ _ _ _ _ _ _ _ _ _ _ _ _ _ _ _)
    isplitl [H10]; · iexact H10
    isplitl [H11]; · iexact H11
    iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- What an input window's array holds at the end: what it held at the launch. -/
theorem arr_in (r : PUnit × MemSt nD τ sig (Elt F)) (h : Pipeline.RDat.FramePost (cfgs 0) (fun c => (dats m 0 c).toRForget forgets) (V m) r)
    (c : Dev nD) (w : Fin cfg0.W) (hw : w.val < 9) :
    r.2.mem ((c.tc : Thread nD τ).loc (Pipeline.arrRef spec0 w)) = V m c (Pipeline.arrRef spec0 w) :=
  Eq.trans ((congrFun (((dats m 0 c).toRForget forgets).ArrAt_in w (by revert w; decide) cfg0.N) _).mp ((h c).1 w)) (A_eq m c w)

/-! ## The run keeps the arguments -/

theorem frame_any :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    ⟨(arr_in m r h.1 c 0 (by decide)).trans (V_main_arg0 m c), (arr_in m r h.1 c 1 (by decide)).trans (V_main_arg1 m c),
     (arr_in m r h.1 c 2 (by decide)).trans (V_main_arg2 m c), (arr_in m r h.1 c 3 (by decide)).trans (V_main_arg3 m c),
     (arr_in m r h.1 c 4 (by decide)).trans (V_main_arg4 m c), (arr_in m r h.1 c 5 (by decide)).trans (V_main_arg5 m c),
     (arr_in m r h.1 c 6 (by decide)).trans (V_main_arg6 m c), (arr_in m r h.1 c 7 (by decide)).trans (V_main_arg7 m c),
     (arr_in m r h.1 c 8 (by decide)).trans (V_main_arg8 m c)⟩, h.2⟩) (run_main m ρ)

end Cert.Proof.DeltaRun

end
-- ==== Proof.DeltaPay.lean ====
/-
  The pieces of arithmetic in the delta rule's backward call, each read at one index of its result over the extended reals:
  products batched over the eight heads, the stacking of heads, a gate's column, the running sum of the gates in a chunk
  and the decay between two positions of a chunk.
-/
module

public import proofs.«01_k».proof.Defs
public import proofs.«01_k».proof.Proof.Common
public import proofs.«01_k».proof.Proof.Gen.DeltaIdeal.Frame
public import proofs.«01_k».proof.Proof.Gen.DeltaIdeal.Skeleton
public import Idealize.ShloMosaic.Lib.WordCmp
public import Idealize.ShloMosaic.Lib.WholeRead
public import Idealize.ShloMosaic.Lib.ValueLayout
public import Idealize.ShloMosaic.Lib.ValueLayoutCasts

@[expose] public section

set_option maxRecDepth 16384

noncomputable section

open Idealize.ShloMosaic Idealize.ShloMosaic.TcCoe Idealize.ShloMosaic.ValueIdx Idealize.SL.Sem
open scoped BigOperators

namespace Cert.Proof.DeltaPay

open Cert.DeltaIdeal Cert.DeltaIdeal.Gen Cert.Common

/-! ## Products batched over the heads -/

/-- A batched product of matrices, at an index: head, row, column. -/
theorem bnn_apply {φ₁ φ₂ : FTy} (prec : Option ContractPrecision) (lhs : FVec Ideal S8x128x128 φ₁) (rhs : FVec Ideal S8x128x128 φ₂)
    (j : S8x128x128.Idx) :
    matmul dot_S8x128x128_S8x128x128_S8x128x128_2_1_1_2_0_0 prec lhs rhs (constant S8x128x128 .f32 0x00000000#32) j
      = ∑ k : Fin 128, lhs (ix3 (j 0) (j 1) k) * rhs (ix3 (j 0) k (j 2)) := by
  refine (Ideal.matmul_apply _ prec lhs rhs _ j).trans ?_
  rw [constant_apply, Ideal.ofBits_zero_f32, zero_add,
    ← Equiv.sum_comp (contrEquiv1 dot_S8x128x128_S8x128x128_S8x128x128_2_1_1_2_0_0 128 rfl rfl).symm]
  refine Finset.sum_congr rfl fun k _ => ?_
  have hk := contrEquiv1_symm_val dot_S8x128x128_S8x128x128_S8x128x128_2_1_1_2_0_0 128 rfl rfl k
  refine congrArg₂ (fun a b => lhs a * rhs b) (funext fun a => Fin.ext ?_) (funext fun a => Fin.ext ?_)
  · match a with
    | ⟨0, _⟩ => rfl
    | ⟨1, _⟩ => rfl
    | ⟨2, _⟩ => exact hk
  · match a with
    | ⟨0, _⟩ => rfl
    | ⟨1, _⟩ => exact hk
    | ⟨2, _⟩ => rfl

/-- A batched product of a matrix with a transposed one, at an index. -/
theorem bnt_apply {φ₁ φ₂ : FTy} (prec : Option ContractPrecision) (lhs : FVec Ideal S8x128x128 φ₁) (rhs : FVec Ideal S8x128x128 φ₂)
    (j : S8x128x128.Idx) :
    matmul dot_S8x128x128_S8x128x128_S8x128x128_2_2_1_1_0_0 prec lhs rhs (constant S8x128x128 .f32 0x00000000#32) j
      = ∑ k : Fin 128, lhs (ix3 (j 0) (j 1) k) * rhs (ix3 (j 0) (j 2) k) := by
  refine (Ideal.matmul_apply _ prec lhs rhs _ j).trans ?_
  rw [constant_apply, Ideal.ofBits_zero_f32, zero_add,
    ← Equiv.sum_comp (contrEquiv1 dot_S8x128x128_S8x128x128_S8x128x128_2_2_1_1_0_0 128 rfl rfl).symm]
  refine Finset.sum_congr rfl fun k _ => ?_
  have hk := contrEquiv1_symm_val dot_S8x128x128_S8x128x128_S8x128x128_2_2_1_1_0_0 128 rfl rfl k
  refine congrArg₂ (fun a b => lhs a * rhs b) (funext fun a => Fin.ext ?_) (funext fun a => Fin.ext ?_)
  · match a with
    | ⟨0, _⟩ => rfl
    | ⟨1, _⟩ => rfl
    | ⟨2, _⟩ => exact hk
  · match a with
    | ⟨0, _⟩ => rfl
    | ⟨1, _⟩ => rfl
    | ⟨2, _⟩ => exact hk

/-! ## The heads of a block, stacked -/

/-- The column of a block where a head keeps its entry `d`. -/
def hc (h : Fin 8) (d : Fin 128) : Fin 1024 := ⟨h.val * 128 + d.val, by omega⟩

/-- Eight matrices stacked: the head says which one is read. -/
theorem stack_apply {α : Type} (f : Fin 8 → (S128x128.Idx → α)) (hs : S128x128.ShapeCasts S1x128x128)
    (h : Shape.Concatenates [S1x128x128, S1x128x128, S1x128x128, S1x128x128, S1x128x128, S1x128x128, S1x128x128, S1x128x128] S8x128x128 0)
    (j : S8x128x128.Idx) :
    concatenate S8x128x128 0
        [⟨S1x128x128, shapeCast S1x128x128 (f 0) hs⟩, ⟨S1x128x128, shapeCast S1x128x128 (f 1) hs⟩,
          ⟨S1x128x128, shapeCast S1x128x128 (f 2) hs⟩, ⟨S1x128x128, shapeCast S1x128x128 (f 3) hs⟩,
          ⟨S1x128x128, shapeCast S1x128x128 (f 4) hs⟩, ⟨S1x128x128, shapeCast S1x128x128 (f 5) hs⟩,
          ⟨S1x128x128, shapeCast S1x128x128 (f 6) hs⟩, ⟨S1x128x128, shapeCast S1x128x128 (f 7) hs⟩] h j
      = f (j 0) (ix2 (j 1) (j 2)) :=
  (concatenate_ofFn_unit_apply (t := S8x128x128) 0 (fun n : Fin 8 => shapeCast S1x128x128 (f n) hs) h rfl rfl j (j 0) rfl
    (ix3 (0 : Fin 1) (j 1) (j 2)) (fun b hb => by
      match b with
      | ⟨0, _⟩ => exact absurd rfl hb
      | ⟨1, _⟩ => rfl
      | ⟨2, _⟩ => rfl)).trans (shapeCast_ab_1ab_apply (f (j 0)) hs 0 (j 1) (j 2))

/-- Eight columns stacked. -/
theorem stackCol_apply {α : Type} (f : Fin 8 → (S128x1.Idx → α)) (hs : S128x1.ShapeCasts S1x128x1)
    (h : Shape.Concatenates [S1x128x1, S1x128x1, S1x128x1, S1x128x1, S1x128x1, S1x128x1, S1x128x1, S1x128x1] S8x128x1 0)
    (j : S8x128x1.Idx) :
    concatenate S8x128x1 0
        [⟨S1x128x1, shapeCast S1x128x1 (f 0) hs⟩, ⟨S1x128x1, shapeCast S1x128x1 (f 1) hs⟩,
          ⟨S1x128x1, shapeCast S1x128x1 (f 2) hs⟩, ⟨S1x128x1, shapeCast S1x128x1 (f 3) hs⟩,
          ⟨S1x128x1, shapeCast S1x128x1 (f 4) hs⟩, ⟨S1x128x1, shapeCast S1x128x1 (f 5) hs⟩,
          ⟨S1x128x1, shapeCast S1x128x1 (f 6) hs⟩, ⟨S1x128x1, shapeCast S1x128x1 (f 7) hs⟩] h j
      = f (j 0) (ix2 (j 1) (j 2)) :=
  (concatenate_ofFn_unit_apply (t := S8x128x1) 0 (fun n : Fin 8 => shapeCast S1x128x1 (f n) hs) h rfl rfl j (j 0) rfl
    (ix3 (0 : Fin 1) (j 1) (j 2)) (fun b hb => by
      match b with
      | ⟨0, _⟩ => exact absurd rfl hb
      | ⟨1, _⟩ => rfl
      | ⟨2, _⟩ => rfl)).trans (shapeCast_ab_1ab_apply (f (j 0)) hs 0 (j 1) (j 2))

theorem head_inb (n : Fin 8) : ∀ a : Fin S128x1024.rank, (![0, n.val * 128] : Fin 2 → Nat) a + S128x128.size a ≤ S128x1024.size a := by
  revert n; decide

/-- The heads of a block held whole, each read from its own 128 columns and stacked. -/
theorem heads_apply {F : FTy → Type} {e : EltTy} (M : Memref sig .tc .vmem S128x1024 e) (hM : M.IsWhole) (x : Vec F S128x1024 e)
    (hs : S128x128.ShapeCasts S1x128x128)
    (h : Shape.Concatenates [S1x128x128, S1x128x128, S1x128x128, S1x128x128, S1x128x128, S1x128x128, S1x128x128, S1x128x128] S8x128x128 0)
    (j : S8x128x128.Idx) :
    concatenate S8x128x128 0
        [⟨S1x128x128, shapeCast S1x128x128 (View.readAt (Elt F) M.view (Rect.unit (s := S128x1024) ![0, 0] S128x128.size (head_inb 0)).toLoadRect (hM.unread x)) hs⟩,
          ⟨S1x128x128, shapeCast S1x128x128 (View.readAt (Elt F) M.view (Rect.unit (s := S128x1024) ![0, 128] S128x128.size (head_inb 1)).toLoadRect (hM.unread x)) hs⟩,
          ⟨S1x128x128, shapeCast S1x128x128 (View.readAt (Elt F) M.view (Rect.unit (s := S128x1024) ![0, 256] S128x128.size (head_inb 2)).toLoadRect (hM.unread x)) hs⟩,
          ⟨S1x128x128, shapeCast S1x128x128 (View.readAt (Elt F) M.view (Rect.unit (s := S128x1024) ![0, 384] S128x128.size (head_inb 3)).toLoadRect (hM.unread x)) hs⟩,
          ⟨S1x128x128, shapeCast S1x128x128 (View.readAt (Elt F) M.view (Rect.unit (s := S128x1024) ![0, 512] S128x128.size (head_inb 4)).toLoadRect (hM.unread x)) hs⟩,
          ⟨S1x128x128, shapeCast S1x128x128 (View.readAt (Elt F) M.view (Rect.unit (s := S128x1024) ![0, 640] S128x128.size (head_inb 5)).toLoadRect (hM.unread x)) hs⟩,
          ⟨S1x128x128, shapeCast S1x128x128 (View.readAt (Elt F) M.view (Rect.unit (s := S128x1024) ![0, 768] S128x128.size (head_inb 6)).toLoadRect (hM.unread x)) hs⟩,
          ⟨S1x128x128, shapeCast S1x128x128 (View.readAt (Elt F) M.view (Rect.unit (s := S128x1024) ![0, 896] S128x128.size (head_inb 7)).toLoadRect (hM.unread x)) hs⟩] h j
      = x (ix2 (j 1) (hc (j 0) (j 2))) := by
  refine (stack_apply (fun n : Fin 8 => View.readAt (Elt F) M.view (Rect.unit (s := S128x1024) ![0, n.val * 128] S128x128.size (head_inb n)).toLoadRect (hM.unread x))
    hs h j).trans ?_
  refine (hM.readAt_unread x _ _).trans (congrArg x (funext fun a => Fin.ext ?_))
  match a with
  | ⟨0, _⟩ => exact (Nat.zero_add _).trans (Nat.one_mul _)
  | ⟨1, _⟩ => exact congrArg ((j 0).val * 128 + ·) (Nat.one_mul _)

/-! ## Gates -/

/-- A row's sum with every column but one masked away is that column's entry. -/
theorem gateCol_apply (n : Nat) (hn : n < 128) (b : BitVec 32) (hb : b = BitVec.ofNat 32 n) (x : Vec Ideal S128x128 .f32)
    (hi : S128x128.Iotas .tc 32 [1]) (hr : S128x128.Reduces [1] S128) (hφ : FKind.Formats .f32)
    (hacc : 0x00000000#32 = FKind.add.neutral .f32 hφ) (hs : S128.ShapeCasts S128x1) (r : Fin 128) (u : Fin 1) :
    shapeCast S128x1 (multiReduction (F := Ideal) .add [1] S128
        (select (cmpi .eq (iota .tc S128x128 32 [1] hi) (broadcast S128x128 b)) x
          (broadcast S128x128 (Scalar.ofBits (F := Ideal) .f32 0x00000000#32))) 0x00000000#32 hr hφ hacc) hs (ix2 r u)
      = x (ix2 r ⟨n, hn⟩) := by
  subst hb
  rw [shapeCast_a_a1_apply, Ideal.multiReduction_add_single]
  refine (Finset.sum_eq_single (⟨n, hn⟩ : Fin 128) (fun k _ hk => ?_) (fun h => absurd (Finset.mem_univ _) h)).trans ?_
  · have hk' : (k : Fin 128).val ≠ n := fun e => hk (Fin.ext e)
    have : (k : Fin 128).val < 128 := k.isLt
    rw [select_apply]
    have e : cmpi .eq (iota .tc S128x128 32 [1] hi) (broadcast S128x128 (BitVec.ofNat 32 n)) (hr.lift (ix1 r) k)
        = BitVec.ofBool (decide ((k : Fin 128).val = n)) := by
      show IntOp.cmpi .eq (iota .tc S128x128 32 [1] hi (hr.lift (ix1 r) k)) (BitVec.ofNat 32 n) = _
      rw [iota_single_apply]
      exact WordCmp.cmpi_eq_ofNat (by show (k : Fin 128).val < _; omega) (by omega)
    rw [e, decide_eq_false hk']
    exact Ideal.ofBits_zero_f32
  · rw [select_apply]
    have e : cmpi .eq (iota .tc S128x128 32 [1] hi) (broadcast S128x128 (BitVec.ofNat 32 n)) (hr.lift (ix1 r) (⟨n, hn⟩ : Fin 128))
        = BitVec.ofBool (decide (n = n)) := by
      show IntOp.cmpi .eq (iota .tc S128x128 32 [1] hi (hr.lift (ix1 r) (⟨n, hn⟩ : Fin 128))) (BitVec.ofNat 32 n) = _
      rw [iota_single_apply]
      exact WordCmp.cmpi_eq_ofNat (by show n < _; omega) (by omega)
    rw [e, decide_eq_true rfl]
    refine congrArg x (funext fun a => ?_)
    match a with
    | ⟨0, _⟩ => rfl
    | ⟨1, _⟩ => rfl

/-! ## The running sum of the gates and the decay -/

/-- The lower triangle's mask at an index. -/
theorem tril_apply (h0 : S128x128.Iotas .tc 32 [0]) (h1 : S128x128.Iotas .tc 32 [1]) (r k : Fin 128) :
    cmpi .sge (iota .tc S128x128 32 [0] h0) (iota .tc S128x128 32 [1] h1) (ix2 r k) = BitVec.ofBool (decide (k.val ≤ r.val)) := by
  have := r.isLt
  have := k.isLt
  show IntOp.cmpi .sge (iota .tc S128x128 32 [0] h0 (ix2 r k)) (iota .tc S128x128 32 [1] h1 (ix2 r k)) = _
  rw [iota_single_apply, iota_single_apply]
  exact WordCmp.cmpi_sge_ofNat (by show r.val < _; omega) (by show k.val < _; omega)

/-- A finite extended real less itself is zero. -/
theorem sub_self_of_real {x : EReal} (h : ∃ r : ℝ, x = r) : x - x = 0 := by
  obtain ⟨r, rfl⟩ := h
  rw [← EReal.coe_sub, sub_self, EReal.coe_zero]

/-- The sum of a chunk's gates up to a position. -/
def runSum (G : Fin 8 → Fin 128 → EReal) (h : Fin 8) (r : Fin 128) : EReal := ∑ l : Fin 128, if l.val ≤ r.val then G h l else 0

/-- The gates' running sum is taken as a product with the lower triangle of ones, the gates split in three parts. Over the
    extended reals the first part is the gate itself, and for a finite gate the other two are zero. -/
theorem runSum_apply (v : FVec Ideal S8x128x1 .f32) (G : Fin 8 → Fin 128 → EReal) (hv : ∀ h r u, v (ix3 h r u) = G h r)
    (hfin : ∀ h r, ∃ q : ℝ, G h r = q) (tril : IVec S128x128 1)
    (ht : ∀ r k : Fin 128, tril (ix2 r k) = BitVec.ofBool (decide (k.val ≤ r.val))) (h : Fin 8) (r k : Fin 128) :
    k0_pay51 (F := Ideal) v tril (ix3 h r k) = runSum G h r := by
  unfold k0_pay51
  have hA : ∀ l : Fin 128, broadcastTo S8x128x128 (shapeCast S1x128x128 (truncf .bf16 (select tril
        (broadcast S128x128 (Scalar.ofBits (F := Ideal) .f32 0x3F800000#32)) (broadcast S128x128 (Scalar.ofBits (F := Ideal) .f32 0x00000000#32)))
        bitsLt_bf16_f32) shapeCasts_S128x128_S1x128x128) broadcasts_S1x128x128_S8x128x128 (ix3 h r l)
      = if l.val ≤ r.val then (1 : EReal) else 0 := fun l => by
    rw [broadcastTo_apply _ _ _ (ix3 (0 : Fin 1) r l) (fun a => match a with | ⟨0, _⟩ => rfl | ⟨1, _⟩ => rfl | ⟨2, _⟩ => rfl),
      shapeCast_ab_1ab_apply]
    show Scalar.select (tril (ix2 r l)) (Ideal.ofBits .f32 0x3F800000#32) (Ideal.ofBits .f32 0x00000000#32) = _
    rw [ht, Ideal.ofBits_one_f32, Ideal.ofBits_zero_f32]
    by_cases hl : l.val ≤ r.val
    · rw [decide_eq_true hl, if_pos hl]; rfl
    · rw [decide_eq_false hl, if_neg hl]; rfl
  have hB : ∀ l : Fin 128, broadcastTo S8x128x128 (shapeCast S8x128x1 v shapeCasts_S8x128x1_S8x128x1) broadcasts_S8x128x1_S8x128x128 (ix3 h l k)
      = G h l := fun l => by
    rw [shapeCast_self, broadcastTo_apply _ _ _ (ix3 h l (0 : Fin 1)) (fun a => match a with | ⟨0, _⟩ => rfl | ⟨1, _⟩ => rfl | ⟨2, _⟩ => rfl), hv]
  rw [addf_apply, addf_apply, bnn_apply, bnn_apply, bnn_apply]
  have hB1 : ∀ l : Fin 128, G h l - G h l = 0 := fun l => sub_self_of_real (hfin h l)
  have s1 : (∑ l : Fin 128, (if l.val ≤ r.val then (1 : EReal) else 0) * G h l) = runSum G h r :=
    Finset.sum_congr rfl fun l _ => by split <;> simp
  refine (congrArg₂ (· + ·) (Finset.sum_congr rfl fun l _ => congrArg₂ (· * ·) (hA l) (hB l)) (congrArg₂ (· + ·)
    (Finset.sum_congr rfl fun l _ => congrArg₂ (· * ·) (hA l)
      ((congrArg₂ (· - ·) (hB l) (hB l)).trans (hB1 l)))
    (Finset.sum_congr rfl fun l _ => congrArg₂ (· * ·) (hA l)
      ((congrArg₂ (· - ·) ((congrArg₂ (· - ·) (hB l) (hB l)).trans (hB1 l)) ((congrArg₂ (· - ·) (hB l) (hB l)).trans (hB1 l))).trans
        (sub_zero (0 : EReal)))))).trans ?_
  rw [s1]
  simp

/-- The decay from a position of a chunk to a later one, and nothing to an earlier one. -/
def decay (G : Fin 8 → Fin 128 → EReal) (h : Fin 8) (r k : Fin 128) : EReal :=
  Ideal.exp (if k.val ≤ r.val then runSum G h r - runSum G h k else ⊥)

section
variable (v : FVec Ideal S8x128x1 .f32) (G : Fin 8 → Fin 128 → EReal) (hv : ∀ h r u, v (ix3 h r u) = G h r)
  (hfin : ∀ h r, ∃ q : ℝ, G h r = q) (tril : IVec S128x128 1)
  (ht : ∀ r k : Fin 128, tril (ix2 r k) = BitVec.ofBool (decide (k.val ≤ r.val)))
include hv hfin ht

theorem pay52_apply (h : Fin 8) (r : Fin 128) (u : Fin 1) : k0_pay52 (F := Ideal) v tril (ix3 h r u) = runSum G h r := by
  unfold k0_pay52
  rw [extractStridedSlice_apply _ _ _ _ (ix3 h r (0 : Fin 128)) (fun a => match a with
    | ⟨0, _⟩ => (Nat.zero_add _).symm
    | ⟨1, _⟩ => (Nat.zero_add _).symm
    | ⟨2, _⟩ => by have := u.isLt; show 0 = 0 + u.val; omega)]
  exact runSum_apply v G hv hfin tril ht h r 0

theorem pay53_apply (h : Fin 8) (r k : Fin 128) : k0_pay53 (F := Ideal) v tril (ix3 h r k) = runSum G h k := by
  unfold k0_pay53
  rw [transpose_apply _ _ _ _ (ix3 h k r) (fun a => match a with | ⟨0, _⟩ => rfl | ⟨1, _⟩ => rfl | ⟨2, _⟩ => rfl)]
  exact runSum_apply v G hv hfin tril ht h k r

theorem pay54_apply (h : Fin 8) (r k : Fin 128) : k0_pay54 (F := Ideal) v tril (ix3 h r k) = decay G h r k := by
  unfold k0_pay54 decay
  refine congrArg Ideal.exp ?_
  rw [select_apply, broadcastTo_apply _ _ _ (ix3 (0 : Fin 1) r k) (fun a => match a with | ⟨0, _⟩ => rfl | ⟨1, _⟩ => rfl | ⟨2, _⟩ => rfl),
    shapeCast_ab_1ab_apply, ht, subf_apply, pay53_apply v G hv hfin tril ht,
    broadcastTo_apply _ _ _ (ix3 h r (0 : Fin 1)) (fun a => match a with | ⟨0, _⟩ => rfl | ⟨1, _⟩ => rfl | ⟨2, _⟩ => rfl),
    pay52_apply v G hv hfin tril ht]
  by_cases hk : k.val ≤ r.val
  · rw [decide_eq_true hk, if_pos hk]; rfl
  · rw [decide_eq_false hk, if_neg hk]
    exact IdealRules.named_const.ideal_named_scalar κ "mask" (φ := .f32) 0xF149F2CA#32 ⊥ rfl

theorem pay56_apply (h : Fin 8) (r : Fin 128) (u : Fin 1) : k0_pay56 (F := Ideal) v tril (ix3 h r u) = Ideal.exp (runSum G h r) := by
  unfold k0_pay56
  exact congrArg Ideal.exp (pay52_apply v G hv hfin tril ht h r u)

end

end Cert.Proof.DeltaPay

end
-- ==== Proof.DeltaBlock.lean ====
/-
  One block of the queries' gradient: what the kernel stores at a grid point, as a formula in the point's input blocks.
-/
module

public import proofs.«01_k».proof.Defs
public import proofs.«01_k».proof.Proof.DeltaPay
public import proofs.«01_k».proof.Proof.DeltaFrame

@[expose] public section

set_option maxRecDepth 16384

noncomputable section

open Idealize.ShloMosaic Idealize.ShloMosaic.TcCoe Idealize.ShloMosaic.ValueIdx Idealize.SL.Sem
open scoped BigOperators

namespace Cert.Proof.DeltaBlock

open Cert.DeltaIdeal Cert.DeltaIdeal.Gen Cert.Common Cert.Proof.DeltaRun Cert.Proof.DeltaPay

/-! ## The formula -/

/-- A block's gates: head `h`'s stand in column `8 + h`. -/
def gate (x3 : Vec Ideal S128x128 .f32) (h : Fin 8) (r : Fin 128) : EReal := x3 (ix2 r ⟨8 + h.val, by omega⟩)

/-- The values a chunk adds to the state: the given ones less what the state holds at the keys. -/
def vnew (x4 : Vec Ideal S8x1x128x128 .f32) (x6 x7 : Vec Ideal S128x1024 .f32) (h : Fin 8) (r d : Fin 128) : EReal :=
  x6 (ix2 r (hc h d)) - ∑ k : Fin 128, x7 (ix2 r (hc h k)) * x4 (ix4 h (0 : Fin 1) k d)

/-- The queries' gradient at head `h`, position `r` of the chunk and coordinate `d`. -/
def dq (x1 : Vec Ideal S128x1024 .f32) (x3 : Vec Ideal S128x128 .f32) (x4 : Vec Ideal S8x1x128x128 .f32) (x6 x7 : Vec Ideal S128x1024 .f32)
    (x8 : Vec Ideal S128x1024 .bf16) (h : Fin 8) (r d : Fin 128) : EReal :=
  ((∑ k : Fin 128, x8 (ix2 r (hc h k)) * x4 (ix4 h (0 : Fin 1) d k)) * Ideal.exp (runSum (gate x3) h r)
      + ∑ s : Fin 128, ((∑ e : Fin 128, x8 (ix2 r (hc h e)) * vnew x4 x6 x7 h s e) * decay (gate x3) h r s) * x1 (ix2 s (hc h d)))
    * Ideal.ofBits .f32 0x3DB504F3#32

/-! ## The kernel's intermediate values -/

section
variable (c : Dev nD) (i : grid0.Coords) (arg3 : Memref sig .tc .vmem S128x1024 .f32) (harg3 : arg3.IsWhole) (arg5 : Memref sig .tc .vmem S128x128 .f32) (harg5 : arg5.IsWhole) (arg6 : Memref sig .tc .vmem S8x1x128x128 .f32) (harg6 : arg6.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole)
  (x1 : Vec Ideal S128x1024 .f32) (x3 : Vec Ideal S128x128 .f32) (x4 : Vec Ideal S8x1x128x128 .f32) (x6 x7 : Vec Ideal S128x1024 .f32) (x8 : Vec Ideal S128x1024 .bf16)

theorem v220_apply (j : S8x128x128.Idx) : runB.sl.v220 (F := Ideal) c arg3 harg3 x1 j = x1 (ix2 (j 1) (hc (j 0) (j 2))) :=
  heads_apply arg3 harg3 x1 _ _ j
theorem v256_apply (j : S8x128x128.Idx) : runB.sl.v256 (F := Ideal) c arg8 harg8 x6 j = x6 (ix2 (j 1) (hc (j 0) (j 2))) :=
  heads_apply arg8 harg8 x6 _ _ j
theorem v273_apply (j : S8x128x128.Idx) : runB.sl.v273 (F := Ideal) c arg9 harg9 x7 j = x7 (ix2 (j 1) (hc (j 0) (j 2))) :=
  heads_apply arg9 harg9 x7 _ _ j
theorem v290_apply (j : S8x128x128.Idx) : runB.sl.v290 (F := Ideal) c arg10 harg10 x8 j = x8 (ix2 (j 1) (hc (j 0) (j 2))) :=
  heads_apply arg10 harg10 x8 _ _ j

/-- The saved states of the block's chunk, one for each head. -/
theorem v186_apply (j : S8x128x128.Idx) : runB.sl.v186 (F := Ideal) c arg6 harg6 x4 j = x4 (ix4 (j 0) (0 : Fin 1) (j 1) (j 2)) := by
  unfold runB.sl.v186
  refine (shapeCast_apply _ _ j (ix4 (j 0) (0 : Fin 1) (j 1) (j 2)) ?_).trans ?_
  · rw [Shape.rowMajor_val_four, Shape.rowMajor_val_three]
    show (((j 0).val * 1 + 0) * 128 + (j 1).val) * 128 + (j 2).val = ((j 0).val * 128 + (j 1).val) * 128 + (j 2).val
    omega
  · refine (harg6.readAt_unread x4 _ _).trans (congrArg x4 (funext fun a => Fin.ext ?_))
    match a with
    | ⟨0, _⟩ => exact (Nat.zero_add _).trans (Nat.one_mul _)
    | ⟨1, _⟩ => rfl
    | ⟨2, _⟩ => exact (Nat.zero_add _).trans (Nat.one_mul _)
    | ⟨3, _⟩ => exact (Nat.zero_add _).trans (Nat.one_mul _)

/-- The gates of the eight heads, each read from its own column. -/
theorem v142_apply (h : Fin 8) (r : Fin 128) (u : Fin 1) : runB.sl.v142 (F := Ideal) c i arg5 harg5 x3 (ix3 h r u) = gate x3 h r := by
  have hi : (i 1).val = 0 := by have : (i 1).val < 1 := (i 1).isLt; omega
  have h5 : runB.sl.r (F := Ideal) c arg5 harg5 x3 = x3 := by
    funext y
    refine (harg5.readAt_unread x3 _ _).trans (congrArg x3 (funext fun a => Fin.ext ?_))
    match a with
    | ⟨0, _⟩ => exact (Nat.zero_add _).trans (Nat.one_mul _)
    | ⟨1, _⟩ => exact (Nat.zero_add _).trans (Nat.one_mul _)
  unfold runB.sl.v142
  refine (stackCol_apply (fun n : Fin 8 => match n with
    | ⟨0, _⟩ => runB.sl.v35 (F := Ideal) c i arg5 harg5 x3
    | ⟨1, _⟩ => runB.sl.v49 (F := Ideal) c i arg5 harg5 x3
    | ⟨2, _⟩ => runB.sl.v63 (F := Ideal) c i arg5 harg5 x3
    | ⟨3, _⟩ => runB.sl.v77 (F := Ideal) c i arg5 harg5 x3
    | ⟨4, _⟩ => runB.sl.v91 (F := Ideal) c i arg5 harg5 x3
    | ⟨5, _⟩ => runB.sl.v105 (F := Ideal) c i arg5 harg5 x3
    | ⟨6, _⟩ => runB.sl.v119 (F := Ideal) c i arg5 harg5 x3
    | ⟨7, _⟩ => runB.sl.v133 (F := Ideal) c i arg5 harg5 x3) _ _ (ix3 h r u)).trans ?_
  unfold gate
  match h with
  | ⟨0, _⟩ => exact (gateCol_apply 8 (by decide) (runB.sl.v29 i) (by simp only [runB.sl.v29, runB.sl.v7, runB.sl.v6, hi]; rfl) _ _ _ _ _ _ r u).trans (congrFun h5 _)
  | ⟨1, _⟩ => exact (gateCol_apply 9 (by decide) (runB.sl.v43 i) (by simp only [runB.sl.v43, runB.sl.v9, runB.sl.v6, hi]; rfl) _ _ _ _ _ _ r u).trans (congrFun h5 _)
  | ⟨2, _⟩ => exact (gateCol_apply 10 (by decide) (runB.sl.v57 i) (by simp only [runB.sl.v57, runB.sl.v11, runB.sl.v6, hi]; rfl) _ _ _ _ _ _ r u).trans (congrFun h5 _)
  | ⟨3, _⟩ => exact (gateCol_apply 11 (by decide) (runB.sl.v71 i) (by simp only [runB.sl.v71, runB.sl.v13, runB.sl.v6, hi]; rfl) _ _ _ _ _ _ r u).trans (congrFun h5 _)
  | ⟨4, _⟩ => exact (gateCol_apply 12 (by decide) (runB.sl.v85 i) (by simp only [runB.sl.v85, runB.sl.v15, runB.sl.v6, hi]; rfl) _ _ _ _ _ _ r u).trans (congrFun h5 _)
  | ⟨5, _⟩ => exact (gateCol_apply 13 (by decide) (runB.sl.v99 i) (by simp only [runB.sl.v99, runB.sl.v17, runB.sl.v6, hi]; rfl) _ _ _ _ _ _ r u).trans (congrFun h5 _)
  | ⟨6, _⟩ => exact (gateCol_apply 14 (by decide) (runB.sl.v113 i) (by simp only [runB.sl.v113, runB.sl.v19, runB.sl.v6, hi]; rfl) _ _ _ _ _ _ r u).trans (congrFun h5 _)
  | ⟨7, _⟩ => exact (gateCol_apply 15 (by decide) (runB.sl.v127 i) (by simp only [runB.sl.v127, runB.sl.v21, runB.sl.v6, hi]; rfl) _ _ _ _ _ _ r u).trans (congrFun h5 _)

/-- The mask of the lower triangle. -/
theorem tril_all (r k : Fin 128) :
    cmpi .sge runB.sl.v291 runB.sl.v1 (ix2 r k) = BitVec.ofBool (decide (k.val ≤ r.val)) := tril_apply _ _ r k

theorem v359_apply (j : S8x128x128.Idx) :
    runB.sl.v359 (F := Ideal) c arg6 harg6 arg8 harg8 arg9 harg9 x4 x6 x7 j = vnew x4 x6 x7 (j 0) (j 1) (j 2) := by
  unfold runB.sl.v359 vnew
  refine congrArg₂ (· - ·) (v256_apply c arg8 harg8 x6 j) ?_
  refine (bnn_apply none _ _ j).trans (Finset.sum_congr rfl fun k _ => ?_)
  exact congrArg₂ (· * ·) (v273_apply c arg9 harg9 x7 _) (v186_apply c arg6 harg6 x4 _)

variable (hfin : ∀ h r, ∃ q : ℝ, gate x3 h r = q)
include hfin

theorem v389_apply (j : S8x128x128.Idx) :
    runB.sl.v389 (F := Ideal) c i arg5 harg5 arg6 harg6 arg10 harg10 x3 x4 x8 j
      = (∑ k : Fin 128, x8 (ix2 (j 1) (hc (j 0) k)) * x4 (ix4 (j 0) (0 : Fin 1) (j 2) k)) * Ideal.exp (runSum (gate x3) (j 0) (j 1)) := by
  unfold runB.sl.v389
  refine congrArg₂ (· * ·) ?_ ?_
  · refine (bnt_apply none _ _ j).trans (Finset.sum_congr rfl fun k _ => ?_)
    exact congrArg₂ (· * ·) (v290_apply c arg10 harg10 x8 _) (v186_apply c arg6 harg6 x4 _)
  · unfold runB.sl.v360
    refine (broadcastTo_apply _ _ j (ix3 (j 0) (j 1) (0 : Fin 1)) (fun a => match a with | ⟨0, _⟩ => rfl | ⟨1, _⟩ => rfl | ⟨2, _⟩ => rfl)).trans ?_
    exact pay56_apply _ (gate x3) (v142_apply c i arg5 harg5 x3) hfin _ tril_all (j 0) (j 1) 0

theorem v395_apply (j : S8x128x128.Idx) :
    runB.sl.v395 (F := Ideal) c i arg5 harg5 arg6 harg6 arg8 harg8 arg9 harg9 arg10 harg10 x3 x4 x6 x7 x8 j
      = (∑ e : Fin 128, x8 (ix2 (j 1) (hc (j 0) e)) * vnew x4 x6 x7 (j 0) (j 2) e) * decay (gate x3) (j 0) (j 1) (j 2) := by
  unfold runB.sl.v395
  refine congrArg₂ (· * ·) ?_ ?_
  · refine (bnt_apply none _ _ j).trans (Finset.sum_congr rfl fun k _ => ?_)
    exact congrArg₂ (· * ·) (v290_apply c arg10 harg10 x8 _) (v359_apply c arg6 harg6 arg8 harg8 arg9 harg9 x4 x6 x7 _)
  · refine Eq.trans (congrArg _ (eq_ix3 j)) (pay54_apply _ (gate x3) (v142_apply c i arg5 harg5 x3) hfin _ tril_all (j 0) (j 1) (j 2))

theorem v554_apply (j : S8x128x128.Idx) :
    runB.sl.v554 (F := Ideal) c i arg3 harg3 arg5 harg5 arg6 harg6 arg8 harg8 arg9 harg9 arg10 harg10 x1 x3 x4 x6 x7 x8 j = dq x1 x3 x4 x6 x7 x8 (j 0) (j 1) (j 2) := by
  unfold runB.sl.v554 runB.sl.v399 dq
  refine congrArg₂ (· * ·) (congrArg₂ (· + ·) (v389_apply c i arg5 harg5 arg6 harg6 arg10 harg10 x3 x4 x8 hfin j) ?_) rfl
  refine (bnn_apply none _ _ j).trans (Finset.sum_congr rfl fun k _ => ?_)
  exact congrArg₂ (· * ·) (v395_apply c i arg5 harg5 arg6 harg6 arg8 harg8 arg9 harg9 arg10 harg10 x3 x4 x6 x7 x8 hfin _) (v220_apply c arg3 harg3 x1 _)

/-- A head's matrix cut out of the stack. -/
theorem piece_apply (n : Nat) (hn : n < 8) (hs : S8x128x128.Slices ![n, 0, 0] S1x128x128) (hq : S1x128x128.ShapeCasts S128x128)
    (r d : Fin 128) :
    shapeCast S128x128 (extractStridedSlice S1x128x128 ![n, 0, 0] (runB.sl.v554 (F := Ideal) c i arg3 harg3 arg5 harg5 arg6 harg6 arg8 harg8 arg9 harg9 arg10 harg10 x1 x3 x4 x6 x7 x8) hs) hq (ix2 r d)
      = dq x1 x3 x4 x6 x7 x8 ⟨n, hn⟩ r d := by
  rw [shapeCast_1ab_ab_apply, extractStridedSlice_apply _ _ _ _ (ix3 (⟨n, hn⟩ : Fin 8) r d) (fun a => match a with
    | ⟨0, _⟩ => rfl
    | ⟨1, _⟩ => (Nat.zero_add _).symm
    | ⟨2, _⟩ => (Nat.zero_add _).symm)]
  exact v554_apply c i arg3 harg3 arg5 harg5 arg6 harg6 arg8 harg8 arg9 harg9 arg10 harg10 x1 x3 x4 x6 x7 x8 hfin _

end

/-! ## What is stored -/

/-- The block as one matrix: a column belongs to a head and to a coordinate of that head. -/
def dqBlk (x1 : Vec Ideal S128x1024 .f32) (x3 : Vec Ideal S128x128 .f32) (x4 : Vec Ideal S8x1x128x128 .f32) (x6 x7 : Vec Ideal S128x1024 .f32)
    (x8 : Vec Ideal S128x1024 .bf16) (y : S128x1024.Idx) : EReal :=
  dq x1 x3 x4 x6 x7 x8 ⟨(y 1).val / 128, by have : (y 1).val < 1024 := (y 1).isLt; omega⟩ (y 0) ⟨(y 1).val % 128, Nat.mod_lt _ (by decide)⟩

/-- The eight pieces a grid point stores, head by head. -/
def pieces (c : Dev nD) (i : grid0.Coords) (arg3 : Memref sig .tc .vmem S128x1024 .f32) (harg3 : arg3.IsWhole) (arg5 : Memref sig .tc .vmem S128x128 .f32) (harg5 : arg5.IsWhole) (arg6 : Memref sig .tc .vmem S8x1x128x128 .f32) (harg6 : arg6.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole)
  (x1 : Vec Ideal S128x1024 .f32) (x3 : Vec Ideal S128x128 .f32) (x4 : Vec Ideal S8x1x128x128 .f32) (x6 x7 : Vec Ideal S128x1024 .f32) (x8 : Vec Ideal S128x1024 .bf16) :
    List (View.Piece (Elt Ideal) S128x1024 .f32) :=
  [
    ⟨Rect.unit ![0, 896] ![128, 128] (by decide), runB.sl.v794 c i arg3 harg3 arg5 harg5 arg6 harg6 arg8 harg8 arg9 harg9 arg10 harg10 x1 x3 x4 x6 x7 x8⟩,
    ⟨Rect.unit ![0, 768] ![128, 128] (by decide), runB.sl.v760 c i arg3 harg3 arg5 harg5 arg6 harg6 arg8 harg8 arg9 harg9 arg10 harg10 x1 x3 x4 x6 x7 x8⟩,
    ⟨Rect.unit ![0, 640] ![128, 128] (by decide), runB.sl.v726 c i arg3 harg3 arg5 harg5 arg6 harg6 arg8 harg8 arg9 harg9 arg10 harg10 x1 x3 x4 x6 x7 x8⟩,
    ⟨Rect.unit ![0, 512] ![128, 128] (by decide), runB.sl.v692 c i arg3 harg3 arg5 harg5 arg6 harg6 arg8 harg8 arg9 harg9 arg10 harg10 x1 x3 x4 x6 x7 x8⟩,
    ⟨Rect.unit ![0, 384] ![128, 128] (by decide), runB.sl.v658 c i arg3 harg3 arg5 harg5 arg6 harg6 arg8 harg8 arg9 harg9 arg10 harg10 x1 x3 x4 x6 x7 x8⟩,
    ⟨Rect.unit ![0, 256] ![128, 128] (by decide), runB.sl.v624 c i arg3 harg3 arg5 harg5 arg6 harg6 arg8 harg8 arg9 harg9 arg10 harg10 x1 x3 x4 x6 x7 x8⟩,
    ⟨Rect.unit ![0, 128] ![128, 128] (by decide), runB.sl.v590 c i arg3 harg3 arg5 harg5 arg6 harg6 arg8 harg8 arg9 harg9 arg10 harg10 x1 x3 x4 x6 x7 x8⟩,
    ⟨Rect.unit ![0, 0] ![128, 128] (by decide), runB.sl.v556 c i arg3 harg3 arg5 harg5 arg6 harg6 arg8 harg8 arg9 harg9 arg10 harg10 x1 x3 x4 x6 x7 x8⟩]

theorem pieces_dq (c : Dev nD) (i : grid0.Coords) (arg3 : Memref sig .tc .vmem S128x1024 .f32) (harg3 : arg3.IsWhole) (arg5 : Memref sig .tc .vmem S128x128 .f32) (harg5 : arg5.IsWhole) (arg6 : Memref sig .tc .vmem S8x1x128x128 .f32) (harg6 : arg6.IsWhole) (arg8 : Memref sig .tc .vmem S128x1024 .f32) (harg8 : arg8.IsWhole) (arg9 : Memref sig .tc .vmem S128x1024 .f32) (harg9 : arg9.IsWhole) (arg10 : Memref sig .tc .vmem S128x1024 .bf16) (harg10 : arg10.IsWhole)
  (x1 : Vec Ideal S128x1024 .f32) (x3 : Vec Ideal S128x128 .f32) (x4 : Vec Ideal S8x1x128x128 .f32) (x6 x7 : Vec Ideal S128x1024 .f32) (x8 : Vec Ideal S128x1024 .bf16)
    (hfin : ∀ h r, ∃ q : ℝ, gate x3 h r = q) :
    ∀ p ∈ pieces c i arg3 harg3 arg5 harg5 arg6 harg6 arg8 harg8 arg9 harg9 arg10 harg10 x1 x3 x4 x6 x7 x8, ∀ x : p.1.shape.Idx, p.2 x = dqBlk x1 x3 x4 x6 x7 x8 (p.1.emb x) := by
  have key : ∀ (n : Nat) (hn : n < 8) (hs : S8x128x128.Slices ![n, 0, 0] S1x128x128) (hq : S1x128x128.ShapeCasts S128x128) (inb)
      (x : S128x128.Idx),
      shapeCast S128x128 (extractStridedSlice S1x128x128 ![n, 0, 0] (runB.sl.v554 (F := Ideal) c i arg3 harg3 arg5 harg5 arg6 harg6 arg8 harg8 arg9 harg9 arg10 harg10 x1 x3 x4 x6 x7 x8) hs) hq x
        = dqBlk x1 x3 x4 x6 x7 x8 ((Rect.unit (s := S128x1024) ![0, n * 128] ![128, 128] inb).emb x) := by
    intro n hn hs hq inb x
    have h0 : (x 0).val < 128 := (x 0).isLt
    have h1 : (x 1).val < 128 := (x 1).isLt
    have e0 : ((Rect.unit (s := S128x1024) ![0, n * 128] ![128, 128] inb).emb x 0).val = (x 0).val := (Nat.zero_add _).trans (Nat.one_mul _)
    have e1 : ((Rect.unit (s := S128x1024) ![0, n * 128] ![128, 128] inb).emb x 1).val = n * 128 + (x 1).val :=
      congrArg (n * 128 + ·) (Nat.one_mul _)
    have ex : x = ix2 (x 0) (x 1) := eq_ix2 x
    refine (congrArg _ ex).trans ((piece_apply c i arg3 harg3 arg5 harg5 arg6 harg6 arg8 harg8 arg9 harg9 arg10 harg10 x1 x3 x4 x6 x7 x8 hfin n hn hs hq (x 0) (x 1)).trans ?_)
    unfold dqBlk
    congr 1
    · exact Fin.ext (by show n = _ / 128; rw [e1]; omega)
    · exact Fin.ext e0.symm
    · exact Fin.ext (by show _ = _ % 128; rw [e1]; omega)
  intro p hp
  unfold pieces at hp
  simp only [List.mem_cons, List.not_mem_nil, or_false] at hp
  rcases hp with rfl | rfl | rfl | rfl | rfl | rfl | rfl | rfl
  · exact key 7 (by decide) (by decide) (by decide) (by decide)
  · exact key 6 (by decide) (by decide) (by decide) (by decide)
  · exact key 5 (by decide) (by decide) (by decide) (by decide)
  · exact key 4 (by decide) (by decide) (by decide) (by decide)
  · exact key 3 (by decide) (by decide) (by decide) (by decide)
  · exact key 2 (by decide) (by decide) (by decide) (by decide)
  · exact key 1 (by decide) (by decide) (by decide) (by decide)
  · exact key 0 (by decide) (by decide) (by decide) (by decide)

/-- The block left at a grid point. -/
theorem dqAt_eq (m : (ℓ : Loc nD τ sig) → Buf (Elt Ideal) ℓ) (c : Dev nD) (t : Fin cfg0.N)
    (hfin : ∀ h r, ∃ q : ℝ, gate (iblk m c 3 t) h r = q) :
    dqAt m c t = dqBlk (iblk m c 1 t) (iblk m c 3 t) (iblk m c 4 t) (iblk m c 6 t) (iblk m c 7 t) (iblk m c 8 t) := by
  funext y
  unfold dqAt
  by_cases h : t.val = 0
  · rw [dif_pos h]
    exact View.read_writes_apply_of_pieces _ _ _ _ (pieces_dq c (grid0.coords t) _ _ _ _ _ _ _ _ _ _ _ _ _ _ _ _ _ _ hfin) y (coverA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM (Memref.isWhole_whole _) ((cond1_iff t).mpr h) (cond2_all t) (cond3_none t) (iblk m c 0 t) (iblk m c 1 t) (iblk m c 2 t) (iblk m c 3 t) (iblk m c 4 t) (iblk m c 5 t) (iblk m c 6 t) (iblk m c 7 t) (iblk m c 8 t) y)
  · rw [dif_neg h]
    exact View.read_writes_apply_of_pieces _ _ _ _ (pieces_dq c (grid0.coords t) _ _ _ _ _ _ _ _ _ _ _ _ _ _ _ _ _ _ hfin) y (coverB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM (Memref.isWhole_whole _) (fun h' => h ((cond1_iff t).mp h')) (cond2_all t) (cond3_none t) (iblk m c 0 t) (iblk m c 1 t) (iblk m c 2 t) (iblk m c 3 t) (iblk m c 4 t) (iblk m c 5 t) (iblk m c 6 t) (iblk m c 7 t) (iblk m c 8 t) y)

end Cert.Proof.DeltaBlock

end
-- ==== Proof.DeltaVal.lean ====
/-
  The gradient of the gated delta rule by its queries: one block of 128 positions at each of the grid's points, eight heads in each.
-/
module

public import proofs.«01_k».proof.Defs
public import proofs.«01_k».proof.Proof.Common
public import proofs.«01_k».proof.Proof.Gen.Delta
public import proofs.«01_k».proof.Proof.Gen.DeltaRefIdeal.Read
public import proofs.«01_k».proof.Proof.Gen.Pre_finite_gates
public import proofs.«01_k».proof.Proof.DeltaFrame
public import proofs.«01_k».proof.Proof.DeltaBlock
public import proofs.«01_k».proof.Proof.DeltaWordsFrame
public import Idealize.ShloMosaic.Lib.Pipeline.ValueKit.Acc
public import Idealize.ShloMosaic.Lib.Pipeline.ValueKit.Geometry
public import Idealize.ShloMosaic.Lib.Quiescent

@[expose] public section

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.Proof.DeltaVal

open Cert.DeltaIdeal Cert.DeltaIdeal.Gen Cert.Common Cert.Proof.DeltaRun Cert.Proof.DeltaPay Cert.Proof.DeltaBlock

/-! ## Frames -/

theorem frame_ideal : Cert.quiescent_DeltaIdeal := fun m ρ _ => frame_any m ρ
theorem frame_ideal_pre : Cert.quiescent_DeltaIdeal_pre_finite_gates := fun m ρ _ => frame_any m ρ
theorem frame : Cert.quiescent_Delta := fun m ρ _ => Cert.Proof.DeltaWordsRun.frame_any m ρ
theorem frame_ref : Cert.quiescent_DeltaRefIdeal := fun m ρ _ =>
  (θ_run Cert.DeltaRefIdeal.defs _ _).mono (fun r h => ⟨fun c => (h c).2, sem_eq_zero_of_no_sems (by decide) r.2⟩)
    (Cert.DeltaRefIdeal.Value.run (F := Ideal) m ρ)
theorem frame_ref_pre : Cert.quiescent_DeltaRefIdeal_pre_finite_gates := fun m ρ _ =>
  (θ_run Cert.DeltaRefIdeal.defs _ _).mono (fun r h => ⟨fun c => (h c).2, sem_eq_zero_of_no_sems (by decide) r.2⟩)
    (Cert.DeltaRefIdeal.Value.run (F := Ideal) m ρ)

theorem preserves : Cert.preserves_Delta_DeltaIdeal := IdealRules.named_const.statement _ _ _ _ _ rfl

/-! ## The formula over the whole arrays -/

/-- The block of chunk `n`: rows `128 n` to `128 n + 127`. -/
def rows {α : Type} (X : S8192x1024.Idx → α) (n : Fin 64) : S128x1024.Idx → α := fun j =>
  X (ix2 (n0 := 8192) (n1 := 1024) ⟨n.val * 128 + (j 0).val, by have : (j 0).val < 128 := (j 0).isLt; omega⟩ (j 1))
def rowsG {α : Type} (X : S8192x128.Idx → α) (n : Fin 64) : S128x128.Idx → α := fun j =>
  X (ix2 (n0 := 8192) (n1 := 128) ⟨n.val * 128 + (j 0).val, by have : (j 0).val < 128 := (j 0).isLt; omega⟩ (j 1))
/-- The states saved at the start of chunk `n`. -/
def stAt (X : S8x64x128x128.Idx → EReal) (n : Fin 64) : S8x1x128x128.Idx → EReal := fun j =>
  X (ix4 (n0 := 8) (n1 := 64) (n2 := 128) (n3 := 128) (j 0) n (j 2) (j 3))

/-- The queries' gradient. -/
def G (X1 : S8192x1024.Idx → EReal) (X3 : S8192x128.Idx → EReal) (X4 : S8x64x128x128.Idx → EReal) (X6 X7 X8 : S8192x1024.Idx → EReal)
    (i : S8192x1024.Idx) : EReal :=
  let n : Fin 64 := ⟨(i 0).val / 128, by have : (i 0).val < 8192 := (i 0).isLt; omega⟩
  dqBlk (rows X1 n) (rowsG X3 n) (stAt X4 n) (rows X6 n) (rows X7 n) (rows X8 n)
    (ix2 (n0 := 128) (n1 := 1024) ⟨(i 0).val % 128, Nat.mod_lt _ (by decide)⟩ (i 1))

/-! ## The kernel's side -/

theorem idx_facts : ∀ t : Fin grid0.N,
    win0_1.index t = ![63 - t.val, 0] ∧ win0_3.index t = ![63 - t.val, 0] ∧ win0_6.index t = ![63 - t.val, 0] ∧ win0_7.index t = ![63 - t.val, 0] ∧ win0_8.index t = ![63 - t.val, 0] ∧ win0_9.index t = ![63 - t.val, 0] ∧ win0_4.index t = ![0, 63 - t.val, 0, 0] := by
  decide +kernel

/-- The chunk a grid point works on: the last one first. -/
def chunk (t : Fin cfg0.N) : Fin 64 := ⟨63 - t.val, by omega⟩

section
variable (m : (ℓ : Loc nD τ sig) → Buf (Elt Ideal) ℓ) (ρ : Dev nD → PrngReg)

theorem blk1 (c : Dev nD) (t : Fin cfg0.N) :
    (iblk m c 1 t : Vec Ideal S128x1024 .f32) = rows (m ((c : Thread nD τ).loc main_arg1)) (chunk t) := by
  funext j
  unfold iblk
  rw [View.read_apply]
  show V m c main_arg1 _ = _
  rw [V_main_arg1]
  unfold rows
  congr 1
  refine Shape.idx_ext₂ (n := ![8192, 1024]) ?_ ?_
  · show win0_1.index t 0 * 128 + 1 * (j 0).val = (63 - t.val) * 128 + (j 0).val
    rw [(idx_facts t).1, one_mul]; rfl
  · show win0_1.index t 1 * 1024 + 1 * (j 1).val = (j 1).val
    rw [(idx_facts t).1, one_mul]
    show 0 * 1024 + _ = _
    omega

theorem blk3 (c : Dev nD) (t : Fin cfg0.N) :
    (iblk m c 3 t : Vec Ideal S128x128 .f32) = rowsG (m ((c : Thread nD τ).loc main_arg3)) (chunk t) := by
  funext j
  unfold iblk
  rw [View.read_apply]
  show V m c main_arg3 _ = _
  rw [V_main_arg3]
  unfold rowsG
  congr 1
  refine Shape.idx_ext₂ (n := ![8192, 128]) ?_ ?_
  · show win0_3.index t 0 * 128 + 1 * (j 0).val = (63 - t.val) * 128 + (j 0).val
    rw [(idx_facts t).2.1, one_mul]; rfl
  · show win0_3.index t 1 * 128 + 1 * (j 1).val = (j 1).val
    rw [(idx_facts t).2.1, one_mul]
    show 0 * 128 + _ = _
    omega

theorem blk6 (c : Dev nD) (t : Fin cfg0.N) :
    (iblk m c 6 t : Vec Ideal S128x1024 .f32) = rows (m ((c : Thread nD τ).loc main_arg6)) (chunk t) := by
  funext j
  unfold iblk
  rw [View.read_apply]
  show V m c main_arg6 _ = _
  rw [V_main_arg6]
  unfold rows
  congr 1
  refine Shape.idx_ext₂ (n := ![8192, 1024]) ?_ ?_
  · show win0_6.index t 0 * 128 + 1 * (j 0).val = (63 - t.val) * 128 + (j 0).val
    rw [(idx_facts t).2.2.1, one_mul]; rfl
  · show win0_6.index t 1 * 1024 + 1 * (j 1).val = (j 1).val
    rw [(idx_facts t).2.2.1, one_mul]
    show 0 * 1024 + _ = _
    omega

theorem blk7 (c : Dev nD) (t : Fin cfg0.N) :
    (iblk m c 7 t : Vec Ideal S128x1024 .f32) = rows (m ((c : Thread nD τ).loc main_arg7)) (chunk t) := by
  funext j
  unfold iblk
  rw [View.read_apply]
  show V m c main_arg7 _ = _
  rw [V_main_arg7]
  unfold rows
  congr 1
  refine Shape.idx_ext₂ (n := ![8192, 1024]) ?_ ?_
  · show win0_7.index t 0 * 128 + 1 * (j 0).val = (63 - t.val) * 128 + (j 0).val
    rw [(idx_facts t).2.2.2.1, one_mul]; rfl
  · show win0_7.index t 1 * 1024 + 1 * (j 1).val = (j 1).val
    rw [(idx_facts t).2.2.2.1, one_mul]
    show 0 * 1024 + _ = _
    omega

theorem blk8 (c : Dev nD) (t : Fin cfg0.N) :
    (iblk m c 8 t : Vec Ideal S128x1024 .bf16) = rows (m ((c : Thread nD τ).loc main_arg8)) (chunk t) := by
  funext j
  unfold iblk
  rw [View.read_apply]
  show V m c main_arg8 _ = _
  rw [V_main_arg8]
  unfold rows
  congr 1
  refine Shape.idx_ext₂ (n := ![8192, 1024]) ?_ ?_
  · show win0_8.index t 0 * 128 + 1 * (j 0).val = (63 - t.val) * 128 + (j 0).val
    rw [(idx_facts t).2.2.2.2.1, one_mul]; rfl
  · show win0_8.index t 1 * 1024 + 1 * (j 1).val = (j 1).val
    rw [(idx_facts t).2.2.2.2.1, one_mul]
    show 0 * 1024 + _ = _
    omega

theorem blk4 (c : Dev nD) (t : Fin cfg0.N) :
    (iblk m c 4 t : Vec Ideal S8x1x128x128 .f32) = stAt (m ((c : Thread nD τ).loc main_arg4)) (chunk t) := by
  funext j
  unfold iblk
  rw [View.read_apply]
  show V m c main_arg4 _ = _
  rw [V_main_arg4]
  unfold stAt
  congr 1
  have hj : (j 1).val = 0 := by have : (j 1).val < 1 := (j 1).isLt; omega
  refine funext fun a => Fin.ext ?_
  match a with
  | ⟨0, _⟩ =>
    show win0_4.index t 0 * 8 + 1 * (j 0).val = (j 0).val
    rw [(idx_facts t).2.2.2.2.2.2, one_mul]; exact Nat.zero_add _
  | ⟨1, _⟩ =>
    show win0_4.index t 1 * 1 + 1 * (j 1).val = 63 - t.val
    rw [(idx_facts t).2.2.2.2.2.2, hj, mul_one]; rfl
  | ⟨2, _⟩ =>
    show win0_4.index t 2 * 128 + 1 * (j 2).val = (j 2).val
    rw [(idx_facts t).2.2.2.2.2.2, one_mul]; exact Nat.zero_add _
  | ⟨3, _⟩ =>
    show win0_4.index t 3 * 128 + 1 * (j 3).val = (j 3).val
    rw [(idx_facts t).2.2.2.2.2.2, one_mul]; exact Nat.zero_add _

/-- A finite array of gates gives finite gates in each block. -/
theorem gate_real (X3 : S8192x128.Idx → EReal) (hX : ∀ i, ∃ q : ℝ, X3 i = q) (n : Fin 64) (h : Fin 8) (r : Fin 128) :
    ∃ q : ℝ, gate (rowsG X3 n) h r = q := hX _

/-- The array of the queries' gradient after the run. -/
theorem final9 (c : Dev nD) (hX : ∀ i, ∃ q : ℝ, (show S8192x128.Idx → EReal from m ((c : Thread nD τ).loc main_arg3)) i = q) :
    (dats m 0 c).arrAt 9 cfg0.N = G (m ((c : Thread nD τ).loc main_arg1)) (m ((c : Thread nD τ).loc main_arg3)) (m ((c : Thread nD τ).loc main_arg4))
      (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after_9, dqAt_eq m c t (by rw [blk3]; exact gate_real _ hX _), blk1, blk3, blk4, blk6, blk7, blk8]
  have h0 : ((win0_9.blk t).view.emb y 0).val = (63 - t.val) * 128 + (y 0).val := by
    have h : ((win0_9.blk t).view.emb y 0).val = win0_9.index t 0 * 128 + 1 * (y 0).val := rfl
    rw [h, (idx_facts t).2.2.2.2.2.1, one_mul]; rfl
  have h1 : ((win0_9.blk t).view.emb y 1).val = (y 1).val := by
    have h : ((win0_9.blk t).view.emb y 1).val = win0_9.index t 1 * 1024 + 1 * (y 1).val := rfl
    rw [h, (idx_facts t).2.2.2.2.2.1, one_mul]; exact Nat.zero_add _
  have y0 : (y 0).val < 128 := (y 0).isLt
  have hn : (⟨((win0_9.blk t).view.emb y 0).val / 128, by have : ((win0_9.blk t).view.emb y 0).val < 8192 := ((win0_9.blk t).view.emb y 0).isLt; omega⟩ : Fin 64) = chunk t :=
    Fin.ext (by show _ / 128 = 63 - t.val; rw [h0]; omega)
  have hy : (ix2 (n0 := 128) (n1 := 1024) ⟨((win0_9.blk t).view.emb y 0).val % 128, Nat.mod_lt _ (by decide)⟩ ((win0_9.blk t).view.emb y 1)) = y :=
    Shape.idx_ext₂ (n := ![128, 1024]) (by show _ % 128 = _; rw [h0]; omega) h1
  show _ = G _ _ _ _ _ _ ((win0_9.blk t).view.emb y)
  unfold G
  dsimp only
  rw [hn, hy]

end

/-! ## The reference's side -/

theorem bot_f32 : Ideal.ofBits .f32 0xFF800000#32 = ⊥ := by
  simp [Ideal.ofBits, Ideal.ieee]

theorem at4 {n0 n1 n2 n3 : Nat} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d :=
  funext fun e => Fin.ext (match e with | ⟨0, _⟩ => h0 | ⟨1, _⟩ => h1 | ⟨2, _⟩ => h2 | ⟨3, _⟩ => h3)

theorem at3 {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun e => Fin.ext (match e with | ⟨0, _⟩ => h0 | ⟨1, _⟩ => h1 | ⟨2, _⟩ => h2)

/-- A sum taken from the left over a list is the sum of the list. -/
theorem foldl_add {ι : Type} (f : ι → EReal) (l : List ι) (a : EReal) : l.foldl (fun r k => r + f k) a = a + (l.map f).sum := by
  induction l generalizing a with
  | nil => simp
  | cons x l ih => rw [List.foldl_cons, ih, List.map_cons, List.sum_cons, add_assoc]

/-- The positions of a window that covers one chunk. -/
def windowEquiv : Fin 128 ≃ (⟨3, ![1, 1, 128]⟩ : Shape).Idx where
  toFun k := ix3 (0 : Fin 1) (0 : Fin 1) k
  invFun p := p 2
  left_inv _ := rfl
  right_inv p := (at3 p 0 0 (p 2) (by have : (p 0).val < 1 := (p 0).isLt; show (p 0).val = 0; omega)
    (by have : (p 1).val < 1 := (p 1).isLt; show (p 1).val = 0; omega) rfl).symm

/-- A window that ends at position `r` sees the entries up to `r`. -/
theorem window_sum (g : Fin 128 → EReal) (r : Fin 128) :
    (∑ k : Fin 128, if h : 127 ≤ r.val + k.val then g ⟨r.val + k.val - 127, by omega⟩ else 0) = ∑ l : Fin 128, if l.val ≤ r.val then g l else 0 := by
  refine Eq.trans (Finset.sum_congr rfl fun k _ => ?_)
    (Equiv.sum_comp (Equiv.addRight (⟨(r.val + 1) % 128, Nat.mod_lt _ (by decide)⟩ : Fin 128)) fun l => if l.val ≤ r.val then g l else 0)
  have e : (Equiv.addRight (⟨(r.val + 1) % 128, Nat.mod_lt _ (by decide)⟩ : Fin 128) k).val = (k.val + (r.val + 1) % 128) % 128 := rfl
  have := r.isLt
  have := k.isLt
  by_cases h : 127 ≤ r.val + k.val
  · rw [dif_pos h, if_pos (by rw [e]; omega)]
    exact congrArg g (Fin.ext (by rw [e]; show r.val + k.val - 127 = _; omega))
  · rw [dif_neg h, if_neg (by rw [e]; omega)]

section Ref
open Cert.DeltaRefIdeal.Read

variable (x0 x1 : S8192x1024.Idx → EReal) (x3 : S8192x128.Idx → EReal) (x4 : S8x64x128x128.Idx → EReal) (x6 x7 x8 : S8192x1024.Idx → EReal)

theorem r18 (h : Fin 8) (n : Fin 64) (r d : Fin 128) : val_main_v18 (F := Ideal) x6 (ix4 h n r d) = rows x6 n (ix2 r (hc h d)) := by
  rw [val_main_v18_apply, val_main_v17_apply]
  refine congrArg x6 (Shape.idx_ext₂ (n := ![8192, 1024]) ?_ ?_)
  · show (((n.val * 128 + r.val) * 8 + h.val) * 128 + d.val) / 1024 = n.val * 128 + r.val; omega
  · show (((n.val * 128 + r.val) * 8 + h.val) * 128 + d.val) % 1024 = h.val * 128 + d.val; omega

theorem r20 (h : Fin 8) (n : Fin 64) (r d : Fin 128) : val_main_v20 (F := Ideal) x7 (ix4 h n r d) = rows x7 n (ix2 r (hc h d)) := r18 x7 h n r d
theorem r28 (h : Fin 8) (n : Fin 64) (r d : Fin 128) : val_main_v28 (F := Ideal) x1 (ix4 h n r d) = rows x1 n (ix2 r (hc h d)) := r18 x1 h n r d
theorem r42 (h : Fin 8) (n : Fin 64) (r d : Fin 128) : val_main_v42 (F := Ideal) x8 (ix4 h n r d) = rows x8 n (ix2 r (hc h d)) := r18 x8 h n r d

theorem r2 (h : Fin 8) (n : Fin 64) (r : Fin 128) : val_main_v2 (F := Ideal) x3 (ix3 h n r) = gate (rowsG x3 n) h r := by
  rw [val_main_v2_apply, val_main_v1_apply, val_main_v0_apply]
  refine congrArg x3 (Shape.idx_ext₂ (n := ![8192, 128]) ?_ ?_)
  · show ((n.val * 128 + r.val) * 8 + h.val) / 8 = n.val * 128 + r.val; omega
  · show 8 + ((n.val * 128 + r.val) * 8 + h.val) % 8 = 8 + h.val; omega

/-- The running sum of the gates. -/
theorem r3 (h : Fin 8) (n : Fin 64) (r : Fin 128) : val_main_v3 (F := Ideal) x3 (ix3 h n r) = runSum (gate (rowsG x3 n)) h r := by
  have hz : ∀ i, val_main_call0_call0_v0 (F := Ideal) i = (0 : EReal) := fun i => by
    rw [val_main_call0_call0_v0_apply, val_main_call0_call0_cst_apply]; exact Ideal.ofBits_zero_f32
  unfold val_main_v3
  show Host.reduceWindow (α := EReal) (· + ·) ![1, 1, 128] ![1, 1, 1] ![0, 0, 127] ![0, 0, 0] (val_main_v2 (F := Ideal) x3)
    (val_main_call0_call0_v0 (F := Ideal)) Cert.DeltaRefIdeal.Gen.reduceWindows_S8x64x128_S8x64x128_w1s1p0_0_w1s1p0_0_w128s1p127_0
    Cert.DeltaRefIdeal.Gen.h_S_ (ix3 h n r) = _
  unfold Host.reduceWindow
  dsimp only
  rw [hz, foldl_add, zero_add, ← Fin.sum_univ_def]
  refine Eq.trans (Finset.sum_congr rfl fun i _ => dite_congr rfl (fun _ => rfl) (fun _ => rfl)) ((Equiv.sum_comp (⟨3, ![1, 1, 128]⟩ : Shape).rowMajor.symm (fun q : (⟨3, ![1, 1, 128]⟩ : Shape).Idx =>
      if hin : ∀ a : Fin 3, (![0, 0, 127] : Fin 3 → Nat) a ≤ (ix3 h n r a).val * (![1, 1, 1] : Fin 3 → Nat) a + (q a).val
          ∧ (ix3 h n r a).val * (![1, 1, 1] : Fin 3 → Nat) a + (q a).val - (![0, 0, 127] : Fin 3 → Nat) a < (![8, 64, 128] : Fin 3 → Nat) a
        then val_main_v2 (F := Ideal) x3 (fun a => ⟨_, (hin a).2⟩) else 0)).trans ?_)
  rw [← Equiv.sum_comp windowEquiv]
  unfold runSum
  rw [← window_sum]
  refine Finset.sum_congr rfl fun k _ => ?_
  have := r.isLt
  have := k.isLt
  by_cases hk : 127 ≤ r.val + k.val
  · rw [dif_pos hk, dif_pos (fun a => match a with
      | ⟨0, _⟩ => ⟨Nat.zero_le _, by show h.val * 1 + 0 - 0 < 8; omega⟩
      | ⟨1, _⟩ => ⟨Nat.zero_le _, by show n.val * 1 + 0 - 0 < 64; omega⟩
      | ⟨2, _⟩ => ⟨by show 127 ≤ r.val * 1 + k.val; omega, by show r.val * 1 + k.val - 127 < 128; omega⟩), ← r2]
    exact congrArg _ (at3 _ h n ⟨r.val + k.val - 127, by omega⟩ (by show h.val * 1 + 0 - 0 = h.val; omega)
      (by show n.val * 1 + 0 - 0 = n.val; omega) (by show r.val * 1 + k.val - 127 = r.val + k.val - 127; omega))
  · rw [dif_neg hk, dif_neg (fun hin => hk (by have h2 : 127 ≤ r.val * 1 + k.val := (hin 2).1; omega))]

theorem r32 (h : Fin 8) (n : Fin 64) (r : Fin 128) (u : Fin 1) :
    val_main_v32 (F := Ideal) x3 (ix4 h n r u) = Ideal.exp (runSum (gate (rowsG x3 n)) h r) := by
  rw [val_main_v32_apply, val_main_v31_apply]
  exact congrArg Ideal.exp ((congrArg _ (at3 _ h n r rfl rfl rfl)).trans (r3 x3 h n r))

theorem r16 (h : Fin 8) (n : Fin 64) (r s : Fin 128) :
    val_main_v16 (F := Ideal) x3 (ix4 h n r s) = decay (gate (rowsG x3 n)) h r s := by
  rw [val_main_v16_apply, val_main_v15_apply]
  refine congrArg Ideal.exp ?_
  have e : val_main_call1_v1 (F := Ideal) (ix4 h n r s) = BitVec.ofBool (decide (s.val ≤ r.val)) := by
    have := r.isLt
    have := s.isLt
    rw [val_main_call1_v1_apply, val_main_v9_apply, val_main_v7_apply, val_main_v8_apply, val_main_v5_apply, val_main_v6_apply,
      val_main_v4_apply, val_main_v4_apply]
    exact WordCmp.cmpi_sge_ofNat (by show r.val < _; omega) (by show s.val < _; omega)
  have eb : val_main_call1_v2 (F := Ideal) (ix4 h n r s) = (⊥ : EReal) := by
    rw [val_main_call1_v2_apply, val_main_call1_v0_apply, val_main_cst_apply]
    exact bot_f32
  rw [e, eb, val_main_v14_apply, val_main_v12_apply, val_main_v13_apply, val_main_v10_apply, val_main_v11_apply,
    at3 (idx_main_v10 (idx_main_v12 (ix4 h n r s))) h n r rfl rfl rfl, at3 (idx_main_v11 (idx_main_v13 (ix4 h n r s))) h n s rfl rfl rfl, r3, r3]
  by_cases hk : s.val ≤ r.val
  · rw [decide_eq_true hk, if_pos hk]; rfl
  · rw [decide_eq_false hk, if_neg hk]; rfl

theorem r22 (h : Fin 8) (n : Fin 64) (r d : Fin 128) :
    val_main_v22 (F := Ideal) x4 x6 x7 (ix4 h n r d) = vnew (stAt x4 n) (rows x6 n) (rows x7 n) h r d := by
  rw [val_main_v22_apply, r18, val_main_v21_apply]
  refine congrArg (rows x6 n (ix2 r (hc h d)) - ·) (Finset.sum_congr rfl fun k _ => congrArg₂ (· * ·) ?_ ?_)
  · exact (congrArg _ (at4 _ h n r k rfl rfl rfl rfl)).trans (r20 x7 h n r k)
  · exact congrArg x4 (at4 _ h n k d rfl rfl rfl rfl)

theorem r51 (h : Fin 8) (n : Fin 64) (r d : Fin 128) :
    val_main_v51 (F := Ideal) x1 x3 x4 x6 x7 x8 (ix4 h n r d)
      = dq (rows x1 n) (rowsG x3 n) (stAt x4 n) (rows x6 n) (rows x7 n) (rows x8 n) h r d := by
  rw [val_main_v51_apply, val_main_v50_apply, val_main_cst_1_apply, val_main_v49_apply, val_main_v46_apply, val_main_v44_apply,
    val_main_v45_apply, val_main_v48_apply]
  unfold dq
  refine congrArg₂ (· * ·) (congrArg₂ (· + ·) (congrArg₂ (· * ·) (Finset.sum_congr rfl fun k _ => congrArg₂ (· * ·) ?_ ?_) ?_)
    (Finset.sum_congr rfl fun s _ => congrArg₂ (· * ·) ?_ ?_)) rfl
  · exact (congrArg _ (at4 _ h n r k rfl rfl rfl rfl)).trans (r42 x8 h n r k)
  · exact congrArg x4 (at4 _ h n d k rfl rfl rfl rfl)
  · exact (congrArg _ (at4 _ h n r (0 : Fin 1) rfl rfl rfl rfl)).trans (r32 x3 h n r 0)
  · rw [at4 (lidx_main_v48 (ix4 h n r d) s) h n r s rfl rfl rfl rfl, val_main_v47_apply, val_main_v43_apply, r16]
    refine congrArg (· * decay (gate (rowsG x3 n)) h r s) (Finset.sum_congr rfl fun e _ => congrArg₂ (· * ·) ?_ ?_)
    · exact (congrArg _ (at4 _ h n r e rfl rfl rfl rfl)).trans (r42 x8 h n r e)
    · exact (congrArg _ (at4 _ h n s e rfl rfl rfl rfl)).trans (r22 x4 x6 x7 h n s e)
  · exact (congrArg _ (at4 _ h n s d rfl rfl rfl rfl)).trans (r28 x1 h n s d)

theorem ref_eq : val_main_v53 (F := Ideal) x1 x3 x4 x6 x7 x8 = G x1 x3 x4 x6 x7 x8 := by
  funext i
  have i0 : (i 0).val < 8192 := (i 0).isLt
  have i1 : (i 1).val < 1024 := (i 1).isLt
  rw [val_main_v53_apply, val_main_v52_apply]
  refine (congrArg _ (at4 _ (⟨(i 1).val / 128, by omega⟩ : Fin 8) (⟨(i 0).val / 128, by omega⟩ : Fin 64)
    (⟨(i 0).val % 128, Nat.mod_lt _ (by decide)⟩ : Fin 128) (⟨(i 1).val % 128, Nat.mod_lt _ (by decide)⟩ : Fin 128) ?_ ?_ ?_ ?_)).trans
    (r51 x1 x3 x4 x6 x7 x8 _ _ _ _)
  · show ((i 0).val * 1024 + (i 1).val) / 128 % 8 = (i 1).val / 128; omega
  · show ((i 0).val * 1024 + (i 1).val) / 131072 = (i 0).val / 128; omega
  · show ((i 0).val * 1024 + (i 1).val) / 1024 % 128 = (i 0).val % 128; omega
  · show ((i 0).val * 1024 + (i 1).val) % 128 = (i 1).val % 128; omega

end Ref

/-! ## The claim -/

theorem finite_of_pre (x0 x1 x2 : FVec Ideal S8192x1024 .f32) (x3 : FVec Ideal S8192x128 .f32) (x4 x5 : FVec Ideal S8x64x128x128 .f32)
    (x6 x7 : FVec Ideal S8192x1024 .f32) (x8 : FVec Ideal S8192x1024 .bf16)
    (h : Cert.Pre_finite_gates.fn (F := Ideal) x0 x1 x2 x3 x4 x5 x6 x7 x8 = fun _ => 1#1) (i : S8192x128.Idx) : ∃ q : ℝ, x3 i = q := by
  have h' : Ideal.cmp .olt (max (x3 i) (-(x3 i))) (Ideal.ofBits .f32 0x7F800000#32) = 1#1 := congrFun h i
  rw [top_f32] at h'
  refine exists_real_of_abs_lt_top ?_
  by_contra hn
  have : Ideal.cmp .olt (max (x3 i) (-(x3 i))) ⊤ = 0#1 := by simp [Ideal.cmp, hn]
  rw [this] at h'
  exact absurd h' (by decide)

theorem algebraic : Cert.algebraic_DeltaIdeal_DeltaRefIdeal_pre_finite_gates := by
  intro m ρ m' ρ' hpre hagree
  have hX := fun c => finite_of_pre _ _ _ _ _ _ _ _ _ (hpre c)
  refine ⟨fun c => G (m ((c : Thread nD τ).loc main_arg1)) (m ((c : Thread nD τ).loc main_arg3)) (m ((c : Thread nD τ).loc main_arg4))
      (m ((c : Thread nD τ).loc main_arg6)) (m ((c : Thread nD τ).loc main_arg7)) (m ((c : Thread nD τ).loc main_arg8)), ?_, ?_⟩
  · exact (θ_run Cert.DeltaIdeal.defs _ _).mono (fun r h c =>
      ⟨((((dats m 0 c).toRForget_arrAt_iff (w := 9) rfl cfg0.N _).mp ((h.1 c).1 9))).trans (final9 m c (hX c)),
       (arr_in m r h.1 c 0 (by decide)).trans (V_main_arg0 m c), (arr_in m r h.1 c 1 (by decide)).trans (V_main_arg1 m c),
       (arr_in m r h.1 c 2 (by decide)).trans (V_main_arg2 m c), (arr_in m r h.1 c 3 (by decide)).trans (V_main_arg3 m c),
       (arr_in m r h.1 c 4 (by decide)).trans (V_main_arg4 m c), (arr_in m r h.1 c 5 (by decide)).trans (V_main_arg5 m c),
       (arr_in m r h.1 c 6 (by decide)).trans (V_main_arg6 m c), (arr_in m r h.1 c 7 (by decide)).trans (V_main_arg7 m c),
       (arr_in m r h.1 c 8 (by decide)).trans (V_main_arg8 m c)⟩) (run_main m ρ)
  refine (θ_run Cert.DeltaRefIdeal.defs _ _).mono (fun _ h c => ⟨(h c).1.trans ?_, (h c).2⟩)
    (Cert.DeltaRefIdeal.Value.run (F := Ideal) m' ρ')
  rw [(hagree c).2.1, (hagree c).2.2.2.1, (hagree c).2.2.2.2.1, (hagree c).2.2.2.2.2.2.1, (hagree c).2.2.2.2.2.2.2.1, (hagree c).2.2.2.2.2.2.2.2]
  exact ref_eq _ _ _ _ _ _

end Cert.Proof.DeltaVal

end
-- ==== Proof.lean ====
/-
  The theorem asked for: every claim about every program, each proved in the module of its call.
-/
module

public import proofs.«01_k».proof.Defs
public import proofs.«01_k».proof.Proof.Gen.Pre_finite_ffn
public import proofs.«01_k».proof.Proof.Gen.Pre_finite_ln
public import proofs.«01_k».proof.Proof.Gen.Pre_finite_loss
public import proofs.«01_k».proof.Proof.Gen.Pre_finite_gates
public import proofs.«01_k».proof.Proof.Gen.On_gate_columns
public import proofs.«01_k».proof.Proof.SwigluVal
public import proofs.«01_k».proof.Proof.MergeVal
public import proofs.«01_k».proof.Proof.WInVal
public import proofs.«01_k».proof.Proof.WGateVal
public import proofs.«01_k».proof.Proof.WDownVal
public import proofs.«01_k».proof.Proof.WMergeVal
public import proofs.«01_k».proof.Proof.WOutVal
public import proofs.«01_k».proof.Proof.XInVal
public import proofs.«01_k».proof.Proof.XFfnVal
public import proofs.«01_k».proof.Proof.LnBwdVal
public import proofs.«01_k».proof.Proof.LossLnVal
public import proofs.«01_k».proof.Proof.ConvBwdVal
public import proofs.«01_k».proof.Proof.QkvPrepVal
public import proofs.«01_k».proof.Proof.InQkvVal
public import proofs.«01_k».proof.Proof.InRestVal
public import proofs.«01_k».proof.Proof.HiddenVal
public import proofs.«01_k».proof.Proof.OutLnVal
public import proofs.«01_k».proof.Proof.DownLnVal
public import proofs.«01_k».proof.Proof.AdamInVal
public import proofs.«01_k».proof.Proof.AdamFfnVal
public import proofs.«01_k».proof.Proof.AdamSqVal
public import proofs.«01_k».proof.Proof.AdamConvVal
public import proofs.«01_k».proof.Proof.AdamSmallVal
public import proofs.«01_k».proof.Proof.DeltaVal

@[expose] public section

noncomputable section

namespace Cert.Proof

theorem claim : Cert.Claim := ⟨Cert.Swiglu.Gen.facts, Cert.SwigluIdeal.Gen.facts, Cert.SwigluRefIdeal.Gen.facts, Cert.Merge.Gen.facts,
  Cert.MergeIdeal.Gen.facts, Cert.MergeRefIdeal.Gen.facts, Cert.WIn.Gen.facts, Cert.WInIdeal.Gen.facts,
  Cert.WInRefIdeal.Gen.facts, Cert.WGate.Gen.facts, Cert.WGateIdeal.Gen.facts, Cert.WGateRefIdeal.Gen.facts,
  Cert.WDown.Gen.facts, Cert.WDownIdeal.Gen.facts, Cert.WDownRefIdeal.Gen.facts, Cert.WMerge.Gen.facts,
  Cert.WMergeIdeal.Gen.facts, Cert.WMergeRefIdeal.Gen.facts, Cert.WOut.Gen.facts, Cert.WOutIdeal.Gen.facts,
  Cert.WOutRefIdeal.Gen.facts, Cert.XIn.Gen.facts, Cert.XInIdeal.Gen.facts, Cert.XInRefIdeal.Gen.facts, Cert.XFfn.Gen.facts,
  Cert.XFfnIdeal.Gen.facts, Cert.XFfnRefIdeal.Gen.facts, Cert.LnBwd.Gen.facts, Cert.LnBwdIdeal.Gen.facts,
  Cert.LnBwdRefIdeal.Gen.facts, Cert.LossLn.Gen.facts, Cert.LossLnIdeal.Gen.facts, Cert.LossLnRefIdeal.Gen.facts,
  Cert.ConvBwd.Gen.facts, Cert.ConvBwdIdeal.Gen.facts, Cert.ConvBwdRefIdeal.Gen.facts, Cert.QkvPrep.Gen.facts,
  Cert.QkvPrepIdeal.Gen.facts, Cert.QkvPrepRefIdeal.Gen.facts, Cert.InQkv.Gen.facts, Cert.InQkvIdeal.Gen.facts,
  Cert.InQkvRefIdeal.Gen.facts, Cert.InRest.Gen.facts, Cert.InRestIdeal.Gen.facts, Cert.InRestRefIdeal.Gen.facts,
  Cert.Hidden.Gen.facts, Cert.HiddenIdeal.Gen.facts, Cert.HiddenRefIdeal.Gen.facts, Cert.OutLn.Gen.facts,
  Cert.OutLnIdeal.Gen.facts, Cert.OutLnRefIdeal.Gen.facts, Cert.DownLn.Gen.facts, Cert.DownLnIdeal.Gen.facts,
  Cert.DownLnRefIdeal.Gen.facts, Cert.AdamIn.Gen.facts, Cert.AdamInIdeal.Gen.facts, Cert.AdamInRefIdeal.Gen.facts,
  Cert.AdamFfn.Gen.facts, Cert.AdamFfnIdeal.Gen.facts, Cert.AdamFfnRefIdeal.Gen.facts, Cert.AdamSq.Gen.facts,
  Cert.AdamSqIdeal.Gen.facts, Cert.AdamSqRefIdeal.Gen.facts, Cert.AdamConv.Gen.facts, Cert.AdamConvIdeal.Gen.facts,
  Cert.AdamConvRefIdeal.Gen.facts, Cert.AdamSmall.Gen.facts, Cert.AdamSmallIdeal.Gen.facts, Cert.AdamSmallRefIdeal.Gen.facts,
  Cert.Delta.Gen.facts, Cert.DeltaIdeal.Gen.facts, Cert.DeltaRefIdeal.Gen.facts, Cert.Pre_finite_ffn.Gen.facts,
  Cert.Pre_finite_ln.Gen.facts, Cert.Pre_finite_loss.Gen.facts, Cert.Pre_finite_gates.Gen.facts,
  Cert.On_gate_columns.Gen.facts, by
  exact ⟨SwigluVal.frame, SwigluVal.frame_ideal, SwigluVal.frame_ideal_pre, SwigluVal.frame_ref, SwigluVal.frame_ref_pre,
    MergeVal.frame, MergeVal.frame_ideal, MergeVal.frame_ref, WInVal.frame, WInVal.frame_ideal, WInVal.frame_ref,
    WGateVal.frame, WGateVal.frame_ideal, WGateVal.frame_ref, WDownVal.frame, WDownVal.frame_ideal, WDownVal.frame_ref,
    WMergeVal.frame, WMergeVal.frame_ideal, WMergeVal.frame_ref, WOutVal.frame, WOutVal.frame_ideal, WOutVal.frame_ref,
    XInVal.frame, XInVal.frame_ideal, XInVal.frame_ref, XFfnVal.frame, XFfnVal.frame_ideal, XFfnVal.frame_ref, LnBwdVal.frame,
    LnBwdVal.frame_ideal, LnBwdVal.frame_ideal_pre, LnBwdVal.frame_ref, LnBwdVal.frame_ref_pre, LossLnVal.frame,
    LossLnVal.frame_ideal, LossLnVal.frame_ideal_pre, LossLnVal.frame_ref, LossLnVal.frame_ref_pre, ConvBwdVal.frame,
    ConvBwdVal.frame_ideal, ConvBwdVal.frame_ref, QkvPrepVal.frame, QkvPrepVal.frame_ideal, QkvPrepVal.frame_ref,
    InQkvVal.frame, InQkvVal.frame_ideal, InQkvVal.frame_ref, InRestVal.frame, InRestVal.frame_ideal, InRestVal.frame_ref,
    HiddenVal.frame, HiddenVal.frame_ideal, HiddenVal.frame_ref, OutLnVal.frame, OutLnVal.frame_ideal, OutLnVal.frame_ref,
    DownLnVal.frame, DownLnVal.frame_ideal, DownLnVal.frame_ref, AdamInVal.frame, AdamInVal.frame_ideal, AdamInVal.frame_ref,
    AdamFfnVal.frame, AdamFfnVal.frame_ideal, AdamFfnVal.frame_ref, AdamSqVal.frame, AdamSqVal.frame_ideal, AdamSqVal.frame_ref,
    AdamConvVal.frame, AdamConvVal.frame_ideal, AdamConvVal.frame_ref, AdamSmallVal.frame, AdamSmallVal.frame_ideal,
    AdamSmallVal.frame_ref, DeltaVal.frame, DeltaVal.frame_ideal, DeltaVal.frame_ideal_pre, DeltaVal.frame_ref,
    DeltaVal.frame_ref_pre, SwigluVal.preserves, SwigluVal.algebraic, MergeVal.preserves, MergeVal.algebraic, WInVal.preserves,
    WInVal.algebraic, WGateVal.preserves, WGateVal.algebraic, WDownVal.preserves, WDownVal.algebraic, WMergeVal.preserves,
    WMergeVal.algebraic, WOutVal.preserves, WOutVal.algebraic, XInVal.preserves, XInVal.algebraic, XFfnVal.preserves,
    XFfnVal.algebraic, LnBwdVal.preserves, LnBwdVal.algebraic, LossLnVal.preserves, LossLnVal.algebraic, ConvBwdVal.preserves,
    ConvBwdVal.algebraic, QkvPrepVal.preserves, QkvPrepVal.algebraic, InQkvVal.preserves, InQkvVal.algebraic,
    InRestVal.preserves, InRestVal.algebraic, HiddenVal.preserves, HiddenVal.algebraic, OutLnVal.preserves, OutLnVal.algebraic,
    DownLnVal.preserves, DownLnVal.algebraic, AdamInVal.preserves, AdamInVal.algebraic, AdamFfnVal.preserves,
    AdamFfnVal.algebraic, AdamSqVal.preserves, AdamSqVal.algebraic, AdamConvVal.preserves, AdamConvVal.algebraic,
    AdamSmallVal.preserves, AdamSmallVal.algebraic, DeltaVal.preserves, DeltaVal.algebraic⟩⟩

end Cert.Proof

end
